-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_BranchG (m : (ℓ : Loc Cert.BranchG.nD Cert.BranchG.τ Cert.BranchG.sig) → Buf (Elt Bits) ℓ) : Prop :=
  True

def Pre_BranchGIdeal (m : (ℓ : Loc Cert.BranchGIdeal.nD Cert.BranchGIdeal.τ Cert.BranchGIdeal.sig) → Buf (Elt Ideal) ℓ) : Prop :=
  True

def Pre_BranchGRefIdeal (m : (ℓ : Loc Cert.BranchGRefIdeal.nD Cert.BranchGRefIdeal.τ Cert.BranchGRefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_FfnOutG (m : (ℓ : Loc Cert.FfnOutG.nD Cert.FfnOutG.τ Cert.FfnOutG.sig) → Buf (Elt Bits) ℓ) : Prop :=
  True

def Pre_FfnOutGIdeal (m : (ℓ : Loc Cert.FfnOutGIdeal.nD Cert.FfnOutGIdeal.τ Cert.FfnOutGIdeal.sig) → Buf (Elt Ideal) ℓ) : Prop :=
  True

def Pre_FfnOutGRefIdeal (m : (ℓ : Loc Cert.FfnOutGRefIdeal.nD Cert.FfnOutGRefIdeal.τ Cert.FfnOutGRefIdeal.sig) → Buf (Elt Ideal) ℓ) : Prop :=
  True

def Pre_FfnOutB (m : (ℓ : Loc Cert.FfnOutB.nD Cert.FfnOutB.τ Cert.FfnOutB.sig) → Buf (Elt Bits) ℓ) : Prop :=
  True

def Pre_FfnOutBIdeal (m : (ℓ : Loc Cert.FfnOutBIdeal.nD Cert.FfnOutBIdeal.τ Cert.FfnOutBIdeal.sig) → Buf (Elt Ideal) ℓ) : Prop :=
  True

def Pre_FfnOutBRefIdeal (m : (ℓ : Loc Cert.FfnOutBRefIdeal.nD Cert.FfnOutBRefIdeal.τ Cert.FfnOutBRefIdeal.sig) → Buf (Elt Ideal) ℓ) : Prop :=
  True

def Pre_FfnInG (m : (ℓ : Loc Cert.FfnInG.nD Cert.FfnInG.τ Cert.FfnInG.sig) → Buf (Elt Bits) ℓ) : Prop :=
  True

def Pre_FfnInGIdeal (m : (ℓ : Loc Cert.FfnInGIdeal.nD Cert.FfnInGIdeal.τ Cert.FfnInGIdeal.sig) → Buf (Elt Ideal) ℓ) : Prop :=
  True

def Pre_FfnInGRefIdeal (m : (ℓ : Loc Cert.FfnInGRefIdeal.nD Cert.FfnInGRefIdeal.τ Cert.FfnInGRefIdeal.sig) → Buf (Elt Ideal) ℓ) : Prop :=
  True

def Pre_FfnInB (m : (ℓ : Loc Cert.FfnInB.nD Cert.FfnInB.τ Cert.FfnInB.sig) → Buf (Elt Bits) ℓ) : Prop :=
  True

def Pre_FfnInBIdeal (m : (ℓ : Loc Cert.FfnInBIdeal.nD Cert.FfnInBIdeal.τ Cert.FfnInBIdeal.sig) → Buf (Elt Ideal) ℓ) : Prop :=
  True

def Pre_FfnInBRefIdeal (m : (ℓ : Loc Cert.FfnInBRefIdeal.nD Cert.FfnInBRefIdeal.τ Cert.FfnInBRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmBranch (m : (ℓ : Loc Cert.MmBranch.nD Cert.MmBranch.τ Cert.MmBranch.sig) → Buf (Elt Bits) ℓ) : Prop :=
  True

def Pre_MmBranchIdeal (m : (ℓ : Loc Cert.MmBranchIdeal.nD Cert.MmBranchIdeal.τ Cert.MmBranchIdeal.sig) → Buf (Elt Ideal) ℓ) : Prop :=
  True

def Pre_MmBranchRefIdeal (m : (ℓ : Loc Cert.MmBranchRefIdeal.nD Cert.MmBranchRefIdeal.τ Cert.MmBranchRefIdeal.sig) → Buf (Elt Ideal) ℓ) : Prop :=
  True

def Pre_MmFfnIn (m : (ℓ : Loc Cert.MmFfnIn.nD Cert.MmFfnIn.τ Cert.MmFfnIn.sig) → Buf (Elt Bits) ℓ) : Prop :=
  True

def Pre_MmFfnInIdeal (m : (ℓ : Loc Cert.MmFfnInIdeal.nD Cert.MmFfnInIdeal.τ Cert.MmFfnInIdeal.sig) → Buf (Elt Ideal) ℓ) : Prop :=
  True

def Pre_MmFfnInRefIdeal (m : (ℓ : Loc Cert.MmFfnInRefIdeal.nD Cert.MmFfnInRefIdeal.τ Cert.MmFfnInRefIdeal.sig) → Buf (Elt Ideal) ℓ) : Prop :=
  True

def Pre_MmFfnOut (m : (ℓ : Loc Cert.MmFfnOut.nD Cert.MmFfnOut.τ Cert.MmFfnOut.sig) → Buf (Elt Bits) ℓ) : Prop :=
  True

def Pre_MmFfnOutIdeal (m : (ℓ : Loc Cert.MmFfnOutIdeal.nD Cert.MmFfnOutIdeal.τ Cert.MmFfnOutIdeal.sig) → Buf (Elt Ideal) ℓ) : Prop :=
  True

def Pre_MmFfnOutRefIdeal (m : (ℓ : Loc Cert.MmFfnOutRefIdeal.nD Cert.MmFfnOutRefIdeal.τ Cert.MmFfnOutRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PoolMixB (m : (ℓ : Loc Cert.PoolMixB.nD Cert.PoolMixB.τ Cert.PoolMixB.sig) → Buf (Elt Bits) ℓ) : Prop :=
  True

def Pre_PoolMixBIdeal (m : (ℓ : Loc Cert.PoolMixBIdeal.nD Cert.PoolMixBIdeal.τ Cert.PoolMixBIdeal.sig) → Buf (Elt Ideal) ℓ) : Prop :=
  True

def Pre_PoolMixBRefIdeal (m : (ℓ : Loc Cert.PoolMixBRefIdeal.nD Cert.PoolMixBRefIdeal.τ Cert.PoolMixBRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_SwigluF (m : (ℓ : Loc Cert.SwigluF.nD Cert.SwigluF.τ Cert.SwigluF.sig) → Buf (Elt Bits) ℓ) : Prop :=
  True

def Pre_SwigluFIdeal (m : (ℓ : Loc Cert.SwigluFIdeal.nD Cert.SwigluFIdeal.τ Cert.SwigluFIdeal.sig) → Buf (Elt Ideal) ℓ) : Prop :=
  True

def Pre_SwigluFRefIdeal (m : (ℓ : Loc Cert.SwigluFRefIdeal.nD Cert.SwigluFRefIdeal.τ Cert.SwigluFRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_NormGateB (m : (ℓ : Loc Cert.NormGateB.nD Cert.NormGateB.τ Cert.NormGateB.sig) → Buf (Elt Bits) ℓ) : Prop :=
  True

def Pre_NormGateBIdeal (m : (ℓ : Loc Cert.NormGateBIdeal.nD Cert.NormGateBIdeal.τ Cert.NormGateBIdeal.sig) → Buf (Elt Ideal) ℓ) : Prop :=
  True

def Pre_NormGateBRefIdeal (m : (ℓ : Loc Cert.NormGateBRefIdeal.nD Cert.NormGateBRefIdeal.τ Cert.NormGateBRefIdeal.sig) → Buf (Elt Ideal) ℓ) : Prop :=
  True

def Pre_ConvActB (m : (ℓ : Loc Cert.ConvActB.nD Cert.ConvActB.τ Cert.ConvActB.sig) → Buf (Elt Bits) ℓ) : Prop :=
  True

def Pre_ConvActBIdeal (m : (ℓ : Loc Cert.ConvActBIdeal.nD Cert.ConvActBIdeal.τ Cert.ConvActBIdeal.sig) → Buf (Elt Ideal) ℓ) : Prop :=
  True

def Pre_ConvActBRefIdeal (m : (ℓ : Loc Cert.ConvActBRefIdeal.nD Cert.ConvActBRefIdeal.τ Cert.ConvActBRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_ConvAct (m : (ℓ : Loc Cert.ConvAct.nD Cert.ConvAct.τ Cert.ConvAct.sig) → Buf (Elt Bits) ℓ) : Prop :=
  True

def Pre_ConvActIdeal (m : (ℓ : Loc Cert.ConvActIdeal.nD Cert.ConvActIdeal.τ Cert.ConvActIdeal.sig) → Buf (Elt Ideal) ℓ) : Prop :=
  True

def Pre_ConvActRefIdeal (m : (ℓ : Loc Cert.ConvActRefIdeal.nD Cert.ConvActRefIdeal.τ Cert.ConvActRefIdeal.sig) → Buf (Elt Ideal) ℓ) : Prop :=
  True

def Pre_SguF (m : (ℓ : Loc Cert.SguF.nD Cert.SguF.τ Cert.SguF.sig) → Buf (Elt Bits) ℓ) : Prop :=
  True

def Pre_SguFIdeal (m : (ℓ : Loc Cert.SguFIdeal.nD Cert.SguFIdeal.τ Cert.SguFIdeal.sig) → Buf (Elt Ideal) ℓ) : Prop :=
  True

def Pre_SguFRefIdeal (m : (ℓ : Loc Cert.SguFRefIdeal.nD Cert.SguFRefIdeal.τ Cert.SguFRefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_AdaF (m : (ℓ : Loc Cert.AdaF.nD Cert.AdaF.τ Cert.AdaF.sig) → Buf (Elt Bits) ℓ) : Prop :=
  True

def Pre_AdaFIdeal (m : (ℓ : Loc Cert.AdaFIdeal.nD Cert.AdaFIdeal.τ Cert.AdaFIdeal.sig) → Buf (Elt Ideal) ℓ) : Prop :=
  True

def Pre_AdaFRefIdeal (m : (ℓ : Loc Cert.AdaFRefIdeal.nD Cert.AdaFRefIdeal.τ Cert.AdaFRefIdeal.sig) → Buf (Elt Ideal) ℓ) : Prop :=
  True

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBRefIdeal (m : (ℓ : Loc Cert.PoolBRefIdeal.nD Cert.PoolBRefIdeal.τ Cert.PoolBRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_BranchG [hBranchG : Cert.BranchG.Facts] : Prop :=
  ∀ (m : (ℓ : Loc Cert.BranchG.nD Cert.BranchG.τ Cert.BranchG.sig) → Buf (Elt Bits) ℓ) (g : Dev Cert.BranchG.nD → PrngReg), Pre_BranchG m →
    θ_run (Cert.BranchG.defs (F := Bits)) (onTc (τ := Cert.BranchG.τ) (Cert.BranchG.main (F := Bits))) ⟨m, fun _ => 0, g⟩ (fun r => (∀ c : Dev Cert.BranchG.nD,
      r.2.mem ((c.tc : Thread Cert.BranchG.nD Cert.BranchG.τ).loc Cert.BranchG.main_arg0) = m ((c.tc : Thread Cert.BranchG.nD Cert.BranchG.τ).loc Cert.BranchG.main_arg0)
      ∧ r.2.mem ((c.tc : Thread Cert.BranchG.nD Cert.BranchG.τ).loc Cert.BranchG.main_arg1) = m ((c.tc : Thread Cert.BranchG.nD Cert.BranchG.τ).loc Cert.BranchG.main_arg1))
      ∧ r.2.sem = fun _ => 0)

def quiescent_BranchGIdeal [hBranchGIdeal : Cert.BranchGIdeal.Facts] : Prop :=
  ∀ (m : (ℓ : Loc Cert.BranchGIdeal.nD Cert.BranchGIdeal.τ Cert.BranchGIdeal.sig) → Buf (Elt Ideal) ℓ) (g : Dev Cert.BranchGIdeal.nD → PrngReg), Pre_BranchGIdeal m →
    θ_run (Cert.BranchGIdeal.defs (F := Ideal)) (onTc (τ := Cert.BranchGIdeal.τ) (Cert.BranchGIdeal.main (F := Ideal))) ⟨m, fun _ => 0, g⟩ (fun r => (∀ c : Dev Cert.BranchGIdeal.nD,
      r.2.mem ((c.tc : Thread Cert.BranchGIdeal.nD Cert.BranchGIdeal.τ).loc Cert.BranchGIdeal.main_arg0) = m ((c.tc : Thread Cert.BranchGIdeal.nD Cert.BranchGIdeal.τ).loc Cert.BranchGIdeal.main_arg0)
      ∧ r.2.mem ((c.tc : Thread Cert.BranchGIdeal.nD Cert.BranchGIdeal.τ).loc Cert.BranchGIdeal.main_arg1) = m ((c.tc : Thread Cert.BranchGIdeal.nD Cert.BranchGIdeal.τ).loc Cert.BranchGIdeal.main_arg1))
      ∧ r.2.sem = fun _ => 0)

def quiescent_BranchGRefIdeal [hBranchGRefIdeal : Cert.BranchGRefIdeal.Facts] : Prop :=
  ∀ (m : (ℓ : Loc Cert.BranchGRefIdeal.nD Cert.BranchGRefIdeal.τ Cert.BranchGRefIdeal.sig) → Buf (Elt Ideal) ℓ) (g : Dev Cert.BranchGRefIdeal.nD → PrngReg), Pre_BranchGRefIdeal m →
    θ_run (Cert.BranchGRefIdeal.defs (F := Ideal)) (onTc (τ := Cert.BranchGRefIdeal.τ) (Cert.BranchGRefIdeal.main (F := Ideal))) ⟨m, fun _ => 0, g⟩ (fun r => (∀ c : Dev Cert.BranchGRefIdeal.nD,
      r.2.mem ((c.tc : Thread Cert.BranchGRefIdeal.nD Cert.BranchGRefIdeal.τ).loc Cert.BranchGRefIdeal.main_arg0) = m ((c.tc : Thread Cert.BranchGRefIdeal.nD Cert.BranchGRefIdeal.τ).loc Cert.BranchGRefIdeal.main_arg0)
      ∧ r.2.mem ((c.tc : Thread Cert.BranchGRefIdeal.nD Cert.BranchGRefIdeal.τ).loc Cert.BranchGRefIdeal.main_arg1) = m ((c.tc : Thread Cert.BranchGRefIdeal.nD Cert.BranchGRefIdeal.τ).loc Cert.BranchGRefIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_FfnOutG [hFfnOutG : Cert.FfnOutG.Facts] : Prop :=
  ∀ (m : (ℓ : Loc Cert.FfnOutG.nD Cert.FfnOutG.τ Cert.FfnOutG.sig) → Buf (Elt Bits) ℓ) (g : Dev Cert.FfnOutG.nD → PrngReg), Pre_FfnOutG m →
    θ_run (Cert.FfnOutG.defs (F := Bits)) (onTc (τ := Cert.FfnOutG.τ) (Cert.FfnOutG.main (F := Bits))) ⟨m, fun _ => 0, g⟩ (fun r => (∀ c : Dev Cert.FfnOutG.nD,
      r.2.mem ((c.tc : Thread Cert.FfnOutG.nD Cert.FfnOutG.τ).loc Cert.FfnOutG.main_arg0) = m ((c.tc : Thread Cert.FfnOutG.nD Cert.FfnOutG.τ).loc Cert.FfnOutG.main_arg0)
      ∧ r.2.mem ((c.tc : Thread Cert.FfnOutG.nD Cert.FfnOutG.τ).loc Cert.FfnOutG.main_arg1) = m ((c.tc : Thread Cert.FfnOutG.nD Cert.FfnOutG.τ).loc Cert.FfnOutG.main_arg1))
      ∧ r.2.sem = fun _ => 0)

def quiescent_FfnOutGIdeal [hFfnOutGIdeal : Cert.FfnOutGIdeal.Facts] : Prop :=
  ∀ (m : (ℓ : Loc Cert.FfnOutGIdeal.nD Cert.FfnOutGIdeal.τ Cert.FfnOutGIdeal.sig) → Buf (Elt Ideal) ℓ) (g : Dev Cert.FfnOutGIdeal.nD → PrngReg), Pre_FfnOutGIdeal m →
    θ_run (Cert.FfnOutGIdeal.defs (F := Ideal)) (onTc (τ := Cert.FfnOutGIdeal.τ) (Cert.FfnOutGIdeal.main (F := Ideal))) ⟨m, fun _ => 0, g⟩ (fun r => (∀ c : Dev Cert.FfnOutGIdeal.nD,
      r.2.mem ((c.tc : Thread Cert.FfnOutGIdeal.nD Cert.FfnOutGIdeal.τ).loc Cert.FfnOutGIdeal.main_arg0) = m ((c.tc : Thread Cert.FfnOutGIdeal.nD Cert.FfnOutGIdeal.τ).loc Cert.FfnOutGIdeal.main_arg0)
      ∧ r.2.mem ((c.tc : Thread Cert.FfnOutGIdeal.nD Cert.FfnOutGIdeal.τ).loc Cert.FfnOutGIdeal.main_arg1) = m ((c.tc : Thread Cert.FfnOutGIdeal.nD Cert.FfnOutGIdeal.τ).loc Cert.FfnOutGIdeal.main_arg1))
      ∧ r.2.sem = fun _ => 0)

def quiescent_FfnOutGRefIdeal [hFfnOutGRefIdeal : Cert.FfnOutGRefIdeal.Facts] : Prop :=
  ∀ (m : (ℓ : Loc Cert.FfnOutGRefIdeal.nD Cert.FfnOutGRefIdeal.τ Cert.FfnOutGRefIdeal.sig) → Buf (Elt Ideal) ℓ) (g : Dev Cert.FfnOutGRefIdeal.nD → PrngReg), Pre_FfnOutGRefIdeal m →
    θ_run (Cert.FfnOutGRefIdeal.defs (F := Ideal)) (onTc (τ := Cert.FfnOutGRefIdeal.τ) (Cert.FfnOutGRefIdeal.main (F := Ideal))) ⟨m, fun _ => 0, g⟩ (fun r => (∀ c : Dev Cert.FfnOutGRefIdeal.nD,
      r.2.mem ((c.tc : Thread Cert.FfnOutGRefIdeal.nD Cert.FfnOutGRefIdeal.τ).loc Cert.FfnOutGRefIdeal.main_arg0) = m ((c.tc : Thread Cert.FfnOutGRefIdeal.nD Cert.FfnOutGRefIdeal.τ).loc Cert.FfnOutGRefIdeal.main_arg0)
      ∧ r.2.mem ((c.tc : Thread Cert.FfnOutGRefIdeal.nD Cert.FfnOutGRefIdeal.τ).loc Cert.FfnOutGRefIdeal.main_arg1) = m ((c.tc : Thread Cert.FfnOutGRefIdeal.nD Cert.FfnOutGRefIdeal.τ).loc Cert.FfnOutGRefIdeal.main_arg1))
      ∧ r.2.sem = fun _ => 0)

def quiescent_FfnOutB [hFfnOutB : Cert.FfnOutB.Facts] : Prop :=
  ∀ (m : (ℓ : Loc Cert.FfnOutB.nD Cert.FfnOutB.τ Cert.FfnOutB.sig) → Buf (Elt Bits) ℓ) (g : Dev Cert.FfnOutB.nD → PrngReg), Pre_FfnOutB m →
    θ_run (Cert.FfnOutB.defs (F := Bits)) (onTc (τ := Cert.FfnOutB.τ) (Cert.FfnOutB.main (F := Bits))) ⟨m, fun _ => 0, g⟩ (fun r => (∀ c : Dev Cert.FfnOutB.nD,
      r.2.mem ((c.tc : Thread Cert.FfnOutB.nD Cert.FfnOutB.τ).loc Cert.FfnOutB.main_arg0) = m ((c.tc : Thread Cert.FfnOutB.nD Cert.FfnOutB.τ).loc Cert.FfnOutB.main_arg0)
      ∧ r.2.mem ((c.tc : Thread Cert.FfnOutB.nD Cert.FfnOutB.τ).loc Cert.FfnOutB.main_arg1) = m ((c.tc : Thread Cert.FfnOutB.nD Cert.FfnOutB.τ).loc Cert.FfnOutB.main_arg1))
      ∧ r.2.sem = fun _ => 0)

def quiescent_FfnOutBIdeal [hFfnOutBIdeal : Cert.FfnOutBIdeal.Facts] : Prop :=
  ∀ (m : (ℓ : Loc Cert.FfnOutBIdeal.nD Cert.FfnOutBIdeal.τ Cert.FfnOutBIdeal.sig) → Buf (Elt Ideal) ℓ) (g : Dev Cert.FfnOutBIdeal.nD → PrngReg), Pre_FfnOutBIdeal m →
    θ_run (Cert.FfnOutBIdeal.defs (F := Ideal)) (onTc (τ := Cert.FfnOutBIdeal.τ) (Cert.FfnOutBIdeal.main (F := Ideal))) ⟨m, fun _ => 0, g⟩ (fun r => (∀ c : Dev Cert.FfnOutBIdeal.nD,
      r.2.mem ((c.tc : Thread Cert.FfnOutBIdeal.nD Cert.FfnOutBIdeal.τ).loc Cert.FfnOutBIdeal.main_arg0) = m ((c.tc : Thread Cert.FfnOutBIdeal.nD Cert.FfnOutBIdeal.τ).loc Cert.FfnOutBIdeal.main_arg0)
      ∧ r.2.mem ((c.tc : Thread Cert.FfnOutBIdeal.nD Cert.FfnOutBIdeal.τ).loc Cert.FfnOutBIdeal.main_arg1) = m ((c.tc : Thread Cert.FfnOutBIdeal.nD Cert.FfnOutBIdeal.τ).loc Cert.FfnOutBIdeal.main_arg1))
      ∧ r.2.sem = fun _ => 0)

def quiescent_FfnOutBRefIdeal [hFfnOutBRefIdeal : Cert.FfnOutBRefIdeal.Facts] : Prop :=
  ∀ (m : (ℓ : Loc Cert.FfnOutBRefIdeal.nD Cert.FfnOutBRefIdeal.τ Cert.FfnOutBRefIdeal.sig) → Buf (Elt Ideal) ℓ) (g : Dev Cert.FfnOutBRefIdeal.nD → PrngReg), Pre_FfnOutBRefIdeal m →
    θ_run (Cert.FfnOutBRefIdeal.defs (F := Ideal)) (onTc (τ := Cert.FfnOutBRefIdeal.τ) (Cert.FfnOutBRefIdeal.main (F := Ideal))) ⟨m, fun _ => 0, g⟩ (fun r => (∀ c : Dev Cert.FfnOutBRefIdeal.nD,
      r.2.mem ((c.tc : Thread Cert.FfnOutBRefIdeal.nD Cert.FfnOutBRefIdeal.τ).loc Cert.FfnOutBRefIdeal.main_arg0) = m ((c.tc : Thread Cert.FfnOutBRefIdeal.nD Cert.FfnOutBRefIdeal.τ).loc Cert.FfnOutBRefIdeal.main_arg0)
      ∧ r.2.mem ((c.tc : Thread Cert.FfnOutBRefIdeal.nD Cert.FfnOutBRefIdeal.τ).loc Cert.FfnOutBRefIdeal.main_arg1) = m ((c.tc : Thread Cert.FfnOutBRefIdeal.nD Cert.FfnOutBRefIdeal.τ).loc Cert.FfnOutBRefIdeal.main_arg1))
      ∧ r.2.sem = fun _ => 0)

def quiescent_FfnInG [hFfnInG : Cert.FfnInG.Facts] : Prop :=
  ∀ (m : (ℓ : Loc Cert.FfnInG.nD Cert.FfnInG.τ Cert.FfnInG.sig) → Buf (Elt Bits) ℓ) (g : Dev Cert.FfnInG.nD → PrngReg), Pre_FfnInG m →
    θ_run (Cert.FfnInG.defs (F := Bits)) (onTc (τ := Cert.FfnInG.τ) (Cert.FfnInG.main (F := Bits))) ⟨m, fun _ => 0, g⟩ (fun r => (∀ c : Dev Cert.FfnInG.nD,
      r.2.mem ((c.tc : Thread Cert.FfnInG.nD Cert.FfnInG.τ).loc Cert.FfnInG.main_arg0) = m ((c.tc : Thread Cert.FfnInG.nD Cert.FfnInG.τ).loc Cert.FfnInG.main_arg0)
      ∧ r.2.mem ((c.tc : Thread Cert.FfnInG.nD Cert.FfnInG.τ).loc Cert.FfnInG.main_arg1) = m ((c.tc : Thread Cert.FfnInG.nD Cert.FfnInG.τ).loc Cert.FfnInG.main_arg1))
      ∧ r.2.sem = fun _ => 0)

def quiescent_FfnInGIdeal [hFfnInGIdeal : Cert.FfnInGIdeal.Facts] : Prop :=
  ∀ (m : (ℓ : Loc Cert.FfnInGIdeal.nD Cert.FfnInGIdeal.τ Cert.FfnInGIdeal.sig) → Buf (Elt Ideal) ℓ) (g : Dev Cert.FfnInGIdeal.nD → PrngReg), Pre_FfnInGIdeal m →
    θ_run (Cert.FfnInGIdeal.defs (F := Ideal)) (onTc (τ := Cert.FfnInGIdeal.τ) (Cert.FfnInGIdeal.main (F := Ideal))) ⟨m, fun _ => 0, g⟩ (fun r => (∀ c : Dev Cert.FfnInGIdeal.nD,
      r.2.mem ((c.tc : Thread Cert.FfnInGIdeal.nD Cert.FfnInGIdeal.τ).loc Cert.FfnInGIdeal.main_arg0) = m ((c.tc : Thread Cert.FfnInGIdeal.nD Cert.FfnInGIdeal.τ).loc Cert.FfnInGIdeal.main_arg0)
      ∧ r.2.mem ((c.tc : Thread Cert.FfnInGIdeal.nD Cert.FfnInGIdeal.τ).loc Cert.FfnInGIdeal.main_arg1) = m ((c.tc : Thread Cert.FfnInGIdeal.nD Cert.FfnInGIdeal.τ).loc Cert.FfnInGIdeal.main_arg1))
      ∧ r.2.sem = fun _ => 0)

def quiescent_FfnInGRefIdeal [hFfnInGRefIdeal : Cert.FfnInGRefIdeal.Facts] : Prop :=
  ∀ (m : (ℓ : Loc Cert.FfnInGRefIdeal.nD Cert.FfnInGRefIdeal.τ Cert.FfnInGRefIdeal.sig) → Buf (Elt Ideal) ℓ) (g : Dev Cert.FfnInGRefIdeal.nD → PrngReg), Pre_FfnInGRefIdeal m →
    θ_run (Cert.FfnInGRefIdeal.defs (F := Ideal)) (onTc (τ := Cert.FfnInGRefIdeal.τ) (Cert.FfnInGRefIdeal.main (F := Ideal))) ⟨m, fun _ => 0, g⟩ (fun r => (∀ c : Dev Cert.FfnInGRefIdeal.nD,
      r.2.mem ((c.tc : Thread Cert.FfnInGRefIdeal.nD Cert.FfnInGRefIdeal.τ).loc Cert.FfnInGRefIdeal.main_arg0) = m ((c.tc : Thread Cert.FfnInGRefIdeal.nD Cert.FfnInGRefIdeal.τ).loc Cert.FfnInGRefIdeal.main_arg0)
      ∧ r.2.mem ((c.tc : Thread Cert.FfnInGRefIdeal.nD Cert.FfnInGRefIdeal.τ).loc Cert.FfnInGRefIdeal.main_arg1) = m ((c.tc : Thread Cert.FfnInGRefIdeal.nD Cert.FfnInGRefIdeal.τ).loc Cert.FfnInGRefIdeal.main_arg1))
      ∧ r.2.sem = fun _ => 0)

def quiescent_FfnInB [hFfnInB : Cert.FfnInB.Facts] : Prop :=
  ∀ (m : (ℓ : Loc Cert.FfnInB.nD Cert.FfnInB.τ Cert.FfnInB.sig) → Buf (Elt Bits) ℓ) (g : Dev Cert.FfnInB.nD → PrngReg), Pre_FfnInB m →
    θ_run (Cert.FfnInB.defs (F := Bits)) (onTc (τ := Cert.FfnInB.τ) (Cert.FfnInB.main (F := Bits))) ⟨m, fun _ => 0, g⟩ (fun r => (∀ c : Dev Cert.FfnInB.nD,
      r.2.mem ((c.tc : Thread Cert.FfnInB.nD Cert.FfnInB.τ).loc Cert.FfnInB.main_arg0) = m ((c.tc : Thread Cert.FfnInB.nD Cert.FfnInB.τ).loc Cert.FfnInB.main_arg0)
      ∧ r.2.mem ((c.tc : Thread Cert.FfnInB.nD Cert.FfnInB.τ).loc Cert.FfnInB.main_arg1) = m ((c.tc : Thread Cert.FfnInB.nD Cert.FfnInB.τ).loc Cert.FfnInB.main_arg1))
      ∧ r.2.sem = fun _ => 0)

def quiescent_FfnInBIdeal [hFfnInBIdeal : Cert.FfnInBIdeal.Facts] : Prop :=
  ∀ (m : (ℓ : Loc Cert.FfnInBIdeal.nD Cert.FfnInBIdeal.τ Cert.FfnInBIdeal.sig) → Buf (Elt Ideal) ℓ) (g : Dev Cert.FfnInBIdeal.nD → PrngReg), Pre_FfnInBIdeal m →
    θ_run (Cert.FfnInBIdeal.defs (F := Ideal)) (onTc (τ := Cert.FfnInBIdeal.τ) (Cert.FfnInBIdeal.main (F := Ideal))) ⟨m, fun _ => 0, g⟩ (fun r => (∀ c : Dev Cert.FfnInBIdeal.nD,
      r.2.mem ((c.tc : Thread Cert.FfnInBIdeal.nD Cert.FfnInBIdeal.τ).loc Cert.FfnInBIdeal.main_arg0) = m ((c.tc : Thread Cert.FfnInBIdeal.nD Cert.FfnInBIdeal.τ).loc Cert.FfnInBIdeal.main_arg0)
      ∧ r.2.mem ((c.tc : Thread Cert.FfnInBIdeal.nD Cert.FfnInBIdeal.τ).loc Cert.FfnInBIdeal.main_arg1) = m ((c.tc : Thread Cert.FfnInBIdeal.nD Cert.FfnInBIdeal.τ).loc Cert.FfnInBIdeal.main_arg1))
      ∧ r.2.sem = fun _ => 0)

def quiescent_FfnInBRefIdeal [hFfnInBRefIdeal : Cert.FfnInBRefIdeal.Facts] : Prop :=
  ∀ (m : (ℓ : Loc Cert.FfnInBRefIdeal.nD Cert.FfnInBRefIdeal.τ Cert.FfnInBRefIdeal.sig) → Buf (Elt Ideal) ℓ) (g : Dev Cert.FfnInBRefIdeal.nD → PrngReg), Pre_FfnInBRefIdeal m →
    θ_run (Cert.FfnInBRefIdeal.defs (F := Ideal)) (onTc (τ := Cert.FfnInBRefIdeal.τ) (Cert.FfnInBRefIdeal.main (F := Ideal))) ⟨m, fun _ => 0, g⟩ (fun r => (∀ c : Dev Cert.FfnInBRefIdeal.nD,
      r.2.mem ((c.tc : Thread Cert.FfnInBRefIdeal.nD Cert.FfnInBRefIdeal.τ).loc Cert.FfnInBRefIdeal.main_arg0) = m ((c.tc : Thread Cert.FfnInBRefIdeal.nD Cert.FfnInBRefIdeal.τ).loc Cert.FfnInBRefIdeal.main_arg0)
      ∧ r.2.mem ((c.tc : Thread Cert.FfnInBRefIdeal.nD Cert.FfnInBRefIdeal.τ).loc Cert.FfnInBRefIdeal.main_arg1) = m ((c.tc : Thread Cert.FfnInBRefIdeal.nD Cert.FfnInBRefIdeal.τ).loc Cert.FfnInBRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4)
      ∧ r.2.mem ((c.tc : Thread Cert.InB.nD Cert.InB.τ).loc Cert.InB.main_arg5) = m ((c.tc : Thread Cert.InB.nD Cert.InB.τ).loc Cert.InB.main_arg5)
      ∧ r.2.mem ((c.tc : Thread Cert.InB.nD Cert.InB.τ).loc Cert.InB.main_arg6) = m ((c.tc : Thread Cert.InB.nD Cert.InB.τ).loc Cert.InB.main_arg6))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
      ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
      ∧ r.2.mem ((c.tc : Thread Cert.InBIdeal.nD Cert.InBIdeal.τ).loc Cert.InBIdeal.main_arg6) = m ((c.tc : Thread Cert.InBIdeal.nD Cert.InBIdeal.τ).loc Cert.InBIdeal.main_arg6))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4)
      ∧ r.2.mem ((c.tc : Thread Cert.InBRefIdeal.nD Cert.InBRefIdeal.τ).loc Cert.InBRefIdeal.main_arg5) = m ((c.tc : Thread Cert.InBRefIdeal.nD Cert.InBRefIdeal.τ).loc Cert.InBRefIdeal.main_arg5)
      ∧ r.2.mem ((c.tc : Thread Cert.InBRefIdeal.nD Cert.InBRefIdeal.τ).loc Cert.InBRefIdeal.main_arg6) = m ((c.tc : Thread Cert.InBRefIdeal.nD Cert.InBRefIdeal.τ).loc Cert.InBRefIdeal.main_arg6))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1)
      ∧ r.2.mem ((c.tc : Thread Cert.MmIn.nD Cert.MmIn.τ).loc Cert.MmIn.main_arg2) = m ((c.tc : Thread Cert.MmIn.nD Cert.MmIn.τ).loc Cert.MmIn.main_arg2))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
      ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1)
      ∧ r.2.mem ((c.tc : Thread Cert.MmInRefIdeal.nD Cert.MmInRefIdeal.τ).loc Cert.MmInRefIdeal.main_arg2) = m ((c.tc : Thread Cert.MmInRefIdeal.nD Cert.MmInRefIdeal.τ).loc Cert.MmInRefIdeal.main_arg2))
      ∧ r.2.sem = fun _ => 0)

def quiescent_MmBranch [hMmBranch : Cert.MmBranch.Facts] : Prop :=
  ∀ (m : (ℓ : Loc Cert.MmBranch.nD Cert.MmBranch.τ Cert.MmBranch.sig) → Buf (Elt Bits) ℓ) (g : Dev Cert.MmBranch.nD → PrngReg), Pre_MmBranch m →
    θ_run (Cert.MmBranch.defs (F := Bits)) (onTc (τ := Cert.MmBranch.τ) (Cert.MmBranch.main (F := Bits))) ⟨m, fun _ => 0, g⟩ (fun r => (∀ c : Dev Cert.MmBranch.nD,
      r.2.mem ((c.tc : Thread Cert.MmBranch.nD Cert.MmBranch.τ).loc Cert.MmBranch.main_arg0) = m ((c.tc : Thread Cert.MmBranch.nD Cert.MmBranch.τ).loc Cert.MmBranch.main_arg0)
      ∧ r.2.mem ((c.tc : Thread Cert.MmBranch.nD Cert.MmBranch.τ).loc Cert.MmBranch.main_arg1) = m ((c.tc : Thread Cert.MmBranch.nD Cert.MmBranch.τ).loc Cert.MmBranch.main_arg1))
      ∧ r.2.sem = fun _ => 0)

def quiescent_MmBranchIdeal [hMmBranchIdeal : Cert.MmBranchIdeal.Facts] : Prop :=
  ∀ (m : (ℓ : Loc Cert.MmBranchIdeal.nD Cert.MmBranchIdeal.τ Cert.MmBranchIdeal.sig) → Buf (Elt Ideal) ℓ) (g : Dev Cert.MmBranchIdeal.nD → PrngReg), Pre_MmBranchIdeal m →
    θ_run (Cert.MmBranchIdeal.defs (F := Ideal)) (onTc (τ := Cert.MmBranchIdeal.τ) (Cert.MmBranchIdeal.main (F := Ideal))) ⟨m, fun _ => 0, g⟩ (fun r => (∀ c : Dev Cert.MmBranchIdeal.nD,
      r.2.mem ((c.tc : Thread Cert.MmBranchIdeal.nD Cert.MmBranchIdeal.τ).loc Cert.MmBranchIdeal.main_arg0) = m ((c.tc : Thread Cert.MmBranchIdeal.nD Cert.MmBranchIdeal.τ).loc Cert.MmBranchIdeal.main_arg0)
      ∧ r.2.mem ((c.tc : Thread Cert.MmBranchIdeal.nD Cert.MmBranchIdeal.τ).loc Cert.MmBranchIdeal.main_arg1) = m ((c.tc : Thread Cert.MmBranchIdeal.nD Cert.MmBranchIdeal.τ).loc Cert.MmBranchIdeal.main_arg1))
      ∧ r.2.sem = fun _ => 0)

def quiescent_MmBranchRefIdeal [hMmBranchRefIdeal : Cert.MmBranchRefIdeal.Facts] : Prop :=
  ∀ (m : (ℓ : Loc Cert.MmBranchRefIdeal.nD Cert.MmBranchRefIdeal.τ Cert.MmBranchRefIdeal.sig) → Buf (Elt Ideal) ℓ) (g : Dev Cert.MmBranchRefIdeal.nD → PrngReg), Pre_MmBranchRefIdeal m →
    θ_run (Cert.MmBranchRefIdeal.defs (F := Ideal)) (onTc (τ := Cert.MmBranchRefIdeal.τ) (Cert.MmBranchRefIdeal.main (F := Ideal))) ⟨m, fun _ => 0, g⟩ (fun r => (∀ c : Dev Cert.MmBranchRefIdeal.nD,
      r.2.mem ((c.tc : Thread Cert.MmBranchRefIdeal.nD Cert.MmBranchRefIdeal.τ).loc Cert.MmBranchRefIdeal.main_arg0) = m ((c.tc : Thread Cert.MmBranchRefIdeal.nD Cert.MmBranchRefIdeal.τ).loc Cert.MmBranchRefIdeal.main_arg0)
      ∧ r.2.mem ((c.tc : Thread Cert.MmBranchRefIdeal.nD Cert.MmBranchRefIdeal.τ).loc Cert.MmBranchRefIdeal.main_arg1) = m ((c.tc : Thread Cert.MmBranchRefIdeal.nD Cert.MmBranchRefIdeal.τ).loc Cert.MmBranchRefIdeal.main_arg1))
      ∧ r.2.sem = fun _ => 0)

def quiescent_MmFfnIn [hMmFfnIn : Cert.MmFfnIn.Facts] : Prop :=
  ∀ (m : (ℓ : Loc Cert.MmFfnIn.nD Cert.MmFfnIn.τ Cert.MmFfnIn.sig) → Buf (Elt Bits) ℓ) (g : Dev Cert.MmFfnIn.nD → PrngReg), Pre_MmFfnIn m →
    θ_run (Cert.MmFfnIn.defs (F := Bits)) (onTc (τ := Cert.MmFfnIn.τ) (Cert.MmFfnIn.main (F := Bits))) ⟨m, fun _ => 0, g⟩ (fun r => (∀ c : Dev Cert.MmFfnIn.nD,
      r.2.mem ((c.tc : Thread Cert.MmFfnIn.nD Cert.MmFfnIn.τ).loc Cert.MmFfnIn.main_arg0) = m ((c.tc : Thread Cert.MmFfnIn.nD Cert.MmFfnIn.τ).loc Cert.MmFfnIn.main_arg0)
      ∧ r.2.mem ((c.tc : Thread Cert.MmFfnIn.nD Cert.MmFfnIn.τ).loc Cert.MmFfnIn.main_arg1) = m ((c.tc : Thread Cert.MmFfnIn.nD Cert.MmFfnIn.τ).loc Cert.MmFfnIn.main_arg1))
      ∧ r.2.sem = fun _ => 0)

def quiescent_MmFfnInIdeal [hMmFfnInIdeal : Cert.MmFfnInIdeal.Facts] : Prop :=
  ∀ (m : (ℓ : Loc Cert.MmFfnInIdeal.nD Cert.MmFfnInIdeal.τ Cert.MmFfnInIdeal.sig) → Buf (Elt Ideal) ℓ) (g : Dev Cert.MmFfnInIdeal.nD → PrngReg), Pre_MmFfnInIdeal m →
    θ_run (Cert.MmFfnInIdeal.defs (F := Ideal)) (onTc (τ := Cert.MmFfnInIdeal.τ) (Cert.MmFfnInIdeal.main (F := Ideal))) ⟨m, fun _ => 0, g⟩ (fun r => (∀ c : Dev Cert.MmFfnInIdeal.nD,
      r.2.mem ((c.tc : Thread Cert.MmFfnInIdeal.nD Cert.MmFfnInIdeal.τ).loc Cert.MmFfnInIdeal.main_arg0) = m ((c.tc : Thread Cert.MmFfnInIdeal.nD Cert.MmFfnInIdeal.τ).loc Cert.MmFfnInIdeal.main_arg0)
      ∧ r.2.mem ((c.tc : Thread Cert.MmFfnInIdeal.nD Cert.MmFfnInIdeal.τ).loc Cert.MmFfnInIdeal.main_arg1) = m ((c.tc : Thread Cert.MmFfnInIdeal.nD Cert.MmFfnInIdeal.τ).loc Cert.MmFfnInIdeal.main_arg1))
      ∧ r.2.sem = fun _ => 0)

def quiescent_MmFfnInRefIdeal [hMmFfnInRefIdeal : Cert.MmFfnInRefIdeal.Facts] : Prop :=
  ∀ (m : (ℓ : Loc Cert.MmFfnInRefIdeal.nD Cert.MmFfnInRefIdeal.τ Cert.MmFfnInRefIdeal.sig) → Buf (Elt Ideal) ℓ) (g : Dev Cert.MmFfnInRefIdeal.nD → PrngReg), Pre_MmFfnInRefIdeal m →
    θ_run (Cert.MmFfnInRefIdeal.defs (F := Ideal)) (onTc (τ := Cert.MmFfnInRefIdeal.τ) (Cert.MmFfnInRefIdeal.main (F := Ideal))) ⟨m, fun _ => 0, g⟩ (fun r => (∀ c : Dev Cert.MmFfnInRefIdeal.nD,
      r.2.mem ((c.tc : Thread Cert.MmFfnInRefIdeal.nD Cert.MmFfnInRefIdeal.τ).loc Cert.MmFfnInRefIdeal.main_arg0) = m ((c.tc : Thread Cert.MmFfnInRefIdeal.nD Cert.MmFfnInRefIdeal.τ).loc Cert.MmFfnInRefIdeal.main_arg0)
      ∧ r.2.mem ((c.tc : Thread Cert.MmFfnInRefIdeal.nD Cert.MmFfnInRefIdeal.τ).loc Cert.MmFfnInRefIdeal.main_arg1) = m ((c.tc : Thread Cert.MmFfnInRefIdeal.nD Cert.MmFfnInRefIdeal.τ).loc Cert.MmFfnInRefIdeal.main_arg1))
      ∧ r.2.sem = fun _ => 0)

def quiescent_MmFfnOut [hMmFfnOut : Cert.MmFfnOut.Facts] : Prop :=
  ∀ (m : (ℓ : Loc Cert.MmFfnOut.nD Cert.MmFfnOut.τ Cert.MmFfnOut.sig) → Buf (Elt Bits) ℓ) (g : Dev Cert.MmFfnOut.nD → PrngReg), Pre_MmFfnOut m →
    θ_run (Cert.MmFfnOut.defs (F := Bits)) (onTc (τ := Cert.MmFfnOut.τ) (Cert.MmFfnOut.main (F := Bits))) ⟨m, fun _ => 0, g⟩ (fun r => (∀ c : Dev Cert.MmFfnOut.nD,
      r.2.mem ((c.tc : Thread Cert.MmFfnOut.nD Cert.MmFfnOut.τ).loc Cert.MmFfnOut.main_arg0) = m ((c.tc : Thread Cert.MmFfnOut.nD Cert.MmFfnOut.τ).loc Cert.MmFfnOut.main_arg0)
      ∧ r.2.mem ((c.tc : Thread Cert.MmFfnOut.nD Cert.MmFfnOut.τ).loc Cert.MmFfnOut.main_arg1) = m ((c.tc : Thread Cert.MmFfnOut.nD Cert.MmFfnOut.τ).loc Cert.MmFfnOut.main_arg1))
      ∧ r.2.sem = fun _ => 0)

def quiescent_MmFfnOutIdeal [hMmFfnOutIdeal : Cert.MmFfnOutIdeal.Facts] : Prop :=
  ∀ (m : (ℓ : Loc Cert.MmFfnOutIdeal.nD Cert.MmFfnOutIdeal.τ Cert.MmFfnOutIdeal.sig) → Buf (Elt Ideal) ℓ) (g : Dev Cert.MmFfnOutIdeal.nD → PrngReg), Pre_MmFfnOutIdeal m →
    θ_run (Cert.MmFfnOutIdeal.defs (F := Ideal)) (onTc (τ := Cert.MmFfnOutIdeal.τ) (Cert.MmFfnOutIdeal.main (F := Ideal))) ⟨m, fun _ => 0, g⟩ (fun r => (∀ c : Dev Cert.MmFfnOutIdeal.nD,
      r.2.mem ((c.tc : Thread Cert.MmFfnOutIdeal.nD Cert.MmFfnOutIdeal.τ).loc Cert.MmFfnOutIdeal.main_arg0) = m ((c.tc : Thread Cert.MmFfnOutIdeal.nD Cert.MmFfnOutIdeal.τ).loc Cert.MmFfnOutIdeal.main_arg0)
      ∧ r.2.mem ((c.tc : Thread Cert.MmFfnOutIdeal.nD Cert.MmFfnOutIdeal.τ).loc Cert.MmFfnOutIdeal.main_arg1) = m ((c.tc : Thread Cert.MmFfnOutIdeal.nD Cert.MmFfnOutIdeal.τ).loc Cert.MmFfnOutIdeal.main_arg1))
      ∧ r.2.sem = fun _ => 0)

def quiescent_MmFfnOutRefIdeal [hMmFfnOutRefIdeal : Cert.MmFfnOutRefIdeal.Facts] : Prop :=
  ∀ (m : (ℓ : Loc Cert.MmFfnOutRefIdeal.nD Cert.MmFfnOutRefIdeal.τ Cert.MmFfnOutRefIdeal.sig) → Buf (Elt Ideal) ℓ) (g : Dev Cert.MmFfnOutRefIdeal.nD → PrngReg), Pre_MmFfnOutRefIdeal m →
    θ_run (Cert.MmFfnOutRefIdeal.defs (F := Ideal)) (onTc (τ := Cert.MmFfnOutRefIdeal.τ) (Cert.MmFfnOutRefIdeal.main (F := Ideal))) ⟨m, fun _ => 0, g⟩ (fun r => (∀ c : Dev Cert.MmFfnOutRefIdeal.nD,
      r.2.mem ((c.tc : Thread Cert.MmFfnOutRefIdeal.nD Cert.MmFfnOutRefIdeal.τ).loc Cert.MmFfnOutRefIdeal.main_arg0) = m ((c.tc : Thread Cert.MmFfnOutRefIdeal.nD Cert.MmFfnOutRefIdeal.τ).loc Cert.MmFfnOutRefIdeal.main_arg0)
      ∧ r.2.mem ((c.tc : Thread Cert.MmFfnOutRefIdeal.nD Cert.MmFfnOutRefIdeal.τ).loc Cert.MmFfnOutRefIdeal.main_arg1) = m ((c.tc : Thread Cert.MmFfnOutRefIdeal.nD Cert.MmFfnOutRefIdeal.τ).loc Cert.MmFfnOutRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1)
      ∧ r.2.mem ((c.tc : Thread Cert.InG.nD Cert.InG.τ).loc Cert.InG.main_arg2) = m ((c.tc : Thread Cert.InG.nD Cert.InG.τ).loc Cert.InG.main_arg2)
      ∧ r.2.mem ((c.tc : Thread Cert.InG.nD Cert.InG.τ).loc Cert.InG.main_arg3) = m ((c.tc : Thread Cert.InG.nD Cert.InG.τ).loc Cert.InG.main_arg3)
      ∧ r.2.mem ((c.tc : Thread Cert.InG.nD Cert.InG.τ).loc Cert.InG.main_arg4) = m ((c.tc : Thread Cert.InG.nD Cert.InG.τ).loc Cert.InG.main_arg4)
      ∧ r.2.mem ((c.tc : Thread Cert.InG.nD Cert.InG.τ).loc Cert.InG.main_arg5) = m ((c.tc : Thread Cert.InG.nD Cert.InG.τ).loc Cert.InG.main_arg5)
      ∧ r.2.mem ((c.tc : Thread Cert.InG.nD Cert.InG.τ).loc Cert.InG.main_arg6) = m ((c.tc : Thread Cert.InG.nD Cert.InG.τ).loc Cert.InG.main_arg6))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1)
      ∧ r.2.mem ((c.tc : Thread Cert.InGIdeal.nD Cert.InGIdeal.τ).loc Cert.InGIdeal.main_arg2) = m ((c.tc : Thread Cert.InGIdeal.nD Cert.InGIdeal.τ).loc Cert.InGIdeal.main_arg2)
      ∧ r.2.mem ((c.tc : Thread Cert.InGIdeal.nD Cert.InGIdeal.τ).loc Cert.InGIdeal.main_arg3) = m ((c.tc : Thread Cert.InGIdeal.nD Cert.InGIdeal.τ).loc Cert.InGIdeal.main_arg3)
      ∧ r.2.mem ((c.tc : Thread Cert.InGIdeal.nD Cert.InGIdeal.τ).loc Cert.InGIdeal.main_arg4) = m ((c.tc : Thread Cert.InGIdeal.nD Cert.InGIdeal.τ).loc Cert.InGIdeal.main_arg4)
      ∧ r.2.mem ((c.tc : Thread Cert.InGIdeal.nD Cert.InGIdeal.τ).loc Cert.InGIdeal.main_arg5) = m ((c.tc : Thread Cert.InGIdeal.nD Cert.InGIdeal.τ).loc Cert.InGIdeal.main_arg5)
      ∧ r.2.mem ((c.tc : Thread Cert.InGIdeal.nD Cert.InGIdeal.τ).loc Cert.InGIdeal.main_arg6) = m ((c.tc : Thread Cert.InGIdeal.nD Cert.InGIdeal.τ).loc Cert.InGIdeal.main_arg6))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1)
      ∧ r.2.mem ((c.tc : Thread Cert.InGRefIdeal.nD Cert.InGRefIdeal.τ).loc Cert.InGRefIdeal.main_arg2) = m ((c.tc : Thread Cert.InGRefIdeal.nD Cert.InGRefIdeal.τ).loc Cert.InGRefIdeal.main_arg2)
      ∧ r.2.mem ((c.tc : Thread Cert.InGRefIdeal.nD Cert.InGRefIdeal.τ).loc Cert.InGRefIdeal.main_arg3) = m ((c.tc : Thread Cert.InGRefIdeal.nD Cert.InGRefIdeal.τ).loc Cert.InGRefIdeal.main_arg3)
      ∧ r.2.mem ((c.tc : Thread Cert.InGRefIdeal.nD Cert.InGRefIdeal.τ).loc Cert.InGRefIdeal.main_arg4) = m ((c.tc : Thread Cert.InGRefIdeal.nD Cert.InGRefIdeal.τ).loc Cert.InGRefIdeal.main_arg4)
      ∧ r.2.mem ((c.tc : Thread Cert.InGRefIdeal.nD Cert.InGRefIdeal.τ).loc Cert.InGRefIdeal.main_arg5) = m ((c.tc : Thread Cert.InGRefIdeal.nD Cert.InGRefIdeal.τ).loc Cert.InGRefIdeal.main_arg5)
      ∧ r.2.mem ((c.tc : Thread Cert.InGRefIdeal.nD Cert.InGRefIdeal.τ).loc Cert.InGRefIdeal.main_arg6) = m ((c.tc : Thread Cert.InGRefIdeal.nD Cert.InGRefIdeal.τ).loc Cert.InGRefIdeal.main_arg6))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_PoolMixB [hPoolMixB : Cert.PoolMixB.Facts] : Prop :=
  ∀ (m : (ℓ : Loc Cert.PoolMixB.nD Cert.PoolMixB.τ Cert.PoolMixB.sig) → Buf (Elt Bits) ℓ) (g : Dev Cert.PoolMixB.nD → PrngReg), Pre_PoolMixB m →
    θ_run (Cert.PoolMixB.defs (F := Bits)) (onTc (τ := Cert.PoolMixB.τ) (Cert.PoolMixB.main (F := Bits))) ⟨m, fun _ => 0, g⟩ (fun r => (∀ c : Dev Cert.PoolMixB.nD,
      r.2.mem ((c.tc : Thread Cert.PoolMixB.nD Cert.PoolMixB.τ).loc Cert.PoolMixB.main_arg0) = m ((c.tc : Thread Cert.PoolMixB.nD Cert.PoolMixB.τ).loc Cert.PoolMixB.main_arg0)
      ∧ r.2.mem ((c.tc : Thread Cert.PoolMixB.nD Cert.PoolMixB.τ).loc Cert.PoolMixB.main_arg1) = m ((c.tc : Thread Cert.PoolMixB.nD Cert.PoolMixB.τ).loc Cert.PoolMixB.main_arg1)
      ∧ r.2.mem ((c.tc : Thread Cert.PoolMixB.nD Cert.PoolMixB.τ).loc Cert.PoolMixB.main_arg2) = m ((c.tc : Thread Cert.PoolMixB.nD Cert.PoolMixB.τ).loc Cert.PoolMixB.main_arg2)
      ∧ r.2.mem ((c.tc : Thread Cert.PoolMixB.nD Cert.PoolMixB.τ).loc Cert.PoolMixB.main_arg3) = m ((c.tc : Thread Cert.PoolMixB.nD Cert.PoolMixB.τ).loc Cert.PoolMixB.main_arg3))
      ∧ r.2.sem = fun _ => 0)

def quiescent_PoolMixBIdeal [hPoolMixBIdeal : Cert.PoolMixBIdeal.Facts] : Prop :=
  ∀ (m : (ℓ : Loc Cert.PoolMixBIdeal.nD Cert.PoolMixBIdeal.τ Cert.PoolMixBIdeal.sig) → Buf (Elt Ideal) ℓ) (g : Dev Cert.PoolMixBIdeal.nD → PrngReg), Pre_PoolMixBIdeal m →
    θ_run (Cert.PoolMixBIdeal.defs (F := Ideal)) (onTc (τ := Cert.PoolMixBIdeal.τ) (Cert.PoolMixBIdeal.main (F := Ideal))) ⟨m, fun _ => 0, g⟩ (fun r => (∀ c : Dev Cert.PoolMixBIdeal.nD,
      r.2.mem ((c.tc : Thread Cert.PoolMixBIdeal.nD Cert.PoolMixBIdeal.τ).loc Cert.PoolMixBIdeal.main_arg0) = m ((c.tc : Thread Cert.PoolMixBIdeal.nD Cert.PoolMixBIdeal.τ).loc Cert.PoolMixBIdeal.main_arg0)
      ∧ r.2.mem ((c.tc : Thread Cert.PoolMixBIdeal.nD Cert.PoolMixBIdeal.τ).loc Cert.PoolMixBIdeal.main_arg1) = m ((c.tc : Thread Cert.PoolMixBIdeal.nD Cert.PoolMixBIdeal.τ).loc Cert.PoolMixBIdeal.main_arg1)
      ∧ r.2.mem ((c.tc : Thread Cert.PoolMixBIdeal.nD Cert.PoolMixBIdeal.τ).loc Cert.PoolMixBIdeal.main_arg2) = m ((c.tc : Thread Cert.PoolMixBIdeal.nD Cert.PoolMixBIdeal.τ).loc Cert.PoolMixBIdeal.main_arg2)
      ∧ r.2.mem ((c.tc : Thread Cert.PoolMixBIdeal.nD Cert.PoolMixBIdeal.τ).loc Cert.PoolMixBIdeal.main_arg3) = m ((c.tc : Thread Cert.PoolMixBIdeal.nD Cert.PoolMixBIdeal.τ).loc Cert.PoolMixBIdeal.main_arg3))
      ∧ r.2.sem = fun _ => 0)

def quiescent_PoolMixBRefIdeal [hPoolMixBRefIdeal : Cert.PoolMixBRefIdeal.Facts] : Prop :=
  ∀ (m : (ℓ : Loc Cert.PoolMixBRefIdeal.nD Cert.PoolMixBRefIdeal.τ Cert.PoolMixBRefIdeal.sig) → Buf (Elt Ideal) ℓ) (g : Dev Cert.PoolMixBRefIdeal.nD → PrngReg), Pre_PoolMixBRefIdeal m →
    θ_run (Cert.PoolMixBRefIdeal.defs (F := Ideal)) (onTc (τ := Cert.PoolMixBRefIdeal.τ) (Cert.PoolMixBRefIdeal.main (F := Ideal))) ⟨m, fun _ => 0, g⟩ (fun r => (∀ c : Dev Cert.PoolMixBRefIdeal.nD,
      r.2.mem ((c.tc : Thread Cert.PoolMixBRefIdeal.nD Cert.PoolMixBRefIdeal.τ).loc Cert.PoolMixBRefIdeal.main_arg0) = m ((c.tc : Thread Cert.PoolMixBRefIdeal.nD Cert.PoolMixBRefIdeal.τ).loc Cert.PoolMixBRefIdeal.main_arg0)
      ∧ r.2.mem ((c.tc : Thread Cert.PoolMixBRefIdeal.nD Cert.PoolMixBRefIdeal.τ).loc Cert.PoolMixBRefIdeal.main_arg1) = m ((c.tc : Thread Cert.PoolMixBRefIdeal.nD Cert.PoolMixBRefIdeal.τ).loc Cert.PoolMixBRefIdeal.main_arg1)
      ∧ r.2.mem ((c.tc : Thread Cert.PoolMixBRefIdeal.nD Cert.PoolMixBRefIdeal.τ).loc Cert.PoolMixBRefIdeal.main_arg2) = m ((c.tc : Thread Cert.PoolMixBRefIdeal.nD Cert.PoolMixBRefIdeal.τ).loc Cert.PoolMixBRefIdeal.main_arg2)
      ∧ r.2.mem ((c.tc : Thread Cert.PoolMixBRefIdeal.nD Cert.PoolMixBRefIdeal.τ).loc Cert.PoolMixBRefIdeal.main_arg3) = m ((c.tc : Thread Cert.PoolMixBRefIdeal.nD Cert.PoolMixBRefIdeal.τ).loc Cert.PoolMixBRefIdeal.main_arg3))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1)
      ∧ r.2.mem ((c.tc : Thread Cert.PoolMixRefIdeal.nD Cert.PoolMixRefIdeal.τ).loc Cert.PoolMixRefIdeal.main_arg2) = m ((c.tc : Thread Cert.PoolMixRefIdeal.nD Cert.PoolMixRefIdeal.τ).loc Cert.PoolMixRefIdeal.main_arg2))
      ∧ r.2.sem = fun _ => 0)

def quiescent_SwigluF [hSwigluF : Cert.SwigluF.Facts] : Prop :=
  ∀ (m : (ℓ : Loc Cert.SwigluF.nD Cert.SwigluF.τ Cert.SwigluF.sig) → Buf (Elt Bits) ℓ) (g : Dev Cert.SwigluF.nD → PrngReg), Pre_SwigluF m →
    θ_run (Cert.SwigluF.defs (F := Bits)) (onTc (τ := Cert.SwigluF.τ) (Cert.SwigluF.main (F := Bits))) ⟨m, fun _ => 0, g⟩ (fun r => (∀ c : Dev Cert.SwigluF.nD,
      r.2.mem ((c.tc : Thread Cert.SwigluF.nD Cert.SwigluF.τ).loc Cert.SwigluF.main_arg0) = m ((c.tc : Thread Cert.SwigluF.nD Cert.SwigluF.τ).loc Cert.SwigluF.main_arg0))
      ∧ r.2.sem = fun _ => 0)

def quiescent_SwigluFIdeal [hSwigluFIdeal : Cert.SwigluFIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg), Pre_SwigluFIdeal m →
    θ_run (Cert.SwigluFIdeal.defs (F := Ideal)) (onTc (τ := Cert.SwigluFIdeal.τ) (Cert.SwigluFIdeal.main (F := Ideal))) ⟨m, fun _ => 0, g⟩ (fun r => (∀ c : Dev Cert.SwigluFIdeal.nD,
      r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ r.2.sem = fun _ => 0)

def quiescent_SwigluFRefIdeal [hSwigluFRefIdeal : Cert.SwigluFRefIdeal.Facts] : Prop :=
  ∀ (m : (ℓ : Loc Cert.SwigluFRefIdeal.nD Cert.SwigluFRefIdeal.τ Cert.SwigluFRefIdeal.sig) → Buf (Elt Ideal) ℓ) (g : Dev Cert.SwigluFRefIdeal.nD → PrngReg), Pre_SwigluFRefIdeal m →
    θ_run (Cert.SwigluFRefIdeal.defs (F := Ideal)) (onTc (τ := Cert.SwigluFRefIdeal.τ) (Cert.SwigluFRefIdeal.main (F := Ideal))) ⟨m, fun _ => 0, g⟩ (fun r => (∀ c : Dev Cert.SwigluFRefIdeal.nD,
      r.2.mem ((c.tc : Thread Cert.SwigluFRefIdeal.nD Cert.SwigluFRefIdeal.τ).loc Cert.SwigluFRefIdeal.main_arg0) = m ((c.tc : Thread Cert.SwigluFRefIdeal.nD Cert.SwigluFRefIdeal.τ).loc Cert.SwigluFRefIdeal.main_arg0))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4)
      ∧ r.2.mem ((c.tc : Thread Cert.NormB.nD Cert.NormB.τ).loc Cert.NormB.main_arg5) = m ((c.tc : Thread Cert.NormB.nD Cert.NormB.τ).loc Cert.NormB.main_arg5))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
      ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4)
      ∧ r.2.mem ((c.tc : Thread Cert.NormBRefIdeal.nD Cert.NormBRefIdeal.τ).loc Cert.NormBRefIdeal.main_arg5) = m ((c.tc : Thread Cert.NormBRefIdeal.nD Cert.NormBRefIdeal.τ).loc Cert.NormBRefIdeal.main_arg5))
      ∧ r.2.sem = fun _ => 0)

def quiescent_NormGateB [hNormGateB : Cert.NormGateB.Facts] : Prop :=
  ∀ (m : (ℓ : Loc Cert.NormGateB.nD Cert.NormGateB.τ Cert.NormGateB.sig) → Buf (Elt Bits) ℓ) (g : Dev Cert.NormGateB.nD → PrngReg), Pre_NormGateB m →
    θ_run (Cert.NormGateB.defs (F := Bits)) (onTc (τ := Cert.NormGateB.τ) (Cert.NormGateB.main (F := Bits))) ⟨m, fun _ => 0, g⟩ (fun r => (∀ c : Dev Cert.NormGateB.nD,
      r.2.mem ((c.tc : Thread Cert.NormGateB.nD Cert.NormGateB.τ).loc Cert.NormGateB.main_arg0) = m ((c.tc : Thread Cert.NormGateB.nD Cert.NormGateB.τ).loc Cert.NormGateB.main_arg0)
      ∧ r.2.mem ((c.tc : Thread Cert.NormGateB.nD Cert.NormGateB.τ).loc Cert.NormGateB.main_arg1) = m ((c.tc : Thread Cert.NormGateB.nD Cert.NormGateB.τ).loc Cert.NormGateB.main_arg1)
      ∧ r.2.mem ((c.tc : Thread Cert.NormGateB.nD Cert.NormGateB.τ).loc Cert.NormGateB.main_arg2) = m ((c.tc : Thread Cert.NormGateB.nD Cert.NormGateB.τ).loc Cert.NormGateB.main_arg2)
      ∧ r.2.mem ((c.tc : Thread Cert.NormGateB.nD Cert.NormGateB.τ).loc Cert.NormGateB.main_arg3) = m ((c.tc : Thread Cert.NormGateB.nD Cert.NormGateB.τ).loc Cert.NormGateB.main_arg3)
      ∧ r.2.mem ((c.tc : Thread Cert.NormGateB.nD Cert.NormGateB.τ).loc Cert.NormGateB.main_arg4) = m ((c.tc : Thread Cert.NormGateB.nD Cert.NormGateB.τ).loc Cert.NormGateB.main_arg4)
      ∧ r.2.mem ((c.tc : Thread Cert.NormGateB.nD Cert.NormGateB.τ).loc Cert.NormGateB.main_arg5) = m ((c.tc : Thread Cert.NormGateB.nD Cert.NormGateB.τ).loc Cert.NormGateB.main_arg5)
      ∧ r.2.mem ((c.tc : Thread Cert.NormGateB.nD Cert.NormGateB.τ).loc Cert.NormGateB.main_arg6) = m ((c.tc : Thread Cert.NormGateB.nD Cert.NormGateB.τ).loc Cert.NormGateB.main_arg6)
      ∧ r.2.mem ((c.tc : Thread Cert.NormGateB.nD Cert.NormGateB.τ).loc Cert.NormGateB.main_arg7) = m ((c.tc : Thread Cert.NormGateB.nD Cert.NormGateB.τ).loc Cert.NormGateB.main_arg7))
      ∧ r.2.sem = fun _ => 0)

def quiescent_NormGateBIdeal [hNormGateBIdeal : Cert.NormGateBIdeal.Facts] : Prop :=
  ∀ (m : (ℓ : Loc Cert.NormGateBIdeal.nD Cert.NormGateBIdeal.τ Cert.NormGateBIdeal.sig) → Buf (Elt Ideal) ℓ) (g : Dev Cert.NormGateBIdeal.nD → PrngReg), Pre_NormGateBIdeal m →
    θ_run (Cert.NormGateBIdeal.defs (F := Ideal)) (onTc (τ := Cert.NormGateBIdeal.τ) (Cert.NormGateBIdeal.main (F := Ideal))) ⟨m, fun _ => 0, g⟩ (fun r => (∀ c : Dev Cert.NormGateBIdeal.nD,
      r.2.mem ((c.tc : Thread Cert.NormGateBIdeal.nD Cert.NormGateBIdeal.τ).loc Cert.NormGateBIdeal.main_arg0) = m ((c.tc : Thread Cert.NormGateBIdeal.nD Cert.NormGateBIdeal.τ).loc Cert.NormGateBIdeal.main_arg0)
      ∧ r.2.mem ((c.tc : Thread Cert.NormGateBIdeal.nD Cert.NormGateBIdeal.τ).loc Cert.NormGateBIdeal.main_arg1) = m ((c.tc : Thread Cert.NormGateBIdeal.nD Cert.NormGateBIdeal.τ).loc Cert.NormGateBIdeal.main_arg1)
      ∧ r.2.mem ((c.tc : Thread Cert.NormGateBIdeal.nD Cert.NormGateBIdeal.τ).loc Cert.NormGateBIdeal.main_arg2) = m ((c.tc : Thread Cert.NormGateBIdeal.nD Cert.NormGateBIdeal.τ).loc Cert.NormGateBIdeal.main_arg2)
      ∧ r.2.mem ((c.tc : Thread Cert.NormGateBIdeal.nD Cert.NormGateBIdeal.τ).loc Cert.NormGateBIdeal.main_arg3) = m ((c.tc : Thread Cert.NormGateBIdeal.nD Cert.NormGateBIdeal.τ).loc Cert.NormGateBIdeal.main_arg3)
      ∧ r.2.mem ((c.tc : Thread Cert.NormGateBIdeal.nD Cert.NormGateBIdeal.τ).loc Cert.NormGateBIdeal.main_arg4) = m ((c.tc : Thread Cert.NormGateBIdeal.nD Cert.NormGateBIdeal.τ).loc Cert.NormGateBIdeal.main_arg4)
      ∧ r.2.mem ((c.tc : Thread Cert.NormGateBIdeal.nD Cert.NormGateBIdeal.τ).loc Cert.NormGateBIdeal.main_arg5) = m ((c.tc : Thread Cert.NormGateBIdeal.nD Cert.NormGateBIdeal.τ).loc Cert.NormGateBIdeal.main_arg5)
      ∧ r.2.mem ((c.tc : Thread Cert.NormGateBIdeal.nD Cert.NormGateBIdeal.τ).loc Cert.NormGateBIdeal.main_arg6) = m ((c.tc : Thread Cert.NormGateBIdeal.nD Cert.NormGateBIdeal.τ).loc Cert.NormGateBIdeal.main_arg6)
      ∧ r.2.mem ((c.tc : Thread Cert.NormGateBIdeal.nD Cert.NormGateBIdeal.τ).loc Cert.NormGateBIdeal.main_arg7) = m ((c.tc : Thread Cert.NormGateBIdeal.nD Cert.NormGateBIdeal.τ).loc Cert.NormGateBIdeal.main_arg7))
      ∧ r.2.sem = fun _ => 0)

def quiescent_NormGateBRefIdeal [hNormGateBRefIdeal : Cert.NormGateBRefIdeal.Facts] : Prop :=
  ∀ (m : (ℓ : Loc Cert.NormGateBRefIdeal.nD Cert.NormGateBRefIdeal.τ Cert.NormGateBRefIdeal.sig) → Buf (Elt Ideal) ℓ) (g : Dev Cert.NormGateBRefIdeal.nD → PrngReg), Pre_NormGateBRefIdeal m →
    θ_run (Cert.NormGateBRefIdeal.defs (F := Ideal)) (onTc (τ := Cert.NormGateBRefIdeal.τ) (Cert.NormGateBRefIdeal.main (F := Ideal))) ⟨m, fun _ => 0, g⟩ (fun r => (∀ c : Dev Cert.NormGateBRefIdeal.nD,
      r.2.mem ((c.tc : Thread Cert.NormGateBRefIdeal.nD Cert.NormGateBRefIdeal.τ).loc Cert.NormGateBRefIdeal.main_arg0) = m ((c.tc : Thread Cert.NormGateBRefIdeal.nD Cert.NormGateBRefIdeal.τ).loc Cert.NormGateBRefIdeal.main_arg0)
      ∧ r.2.mem ((c.tc : Thread Cert.NormGateBRefIdeal.nD Cert.NormGateBRefIdeal.τ).loc Cert.NormGateBRefIdeal.main_arg1) = m ((c.tc : Thread Cert.NormGateBRefIdeal.nD Cert.NormGateBRefIdeal.τ).loc Cert.NormGateBRefIdeal.main_arg1)
      ∧ r.2.mem ((c.tc : Thread Cert.NormGateBRefIdeal.nD Cert.NormGateBRefIdeal.τ).loc Cert.NormGateBRefIdeal.main_arg2) = m ((c.tc : Thread Cert.NormGateBRefIdeal.nD Cert.NormGateBRefIdeal.τ).loc Cert.NormGateBRefIdeal.main_arg2)
      ∧ r.2.mem ((c.tc : Thread Cert.NormGateBRefIdeal.nD Cert.NormGateBRefIdeal.τ).loc Cert.NormGateBRefIdeal.main_arg3) = m ((c.tc : Thread Cert.NormGateBRefIdeal.nD Cert.NormGateBRefIdeal.τ).loc Cert.NormGateBRefIdeal.main_arg3)
      ∧ r.2.mem ((c.tc : Thread Cert.NormGateBRefIdeal.nD Cert.NormGateBRefIdeal.τ).loc Cert.NormGateBRefIdeal.main_arg4) = m ((c.tc : Thread Cert.NormGateBRefIdeal.nD Cert.NormGateBRefIdeal.τ).loc Cert.NormGateBRefIdeal.main_arg4)
      ∧ r.2.mem ((c.tc : Thread Cert.NormGateBRefIdeal.nD Cert.NormGateBRefIdeal.τ).loc Cert.NormGateBRefIdeal.main_arg5) = m ((c.tc : Thread Cert.NormGateBRefIdeal.nD Cert.NormGateBRefIdeal.τ).loc Cert.NormGateBRefIdeal.main_arg5)
      ∧ r.2.mem ((c.tc : Thread Cert.NormGateBRefIdeal.nD Cert.NormGateBRefIdeal.τ).loc Cert.NormGateBRefIdeal.main_arg6) = m ((c.tc : Thread Cert.NormGateBRefIdeal.nD Cert.NormGateBRefIdeal.τ).loc Cert.NormGateBRefIdeal.main_arg6)
      ∧ r.2.mem ((c.tc : Thread Cert.NormGateBRefIdeal.nD Cert.NormGateBRefIdeal.τ).loc Cert.NormGateBRefIdeal.main_arg7) = m ((c.tc : Thread Cert.NormGateBRefIdeal.nD Cert.NormGateBRefIdeal.τ).loc Cert.NormGateBRefIdeal.main_arg7))
      ∧ r.2.sem = fun _ => 0)

def quiescent_ConvActB [hConvActB : Cert.ConvActB.Facts] : Prop :=
  ∀ (m : (ℓ : Loc Cert.ConvActB.nD Cert.ConvActB.τ Cert.ConvActB.sig) → Buf (Elt Bits) ℓ) (g : Dev Cert.ConvActB.nD → PrngReg), Pre_ConvActB m →
    θ_run (Cert.ConvActB.defs (F := Bits)) (onTc (τ := Cert.ConvActB.τ) (Cert.ConvActB.main (F := Bits))) ⟨m, fun _ => 0, g⟩ (fun r => (∀ c : Dev Cert.ConvActB.nD,
      r.2.mem ((c.tc : Thread Cert.ConvActB.nD Cert.ConvActB.τ).loc Cert.ConvActB.main_arg0) = m ((c.tc : Thread Cert.ConvActB.nD Cert.ConvActB.τ).loc Cert.ConvActB.main_arg0)
      ∧ r.2.mem ((c.tc : Thread Cert.ConvActB.nD Cert.ConvActB.τ).loc Cert.ConvActB.main_arg1) = m ((c.tc : Thread Cert.ConvActB.nD Cert.ConvActB.τ).loc Cert.ConvActB.main_arg1)
      ∧ r.2.mem ((c.tc : Thread Cert.ConvActB.nD Cert.ConvActB.τ).loc Cert.ConvActB.main_arg2) = m ((c.tc : Thread Cert.ConvActB.nD Cert.ConvActB.τ).loc Cert.ConvActB.main_arg2)
      ∧ r.2.mem ((c.tc : Thread Cert.ConvActB.nD Cert.ConvActB.τ).loc Cert.ConvActB.main_arg3) = m ((c.tc : Thread Cert.ConvActB.nD Cert.ConvActB.τ).loc Cert.ConvActB.main_arg3))
      ∧ r.2.sem = fun _ => 0)

def quiescent_ConvActBIdeal [hConvActBIdeal : Cert.ConvActBIdeal.Facts] : Prop :=
  ∀ (m : (ℓ : Loc Cert.ConvActBIdeal.nD Cert.ConvActBIdeal.τ Cert.ConvActBIdeal.sig) → Buf (Elt Ideal) ℓ) (g : Dev Cert.ConvActBIdeal.nD → PrngReg), Pre_ConvActBIdeal m →
    θ_run (Cert.ConvActBIdeal.defs (F := Ideal)) (onTc (τ := Cert.ConvActBIdeal.τ) (Cert.ConvActBIdeal.main (F := Ideal))) ⟨m, fun _ => 0, g⟩ (fun r => (∀ c : Dev Cert.ConvActBIdeal.nD,
      r.2.mem ((c.tc : Thread Cert.ConvActBIdeal.nD Cert.ConvActBIdeal.τ).loc Cert.ConvActBIdeal.main_arg0) = m ((c.tc : Thread Cert.ConvActBIdeal.nD Cert.ConvActBIdeal.τ).loc Cert.ConvActBIdeal.main_arg0)
      ∧ r.2.mem ((c.tc : Thread Cert.ConvActBIdeal.nD Cert.ConvActBIdeal.τ).loc Cert.ConvActBIdeal.main_arg1) = m ((c.tc : Thread Cert.ConvActBIdeal.nD Cert.ConvActBIdeal.τ).loc Cert.ConvActBIdeal.main_arg1)
      ∧ r.2.mem ((c.tc : Thread Cert.ConvActBIdeal.nD Cert.ConvActBIdeal.τ).loc Cert.ConvActBIdeal.main_arg2) = m ((c.tc : Thread Cert.ConvActBIdeal.nD Cert.ConvActBIdeal.τ).loc Cert.ConvActBIdeal.main_arg2)
      ∧ r.2.mem ((c.tc : Thread Cert.ConvActBIdeal.nD Cert.ConvActBIdeal.τ).loc Cert.ConvActBIdeal.main_arg3) = m ((c.tc : Thread Cert.ConvActBIdeal.nD Cert.ConvActBIdeal.τ).loc Cert.ConvActBIdeal.main_arg3))
      ∧ r.2.sem = fun _ => 0)

def quiescent_ConvActBRefIdeal [hConvActBRefIdeal : Cert.ConvActBRefIdeal.Facts] : Prop :=
  ∀ (m : (ℓ : Loc Cert.ConvActBRefIdeal.nD Cert.ConvActBRefIdeal.τ Cert.ConvActBRefIdeal.sig) → Buf (Elt Ideal) ℓ) (g : Dev Cert.ConvActBRefIdeal.nD → PrngReg), Pre_ConvActBRefIdeal m →
    θ_run (Cert.ConvActBRefIdeal.defs (F := Ideal)) (onTc (τ := Cert.ConvActBRefIdeal.τ) (Cert.ConvActBRefIdeal.main (F := Ideal))) ⟨m, fun _ => 0, g⟩ (fun r => (∀ c : Dev Cert.ConvActBRefIdeal.nD,
      r.2.mem ((c.tc : Thread Cert.ConvActBRefIdeal.nD Cert.ConvActBRefIdeal.τ).loc Cert.ConvActBRefIdeal.main_arg0) = m ((c.tc : Thread Cert.ConvActBRefIdeal.nD Cert.ConvActBRefIdeal.τ).loc Cert.ConvActBRefIdeal.main_arg0)
      ∧ r.2.mem ((c.tc : Thread Cert.ConvActBRefIdeal.nD Cert.ConvActBRefIdeal.τ).loc Cert.ConvActBRefIdeal.main_arg1) = m ((c.tc : Thread Cert.ConvActBRefIdeal.nD Cert.ConvActBRefIdeal.τ).loc Cert.ConvActBRefIdeal.main_arg1)
      ∧ r.2.mem ((c.tc : Thread Cert.ConvActBRefIdeal.nD Cert.ConvActBRefIdeal.τ).loc Cert.ConvActBRefIdeal.main_arg2) = m ((c.tc : Thread Cert.ConvActBRefIdeal.nD Cert.ConvActBRefIdeal.τ).loc Cert.ConvActBRefIdeal.main_arg2)
      ∧ r.2.mem ((c.tc : Thread Cert.ConvActBRefIdeal.nD Cert.ConvActBRefIdeal.τ).loc Cert.ConvActBRefIdeal.main_arg3) = m ((c.tc : Thread Cert.ConvActBRefIdeal.nD Cert.ConvActBRefIdeal.τ).loc Cert.ConvActBRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1)
      ∧ r.2.mem ((c.tc : Thread Cert.NormF.nD Cert.NormF.τ).loc Cert.NormF.main_arg2) = m ((c.tc : Thread Cert.NormF.nD Cert.NormF.τ).loc Cert.NormF.main_arg2)
      ∧ r.2.mem ((c.tc : Thread Cert.NormF.nD Cert.NormF.τ).loc Cert.NormF.main_arg3) = m ((c.tc : Thread Cert.NormF.nD Cert.NormF.τ).loc Cert.NormF.main_arg3))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
      ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2)
      ∧ r.2.mem ((c.tc : Thread Cert.NormFIdeal.nD Cert.NormFIdeal.τ).loc Cert.NormFIdeal.main_arg3) = m ((c.tc : Thread Cert.NormFIdeal.nD Cert.NormFIdeal.τ).loc Cert.NormFIdeal.main_arg3))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1)
      ∧ r.2.mem ((c.tc : Thread Cert.NormFRefIdeal.nD Cert.NormFRefIdeal.τ).loc Cert.NormFRefIdeal.main_arg2) = m ((c.tc : Thread Cert.NormFRefIdeal.nD Cert.NormFRefIdeal.τ).loc Cert.NormFRefIdeal.main_arg2)
      ∧ r.2.mem ((c.tc : Thread Cert.NormFRefIdeal.nD Cert.NormFRefIdeal.τ).loc Cert.NormFRefIdeal.main_arg3) = m ((c.tc : Thread Cert.NormFRefIdeal.nD Cert.NormFRefIdeal.τ).loc Cert.NormFRefIdeal.main_arg3))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3)
      ∧ r.2.mem ((c.tc : Thread Cert.ResNorm.nD Cert.ResNorm.τ).loc Cert.ResNorm.main_arg4) = m ((c.tc : Thread Cert.ResNorm.nD Cert.ResNorm.τ).loc Cert.ResNorm.main_arg4)
      ∧ r.2.mem ((c.tc : Thread Cert.ResNorm.nD Cert.ResNorm.τ).loc Cert.ResNorm.main_arg5) = m ((c.tc : Thread Cert.ResNorm.nD Cert.ResNorm.τ).loc Cert.ResNorm.main_arg5))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
      ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
      ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3)
      ∧ r.2.mem ((c.tc : Thread Cert.ResNormRefIdeal.nD Cert.ResNormRefIdeal.τ).loc Cert.ResNormRefIdeal.main_arg4) = m ((c.tc : Thread Cert.ResNormRefIdeal.nD Cert.ResNormRefIdeal.τ).loc Cert.ResNormRefIdeal.main_arg4)
      ∧ r.2.mem ((c.tc : Thread Cert.ResNormRefIdeal.nD Cert.ResNormRefIdeal.τ).loc Cert.ResNormRefIdeal.main_arg5) = m ((c.tc : Thread Cert.ResNormRefIdeal.nD Cert.ResNormRefIdeal.τ).loc Cert.ResNormRefIdeal.main_arg5))
      ∧ r.2.sem = fun _ => 0)

def quiescent_ConvAct [hConvAct : Cert.ConvAct.Facts] : Prop :=
  ∀ (m : (ℓ : Loc Cert.ConvAct.nD Cert.ConvAct.τ Cert.ConvAct.sig) → Buf (Elt Bits) ℓ) (g : Dev Cert.ConvAct.nD → PrngReg), Pre_ConvAct m →
    θ_run (Cert.ConvAct.defs (F := Bits)) (onTc (τ := Cert.ConvAct.τ) (Cert.ConvAct.main (F := Bits))) ⟨m, fun _ => 0, g⟩ (fun r => (∀ c : Dev Cert.ConvAct.nD,
      r.2.mem ((c.tc : Thread Cert.ConvAct.nD Cert.ConvAct.τ).loc Cert.ConvAct.main_arg0) = m ((c.tc : Thread Cert.ConvAct.nD Cert.ConvAct.τ).loc Cert.ConvAct.main_arg0)
      ∧ r.2.mem ((c.tc : Thread Cert.ConvAct.nD Cert.ConvAct.τ).loc Cert.ConvAct.main_arg1) = m ((c.tc : Thread Cert.ConvAct.nD Cert.ConvAct.τ).loc Cert.ConvAct.main_arg1)
      ∧ r.2.mem ((c.tc : Thread Cert.ConvAct.nD Cert.ConvAct.τ).loc Cert.ConvAct.main_arg2) = m ((c.tc : Thread Cert.ConvAct.nD Cert.ConvAct.τ).loc Cert.ConvAct.main_arg2))
      ∧ r.2.sem = fun _ => 0)

def quiescent_ConvActIdeal [hConvActIdeal : Cert.ConvActIdeal.Facts] : Prop :=
  ∀ (m : (ℓ : Loc Cert.ConvActIdeal.nD Cert.ConvActIdeal.τ Cert.ConvActIdeal.sig) → Buf (Elt Ideal) ℓ) (g : Dev Cert.ConvActIdeal.nD → PrngReg), Pre_ConvActIdeal m →
    θ_run (Cert.ConvActIdeal.defs (F := Ideal)) (onTc (τ := Cert.ConvActIdeal.τ) (Cert.ConvActIdeal.main (F := Ideal))) ⟨m, fun _ => 0, g⟩ (fun r => (∀ c : Dev Cert.ConvActIdeal.nD,
      r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
      ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
      ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2))
      ∧ r.2.sem = fun _ => 0)

def quiescent_ConvActRefIdeal [hConvActRefIdeal : Cert.ConvActRefIdeal.Facts] : Prop :=
  ∀ (m : (ℓ : Loc Cert.ConvActRefIdeal.nD Cert.ConvActRefIdeal.τ Cert.ConvActRefIdeal.sig) → Buf (Elt Ideal) ℓ) (g : Dev Cert.ConvActRefIdeal.nD → PrngReg), Pre_ConvActRefIdeal m →
    θ_run (Cert.ConvActRefIdeal.defs (F := Ideal)) (onTc (τ := Cert.ConvActRefIdeal.τ) (Cert.ConvActRefIdeal.main (F := Ideal))) ⟨m, fun _ => 0, g⟩ (fun r => (∀ c : Dev Cert.ConvActRefIdeal.nD,
      r.2.mem ((c.tc : Thread Cert.ConvActRefIdeal.nD Cert.ConvActRefIdeal.τ).loc Cert.ConvActRefIdeal.main_arg0) = m ((c.tc : Thread Cert.ConvActRefIdeal.nD Cert.ConvActRefIdeal.τ).loc Cert.ConvActRefIdeal.main_arg0)
      ∧ r.2.mem ((c.tc : Thread Cert.ConvActRefIdeal.nD Cert.ConvActRefIdeal.τ).loc Cert.ConvActRefIdeal.main_arg1) = m ((c.tc : Thread Cert.ConvActRefIdeal.nD Cert.ConvActRefIdeal.τ).loc Cert.ConvActRefIdeal.main_arg1)
      ∧ r.2.mem ((c.tc : Thread Cert.ConvActRefIdeal.nD Cert.ConvActRefIdeal.τ).loc Cert.ConvActRefIdeal.main_arg2) = m ((c.tc : Thread Cert.ConvActRefIdeal.nD Cert.ConvActRefIdeal.τ).loc Cert.ConvActRefIdeal.main_arg2))
      ∧ r.2.sem = fun _ => 0)

def quiescent_SguF [hSguF : Cert.SguF.Facts] : Prop :=
  ∀ (m : (ℓ : Loc Cert.SguF.nD Cert.SguF.τ Cert.SguF.sig) → Buf (Elt Bits) ℓ) (g : Dev Cert.SguF.nD → PrngReg), Pre_SguF m →
    θ_run (Cert.SguF.defs (F := Bits)) (onTc (τ := Cert.SguF.τ) (Cert.SguF.main (F := Bits))) ⟨m, fun _ => 0, g⟩ (fun r => (∀ c : Dev Cert.SguF.nD,
      r.2.mem ((c.tc : Thread Cert.SguF.nD Cert.SguF.τ).loc Cert.SguF.main_arg0) = m ((c.tc : Thread Cert.SguF.nD Cert.SguF.τ).loc Cert.SguF.main_arg0)
      ∧ r.2.mem ((c.tc : Thread Cert.SguF.nD Cert.SguF.τ).loc Cert.SguF.main_arg1) = m ((c.tc : Thread Cert.SguF.nD Cert.SguF.τ).loc Cert.SguF.main_arg1)
      ∧ r.2.mem ((c.tc : Thread Cert.SguF.nD Cert.SguF.τ).loc Cert.SguF.main_arg2) = m ((c.tc : Thread Cert.SguF.nD Cert.SguF.τ).loc Cert.SguF.main_arg2)
      ∧ r.2.mem ((c.tc : Thread Cert.SguF.nD Cert.SguF.τ).loc Cert.SguF.main_arg3) = m ((c.tc : Thread Cert.SguF.nD Cert.SguF.τ).loc Cert.SguF.main_arg3)
      ∧ r.2.mem ((c.tc : Thread Cert.SguF.nD Cert.SguF.τ).loc Cert.SguF.main_arg4) = m ((c.tc : Thread Cert.SguF.nD Cert.SguF.τ).loc Cert.SguF.main_arg4))
      ∧ r.2.sem = fun _ => 0)

def quiescent_SguFIdeal [hSguFIdeal : Cert.SguFIdeal.Facts] : Prop :=
  ∀ (m : (ℓ : Loc Cert.SguFIdeal.nD Cert.SguFIdeal.τ Cert.SguFIdeal.sig) → Buf (Elt Ideal) ℓ) (g : Dev Cert.SguFIdeal.nD → PrngReg), Pre_SguFIdeal m →
    θ_run (Cert.SguFIdeal.defs (F := Ideal)) (onTc (τ := Cert.SguFIdeal.τ) (Cert.SguFIdeal.main (F := Ideal))) ⟨m, fun _ => 0, g⟩ (fun r => (∀ c : Dev Cert.SguFIdeal.nD,
      r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
      ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
      ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
      ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3)
      ∧ r.2.mem ((c.tc : Thread Cert.SguFIdeal.nD Cert.SguFIdeal.τ).loc Cert.SguFIdeal.main_arg4) = m ((c.tc : Thread Cert.SguFIdeal.nD Cert.SguFIdeal.τ).loc Cert.SguFIdeal.main_arg4))
      ∧ r.2.sem = fun _ => 0)

def quiescent_SguFRefIdeal [hSguFRefIdeal : Cert.SguFRefIdeal.Facts] : Prop :=
  ∀ (m : (ℓ : Loc Cert.SguFRefIdeal.nD Cert.SguFRefIdeal.τ Cert.SguFRefIdeal.sig) → Buf (Elt Ideal) ℓ) (g : Dev Cert.SguFRefIdeal.nD → PrngReg), Pre_SguFRefIdeal m →
    θ_run (Cert.SguFRefIdeal.defs (F := Ideal)) (onTc (τ := Cert.SguFRefIdeal.τ) (Cert.SguFRefIdeal.main (F := Ideal))) ⟨m, fun _ => 0, g⟩ (fun r => (∀ c : Dev Cert.SguFRefIdeal.nD,
      r.2.mem ((c.tc : Thread Cert.SguFRefIdeal.nD Cert.SguFRefIdeal.τ).loc Cert.SguFRefIdeal.main_arg0) = m ((c.tc : Thread Cert.SguFRefIdeal.nD Cert.SguFRefIdeal.τ).loc Cert.SguFRefIdeal.main_arg0)
      ∧ r.2.mem ((c.tc : Thread Cert.SguFRefIdeal.nD Cert.SguFRefIdeal.τ).loc Cert.SguFRefIdeal.main_arg1) = m ((c.tc : Thread Cert.SguFRefIdeal.nD Cert.SguFRefIdeal.τ).loc Cert.SguFRefIdeal.main_arg1)
      ∧ r.2.mem ((c.tc : Thread Cert.SguFRefIdeal.nD Cert.SguFRefIdeal.τ).loc Cert.SguFRefIdeal.main_arg2) = m ((c.tc : Thread Cert.SguFRefIdeal.nD Cert.SguFRefIdeal.τ).loc Cert.SguFRefIdeal.main_arg2)
      ∧ r.2.mem ((c.tc : Thread Cert.SguFRefIdeal.nD Cert.SguFRefIdeal.τ).loc Cert.SguFRefIdeal.main_arg3) = m ((c.tc : Thread Cert.SguFRefIdeal.nD Cert.SguFRefIdeal.τ).loc Cert.SguFRefIdeal.main_arg3)
      ∧ r.2.mem ((c.tc : Thread Cert.SguFRefIdeal.nD Cert.SguFRefIdeal.τ).loc Cert.SguFRefIdeal.main_arg4) = m ((c.tc : Thread Cert.SguFRefIdeal.nD Cert.SguFRefIdeal.τ).loc Cert.SguFRefIdeal.main_arg4))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1))
      ∧ r.2.sem = fun _ => 0)

def quiescent_AdaF [hAdaF : Cert.AdaF.Facts] : Prop :=
  ∀ (m : (ℓ : Loc Cert.AdaF.nD Cert.AdaF.τ Cert.AdaF.sig) → Buf (Elt Bits) ℓ) (g : Dev Cert.AdaF.nD → PrngReg), Pre_AdaF m →
    θ_run (Cert.AdaF.defs (F := Bits)) (onTc (τ := Cert.AdaF.τ) (Cert.AdaF.main (F := Bits))) ⟨m, fun _ => 0, g⟩ (fun r => (∀ c : Dev Cert.AdaF.nD,
      r.2.mem ((c.tc : Thread Cert.AdaF.nD Cert.AdaF.τ).loc Cert.AdaF.main_arg0) = m ((c.tc : Thread Cert.AdaF.nD Cert.AdaF.τ).loc Cert.AdaF.main_arg0)
      ∧ r.2.mem ((c.tc : Thread Cert.AdaF.nD Cert.AdaF.τ).loc Cert.AdaF.main_arg1) = m ((c.tc : Thread Cert.AdaF.nD Cert.AdaF.τ).loc Cert.AdaF.main_arg1)
      ∧ r.2.mem ((c.tc : Thread Cert.AdaF.nD Cert.AdaF.τ).loc Cert.AdaF.main_arg2) = m ((c.tc : Thread Cert.AdaF.nD Cert.AdaF.τ).loc Cert.AdaF.main_arg2))
      ∧ r.2.sem = fun _ => 0)

def quiescent_AdaFIdeal [hAdaFIdeal : Cert.AdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg), Pre_AdaFIdeal m →
    θ_run (Cert.AdaFIdeal.defs (F := Ideal)) (onTc (τ := Cert.AdaFIdeal.τ) (Cert.AdaFIdeal.main (F := Ideal))) ⟨m, fun _ => 0, g⟩ (fun r => (∀ c : Dev Cert.AdaFIdeal.nD,
      r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
      ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
      ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ r.2.sem = fun _ => 0)

def quiescent_AdaFRefIdeal [hAdaFRefIdeal : Cert.AdaFRefIdeal.Facts] : Prop :=
  ∀ (m : (ℓ : Loc Cert.AdaFRefIdeal.nD Cert.AdaFRefIdeal.τ Cert.AdaFRefIdeal.sig) → Buf (Elt Ideal) ℓ) (g : Dev Cert.AdaFRefIdeal.nD → PrngReg), Pre_AdaFRefIdeal m →
    θ_run (Cert.AdaFRefIdeal.defs (F := Ideal)) (onTc (τ := Cert.AdaFRefIdeal.τ) (Cert.AdaFRefIdeal.main (F := Ideal))) ⟨m, fun _ => 0, g⟩ (fun r => (∀ c : Dev Cert.AdaFRefIdeal.nD,
      r.2.mem ((c.tc : Thread Cert.AdaFRefIdeal.nD Cert.AdaFRefIdeal.τ).loc Cert.AdaFRefIdeal.main_arg0) = m ((c.tc : Thread Cert.AdaFRefIdeal.nD Cert.AdaFRefIdeal.τ).loc Cert.AdaFRefIdeal.main_arg0)
      ∧ r.2.mem ((c.tc : Thread Cert.AdaFRefIdeal.nD Cert.AdaFRefIdeal.τ).loc Cert.AdaFRefIdeal.main_arg1) = m ((c.tc : Thread Cert.AdaFRefIdeal.nD Cert.AdaFRefIdeal.τ).loc Cert.AdaFRefIdeal.main_arg1)
      ∧ r.2.mem ((c.tc : Thread Cert.AdaFRefIdeal.nD Cert.AdaFRefIdeal.τ).loc Cert.AdaFRefIdeal.main_arg2) = m ((c.tc : Thread Cert.AdaFRefIdeal.nD Cert.AdaFRefIdeal.τ).loc Cert.AdaFRefIdeal.main_arg2))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v0_0)) (v1 : (c : Dev Cert.SguIdeal.nD) → Buf (Elt Ideal) ((c.tc : Thread Cert.SguIdeal.nD Cert.SguIdeal.τ).loc Cert.SguIdeal.main_v0_1)) (v2 : (c : Dev Cert.SguIdeal.nD) → Buf (Elt Ideal) ((c.tc : Thread Cert.SguIdeal.nD Cert.SguIdeal.τ).loc Cert.SguIdeal.main_v0_2)) (v3 : (c : Dev Cert.SguIdeal.nD) → Buf (Elt Ideal) ((c.tc : Thread Cert.SguIdeal.nD Cert.SguIdeal.τ).loc Cert.SguIdeal.main_v0_3)) (v4 : (c : Dev Cert.SguIdeal.nD) → Buf (Elt Ideal) ((c.tc : Thread Cert.SguIdeal.nD Cert.SguIdeal.τ).loc Cert.SguIdeal.main_v0_4)) (v5 : (c : Dev Cert.SguIdeal.nD) → Buf (Elt Ideal) ((c.tc : Thread Cert.SguIdeal.nD Cert.SguIdeal.τ).loc Cert.SguIdeal.main_v0_5)) (v6 : (c : Dev Cert.SguIdeal.nD) → Buf (Elt Ideal) ((c.tc : Thread Cert.SguIdeal.nD Cert.SguIdeal.τ).loc Cert.SguIdeal.main_v0_6)) (v7 : (c : Dev Cert.SguIdeal.nD) → Buf (Elt Ideal) ((c.tc : Thread Cert.SguIdeal.nD Cert.SguIdeal.τ).loc Cert.SguIdeal.main_v0_7)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v0_0) = v0 c
          ∧ r.2.mem ((c.tc : Thread Cert.SguIdeal.nD Cert.SguIdeal.τ).loc Cert.SguIdeal.main_v0_1) = v1 c
          ∧ r.2.mem ((c.tc : Thread Cert.SguIdeal.nD Cert.SguIdeal.τ).loc Cert.SguIdeal.main_v0_2) = v2 c
          ∧ r.2.mem ((c.tc : Thread Cert.SguIdeal.nD Cert.SguIdeal.τ).loc Cert.SguIdeal.main_v0_3) = v3 c
          ∧ r.2.mem ((c.tc : Thread Cert.SguIdeal.nD Cert.SguIdeal.τ).loc Cert.SguIdeal.main_v0_4) = v4 c
          ∧ r.2.mem ((c.tc : Thread Cert.SguIdeal.nD Cert.SguIdeal.τ).loc Cert.SguIdeal.main_v0_5) = v5 c
          ∧ r.2.mem ((c.tc : Thread Cert.SguIdeal.nD Cert.SguIdeal.τ).loc Cert.SguIdeal.main_v0_6) = v6 c
          ∧ r.2.mem ((c.tc : Thread Cert.SguIdeal.nD Cert.SguIdeal.τ).loc Cert.SguIdeal.main_v0_7) = v7 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v143) = v0 c
          ∧ r.2.mem ((c.tc : Thread Cert.SguRefIdeal.nD Cert.SguRefIdeal.τ).loc Cert.SguRefIdeal.main_v145) = v1 c
          ∧ r.2.mem ((c.tc : Thread Cert.SguRefIdeal.nD Cert.SguRefIdeal.τ).loc Cert.SguRefIdeal.main_v146) = v2 c
          ∧ r.2.mem ((c.tc : Thread Cert.SguRefIdeal.nD Cert.SguRefIdeal.τ).loc Cert.SguRefIdeal.main_v147) = v3 c
          ∧ r.2.mem ((c.tc : Thread Cert.SguRefIdeal.nD Cert.SguRefIdeal.τ).loc Cert.SguRefIdeal.main_v83) = v4 c
          ∧ r.2.mem ((c.tc : Thread Cert.SguRefIdeal.nD Cert.SguRefIdeal.τ).loc Cert.SguRefIdeal.main_v77) = v5 c
          ∧ r.2.mem ((c.tc : Thread Cert.SguRefIdeal.nD Cert.SguRefIdeal.τ).loc Cert.SguRefIdeal.main_v149) = v6 c
          ∧ r.2.mem ((c.tc : Thread Cert.SguRefIdeal.nD Cert.SguRefIdeal.τ).loc Cert.SguRefIdeal.main_v151) = v7 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_BranchG_BranchGIdeal : Prop :=
  True

def algebraic_BranchGIdeal_BranchGRefIdeal [hBranchGIdeal : Cert.BranchGIdeal.Facts] [hBranchGRefIdeal : Cert.BranchGRefIdeal.Facts] : Prop :=
  ∀ (m : (ℓ : Loc Cert.BranchGIdeal.nD Cert.BranchGIdeal.τ Cert.BranchGIdeal.sig) → Buf (Elt Ideal) ℓ) (g : Dev Cert.BranchGIdeal.nD → PrngReg)
    (m' : (ℓ : Loc Cert.BranchGRefIdeal.nD Cert.BranchGRefIdeal.τ Cert.BranchGRefIdeal.sig) → Buf (Elt Ideal) ℓ) (g' : Dev Cert.BranchGRefIdeal.nD → PrngReg), Pre_BranchGIdeal m →
    (∀ c : Dev Cert.BranchGIdeal.nD,
      m' ((c.tc : Thread Cert.BranchGRefIdeal.nD Cert.BranchGRefIdeal.τ).loc Cert.BranchGRefIdeal.main_arg0) = m ((c.tc : Thread Cert.BranchGIdeal.nD Cert.BranchGIdeal.τ).loc Cert.BranchGIdeal.main_arg0)
      ∧ m' ((c.tc : Thread Cert.BranchGRefIdeal.nD Cert.BranchGRefIdeal.τ).loc Cert.BranchGRefIdeal.main_arg1) = m ((c.tc : Thread Cert.BranchGIdeal.nD Cert.BranchGIdeal.τ).loc Cert.BranchGIdeal.main_arg1)) →
    ∃ (v0 : (c : Dev Cert.BranchGIdeal.nD) → Buf (Elt Ideal) ((c.tc : Thread Cert.BranchGIdeal.nD Cert.BranchGIdeal.τ).loc Cert.BranchGIdeal.main_v0)),
      θ_run (Cert.BranchGIdeal.defs (F := Ideal)) (onTc (τ := Cert.BranchGIdeal.τ) (Cert.BranchGIdeal.main (F := Ideal))) ⟨m, fun _ => 0, g⟩ (fun r => ∀ c : Dev Cert.BranchGIdeal.nD,
          r.2.mem ((c.tc : Thread Cert.BranchGIdeal.nD Cert.BranchGIdeal.τ).loc Cert.BranchGIdeal.main_v0) = v0 c
          ∧ r.2.mem ((c.tc : Thread Cert.BranchGIdeal.nD Cert.BranchGIdeal.τ).loc Cert.BranchGIdeal.main_arg0) = m ((c.tc : Thread Cert.BranchGIdeal.nD Cert.BranchGIdeal.τ).loc Cert.BranchGIdeal.main_arg0)
          ∧ r.2.mem ((c.tc : Thread Cert.BranchGIdeal.nD Cert.BranchGIdeal.τ).loc Cert.BranchGIdeal.main_arg1) = m ((c.tc : Thread Cert.BranchGIdeal.nD Cert.BranchGIdeal.τ).loc Cert.BranchGIdeal.main_arg1))
      ∧ θ_run (Cert.BranchGRefIdeal.defs (F := Ideal)) (onTc (τ := Cert.BranchGRefIdeal.τ) (Cert.BranchGRefIdeal.main (F := Ideal))) ⟨m', fun _ => 0, g'⟩ (fun r => ∀ c : Dev Cert.BranchGRefIdeal.nD,
          r.2.mem ((c.tc : Thread Cert.BranchGRefIdeal.nD Cert.BranchGRefIdeal.τ).loc Cert.BranchGRefIdeal.main_v5) = v0 c
          ∧ r.2.mem ((c.tc : Thread Cert.BranchGRefIdeal.nD Cert.BranchGRefIdeal.τ).loc Cert.BranchGRefIdeal.main_arg0) = m' ((c.tc : Thread Cert.BranchGRefIdeal.nD Cert.BranchGRefIdeal.τ).loc Cert.BranchGRefIdeal.main_arg0)
          ∧ r.2.mem ((c.tc : Thread Cert.BranchGRefIdeal.nD Cert.BranchGRefIdeal.τ).loc Cert.BranchGRefIdeal.main_arg1) = m' ((c.tc : Thread Cert.BranchGRefIdeal.nD Cert.BranchGRefIdeal.τ).loc Cert.BranchGRefIdeal.main_arg1))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v0)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v6) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_FfnOutG_FfnOutGIdeal : Prop :=
  True

def algebraic_FfnOutGIdeal_FfnOutGRefIdeal [hFfnOutGIdeal : Cert.FfnOutGIdeal.Facts] [hFfnOutGRefIdeal : Cert.FfnOutGRefIdeal.Facts] : Prop :=
  ∀ (m : (ℓ : Loc Cert.FfnOutGIdeal.nD Cert.FfnOutGIdeal.τ Cert.FfnOutGIdeal.sig) → Buf (Elt Ideal) ℓ) (g : Dev Cert.FfnOutGIdeal.nD → PrngReg)
    (m' : (ℓ : Loc Cert.FfnOutGRefIdeal.nD Cert.FfnOutGRefIdeal.τ Cert.FfnOutGRefIdeal.sig) → Buf (Elt Ideal) ℓ) (g' : Dev Cert.FfnOutGRefIdeal.nD → PrngReg), Pre_FfnOutGIdeal m →
    (∀ c : Dev Cert.FfnOutGIdeal.nD,
      m' ((c.tc : Thread Cert.FfnOutGRefIdeal.nD Cert.FfnOutGRefIdeal.τ).loc Cert.FfnOutGRefIdeal.main_arg0) = m ((c.tc : Thread Cert.FfnOutGIdeal.nD Cert.FfnOutGIdeal.τ).loc Cert.FfnOutGIdeal.main_arg0)
      ∧ m' ((c.tc : Thread Cert.FfnOutGRefIdeal.nD Cert.FfnOutGRefIdeal.τ).loc Cert.FfnOutGRefIdeal.main_arg1) = m ((c.tc : Thread Cert.FfnOutGIdeal.nD Cert.FfnOutGIdeal.τ).loc Cert.FfnOutGIdeal.main_arg1)) →
    ∃ (v0 : (c : Dev Cert.FfnOutGIdeal.nD) → Buf (Elt Ideal) ((c.tc : Thread Cert.FfnOutGIdeal.nD Cert.FfnOutGIdeal.τ).loc Cert.FfnOutGIdeal.main_v0)),
      θ_run (Cert.FfnOutGIdeal.defs (F := Ideal)) (onTc (τ := Cert.FfnOutGIdeal.τ) (Cert.FfnOutGIdeal.main (F := Ideal))) ⟨m, fun _ => 0, g⟩ (fun r => ∀ c : Dev Cert.FfnOutGIdeal.nD,
          r.2.mem ((c.tc : Thread Cert.FfnOutGIdeal.nD Cert.FfnOutGIdeal.τ).loc Cert.FfnOutGIdeal.main_v0) = v0 c
          ∧ r.2.mem ((c.tc : Thread Cert.FfnOutGIdeal.nD Cert.FfnOutGIdeal.τ).loc Cert.FfnOutGIdeal.main_arg0) = m ((c.tc : Thread Cert.FfnOutGIdeal.nD Cert.FfnOutGIdeal.τ).loc Cert.FfnOutGIdeal.main_arg0)
          ∧ r.2.mem ((c.tc : Thread Cert.FfnOutGIdeal.nD Cert.FfnOutGIdeal.τ).loc Cert.FfnOutGIdeal.main_arg1) = m ((c.tc : Thread Cert.FfnOutGIdeal.nD Cert.FfnOutGIdeal.τ).loc Cert.FfnOutGIdeal.main_arg1))
      ∧ θ_run (Cert.FfnOutGRefIdeal.defs (F := Ideal)) (onTc (τ := Cert.FfnOutGRefIdeal.τ) (Cert.FfnOutGRefIdeal.main (F := Ideal))) ⟨m', fun _ => 0, g'⟩ (fun r => ∀ c : Dev Cert.FfnOutGRefIdeal.nD,
          r.2.mem ((c.tc : Thread Cert.FfnOutGRefIdeal.nD Cert.FfnOutGRefIdeal.τ).loc Cert.FfnOutGRefIdeal.main_v5) = v0 c
          ∧ r.2.mem ((c.tc : Thread Cert.FfnOutGRefIdeal.nD Cert.FfnOutGRefIdeal.τ).loc Cert.FfnOutGRefIdeal.main_arg0) = m' ((c.tc : Thread Cert.FfnOutGRefIdeal.nD Cert.FfnOutGRefIdeal.τ).loc Cert.FfnOutGRefIdeal.main_arg0)
          ∧ r.2.mem ((c.tc : Thread Cert.FfnOutGRefIdeal.nD Cert.FfnOutGRefIdeal.τ).loc Cert.FfnOutGRefIdeal.main_arg1) = m' ((c.tc : Thread Cert.FfnOutGRefIdeal.nD Cert.FfnOutGRefIdeal.τ).loc Cert.FfnOutGRefIdeal.main_arg1))

def preserves_FfnOutB_FfnOutBIdeal : Prop :=
  True

def algebraic_FfnOutBIdeal_FfnOutBRefIdeal [hFfnOutBIdeal : Cert.FfnOutBIdeal.Facts] [hFfnOutBRefIdeal : Cert.FfnOutBRefIdeal.Facts] : Prop :=
  ∀ (m : (ℓ : Loc Cert.FfnOutBIdeal.nD Cert.FfnOutBIdeal.τ Cert.FfnOutBIdeal.sig) → Buf (Elt Ideal) ℓ) (g : Dev Cert.FfnOutBIdeal.nD → PrngReg)
    (m' : (ℓ : Loc Cert.FfnOutBRefIdeal.nD Cert.FfnOutBRefIdeal.τ Cert.FfnOutBRefIdeal.sig) → Buf (Elt Ideal) ℓ) (g' : Dev Cert.FfnOutBRefIdeal.nD → PrngReg), Pre_FfnOutBIdeal m →
    (∀ c : Dev Cert.FfnOutBIdeal.nD,
      m' ((c.tc : Thread Cert.FfnOutBRefIdeal.nD Cert.FfnOutBRefIdeal.τ).loc Cert.FfnOutBRefIdeal.main_arg0) = m ((c.tc : Thread Cert.FfnOutBIdeal.nD Cert.FfnOutBIdeal.τ).loc Cert.FfnOutBIdeal.main_arg0)
      ∧ m' ((c.tc : Thread Cert.FfnOutBRefIdeal.nD Cert.FfnOutBRefIdeal.τ).loc Cert.FfnOutBRefIdeal.main_arg1) = m ((c.tc : Thread Cert.FfnOutBIdeal.nD Cert.FfnOutBIdeal.τ).loc Cert.FfnOutBIdeal.main_arg1)) →
    ∃ (v0 : (c : Dev Cert.FfnOutBIdeal.nD) → Buf (Elt Ideal) ((c.tc : Thread Cert.FfnOutBIdeal.nD Cert.FfnOutBIdeal.τ).loc Cert.FfnOutBIdeal.main_v0)),
      θ_run (Cert.FfnOutBIdeal.defs (F := Ideal)) (onTc (τ := Cert.FfnOutBIdeal.τ) (Cert.FfnOutBIdeal.main (F := Ideal))) ⟨m, fun _ => 0, g⟩ (fun r => ∀ c : Dev Cert.FfnOutBIdeal.nD,
          r.2.mem ((c.tc : Thread Cert.FfnOutBIdeal.nD Cert.FfnOutBIdeal.τ).loc Cert.FfnOutBIdeal.main_v0) = v0 c
          ∧ r.2.mem ((c.tc : Thread Cert.FfnOutBIdeal.nD Cert.FfnOutBIdeal.τ).loc Cert.FfnOutBIdeal.main_arg0) = m ((c.tc : Thread Cert.FfnOutBIdeal.nD Cert.FfnOutBIdeal.τ).loc Cert.FfnOutBIdeal.main_arg0)
          ∧ r.2.mem ((c.tc : Thread Cert.FfnOutBIdeal.nD Cert.FfnOutBIdeal.τ).loc Cert.FfnOutBIdeal.main_arg1) = m ((c.tc : Thread Cert.FfnOutBIdeal.nD Cert.FfnOutBIdeal.τ).loc Cert.FfnOutBIdeal.main_arg1))
      ∧ θ_run (Cert.FfnOutBRefIdeal.defs (F := Ideal)) (onTc (τ := Cert.FfnOutBRefIdeal.τ) (Cert.FfnOutBRefIdeal.main (F := Ideal))) ⟨m', fun _ => 0, g'⟩ (fun r => ∀ c : Dev Cert.FfnOutBRefIdeal.nD,
          r.2.mem ((c.tc : Thread Cert.FfnOutBRefIdeal.nD Cert.FfnOutBRefIdeal.τ).loc Cert.FfnOutBRefIdeal.main_v6) = v0 c
          ∧ r.2.mem ((c.tc : Thread Cert.FfnOutBRefIdeal.nD Cert.FfnOutBRefIdeal.τ).loc Cert.FfnOutBRefIdeal.main_arg0) = m' ((c.tc : Thread Cert.FfnOutBRefIdeal.nD Cert.FfnOutBRefIdeal.τ).loc Cert.FfnOutBRefIdeal.main_arg0)
          ∧ r.2.mem ((c.tc : Thread Cert.FfnOutBRefIdeal.nD Cert.FfnOutBRefIdeal.τ).loc Cert.FfnOutBRefIdeal.main_arg1) = m' ((c.tc : Thread Cert.FfnOutBRefIdeal.nD Cert.FfnOutBRefIdeal.τ).loc Cert.FfnOutBRefIdeal.main_arg1))

def preserves_FfnInG_FfnInGIdeal : Prop :=
  True

def algebraic_FfnInGIdeal_FfnInGRefIdeal [hFfnInGIdeal : Cert.FfnInGIdeal.Facts] [hFfnInGRefIdeal : Cert.FfnInGRefIdeal.Facts] : Prop :=
  ∀ (m : (ℓ : Loc Cert.FfnInGIdeal.nD Cert.FfnInGIdeal.τ Cert.FfnInGIdeal.sig) → Buf (Elt Ideal) ℓ) (g : Dev Cert.FfnInGIdeal.nD → PrngReg)
    (m' : (ℓ : Loc Cert.FfnInGRefIdeal.nD Cert.FfnInGRefIdeal.τ Cert.FfnInGRefIdeal.sig) → Buf (Elt Ideal) ℓ) (g' : Dev Cert.FfnInGRefIdeal.nD → PrngReg), Pre_FfnInGIdeal m →
    (∀ c : Dev Cert.FfnInGIdeal.nD,
      m' ((c.tc : Thread Cert.FfnInGRefIdeal.nD Cert.FfnInGRefIdeal.τ).loc Cert.FfnInGRefIdeal.main_arg0) = m ((c.tc : Thread Cert.FfnInGIdeal.nD Cert.FfnInGIdeal.τ).loc Cert.FfnInGIdeal.main_arg0)
      ∧ m' ((c.tc : Thread Cert.FfnInGRefIdeal.nD Cert.FfnInGRefIdeal.τ).loc Cert.FfnInGRefIdeal.main_arg1) = m ((c.tc : Thread Cert.FfnInGIdeal.nD Cert.FfnInGIdeal.τ).loc Cert.FfnInGIdeal.main_arg1)) →
    ∃ (v0 : (c : Dev Cert.FfnInGIdeal.nD) → Buf (Elt Ideal) ((c.tc : Thread Cert.FfnInGIdeal.nD Cert.FfnInGIdeal.τ).loc Cert.FfnInGIdeal.main_v0)),
      θ_run (Cert.FfnInGIdeal.defs (F := Ideal)) (onTc (τ := Cert.FfnInGIdeal.τ) (Cert.FfnInGIdeal.main (F := Ideal))) ⟨m, fun _ => 0, g⟩ (fun r => ∀ c : Dev Cert.FfnInGIdeal.nD,
          r.2.mem ((c.tc : Thread Cert.FfnInGIdeal.nD Cert.FfnInGIdeal.τ).loc Cert.FfnInGIdeal.main_v0) = v0 c
          ∧ r.2.mem ((c.tc : Thread Cert.FfnInGIdeal.nD Cert.FfnInGIdeal.τ).loc Cert.FfnInGIdeal.main_arg0) = m ((c.tc : Thread Cert.FfnInGIdeal.nD Cert.FfnInGIdeal.τ).loc Cert.FfnInGIdeal.main_arg0)
          ∧ r.2.mem ((c.tc : Thread Cert.FfnInGIdeal.nD Cert.FfnInGIdeal.τ).loc Cert.FfnInGIdeal.main_arg1) = m ((c.tc : Thread Cert.FfnInGIdeal.nD Cert.FfnInGIdeal.τ).loc Cert.FfnInGIdeal.main_arg1))
      ∧ θ_run (Cert.FfnInGRefIdeal.defs (F := Ideal)) (onTc (τ := Cert.FfnInGRefIdeal.τ) (Cert.FfnInGRefIdeal.main (F := Ideal))) ⟨m', fun _ => 0, g'⟩ (fun r => ∀ c : Dev Cert.FfnInGRefIdeal.nD,
          r.2.mem ((c.tc : Thread Cert.FfnInGRefIdeal.nD Cert.FfnInGRefIdeal.τ).loc Cert.FfnInGRefIdeal.main_v7) = v0 c
          ∧ r.2.mem ((c.tc : Thread Cert.FfnInGRefIdeal.nD Cert.FfnInGRefIdeal.τ).loc Cert.FfnInGRefIdeal.main_arg0) = m' ((c.tc : Thread Cert.FfnInGRefIdeal.nD Cert.FfnInGRefIdeal.τ).loc Cert.FfnInGRefIdeal.main_arg0)
          ∧ r.2.mem ((c.tc : Thread Cert.FfnInGRefIdeal.nD Cert.FfnInGRefIdeal.τ).loc Cert.FfnInGRefIdeal.main_arg1) = m' ((c.tc : Thread Cert.FfnInGRefIdeal.nD Cert.FfnInGRefIdeal.τ).loc Cert.FfnInGRefIdeal.main_arg1))

def preserves_FfnInB_FfnInBIdeal : Prop :=
  True

def algebraic_FfnInBIdeal_FfnInBRefIdeal [hFfnInBIdeal : Cert.FfnInBIdeal.Facts] [hFfnInBRefIdeal : Cert.FfnInBRefIdeal.Facts] : Prop :=
  ∀ (m : (ℓ : Loc Cert.FfnInBIdeal.nD Cert.FfnInBIdeal.τ Cert.FfnInBIdeal.sig) → Buf (Elt Ideal) ℓ) (g : Dev Cert.FfnInBIdeal.nD → PrngReg)
    (m' : (ℓ : Loc Cert.FfnInBRefIdeal.nD Cert.FfnInBRefIdeal.τ Cert.FfnInBRefIdeal.sig) → Buf (Elt Ideal) ℓ) (g' : Dev Cert.FfnInBRefIdeal.nD → PrngReg), Pre_FfnInBIdeal m →
    (∀ c : Dev Cert.FfnInBIdeal.nD,
      m' ((c.tc : Thread Cert.FfnInBRefIdeal.nD Cert.FfnInBRefIdeal.τ).loc Cert.FfnInBRefIdeal.main_arg0) = m ((c.tc : Thread Cert.FfnInBIdeal.nD Cert.FfnInBIdeal.τ).loc Cert.FfnInBIdeal.main_arg0)
      ∧ m' ((c.tc : Thread Cert.FfnInBRefIdeal.nD Cert.FfnInBRefIdeal.τ).loc Cert.FfnInBRefIdeal.main_arg1) = m ((c.tc : Thread Cert.FfnInBIdeal.nD Cert.FfnInBIdeal.τ).loc Cert.FfnInBIdeal.main_arg1)) →
    ∃ (v0 : (c : Dev Cert.FfnInBIdeal.nD) → Buf (Elt Ideal) ((c.tc : Thread Cert.FfnInBIdeal.nD Cert.FfnInBIdeal.τ).loc Cert.FfnInBIdeal.main_v0)),
      θ_run (Cert.FfnInBIdeal.defs (F := Ideal)) (onTc (τ := Cert.FfnInBIdeal.τ) (Cert.FfnInBIdeal.main (F := Ideal))) ⟨m, fun _ => 0, g⟩ (fun r => ∀ c : Dev Cert.FfnInBIdeal.nD,
          r.2.mem ((c.tc : Thread Cert.FfnInBIdeal.nD Cert.FfnInBIdeal.τ).loc Cert.FfnInBIdeal.main_v0) = v0 c
          ∧ r.2.mem ((c.tc : Thread Cert.FfnInBIdeal.nD Cert.FfnInBIdeal.τ).loc Cert.FfnInBIdeal.main_arg0) = m ((c.tc : Thread Cert.FfnInBIdeal.nD Cert.FfnInBIdeal.τ).loc Cert.FfnInBIdeal.main_arg0)
          ∧ r.2.mem ((c.tc : Thread Cert.FfnInBIdeal.nD Cert.FfnInBIdeal.τ).loc Cert.FfnInBIdeal.main_arg1) = m ((c.tc : Thread Cert.FfnInBIdeal.nD Cert.FfnInBIdeal.τ).loc Cert.FfnInBIdeal.main_arg1))
      ∧ θ_run (Cert.FfnInBRefIdeal.defs (F := Ideal)) (onTc (τ := Cert.FfnInBRefIdeal.τ) (Cert.FfnInBRefIdeal.main (F := Ideal))) ⟨m', fun _ => 0, g'⟩ (fun r => ∀ c : Dev Cert.FfnInBRefIdeal.nD,
          r.2.mem ((c.tc : Thread Cert.FfnInBRefIdeal.nD Cert.FfnInBRefIdeal.τ).loc Cert.FfnInBRefIdeal.main_v8) = v0 c
          ∧ r.2.mem ((c.tc : Thread Cert.FfnInBRefIdeal.nD Cert.FfnInBRefIdeal.τ).loc Cert.FfnInBRefIdeal.main_arg0) = m' ((c.tc : Thread Cert.FfnInBRefIdeal.nD Cert.FfnInBRefIdeal.τ).loc Cert.FfnInBRefIdeal.main_arg0)
          ∧ r.2.mem ((c.tc : Thread Cert.FfnInBRefIdeal.nD Cert.FfnInBRefIdeal.τ).loc Cert.FfnInBRefIdeal.main_arg1) = m' ((c.tc : Thread Cert.FfnInBRefIdeal.nD Cert.FfnInBRefIdeal.τ).loc Cert.FfnInBRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)
      ∧ m' ((c.tc : Thread Cert.InBRefIdeal.nD Cert.InBRefIdeal.τ).loc Cert.InBRefIdeal.main_arg4) = m ((c.tc : Thread Cert.InBIdeal.nD Cert.InBIdeal.τ).loc Cert.InBIdeal.main_arg4)
      ∧ m' ((c.tc : Thread Cert.InBRefIdeal.nD Cert.InBRefIdeal.τ).loc Cert.InBRefIdeal.main_arg5) = m ((c.tc : Thread Cert.InBIdeal.nD Cert.InBIdeal.τ).loc Cert.InBIdeal.main_arg5)
      ∧ m' ((c.tc : Thread Cert.InBRefIdeal.nD Cert.InBRefIdeal.τ).loc Cert.InBRefIdeal.main_arg6) = m ((c.tc : Thread Cert.InBIdeal.nD Cert.InBIdeal.τ).loc Cert.InBIdeal.main_arg6)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4)
          ∧ r.2.mem ((c.tc : Thread Cert.InBIdeal.nD Cert.InBIdeal.τ).loc Cert.InBIdeal.main_arg5) = m ((c.tc : Thread Cert.InBIdeal.nD Cert.InBIdeal.τ).loc Cert.InBIdeal.main_arg5)
          ∧ r.2.mem ((c.tc : Thread Cert.InBIdeal.nD Cert.InBIdeal.τ).loc Cert.InBIdeal.main_arg6) = m ((c.tc : Thread Cert.InBIdeal.nD Cert.InBIdeal.τ).loc Cert.InBIdeal.main_arg6))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v14) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3)
          ∧ r.2.mem ((c.tc : Thread Cert.InBRefIdeal.nD Cert.InBRefIdeal.τ).loc Cert.InBRefIdeal.main_arg4) = m' ((c.tc : Thread Cert.InBRefIdeal.nD Cert.InBRefIdeal.τ).loc Cert.InBRefIdeal.main_arg4)
          ∧ r.2.mem ((c.tc : Thread Cert.InBRefIdeal.nD Cert.InBRefIdeal.τ).loc Cert.InBRefIdeal.main_arg5) = m' ((c.tc : Thread Cert.InBRefIdeal.nD Cert.InBRefIdeal.τ).loc Cert.InBRefIdeal.main_arg5)
          ∧ r.2.mem ((c.tc : Thread Cert.InBRefIdeal.nD Cert.InBRefIdeal.τ).loc Cert.InBRefIdeal.main_arg6) = m' ((c.tc : Thread Cert.InBRefIdeal.nD Cert.InBRefIdeal.τ).loc Cert.InBRefIdeal.main_arg6))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)
      ∧ m' ((c.tc : Thread Cert.MmInRefIdeal.nD Cert.MmInRefIdeal.τ).loc Cert.MmInRefIdeal.main_arg2) = m ((c.tc : Thread Cert.MmInIdeal.nD Cert.MmInIdeal.τ).loc Cert.MmInIdeal.main_arg2)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1)
          ∧ r.2.mem ((c.tc : Thread Cert.MmInIdeal.nD Cert.MmInIdeal.τ).loc Cert.MmInIdeal.main_arg2) = m ((c.tc : Thread Cert.MmInIdeal.nD Cert.MmInIdeal.τ).loc Cert.MmInIdeal.main_arg2))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v8) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1)
          ∧ r.2.mem ((c.tc : Thread Cert.MmInRefIdeal.nD Cert.MmInRefIdeal.τ).loc Cert.MmInRefIdeal.main_arg2) = m' ((c.tc : Thread Cert.MmInRefIdeal.nD Cert.MmInRefIdeal.τ).loc Cert.MmInRefIdeal.main_arg2))

def preserves_MmBranch_MmBranchIdeal : Prop :=
  True

def algebraic_MmBranchIdeal_MmBranchRefIdeal [hMmBranchIdeal : Cert.MmBranchIdeal.Facts] [hMmBranchRefIdeal : Cert.MmBranchRefIdeal.Facts] : Prop :=
  ∀ (m : (ℓ : Loc Cert.MmBranchIdeal.nD Cert.MmBranchIdeal.τ Cert.MmBranchIdeal.sig) → Buf (Elt Ideal) ℓ) (g : Dev Cert.MmBranchIdeal.nD → PrngReg)
    (m' : (ℓ : Loc Cert.MmBranchRefIdeal.nD Cert.MmBranchRefIdeal.τ Cert.MmBranchRefIdeal.sig) → Buf (Elt Ideal) ℓ) (g' : Dev Cert.MmBranchRefIdeal.nD → PrngReg), Pre_MmBranchIdeal m →
    (∀ c : Dev Cert.MmBranchIdeal.nD,
      m' ((c.tc : Thread Cert.MmBranchRefIdeal.nD Cert.MmBranchRefIdeal.τ).loc Cert.MmBranchRefIdeal.main_arg0) = m ((c.tc : Thread Cert.MmBranchIdeal.nD Cert.MmBranchIdeal.τ).loc Cert.MmBranchIdeal.main_arg0)
      ∧ m' ((c.tc : Thread Cert.MmBranchRefIdeal.nD Cert.MmBranchRefIdeal.τ).loc Cert.MmBranchRefIdeal.main_arg1) = m ((c.tc : Thread Cert.MmBranchIdeal.nD Cert.MmBranchIdeal.τ).loc Cert.MmBranchIdeal.main_arg1)) →
    ∃ (v0 : (c : Dev Cert.MmBranchIdeal.nD) → Buf (Elt Ideal) ((c.tc : Thread Cert.MmBranchIdeal.nD Cert.MmBranchIdeal.τ).loc Cert.MmBranchIdeal.main_v0)),
      θ_run (Cert.MmBranchIdeal.defs (F := Ideal)) (onTc (τ := Cert.MmBranchIdeal.τ) (Cert.MmBranchIdeal.main (F := Ideal))) ⟨m, fun _ => 0, g⟩ (fun r => ∀ c : Dev Cert.MmBranchIdeal.nD,
          r.2.mem ((c.tc : Thread Cert.MmBranchIdeal.nD Cert.MmBranchIdeal.τ).loc Cert.MmBranchIdeal.main_v0) = v0 c
          ∧ r.2.mem ((c.tc : Thread Cert.MmBranchIdeal.nD Cert.MmBranchIdeal.τ).loc Cert.MmBranchIdeal.main_arg0) = m ((c.tc : Thread Cert.MmBranchIdeal.nD Cert.MmBranchIdeal.τ).loc Cert.MmBranchIdeal.main_arg0)
          ∧ r.2.mem ((c.tc : Thread Cert.MmBranchIdeal.nD Cert.MmBranchIdeal.τ).loc Cert.MmBranchIdeal.main_arg1) = m ((c.tc : Thread Cert.MmBranchIdeal.nD Cert.MmBranchIdeal.τ).loc Cert.MmBranchIdeal.main_arg1))
      ∧ θ_run (Cert.MmBranchRefIdeal.defs (F := Ideal)) (onTc (τ := Cert.MmBranchRefIdeal.τ) (Cert.MmBranchRefIdeal.main (F := Ideal))) ⟨m', fun _ => 0, g'⟩ (fun r => ∀ c : Dev Cert.MmBranchRefIdeal.nD,
          r.2.mem ((c.tc : Thread Cert.MmBranchRefIdeal.nD Cert.MmBranchRefIdeal.τ).loc Cert.MmBranchRefIdeal.main_v4) = v0 c
          ∧ r.2.mem ((c.tc : Thread Cert.MmBranchRefIdeal.nD Cert.MmBranchRefIdeal.τ).loc Cert.MmBranchRefIdeal.main_arg0) = m' ((c.tc : Thread Cert.MmBranchRefIdeal.nD Cert.MmBranchRefIdeal.τ).loc Cert.MmBranchRefIdeal.main_arg0)
          ∧ r.2.mem ((c.tc : Thread Cert.MmBranchRefIdeal.nD Cert.MmBranchRefIdeal.τ).loc Cert.MmBranchRefIdeal.main_arg1) = m' ((c.tc : Thread Cert.MmBranchRefIdeal.nD Cert.MmBranchRefIdeal.τ).loc Cert.MmBranchRefIdeal.main_arg1))

def preserves_MmFfnIn_MmFfnInIdeal : Prop :=
  True

def algebraic_MmFfnInIdeal_MmFfnInRefIdeal [hMmFfnInIdeal : Cert.MmFfnInIdeal.Facts] [hMmFfnInRefIdeal : Cert.MmFfnInRefIdeal.Facts] : Prop :=
  ∀ (m : (ℓ : Loc Cert.MmFfnInIdeal.nD Cert.MmFfnInIdeal.τ Cert.MmFfnInIdeal.sig) → Buf (Elt Ideal) ℓ) (g : Dev Cert.MmFfnInIdeal.nD → PrngReg)
    (m' : (ℓ : Loc Cert.MmFfnInRefIdeal.nD Cert.MmFfnInRefIdeal.τ Cert.MmFfnInRefIdeal.sig) → Buf (Elt Ideal) ℓ) (g' : Dev Cert.MmFfnInRefIdeal.nD → PrngReg), Pre_MmFfnInIdeal m →
    (∀ c : Dev Cert.MmFfnInIdeal.nD,
      m' ((c.tc : Thread Cert.MmFfnInRefIdeal.nD Cert.MmFfnInRefIdeal.τ).loc Cert.MmFfnInRefIdeal.main_arg0) = m ((c.tc : Thread Cert.MmFfnInIdeal.nD Cert.MmFfnInIdeal.τ).loc Cert.MmFfnInIdeal.main_arg0)
      ∧ m' ((c.tc : Thread Cert.MmFfnInRefIdeal.nD Cert.MmFfnInRefIdeal.τ).loc Cert.MmFfnInRefIdeal.main_arg1) = m ((c.tc : Thread Cert.MmFfnInIdeal.nD Cert.MmFfnInIdeal.τ).loc Cert.MmFfnInIdeal.main_arg1)) →
    ∃ (v0 : (c : Dev Cert.MmFfnInIdeal.nD) → Buf (Elt Ideal) ((c.tc : Thread Cert.MmFfnInIdeal.nD Cert.MmFfnInIdeal.τ).loc Cert.MmFfnInIdeal.main_v0)),
      θ_run (Cert.MmFfnInIdeal.defs (F := Ideal)) (onTc (τ := Cert.MmFfnInIdeal.τ) (Cert.MmFfnInIdeal.main (F := Ideal))) ⟨m, fun _ => 0, g⟩ (fun r => ∀ c : Dev Cert.MmFfnInIdeal.nD,
          r.2.mem ((c.tc : Thread Cert.MmFfnInIdeal.nD Cert.MmFfnInIdeal.τ).loc Cert.MmFfnInIdeal.main_v0) = v0 c
          ∧ r.2.mem ((c.tc : Thread Cert.MmFfnInIdeal.nD Cert.MmFfnInIdeal.τ).loc Cert.MmFfnInIdeal.main_arg0) = m ((c.tc : Thread Cert.MmFfnInIdeal.nD Cert.MmFfnInIdeal.τ).loc Cert.MmFfnInIdeal.main_arg0)
          ∧ r.2.mem ((c.tc : Thread Cert.MmFfnInIdeal.nD Cert.MmFfnInIdeal.τ).loc Cert.MmFfnInIdeal.main_arg1) = m ((c.tc : Thread Cert.MmFfnInIdeal.nD Cert.MmFfnInIdeal.τ).loc Cert.MmFfnInIdeal.main_arg1))
      ∧ θ_run (Cert.MmFfnInRefIdeal.defs (F := Ideal)) (onTc (τ := Cert.MmFfnInRefIdeal.τ) (Cert.MmFfnInRefIdeal.main (F := Ideal))) ⟨m', fun _ => 0, g'⟩ (fun r => ∀ c : Dev Cert.MmFfnInRefIdeal.nD,
          r.2.mem ((c.tc : Thread Cert.MmFfnInRefIdeal.nD Cert.MmFfnInRefIdeal.τ).loc Cert.MmFfnInRefIdeal.main_v6) = v0 c
          ∧ r.2.mem ((c.tc : Thread Cert.MmFfnInRefIdeal.nD Cert.MmFfnInRefIdeal.τ).loc Cert.MmFfnInRefIdeal.main_arg0) = m' ((c.tc : Thread Cert.MmFfnInRefIdeal.nD Cert.MmFfnInRefIdeal.τ).loc Cert.MmFfnInRefIdeal.main_arg0)
          ∧ r.2.mem ((c.tc : Thread Cert.MmFfnInRefIdeal.nD Cert.MmFfnInRefIdeal.τ).loc Cert.MmFfnInRefIdeal.main_arg1) = m' ((c.tc : Thread Cert.MmFfnInRefIdeal.nD Cert.MmFfnInRefIdeal.τ).loc Cert.MmFfnInRefIdeal.main_arg1))

def preserves_MmFfnOut_MmFfnOutIdeal : Prop :=
  True

def algebraic_MmFfnOutIdeal_MmFfnOutRefIdeal [hMmFfnOutIdeal : Cert.MmFfnOutIdeal.Facts] [hMmFfnOutRefIdeal : Cert.MmFfnOutRefIdeal.Facts] : Prop :=
  ∀ (m : (ℓ : Loc Cert.MmFfnOutIdeal.nD Cert.MmFfnOutIdeal.τ Cert.MmFfnOutIdeal.sig) → Buf (Elt Ideal) ℓ) (g : Dev Cert.MmFfnOutIdeal.nD → PrngReg)
    (m' : (ℓ : Loc Cert.MmFfnOutRefIdeal.nD Cert.MmFfnOutRefIdeal.τ Cert.MmFfnOutRefIdeal.sig) → Buf (Elt Ideal) ℓ) (g' : Dev Cert.MmFfnOutRefIdeal.nD → PrngReg), Pre_MmFfnOutIdeal m →
    (∀ c : Dev Cert.MmFfnOutIdeal.nD,
      m' ((c.tc : Thread Cert.MmFfnOutRefIdeal.nD Cert.MmFfnOutRefIdeal.τ).loc Cert.MmFfnOutRefIdeal.main_arg0) = m ((c.tc : Thread Cert.MmFfnOutIdeal.nD Cert.MmFfnOutIdeal.τ).loc Cert.MmFfnOutIdeal.main_arg0)
      ∧ m' ((c.tc : Thread Cert.MmFfnOutRefIdeal.nD Cert.MmFfnOutRefIdeal.τ).loc Cert.MmFfnOutRefIdeal.main_arg1) = m ((c.tc : Thread Cert.MmFfnOutIdeal.nD Cert.MmFfnOutIdeal.τ).loc Cert.MmFfnOutIdeal.main_arg1)) →
    ∃ (v0 : (c : Dev Cert.MmFfnOutIdeal.nD) → Buf (Elt Ideal) ((c.tc : Thread Cert.MmFfnOutIdeal.nD Cert.MmFfnOutIdeal.τ).loc Cert.MmFfnOutIdeal.main_v0)),
      θ_run (Cert.MmFfnOutIdeal.defs (F := Ideal)) (onTc (τ := Cert.MmFfnOutIdeal.τ) (Cert.MmFfnOutIdeal.main (F := Ideal))) ⟨m, fun _ => 0, g⟩ (fun r => ∀ c : Dev Cert.MmFfnOutIdeal.nD,
          r.2.mem ((c.tc : Thread Cert.MmFfnOutIdeal.nD Cert.MmFfnOutIdeal.τ).loc Cert.MmFfnOutIdeal.main_v0) = v0 c
          ∧ r.2.mem ((c.tc : Thread Cert.MmFfnOutIdeal.nD Cert.MmFfnOutIdeal.τ).loc Cert.MmFfnOutIdeal.main_arg0) = m ((c.tc : Thread Cert.MmFfnOutIdeal.nD Cert.MmFfnOutIdeal.τ).loc Cert.MmFfnOutIdeal.main_arg0)
          ∧ r.2.mem ((c.tc : Thread Cert.MmFfnOutIdeal.nD Cert.MmFfnOutIdeal.τ).loc Cert.MmFfnOutIdeal.main_arg1) = m ((c.tc : Thread Cert.MmFfnOutIdeal.nD Cert.MmFfnOutIdeal.τ).loc Cert.MmFfnOutIdeal.main_arg1))
      ∧ θ_run (Cert.MmFfnOutRefIdeal.defs (F := Ideal)) (onTc (τ := Cert.MmFfnOutRefIdeal.τ) (Cert.MmFfnOutRefIdeal.main (F := Ideal))) ⟨m', fun _ => 0, g'⟩ (fun r => ∀ c : Dev Cert.MmFfnOutRefIdeal.nD,
          r.2.mem ((c.tc : Thread Cert.MmFfnOutRefIdeal.nD Cert.MmFfnOutRefIdeal.τ).loc Cert.MmFfnOutRefIdeal.main_v4) = v0 c
          ∧ r.2.mem ((c.tc : Thread Cert.MmFfnOutRefIdeal.nD Cert.MmFfnOutRefIdeal.τ).loc Cert.MmFfnOutRefIdeal.main_arg0) = m' ((c.tc : Thread Cert.MmFfnOutRefIdeal.nD Cert.MmFfnOutRefIdeal.τ).loc Cert.MmFfnOutRefIdeal.main_arg0)
          ∧ r.2.mem ((c.tc : Thread Cert.MmFfnOutRefIdeal.nD Cert.MmFfnOutRefIdeal.τ).loc Cert.MmFfnOutRefIdeal.main_arg1) = m' ((c.tc : Thread Cert.MmFfnOutRefIdeal.nD Cert.MmFfnOutRefIdeal.τ).loc Cert.MmFfnOutRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)
      ∧ m' ((c.tc : Thread Cert.InGRefIdeal.nD Cert.InGRefIdeal.τ).loc Cert.InGRefIdeal.main_arg2) = m ((c.tc : Thread Cert.InGIdeal.nD Cert.InGIdeal.τ).loc Cert.InGIdeal.main_arg2)
      ∧ m' ((c.tc : Thread Cert.InGRefIdeal.nD Cert.InGRefIdeal.τ).loc Cert.InGRefIdeal.main_arg3) = m ((c.tc : Thread Cert.InGIdeal.nD Cert.InGIdeal.τ).loc Cert.InGIdeal.main_arg3)
      ∧ m' ((c.tc : Thread Cert.InGRefIdeal.nD Cert.InGRefIdeal.τ).loc Cert.InGRefIdeal.main_arg4) = m ((c.tc : Thread Cert.InGIdeal.nD Cert.InGIdeal.τ).loc Cert.InGIdeal.main_arg4)
      ∧ m' ((c.tc : Thread Cert.InGRefIdeal.nD Cert.InGRefIdeal.τ).loc Cert.InGRefIdeal.main_arg5) = m ((c.tc : Thread Cert.InGIdeal.nD Cert.InGIdeal.τ).loc Cert.InGIdeal.main_arg5)
      ∧ m' ((c.tc : Thread Cert.InGRefIdeal.nD Cert.InGRefIdeal.τ).loc Cert.InGRefIdeal.main_arg6) = m ((c.tc : Thread Cert.InGIdeal.nD Cert.InGIdeal.τ).loc Cert.InGIdeal.main_arg6)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1)
          ∧ r.2.mem ((c.tc : Thread Cert.InGIdeal.nD Cert.InGIdeal.τ).loc Cert.InGIdeal.main_arg2) = m ((c.tc : Thread Cert.InGIdeal.nD Cert.InGIdeal.τ).loc Cert.InGIdeal.main_arg2)
          ∧ r.2.mem ((c.tc : Thread Cert.InGIdeal.nD Cert.InGIdeal.τ).loc Cert.InGIdeal.main_arg3) = m ((c.tc : Thread Cert.InGIdeal.nD Cert.InGIdeal.τ).loc Cert.InGIdeal.main_arg3)
          ∧ r.2.mem ((c.tc : Thread Cert.InGIdeal.nD Cert.InGIdeal.τ).loc Cert.InGIdeal.main_arg4) = m ((c.tc : Thread Cert.InGIdeal.nD Cert.InGIdeal.τ).loc Cert.InGIdeal.main_arg4)
          ∧ r.2.mem ((c.tc : Thread Cert.InGIdeal.nD Cert.InGIdeal.τ).loc Cert.InGIdeal.main_arg5) = m ((c.tc : Thread Cert.InGIdeal.nD Cert.InGIdeal.τ).loc Cert.InGIdeal.main_arg5)
          ∧ r.2.mem ((c.tc : Thread Cert.InGIdeal.nD Cert.InGIdeal.τ).loc Cert.InGIdeal.main_arg6) = m ((c.tc : Thread Cert.InGIdeal.nD Cert.InGIdeal.τ).loc Cert.InGIdeal.main_arg6))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v13) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1)
          ∧ r.2.mem ((c.tc : Thread Cert.InGRefIdeal.nD Cert.InGRefIdeal.τ).loc Cert.InGRefIdeal.main_arg2) = m' ((c.tc : Thread Cert.InGRefIdeal.nD Cert.InGRefIdeal.τ).loc Cert.InGRefIdeal.main_arg2)
          ∧ r.2.mem ((c.tc : Thread Cert.InGRefIdeal.nD Cert.InGRefIdeal.τ).loc Cert.InGRefIdeal.main_arg3) = m' ((c.tc : Thread Cert.InGRefIdeal.nD Cert.InGRefIdeal.τ).loc Cert.InGRefIdeal.main_arg3)
          ∧ r.2.mem ((c.tc : Thread Cert.InGRefIdeal.nD Cert.InGRefIdeal.τ).loc Cert.InGRefIdeal.main_arg4) = m' ((c.tc : Thread Cert.InGRefIdeal.nD Cert.InGRefIdeal.τ).loc Cert.InGRefIdeal.main_arg4)
          ∧ r.2.mem ((c.tc : Thread Cert.InGRefIdeal.nD Cert.InGRefIdeal.τ).loc Cert.InGRefIdeal.main_arg5) = m' ((c.tc : Thread Cert.InGRefIdeal.nD Cert.InGRefIdeal.τ).loc Cert.InGRefIdeal.main_arg5)
          ∧ r.2.mem ((c.tc : Thread Cert.InGRefIdeal.nD Cert.InGRefIdeal.τ).loc Cert.InGRefIdeal.main_arg6) = m' ((c.tc : Thread Cert.InGRefIdeal.nD Cert.InGRefIdeal.τ).loc Cert.InGRefIdeal.main_arg6))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)) →
    ∃ (v0 : (c : Dev Cert.GateBIdeal.nD) → Buf (Elt Ideal) ((c.tc : Thread Cert.GateBIdeal.nD Cert.GateBIdeal.τ).loc Cert.GateBIdeal.main_v0_0)) (v1 : (c : Dev Cert.GateBIdeal.nD) → Buf (Elt Ideal) ((c.tc : Thread Cert.GateBIdeal.nD Cert.GateBIdeal.τ).loc Cert.GateBIdeal.main_v0_1)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0_0) = v0 c
          ∧ r.2.mem ((c.tc : Thread Cert.GateBIdeal.nD Cert.GateBIdeal.τ).loc Cert.GateBIdeal.main_v0_1) = v1 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v8) = v0 c
          ∧ r.2.mem ((c.tc : Thread Cert.GateBRefIdeal.nD Cert.GateBRefIdeal.τ).loc Cert.GateBRefIdeal.main_v7) = v1 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v10) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v46) = v3 c
          ∧ r.2.mem ((c.tc : Thread Cert.MergeRefIdeal.nD Cert.MergeRefIdeal.τ).loc Cert.MergeRefIdeal.main_v48) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_PoolMixB_PoolMixBIdeal : Prop :=
  True

def algebraic_PoolMixBIdeal_PoolMixBRefIdeal [hPoolMixBIdeal : Cert.PoolMixBIdeal.Facts] [hPoolMixBRefIdeal : Cert.PoolMixBRefIdeal.Facts] : Prop :=
  ∀ (m : (ℓ : Loc Cert.PoolMixBIdeal.nD Cert.PoolMixBIdeal.τ Cert.PoolMixBIdeal.sig) → Buf (Elt Ideal) ℓ) (g : Dev Cert.PoolMixBIdeal.nD → PrngReg)
    (m' : (ℓ : Loc Cert.PoolMixBRefIdeal.nD Cert.PoolMixBRefIdeal.τ Cert.PoolMixBRefIdeal.sig) → Buf (Elt Ideal) ℓ) (g' : Dev Cert.PoolMixBRefIdeal.nD → PrngReg), Pre_PoolMixBIdeal m →
    (∀ c : Dev Cert.PoolMixBIdeal.nD,
      m' ((c.tc : Thread Cert.PoolMixBRefIdeal.nD Cert.PoolMixBRefIdeal.τ).loc Cert.PoolMixBRefIdeal.main_arg0) = m ((c.tc : Thread Cert.PoolMixBIdeal.nD Cert.PoolMixBIdeal.τ).loc Cert.PoolMixBIdeal.main_arg0)
      ∧ m' ((c.tc : Thread Cert.PoolMixBRefIdeal.nD Cert.PoolMixBRefIdeal.τ).loc Cert.PoolMixBRefIdeal.main_arg1) = m ((c.tc : Thread Cert.PoolMixBIdeal.nD Cert.PoolMixBIdeal.τ).loc Cert.PoolMixBIdeal.main_arg1)
      ∧ m' ((c.tc : Thread Cert.PoolMixBRefIdeal.nD Cert.PoolMixBRefIdeal.τ).loc Cert.PoolMixBRefIdeal.main_arg2) = m ((c.tc : Thread Cert.PoolMixBIdeal.nD Cert.PoolMixBIdeal.τ).loc Cert.PoolMixBIdeal.main_arg2)
      ∧ m' ((c.tc : Thread Cert.PoolMixBRefIdeal.nD Cert.PoolMixBRefIdeal.τ).loc Cert.PoolMixBRefIdeal.main_arg3) = m ((c.tc : Thread Cert.PoolMixBIdeal.nD Cert.PoolMixBIdeal.τ).loc Cert.PoolMixBIdeal.main_arg3)) →
    ∃ (v0 : (c : Dev Cert.PoolMixBIdeal.nD) → Buf (Elt Ideal) ((c.tc : Thread Cert.PoolMixBIdeal.nD Cert.PoolMixBIdeal.τ).loc Cert.PoolMixBIdeal.main_v0_0)) (v1 : (c : Dev Cert.PoolMixBIdeal.nD) → Buf (Elt Ideal) ((c.tc : Thread Cert.PoolMixBIdeal.nD Cert.PoolMixBIdeal.τ).loc Cert.PoolMixBIdeal.main_v0_1)) (v2 : (c : Dev Cert.PoolMixBIdeal.nD) → Buf (Elt Ideal) ((c.tc : Thread Cert.PoolMixBIdeal.nD Cert.PoolMixBIdeal.τ).loc Cert.PoolMixBIdeal.main_v0_2)),
      θ_run (Cert.PoolMixBIdeal.defs (F := Ideal)) (onTc (τ := Cert.PoolMixBIdeal.τ) (Cert.PoolMixBIdeal.main (F := Ideal))) ⟨m, fun _ => 0, g⟩ (fun r => ∀ c : Dev Cert.PoolMixBIdeal.nD,
          r.2.mem ((c.tc : Thread Cert.PoolMixBIdeal.nD Cert.PoolMixBIdeal.τ).loc Cert.PoolMixBIdeal.main_v0_0) = v0 c
          ∧ r.2.mem ((c.tc : Thread Cert.PoolMixBIdeal.nD Cert.PoolMixBIdeal.τ).loc Cert.PoolMixBIdeal.main_v0_1) = v1 c
          ∧ r.2.mem ((c.tc : Thread Cert.PoolMixBIdeal.nD Cert.PoolMixBIdeal.τ).loc Cert.PoolMixBIdeal.main_v0_2) = v2 c
          ∧ r.2.mem ((c.tc : Thread Cert.PoolMixBIdeal.nD Cert.PoolMixBIdeal.τ).loc Cert.PoolMixBIdeal.main_arg0) = m ((c.tc : Thread Cert.PoolMixBIdeal.nD Cert.PoolMixBIdeal.τ).loc Cert.PoolMixBIdeal.main_arg0)
          ∧ r.2.mem ((c.tc : Thread Cert.PoolMixBIdeal.nD Cert.PoolMixBIdeal.τ).loc Cert.PoolMixBIdeal.main_arg1) = m ((c.tc : Thread Cert.PoolMixBIdeal.nD Cert.PoolMixBIdeal.τ).loc Cert.PoolMixBIdeal.main_arg1)
          ∧ r.2.mem ((c.tc : Thread Cert.PoolMixBIdeal.nD Cert.PoolMixBIdeal.τ).loc Cert.PoolMixBIdeal.main_arg2) = m ((c.tc : Thread Cert.PoolMixBIdeal.nD Cert.PoolMixBIdeal.τ).loc Cert.PoolMixBIdeal.main_arg2)
          ∧ r.2.mem ((c.tc : Thread Cert.PoolMixBIdeal.nD Cert.PoolMixBIdeal.τ).loc Cert.PoolMixBIdeal.main_arg3) = m ((c.tc : Thread Cert.PoolMixBIdeal.nD Cert.PoolMixBIdeal.τ).loc Cert.PoolMixBIdeal.main_arg3))
      ∧ θ_run (Cert.PoolMixBRefIdeal.defs (F := Ideal)) (onTc (τ := Cert.PoolMixBRefIdeal.τ) (Cert.PoolMixBRefIdeal.main (F := Ideal))) ⟨m', fun _ => 0, g'⟩ (fun r => ∀ c : Dev Cert.PoolMixBRefIdeal.nD,
          r.2.mem ((c.tc : Thread Cert.PoolMixBRefIdeal.nD Cert.PoolMixBRefIdeal.τ).loc Cert.PoolMixBRefIdeal.main_v21) = v0 c
          ∧ r.2.mem ((c.tc : Thread Cert.PoolMixBRefIdeal.nD Cert.PoolMixBRefIdeal.τ).loc Cert.PoolMixBRefIdeal.main_v19) = v1 c
          ∧ r.2.mem ((c.tc : Thread Cert.PoolMixBRefIdeal.nD Cert.PoolMixBRefIdeal.τ).loc Cert.PoolMixBRefIdeal.main_v11) = v2 c
          ∧ r.2.mem ((c.tc : Thread Cert.PoolMixBRefIdeal.nD Cert.PoolMixBRefIdeal.τ).loc Cert.PoolMixBRefIdeal.main_arg0) = m' ((c.tc : Thread Cert.PoolMixBRefIdeal.nD Cert.PoolMixBRefIdeal.τ).loc Cert.PoolMixBRefIdeal.main_arg0)
          ∧ r.2.mem ((c.tc : Thread Cert.PoolMixBRefIdeal.nD Cert.PoolMixBRefIdeal.τ).loc Cert.PoolMixBRefIdeal.main_arg1) = m' ((c.tc : Thread Cert.PoolMixBRefIdeal.nD Cert.PoolMixBRefIdeal.τ).loc Cert.PoolMixBRefIdeal.main_arg1)
          ∧ r.2.mem ((c.tc : Thread Cert.PoolMixBRefIdeal.nD Cert.PoolMixBRefIdeal.τ).loc Cert.PoolMixBRefIdeal.main_arg2) = m' ((c.tc : Thread Cert.PoolMixBRefIdeal.nD Cert.PoolMixBRefIdeal.τ).loc Cert.PoolMixBRefIdeal.main_arg2)
          ∧ r.2.mem ((c.tc : Thread Cert.PoolMixBRefIdeal.nD Cert.PoolMixBRefIdeal.τ).loc Cert.PoolMixBRefIdeal.main_arg3) = m' ((c.tc : Thread Cert.PoolMixBRefIdeal.nD Cert.PoolMixBRefIdeal.τ).loc Cert.PoolMixBRefIdeal.main_arg3))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)
      ∧ m' ((c.tc : Thread Cert.PoolMixRefIdeal.nD Cert.PoolMixRefIdeal.τ).loc Cert.PoolMixRefIdeal.main_arg2) = m ((c.tc : Thread Cert.PoolMixIdeal.nD Cert.PoolMixIdeal.τ).loc Cert.PoolMixIdeal.main_arg2)) →
    ∃ (v0 : (c : Dev Cert.PoolMixIdeal.nD) → Buf (Elt Ideal) ((c.tc : Thread Cert.PoolMixIdeal.nD Cert.PoolMixIdeal.τ).loc Cert.PoolMixIdeal.main_v0)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0) = v0 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v8) = v0 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1)
          ∧ r.2.mem ((c.tc : Thread Cert.PoolMixRefIdeal.nD Cert.PoolMixRefIdeal.τ).loc Cert.PoolMixRefIdeal.main_arg2) = m' ((c.tc : Thread Cert.PoolMixRefIdeal.nD Cert.PoolMixRefIdeal.τ).loc Cert.PoolMixRefIdeal.main_arg2))

def preserves_SwigluF_SwigluFIdeal : Prop :=
  True

def algebraic_SwigluFIdeal_SwigluFRefIdeal [hSwigluFIdeal : Cert.SwigluFIdeal.Facts] [hSwigluFRefIdeal : Cert.SwigluFRefIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg)
    (m' : (ℓ : Loc Cert.SwigluFRefIdeal.nD Cert.SwigluFRefIdeal.τ Cert.SwigluFRefIdeal.sig) → Buf (Elt Ideal) ℓ) (g' : Dev Cert.SwigluFRefIdeal.nD → PrngReg), Pre_SwigluFIdeal m →
    (∀ c : Dev Cert.SwigluFIdeal.nD,
      m' ((c.tc : Thread Cert.SwigluFRefIdeal.nD Cert.SwigluFRefIdeal.τ).loc Cert.SwigluFRefIdeal.main_arg0) = m ((c.tc : Thread Cert.SwigluFIdeal.nD Cert.SwigluFIdeal.τ).loc Cert.SwigluFIdeal.main_arg0)) →
    ∃ (v0 : (c : Dev Cert.SwigluFIdeal.nD) → Buf (Elt Ideal) ((c.tc : Thread Cert.SwigluFIdeal.nD Cert.SwigluFIdeal.τ).loc Cert.SwigluFIdeal.main_v0)),
      θ_run (Cert.SwigluFIdeal.defs (F := Ideal)) (onTc (τ := Cert.SwigluFIdeal.τ) (Cert.SwigluFIdeal.main (F := Ideal))) ⟨m, fun _ => 0, g⟩ (fun r => ∀ c : Dev Cert.SwigluFIdeal.nD,
          r.2.mem ((c.tc : Thread Cert.SwigluFIdeal.nD Cert.SwigluFIdeal.τ).loc Cert.SwigluFIdeal.main_v0) = v0 c
          ∧ r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ θ_run (Cert.SwigluFRefIdeal.defs (F := Ideal)) (onTc (τ := Cert.SwigluFRefIdeal.τ) (Cert.SwigluFRefIdeal.main (F := Ideal))) ⟨m', fun _ => 0, g'⟩ (fun r => ∀ c : Dev Cert.SwigluFRefIdeal.nD,
          r.2.mem ((c.tc : Thread Cert.SwigluFRefIdeal.nD Cert.SwigluFRefIdeal.τ).loc Cert.SwigluFRefIdeal.main_v5) = v0 c
          ∧ r.2.mem ((c.tc : Thread Cert.SwigluFRefIdeal.nD Cert.SwigluFRefIdeal.τ).loc Cert.SwigluFRefIdeal.main_arg0) = m' ((c.tc : Thread Cert.SwigluFRefIdeal.nD Cert.SwigluFRefIdeal.τ).loc Cert.SwigluFRefIdeal.main_arg0))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v23) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)
      ∧ m' ((c.tc : Thread Cert.NormBRefIdeal.nD Cert.NormBRefIdeal.τ).loc Cert.NormBRefIdeal.main_arg4) = m ((c.tc : Thread Cert.NormBIdeal.nD Cert.NormBIdeal.τ).loc Cert.NormBIdeal.main_arg4)
      ∧ m' ((c.tc : Thread Cert.NormBRefIdeal.nD Cert.NormBRefIdeal.τ).loc Cert.NormBRefIdeal.main_arg5) = m ((c.tc : Thread Cert.NormBIdeal.nD Cert.NormBIdeal.τ).loc Cert.NormBIdeal.main_arg5)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)) (v2 : (c : Dev Cert.NormBIdeal.nD) → Buf (Elt Ideal) ((c.tc : Thread Cert.NormBIdeal.nD Cert.NormBIdeal.τ).loc Cert.NormBIdeal.main_v0_2)) (v3 : (c : Dev Cert.NormBIdeal.nD) → Buf (Elt Ideal) ((c.tc : Thread Cert.NormBIdeal.nD Cert.NormBIdeal.τ).loc Cert.NormBIdeal.main_v0_3)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_v0_2) = v2 c
          ∧ r.2.mem ((c.tc : Thread Cert.NormBIdeal.nD Cert.NormBIdeal.τ).loc Cert.NormBIdeal.main_v0_3) = v3 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4)
          ∧ r.2.mem ((c.tc : Thread Cert.NormBIdeal.nD Cert.NormBIdeal.τ).loc Cert.NormBIdeal.main_arg5) = m ((c.tc : Thread Cert.NormBIdeal.nD Cert.NormBIdeal.τ).loc Cert.NormBIdeal.main_arg5))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v48) = v0 c
          ∧ r.2.mem ((c.tc : Thread Cert.NormBRefIdeal.nD Cert.NormBRefIdeal.τ).loc Cert.NormBRefIdeal.main_v31) = v1 c
          ∧ r.2.mem ((c.tc : Thread Cert.NormBRefIdeal.nD Cert.NormBRefIdeal.τ).loc Cert.NormBRefIdeal.main_v26) = v2 c
          ∧ r.2.mem ((c.tc : Thread Cert.NormBRefIdeal.nD Cert.NormBRefIdeal.τ).loc Cert.NormBRefIdeal.main_v23) = v3 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3)
          ∧ r.2.mem ((c.tc : Thread Cert.NormBRefIdeal.nD Cert.NormBRefIdeal.τ).loc Cert.NormBRefIdeal.main_arg4) = m' ((c.tc : Thread Cert.NormBRefIdeal.nD Cert.NormBRefIdeal.τ).loc Cert.NormBRefIdeal.main_arg4)
          ∧ r.2.mem ((c.tc : Thread Cert.NormBRefIdeal.nD Cert.NormBRefIdeal.τ).loc Cert.NormBRefIdeal.main_arg5) = m' ((c.tc : Thread Cert.NormBRefIdeal.nD Cert.NormBRefIdeal.τ).loc Cert.NormBRefIdeal.main_arg5))

def preserves_NormGateB_NormGateBIdeal : Prop :=
  True

def algebraic_NormGateBIdeal_NormGateBRefIdeal [hNormGateBIdeal : Cert.NormGateBIdeal.Facts] [hNormGateBRefIdeal : Cert.NormGateBRefIdeal.Facts] : Prop :=
  ∀ (m : (ℓ : Loc Cert.NormGateBIdeal.nD Cert.NormGateBIdeal.τ Cert.NormGateBIdeal.sig) → Buf (Elt Ideal) ℓ) (g : Dev Cert.NormGateBIdeal.nD → PrngReg)
    (m' : (ℓ : Loc Cert.NormGateBRefIdeal.nD Cert.NormGateBRefIdeal.τ Cert.NormGateBRefIdeal.sig) → Buf (Elt Ideal) ℓ) (g' : Dev Cert.NormGateBRefIdeal.nD → PrngReg), Pre_NormGateBIdeal m →
    (∀ c : Dev Cert.NormGateBIdeal.nD,
      m' ((c.tc : Thread Cert.NormGateBRefIdeal.nD Cert.NormGateBRefIdeal.τ).loc Cert.NormGateBRefIdeal.main_arg0) = m ((c.tc : Thread Cert.NormGateBIdeal.nD Cert.NormGateBIdeal.τ).loc Cert.NormGateBIdeal.main_arg0)
      ∧ m' ((c.tc : Thread Cert.NormGateBRefIdeal.nD Cert.NormGateBRefIdeal.τ).loc Cert.NormGateBRefIdeal.main_arg1) = m ((c.tc : Thread Cert.NormGateBIdeal.nD Cert.NormGateBIdeal.τ).loc Cert.NormGateBIdeal.main_arg1)
      ∧ m' ((c.tc : Thread Cert.NormGateBRefIdeal.nD Cert.NormGateBRefIdeal.τ).loc Cert.NormGateBRefIdeal.main_arg2) = m ((c.tc : Thread Cert.NormGateBIdeal.nD Cert.NormGateBIdeal.τ).loc Cert.NormGateBIdeal.main_arg2)
      ∧ m' ((c.tc : Thread Cert.NormGateBRefIdeal.nD Cert.NormGateBRefIdeal.τ).loc Cert.NormGateBRefIdeal.main_arg3) = m ((c.tc : Thread Cert.NormGateBIdeal.nD Cert.NormGateBIdeal.τ).loc Cert.NormGateBIdeal.main_arg3)
      ∧ m' ((c.tc : Thread Cert.NormGateBRefIdeal.nD Cert.NormGateBRefIdeal.τ).loc Cert.NormGateBRefIdeal.main_arg4) = m ((c.tc : Thread Cert.NormGateBIdeal.nD Cert.NormGateBIdeal.τ).loc Cert.NormGateBIdeal.main_arg4)
      ∧ m' ((c.tc : Thread Cert.NormGateBRefIdeal.nD Cert.NormGateBRefIdeal.τ).loc Cert.NormGateBRefIdeal.main_arg5) = m ((c.tc : Thread Cert.NormGateBIdeal.nD Cert.NormGateBIdeal.τ).loc Cert.NormGateBIdeal.main_arg5)
      ∧ m' ((c.tc : Thread Cert.NormGateBRefIdeal.nD Cert.NormGateBRefIdeal.τ).loc Cert.NormGateBRefIdeal.main_arg6) = m ((c.tc : Thread Cert.NormGateBIdeal.nD Cert.NormGateBIdeal.τ).loc Cert.NormGateBIdeal.main_arg6)
      ∧ m' ((c.tc : Thread Cert.NormGateBRefIdeal.nD Cert.NormGateBRefIdeal.τ).loc Cert.NormGateBRefIdeal.main_arg7) = m ((c.tc : Thread Cert.NormGateBIdeal.nD Cert.NormGateBIdeal.τ).loc Cert.NormGateBIdeal.main_arg7)) →
    ∃ (v0 : (c : Dev Cert.NormGateBIdeal.nD) → Buf (Elt Ideal) ((c.tc : Thread Cert.NormGateBIdeal.nD Cert.NormGateBIdeal.τ).loc Cert.NormGateBIdeal.main_v0_0)) (v1 : (c : Dev Cert.NormGateBIdeal.nD) → Buf (Elt Ideal) ((c.tc : Thread Cert.NormGateBIdeal.nD Cert.NormGateBIdeal.τ).loc Cert.NormGateBIdeal.main_v0_1)) (v2 : (c : Dev Cert.NormGateBIdeal.nD) → Buf (Elt Ideal) ((c.tc : Thread Cert.NormGateBIdeal.nD Cert.NormGateBIdeal.τ).loc Cert.NormGateBIdeal.main_v0_2)) (v3 : (c : Dev Cert.NormGateBIdeal.nD) → Buf (Elt Ideal) ((c.tc : Thread Cert.NormGateBIdeal.nD Cert.NormGateBIdeal.τ).loc Cert.NormGateBIdeal.main_v0_3)) (v4 : (c : Dev Cert.NormGateBIdeal.nD) → Buf (Elt Ideal) ((c.tc : Thread Cert.NormGateBIdeal.nD Cert.NormGateBIdeal.τ).loc Cert.NormGateBIdeal.main_v0_4)) (v5 : (c : Dev Cert.NormGateBIdeal.nD) → Buf (Elt Ideal) ((c.tc : Thread Cert.NormGateBIdeal.nD Cert.NormGateBIdeal.τ).loc Cert.NormGateBIdeal.main_v0_5)),
      θ_run (Cert.NormGateBIdeal.defs (F := Ideal)) (onTc (τ := Cert.NormGateBIdeal.τ) (Cert.NormGateBIdeal.main (F := Ideal))) ⟨m, fun _ => 0, g⟩ (fun r => ∀ c : Dev Cert.NormGateBIdeal.nD,
          r.2.mem ((c.tc : Thread Cert.NormGateBIdeal.nD Cert.NormGateBIdeal.τ).loc Cert.NormGateBIdeal.main_v0_0) = v0 c
          ∧ r.2.mem ((c.tc : Thread Cert.NormGateBIdeal.nD Cert.NormGateBIdeal.τ).loc Cert.NormGateBIdeal.main_v0_1) = v1 c
          ∧ r.2.mem ((c.tc : Thread Cert.NormGateBIdeal.nD Cert.NormGateBIdeal.τ).loc Cert.NormGateBIdeal.main_v0_2) = v2 c
          ∧ r.2.mem ((c.tc : Thread Cert.NormGateBIdeal.nD Cert.NormGateBIdeal.τ).loc Cert.NormGateBIdeal.main_v0_3) = v3 c
          ∧ r.2.mem ((c.tc : Thread Cert.NormGateBIdeal.nD Cert.NormGateBIdeal.τ).loc Cert.NormGateBIdeal.main_v0_4) = v4 c
          ∧ r.2.mem ((c.tc : Thread Cert.NormGateBIdeal.nD Cert.NormGateBIdeal.τ).loc Cert.NormGateBIdeal.main_v0_5) = v5 c
          ∧ r.2.mem ((c.tc : Thread Cert.NormGateBIdeal.nD Cert.NormGateBIdeal.τ).loc Cert.NormGateBIdeal.main_arg0) = m ((c.tc : Thread Cert.NormGateBIdeal.nD Cert.NormGateBIdeal.τ).loc Cert.NormGateBIdeal.main_arg0)
          ∧ r.2.mem ((c.tc : Thread Cert.NormGateBIdeal.nD Cert.NormGateBIdeal.τ).loc Cert.NormGateBIdeal.main_arg1) = m ((c.tc : Thread Cert.NormGateBIdeal.nD Cert.NormGateBIdeal.τ).loc Cert.NormGateBIdeal.main_arg1)
          ∧ r.2.mem ((c.tc : Thread Cert.NormGateBIdeal.nD Cert.NormGateBIdeal.τ).loc Cert.NormGateBIdeal.main_arg2) = m ((c.tc : Thread Cert.NormGateBIdeal.nD Cert.NormGateBIdeal.τ).loc Cert.NormGateBIdeal.main_arg2)
          ∧ r.2.mem ((c.tc : Thread Cert.NormGateBIdeal.nD Cert.NormGateBIdeal.τ).loc Cert.NormGateBIdeal.main_arg3) = m ((c.tc : Thread Cert.NormGateBIdeal.nD Cert.NormGateBIdeal.τ).loc Cert.NormGateBIdeal.main_arg3)
          ∧ r.2.mem ((c.tc : Thread Cert.NormGateBIdeal.nD Cert.NormGateBIdeal.τ).loc Cert.NormGateBIdeal.main_arg4) = m ((c.tc : Thread Cert.NormGateBIdeal.nD Cert.NormGateBIdeal.τ).loc Cert.NormGateBIdeal.main_arg4)
          ∧ r.2.mem ((c.tc : Thread Cert.NormGateBIdeal.nD Cert.NormGateBIdeal.τ).loc Cert.NormGateBIdeal.main_arg5) = m ((c.tc : Thread Cert.NormGateBIdeal.nD Cert.NormGateBIdeal.τ).loc Cert.NormGateBIdeal.main_arg5)
          ∧ r.2.mem ((c.tc : Thread Cert.NormGateBIdeal.nD Cert.NormGateBIdeal.τ).loc Cert.NormGateBIdeal.main_arg6) = m ((c.tc : Thread Cert.NormGateBIdeal.nD Cert.NormGateBIdeal.τ).loc Cert.NormGateBIdeal.main_arg6)
          ∧ r.2.mem ((c.tc : Thread Cert.NormGateBIdeal.nD Cert.NormGateBIdeal.τ).loc Cert.NormGateBIdeal.main_arg7) = m ((c.tc : Thread Cert.NormGateBIdeal.nD Cert.NormGateBIdeal.τ).loc Cert.NormGateBIdeal.main_arg7))
      ∧ θ_run (Cert.NormGateBRefIdeal.defs (F := Ideal)) (onTc (τ := Cert.NormGateBRefIdeal.τ) (Cert.NormGateBRefIdeal.main (F := Ideal))) ⟨m', fun _ => 0, g'⟩ (fun r => ∀ c : Dev Cert.NormGateBRefIdeal.nD,
          r.2.mem ((c.tc : Thread Cert.NormGateBRefIdeal.nD Cert.NormGateBRefIdeal.τ).loc Cert.NormGateBRefIdeal.main_v48) = v0 c
          ∧ r.2.mem ((c.tc : Thread Cert.NormGateBRefIdeal.nD Cert.NormGateBRefIdeal.τ).loc Cert.NormGateBRefIdeal.main_v57) = v1 c
          ∧ r.2.mem ((c.tc : Thread Cert.NormGateBRefIdeal.nD Cert.NormGateBRefIdeal.τ).loc Cert.NormGateBRefIdeal.main_v31) = v2 c
          ∧ r.2.mem ((c.tc : Thread Cert.NormGateBRefIdeal.nD Cert.NormGateBRefIdeal.τ).loc Cert.NormGateBRefIdeal.main_v26) = v3 c
          ∧ r.2.mem ((c.tc : Thread Cert.NormGateBRefIdeal.nD Cert.NormGateBRefIdeal.τ).loc Cert.NormGateBRefIdeal.main_v23) = v4 c
          ∧ r.2.mem ((c.tc : Thread Cert.NormGateBRefIdeal.nD Cert.NormGateBRefIdeal.τ).loc Cert.NormGateBRefIdeal.main_v56) = v5 c
          ∧ r.2.mem ((c.tc : Thread Cert.NormGateBRefIdeal.nD Cert.NormGateBRefIdeal.τ).loc Cert.NormGateBRefIdeal.main_arg0) = m' ((c.tc : Thread Cert.NormGateBRefIdeal.nD Cert.NormGateBRefIdeal.τ).loc Cert.NormGateBRefIdeal.main_arg0)
          ∧ r.2.mem ((c.tc : Thread Cert.NormGateBRefIdeal.nD Cert.NormGateBRefIdeal.τ).loc Cert.NormGateBRefIdeal.main_arg1) = m' ((c.tc : Thread Cert.NormGateBRefIdeal.nD Cert.NormGateBRefIdeal.τ).loc Cert.NormGateBRefIdeal.main_arg1)
          ∧ r.2.mem ((c.tc : Thread Cert.NormGateBRefIdeal.nD Cert.NormGateBRefIdeal.τ).loc Cert.NormGateBRefIdeal.main_arg2) = m' ((c.tc : Thread Cert.NormGateBRefIdeal.nD Cert.NormGateBRefIdeal.τ).loc Cert.NormGateBRefIdeal.main_arg2)
          ∧ r.2.mem ((c.tc : Thread Cert.NormGateBRefIdeal.nD Cert.NormGateBRefIdeal.τ).loc Cert.NormGateBRefIdeal.main_arg3) = m' ((c.tc : Thread Cert.NormGateBRefIdeal.nD Cert.NormGateBRefIdeal.τ).loc Cert.NormGateBRefIdeal.main_arg3)
          ∧ r.2.mem ((c.tc : Thread Cert.NormGateBRefIdeal.nD Cert.NormGateBRefIdeal.τ).loc Cert.NormGateBRefIdeal.main_arg4) = m' ((c.tc : Thread Cert.NormGateBRefIdeal.nD Cert.NormGateBRefIdeal.τ).loc Cert.NormGateBRefIdeal.main_arg4)
          ∧ r.2.mem ((c.tc : Thread Cert.NormGateBRefIdeal.nD Cert.NormGateBRefIdeal.τ).loc Cert.NormGateBRefIdeal.main_arg5) = m' ((c.tc : Thread Cert.NormGateBRefIdeal.nD Cert.NormGateBRefIdeal.τ).loc Cert.NormGateBRefIdeal.main_arg5)
          ∧ r.2.mem ((c.tc : Thread Cert.NormGateBRefIdeal.nD Cert.NormGateBRefIdeal.τ).loc Cert.NormGateBRefIdeal.main_arg6) = m' ((c.tc : Thread Cert.NormGateBRefIdeal.nD Cert.NormGateBRefIdeal.τ).loc Cert.NormGateBRefIdeal.main_arg6)
          ∧ r.2.mem ((c.tc : Thread Cert.NormGateBRefIdeal.nD Cert.NormGateBRefIdeal.τ).loc Cert.NormGateBRefIdeal.main_arg7) = m' ((c.tc : Thread Cert.NormGateBRefIdeal.nD Cert.NormGateBRefIdeal.τ).loc Cert.NormGateBRefIdeal.main_arg7))

def preserves_ConvActB_ConvActBIdeal : Prop :=
  True

def algebraic_ConvActBIdeal_ConvActBRefIdeal [hConvActBIdeal : Cert.ConvActBIdeal.Facts] [hConvActBRefIdeal : Cert.ConvActBRefIdeal.Facts] : Prop :=
  ∀ (m : (ℓ : Loc Cert.ConvActBIdeal.nD Cert.ConvActBIdeal.τ Cert.ConvActBIdeal.sig) → Buf (Elt Ideal) ℓ) (g : Dev Cert.ConvActBIdeal.nD → PrngReg)
    (m' : (ℓ : Loc Cert.ConvActBRefIdeal.nD Cert.ConvActBRefIdeal.τ Cert.ConvActBRefIdeal.sig) → Buf (Elt Ideal) ℓ) (g' : Dev Cert.ConvActBRefIdeal.nD → PrngReg), Pre_ConvActBIdeal m →
    (∀ c : Dev Cert.ConvActBIdeal.nD,
      m' ((c.tc : Thread Cert.ConvActBRefIdeal.nD Cert.ConvActBRefIdeal.τ).loc Cert.ConvActBRefIdeal.main_arg0) = m ((c.tc : Thread Cert.ConvActBIdeal.nD Cert.ConvActBIdeal.τ).loc Cert.ConvActBIdeal.main_arg0)
      ∧ m' ((c.tc : Thread Cert.ConvActBRefIdeal.nD Cert.ConvActBRefIdeal.τ).loc Cert.ConvActBRefIdeal.main_arg1) = m ((c.tc : Thread Cert.ConvActBIdeal.nD Cert.ConvActBIdeal.τ).loc Cert.ConvActBIdeal.main_arg1)
      ∧ m' ((c.tc : Thread Cert.ConvActBRefIdeal.nD Cert.ConvActBRefIdeal.τ).loc Cert.ConvActBRefIdeal.main_arg2) = m ((c.tc : Thread Cert.ConvActBIdeal.nD Cert.ConvActBIdeal.τ).loc Cert.ConvActBIdeal.main_arg2)
      ∧ m' ((c.tc : Thread Cert.ConvActBRefIdeal.nD Cert.ConvActBRefIdeal.τ).loc Cert.ConvActBRefIdeal.main_arg3) = m ((c.tc : Thread Cert.ConvActBIdeal.nD Cert.ConvActBIdeal.τ).loc Cert.ConvActBIdeal.main_arg3)) →
    ∃ (v0 : (c : Dev Cert.ConvActBIdeal.nD) → Buf (Elt Ideal) ((c.tc : Thread Cert.ConvActBIdeal.nD Cert.ConvActBIdeal.τ).loc Cert.ConvActBIdeal.main_v0_0)) (v1 : (c : Dev Cert.ConvActBIdeal.nD) → Buf (Elt Ideal) ((c.tc : Thread Cert.ConvActBIdeal.nD Cert.ConvActBIdeal.τ).loc Cert.ConvActBIdeal.main_v0_1)) (v2 : (c : Dev Cert.ConvActBIdeal.nD) → Buf (Elt Ideal) ((c.tc : Thread Cert.ConvActBIdeal.nD Cert.ConvActBIdeal.τ).loc Cert.ConvActBIdeal.main_v0_2)),
      θ_run (Cert.ConvActBIdeal.defs (F := Ideal)) (onTc (τ := Cert.ConvActBIdeal.τ) (Cert.ConvActBIdeal.main (F := Ideal))) ⟨m, fun _ => 0, g⟩ (fun r => ∀ c : Dev Cert.ConvActBIdeal.nD,
          r.2.mem ((c.tc : Thread Cert.ConvActBIdeal.nD Cert.ConvActBIdeal.τ).loc Cert.ConvActBIdeal.main_v0_0) = v0 c
          ∧ r.2.mem ((c.tc : Thread Cert.ConvActBIdeal.nD Cert.ConvActBIdeal.τ).loc Cert.ConvActBIdeal.main_v0_1) = v1 c
          ∧ r.2.mem ((c.tc : Thread Cert.ConvActBIdeal.nD Cert.ConvActBIdeal.τ).loc Cert.ConvActBIdeal.main_v0_2) = v2 c
          ∧ r.2.mem ((c.tc : Thread Cert.ConvActBIdeal.nD Cert.ConvActBIdeal.τ).loc Cert.ConvActBIdeal.main_arg0) = m ((c.tc : Thread Cert.ConvActBIdeal.nD Cert.ConvActBIdeal.τ).loc Cert.ConvActBIdeal.main_arg0)
          ∧ r.2.mem ((c.tc : Thread Cert.ConvActBIdeal.nD Cert.ConvActBIdeal.τ).loc Cert.ConvActBIdeal.main_arg1) = m ((c.tc : Thread Cert.ConvActBIdeal.nD Cert.ConvActBIdeal.τ).loc Cert.ConvActBIdeal.main_arg1)
          ∧ r.2.mem ((c.tc : Thread Cert.ConvActBIdeal.nD Cert.ConvActBIdeal.τ).loc Cert.ConvActBIdeal.main_arg2) = m ((c.tc : Thread Cert.ConvActBIdeal.nD Cert.ConvActBIdeal.τ).loc Cert.ConvActBIdeal.main_arg2)
          ∧ r.2.mem ((c.tc : Thread Cert.ConvActBIdeal.nD Cert.ConvActBIdeal.τ).loc Cert.ConvActBIdeal.main_arg3) = m ((c.tc : Thread Cert.ConvActBIdeal.nD Cert.ConvActBIdeal.τ).loc Cert.ConvActBIdeal.main_arg3))
      ∧ θ_run (Cert.ConvActBRefIdeal.defs (F := Ideal)) (onTc (τ := Cert.ConvActBRefIdeal.τ) (Cert.ConvActBRefIdeal.main (F := Ideal))) ⟨m', fun _ => 0, g'⟩ (fun r => ∀ c : Dev Cert.ConvActBRefIdeal.nD,
          r.2.mem ((c.tc : Thread Cert.ConvActBRefIdeal.nD Cert.ConvActBRefIdeal.τ).loc Cert.ConvActBRefIdeal.main_v62) = v0 c
          ∧ r.2.mem ((c.tc : Thread Cert.ConvActBRefIdeal.nD Cert.ConvActBRefIdeal.τ).loc Cert.ConvActBRefIdeal.main_v35) = v1 c
          ∧ r.2.mem ((c.tc : Thread Cert.ConvActBRefIdeal.nD Cert.ConvActBRefIdeal.τ).loc Cert.ConvActBRefIdeal.main_v32) = v2 c
          ∧ r.2.mem ((c.tc : Thread Cert.ConvActBRefIdeal.nD Cert.ConvActBRefIdeal.τ).loc Cert.ConvActBRefIdeal.main_arg0) = m' ((c.tc : Thread Cert.ConvActBRefIdeal.nD Cert.ConvActBRefIdeal.τ).loc Cert.ConvActBRefIdeal.main_arg0)
          ∧ r.2.mem ((c.tc : Thread Cert.ConvActBRefIdeal.nD Cert.ConvActBRefIdeal.τ).loc Cert.ConvActBRefIdeal.main_arg1) = m' ((c.tc : Thread Cert.ConvActBRefIdeal.nD Cert.ConvActBRefIdeal.τ).loc Cert.ConvActBRefIdeal.main_arg1)
          ∧ r.2.mem ((c.tc : Thread Cert.ConvActBRefIdeal.nD Cert.ConvActBRefIdeal.τ).loc Cert.ConvActBRefIdeal.main_arg2) = m' ((c.tc : Thread Cert.ConvActBRefIdeal.nD Cert.ConvActBRefIdeal.τ).loc Cert.ConvActBRefIdeal.main_arg2)
          ∧ r.2.mem ((c.tc : Thread Cert.ConvActBRefIdeal.nD Cert.ConvActBRefIdeal.τ).loc Cert.ConvActBRefIdeal.main_arg3) = m' ((c.tc : Thread Cert.ConvActBRefIdeal.nD Cert.ConvActBRefIdeal.τ).loc Cert.ConvActBRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)
      ∧ m' ((c.tc : Thread Cert.NormFRefIdeal.nD Cert.NormFRefIdeal.τ).loc Cert.NormFRefIdeal.main_arg2) = m ((c.tc : Thread Cert.NormFIdeal.nD Cert.NormFIdeal.τ).loc Cert.NormFIdeal.main_arg2)
      ∧ m' ((c.tc : Thread Cert.NormFRefIdeal.nD Cert.NormFRefIdeal.τ).loc Cert.NormFRefIdeal.main_arg3) = m ((c.tc : Thread Cert.NormFIdeal.nD Cert.NormFIdeal.τ).loc Cert.NormFIdeal.main_arg3)) →
    ∃ (v0 : (c : Dev Cert.NormFIdeal.nD) → Buf (Elt Ideal) ((c.tc : Thread Cert.NormFIdeal.nD Cert.NormFIdeal.τ).loc Cert.NormFIdeal.main_v0)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v0) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
          ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2)
          ∧ r.2.mem ((c.tc : Thread Cert.NormFIdeal.nD Cert.NormFIdeal.τ).loc Cert.NormFIdeal.main_arg3) = m ((c.tc : Thread Cert.NormFIdeal.nD Cert.NormFIdeal.τ).loc Cert.NormFIdeal.main_arg3))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v18) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1)
          ∧ r.2.mem ((c.tc : Thread Cert.NormFRefIdeal.nD Cert.NormFRefIdeal.τ).loc Cert.NormFRefIdeal.main_arg2) = m' ((c.tc : Thread Cert.NormFRefIdeal.nD Cert.NormFRefIdeal.τ).loc Cert.NormFRefIdeal.main_arg2)
          ∧ r.2.mem ((c.tc : Thread Cert.NormFRefIdeal.nD Cert.NormFRefIdeal.τ).loc Cert.NormFRefIdeal.main_arg3) = m' ((c.tc : Thread Cert.NormFRefIdeal.nD Cert.NormFRefIdeal.τ).loc Cert.NormFRefIdeal.main_arg3))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)
      ∧ m' ((c.tc : Thread Cert.ResNormRefIdeal.nD Cert.ResNormRefIdeal.τ).loc Cert.ResNormRefIdeal.main_arg4) = m ((c.tc : Thread Cert.ResNormIdeal.nD Cert.ResNormIdeal.τ).loc Cert.ResNormIdeal.main_arg4)
      ∧ m' ((c.tc : Thread Cert.ResNormRefIdeal.nD Cert.ResNormRefIdeal.τ).loc Cert.ResNormRefIdeal.main_arg5) = m ((c.tc : Thread Cert.ResNormIdeal.nD Cert.ResNormIdeal.τ).loc Cert.ResNormIdeal.main_arg5)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3)
          ∧ r.2.mem ((c.tc : Thread Cert.ResNormIdeal.nD Cert.ResNormIdeal.τ).loc Cert.ResNormIdeal.main_arg4) = m ((c.tc : Thread Cert.ResNormIdeal.nD Cert.ResNormIdeal.τ).loc Cert.ResNormIdeal.main_arg4)
          ∧ r.2.mem ((c.tc : Thread Cert.ResNormIdeal.nD Cert.ResNormIdeal.τ).loc Cert.ResNormIdeal.main_arg5) = m ((c.tc : Thread Cert.ResNormIdeal.nD Cert.ResNormIdeal.τ).loc Cert.ResNormIdeal.main_arg5))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v3) = v0 c
          ∧ r.2.mem ((c.tc : Thread Cert.ResNormRefIdeal.nD Cert.ResNormRefIdeal.τ).loc Cert.ResNormRefIdeal.main_v22) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3)
          ∧ r.2.mem ((c.tc : Thread Cert.ResNormRefIdeal.nD Cert.ResNormRefIdeal.τ).loc Cert.ResNormRefIdeal.main_arg4) = m' ((c.tc : Thread Cert.ResNormRefIdeal.nD Cert.ResNormRefIdeal.τ).loc Cert.ResNormRefIdeal.main_arg4)
          ∧ r.2.mem ((c.tc : Thread Cert.ResNormRefIdeal.nD Cert.ResNormRefIdeal.τ).loc Cert.ResNormRefIdeal.main_arg5) = m' ((c.tc : Thread Cert.ResNormRefIdeal.nD Cert.ResNormRefIdeal.τ).loc Cert.ResNormRefIdeal.main_arg5))

def preserves_ConvAct_ConvActIdeal : Prop :=
  True

def algebraic_ConvActIdeal_ConvActRefIdeal [hConvActIdeal : Cert.ConvActIdeal.Facts] [hConvActRefIdeal : Cert.ConvActRefIdeal.Facts] : Prop :=
  ∀ (m : (ℓ : Loc Cert.ConvActIdeal.nD Cert.ConvActIdeal.τ Cert.ConvActIdeal.sig) → Buf (Elt Ideal) ℓ) (g : Dev Cert.ConvActIdeal.nD → PrngReg)
    (m' : (ℓ : Loc Cert.ConvActRefIdeal.nD Cert.ConvActRefIdeal.τ Cert.ConvActRefIdeal.sig) → Buf (Elt Ideal) ℓ) (g' : Dev Cert.ConvActRefIdeal.nD → PrngReg), Pre_ConvActIdeal m →
    (∀ c : Dev Cert.ConvActIdeal.nD,
      m' ((c.tc : Thread Cert.ConvActRefIdeal.nD Cert.ConvActRefIdeal.τ).loc Cert.ConvActRefIdeal.main_arg0) = m ((c.tc : Thread Cert.ConvActIdeal.nD Cert.ConvActIdeal.τ).loc Cert.ConvActIdeal.main_arg0)
      ∧ m' ((c.tc : Thread Cert.ConvActRefIdeal.nD Cert.ConvActRefIdeal.τ).loc Cert.ConvActRefIdeal.main_arg1) = m ((c.tc : Thread Cert.ConvActIdeal.nD Cert.ConvActIdeal.τ).loc Cert.ConvActIdeal.main_arg1)
      ∧ m' ((c.tc : Thread Cert.ConvActRefIdeal.nD Cert.ConvActRefIdeal.τ).loc Cert.ConvActRefIdeal.main_arg2) = m ((c.tc : Thread Cert.ConvActIdeal.nD Cert.ConvActIdeal.τ).loc Cert.ConvActIdeal.main_arg2)) →
    ∃ (v0 : (c : Dev Cert.ConvActIdeal.nD) → Buf (Elt Ideal) ((c.tc : Thread Cert.ConvActIdeal.nD Cert.ConvActIdeal.τ).loc Cert.ConvActIdeal.main_v0)),
      θ_run (Cert.ConvActIdeal.defs (F := Ideal)) (onTc (τ := Cert.ConvActIdeal.τ) (Cert.ConvActIdeal.main (F := Ideal))) ⟨m, fun _ => 0, g⟩ (fun r => ∀ c : Dev Cert.ConvActIdeal.nD,
          r.2.mem ((c.tc : Thread Cert.ConvActIdeal.nD Cert.ConvActIdeal.τ).loc Cert.ConvActIdeal.main_v0) = v0 c
          ∧ r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
          ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
          ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2))
      ∧ θ_run (Cert.ConvActRefIdeal.defs (F := Ideal)) (onTc (τ := Cert.ConvActRefIdeal.τ) (Cert.ConvActRefIdeal.main (F := Ideal))) ⟨m', fun _ => 0, g'⟩ (fun r => ∀ c : Dev Cert.ConvActRefIdeal.nD,
          r.2.mem ((c.tc : Thread Cert.ConvActRefIdeal.nD Cert.ConvActRefIdeal.τ).loc Cert.ConvActRefIdeal.main_v24) = v0 c
          ∧ r.2.mem ((c.tc : Thread Cert.ConvActRefIdeal.nD Cert.ConvActRefIdeal.τ).loc Cert.ConvActRefIdeal.main_arg0) = m' ((c.tc : Thread Cert.ConvActRefIdeal.nD Cert.ConvActRefIdeal.τ).loc Cert.ConvActRefIdeal.main_arg0)
          ∧ r.2.mem ((c.tc : Thread Cert.ConvActRefIdeal.nD Cert.ConvActRefIdeal.τ).loc Cert.ConvActRefIdeal.main_arg1) = m' ((c.tc : Thread Cert.ConvActRefIdeal.nD Cert.ConvActRefIdeal.τ).loc Cert.ConvActRefIdeal.main_arg1)
          ∧ r.2.mem ((c.tc : Thread Cert.ConvActRefIdeal.nD Cert.ConvActRefIdeal.τ).loc Cert.ConvActRefIdeal.main_arg2) = m' ((c.tc : Thread Cert.ConvActRefIdeal.nD Cert.ConvActRefIdeal.τ).loc Cert.ConvActRefIdeal.main_arg2))

def preserves_SguF_SguFIdeal : Prop :=
  True

def algebraic_SguFIdeal_SguFRefIdeal [hSguFIdeal : Cert.SguFIdeal.Facts] [hSguFRefIdeal : Cert.SguFRefIdeal.Facts] : Prop :=
  ∀ (m : (ℓ : Loc Cert.SguFIdeal.nD Cert.SguFIdeal.τ Cert.SguFIdeal.sig) → Buf (Elt Ideal) ℓ) (g : Dev Cert.SguFIdeal.nD → PrngReg)
    (m' : (ℓ : Loc Cert.SguFRefIdeal.nD Cert.SguFRefIdeal.τ Cert.SguFRefIdeal.sig) → Buf (Elt Ideal) ℓ) (g' : Dev Cert.SguFRefIdeal.nD → PrngReg), Pre_SguFIdeal m →
    (∀ c : Dev Cert.SguFIdeal.nD,
      m' ((c.tc : Thread Cert.SguFRefIdeal.nD Cert.SguFRefIdeal.τ).loc Cert.SguFRefIdeal.main_arg0) = m ((c.tc : Thread Cert.SguFIdeal.nD Cert.SguFIdeal.τ).loc Cert.SguFIdeal.main_arg0)
      ∧ m' ((c.tc : Thread Cert.SguFRefIdeal.nD Cert.SguFRefIdeal.τ).loc Cert.SguFRefIdeal.main_arg1) = m ((c.tc : Thread Cert.SguFIdeal.nD Cert.SguFIdeal.τ).loc Cert.SguFIdeal.main_arg1)
      ∧ m' ((c.tc : Thread Cert.SguFRefIdeal.nD Cert.SguFRefIdeal.τ).loc Cert.SguFRefIdeal.main_arg2) = m ((c.tc : Thread Cert.SguFIdeal.nD Cert.SguFIdeal.τ).loc Cert.SguFIdeal.main_arg2)
      ∧ m' ((c.tc : Thread Cert.SguFRefIdeal.nD Cert.SguFRefIdeal.τ).loc Cert.SguFRefIdeal.main_arg3) = m ((c.tc : Thread Cert.SguFIdeal.nD Cert.SguFIdeal.τ).loc Cert.SguFIdeal.main_arg3)
      ∧ m' ((c.tc : Thread Cert.SguFRefIdeal.nD Cert.SguFRefIdeal.τ).loc Cert.SguFRefIdeal.main_arg4) = m ((c.tc : Thread Cert.SguFIdeal.nD Cert.SguFIdeal.τ).loc Cert.SguFIdeal.main_arg4)) →
    ∃ (v0 : (c : Dev Cert.SguFIdeal.nD) → Buf (Elt Ideal) ((c.tc : Thread Cert.SguFIdeal.nD Cert.SguFIdeal.τ).loc Cert.SguFIdeal.main_v0)),
      θ_run (Cert.SguFIdeal.defs (F := Ideal)) (onTc (τ := Cert.SguFIdeal.τ) (Cert.SguFIdeal.main (F := Ideal))) ⟨m, fun _ => 0, g⟩ (fun r => ∀ c : Dev Cert.SguFIdeal.nD,
          r.2.mem ((c.tc : Thread Cert.SguFIdeal.nD Cert.SguFIdeal.τ).loc Cert.SguFIdeal.main_v0) = v0 c
          ∧ r.2.mem ((c.tc : Thread Cert.SguFIdeal.nD Cert.SguFIdeal.τ).loc Cert.SguFIdeal.main_arg0) = m ((c.tc : Thread Cert.SguFIdeal.nD Cert.SguFIdeal.τ).loc Cert.SguFIdeal.main_arg0)
          ∧ r.2.mem ((c.tc : Thread Cert.SguFIdeal.nD Cert.SguFIdeal.τ).loc Cert.SguFIdeal.main_arg1) = m ((c.tc : Thread Cert.SguFIdeal.nD Cert.SguFIdeal.τ).loc Cert.SguFIdeal.main_arg1)
          ∧ r.2.mem ((c.tc : Thread Cert.SguFIdeal.nD Cert.SguFIdeal.τ).loc Cert.SguFIdeal.main_arg2) = m ((c.tc : Thread Cert.SguFIdeal.nD Cert.SguFIdeal.τ).loc Cert.SguFIdeal.main_arg2)
          ∧ r.2.mem ((c.tc : Thread Cert.SguFIdeal.nD Cert.SguFIdeal.τ).loc Cert.SguFIdeal.main_arg3) = m ((c.tc : Thread Cert.SguFIdeal.nD Cert.SguFIdeal.τ).loc Cert.SguFIdeal.main_arg3)
          ∧ r.2.mem ((c.tc : Thread Cert.SguFIdeal.nD Cert.SguFIdeal.τ).loc Cert.SguFIdeal.main_arg4) = m ((c.tc : Thread Cert.SguFIdeal.nD Cert.SguFIdeal.τ).loc Cert.SguFIdeal.main_arg4))
      ∧ θ_run (Cert.SguFRefIdeal.defs (F := Ideal)) (onTc (τ := Cert.SguFRefIdeal.τ) (Cert.SguFRefIdeal.main (F := Ideal))) ⟨m', fun _ => 0, g'⟩ (fun r => ∀ c : Dev Cert.SguFRefIdeal.nD,
          r.2.mem ((c.tc : Thread Cert.SguFRefIdeal.nD Cert.SguFRefIdeal.τ).loc Cert.SguFRefIdeal.main_v58) = v0 c
          ∧ r.2.mem ((c.tc : Thread Cert.SguFRefIdeal.nD Cert.SguFRefIdeal.τ).loc Cert.SguFRefIdeal.main_arg0) = m' ((c.tc : Thread Cert.SguFRefIdeal.nD Cert.SguFRefIdeal.τ).loc Cert.SguFRefIdeal.main_arg0)
          ∧ r.2.mem ((c.tc : Thread Cert.SguFRefIdeal.nD Cert.SguFRefIdeal.τ).loc Cert.SguFRefIdeal.main_arg1) = m' ((c.tc : Thread Cert.SguFRefIdeal.nD Cert.SguFRefIdeal.τ).loc Cert.SguFRefIdeal.main_arg1)
          ∧ r.2.mem ((c.tc : Thread Cert.SguFRefIdeal.nD Cert.SguFRefIdeal.τ).loc Cert.SguFRefIdeal.main_arg2) = m' ((c.tc : Thread Cert.SguFRefIdeal.nD Cert.SguFRefIdeal.τ).loc Cert.SguFRefIdeal.main_arg2)
          ∧ r.2.mem ((c.tc : Thread Cert.SguFRefIdeal.nD Cert.SguFRefIdeal.τ).loc Cert.SguFRefIdeal.main_arg3) = m' ((c.tc : Thread Cert.SguFRefIdeal.nD Cert.SguFRefIdeal.τ).loc Cert.SguFRefIdeal.main_arg3)
          ∧ r.2.mem ((c.tc : Thread Cert.SguFRefIdeal.nD Cert.SguFRefIdeal.τ).loc Cert.SguFRefIdeal.main_arg4) = m' ((c.tc : Thread Cert.SguFRefIdeal.nD Cert.SguFRefIdeal.τ).loc Cert.SguFRefIdeal.main_arg4))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)) →
    ∃ (v0 : (c : Dev Cert.AdaBIdeal.nD) → Buf (Elt Ideal) ((c.tc : Thread Cert.AdaBIdeal.nD Cert.AdaBIdeal.τ).loc Cert.AdaBIdeal.main_v0)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v0) = v0 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v6) = v0 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1))

def preserves_AdaF_AdaFIdeal : Prop :=
  True

def algebraic_AdaFIdeal_AdaFRefIdeal [hAdaFIdeal : Cert.AdaFIdeal.Facts] [hAdaFRefIdeal : Cert.AdaFRefIdeal.Facts] : Prop :=
  ∀ (m : (ℓ : Loc Cert.AdaFIdeal.nD Cert.AdaFIdeal.τ Cert.AdaFIdeal.sig) → Buf (Elt Ideal) ℓ) (g : Dev Cert.AdaFIdeal.nD → PrngReg)
    (m' : (ℓ : Loc Cert.AdaFRefIdeal.nD Cert.AdaFRefIdeal.τ Cert.AdaFRefIdeal.sig) → Buf (Elt Ideal) ℓ) (g' : Dev Cert.AdaFRefIdeal.nD → PrngReg), Pre_AdaFIdeal m →
    (∀ c : Dev Cert.AdaFIdeal.nD,
      m' ((c.tc : Thread Cert.AdaFRefIdeal.nD Cert.AdaFRefIdeal.τ).loc Cert.AdaFRefIdeal.main_arg0) = m ((c.tc : Thread Cert.AdaFIdeal.nD Cert.AdaFIdeal.τ).loc Cert.AdaFIdeal.main_arg0)
      ∧ m' ((c.tc : Thread Cert.AdaFRefIdeal.nD Cert.AdaFRefIdeal.τ).loc Cert.AdaFRefIdeal.main_arg1) = m ((c.tc : Thread Cert.AdaFIdeal.nD Cert.AdaFIdeal.τ).loc Cert.AdaFIdeal.main_arg1)
      ∧ m' ((c.tc : Thread Cert.AdaFRefIdeal.nD Cert.AdaFRefIdeal.τ).loc Cert.AdaFRefIdeal.main_arg2) = m ((c.tc : Thread Cert.AdaFIdeal.nD Cert.AdaFIdeal.τ).loc Cert.AdaFIdeal.main_arg2)) →
    ∃ (v0 : (c : Dev Cert.AdaFIdeal.nD) → Buf (Elt Ideal) ((c.tc : Thread Cert.AdaFIdeal.nD Cert.AdaFIdeal.τ).loc Cert.AdaFIdeal.main_v0)),
      θ_run (Cert.AdaFIdeal.defs (F := Ideal)) (onTc (τ := Cert.AdaFIdeal.τ) (Cert.AdaFIdeal.main (F := Ideal))) ⟨m, fun _ => 0, g⟩ (fun r => ∀ c : Dev Cert.AdaFIdeal.nD,
          r.2.mem ((c.tc : Thread Cert.AdaFIdeal.nD Cert.AdaFIdeal.τ).loc Cert.AdaFIdeal.main_v0) = v0 c
          ∧ r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
          ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
          ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ θ_run (Cert.AdaFRefIdeal.defs (F := Ideal)) (onTc (τ := Cert.AdaFRefIdeal.τ) (Cert.AdaFRefIdeal.main (F := Ideal))) ⟨m', fun _ => 0, g'⟩ (fun r => ∀ c : Dev Cert.AdaFRefIdeal.nD,
          r.2.mem ((c.tc : Thread Cert.AdaFRefIdeal.nD Cert.AdaFRefIdeal.τ).loc Cert.AdaFRefIdeal.main_v4) = v0 c
          ∧ r.2.mem ((c.tc : Thread Cert.AdaFRefIdeal.nD Cert.AdaFRefIdeal.τ).loc Cert.AdaFRefIdeal.main_arg0) = m' ((c.tc : Thread Cert.AdaFRefIdeal.nD Cert.AdaFRefIdeal.τ).loc Cert.AdaFRefIdeal.main_arg0)
          ∧ r.2.mem ((c.tc : Thread Cert.AdaFRefIdeal.nD Cert.AdaFRefIdeal.τ).loc Cert.AdaFRefIdeal.main_arg1) = m' ((c.tc : Thread Cert.AdaFRefIdeal.nD Cert.AdaFRefIdeal.τ).loc Cert.AdaFRefIdeal.main_arg1)
          ∧ r.2.mem ((c.tc : Thread Cert.AdaFRefIdeal.nD Cert.AdaFRefIdeal.τ).loc Cert.AdaFRefIdeal.main_arg2) = m' ((c.tc : Thread Cert.AdaFRefIdeal.nD Cert.AdaFRefIdeal.τ).loc Cert.AdaFRefIdeal.main_arg2))

def preserves_PoolB_PoolBIdeal : Prop :=
  True

def algebraic_PoolBIdeal_PoolBRefIdeal [hPoolBIdeal : Cert.PoolBIdeal.Facts] [hPoolBRefIdeal : Cert.PoolBRefIdeal.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)) →
    ∃ (v0 : (c : Dev Cert.PoolBIdeal.nD) → Buf (Elt Ideal) ((c.tc : Thread Cert.PoolBIdeal.nD Cert.PoolBIdeal.τ).loc Cert.PoolBIdeal.main_v0_0)) (v1 : (c : Dev Cert.PoolBIdeal.nD) → Buf (Elt Ideal) ((c.tc : Thread Cert.PoolBIdeal.nD Cert.PoolBIdeal.τ).loc Cert.PoolBIdeal.main_v0_1)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v0_0) = v0 c
          ∧ r.2.mem ((c.tc : Thread Cert.PoolBIdeal.nD Cert.PoolBIdeal.τ).loc Cert.PoolBIdeal.main_v0_1) = v1 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v104) = v0 c
          ∧ r.2.mem ((c.tc : Thread Cert.PoolBRefIdeal.nD Cert.PoolBRefIdeal.τ).loc Cert.PoolBRefIdeal.main_v106) = v1 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)) →
    ∃ (v0 : (c : Dev Cert.PoolFIdeal.nD) → Buf (Elt Ideal) ((c.tc : Thread Cert.PoolFIdeal.nD Cert.PoolFIdeal.τ).loc Cert.PoolFIdeal.main_v0)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v0) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v69) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v232) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def Claim : Prop :=
  ∃ (hSgu : Cert.Sgu.Facts) (hSguIdeal : Cert.SguIdeal.Facts) (hSguRefIdeal : Cert.SguRefIdeal.Facts) (hBranchG : Cert.BranchG.Facts) (hBranchGIdeal : Cert.BranchGIdeal.Facts) (hBranchGRefIdeal : Cert.BranchGRefIdeal.Facts) (hBranchB : Cert.BranchB.Facts) (hBranchBIdeal : Cert.BranchBIdeal.Facts) (hBranchBRefIdeal : Cert.BranchBRefIdeal.Facts) (hFfnOutG : Cert.FfnOutG.Facts) (hFfnOutGIdeal : Cert.FfnOutGIdeal.Facts) (hFfnOutGRefIdeal : Cert.FfnOutGRefIdeal.Facts) (hFfnOutB : Cert.FfnOutB.Facts) (hFfnOutBIdeal : Cert.FfnOutBIdeal.Facts) (hFfnOutBRefIdeal : Cert.FfnOutBRefIdeal.Facts) (hFfnInG : Cert.FfnInG.Facts) (hFfnInGIdeal : Cert.FfnInGIdeal.Facts) (hFfnInGRefIdeal : Cert.FfnInGRefIdeal.Facts) (hFfnInB : Cert.FfnInB.Facts) (hFfnInBIdeal : Cert.FfnInBIdeal.Facts) (hFfnInBRefIdeal : Cert.FfnInBRefIdeal.Facts) (hInB : Cert.InB.Facts) (hInBIdeal : Cert.InBIdeal.Facts) (hInBRefIdeal : Cert.InBRefIdeal.Facts) (hMmIn : Cert.MmIn.Facts) (hMmInIdeal : Cert.MmInIdeal.Facts) (hMmInRefIdeal : Cert.MmInRefIdeal.Facts) (hMmBranch : Cert.MmBranch.Facts) (hMmBranchIdeal : Cert.MmBranchIdeal.Facts) (hMmBranchRefIdeal : Cert.MmBranchRefIdeal.Facts) (hMmFfnIn : Cert.MmFfnIn.Facts) (hMmFfnInIdeal : Cert.MmFfnInIdeal.Facts) (hMmFfnInRefIdeal : Cert.MmFfnInRefIdeal.Facts) (hMmFfnOut : Cert.MmFfnOut.Facts) (hMmFfnOutIdeal : Cert.MmFfnOutIdeal.Facts) (hMmFfnOutRefIdeal : Cert.MmFfnOutRefIdeal.Facts) (hInG : Cert.InG.Facts) (hInGIdeal : Cert.InGIdeal.Facts) (hInGRefIdeal : Cert.InGRefIdeal.Facts) (hGateB : Cert.GateB.Facts) (hGateBIdeal : Cert.GateBIdeal.Facts) (hGateBRefIdeal : Cert.GateBRefIdeal.Facts) (hSwiglu : Cert.Swiglu.Facts) (hSwigluIdeal : Cert.SwigluIdeal.Facts) (hSwigluRefIdeal : Cert.SwigluRefIdeal.Facts) (hMerge : Cert.Merge.Facts) (hMergeIdeal : Cert.MergeIdeal.Facts) (hMergeRefIdeal : Cert.MergeRefIdeal.Facts) (hPoolMixB : Cert.PoolMixB.Facts) (hPoolMixBIdeal : Cert.PoolMixBIdeal.Facts) (hPoolMixBRefIdeal : Cert.PoolMixBRefIdeal.Facts) (hPoolMix : Cert.PoolMix.Facts) (hPoolMixIdeal : Cert.PoolMixIdeal.Facts) (hPoolMixRefIdeal : Cert.PoolMixRefIdeal.Facts) (hSwigluF : Cert.SwigluF.Facts) (hSwigluFIdeal : Cert.SwigluFIdeal.Facts) (hSwigluFRefIdeal : Cert.SwigluFRefIdeal.Facts) (hMergeF : Cert.MergeF.Facts) (hMergeFIdeal : Cert.MergeFIdeal.Facts) (hMergeFRefIdeal : Cert.MergeFRefIdeal.Facts) (hNormB : Cert.NormB.Facts) (hNormBIdeal : Cert.NormBIdeal.Facts) (hNormBRefIdeal : Cert.NormBRefIdeal.Facts) (hNormGateB : Cert.NormGateB.Facts) (hNormGateBIdeal : Cert.NormGateBIdeal.Facts) (hNormGateBRefIdeal : Cert.NormGateBRefIdeal.Facts) (hConvActB : Cert.ConvActB.Facts) (hConvActBIdeal : Cert.ConvActBIdeal.Facts) (hConvActBRefIdeal : Cert.ConvActBRefIdeal.Facts) (hLossHead : Cert.LossHead.Facts) (hLossHeadIdeal : Cert.LossHeadIdeal.Facts) (hLossHeadRefIdeal : Cert.LossHeadRefIdeal.Facts) (hNormF : Cert.NormF.Facts) (hNormFIdeal : Cert.NormFIdeal.Facts) (hNormFRefIdeal : Cert.NormFRefIdeal.Facts) (hResNorm : Cert.ResNorm.Facts) (hResNormIdeal : Cert.ResNormIdeal.Facts) (hResNormRefIdeal : Cert.ResNormRefIdeal.Facts) (hConvAct : Cert.ConvAct.Facts) (hConvActIdeal : Cert.ConvActIdeal.Facts) (hConvActRefIdeal : Cert.ConvActRefIdeal.Facts) (hSguF : Cert.SguF.Facts) (hSguFIdeal : Cert.SguFIdeal.Facts) (hSguFRefIdeal : Cert.SguFRefIdeal.Facts) (hAdaB : Cert.AdaB.Facts) (hAdaBIdeal : Cert.AdaBIdeal.Facts) (hAdaBRefIdeal : Cert.AdaBRefIdeal.Facts) (hAdaF : Cert.AdaF.Facts) (hAdaFIdeal : Cert.AdaFIdeal.Facts) (hAdaFRefIdeal : Cert.AdaFRefIdeal.Facts) (hPoolB : Cert.PoolB.Facts) (hPoolBIdeal : Cert.PoolBIdeal.Facts) (hPoolBRefIdeal : Cert.PoolBRefIdeal.Facts) (hPoolF : Cert.PoolF.Facts) (hPoolFIdeal : Cert.PoolFIdeal.Facts) (hPoolFRefIdeal : Cert.PoolFRefIdeal.Facts) (hConvF : Cert.ConvF.Facts) (hConvFIdeal : Cert.ConvFIdeal.Facts) (hConvFRefIdeal : Cert.ConvFRefIdeal.Facts),
    quiescent_Sgu (hSgu := hSgu)
    ∧ quiescent_SguIdeal (hSguIdeal := hSguIdeal)
    ∧ quiescent_SguRefIdeal (hSguRefIdeal := hSguRefIdeal)
    ∧ quiescent_BranchG (hBranchG := hBranchG)
    ∧ quiescent_BranchGIdeal (hBranchGIdeal := hBranchGIdeal)
    ∧ quiescent_BranchGRefIdeal (hBranchGRefIdeal := hBranchGRefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_FfnOutG (hFfnOutG := hFfnOutG)
    ∧ quiescent_FfnOutGIdeal (hFfnOutGIdeal := hFfnOutGIdeal)
    ∧ quiescent_FfnOutGRefIdeal (hFfnOutGRefIdeal := hFfnOutGRefIdeal)
    ∧ quiescent_FfnOutB (hFfnOutB := hFfnOutB)
    ∧ quiescent_FfnOutBIdeal (hFfnOutBIdeal := hFfnOutBIdeal)
    ∧ quiescent_FfnOutBRefIdeal (hFfnOutBRefIdeal := hFfnOutBRefIdeal)
    ∧ quiescent_FfnInG (hFfnInG := hFfnInG)
    ∧ quiescent_FfnInGIdeal (hFfnInGIdeal := hFfnInGIdeal)
    ∧ quiescent_FfnInGRefIdeal (hFfnInGRefIdeal := hFfnInGRefIdeal)
    ∧ quiescent_FfnInB (hFfnInB := hFfnInB)
    ∧ quiescent_FfnInBIdeal (hFfnInBIdeal := hFfnInBIdeal)
    ∧ quiescent_FfnInBRefIdeal (hFfnInBRefIdeal := hFfnInBRefIdeal)
    ∧ quiescent_InB (hInB := hInB)
    ∧ quiescent_InBIdeal (hInBIdeal := hInBIdeal)
    ∧ quiescent_InBRefIdeal (hInBRefIdeal := hInBRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmBranch (hMmBranch := hMmBranch)
    ∧ quiescent_MmBranchIdeal (hMmBranchIdeal := hMmBranchIdeal)
    ∧ quiescent_MmBranchRefIdeal (hMmBranchRefIdeal := hMmBranchRefIdeal)
    ∧ quiescent_MmFfnIn (hMmFfnIn := hMmFfnIn)
    ∧ quiescent_MmFfnInIdeal (hMmFfnInIdeal := hMmFfnInIdeal)
    ∧ quiescent_MmFfnInRefIdeal (hMmFfnInRefIdeal := hMmFfnInRefIdeal)
    ∧ quiescent_MmFfnOut (hMmFfnOut := hMmFfnOut)
    ∧ quiescent_MmFfnOutIdeal (hMmFfnOutIdeal := hMmFfnOutIdeal)
    ∧ quiescent_MmFfnOutRefIdeal (hMmFfnOutRefIdeal := hMmFfnOutRefIdeal)
    ∧ quiescent_InG (hInG := hInG)
    ∧ quiescent_InGIdeal (hInGIdeal := hInGIdeal)
    ∧ quiescent_InGRefIdeal (hInGRefIdeal := hInGRefIdeal)
    ∧ quiescent_GateB (hGateB := hGateB)
    ∧ quiescent_GateBIdeal (hGateBIdeal := hGateBIdeal)
    ∧ quiescent_GateBRefIdeal (hGateBRefIdeal := hGateBRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Merge (hMerge := hMerge)
    ∧ quiescent_MergeIdeal (hMergeIdeal := hMergeIdeal)
    ∧ quiescent_MergeRefIdeal (hMergeRefIdeal := hMergeRefIdeal)
    ∧ quiescent_PoolMixB (hPoolMixB := hPoolMixB)
    ∧ quiescent_PoolMixBIdeal (hPoolMixBIdeal := hPoolMixBIdeal)
    ∧ quiescent_PoolMixBRefIdeal (hPoolMixBRefIdeal := hPoolMixBRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_SwigluF (hSwigluF := hSwigluF)
    ∧ quiescent_SwigluFIdeal (hSwigluFIdeal := hSwigluFIdeal)
    ∧ quiescent_SwigluFRefIdeal (hSwigluFRefIdeal := hSwigluFRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_NormB (hNormB := hNormB)
    ∧ quiescent_NormBIdeal (hNormBIdeal := hNormBIdeal)
    ∧ quiescent_NormBRefIdeal (hNormBRefIdeal := hNormBRefIdeal)
    ∧ quiescent_NormGateB (hNormGateB := hNormGateB)
    ∧ quiescent_NormGateBIdeal (hNormGateBIdeal := hNormGateBIdeal)
    ∧ quiescent_NormGateBRefIdeal (hNormGateBRefIdeal := hNormGateBRefIdeal)
    ∧ quiescent_ConvActB (hConvActB := hConvActB)
    ∧ quiescent_ConvActBIdeal (hConvActBIdeal := hConvActBIdeal)
    ∧ quiescent_ConvActBRefIdeal (hConvActBRefIdeal := hConvActBRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_NormF (hNormF := hNormF)
    ∧ quiescent_NormFIdeal (hNormFIdeal := hNormFIdeal)
    ∧ quiescent_NormFRefIdeal (hNormFRefIdeal := hNormFRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_ConvAct (hConvAct := hConvAct)
    ∧ quiescent_ConvActIdeal (hConvActIdeal := hConvActIdeal)
    ∧ quiescent_ConvActRefIdeal (hConvActRefIdeal := hConvActRefIdeal)
    ∧ quiescent_SguF (hSguF := hSguF)
    ∧ quiescent_SguFIdeal (hSguFIdeal := hSguFIdeal)
    ∧ quiescent_SguFRefIdeal (hSguFRefIdeal := hSguFRefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_AdaF (hAdaF := hAdaF)
    ∧ quiescent_AdaFIdeal (hAdaFIdeal := hAdaFIdeal)
    ∧ quiescent_AdaFRefIdeal (hAdaFRefIdeal := hAdaFRefIdeal)
    ∧ quiescent_PoolB (hPoolB := hPoolB)
    ∧ quiescent_PoolBIdeal (hPoolBIdeal := hPoolBIdeal)
    ∧ quiescent_PoolBRefIdeal (hPoolBRefIdeal := hPoolBRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ quiescent_ConvF (hConvF := hConvF)
    ∧ quiescent_ConvFIdeal (hConvFIdeal := hConvFIdeal)
    ∧ quiescent_ConvFRefIdeal (hConvFRefIdeal := hConvFRefIdeal)
    ∧ preserves_Sgu_SguIdeal
    ∧ algebraic_SguIdeal_SguRefIdeal (hSguIdeal := hSguIdeal) (hSguRefIdeal := hSguRefIdeal)
    ∧ preserves_BranchG_BranchGIdeal
    ∧ algebraic_BranchGIdeal_BranchGRefIdeal (hBranchGIdeal := hBranchGIdeal) (hBranchGRefIdeal := hBranchGRefIdeal)
    ∧ preserves_BranchB_BranchBIdeal
    ∧ algebraic_BranchBIdeal_BranchBRefIdeal (hBranchBIdeal := hBranchBIdeal) (hBranchBRefIdeal := hBranchBRefIdeal)
    ∧ preserves_FfnOutG_FfnOutGIdeal
    ∧ algebraic_FfnOutGIdeal_FfnOutGRefIdeal (hFfnOutGIdeal := hFfnOutGIdeal) (hFfnOutGRefIdeal := hFfnOutGRefIdeal)
    ∧ preserves_FfnOutB_FfnOutBIdeal
    ∧ algebraic_FfnOutBIdeal_FfnOutBRefIdeal (hFfnOutBIdeal := hFfnOutBIdeal) (hFfnOutBRefIdeal := hFfnOutBRefIdeal)
    ∧ preserves_FfnInG_FfnInGIdeal
    ∧ algebraic_FfnInGIdeal_FfnInGRefIdeal (hFfnInGIdeal := hFfnInGIdeal) (hFfnInGRefIdeal := hFfnInGRefIdeal)
    ∧ preserves_FfnInB_FfnInBIdeal
    ∧ algebraic_FfnInBIdeal_FfnInBRefIdeal (hFfnInBIdeal := hFfnInBIdeal) (hFfnInBRefIdeal := hFfnInBRefIdeal)
    ∧ preserves_InB_InBIdeal
    ∧ algebraic_InBIdeal_InBRefIdeal (hInBIdeal := hInBIdeal) (hInBRefIdeal := hInBRefIdeal)
    ∧ preserves_MmIn_MmInIdeal
    ∧ algebraic_MmInIdeal_MmInRefIdeal (hMmInIdeal := hMmInIdeal) (hMmInRefIdeal := hMmInRefIdeal)
    ∧ preserves_MmBranch_MmBranchIdeal
    ∧ algebraic_MmBranchIdeal_MmBranchRefIdeal (hMmBranchIdeal := hMmBranchIdeal) (hMmBranchRefIdeal := hMmBranchRefIdeal)
    ∧ preserves_MmFfnIn_MmFfnInIdeal
    ∧ algebraic_MmFfnInIdeal_MmFfnInRefIdeal (hMmFfnInIdeal := hMmFfnInIdeal) (hMmFfnInRefIdeal := hMmFfnInRefIdeal)
    ∧ preserves_MmFfnOut_MmFfnOutIdeal
    ∧ algebraic_MmFfnOutIdeal_MmFfnOutRefIdeal (hMmFfnOutIdeal := hMmFfnOutIdeal) (hMmFfnOutRefIdeal := hMmFfnOutRefIdeal)
    ∧ preserves_InG_InGIdeal
    ∧ algebraic_InGIdeal_InGRefIdeal (hInGIdeal := hInGIdeal) (hInGRefIdeal := hInGRefIdeal)
    ∧ preserves_GateB_GateBIdeal
    ∧ algebraic_GateBIdeal_GateBRefIdeal (hGateBIdeal := hGateBIdeal) (hGateBRefIdeal := hGateBRefIdeal)
    ∧ preserves_Swiglu_SwigluIdeal
    ∧ algebraic_SwigluIdeal_SwigluRefIdeal (hSwigluIdeal := hSwigluIdeal) (hSwigluRefIdeal := hSwigluRefIdeal)
    ∧ preserves_Merge_MergeIdeal
    ∧ algebraic_MergeIdeal_MergeRefIdeal (hMergeIdeal := hMergeIdeal) (hMergeRefIdeal := hMergeRefIdeal)
    ∧ preserves_PoolMixB_PoolMixBIdeal
    ∧ algebraic_PoolMixBIdeal_PoolMixBRefIdeal (hPoolMixBIdeal := hPoolMixBIdeal) (hPoolMixBRefIdeal := hPoolMixBRefIdeal)
    ∧ preserves_PoolMix_PoolMixIdeal
    ∧ algebraic_PoolMixIdeal_PoolMixRefIdeal (hPoolMixIdeal := hPoolMixIdeal) (hPoolMixRefIdeal := hPoolMixRefIdeal)
    ∧ preserves_SwigluF_SwigluFIdeal
    ∧ algebraic_SwigluFIdeal_SwigluFRefIdeal (hSwigluFIdeal := hSwigluFIdeal) (hSwigluFRefIdeal := hSwigluFRefIdeal)
    ∧ preserves_MergeF_MergeFIdeal
    ∧ algebraic_MergeFIdeal_MergeFRefIdeal (hMergeFIdeal := hMergeFIdeal) (hMergeFRefIdeal := hMergeFRefIdeal)
    ∧ preserves_NormB_NormBIdeal
    ∧ algebraic_NormBIdeal_NormBRefIdeal (hNormBIdeal := hNormBIdeal) (hNormBRefIdeal := hNormBRefIdeal)
    ∧ preserves_NormGateB_NormGateBIdeal
    ∧ algebraic_NormGateBIdeal_NormGateBRefIdeal (hNormGateBIdeal := hNormGateBIdeal) (hNormGateBRefIdeal := hNormGateBRefIdeal)
    ∧ preserves_ConvActB_ConvActBIdeal
    ∧ algebraic_ConvActBIdeal_ConvActBRefIdeal (hConvActBIdeal := hConvActBIdeal) (hConvActBRefIdeal := hConvActBRefIdeal)
    ∧ preserves_LossHead_LossHeadIdeal
    ∧ algebraic_LossHeadIdeal_LossHeadRefIdeal (hLossHeadIdeal := hLossHeadIdeal) (hLossHeadRefIdeal := hLossHeadRefIdeal)
    ∧ preserves_NormF_NormFIdeal
    ∧ algebraic_NormFIdeal_NormFRefIdeal (hNormFIdeal := hNormFIdeal) (hNormFRefIdeal := hNormFRefIdeal)
    ∧ preserves_ResNorm_ResNormIdeal
    ∧ algebraic_ResNormIdeal_ResNormRefIdeal (hResNormIdeal := hResNormIdeal) (hResNormRefIdeal := hResNormRefIdeal)
    ∧ preserves_ConvAct_ConvActIdeal
    ∧ algebraic_ConvActIdeal_ConvActRefIdeal (hConvActIdeal := hConvActIdeal) (hConvActRefIdeal := hConvActRefIdeal)
    ∧ preserves_SguF_SguFIdeal
    ∧ algebraic_SguFIdeal_SguFRefIdeal (hSguFIdeal := hSguFIdeal) (hSguFRefIdeal := hSguFRefIdeal)
    ∧ preserves_AdaB_AdaBIdeal
    ∧ algebraic_AdaBIdeal_AdaBRefIdeal (hAdaBIdeal := hAdaBIdeal) (hAdaBRefIdeal := hAdaBRefIdeal)
    ∧ preserves_AdaF_AdaFIdeal
    ∧ algebraic_AdaFIdeal_AdaFRefIdeal (hAdaFIdeal := hAdaFIdeal) (hAdaFRefIdeal := hAdaFRefIdeal)
    ∧ preserves_PoolB_PoolBIdeal
    ∧ algebraic_PoolBIdeal_PoolBRefIdeal (hPoolBIdeal := hPoolBIdeal) (hPoolBRefIdeal := hPoolBRefIdeal)
    ∧ preserves_PoolF_PoolFIdeal
    ∧ algebraic_PoolFIdeal_PoolFRefIdeal (hPoolFIdeal := hPoolFIdeal) (hPoolFRefIdeal := hPoolFRefIdeal)
    ∧ preserves_ConvF_ConvFIdeal
    ∧ algebraic_ConvFIdeal_ConvFRefIdeal (hConvFIdeal := hConvFIdeal) (hConvFRefIdeal := hConvFRefIdeal)
-- ==== Sgu.lean ====
abbrev S4096x8192 : Shape := ⟨2, ![4096, 8192]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128 : Shape := ⟨2, ![1, 128]⟩
abbrev S256x128 : Shape := ⟨2, ![256, 128]⟩
abbrev S128 : Shape := ⟨1, ![128]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S4096x1024, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S8x128x128, .f32⟩
  | .hbm, ⟨11, _⟩ => ⟨S8x128, .f32⟩
  | .hbm, ⟨12, _⟩ => ⟨S1x1024, .f32⟩
  | .hbm, ⟨13, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S8x128x128, .f32⟩
  | .local _ .vmem, ⟨17, _⟩ => ⟨S8x128, .f32⟩
  | .local _ .vmem, ⟨18, _⟩ => ⟨S1x1024, .f32⟩
  | .local _ .vmem, ⟨19, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_132 : BitVec 32 := 0#32
  let v565 : BitVec 1 := Scalar.cmpi .eq arg0 c0_i32_132
  let v566 : BitVec 32 := Scalar.extui v565
  let c0_i32_133 : BitVec 32 := 0#32
  let v567 : BitVec 1 := Scalar.cmpi .ne v566 c0_i32_133
  v567

def k0_cond2 (i : grid0.Coords) : BitVec 1 :=
  let arg0 : BitVec 32 := BitVec.ofNat 32 (i 0).val
  let c0_i32_134 : BitVec 32 := 0#32
  let v568 : BitVec 1 := Scalar.cmpi .sgt arg0 c0_i32_134
  let v569 : BitVec 32 := Scalar.extui v568
  let c0_i32_135 : BitVec 32 := 0#32
  let v570 : BitVec 1 := Scalar.cmpi .ne v569 c0_i32_135
  v570

def k0_cond3 (i : grid0.Coords) : BitVec 1 :=
  let arg0 : BitVec 32 := BitVec.ofNat 32 (i 0).val
  let c0_i32_136 : BitVec 32 := 0#32
  let v571 : BitVec 1 := Scalar.cmpi .eq arg0 c0_i32_136
  let v572 : BitVec 32 := Scalar.extui v571
  let c0_i32_137 : BitVec 32 := 0#32
  let v573 : BitVec 1 := Scalar.cmpi .ne v572 c0_i32_137
  v573

def k0_cond4 (i : grid0.Coords) : BitVec 1 :=
  let arg0 : BitVec 32 := BitVec.ofNat 32 (i 0).val
  let c0_i32_138 : BitVec 32 := 0#32
  let v574 : BitVec 1 := Scalar.cmpi .sgt arg0 c0_i32_138
  let v575 : BitVec 32 := Scalar.extui v574
  let c0_i32_139 : BitVec 32 := 0#32
  let v576 : BitVec 1 := Scalar.cmpi .ne v575 c0_i32_139
  v576

def k0_cond5 (i : grid0.Coords) : BitVec 1 :=
  let arg0 : BitVec 32 := BitVec.ofNat 32 (i 0).val
  let c0_i32_140 : BitVec 32 := 0#32
  let v577 : BitVec 1 := Scalar.cmpi .eq arg0 c0_i32_140
  let v578 : BitVec 32 := Scalar.extui v577
  let c0_i32_141 : BitVec 32 := 0#32
  let v579 : BitVec 1 := Scalar.cmpi .ne v578 c0_i32_141
  v579

def k0_cond6 (i : grid0.Coords) : BitVec 1 :=
  let arg0 : BitVec 32 := BitVec.ofNat 32 (i 0).val
  let c0_i32_142 : BitVec 32 := 0#32
  let v580 : BitVec 1 := Scalar.cmpi .sgt arg0 c0_i32_142
  let v581 : BitVec 32 := Scalar.extui v580
  let c0_i32_143 : BitVec 32 := 0#32
  let v582 : BitVec 1 := Scalar.cmpi .ne v581 c0_i32_143
  v582

def k0_cond7 (i : grid0.Coords) : BitVec 1 :=
  let arg0 : BitVec 32 := BitVec.ofNat 32 (i 0).val
  let c0_i32_144 : BitVec 32 := 0#32
  let v583 : BitVec 1 := Scalar.cmpi .eq arg0 c0_i32_144
  let v584 : BitVec 32 := Scalar.extui v583
  let c0_i32_145 : BitVec 32 := 0#32
  let v585 : BitVec 1 := Scalar.cmpi .ne v584 c0_i32_145
  v585

def k0_cond8 (i : grid0.Coords) : BitVec 1 :=
  let arg0 : BitVec 32 := BitVec.ofNat 32 (i 0).val
  let c0_i32_146 : BitVec 32 := 0#32
  let v586 : BitVec 1 := Scalar.cmpi .sgt arg0 c0_i32_146
  let v587 : BitVec 32 := Scalar.extui v586
  let c0_i32_147 : BitVec 32 := 0#32
  let v588 : BitVec 1 := Scalar.cmpi .ne v587 c0_i32_147
  v588

def k0_cond9 (i : grid0.Coords) : BitVec 1 :=
  let arg0 : BitVec 32 := BitVec.ofNat 32 (i 0).val
  let c0_i32_148 : BitVec 32 := 0#32
  let v589 : BitVec 1 := Scalar.cmpi .eq arg0 c0_i32_148
  let v590 : BitVec 32 := Scalar.extui v589
  let c0_i32_149 : BitVec 32 := 0#32
  let v591 : BitVec 1 := Scalar.cmpi .ne v590 c0_i32_149
  v591

def k0_cond10 (i : grid0.Coords) : BitVec 1 :=
  let arg0 : BitVec 32 := BitVec.ofNat 32 (i 0).val
  let c0_i32_150 : BitVec 32 := 0#32
  let v592 : BitVec 1 := Scalar.cmpi .sgt arg0 c0_i32_150
  let v593 : BitVec 32 := Scalar.extui v592
  let c0_i32_151 : BitVec 32 := 0#32
  let v594 : BitVec 1 := Scalar.cmpi .ne v593 c0_i32_151
  v594

def k0_cond11 (i : grid0.Coords) : BitVec 1 :=
  let arg0 : BitVec 32 := BitVec.ofNat 32 (i 0).val
  let c0_i32_152 : BitVec 32 := 0#32
  let v595 : BitVec 1 := Scalar.cmpi .eq arg0 c0_i32_152
  let v596 : BitVec 32 := Scalar.extui v595
  let c0_i32_153 : BitVec 32 := 0#32
  let v597 : BitVec 1 := Scalar.cmpi .ne v596 c0_i32_153
  v597

def k0_cond12 (i : grid0.Coords) : BitVec 1 :=
  let arg0 : BitVec 32 := BitVec.ofNat 32 (i 0).val
  let c0_i32_154 : BitVec 32 := 0#32
  let v598 : BitVec 1 := Scalar.cmpi .sgt arg0 c0_i32_154
  let v599 : BitVec 32 := Scalar.extui v598
  let c0_i32_155 : BitVec 32 := 0#32
  let v600 : BitVec 1 := Scalar.cmpi .ne v599 c0_i32_155
  v600

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SguRefIdeal.lean ====
abbrev S4096x8192 : Shape := ⟨2, ![4096, 8192]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S1x4096x8192 : Shape := ⟨3, ![1, 4096, 8192]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩

abbrev nBuf : Space → Nat
  | .hbm => 199
  | .vmem => 0
  | .smem => 0
  | _ => 0

abbrev hbmTy0_0 (i : Nat) : BufTy := match i % 128 with
  | 0 => ⟨S4096x8192, .bf16⟩
  | 1 => ⟨S4096x1024, .bf16⟩
  | 2 => ⟨S1x1024, .f32⟩
  | 3 => ⟨S1x1024, .f32⟩
  | 4 => ⟨S8x128x128, .f32⟩
  | 5 => ⟨S8x128, .f32⟩
  | 6 => ⟨S4096x8192, .f32⟩
  | 7 => ⟨S1x4096x8192, .f32⟩
  | 8 => ⟨S4096x1024, .f32⟩
  | 9 => ⟨S1x4096x1024, .f32⟩
  | 10 => ⟨S1x4096x1024, .f32⟩
  | 11 => ⟨S1x4096x1024, .f32⟩
  | 12 => ⟨S1024, .f32⟩
  | 13 => ⟨S1024, .f32⟩
  | 14 => ⟨S_, .f32⟩
  | 15 => ⟨S1x4096x1024, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x4096x1024, .f32⟩
  | 22 => ⟨S1x4096x1024, .f32⟩
  | 23 => ⟨S1x4096x1024, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x4096x1024, .f32⟩
  | 37 => ⟨S1x4096x1024, .f32⟩
  | 38 => ⟨S_, .f32⟩
  | 39 => ⟨S1x4096, .f32⟩
  | 40 => ⟨S1x4096x1, .f32⟩
  | 41 => ⟨S_, .f32⟩
  | 42 => ⟨S1x4096x1, .f32⟩
  | 43 => ⟨S1x4096x1, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096, .f32⟩
  | 52 => ⟨S1x4096x1, .f32⟩
  | 53 => ⟨S_, .f32⟩
  | 54 => ⟨S1x4096x1, .f32⟩
  | 55 => ⟨S1x4096x1, .f32⟩
  | 56 => ⟨S1x4096x1024, .f32⟩
  | 57 => ⟨S1x4096x1024, .f32⟩
  | 58 => ⟨S_, .f32⟩
  | 59 => ⟨S1x4096x1, .f32⟩
  | 60 => ⟨S1x4096x1, .f32⟩
  | 61 => ⟨S1x4096x1, .f32⟩
  | 62 => ⟨S1x4096x1, .f32⟩
  | 63 => ⟨S_, .f32⟩
  | 64 => ⟨S1x4096x1, .f32⟩
  | 65 => ⟨S1x4096x1, .f32⟩
  | 66 => ⟨S1x4096x1024, .f32⟩
  | 67 => ⟨S1x4096x1024, .f32⟩
  | 68 => ⟨S1x1x1024, .f32⟩
  | 69 => ⟨S1x4096x1024, .f32⟩
  | 70 => ⟨S1x4096x1024, .f32⟩
  | 71 => ⟨S1x1x1024, .f32⟩
  | 72 => ⟨S1x4096x1024, .f32⟩
  | 73 => ⟨S1x4096x1024, .f32⟩
  | 74 => ⟨S1x32x128x8x128, .f32⟩
  | 75 => ⟨S_, .f32⟩
  | 76 => ⟨S128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .f32⟩
  | 84 => ⟨S128x128, .f32⟩
  | 85 => ⟨S128x128, .f32⟩
  | 86 => ⟨S1x128x128, .f32⟩
  | 87 => ⟨S8x128x128, .f32⟩
  | 88 => ⟨S8x128x128, .f32⟩
  | 89 => ⟨S8x1x32x128x128, .f32⟩
  | 90 => ⟨S1x32x128x8x128, .f32⟩
  | 91 => ⟨S128x8, .f32⟩
  | 92 => ⟨S1x1x128x8x1, .f32⟩
  | 93 => ⟨S1x32x128x8x128, .f32⟩
  | 94 => ⟨S1x32x128x8x128, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x32x128x8x128, .f32⟩
  | 100 => ⟨S_, .f32⟩
  | 101 => ⟨S1x128x8, .f32⟩
  | 102 => ⟨S1x1x128x8x1, .f32⟩
  | 103 => ⟨S_, .f32⟩
  | 104 => ⟨S128x8, .f32⟩
  | 105 => ⟨S8x128, .f32⟩
  | 106 => ⟨S8x1x32x128x128, .f32⟩
  | 107 => ⟨S8x128x128, .f32⟩
  | 108 => ⟨S8x1x32x128x128, .f32⟩
  | 109 => ⟨S1x32x128x8x128, .f32⟩
  | 110 => ⟨S8x128x128, .f32⟩
  | 111 => ⟨S8x128x128, .f32⟩
  | 112 => ⟨S1x4096x1024, .f32⟩
  | 113 => ⟨S_, .f32⟩
  | 114 => ⟨S1x1024, .f32⟩
  | 115 => ⟨S1x1x1024, .f32⟩
  | 116 => ⟨S_, .f32⟩
  | 117 => ⟨S1024, .f32⟩
  | 118 => ⟨S1x4096x1024, .f32⟩
  | 119 => ⟨S_, .f32⟩
  | 120 => ⟨S1x1024, .f32⟩
  | 121 => ⟨S1x1x1024, .f32⟩
  | 122 => ⟨S1x4096x1024, .f32⟩
  | 123 => ⟨S1x4096x1024, .f32⟩
  | 124 => ⟨S_, .f32⟩
  | 125 => ⟨S1024, .f32⟩
  | 126 => ⟨S1x4096x1024, .f32⟩
  | 127 => ⟨S_, .f32⟩
  | _ => ⟨S4096x8192, .bf16⟩

abbrev hbmTy0_1 (i : Nat) : BufTy := match i % 128 with
  | 0 => ⟨S1x4096, .f32⟩
  | 1 => ⟨S1x4096x1, .f32⟩
  | 2 => ⟨S1x4096x1024, .f32⟩
  | 3 => ⟨S1x4096x1024, .f32⟩
  | 4 => ⟨S1x4096x1, .f32⟩
  | 5 => ⟨S1x4096x1024, .f32⟩
  | 6 => ⟨S_, .f32⟩
  | 7 => ⟨S1x4096, .f32⟩
  | 8 => ⟨S1x4096x1, .f32⟩
  | 9 => ⟨S_, .f32⟩
  | 10 => ⟨S1x4096x1, .f32⟩
  | 11 => ⟨S1x4096x1, .f32⟩
  | 12 => ⟨S_, .f32⟩
  | 13 => ⟨S4096, .f32⟩
  | 14 => ⟨S1x4096, .f32⟩
  | 15 => ⟨S1x4096x1024, .f32⟩
  | 16 => ⟨S1x4096x1024, .f32⟩
  | 17 => ⟨S1x4096x1024, .f32⟩
  | 18 => ⟨S_, .f32⟩
  | 19 => ⟨S1x4096, .f32⟩
  | 20 => ⟨S1x4096x1, .f32⟩
  | 21 => ⟨S1x4096x1024, .f32⟩
  | 22 => ⟨S1x4096x1, .f32⟩
  | 23 => ⟨S_, .f32⟩
  | 24 => ⟨S1x4096x1, .f32⟩
  | 25 => ⟨S1x4096x1, .f32⟩
  | 26 => ⟨S_, .f32⟩
  | 27 => ⟨S4096, .f32⟩
  | 28 => ⟨S1x4096, .f32⟩
  | 29 => ⟨S1x4096x1024, .f32⟩
  | 30 => ⟨S1x4096x1024, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S1x4096x1024, .f32⟩
  | 41 => ⟨S_, .f32⟩
  | 42 => ⟨S1x4096x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S1x4096x1024, .f32⟩
  | 59 => ⟨S4096x1024, .f32⟩
  | 60 => ⟨S4096x1024, .bf16⟩
  | 61 => ⟨S4096x1024, .f32⟩
  | 62 => ⟨S4096x1024, .bf16⟩
  | 63 => ⟨S1x1024, .f32⟩
  | 64 => ⟨S1x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S1x1024, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_cst_15 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩
abbrev main_v102 : Ref sig .tc := ⟨.hbm, 136, rfl⟩
abbrev main_cst_19 : Ref sig .tc := ⟨.hbm, 137, rfl⟩
abbrev main_v103 : Ref sig .tc := ⟨.hbm, 138, rfl⟩
abbrev main_v104 : Ref sig .tc := ⟨.hbm, 139, rfl⟩
abbrev main_cst_20 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_21 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_cst_23 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_24 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_25 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_26 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_27 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_29 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_30 : Ref sig .tc := ⟨.hbm, 193, rfl⟩
abbrev main_v148 : Ref sig .tc := ⟨.hbm, 194, rfl⟩
abbrev main_v149 : Ref sig .tc := ⟨.hbm, 195, rfl⟩
abbrev main_cst_31 : Ref sig .tc := ⟨.hbm, 196, rfl⟩
abbrev main_v150 : Ref sig .tc := ⟨.hbm, 197, rfl⟩
abbrev main_v151 : Ref sig .tc := ⟨.hbm, 198, rfl⟩

abbrev nD : Nat := 1
abbrev τ : Topo := Topo.v7x

variable {F : FTy → Type} [FloatOps F]
-- ==== BranchG.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchGRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchB.lean ====
abbrev S4096x1024 : Shape := ⟨2, ![4096, 1024]⟩
abbrev S4x1x256x1024 : Shape := ⟨4, ![4, 1, 256, 1024]⟩
abbrev S1024x1024 : Shape := ⟨2, ![1024, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBRefIdeal.lean ====
abbrev S4096x1024 : Shape := ⟨2, ![4096, 1024]⟩
abbrev S4x1x256x1024 : Shape := ⟨4, ![4, 1, 256, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnOutG.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutGRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutB.lean ====
abbrev S4096x1024 : Shape := ⟨2, ![4096, 1024]⟩
abbrev S4x1x704x1024 : Shape := ⟨4, ![4, 1, 704, 1024]⟩
abbrev S4096x2816 : Shape := ⟨2, ![4096, 2816]⟩
abbrev S512x1024 : Shape := ⟨2, ![512, 1024]⟩
abbrev S512x2816 : Shape := ⟨2, ![512, 2816]⟩
abbrev S4x704x1024 : Shape := ⟨3, ![4, 704, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1x704x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S4x1x704x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutBRefIdeal.lean ====
abbrev S4096x1024 : Shape := ⟨2, ![4096, 1024]⟩
abbrev S4x1x704x1024 : Shape := ⟨4, ![4, 1, 704, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x704x1024, .bf16⟩
  | .hbm, ⟨2, _⟩ => ⟨S2816x1024, .bf16⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInG.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInGRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnInB.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInBRefIdeal.lean ====
abbrev S4096x5632 : Shape := ⟨2, ![4096, 5632]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x5632, .f32⟩
  | .hbm, ⟨10, _⟩ => ⟨S4096x1024, .f32⟩
  | .hbm, ⟨11, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InB.lean ====
abbrev S4096x1024 : Shape := ⟨2, ![4096, 1024]⟩
abbrev S4096x3072 : Shape := ⟨2, ![4096, 3072]⟩
abbrev S4x1x1024x2048 : Shape := ⟨4, ![4, 1, 1024, 2048]⟩
abbrev S1024x1024 : Shape := ⟨2, ![1024, 1024]⟩
abbrev S1x1x1024x1024 : Shape := ⟨4, ![1, 1, 1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4x1x1024x2048, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1x1024x1024, .bf16⟩
  | .local _ .vmem, ⟨13, _⟩ => ⟨S1x1x1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond8 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InBRefIdeal.lean ====
abbrev S4096x1024 : Shape := ⟨2, ![4096, 1024]⟩
abbrev S4096x3072 : Shape := ⟨2, ![4096, 3072]⟩
abbrev S4x1x1024x2048 : Shape := ⟨4, ![4, 1, 1024, 2048]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4x1x1024x2048, .bf16⟩
  | .hbm, ⟨7, _⟩ => ⟨S4x1024x2048, .bf16⟩
  | .hbm, ⟨8, _⟩ => ⟨S1024x4x2048, .bf16⟩
  | .hbm, ⟨9, _⟩ => ⟨S1024x8192, .bf16⟩
  | .hbm, ⟨10, _⟩ => ⟨S1024x8192, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x3072, .f32⟩
  | .hbm, ⟨17, _⟩ => ⟨S4096x8192, .f32⟩
  | .hbm, ⟨18, _⟩ => ⟨S_, .f32⟩
  | .hbm, ⟨19, _⟩ => ⟨S4096x1024, .f32⟩
  | .hbm, ⟨20, _⟩ => ⟨S4096x8192, .f32⟩
  | .hbm, ⟨21, _⟩ => ⟨S4096x1024, .f32⟩
  | .hbm, ⟨22, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== MmIn.lean ====
abbrev S4096x1024 : Shape := ⟨2, ![4096, 1024]⟩
abbrev S4x1x1024x2048 : Shape := ⟨4, ![4, 1, 1024, 2048]⟩
abbrev S1x8192 : Shape := ⟨2, ![1, 8192]⟩
abbrev S4096x8192 : Shape := ⟨2, ![4096, 8192]⟩
abbrev S1024x1024 : Shape := ⟨2, ![1024, 1024]⟩
abbrev S1x1x1024x1024 : Shape := ⟨4, ![1, 1, 1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x2048, .bf16⟩
  | .hbm, ⟨2, _⟩ => ⟨S1x8192, .f32⟩
  | .hbm, ⟨3, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmInRefIdeal.lean ====
abbrev S4096x1024 : Shape := ⟨2, ![4096, 1024]⟩
abbrev S4x1x1024x2048 : Shape := ⟨4, ![4, 1, 1024, 2048]⟩
abbrev S1x8192 : Shape := ⟨2, ![1, 8192]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S4096x8192 : Shape := ⟨2, ![4096, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x2048, .bf16⟩
  | .hbm, ⟨2, _⟩ => ⟨S1x8192, .f32⟩
  | .hbm, ⟨3, _⟩ => ⟨S4x1024x2048, .bf16⟩
  | .hbm, ⟨4, _⟩ => ⟨S1024x4x2048, .bf16⟩
  | .hbm, ⟨5, _⟩ => ⟨S1024x8192, .bf16⟩
  | .hbm, ⟨6, _⟩ => ⟨S1024x8192, .f32⟩
  | .hbm, ⟨7, _⟩ => ⟨S4096x1024, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmBranch.lean ====
abbrev S4096x1024 : Shape := ⟨2, ![4096, 1024]⟩
abbrev S4x1x256x1024 : Shape := ⟨4, ![4, 1, 256, 1024]⟩
abbrev S1024x1024 : Shape := ⟨2, ![1024, 1024]⟩
abbrev S4x256x1024 : Shape := ⟨3, ![4, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmBranchRefIdeal.lean ====
abbrev S4096x1024 : Shape := ⟨2, ![4096, 1024]⟩
abbrev S4x1x256x1024 : Shape := ⟨4, ![4, 1, 256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S1024x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmFfnIn.lean ====
abbrev S4096x1024 : Shape := ⟨2, ![4096, 1024]⟩
abbrev S4x1x1024x1408 : Shape := ⟨4, ![4, 1, 1024, 1408]⟩
abbrev S4096x5632 : Shape := ⟨2, ![4096, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmFfnInRefIdeal.lean ====
abbrev S4096x1024 : Shape := ⟨2, ![4096, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x1408, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MmFfnOut.lean ====
abbrev S4096x2816 : Shape := ⟨2, ![4096, 2816]⟩
abbrev S4x1x704x1024 : Shape := ⟨4, ![4, 1, 704, 1024]⟩
abbrev S4096x1024 : Shape := ⟨2, ![4096, 1024]⟩
abbrev S1024x2816 : Shape := ⟨2, ![1024, 2816]⟩
abbrev S1024x1024 : Shape := ⟨2, ![1024, 1024]⟩
abbrev S4x704x1024 : Shape := ⟨3, ![4, 704, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4x1x704x1024, .bf16⟩
  | .hbm, ⟨2, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S4x1x704x1024, .bf16⟩
  | .local _ .vmem, ⟨3, _⟩ => ⟨S1024x1024, .bf16⟩
  | .local _ .vmem, ⟨4, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmFfnOutRefIdeal.lean ====
abbrev S4096x2816 : Shape := ⟨2, ![4096, 2816]⟩
abbrev S4x1x704x1024 : Shape := ⟨4, ![4, 1, 704, 1024]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x1x704x1024, .bf16⟩
  | .hbm, ⟨2, _⟩ => ⟨S2816x1024, .bf16⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InG.lean ====
abbrev S4096x1024 : Shape := ⟨2, ![4096, 1024]⟩
abbrev S4096x3072 : Shape := ⟨2, ![4096, 3072]⟩
abbrev S4x1024x2048 : Shape := ⟨3, ![4, 1024, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4096x1024, .bf16⟩
  | .hbm, ⟨7, _⟩ => ⟨S4x1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond8 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c2_i32 : BitVec 32 := 2#32
  let v1 : BitVec 1 := Scalar.cmpi .slt arg0 c2_i32
  let v2 : BitVec 1 := Scalar.andi v0 v1
  let c0_i32 : BitVec 32 := 0#32
  let v3 : BitVec 32 := Scalar.select v2 arg1 c0_i32
  let c1_i32_0 : BitVec 32 := 1#32
  let v4 : BitVec 32 := Scalar.subi arg0 c1_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg1 c0_i32
  let c3_i32_0 : BitVec 32 := 3#32
  let v4 : BitVec 32 := Scalar.subi arg0 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg1 c0_i32
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c8_i32 : BitVec 32 := 8#32
  let v1 : BitVec 1 := Scalar.cmpi .slt arg0 c8_i32
  let v2 : BitVec 1 := Scalar.andi v0 v1
  let c0_i32 : BitVec 32 := 0#32
  let v3 : BitVec 32 := Scalar.select v2 arg1 c0_i32
  let c5_i32_0 : BitVec 32 := 5#32
  let v4 : BitVec 32 := Scalar.subi arg0 c5_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InGRefIdeal.lean ====
abbrev S4096x1024 : Shape := ⟨2, ![4096, 1024]⟩
abbrev S4096x3072 : Shape := ⟨2, ![4096, 3072]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x3072, .f32⟩
  | .hbm, ⟨13, _⟩ => ⟨S4096x8192, .f32⟩
  | .hbm, ⟨14, _⟩ => ⟨S_, .f32⟩
  | .hbm, ⟨15, _⟩ => ⟨S1024x8192, .f32⟩
  | .hbm, ⟨16, _⟩ => ⟨S4096x1024, .f32⟩
  | .hbm, ⟨17, _⟩ => ⟨S4096x8192, .f32⟩
  | .hbm, ⟨18, _⟩ => ⟨S8192x1024, .f32⟩
  | .hbm, ⟨19, _⟩ => ⟨S1024x8192, .f32⟩
  | .hbm, ⟨20, _⟩ => ⟨S1024x4x2048, .f32⟩
  | .hbm, ⟨21, _⟩ => ⟨S4x1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== GateB.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateBRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Swiglu.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Merge.lean ====
abbrev S4096x8192 : Shape := ⟨2, ![4096, 8192]⟩
abbrev S4096x1024 : Shape := ⟨2, ![4096, 1024]⟩
abbrev S4096x3072 : Shape := ⟨2, ![4096, 3072]⟩
abbrev S1x3072 : Shape := ⟨2, ![1, 3072]⟩
abbrev S256x1024 : Shape := ⟨2, ![256, 1024]⟩
abbrev S256x3072 : Shape := ⟨2, ![256, 3072]⟩
abbrev S3072 : Shape := ⟨1, ![3072]⟩

abbrev nBuf : Space → Nat
  | .hbm => 10
  | .vmem => 23
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x3072, .bf16⟩
  | .hbm, ⟨9, _⟩ => ⟨S1x3072, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | .local _ .vmem, ⟨22, _⟩ => ⟨S1x3072, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_24 : BitVec 32 := 0#32
  let v48 : BitVec 1 := Scalar.cmpi .ne v47 c0_i32_24
  v48

def k0_cond2 (i : grid0.Coords) : BitVec 1 :=
  let arg0 : BitVec 32 := BitVec.ofNat 32 (i 0).val
  let c0_i32_25 : BitVec 32 := 0#32
  let v49 : BitVec 1 := Scalar.cmpi .sgt arg0 c0_i32_25
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S4096x8192 : Shape := ⟨2, ![4096, 8192]⟩
abbrev S4096x1024 : Shape := ⟨2, ![4096, 1024]⟩
abbrev S4096x3072 : Shape := ⟨2, ![4096, 3072]⟩
abbrev S4096x3x1024 : Shape := ⟨3, ![4096, 3, 1024]⟩
abbrev S_ : Shape := ⟨0, ![]⟩
abbrev S4096x1x1024 : Shape := ⟨3, ![4096, 1, 1024]⟩
abbrev S3072 : Shape := ⟨1, ![3072]⟩
abbrev S1x3072 : Shape := ⟨2, ![1, 3072]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x8192, .f32⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x3x1024, .f32⟩
  | .hbm, ⟨11, _⟩ => ⟨S4096x3x1024, .f32⟩
  | .hbm, ⟨12, _⟩ => ⟨S4096x3x1024, .f32⟩
  | .hbm, ⟨13, _⟩ => ⟨S_, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S4096x3x1024, .f32⟩
  | .hbm, ⟨23, _⟩ => ⟨S4096x1x1024, .f32⟩
  | .hbm, ⟨24, _⟩ => ⟨S4096x1024, .f32⟩
  | .hbm, ⟨25, _⟩ => ⟨S4096x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S_, .f32⟩
  | .hbm, ⟨39, _⟩ => ⟨S4096x3x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S_, .f32⟩
  | .hbm, ⟨44, _⟩ => ⟨S4096x3x1024, .f32⟩
  | .hbm, ⟨45, _⟩ => ⟨S4096x3x1024, .f32⟩
  | .hbm, ⟨46, _⟩ => ⟨S4096x1024, .f32⟩
  | .hbm, ⟨47, _⟩ => ⟨S4096x1024, .f32⟩
  | .hbm, ⟨48, _⟩ => ⟨S4096x1x1024, .f32⟩
  | .hbm, ⟨49, _⟩ => ⟨S_, .f32⟩
  | .hbm, ⟨50, _⟩ => ⟨S4096x3x1024, .f32⟩
  | .hbm, ⟨51, _⟩ => ⟨S4096x3x1024, .f32⟩
  | .hbm, ⟨52, _⟩ => ⟨S4096x3x1024, .f32⟩
  | .hbm, ⟨53, _⟩ => ⟨S4096x3072, .f32⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x3072, .bf16⟩
  | .hbm, ⟨58, _⟩ => ⟨S_, .f32⟩
  | .hbm, ⟨59, _⟩ => ⟨S3072, .f32⟩
  | .hbm, ⟨60, _⟩ => ⟨S1x3072, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== PoolMixB.lean ====
abbrev S4096x1024 : Shape := ⟨2, ![4096, 1024]⟩
abbrev S4x256x256 : Shape := ⟨3, ![4, 256, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .bf16⟩
  | .hbm, ⟨3, _⟩ => ⟨S1x1024, .f32⟩
  | .hbm, ⟨4, _⟩ => ⟨S4096x1024, .bf16⟩
  | .hbm, ⟨5, _⟩ => ⟨S4x256x256, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S4x256x256, .f32⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_22 : BitVec 32 := 0#32
  let v66 : BitVec 1 := Scalar.cmpi .ne v65 c0_i32_22
  v66

def k0_cond2 (i : grid0.Coords) : BitVec 1 :=
  let arg0 : BitVec 32 := BitVec.ofNat 32 (i 0).val
  let c0_i32_23 : BitVec 32 := 0#32
  let v67 : BitVec 1 := Scalar.cmpi .sgt arg0 c0_i32_23
  let v68 : BitVec 32 := Scalar.extui v67
  let c0_i32_24 : BitVec 32 := 0#32
  let v69 : BitVec 1 := Scalar.cmpi .ne v68 c0_i32_24
  v69

def k0_cond3 (i : grid0.Coords) : BitVec 1 :=
  let arg0 : BitVec 32 := BitVec.ofNat 32 (i 0).val
  let c0_i32_25 : BitVec 32 := 0#32
  let v70 : BitVec 1 := Scalar.cmpi .eq arg0 c0_i32_25
  let v71 : BitVec 32 := Scalar.extui v70
  let c0_i32_26 : BitVec 32 := 0#32
  let v72 : BitVec 1 := Scalar.cmpi .ne v71 c0_i32_26
  v72

def k0_cond4 (i : grid0.Coords) : BitVec 1 :=
  let arg0 : BitVec 32 := BitVec.ofNat 32 (i 0).val
  let c0_i32_27 : BitVec 32 := 0#32
  let v73 : BitVec 1 := Scalar.cmpi .sgt arg0 c0_i32_27
  let v74 : BitVec 32 := Scalar.extui v73
  let c0_i32_28 : BitVec 32 := 0#32
  let v75 : BitVec 1 := Scalar.cmpi .ne v74 c0_i32_28
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolMixBRefIdeal.lean ====
abbrev S4096x1024 : Shape := ⟨2, ![4096, 1024]⟩
abbrev S4x256x256 : Shape := ⟨3, ![4, 256, 256]⟩
abbrev S1x1024 : Shape := ⟨2, ![1, 1024]⟩
abbrev S4096x4x256 : Shape := ⟨3, ![4096, 4, 256]⟩
abbrev S4x256x4096 : Shape := ⟨3, ![4, 256, 4096]⟩
abbrev S_ : Shape := ⟨0, ![]⟩
abbrev S1024 : Shape := ⟨1, ![1024]⟩
abbrev S4x4096x256 : Shape := ⟨3, ![4, 4096, 256]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x256, .bf16⟩
  | .hbm, ⟨3, _⟩ => ⟨S1x1024, .f32⟩
  | .hbm, ⟨4, _⟩ => ⟨S4096x1024, .f32⟩
  | .hbm, ⟨5, _⟩ => ⟨S4x256x256, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4x256, .f32⟩
  | .hbm, ⟨20, _⟩ => ⟨S4x256x4096, .f32⟩
  | .hbm, ⟨21, _⟩ => ⟨S4x4096x256, .f32⟩
  | .hbm, ⟨22, _⟩ => ⟨S4096x4x256, .f32⟩
  | .hbm, ⟨23, _⟩ => ⟨S4x256x256, .f32⟩
  | .hbm, ⟨24, _⟩ => ⟨S4x256x256, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== PoolMix.lean ====
abbrev S4096x1024 : Shape := ⟨2, ![4096, 1024]⟩
abbrev S4x256x256 : Shape := ⟨3, ![4, 256, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S1x1024, .f32⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x256x256, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolMixRefIdeal.lean ====
abbrev S4096x1024 : Shape := ⟨2, ![4096, 1024]⟩
abbrev S4x256x256 : Shape := ⟨3, ![4, 256, 256]⟩
abbrev S1x1024 : Shape := ⟨2, ![1, 1024]⟩
abbrev S4096x4x256 : Shape := ⟨3, ![4096, 4, 256]⟩
abbrev S4x256x4096 : Shape := ⟨3, ![4, 256, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S1x1024, .f32⟩
  | .hbm, ⟨3, _⟩ => ⟨S4096x1024, .f32⟩
  | .hbm, ⟨4, _⟩ => ⟨S4x256x256, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SwigluF.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluFRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== MergeF.lean ====
abbrev S4096x8192 : Shape := ⟨2, ![4096, 8192]⟩
abbrev S4096x1024 : Shape := ⟨2, ![4096, 1024]⟩
abbrev S512x1024 : Shape := ⟨2, ![512, 1024]⟩

abbrev nBuf : Space → Nat
  | .hbm => 5
  | .vmem => 14
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFRefIdeal.lean ====
abbrev S4096x8192 : Shape := ⟨2, ![4096, 8192]⟩
abbrev S4096x1024 : Shape := ⟨2, ![4096, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x8192, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3x1024, .f32⟩
  | .hbm, ⟨15, _⟩ => ⟨S4096x1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== NormB.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32_22 : BitVec 32 := 0#32
  let v55 : BitVec 1 := Scalar.cmpi .sgt arg0 c0_i32_22
  let v56 : BitVec 32 := Scalar.extui v55
  let c0_i32_23 : BitVec 32 := 0#32
  let v57 : BitVec 1 := Scalar.cmpi .ne v56 c0_i32_23
  v57

def k0_cond3 (i : grid0.Coords) : BitVec 1 :=
  let arg0 : BitVec 32 := BitVec.ofNat 32 (i 0).val
  let c0_i32_24 : BitVec 32 := 0#32
  let v58 : BitVec 1 := Scalar.cmpi .eq arg0 c0_i32_24
  let v59 : BitVec 32 := Scalar.extui v58
  let c0_i32_25 : BitVec 32 := 0#32
  let v60 : BitVec 1 := Scalar.cmpi .ne v59 c0_i32_25
  v60

def k0_cond4 (i : grid0.Coords) : BitVec 1 :=
  let arg0 : BitVec 32 := BitVec.ofNat 32 (i 0).val
  let c0_i32_26 : BitVec 32 := 0#32
  let v61 : BitVec 1 := Scalar.cmpi .sgt arg0 c0_i32_26
  let v62 : BitVec 32 := Scalar.extui v61
  let c0_i32_27 : BitVec 32 := 0#32
  let v63 : BitVec 1 := Scalar.cmpi .ne v62 c0_i32_27
  v63

def k0_cond5 (i : grid0.Coords) : BitVec 1 :=
  let arg0 : BitVec 32 := BitVec.ofNat 32 (i 0).val
  let c0_i32_28 : BitVec 32 := 0#32
  let v64 : BitVec 1 := Scalar.cmpi .eq arg0 c0_i32_28
  let v65 : BitVec 32 := Scalar.extui v64
  let c0_i32_29 : BitVec 32 := 0#32
  let v66 : BitVec 1 := Scalar.cmpi .ne v65 c0_i32_29
  v66

def k0_cond6 (i : grid0.Coords) : BitVec 1 :=
  let arg0 : BitVec 32 := BitVec.ofNat 32 (i 0).val
  let c0_i32_30 : BitVec 32 := 0#32
  let v67 : BitVec 1 := Scalar.cmpi .sgt arg0 c0_i32_30
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== NormGateB.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_28 : BitVec 32 := 0#32
  let v64 : BitVec 1 := Scalar.cmpi .ne v63 c0_i32_28
  v64

def k0_cond2 (i : grid0.Coords) : BitVec 1 :=
  let arg0 : BitVec 32 := BitVec.ofNat 32 (i 0).val
  let c0_i32_29 : BitVec 32 := 0#32
  let v65 : BitVec 1 := Scalar.cmpi .sgt arg0 c0_i32_29
  let v66 : BitVec 32 := Scalar.extui v65
  let c0_i32_30 : BitVec 32 := 0#32
  let v67 : BitVec 1 := Scalar.cmpi .ne v66 c0_i32_30
  v67

def k0_cond3 (i : grid0.Coords) : BitVec 1 :=
  let arg0 : BitVec 32 := BitVec.ofNat 32 (i 0).val
  let c0_i32_31 : BitVec 32 := 0#32
  let v68 : BitVec 1 := Scalar.cmpi .eq arg0 c0_i32_31
  let v69 : BitVec 32 := Scalar.extui v68
  let c0_i32_32 : BitVec 32 := 0#32
  let v70 : BitVec 1 := Scalar.cmpi .ne v69 c0_i32_32
  v70

def k0_cond4 (i : grid0.Coords) : BitVec 1 :=
  let arg0 : BitVec 32 := BitVec.ofNat 32 (i 0).val
  let c0_i32_33 : BitVec 32 := 0#32
  let v71 : BitVec 1 := Scalar.cmpi .sgt arg0 c0_i32_33
  let v72 : BitVec 32 := Scalar.extui v71
  let c0_i32_34 : BitVec 32 := 0#32
  let v73 : BitVec 1 := Scalar.cmpi .ne v72 c0_i32_34
  v73

def k0_cond5 (i : grid0.Coords) : BitVec 1 :=
  let arg0 : BitVec 32 := BitVec.ofNat 32 (i 0).val
  let c0_i32_35 : BitVec 32 := 0#32
  let v74 : BitVec 1 := Scalar.cmpi .eq arg0 c0_i32_35
  let v75 : BitVec 32 := Scalar.extui v74
  let c0_i32_36 : BitVec 32 := 0#32
  let v76 : BitVec 1 := Scalar.cmpi .ne v75 c0_i32_36
  v76

def k0_cond6 (i : grid0.Coords) : BitVec 1 :=
  let arg0 : BitVec 32 := BitVec.ofNat 32 (i 0).val
  let c0_i32_37 : BitVec 32 := 0#32
  let v77 : BitVec 1 := Scalar.cmpi .sgt arg0 c0_i32_37
  let v78 : BitVec 32 := Scalar.extui v77
  let c0_i32_38 : BitVec 32 := 0#32
  let v79 : BitVec 1 := Scalar.cmpi .ne v78 c0_i32_38
  v79

def k0_cond7 (i : grid0.Coords) : BitVec 1 :=
  let arg0 : BitVec 32 := BitVec.ofNat 32 (i 0).val
  let c0_i32_39 : BitVec 32 := 0#32
  let v80 : BitVec 1 := Scalar.cmpi .eq arg0 c0_i32_39
  let v81 : BitVec 32 := Scalar.extui v80
  let c0_i32_40 : BitVec 32 := 0#32
  let v82 : BitVec 1 := Scalar.cmpi .ne v81 c0_i32_40
  v82

def k0_cond8 (i : grid0.Coords) : BitVec 1 :=
  let arg0 : BitVec 32 := BitVec.ofNat 32 (i 0).val
  let c0_i32_41 : BitVec 32 := 0#32
  let v83 : BitVec 1 := Scalar.cmpi .sgt arg0 c0_i32_41
  let v84 : BitVec 32 := Scalar.extui v83
  let c0_i32_42 : BitVec 32 := 0#32
  let v85 : BitVec 1 := Scalar.cmpi .ne v84 c0_i32_42
  v85

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormGateBRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== ConvActB.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_27 : BitVec 32 := 0#32
  let v80 : BitVec 1 := Scalar.cmpi .ne v79 c0_i32_27
  v80

def k0_cond2 (i : grid0.Coords) : BitVec 1 :=
  let arg0 : BitVec 32 := BitVec.ofNat 32 (i 0).val
  let c0_i32_28 : BitVec 32 := 0#32
  let v81 : BitVec 1 := Scalar.cmpi .sgt arg0 c0_i32_28
  let v82 : BitVec 32 := Scalar.extui v81
  let c0_i32_29 : BitVec 32 := 0#32
  let v83 : BitVec 1 := Scalar.cmpi .ne v82 c0_i32_29
  v83

def k0_cond3 (i : grid0.Coords) : BitVec 1 :=
  let arg0 : BitVec 32 := BitVec.ofNat 32 (i 0).val
  let c0_i32_30 : BitVec 32 := 0#32
  let v84 : BitVec 1 := Scalar.cmpi .eq arg0 c0_i32_30
  let v85 : BitVec 32 := Scalar.extui v84
  let c0_i32_31 : BitVec 32 := 0#32
  let v86 : BitVec 1 := Scalar.cmpi .ne v85 c0_i32_31
  v86

def k0_cond4 (i : grid0.Coords) : BitVec 1 :=
  let arg0 : BitVec 32 := BitVec.ofNat 32 (i 0).val
  let c0_i32_32 : BitVec 32 := 0#32
  let v87 : BitVec 1 := Scalar.cmpi .sgt arg0 c0_i32_32
  let v88 : BitVec 32 := Scalar.extui v87
  let c0_i32_33 : BitVec 32 := 0#32
  let v89 : BitVec 1 := Scalar.cmpi .ne v88 c0_i32_33
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvActBRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v28_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v28_1 : Ref sig .tc := ⟨.hbm, 50, rfl⟩
abbrev main_v28_0 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_23 : BitVec 32 := 0#32
  let v61 : BitVec 1 := Scalar.cmpi .ne v60 c0_i32_23
  v61

def k0_cond2 (i : grid0.Coords) : BitVec 1 :=
  let arg0 : BitVec 32 := BitVec.ofNat 32 (i 0).val
  let c0_i32_24 : BitVec 32 := 0#32
  let v62 : BitVec 1 := Scalar.cmpi .sgt arg0 c0_i32_24
  let v63 : BitVec 32 := Scalar.extui v62
  let c0_i32_25 : BitVec 32 := 0#32
  let v64 : BitVec 1 := Scalar.cmpi .ne v63 c0_i32_25
  v64

def k0_cond3 (i : grid0.Coords) : BitVec 1 :=
  let arg0 : BitVec 32 := BitVec.ofNat 32 (i 0).val
  let c0_i32_26 : BitVec 32 := 0#32
  let v65 : BitVec 1 := Scalar.cmpi .eq arg0 c0_i32_26
  let v66 : BitVec 32 := Scalar.extui v65
  let c0_i32_27 : BitVec 32 := 0#32
  let v67 : BitVec 1 := Scalar.cmpi .ne v66 c0_i32_27
  v67

def k0_cond4 (i : grid0.Coords) : BitVec 1 :=
  let arg0 : BitVec 32 := BitVec.ofNat 32 (i 0).val
  let c0_i32_28 : BitVec 32 := 0#32
  let v68 : BitVec 1 := Scalar.cmpi .sgt arg0 c0_i32_28
  let v69 : BitVec 32 := Scalar.extui v68
  let c0_i32_29 : BitVec 32 := 0#32
  let v70 : BitVec 1 := Scalar.cmpi .ne v69 c0_i32_29
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== NormF.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ResNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== ConvAct.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvActRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== SguF.lean ====
abbrev S4096x8192 : Shape := ⟨2, ![4096, 8192]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128 : Shape := ⟨2, ![1, 128]⟩
abbrev S512x128 : Shape := ⟨2, ![512, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128, .f32⟩
  | .local _ .vmem, ⟨8, _⟩ => ⟨S512x1024, .bf16⟩
  | .local _ .vmem, ⟨9, _⟩ => ⟨S512x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFRefIdeal.lean ====
abbrev S4096x8192 : Shape := ⟨2, ![4096, 8192]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩

abbrev nBuf : Space → Nat
  | .hbm => 82
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x8192, .f32⟩
  | .hbm, ⟨6, _⟩ => ⟨S4096x1024, .f32⟩
  | .hbm, ⟨7, _⟩ => ⟨S1x4096x1024, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S4096x1024, .f32⟩
  | .hbm, ⟨18, _⟩ => ⟨S1x4096x1024, .f32⟩
  | .hbm, ⟨19, _⟩ => ⟨S_, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1x4096, .f32⟩
  | .hbm, ⟨39, _⟩ => ⟨S1x4096x1, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x1x1024, .f32⟩
  | .hbm, ⟨52, _⟩ => ⟨S1x4096x1024, .f32⟩
  | .hbm, ⟨53, _⟩ => ⟨S1x4096x1024, .f32⟩
  | .hbm, ⟨54, _⟩ => ⟨S1x1x1024, .f32⟩
  | .hbm, ⟨55, _⟩ => ⟨S1x4096x1024, .f32⟩
  | .hbm, ⟨56, _⟩ => ⟨S1x4096x1024, .f32⟩
  | .hbm, ⟨57, _⟩ => ⟨S1x32x128x8x128, .f32⟩
  | .hbm, ⟨58, _⟩ => ⟨S_, .f32⟩
  | .hbm, ⟨59, _⟩ => ⟨S128x128, .f32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S1x128x128, .f32⟩
  | .hbm, ⟨70, _⟩ => ⟨S8x128x128, .f32⟩
  | .hbm, ⟨71, _⟩ => ⟨S8x128x128, .f32⟩
  | .hbm, ⟨72, _⟩ => ⟨S8x1x32x128x128, .f32⟩
  | .hbm, ⟨73, _⟩ => ⟨S1x32x128x8x128, .f32⟩
  | .hbm, ⟨74, _⟩ => ⟨S128x8, .f32⟩
  | .hbm, ⟨75, _⟩ => ⟨S1x1x128x8x1, .f32⟩
  | .hbm, ⟨76, _⟩ => ⟨S1x32x128x8x128, .f32⟩
  | .hbm, ⟨77, _⟩ => ⟨S1x32x128x8x128, .f32⟩
  | .hbm, ⟨78, _⟩ => ⟨S1x4096x1024, .f32⟩
  | .hbm, ⟨79, _⟩ => ⟨S1x4096x1024, .f32⟩
  | .hbm, ⟨80, _⟩ => ⟨S4096x1024, .f32⟩
  | .hbm, ⟨81, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_cst : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== AdaB.lean ====
abbrev S128x1024 : Shape := ⟨2, ![128, 1024]⟩
abbrev S2x128x1536 : Shape := ⟨3, ![2, 128, 1536]⟩
abbrev S2x1024x1536 : Shape := ⟨3, ![2, 1024, 1536]⟩
abbrev S1x128x1536 : Shape := ⟨3, ![1, 128, 1536]⟩
abbrev S1x1024x1536 : Shape := ⟨3, ![1, 1024, 1536]⟩
abbrev S128x1536 : Shape := ⟨2, ![128, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S2x128x1536, .f32⟩
  | .hbm, ⟨2, _⟩ => ⟨S2x1024x1536, .f32⟩
  | .local _ .vmem, ⟨0, _⟩ => ⟨S128x1024, .f32⟩
  | .local _ .vmem, ⟨1, _⟩ => ⟨S1x128x1536, .f32⟩
  | .local _ .vmem, ⟨2, _⟩ => ⟨S1x128x1536, .f32⟩
  | .local _ .vmem, ⟨3, _⟩ => ⟨S1x1024x1536, .f32⟩
  | .local _ .vmem, ⟨4, _⟩ => ⟨S1x1024x1536, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBRefIdeal.lean ====
abbrev S128x1024 : Shape := ⟨2, ![128, 1024]⟩
abbrev S2x128x1536 : Shape := ⟨3, ![2, 128, 1536]⟩
abbrev S_ : Shape := ⟨0, ![]⟩
abbrev S2x1024x1536 : Shape := ⟨3, ![2, 1024, 1536]⟩
abbrev S128x2x1536 : Shape := ⟨3, ![128, 2, 1536]⟩
abbrev S2x1536x1024 : Shape := ⟨3, ![2, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S2x128x1536, .f32⟩
  | .hbm, ⟨2, _⟩ => ⟨S_, .f32⟩
  | .hbm, ⟨3, _⟩ => ⟨S2x1024x1536, .f32⟩
  | .hbm, ⟨4, _⟩ => ⟨S128x1024, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x2x1536, .f32⟩
  | .hbm, ⟨14, _⟩ => ⟨S2x128x1536, .f32⟩
  | .hbm, ⟨15, _⟩ => ⟨S128x2x1536, .f32⟩
  | .hbm, ⟨16, _⟩ => ⟨S2x1536x1024, .f32⟩
  | .hbm, ⟨17, _⟩ => ⟨S2x1024x1536, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AdaF.lean ====
abbrev S16x1024 : Shape := ⟨2, ![16, 1024]⟩
abbrev S2x1024x1536 : Shape := ⟨3, ![2, 1024, 1536]⟩
abbrev S2x1x1536 : Shape := ⟨3, ![2, 1, 1536]⟩
abbrev S2x16x1536 : Shape := ⟨3, ![2, 16, 1536]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x1536, .f32⟩
  | .hbm, ⟨2, _⟩ => ⟨S2x1x1536, .f32⟩
  | .hbm, ⟨3, _⟩ => ⟨S2x16x1536, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFRefIdeal.lean ====
abbrev S16x1024 : Shape := ⟨2, ![16, 1024]⟩
abbrev S2x1024x1536 : Shape := ⟨3, ![2, 1024, 1536]⟩
abbrev S2x1x1536 : Shape := ⟨3, ![2, 1, 1536]⟩
abbrev S_ : Shape := ⟨0, ![]⟩
abbrev S16x2x1536 : Shape := ⟨3, ![16, 2, 1536]⟩
abbrev S2x16x1536 : Shape := ⟨3, ![2, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x1536, .f32⟩
  | .hbm, ⟨2, _⟩ => ⟨S2x1x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2x1536, .f32⟩
  | .hbm, ⟨13, _⟩ => ⟨S2x16x1536, .f32⟩
  | .hbm, ⟨14, _⟩ => ⟨S2x16x1536, .f32⟩
  | .hbm, ⟨15, _⟩ => ⟨S2x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== PoolB.lean ====
abbrev S4096x1024 : Shape := ⟨2, ![4096, 1024]⟩
abbrev S1x1024 : Shape := ⟨2, ![1, 1024]⟩
abbrev S4096x128 : Shape := ⟨2, ![4096, 128]⟩
abbrev S1x128 : Shape := ⟨2, ![1, 128]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S1x128, .f32⟩
  | .local _ .vmem, ⟨5, _⟩ => ⟨S1x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolBRefIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x256 : Shape := ⟨2, ![4096, 256]⟩
abbrev S256x4096 : Shape := ⟨2, ![256, 4096]⟩
abbrev S1024 : Shape := ⟨1, ![1024]⟩
abbrev S1x1024 : Shape := ⟨2, ![1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S_, .f32⟩
  | .hbm, ⟨2, _⟩ => ⟨S4096x1024, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x256, .f32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S4096x4096, .i1⟩
  | .hbm, ⟨22, _⟩ => ⟨S4096x4096, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S4096x4096, .i1⟩
  | .hbm, ⟨39, _⟩ => ⟨S4096x4096, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S_, .i32⟩
  | .hbm, ⟨53, _⟩ => ⟨S4096x4096, .i32⟩
  | .hbm, ⟨54, _⟩ => ⟨S4096x4096, .i1⟩
  | .hbm, ⟨55, _⟩ => ⟨S4096x4096, .i1⟩
  | .hbm, ⟨56, _⟩ => ⟨S4096x4096, .f32⟩
  | .hbm, ⟨57, _⟩ => ⟨S4096x256, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S4096x4096, .i1⟩
  | .hbm, ⟨73, _⟩ => ⟨S4096x4096, .f32⟩
  | .hbm, ⟨74, _⟩ => ⟨S4096x256, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x1024, .f32⟩
  | .hbm, ⟨83, _⟩ => ⟨S4096x1024, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S256x4096, .f32⟩
  | .hbm, ⟨92, _⟩ => ⟨S4096x256, .f32⟩
  | .hbm, ⟨93, _⟩ => ⟨S4096x256, .f32⟩
  | .hbm, ⟨94, _⟩ => ⟨S_, .f32⟩
  | .hbm, ⟨95, _⟩ => ⟨S4096x1024, .f32⟩
  | .hbm, ⟨96, _⟩ => ⟨S4096x256, .f32⟩
  | .hbm, ⟨97, _⟩ => ⟨S4096x256, .f32⟩
  | .hbm, ⟨98, _⟩ => ⟨S4096x256, .f32⟩
  | .hbm, ⟨99, _⟩ => ⟨S256x4096, .f32⟩
  | .hbm, ⟨100, _⟩ => ⟨S4096x256, .f32⟩
  | .hbm, ⟨101, _⟩ => ⟨S4096x256, .f32⟩
  | .hbm, ⟨102, _⟩ => ⟨S_, .f32⟩
  | .hbm, ⟨103, _⟩ => ⟨S4096x1024, .f32⟩
  | .hbm, ⟨104, _⟩ => ⟨S4096x1024, .f32⟩
  | .hbm, ⟨105, _⟩ => ⟨S4096x256, .f32⟩
  | .hbm, ⟨106, _⟩ => ⟨S4096x256, .f32⟩
  | .hbm, ⟨107, _⟩ => ⟨S4096x256, .f32⟩
  | .hbm, ⟨108, _⟩ => ⟨S256x4096, .f32⟩
  | .hbm, ⟨109, _⟩ => ⟨S4096x256, .f32⟩
  | .hbm, ⟨110, _⟩ => ⟨S4096x256, .f32⟩
  | .hbm, ⟨111, _⟩ => ⟨S_, .f32⟩
  | .hbm, ⟨112, _⟩ => ⟨S4096x1024, .f32⟩
  | .hbm, ⟨113, _⟩ => ⟨S4096x1024, .f32⟩
  | .hbm, ⟨114, _⟩ => ⟨S4096x256, .f32⟩
  | .hbm, ⟨115, _⟩ => ⟨S4096x256, .f32⟩
  | .hbm, ⟨116, _⟩ => ⟨S4096x256, .f32⟩
  | .hbm, ⟨117, _⟩ => ⟨S256x4096, .f32⟩
  | .hbm, ⟨118, _⟩ => ⟨S4096x256, .f32⟩
  | .hbm, ⟨119, _⟩ => ⟨S4096x256, .f32⟩
  | .hbm, ⟨120, _⟩ => ⟨S_, .f32⟩
  | .hbm, ⟨121, _⟩ => ⟨S4096x1024, .f32⟩
  | .hbm, ⟨122, _⟩ => ⟨S4096x1024, .f32⟩
  | .hbm, ⟨123, _⟩ => ⟨S4096x1024, .bf16⟩
  | .hbm, ⟨124, _⟩ => ⟨S_, .f32⟩
  | .hbm, ⟨125, _⟩ => ⟨S1024, .f32⟩
  | .hbm, ⟨126, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_6 : Ref sig .tc := ⟨.hbm, 49, rfl⟩
abbrev main_v40 : Ref sig .tc := ⟨.hbm, 50, rfl⟩
abbrev main_v41 : Ref sig .tc := ⟨.hbm, 51, rfl⟩
abbrev main_c_7 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_9 : Ref sig .tc := ⟨.hbm, 66, rfl⟩
abbrev main_v54 : Ref sig .tc := ⟨.hbm, 67, rfl⟩
abbrev main_v55 : Ref sig .tc := ⟨.hbm, 68, rfl⟩
abbrev main_c_10 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_12 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_13 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_14 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_15 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_16 : Ref sig .tc := ⟨.hbm, 124, rfl⟩
abbrev main_v105 : Ref sig .tc := ⟨.hbm, 125, rfl⟩
abbrev main_v106 : Ref sig .tc := ⟨.hbm, 126, rfl⟩

abbrev nD : Nat := 1
abbrev τ : Topo := Topo.v7x

variable {F : FTy → Type} [FloatOps F]
-- ==== PoolF.lean ====
abbrev S4096x8192 : Shape := ⟨2, ![4096, 8192]⟩
abbrev S4096x1024 : Shape := ⟨2, ![4096, 1024]⟩
abbrev S4096x128 : Shape := ⟨2, ![4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolFRefIdeal.lean ====
abbrev S4096x8192 : Shape := ⟨2, ![4096, 8192]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x256 : Shape := ⟨2, ![4096, 256]⟩

abbrev nBuf : Space → Nat
  | .hbm => 84
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .bf16⟩
  | .hbm, ⟨2, _⟩ => ⟨S4096x1024, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x256, .f32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S4096x4096, .i1⟩
  | .hbm, ⟨22, _⟩ => ⟨S4096x4096, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S_, .i32⟩
  | .hbm, ⟨33, _⟩ => ⟨S4096x4096, .i32⟩
  | .hbm, ⟨34, _⟩ => ⟨S4096x4096, .i1⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S4096x4096, .i1⟩
  | .hbm, ⟨39, _⟩ => ⟨S4096x4096, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S_, .i32⟩
  | .hbm, ⟨53, _⟩ => ⟨S4096x4096, .i32⟩
  | .hbm, ⟨54, _⟩ => ⟨S4096x4096, .i1⟩
  | .hbm, ⟨55, _⟩ => ⟨S4096x4096, .i1⟩
  | .hbm, ⟨56, _⟩ => ⟨S4096x4096, .f32⟩
  | .hbm, ⟨57, _⟩ => ⟨S4096x256, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S4096x4096, .i1⟩
  | .hbm, ⟨73, _⟩ => ⟨S4096x4096, .f32⟩
  | .hbm, ⟨74, _⟩ => ⟨S4096x256, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x1024, .f32⟩
  | .hbm, ⟨83, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_5 : Ref sig .tc := ⟨.hbm, 49, rfl⟩
abbrev main_v41 : Ref sig .tc := ⟨.hbm, 50, rfl⟩
abbrev main_v42 : Ref sig .tc := ⟨.hbm, 51, rfl⟩
abbrev main_c_6 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_7 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_8 : Ref sig .tc := ⟨.hbm, 66, rfl⟩
abbrev main_v55 : Ref sig .tc := ⟨.hbm, 67, rfl⟩
abbrev main_v56 : Ref sig .tc := ⟨.hbm, 68, rfl⟩
abbrev main_c_9 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_10 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== ConvF.lean ====
abbrev S4096x8192 : Shape := ⟨2, ![4096, 8192]⟩
abbrev S32x1024 : Shape := ⟨2, ![32, 1024]⟩
abbrev S1x1024 : Shape := ⟨2, ![1, 1024]⟩
abbrev S4096x1024 : Shape := ⟨2, ![4096, 1024]⟩
abbrev S4096x128 : Shape := ⟨2, ![4096, 128]⟩
abbrev S32x128 : Shape := ⟨2, ![32, 128]⟩
abbrev S1x128 : Shape := ⟨2, ![1, 128]⟩
abbrev S4128x128 : Shape := ⟨2, ![4128, 128]⟩
abbrev S288x128 : Shape := ⟨2, ![288, 128]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S4096x8192, .bf16⟩
  | .hbm, ⟨1, _⟩ => ⟨S32x1024, .f32⟩
  | .hbm, ⟨2, _⟩ => ⟨S1x1024, .f32⟩
  | .hbm, ⟨3, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4128x128, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v14 : BitVec 32 := Scalar.muli arg7 c256_i32
  v14
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v14 : BitVec 32 := Scalar.muli arg7 c256_i32
  let v15 : BitVec 32 := v14
  let v16 : Index := Scalar.indexCast v15
  let c0_7 : Index := 0#32
  ![v16.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v14 : BitVec 32 := Scalar.muli arg7 c256_i32
  let v15 : BitVec 32 := v14
  let v184 : Index := Scalar.indexCast v15
  let c0_43 : Index := 0#32
  ![v184.toNat, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFRefIdeal.lean ====
abbrev S4096x8192 : Shape := ⟨2, ![4096, 8192]⟩
abbrev S32x1024 : Shape := ⟨2, ![32, 1024]⟩
abbrev S1x1024 : Shape := ⟨2, ![1, 1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S1024 : Shape := ⟨1, ![1024]⟩

abbrev nBuf : Space → Nat
  | .hbm => 240
  | .vmem => 0
  | .smem => 0
  | _ => 0

abbrev hbmTy0_0 (i : Nat) : BufTy := match i % 128 with
  | 0 => ⟨S4096x8192, .bf16⟩
  | 1 => ⟨S32x1024, .f32⟩
  | 2 => ⟨S1x1024, .f32⟩
  | 3 => ⟨S4096x8192, .f32⟩
  | 4 => ⟨S4096x1024, .f32⟩
  | 5 => ⟨S4096x1024, .f32⟩
  | 6 => ⟨S_, .f32⟩
  | 7 => ⟨S30x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S4126x1024, .f32⟩
  | 18 => ⟨S1x1024, .f32⟩
  | 19 => ⟨S1024, .f32⟩
  | 20 => ⟨S4096x1024, .f32⟩
  | 21 => ⟨S1x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S1x1024, .f32⟩
  | 28 => ⟨S1024, .f32⟩
  | 29 => ⟨S4096x1024, .f32⟩
  | 30 => ⟨S1x1024, .f32⟩
  | 31 => ⟨S4096x1024, .f32⟩
  | 32 => ⟨S4096x1024, .f32⟩
  | 33 => ⟨S4096x1024, .f32⟩
  | 34 => ⟨S1x1024, .f32⟩
  | 35 => ⟨S1024, .f32⟩
  | 36 => ⟨S4096x1024, .f32⟩
  | 37 => ⟨S1x1024, .f32⟩
  | 38 => ⟨S4096x1024, .f32⟩
  | 39 => ⟨S4096x1024, .f32⟩
  | 40 => ⟨S4096x1024, .f32⟩
  | 41 => ⟨S1x1024, .f32⟩
  | 42 => ⟨S1024, .f32⟩
  | 43 => ⟨S4096x1024, .f32⟩
  | 44 => ⟨S1x1024, .f32⟩
  | 45 => ⟨S4096x1024, .f32⟩
  | 46 => ⟨S4096x1024, .f32⟩
  | 47 => ⟨S4096x1024, .f32⟩
  | 48 => ⟨S1x1024, .f32⟩
  | 49 => ⟨S1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S1x1024, .f32⟩
  | 56 => ⟨S1024, .f32⟩
  | 57 => ⟨S4096x1024, .f32⟩
  | 58 => ⟨S1x1024, .f32⟩
  | 59 => ⟨S4096x1024, .f32⟩
  | 60 => ⟨S4096x1024, .f32⟩
  | 61 => ⟨S4096x1024, .f32⟩
  | 62 => ⟨S1x1024, .f32⟩
  | 63 => ⟨S1024, .f32⟩
  | 64 => ⟨S4096x1024, .f32⟩
  | 65 => ⟨S1x1024, .f32⟩
  | 66 => ⟨S4096x1024, .f32⟩
  | 67 => ⟨S4096x1024, .f32⟩
  | 68 => ⟨S4096x1024, .f32⟩
  | 69 => ⟨S1x1024, .f32⟩
  | 70 => ⟨S1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S1x1024, .f32⟩
  | 77 => ⟨S1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S1x1024, .f32⟩
  | 84 => ⟨S1024, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S1x1024, .f32⟩
  | 91 => ⟨S1024, .f32⟩
  | 92 => ⟨S4096x1024, .f32⟩
  | 93 => ⟨S1x1024, .f32⟩
  | 94 => ⟨S4096x1024, .f32⟩
  | 95 => ⟨S4096x1024, .f32⟩
  | 96 => ⟨S4096x1024, .f32⟩
  | 97 => ⟨S1x1024, .f32⟩
  | 98 => ⟨S1024, .f32⟩
  | 99 => ⟨S4096x1024, .f32⟩
  | 100 => ⟨S1x1024, .f32⟩
  | 101 => ⟨S4096x1024, .f32⟩
  | 102 => ⟨S4096x1024, .f32⟩
  | 103 => ⟨S4096x1024, .f32⟩
  | 104 => ⟨S1x1024, .f32⟩
  | 105 => ⟨S1024, .f32⟩
  | 106 => ⟨S4096x1024, .f32⟩
  | 107 => ⟨S1x1024, .f32⟩
  | 108 => ⟨S4096x1024, .f32⟩
  | 109 => ⟨S4096x1024, .f32⟩
  | 110 => ⟨S4096x1024, .f32⟩
  | 111 => ⟨S1x1024, .f32⟩
  | 112 => ⟨S1024, .f32⟩
  | 113 => ⟨S4096x1024, .f32⟩
  | 114 => ⟨S1x1024, .f32⟩
  | 115 => ⟨S4096x1024, .f32⟩
  | 116 => ⟨S4096x1024, .f32⟩
  | 117 => ⟨S4096x1024, .f32⟩
  | 118 => ⟨S1x1024, .f32⟩
  | 119 => ⟨S1024, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S1x1024, .f32⟩
  | 126 => ⟨S1024, .f32⟩
  | 127 => ⟨S4096x1024, .f32⟩
  | _ => ⟨S4096x8192, .bf16⟩

abbrev hbmTy0_1 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S1x1024, .f32⟩
  | 5 => ⟨S1024, .f32⟩
  | 6 => ⟨S4096x1024, .f32⟩
  | 7 => ⟨S1x1024, .f32⟩
  | 8 => ⟨S4096x1024, .f32⟩
  | 9 => ⟨S4096x1024, .f32⟩
  | 10 => ⟨S4096x1024, .f32⟩
  | 11 => ⟨S1x1024, .f32⟩
  | 12 => ⟨S1024, .f32⟩
  | 13 => ⟨S4096x1024, .f32⟩
  | 14 => ⟨S1x1024, .f32⟩
  | 15 => ⟨S4096x1024, .f32⟩
  | 16 => ⟨S4096x1024, .f32⟩
  | 17 => ⟨S4096x1024, .f32⟩
  | 18 => ⟨S1x1024, .f32⟩
  | 19 => ⟨S1024, .f32⟩
  | 20 => ⟨S4096x1024, .f32⟩
  | 21 => ⟨S1x1024, .f32⟩
  | 22 => ⟨S4096x1024, .f32⟩
  | 23 => ⟨S4096x1024, .f32⟩
  | 24 => ⟨S4096x1024, .f32⟩
  | 25 => ⟨S1x1024, .f32⟩
  | 26 => ⟨S1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== Proof.Sgu.Block.lean ====
module

public import proofs.«01_k».proof.Proof.Gen.SguIdeal.Value
public import Idealize.ShloMosaic.Lib.Tactic

@[expose] public section

/-! What one grid point of the gating backward leaves in each of its eight outputs, as one vector function of its seven
input blocks: the sixteen 128-row by 128-column pieces are written once, for a row chunk `n` and a column group `g`. -/

set_option maxRecDepth 16384

noncomputable section

namespace Cert.SguIdeal.Block

open Cert.SguIdeal Cert.SguIdeal.Gen Idealize.ShloMosaic Idealize.ShloMosaic.TcCoe Idealize.SL.Sem

variable {F : FTy → Type} [FloatOps F]

/-- A square piece of a 256x1024 block starts in range. -/
theorem slices_piece (n : Fin 2) (g : Fin 8) : S256x1024.Slices ![128 * n.val, 128 * g.val] S128x128 :=
  (by decide : ∀ (n : Fin 2) (g : Fin 8), S256x1024.Slices ![128 * n.val, 128 * g.val] S128x128) n g

/-- One group's matrix lies in the stack of eight. -/
theorem slices_group (g : Fin 8) : S8x128x128.Slices ![g.val, 0, 0] S1x128x128 :=
  (by decide : ∀ g : Fin 8, S8x128x128.Slices ![g.val, 0, 0] S1x128x128) g

/-- One group's bias row lies in the stack of eight. -/
theorem slices_bias (g : Fin 8) : S8x128.Slices ![g.val, 0] S1x128 :=
  (by decide : ∀ g : Fin 8, S8x128.Slices ![g.val, 0] S1x128) g

/-- The piece of a 256x1024 block at row chunk `n` and column group `g`. -/
def piece (n : Fin 2) (g : Fin 8) (v : FVec F S256x1024 .f32) : FVec F S128x128 .f32 :=
  extractStridedSlice S128x128 ![128 * n.val, 128 * g.val] v (slices_piece n g)

/-- Group `g`'s mixing matrix under the lower-triangular mask. -/
def masked (x5 : Vec F S8x128x128 .f32) (g : Fin 8) : FVec F S128x128 .f32 :=
  mulf (shapeCast S128x128 (extractStridedSlice S1x128x128 ![g.val, 0, 0] x5 (slices_group g)) shapeCasts_S1x128x128_S128x128)
    (k0_pay24 (F := F))

/-- Group `g`'s bias, one value per row, repeated along the columns. -/
def bias (x6 : Vec F S8x128 .f32) (g : Fin 8) : FVec F S128x128 .f32 :=
  transpose S128x128 [1, 0] (broadcastTo S128x128
    (shapeCast S1x128 (extractStridedSlice S1x128 ![g.val, 0] x6 (slices_bias g)) shapeCasts_S1x128_S1x128)
    broadcasts_S1x128_S128x128) transposes_S128x128_p1_0_S128x128

/-- Two row chunks of one column group, one above the other. -/
def stack (f : Fin 2 → FVec F S128x128 .f32) : FVec F S256x128 .f32 :=
  concatenate S256x128 0 [⟨S128x128, f 0⟩, ⟨S128x128, f 1⟩] concatenates_S128x128_S128x128_S256x128_d0

/-- Eight column groups side by side. -/
def beside (f : Fin 8 → FVec F S256x128 .f32) : FVec F S256x1024 .f32 :=
  k0_pay114 (f 0) (f 1) (f 2) (f 3) (f 4) (f 5) (f 6) (f 7)

/-- The zero square. -/
def zeros : FVec F S128x128 .f32 := constant S128x128 .f32 0x00000000#32

/-- The zero square, as a scalar repeated. -/
def zeros' : FVec F S128x128 .f32 := broadcast S128x128 (Scalar.ofBits .f32 0x00000000#32)

/-- The normalised gate values of the block. -/
def vln (x1 : Vec F S256x1024 .bf16) (x3 x4 : Vec F S1x1024 .f32) : FVec F S256x1024 .f32 :=
  k0_pay23 x3 x4 (k0_pay13 x1) (k0_pay14 x1)

/-- The mixed gate of the block: per group and chunk, the masked matrix times the normalised values, plus the bias. -/
def mixed (x1 : Vec F S256x1024 .bf16) (x3 x4 : Vec F S1x1024 .f32) (x5 : Vec F S8x128x128 .f32) (x6 : Vec F S8x128 .f32) :
    FVec F S256x1024 .f32 :=
  beside fun g => stack fun n => addf (matmul dot_S128x128_S128x128_S128x128_1_0_0_1_n_n none
    (truncf .bf16 (masked x5 g) bitsLt_bf16_f32) (truncf .bf16 (piece n g (vln x1 x3 x4)) bitsLt_bf16_f32) zeros) (bias x6 g)

/-- The cotangent of the gated values. -/
def du (x1 x2 : Vec F S256x1024 .bf16) (x3 x4 : Vec F S1x1024 .f32) (x5 : Vec F S8x128x128 .f32) (x6 : Vec F S8x128 .f32) :
    FVec F S256x1024 .f32 :=
  mulf (k0_pay39 x2) (mixed x1 x3 x4 x5 x6)

/-- The cotangent of the mixed gate. -/
def dmix (x0 x2 : Vec F S256x1024 .bf16) : FVec F S256x1024 .f32 := k0_pay41 x2 (k0_pay8 x0)

/-- Column group `g` of the cotangent of the normalised values. -/
def dvln (x0 x2 : Vec F S256x1024 .bf16) (x5 : Vec F S8x128x128 .f32) (g : Fin 8) : FVec F S256x128 .f32 :=
  stack fun n => matmul dot_S128x128_S128x128_S128x128_1_0_0_1_n_n none
    (truncf .bf16 (transpose S128x128 [1, 0] (masked x5 g) transposes_S128x128_p1_0_S128x128) bitsLt_bf16_f32)
    (truncf .bf16 (piece n g (dmix x0 x2)) bitsLt_bf16_f32) zeros

/-- The cotangent of the values before normalisation. -/
def dv (x0 x1 x2 : Vec F S256x1024 .bf16) (x3 : Vec F S1x1024 .f32) (x5 : Vec F S8x128x128 .f32) : FVec F S256x1024 .f32 :=
  k0_pay117 x3 (k0_pay17 (k0_pay13 x1) (k0_pay14 x1)) (k0_pay18 (k0_pay13 x1) (k0_pay14 x1)) (k0_pay20 (k0_pay13 x1) (k0_pay14 x1))
    (k0_pay21 (k0_pay13 x1) (k0_pay14 x1)) (dvln x0 x2 x5 0) (dvln x0 x2 x5 1) (dvln x0 x2 x5 2) (dvln x0 x2 x5 3)
    (dvln x0 x2 x5 4) (dvln x0 x2 x5 5) (dvln x0 x2 x5 6) (dvln x0 x2 x5 7)

/-- The gradient of the first half before its rounding. -/
def dzu (x0 x1 x2 : Vec F S256x1024 .bf16) (x3 x4 : Vec F S1x1024 .f32) (x5 : Vec F S8x128x128 .f32) (x6 : Vec F S8x128 .f32) :
    FVec F S256x1024 .f32 :=
  k0_pay120 (k0_pay4 x0) (k0_pay6 x0) (k0_pay7 x0) (du x1 x2 x3 x4 x5 x6)

/-- The gradient of the second half before its rounding. -/
def dzv (x0 x1 x2 : Vec F S256x1024 .bf16) (x3 : Vec F S1x1024 .f32) (x5 : Vec F S8x128x128 .f32) : FVec F S256x1024 .f32 :=
  k0_pay119 (k0_pay11 x1) (k0_pay12 x1) (dv x0 x1 x2 x3 x5) (mulf (k0_pay9 x1) (dv x0 x1 x2 x3 x5))

/-- The block's part of the gradient of the normalisation's gain. -/
def dg (x0 x1 x2 : Vec F S256x1024 .bf16) (x5 : Vec F S8x128x128 .f32) : FVec F S1x1024 .f32 :=
  k0_pay116 (k0_pay22 (k0_pay13 x1) (k0_pay14 x1)) (dvln x0 x2 x5 0) (dvln x0 x2 x5 1) (dvln x0 x2 x5 2) (dvln x0 x2 x5 3)
    (dvln x0 x2 x5 4) (dvln x0 x2 x5 5) (dvln x0 x2 x5 6) (dvln x0 x2 x5 7)

/-- The block's part of the gradient of the normalisation's offset. -/
def db (x0 x2 : Vec F S256x1024 .bf16) (x5 : Vec F S8x128x128 .f32) : FVec F S1x1024 .f32 :=
  k0_pay115 (dvln x0 x2 x5 0) (dvln x0 x2 x5 1) (dvln x0 x2 x5 2) (dvln x0 x2 x5 3)
    (dvln x0 x2 x5 4) (dvln x0 x2 x5 5) (dvln x0 x2 x5 6) (dvln x0 x2 x5 7)

/-- The block's part of the gradient of group `g`'s mixing matrix. -/
def dw (x0 x1 x2 : Vec F S256x1024 .bf16) (x3 x4 : Vec F S1x1024 .f32) (g : Fin 8) : FVec F S128x128 .f32 :=
  mulf (addf (addf zeros'
    (matmul dot_S128x128_S128x128_S128x128_1_1_0_0_n_n none (truncf .bf16 (piece 0 g (dmix x0 x2)) bitsLt_bf16_f32)
      (truncf .bf16 (piece 0 g (vln x1 x3 x4)) bitsLt_bf16_f32) zeros))
    (matmul dot_S128x128_S128x128_S128x128_1_1_0_0_n_n none (truncf .bf16 (piece 1 g (dmix x0 x2)) bitsLt_bf16_f32)
      (truncf .bf16 (piece 1 g (vln x1 x3 x4)) bitsLt_bf16_f32) zeros)) (k0_pay24 (F := F))

/-- The block's part of the gradient of the mixing matrices. -/
def dws (x0 x1 x2 : Vec F S256x1024 .bf16) (x3 x4 : Vec F S1x1024 .f32) : FVec F S8x128x128 .f32 :=
  k0_pay121 (dw x0 x1 x2 x3 x4 0) (dw x0 x1 x2 x3 x4 1) (dw x0 x1 x2 x3 x4 2) (dw x0 x1 x2 x3 x4 3) (dw x0 x1 x2 x3 x4 4)
    (dw x0 x1 x2 x3 x4 5) (dw x0 x1 x2 x3 x4 6) (dw x0 x1 x2 x3 x4 7)

/-- Group `g`'s bias gradient of the block, in row `g` of a zero 8x128 block. -/
def dbRow (x0 x2 : Vec F S256x1024 .bf16) (g : Fin 8) : FVec F S8x128 .f32 :=
  select (cmpi .eq (iota .tc S8x128 32 [0] iota_S8x128_d0_w32) (broadcast S8x128 (BitVec.ofNat 32 g.val)))
    (broadcastTo S8x128 (shapeCast S1x128 (shapeCast S1x128
      (multiReduction .add [0] S128 (transpose S128x128 [1, 0] (addf (addf zeros' (piece 0 g (dmix x0 x2))) (piece 1 g (dmix x0 x2)))
        transposes_S128x128_p1_0_S128x128) 0x00000000#32 reduces_S128x128_S128 (.inl rfl) rfl) shapeCasts_S128_S1x128)
      shapeCasts_S1x128_S1x128) broadcasts_S1x128_S8x128)
    (broadcast S8x128 (Scalar.ofBits .f32 0x00000000#32))

/-- The block's part of the gradient of the biases: the eight rows added up. -/
def dbs (x0 x2 : Vec F S256x1024 .bf16) : FVec F S8x128 .f32 :=
  addf (addf (addf (addf (addf (addf (addf (addf (broadcast S8x128 (Scalar.ofBits .f32 0x00000000#32)) (dbRow x0 x2 0))
    (dbRow x0 x2 1)) (dbRow x0 x2 2)) (dbRow x0 x2 3)) (dbRow x0 x2 4)) (dbRow x0 x2 5)) (dbRow x0 x2 6)) (dbRow x0 x2 7)

/-- The block's column sums of the first half's gradient. -/
def su (x0 x1 x2 : Vec F S256x1024 .bf16) (x3 x4 : Vec F S1x1024 .f32) (x5 : Vec F S8x128x128 .f32) (x6 : Vec F S8x128 .f32) :
    FVec F S1x1024 .f32 :=
  k0_pay122 (k0_pay4 x0) (k0_pay6 x0) (k0_pay7 x0) (du x1 x2 x3 x4 x5 x6)

/-- The block's column sums of the second half's gradient. -/
def sv (x0 x1 x2 : Vec F S256x1024 .bf16) (x3 : Vec F S1x1024 .f32) (x5 : Vec F S8x128x128 .f32) : FVec F S1x1024 .f32 :=
  k0_pay123 (k0_pay11 x1) (k0_pay12 x1) (dv x0 x1 x2 x3 x5) (mulf (k0_pay9 x1) (dv x0 x1 x2 x3 x5))

end Cert.SguIdeal.Block

end
-- ==== Proof.Sgu.Point.lean ====
module

public import proofs.«01_k».proof.Proof.Sgu.Block

@[expose] public section

/-! What the outputs hold after each grid point: the block functions of `Block.lean` at that point's input blocks. -/

set_option maxRecDepth 16384

noncomputable section

namespace Cert.SguIdeal.Block

open Cert.SguIdeal Cert.SguIdeal.Gen Idealize.ShloMosaic Idealize.ShloMosaic.TcCoe Idealize.SL.Sem

variable {F : FTy → Type} [FloatOps F]
variable (m : (ℓ : Loc nD τ sig) → Buf (Elt F) ℓ)

/-- The seven input blocks at a point: the two halves, the cotangent, gain, offset, matrices, biases. -/
abbrev b0 (c : Dev nD) (t : Fin cfg0.N) : Vec F S256x1024 .bf16 := iblk m c 0 t
abbrev b1 (c : Dev nD) (t : Fin cfg0.N) : Vec F S256x1024 .bf16 := iblk m c 1 t
abbrev b2 (c : Dev nD) (t : Fin cfg0.N) : Vec F S256x1024 .bf16 := iblk m c 2 t
abbrev b3 (c : Dev nD) (t : Fin cfg0.N) : Vec F S1x1024 .f32 := iblk m c 3 t
abbrev b4 (c : Dev nD) (t : Fin cfg0.N) : Vec F S1x1024 .f32 := iblk m c 4 t
abbrev b5 (c : Dev nD) (t : Fin cfg0.N) : Vec F S8x128x128 .f32 := iblk m c 5 t
abbrev b6 (c : Dev nD) (t : Fin cfg0.N) : Vec F S8x128 .f32 := iblk m c 6 t

theorem hz2 : (![0, 0] : Fin 2 → Nat) = fun _ => 0 := funext fun a => by fin_cases a <;> rfl
theorem hz3 : (![0, 0, 0] : Fin 3 → Nat) = fun _ => 0 := funext fun a => by fin_cases a <;> rfl

/-- The first point: the two gradients of its rows, and each running sum started with the block's part. -/
theorem first (c : Dev nD) (t : Fin cfg0.N) (h0 : t.val % 16 = 0) (h1 : ¬1 ≤ t.val) :
    outsAt0 m c t.val t.isLt =
      (truncf .bf16 (dzu (b0 m c t) (b1 m c t) (b2 m c t) (b3 m c t) (b4 m c t) (b5 m c t) (b6 m c t)) bitsLt_bf16_f32,
       truncf .bf16 (dzv (b0 m c t) (b1 m c t) (b2 m c t) (b3 m c t) (b5 m c t)) bitsLt_bf16_f32,
       dg (b0 m c t) (b1 m c t) (b2 m c t) (b5 m c t),
       db (b0 m c t) (b2 m c t) (b5 m c t),
       dws (b0 m c t) (b1 m c t) (b2 m c t) (b3 m c t) (b4 m c t),
       dbs (b0 m c t) (b2 m c t),
       su (b0 m c t) (b1 m c t) (b2 m c t) (b3 m c t) (b4 m c t) (b5 m c t) (b6 m c t),
       sv (b0 m c t) (b1 m c t) (b2 m c t) (b3 m c t) (b5 m c t)) := by
  rw [outsAt0_A m c t h0 h1 h0 h1 h0 h1 h0 h1 h0 h1 h0 h1]
  refine Prod.ext ?_ (Prod.ext ?_ (Prod.ext ?_ (Prod.ext ?_ (Prod.ext ?_ (Prod.ext ?_ (Prod.ext ?_ ?_))))))
  · dsimp only
    refine (View.read_writes_eq_canon _ _ _ (fun y => cover0_A_7 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_8 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_9 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_10 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_11 (F := F) (y := y) ..)).trans ?_
    unfold kernelRun0_A
    dsimp only
    rw [View.canon_unit_zero hz3]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_12 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_13 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_A_14 (F := F) (y := y) ..)).trans ?_
    unfold kernelRun0_A
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl

/-- A later point: the two gradients of its rows, and each running sum with the block's part added. -/
theorem later (c : Dev nD) (t : Fin cfg0.N) (h0 : ¬t.val % 16 = 0) (h1 : 1 ≤ t.val) (hp : t.val - 1 < cfg0.N) :
    outsAt0 m c t.val t.isLt =
      (truncf .bf16 (dzu (b0 m c t) (b1 m c t) (b2 m c t) (b3 m c t) (b4 m c t) (b5 m c t) (b6 m c t)) bitsLt_bf16_f32,
       truncf .bf16 (dzv (b0 m c t) (b1 m c t) (b2 m c t) (b3 m c t) (b5 m c t)) bitsLt_bf16_f32,
       addf (outsAt0 m c (t.val - 1) hp).2.2.1 (dg (b0 m c t) (b1 m c t) (b2 m c t) (b5 m c t)),
       addf (outsAt0 m c (t.val - 1) hp).2.2.2.1 (db (b0 m c t) (b2 m c t) (b5 m c t)),
       addf (outsAt0 m c (t.val - 1) hp).2.2.2.2.1 (dws (b0 m c t) (b1 m c t) (b2 m c t) (b3 m c t) (b4 m c t)),
       addf (outsAt0 m c (t.val - 1) hp).2.2.2.2.2.1 (dbs (b0 m c t) (b2 m c t)),
       addf (outsAt0 m c (t.val - 1) hp).2.2.2.2.2.2.1
         (su (b0 m c t) (b1 m c t) (b2 m c t) (b3 m c t) (b4 m c t) (b5 m c t) (b6 m c t)),
       addf (outsAt0 m c (t.val - 1) hp).2.2.2.2.2.2.2 (sv (b0 m c t) (b1 m c t) (b2 m c t) (b3 m c t) (b5 m c t))) := by
  rw [outsAt0_B m c t h0 h1 h0 h1 h0 h1 h0 h1 h0 h1 h0 h1]
  refine Prod.ext ?_ (Prod.ext ?_ (Prod.ext ?_ (Prod.ext ?_ (Prod.ext ?_ (Prod.ext ?_ (Prod.ext ?_ ?_))))))
  · dsimp only
    refine (View.read_writes_eq_canon _ _ _ (fun y => cover0_B_7 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_B_8 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    rfl
  · dsimp only
    refine (View.read_writes_eq_canon _ _ _ (fun y => cover0_B_9 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl
  · dsimp only
    refine (View.read_writes_eq_canon _ _ _ (fun y => cover0_B_10 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl
  · dsimp only
    refine (View.read_writes_eq_canon _ _ _ (fun y => cover0_B_11 (F := F) (y := y) ..)).trans ?_
    unfold kernelRun0_B
    dsimp only
    rw [View.canon_unit_zero hz3]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl
  · dsimp only
    refine (View.read_writes_eq_canon _ _ _ (fun y => cover0_B_12 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl
  · dsimp only
    refine (View.read_writes_eq_canon _ _ _ (fun y => cover0_B_13 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl
  · dsimp only
    refine (View.read_writes_eq_canon _ _ _ (fun y => cover0_B_14 (F := F) (y := y) ..)).trans ?_
    unfold kernelRun0_B
    dsimp only
    rw [View.canon_unit_zero hz2]
    sl_unfold_words
    simp only [View.readAt_eq_ld, Memref.IsWhole.read_unread, View.ld_unit_zero (S := S256x1024) hz2,
      View.ld_unit_zero (S := S1x1024) hz2, View.ld_unit_zero (S := S8x128) hz2, View.ld_unit_zero (S := S8x128x128) hz3]
    exact congrArg₂ addf (shapeCast_self _ _) rfl

end Cert.SguIdeal.Block

end
-- ==== Proof.Sgu.Spec.lean ====
module

public import Idealize.ShloMosaic.PureOps.Ideal.Laws
public import Idealize.ShloMosaic.Lib.Pointwise

@[expose] public section

/-! The mathematics of the gating backward on one chunk of 128 rows, over the extended reals: the smooth gate and its
derivative, the row normalisation and its gradient, and the masked mixing inside each of eight column groups. -/

noncomputable section

namespace Cert.Gate

open Idealize.ShloMosaic

/-- One half. -/
abbrev half : EReal := Ideal.ofBits .f32 0x3F000000#32
/-- One over the root of two, as rounded. -/
abbrev isq : EReal := Ideal.ofBits .f32 0x3F3504F3#32
/-- Two over the root of pi, as rounded. -/
abbrev tsp : EReal := Ideal.ofBits .f32 0x3F906EBB#32
/-- The row length. -/
abbrev len : EReal := Ideal.ofBits .f32 0x44800000#32
/-- The normalisation's offset under the root. -/
abbrev eps : EReal := Ideal.ofBits .f32 0x358637BD#32
/-- Minus one half. -/
abbrev mhalf : EReal := Ideal.ofBits .f32 0xBF000000#32
/-- Two. -/
abbrev two : EReal := Ideal.ofBits .f32 0x40000000#32

/-- The smooth gate. -/
def gelu (x : EReal) : EReal := half * x * (1 + Ideal.erf (x * isq))

/-- The smooth gate's gradient at `x` with cotangent `d`. -/
def geluBwd (x d : EReal) : EReal :=
  tsp * (half * x * d) * Ideal.exp (-(x * isq * (x * isq))) * isq + half * (d * (1 + Ideal.erf (x * isq)))

/-- A row's mean. -/
def mean (v : Fin 1024 → EReal) : EReal := Ideal.div (∑ c, v c) len
/-- A row less its mean. -/
def cent (v : Fin 1024 → EReal) (c : Fin 1024) : EReal := v c - mean v
/-- A row's variance, offset. -/
def var (v : Fin 1024 → EReal) : EReal := Ideal.div (∑ c, cent v c * cent v c) len + eps
/-- A row normalised. -/
def unit (v : Fin 1024 → EReal) (c : Fin 1024) : EReal := cent v c * Ideal.rsqrt (var v)
/-- A row normalised, with gain and offset. -/
def norm (gn bt v : Fin 1024 → EReal) (c : Fin 1024) : EReal := unit v c * gn c + bt c

/-- The scaled cotangent through the root alone. -/
def normA (gn v d : Fin 1024 → EReal) (c : Fin 1024) : EReal := d c * gn c * Ideal.rsqrt (var v)
/-- The scaled cotangent through the variance. -/
def normB (gn v d : Fin 1024 → EReal) (c : Fin 1024) : EReal :=
  Ideal.div ((∑ k, cent v k * (d k * gn k)) * (mhalf * Ideal.div (Ideal.rsqrt (var v)) (var v))) len * (two * cent v c)
/-- The row normalisation's gradient at `v` with cotangent `d`. -/
def normBwd (gn v d : Fin 1024 → EReal) (c : Fin 1024) : EReal :=
  normA gn v d c + normB gn v d c + Ideal.div ((∑ k, -normA gn v d k) + ∑ k, -normB gn v d k) len

/-- The lower triangle. -/
def tri (i s : Fin 128) : EReal := if s.val ≤ i.val then 1 else 0

/-- A column's group. -/
def grp (c : Fin 1024) : Fin 8 := ⟨c.val / 128, by omega⟩
/-- A column's place in its group. -/
def lane (c : Fin 1024) : Fin 128 := ⟨c.val % 128, by omega⟩
/-- The column of a group and a place. -/
def col (g : Fin 8) (e : Fin 128) : Fin 1024 := ⟨128 * g.val + e.val, by omega⟩

@[simp] theorem grp_col (g : Fin 8) (e : Fin 128) : grp (col g e) = g := Fin.ext (by simp only [grp, col]; omega)
@[simp] theorem lane_col (g : Fin 8) (e : Fin 128) : lane (col g e) = e := Fin.ext (by simp only [lane, col]; omega)
@[simp] theorem col_grp_lane (c : Fin 1024) : col (grp c) (lane c) = c := Fin.ext (by simp only [grp, lane, col]; omega)

/-- A chunk of rows. -/
abbrev Rows := Fin 128 → Fin 1024 → EReal
/-- One square matrix per group. -/
abbrev Mats := Fin 8 → Fin 128 → Fin 128 → EReal

section
variable (zu zv ds : Rows) (gn bt : Fin 1024 → EReal) (w : Mats) (bs : Fin 8 → Fin 128 → EReal)

/-- The gate's values before normalisation, row by row. -/
def pre (i : Fin 128) (c : Fin 1024) : EReal := gelu (zv i c)
/-- The normalised gate. -/
def vln (i : Fin 128) (c : Fin 1024) : EReal := norm gn bt (pre zv i) c
/-- The mixed gate: each group's masked matrix times the normalised rows, plus the bias of the row. -/
def mixed (i : Fin 128) (c : Fin 1024) : EReal := (∑ s, w (grp c) i s * tri i s * vln zv gn bt s c) + bs (grp c) i
/-- The cotangent of the gated values. -/
def du (i : Fin 128) (c : Fin 1024) : EReal := ds i c * mixed zv gn bt w bs i c
/-- The cotangent of the mixed gate. -/
def dmix (i : Fin 128) (c : Fin 1024) : EReal := ds i c * gelu (zu i c)
/-- The cotangent of the normalised gate. -/
def dvln (s : Fin 128) (c : Fin 1024) : EReal := ∑ i, w (grp c) i s * tri i s * dmix zu ds i c
/-- The cotangent of the gate's values before normalisation. -/
def dv (i : Fin 128) (c : Fin 1024) : EReal := normBwd gn (pre zv i) (dvln zu ds w i) c
/-- The gradient of the first half. -/
def dzu (i : Fin 128) (c : Fin 1024) : EReal := geluBwd (zu i c) (du zv ds gn bt w bs i c)
/-- The gradient of the second half. -/
def dzv (i : Fin 128) (c : Fin 1024) : EReal := geluBwd (zv i c) (dv zu zv ds gn w i c)

/-- The chunk's part of the gain's gradient. -/
def dg (c : Fin 1024) : EReal := ∑ i, unit (pre zv i) c * dvln zu ds w i c
/-- The chunk's part of the offset's gradient. -/
def db (c : Fin 1024) : EReal := ∑ i, dvln zu ds w i c
/-- The chunk's part of the matrices' gradient, before the mask. -/
def dws (g : Fin 8) (i s : Fin 128) : EReal := ∑ e, dmix zu ds i (col g e) * vln zv gn bt s (col g e)
/-- The chunk's part of the biases' gradient. -/
def dbs (g : Fin 8) (i : Fin 128) : EReal := ∑ e, dmix zu ds i (col g e)
/-- The chunk's column sums of the first half's gradient. -/
def su (c : Fin 1024) : EReal := ∑ i, dzu zu zv ds gn bt w bs i c
/-- The chunk's column sums of the second half's gradient. -/
def sv (c : Fin 1024) : EReal := ∑ i, dzv zu zv ds gn w i c
end

/-! The whole arrays: 32 chunks of rows. -/

/-- The array's row of a chunk and a place in it. -/
def row (N : Fin 32) (i : Fin 128) : Fin 4096 := ⟨128 * N.val + i.val, by omega⟩

/-- The chunks of the first half, columns 0 to 1023. -/
def zuOf (Z : (⟨2, ![4096, 8192]⟩ : Shape).Idx → EReal) (N : Fin 32) : Rows := fun i c => Z (ix2 (row N i) ⟨c.val, by omega⟩)
/-- The chunks of the second half, columns 1024 to 2047. -/
def zvOf (Z : (⟨2, ![4096, 8192]⟩ : Shape).Idx → EReal) (N : Fin 32) : Rows := fun i c => Z (ix2 (row N i) ⟨1024 + c.val, by omega⟩)
/-- The chunks of the cotangent. -/
def dsOf (D : (⟨2, ![4096, 1024]⟩ : Shape).Idx → EReal) (N : Fin 32) : Rows := fun i c => D (ix2 (row N i) c)
/-- A one-row array as a row. -/
def par (x : (⟨2, ![1, 1024]⟩ : Shape).Idx → EReal) : Fin 1024 → EReal := fun c => x (ix2 0 c)
/-- The stack of matrices. -/
def mats (x : (⟨3, ![8, 128, 128]⟩ : Shape).Idx → EReal) : Mats := fun g i s => x (ix3 g i s)
/-- The stack of biases. -/
def biases (x : (⟨2, ![8, 128]⟩ : Shape).Idx → EReal) : Fin 8 → Fin 128 → EReal := fun g i => x (ix2 g i)

/-- Every row lies in one chunk. -/
theorem exists_row (r : Fin 4096) : ∃ N i, r = row N i :=
  ⟨⟨r.val / 128, by omega⟩, ⟨r.val % 128, by omega⟩, Fin.ext (by simp only [row]; omega)⟩

/-- A sum over all rows, chunk by chunk. -/
theorem sum_row (f : Fin 4096 → EReal) : ∑ r, f r = ∑ N, ∑ i, f (row N i) := by
  rw [Fin.sum_univ_tiles 32 128 rfl f]
  exact Finset.sum_congr rfl fun n _ => Finset.sum_congr rfl fun i _ => congrArg f (Fin.ext (by simp only [row]; omega))

/-- The mask is zero or one, so it moves into a sum. -/
theorem sum_mul_tri {ι : Type*} [Fintype ι] (f : ι → EReal) (i s : Fin 128) : (∑ k, f k) * tri i s = ∑ k, f k * tri i s := by
  unfold tri
  split_ifs <;> simp

/-- A running sum's last value is the sum of its parts. -/
theorem run_sum (n : ℕ) (a p : (k : ℕ) → k < n + 1 → EReal) (h0 : a 0 (by omega) = p 0 (by omega))
    (hs : ∀ k h, a (k + 1) h = a k (by omega) + p (k + 1) h) : a n (by omega) = ∑ t : Fin (n + 1), p t.val t.isLt := by
  have key : ∀ k (h : k < n + 1), a k h = ∑ t : Fin (k + 1), p t.val (by omega) := by
    intro k
    induction k with
    | zero => intro h; rw [h0]; simp
    | succ k ih => intro h; rw [hs, ih, Fin.sum_univ_castSucc (n := k + 1)]; rfl
  exact key n (by omega)

end Cert.Gate

end
-- ==== Proof.Sgu.Read.lean ====
module

public import proofs.«01_k».proof.Proof.Sgu.Block
public import proofs.«01_k».proof.Proof.Sgu.Spec

@[expose] public section

/-! The block functions of `Block.lean` over the extended reals, read at one place: the chunk mathematics of `Spec.lean`. -/

set_option maxRecDepth 16384

noncomputable section

namespace Cert.SguIdeal.Block

open Cert Cert.SguIdeal Cert.SguIdeal.Gen Idealize.ShloMosaic Idealize.ShloMosaic.TcCoe Idealize.SL.Sem

variable (x0 x1 x2 : Vec Ideal S256x1024 .bf16) (x3 x4 : Vec Ideal S1x1024 .f32) (x5 : Vec Ideal S8x128x128 .f32)
  (x6 : Vec Ideal S8x128 .f32)

/-- The block's row of a chunk and a place in it. -/
def rw2 (n : Fin 2) (i : Fin 128) : Fin 256 := ⟨128 * n.val + i.val, by omega⟩

theorem pay4_at (r : Fin 256) (c : Fin 1024) : k0_pay4 x0 (ix2 r c) = Gate.half * x0 (ix2 r c) := by
  pointwise [k0_pay4, k0_pay2]

theorem pay7_at (r : Fin 256) (c : Fin 1024) : k0_pay7 x0 (ix2 r c) = 1 + Ideal.erf (x0 (ix2 r c) * Gate.isq) := by
  pointwise [k0_pay7, k0_pay5, k0_pay2]
  rfl

theorem pay6_at (r : Fin 256) (c : Fin 1024) :
    k0_pay6 x0 (ix2 r c) = Ideal.exp (-(x0 (ix2 r c) * Gate.isq * (x0 (ix2 r c) * Gate.isq))) := by
  pointwise [k0_pay6, k0_pay5, k0_pay2]
  rw [zero_sub]

theorem pay8_at (r : Fin 256) (c : Fin 1024) : k0_pay8 x0 (ix2 r c) = Gate.gelu (x0 (ix2 r c)) := by
  pointwise [k0_pay8, pay4_at, pay7_at, Gate.gelu]

theorem beside_at (f : Fin 8 → FVec Ideal S256x128 .f32) (r : Fin 256) (g : Fin 8) (e : Fin 128) :
    beside f (ix2 r (Gate.col g e)) = f g (ix2 r e) := by
  have he := e.isLt
  fin_cases g <;> pointwise [beside, k0_pay114, Gate.col] <;> simp (disch := omega) only [dif_pos, dif_neg] <;>
    exact congrArg _ (congrArg _ (Fin.ext (by dsimp only; omega)))

theorem stack_at (f : Fin 2 → FVec Ideal S128x128 .f32) (n : Fin 2) (i e : Fin 128) :
    stack f (ix2 (rw2 n i) e) = f n (ix2 i e) := by
  fin_cases n <;> pointwise [stack, rw2]

theorem piece_at (n : Fin 2) (g : Fin 8) (v : FVec Ideal S256x1024 .f32) (i e : Fin 128) :
    piece n g v (ix2 i e) = v (ix2 (rw2 n i) (Gate.col g e)) := by
  pointwise [piece, rw2, Gate.col]

theorem tri_at (i s : Fin 128) : k0_pay24 (F := Ideal) (ix2 i s) = Gate.tri i s := by
  pointwise [k0_pay24]
  unfold Gate.tri
  have hi : (BitVec.ofNat 32 i.val).toInt = i.val := by
    rw [BitVec.toInt_eq_toNat_of_lt] <;> rw [BitVec.toNat_ofNat] <;> omega
  have hs : (BitVec.ofNat 32 s.val).toInt = s.val := by
    rw [BitVec.toInt_eq_toNat_of_lt] <;> rw [BitVec.toNat_ofNat] <;> omega
  by_cases h : s.val ≤ i.val
  · simp [IntOp.cmpi, BitVec.sle, hi, hs, h]
    exact congrArg (fun k : ℤ => ((k : ℝ) : EReal)) (by decide : (1#32).toInt = 1) |>.trans (by simp)
  · simp [IntOp.cmpi, BitVec.sle, hi, hs, h]
    exact congrArg (fun k : ℤ => ((k : ℝ) : EReal)) (by decide : (0#32).toInt = 0) |>.trans (by simp)

theorem masked_at (g : Fin 8) (i s : Fin 128) : masked x5 g (ix2 i s) = x5 (ix3 g i s) * Gate.tri i s := by
  pointwise [masked, tri_at]

theorem bias_at (g : Fin 8) (i s : Fin 128) : bias x6 g (ix2 i s) = x6 (ix2 g i) := by
  pointwise [bias]

theorem beside_at' (f : Fin 8 → FVec Ideal S256x128 .f32) (r : Fin 256) (c : Fin 1024) :
    beside f (ix2 r c) = f (Gate.grp c) (ix2 r (Gate.lane c)) := by
  conv_lhs => rw [← Gate.col_grp_lane c]
  exact beside_at f r _ _

section
variable (v : FVec Ideal S256x1024 .f32) (u : FVec Ideal S256x1 .f32) (r : Fin 256) (V : Fin 1024 → EReal)
  (hv : ∀ c, v (ix2 r c) = V c) (h : u (ix2 r 0) = ∑ c, V c)
include hv h

theorem pay18_at (c : Fin 1024) : k0_pay18 v u (ix2 r c) = Gate.cent V c := by
  pointwise [k0_pay18, k0_pay15, Gate.cent, Gate.mean, h, hv]

theorem pay17_at (c : Fin 1024) : k0_pay17 v u (ix2 r c) = Gate.two * Gate.cent V c := by
  pointwise [k0_pay17, k0_pay16, k0_pay15, Gate.cent, Gate.mean, h, hv]

theorem pay19_at : k0_pay19 v u (ix2 r 0) = Gate.var V := by
  pointwise [k0_pay19, k0_pay16, k0_pay15, Gate.var, Gate.cent, Gate.mean, h, hv]

theorem pay20_at : k0_pay20 v u (ix2 r 0) = Ideal.rsqrt (Gate.var V) := by
  pointwise [k0_pay20, pay19_at v u r V hv h]

theorem pay21_at : k0_pay21 v u (ix2 r 0) = Gate.mhalf * Ideal.div (Ideal.rsqrt (Gate.var V)) (Gate.var V) := by
  pointwise [k0_pay21, pay19_at v u r V hv h, pay20_at v u r V hv h]

theorem pay22_at (c : Fin 1024) : k0_pay22 v u (ix2 r c) = Gate.unit V c := by
  pointwise [k0_pay22, pay20_at v u r V hv h, pay18_at v u r V hv h, Gate.unit]

theorem pay23_at (c : Fin 1024) :
    k0_pay23 x3 x4 v u (ix2 r c) = Gate.norm (fun c => x3 (ix2 0 c)) (fun c => x4 (ix2 0 c)) V c := by
  pointwise [k0_pay23, pay22_at v u r V hv h, Gate.norm]
end

theorem pay117_at (v41 v47 : FVec Ideal S256x1024 .f32) (v50 v53 : FVec Ideal S256x1 .f32) (f : Fin 8 → FVec Ideal S256x128 .f32)
    (r : Fin 256) (V D : Fin 1024 → EReal) (h41 : ∀ c, v41 (ix2 r c) = Gate.two * Gate.cent V c)
    (h47 : ∀ c, v47 (ix2 r c) = Gate.cent V c) (h50 : v50 (ix2 r 0) = Ideal.rsqrt (Gate.var V))
    (h53 : v53 (ix2 r 0) = Gate.mhalf * Ideal.div (Ideal.rsqrt (Gate.var V)) (Gate.var V))
    (hf : ∀ c, k0_pay114 (f 0) (f 1) (f 2) (f 3) (f 4) (f 5) (f 6) (f 7) (ix2 r c) = D c) (c : Fin 1024) :
    k0_pay117 x3 v41 v47 v50 v53 (f 0) (f 1) (f 2) (f 3) (f 4) (f 5) (f 6) (f 7) (ix2 r c) =
      Gate.normBwd (fun c => x3 (ix2 0 c)) V D c := by
  pointwise [k0_pay117, h41, h47, h50, hf, zero_sub]
  simp only [Finset.univ_unique, Finset.sum_singleton, Fin.default_eq_zero, h53]
  rfl

theorem pay119_at (v29 v31 v527 v528 : FVec Ideal S256x1024 .f32) (r : Fin 256) (c : Fin 1024) (x d : EReal)
    (h29 : v29 (ix2 r c) = Ideal.exp (-(x * Gate.isq * (x * Gate.isq)))) (h31 : v31 (ix2 r c) = 1 + Ideal.erf (x * Gate.isq))
    (h527 : v527 (ix2 r c) = d) (h528 : v528 (ix2 r c) = Gate.half * x * d) :
    k0_pay119 v29 v31 v527 v528 (ix2 r c) = Gate.geluBwd x d := by
  pointwise [k0_pay119, h29, h31, h527, h528, Gate.geluBwd]

theorem pay120_at (v10 v17 v19 v203 : FVec Ideal S256x1024 .f32) (r : Fin 256) (c : Fin 1024) (x d : EReal)
    (h17 : v17 (ix2 r c) = Ideal.exp (-(x * Gate.isq * (x * Gate.isq)))) (h19 : v19 (ix2 r c) = 1 + Ideal.erf (x * Gate.isq))
    (h203 : v203 (ix2 r c) = d) (h10 : v10 (ix2 r c) = Gate.half * x) :
    k0_pay120 v10 v17 v19 v203 (ix2 r c) = Gate.geluBwd x d := by
  pointwise [k0_pay120, h10, h17, h19, h203, Gate.geluBwd]

/-- A chunk of a block. -/
def chunk (x : Vec Ideal S256x1024 .bf16) (n : Fin 2) : Gate.Rows := fun i c => x (ix2 (rw2 n i) c)
theorem pay13_at (n : Fin 2) (i : Fin 128) (c : Fin 1024) : k0_pay13 x1 (ix2 (rw2 n i) c) = Gate.pre (chunk x1 n) i c :=
  pay8_at x1 (rw2 n i) c

theorem pay14_at (n : Fin 2) (i : Fin 128) : k0_pay14 x1 (ix2 (rw2 n i) 0) = ∑ c, Gate.pre (chunk x1 n) i c := by
  pointwise [k0_pay14, pay13_at x1 n i]

theorem vln_at (n : Fin 2) (i : Fin 128) (c : Fin 1024) :
    vln x1 x3 x4 (ix2 (rw2 n i) c) = Gate.vln (chunk x1 n) (Gate.par x3) (Gate.par x4) i c :=
  pay23_at x3 x4 _ _ _ _ (pay13_at x1 n i) (pay14_at x1 n i) c

theorem dmix_at (n : Fin 2) (i : Fin 128) (c : Fin 1024) :
    dmix x0 x2 (ix2 (rw2 n i) c) = Gate.dmix (chunk x0 n) (chunk x2 n) i c := by
  pointwise [dmix, k0_pay41, k0_pay39, pay8_at]
  rfl

theorem mixed_at (n : Fin 2) (i : Fin 128) (c : Fin 1024) :
    mixed x1 x3 x4 x5 x6 (ix2 (rw2 n i) c) =
      Gate.mixed (chunk x1 n) (Gate.par x3) (Gate.par x4) (Gate.mats x5) (Gate.biases x6) i c := by
  rw [mixed, beside_at', stack_at]
  pointwise [zeros, bias_at, masked_at, piece_at, vln_at, Gate.col_grp_lane]
  rfl

theorem dvln_at (n : Fin 2) (g : Fin 8) (i e : Fin 128) :
    dvln x0 x2 x5 g (ix2 (rw2 n i) e) = Gate.dvln (chunk x0 n) (chunk x2 n) (Gate.mats x5) i (Gate.col g e) := by
  rw [dvln, stack_at]
  pointwise [zeros, masked_at, piece_at, dmix_at, Gate.dvln, Gate.grp_col]
  rfl

theorem dvln_at' (n : Fin 2) (i : Fin 128) (c : Fin 1024) :
    beside (dvln x0 x2 x5) (ix2 (rw2 n i) c) = Gate.dvln (chunk x0 n) (chunk x2 n) (Gate.mats x5) i c := by
  rw [beside_at', dvln_at, Gate.col_grp_lane]

theorem dv_at (n : Fin 2) (i : Fin 128) (c : Fin 1024) :
    dv x0 x1 x2 x3 x5 (ix2 (rw2 n i) c) = Gate.dv (chunk x0 n) (chunk x1 n) (chunk x2 n) (Gate.par x3) (Gate.mats x5) i c :=
  pay117_at x3 _ _ _ _ (dvln x0 x2 x5) _ _ _ (pay17_at _ _ _ _ (pay13_at x1 n i) (pay14_at x1 n i))
    (pay18_at _ _ _ _ (pay13_at x1 n i) (pay14_at x1 n i)) (pay20_at _ _ _ _ (pay13_at x1 n i) (pay14_at x1 n i))
    (pay21_at _ _ _ _ (pay13_at x1 n i) (pay14_at x1 n i)) (dvln_at' x0 x2 x5 n i) c

theorem dzu_at (n : Fin 2) (i : Fin 128) (c : Fin 1024) :
    dzu x0 x1 x2 x3 x4 x5 x6 (ix2 (rw2 n i) c) =
      Gate.dzu (chunk x0 n) (chunk x1 n) (chunk x2 n) (Gate.par x3) (Gate.par x4) (Gate.mats x5) (Gate.biases x6) i c := by
  refine pay120_at _ _ _ _ _ _ _ _ (pay6_at x0 _ _) (pay7_at x0 _ _) ?_ (pay4_at x0 _ _)
  pointwise [du, k0_pay39, mixed_at]
  rfl

theorem dzv_at (n : Fin 2) (i : Fin 128) (c : Fin 1024) :
    dzv x0 x1 x2 x3 x5 (ix2 (rw2 n i) c) =
      Gate.dzv (chunk x0 n) (chunk x1 n) (chunk x2 n) (Gate.par x3) (Gate.mats x5) i c := by
  refine pay119_at _ _ _ _ _ _ _ _ (pay6_at x1 _ _) (pay7_at x1 _ _) (dv_at ..) ?_
  pointwise [dv_at]
  rw [← dv_at x0 x1 x2 x3 x5 n i c]
  exact congrArg (· * _) (pay4_at x1 _ _)

/-- A sum over the block's rows, chunk by chunk. -/
theorem sum_rows (f : Fin 256 → EReal) : ∑ r, f r = ∑ n, ∑ i, f (rw2 n i) := by
  rw [Fin.sum_univ_tiles 2 128 rfl f]
  exact Finset.sum_congr rfl fun n _ => Finset.sum_congr rfl fun i _ => congrArg f (Fin.ext (by simp only [rw2]; omega))

theorem dg_at (c : Fin 1024) :
    dg x0 x1 x2 x5 (ix2 0 c) = ∑ n, Gate.dg (chunk x0 n) (chunk x1 n) (chunk x2 n) (Gate.mats x5) c := by
  pointwise [dg, k0_pay116]
  rw [sum_rows]
  refine Finset.sum_congr rfl fun n _ => Finset.sum_congr rfl fun i _ => ?_
  exact congrArg₂ (· * ·) (pay22_at _ _ _ _ (pay13_at x1 n i) (pay14_at x1 n i) c) (dvln_at' x0 x2 x5 n i c)

theorem db_at (c : Fin 1024) : db x0 x2 x5 (ix2 0 c) = ∑ n, Gate.db (chunk x0 n) (chunk x2 n) (Gate.mats x5) c := by
  pointwise [db, k0_pay115]
  rw [sum_rows]
  exact Finset.sum_congr rfl fun n _ => Finset.sum_congr rfl fun i _ => dvln_at' x0 x2 x5 n i c

theorem su_at (c : Fin 1024) : su x0 x1 x2 x3 x4 x5 x6 (ix2 0 c) =
    ∑ n, Gate.su (chunk x0 n) (chunk x1 n) (chunk x2 n) (Gate.par x3) (Gate.par x4) (Gate.mats x5) (Gate.biases x6) c := by
  pointwise [su, k0_pay122]
  rw [sum_rows]
  exact Finset.sum_congr rfl fun n _ => Finset.sum_congr rfl fun i _ => dzu_at x0 x1 x2 x3 x4 x5 x6 n i c

theorem sv_at (c : Fin 1024) : sv x0 x1 x2 x3 x5 (ix2 0 c) =
    ∑ n, Gate.sv (chunk x0 n) (chunk x1 n) (chunk x2 n) (Gate.par x3) (Gate.mats x5) c := by
  pointwise [sv, k0_pay123]
  rw [sum_rows]
  exact Finset.sum_congr rfl fun n _ => Finset.sum_congr rfl fun i _ => dzv_at x0 x1 x2 x3 x5 n i c

theorem dw_at (g : Fin 8) (i s : Fin 128) : dw x0 x1 x2 x3 x4 g (ix2 i s) =
    (∑ n, Gate.dws (chunk x0 n) (chunk x1 n) (chunk x2 n) (Gate.par x3) (Gate.par x4) g i s) * Gate.tri i s := by
  rw [Fin.sum_univ_two]
  pointwise [dw, zeros, zeros', tri_at, piece_at, dmix_at, vln_at]
  rfl

theorem dws_at (g : Fin 8) (i s : Fin 128) : dws x0 x1 x2 x3 x4 (ix3 g i s) =
    (∑ n, Gate.dws (chunk x0 n) (chunk x1 n) (chunk x2 n) (Gate.par x3) (Gate.par x4) g i s) * Gate.tri i s := by
  rw [← dw_at]
  fin_cases g <;> pointwise [dws, k0_pay121]

theorem dbRow_at (h g : Fin 8) (i : Fin 128) : dbRow x0 x2 h (ix2 g i) =
    if g = h then ∑ n, Gate.dbs (chunk x0 n) (chunk x2 n) g i else 0 := by
  rw [Fin.sum_univ_two]
  pointwise [dbRow, zeros', piece_at, dmix_at]
  rw [(by decide : ∀ g h : Fin 8, IntOp.cmpi .eq (BitVec.ofNat 32 g.val) (BitVec.ofNat 32 h.val) = if g = h then 1#1 else 0#1) g h,
    Finset.sum_add_distrib]
  by_cases hgh : g = h
  · subst hgh
    simp only [if_true]
    rfl
  · simp only [if_neg hgh]
    rfl

theorem dbs_at (g : Fin 8) (i : Fin 128) : dbs x0 x2 (ix2 g i) = ∑ n, Gate.dbs (chunk x0 n) (chunk x2 n) g i := by
  pointwise [dbs, dbRow_at]
  fin_cases g <;> simp

end Cert.SguIdeal.Block

end
-- ==== Proof.Sgu.Arrays.lean ====
module

public import proofs.«01_k».proof.Proof.Sgu.Point
public import proofs.«01_k».proof.Proof.Sgu.Read

@[expose] public section

/-! The kernel's eight result arrays over the extended reals: the chunk mathematics of `Spec.lean` on the arguments. -/

set_option maxRecDepth 16384

noncomputable section

namespace Cert.SguIdeal.Block

open Cert Cert.SguIdeal Cert.SguIdeal.Gen Idealize.ShloMosaic Idealize.ShloMosaic.TcCoe Idealize.SL.Sem

variable (m : (ℓ : Loc nD τ sig) → Buf (Elt Ideal) ℓ) (c : Dev nD)

/-- The arguments: the halves' chunks, the cotangent's chunks, gain, offset, matrices, biases. -/
abbrev zu : Fin 32 → Gate.Rows := Gate.zuOf (m ((c : Thread nD τ).loc main_arg0))
abbrev zv : Fin 32 → Gate.Rows := Gate.zvOf (m ((c : Thread nD τ).loc main_arg0))
abbrev ds : Fin 32 → Gate.Rows := Gate.dsOf (m ((c : Thread nD τ).loc main_arg1))
abbrev gn : Fin 1024 → EReal := Gate.par (m ((c : Thread nD τ).loc main_arg2))
abbrev bt : Fin 1024 → EReal := Gate.par (m ((c : Thread nD τ).loc main_arg3))
abbrev ws : Gate.Mats := Gate.mats (m ((c : Thread nD τ).loc main_arg4))
abbrev bs : Fin 8 → Fin 128 → EReal := Gate.biases (m ((c : Thread nD τ).loc main_arg5))

/-- The chunk that is the `n`-th half of point `t`'s rows. -/
def pt (t : Fin cfg0.N) (n : Fin 2) : Fin 32 := ⟨2 * t.val + n.val, by have : cfg0.N = 16 := N_0; omega⟩

/-- The moving windows' block indices. -/
theorem index_rows : ∀ t : Fin cfg0.N, (win0_0.index t 0 = t.val ∧ win0_0.index t 1 = 0) ∧
    (win0_1.index t 0 = t.val ∧ win0_1.index t 1 = 1) ∧ (win0_2.index t 0 = t.val ∧ win0_2.index t 1 = 0) ∧
    (win0_7.index t 0 = t.val ∧ win0_7.index t 1 = 0) ∧ (win0_8.index t 0 = t.val ∧ win0_8.index t 1 = 0) :=
  (by decide +kernel : ∀ t : Fin grid0.N, (win0_0.index t 0 = t.val ∧ win0_0.index t 1 = 0) ∧
    (win0_1.index t 0 = t.val ∧ win0_1.index t 1 = 1) ∧ (win0_2.index t 0 = t.val ∧ win0_2.index t 1 = 0) ∧
    (win0_7.index t 0 = t.val ∧ win0_7.index t 1 = 0) ∧ (win0_8.index t 0 = t.val ∧ win0_8.index t 1 = 0))

/-- The resting windows' block indices. -/
theorem index_rest : ∀ t : Fin cfg0.N, (∀ a, win0_3.index t a = 0) ∧ (∀ a, win0_4.index t a = 0) ∧ (∀ a, win0_5.index t a = 0) ∧
    (∀ a, win0_6.index t a = 0) ∧ (∀ a, win0_9.index t a = 0) ∧ (∀ a, win0_10.index t a = 0) ∧ (∀ a, win0_11.index t a = 0) ∧
    (∀ a, win0_12.index t a = 0) ∧ (∀ a, win0_13.index t a = 0) ∧ (∀ a, win0_14.index t a = 0) :=
  (by decide +kernel : ∀ t : Fin grid0.N, (∀ a, win0_3.index t a = 0) ∧ (∀ a, win0_4.index t a = 0) ∧ (∀ a, win0_5.index t a = 0) ∧
    (∀ a, win0_6.index t a = 0) ∧ (∀ a, win0_9.index t a = 0) ∧ (∀ a, win0_10.index t a = 0) ∧ (∀ a, win0_11.index t a = 0) ∧
    (∀ a, win0_12.index t a = 0) ∧ (∀ a, win0_13.index t a = 0) ∧ (∀ a, win0_14.index t a = 0))

theorem chunk_b0 (t : Fin cfg0.N) (n : Fin 2) : chunk (b0 m c t) n = zu m c (pt t n) := by
  funext i k
  refine congrArg (m ((c : Thread nD τ).loc main_arg0)) (Shape.idx_ext₂ ?_ ?_)
  · show win0_0.index t 0 * 256 + 1 * (128 * n.val + i.val) = 128 * (2 * t.val + n.val) + i.val
    rw [(index_rows t).1.1]; omega
  · show win0_0.index t 1 * 1024 + 1 * k.val = k.val
    rw [(index_rows t).1.2]; omega

theorem chunk_b1 (t : Fin cfg0.N) (n : Fin 2) : chunk (b1 m c t) n = zv m c (pt t n) := by
  funext i k
  refine congrArg (m ((c : Thread nD τ).loc main_arg0)) (Shape.idx_ext₂ ?_ ?_)
  · show win0_1.index t 0 * 256 + 1 * (128 * n.val + i.val) = 128 * (2 * t.val + n.val) + i.val
    rw [(index_rows t).2.1.1]; omega
  · show win0_1.index t 1 * 1024 + 1 * k.val = 1024 + k.val
    rw [(index_rows t).2.1.2]; omega

theorem chunk_b2 (t : Fin cfg0.N) (n : Fin 2) : chunk (b2 m c t) n = ds m c (pt t n) := by
  funext i k
  refine congrArg (m ((c : Thread nD τ).loc main_arg1)) (Shape.idx_ext₂ ?_ ?_)
  · show win0_2.index t 0 * 256 + 1 * (128 * n.val + i.val) = 128 * (2 * t.val + n.val) + i.val
    rw [(index_rows t).2.2.1.1]; omega
  · show win0_2.index t 1 * 1024 + 1 * k.val = k.val
    rw [(index_rows t).2.2.1.2]; omega

theorem par_b3 (t : Fin cfg0.N) : Gate.par (b3 m c t) = gn m c := by
  funext k
  refine congrArg (m ((c : Thread nD τ).loc main_arg2)) (Shape.idx_ext₂ ?_ ?_)
  · show win0_3.index t 0 * 1 + 1 * 0 = 0
    rw [(index_rest t).1 0]
  · show win0_3.index t 1 * 1024 + 1 * k.val = k.val
    rw [(index_rest t).1 1]; omega

theorem par_b4 (t : Fin cfg0.N) : Gate.par (b4 m c t) = bt m c := by
  funext k
  refine congrArg (m ((c : Thread nD τ).loc main_arg3)) (Shape.idx_ext₂ ?_ ?_)
  · show win0_4.index t 0 * 1 + 1 * 0 = 0
    rw [(index_rest t).2.1 0]
  · show win0_4.index t 1 * 1024 + 1 * k.val = k.val
    rw [(index_rest t).2.1 1]; omega

theorem mats_b5 (t : Fin cfg0.N) : Gate.mats (b5 m c t) = ws m c := by
  funext g i s
  refine congrArg (m ((c : Thread nD τ).loc main_arg4)) (funext fun a => Fin.ext ?_)
  match a with
  | ⟨0, _⟩ => show win0_5.index t 0 * 8 + 1 * g.val = g.val; rw [(index_rest t).2.2.1 0]; omega
  | ⟨1, _⟩ => show win0_5.index t 1 * 128 + 1 * i.val = i.val; rw [(index_rest t).2.2.1 1]; omega
  | ⟨2, _⟩ => show win0_5.index t 2 * 128 + 1 * s.val = s.val; rw [(index_rest t).2.2.1 2]; omega

theorem biases_b6 (t : Fin cfg0.N) : Gate.biases (b6 m c t) = bs m c := by
  funext g i
  refine congrArg (m ((c : Thread nD τ).loc main_arg5)) (Shape.idx_ext₂ ?_ ?_)
  · show win0_6.index t 0 * 8 + 1 * g.val = g.val
    rw [(index_rest t).2.2.2.1 0]; omega
  · show win0_6.index t 1 * 128 + 1 * i.val = i.val
    rw [(index_rest t).2.2.2.1 1]; omega

/-- The first half's gradient at every point: of either case. -/
theorem out7 (t : Fin cfg0.N) : (outsAt0 m c t.val t.isLt).1 =
    truncf .bf16 (dzu (b0 m c t) (b1 m c t) (b2 m c t) (b3 m c t) (b4 m c t) (b5 m c t) (b6 m c t)) bitsLt_bf16_f32 := by
  have hN : cfg0.N = 16 := N_0
  by_cases h : t.val = 0
  · rw [first m c t (by omega) (by omega)]
  · rw [later m c t (by omega) (by omega) (by omega)]

/-- The second half's gradient at every point. -/
theorem out8 (t : Fin cfg0.N) : (outsAt0 m c t.val t.isLt).2.1 =
    truncf .bf16 (dzv (b0 m c t) (b1 m c t) (b2 m c t) (b3 m c t) (b5 m c t)) bitsLt_bf16_f32 := by
  have hN : cfg0.N = 16 := N_0
  by_cases h : t.val = 0
  · rw [first m c t (by omega) (by omega)]
  · rw [later m c t (by omega) (by omega) (by omega)]

/-- A running sum read at one place after the last point: the sum over the points of the blocks' parts. -/
theorem run_points (a : (k : ℕ) → k < cfg0.N → EReal) (p : Fin cfg0.N → EReal) (h0 : ∀ h, a 0 h = p ⟨0, h⟩)
    (hs : ∀ k h h', a (k + 1) h = a k h' + p ⟨k + 1, h⟩) (h15 : 15 < cfg0.N) : a 15 h15 = ∑ t, p t := by
  have hN : cfg0.N = 15 + 1 := N_0
  revert a p h15
  generalize cfg0.N = N at hN
  subst hN
  intro a p h0 hs h15
  exact Gate.run_sum 15 a (fun k h => p ⟨k, h⟩) (h0 _) (fun k h => hs k h _)

/-- A sum over the chunks is a sum over the points of their two chunks. -/
theorem sum_points (f : Fin 32 → EReal) : ∑ t : Fin cfg0.N, ∑ n, f (pt t n) = ∑ N, f N := by
  rw [Fin.sum_univ_tiles cfg0.N 2 (by rw [show cfg0.N = 16 from N_0]) f]
  exact Finset.sum_congr rfl fun n _ => Finset.sum_congr rfl fun i _ => congrArg f (Fin.ext (by simp only [pt]; omega))

theorem last_lt : 15 < cfg0.N := by rw [show cfg0.N = 16 from N_0]; decide

/-- Any of the six running sums, read after the last point: the sum of the points' parts. -/
theorem acc {S : Shape} (pr : Vec Ideal S256x1024 .bf16 × Vec Ideal S256x1024 .bf16 × Vec Ideal S1x1024 .f32 × Vec Ideal S1x1024 .f32 ×
      Vec Ideal S8x128x128 .f32 × Vec Ideal S8x128 .f32 × Vec Ideal S1x1024 .f32 × Vec Ideal S1x1024 .f32 → S.Idx → EReal)
    (part : Fin cfg0.N → S.Idx → EReal)
    (h0 : ∀ t : Fin cfg0.N, t.val % 16 = 0 → ¬1 ≤ t.val → pr (outsAt0 m c t.val t.isLt) = part t)
    (h1 : ∀ (t : Fin cfg0.N) (_ : ¬t.val % 16 = 0) (_ : 1 ≤ t.val) (hp : t.val - 1 < cfg0.N),
      pr (outsAt0 m c t.val t.isLt) = fun i => pr (outsAt0 m c (t.val - 1) hp) i + part t i) (i : S.Idx) :
    pr (outsAt0 m c 15 last_lt) i = ∑ t, part t i :=
  run_points (fun k h => pr (outsAt0 m c k h) i) (fun t => part t i) (fun h => congrFun (h0 ⟨0, h⟩ rfl (by simp)) i)
    (fun k h h' => congrFun (h1 ⟨k + 1, h⟩ (by have : cfg0.N = 16 := N_0; simp only; omega) (by simp) h') i) last_lt

/-- The last point. -/
abbrev tl : Fin cfg0.N := ⟨15, last_lt⟩

/-- A window that writes back only after the last point: its block of the final array is what that point wrote. -/
theorem one_flush (w : Fin cfg0.W) (hf : (cfg0.win w).flush tl = true) (hu : ∀ t, (cfg0.win w).flush t = true → t = tl) :
    ((cfg0.win w).blk tl).view.read (Elt Ideal) ((dats m 0 c).arrAt w cfg0.N) = (dats m 0 c).flushed w tl :=
  (dats m 0 c).read_blk_arrAt_eq_flushed w (fun t t' h h' hne => absurd ((hu t h).trans (hu t' h').symm) hne) cfg0.N tl last_lt hf

theorem only_last (t : Fin cfg0.N) (h : t.val % 16 = 15) : t = tl :=
  Fin.ext (by have : cfg0.N = 16 := N_0; have := t.isLt; show t.val = 15; omega)

/-- Such a window's array holds, at the place its block's place `y` lies at, the sum of the points' parts at `j`. -/
theorem arr_sum (w : Fin cfg0.W) (hf : (cfg0.win w).flush tl = true) (hu : ∀ t, (cfg0.win w).flush t = true → t = tl)
    (y : ((cfg0.win w).xblock (cfg0.grid.coords tl)).Idx) {S : Shape} (j : S.Idx)
    (pr : Vec Ideal S256x1024 .bf16 × Vec Ideal S256x1024 .bf16 × Vec Ideal S1x1024 .f32 × Vec Ideal S1x1024 .f32 ×
      Vec Ideal S8x128x128 .f32 × Vec Ideal S8x128 .f32 × Vec Ideal S1x1024 .f32 × Vec Ideal S1x1024 .f32 → S.Idx → EReal)
    (part : Fin cfg0.N → S.Idx → EReal)
    (h0 : ∀ t : Fin cfg0.N, t.val % 16 = 0 → ¬1 ≤ t.val → pr (outsAt0 m c t.val t.isLt) = part t)
    (h1 : ∀ (t : Fin cfg0.N) (_ : ¬t.val % 16 = 0) (_ : 1 ≤ t.val) (hp : t.val - 1 < cfg0.N),
      pr (outsAt0 m c t.val t.isLt) = fun i => pr (outsAt0 m c (t.val - 1) hp) i + part t i)
    (f : Fin 32 → EReal) (hp : ∀ t, part t j = ∑ n, f (pt t n))
    (cst : Elt Ideal (cfg0.win w).elt → EReal)
    (hfl : cst ((dats m 0 c).flushed w tl y) = pr (outsAt0 m c 15 last_lt) j) :
    cst ((((cfg0.win w).blk tl).view.read (Elt Ideal) ((dats m 0 c).arrAt w cfg0.N)) y) = ∑ N, f N := by
  rw [one_flush m c w hf hu, hfl, acc m c pr part h0 h1, ← sum_points]
  exact Finset.sum_congr rfl fun t _ => hp t

theorem row_at0 (n : ℕ) (h : n = 0) : n * 1 + 1 * 0 = 0 := by omega
theorem row_at1 (n : ℕ) (k : Fin 1024) (h : n = 0) : n * 1024 + 1 * k.val = k.val := by omega

/-- The gain's gradient. -/
theorem arr9 (k : Fin 1024) : (dats m 0 c).arrAt 9 cfg0.N (ix2 0 k) =
    ∑ N, Gate.dg (zu m c N) (zv m c N) (ds m c N) (ws m c) k := by
  have e : ((cfg0.win 9).blk tl).view.emb (ix2 0 k) = (ix2 0 k : S1x1024.Idx) :=
    Shape.idx_ext₂ (row_at0 _ ((index_rest tl).2.2.2.2.1 0)) (row_at1 _ k ((index_rest tl).2.2.2.2.1 1))
  rw [← e]
  refine arr_sum m c 9 ((flush0_9 tl).mpr rfl) (fun t h => only_last t ((flush0_9 t).mp h)) (ix2 0 k) (S := S1x1024) (ix2 0 k)
    (fun o => o.2.2.1) (fun t => dg (b0 m c t) (b1 m c t) (b2 m c t) (b5 m c t))
    (fun t h h' => by rw [first m c t h h']) (fun t h h' hp => by rw [later m c t h h' hp]; rfl)
    (fun N => Gate.dg (zu m c N) (zv m c N) (ds m c N) (ws m c) k) (fun t => ?_) id
    (congrFun (Value.flushed9 m c tl) (ix2 0 k))
  rw [dg_at]
  simp only [chunk_b0, chunk_b1, chunk_b2, mats_b5]

/-- The offset's gradient. -/
theorem arr10 (k : Fin 1024) : (dats m 0 c).arrAt 10 cfg0.N (ix2 0 k) =
    ∑ N, Gate.db (zu m c N) (ds m c N) (ws m c) k := by
  have e : ((cfg0.win 10).blk tl).view.emb (ix2 0 k) = (ix2 0 k : S1x1024.Idx) :=
    Shape.idx_ext₂ (row_at0 _ ((index_rest tl).2.2.2.2.2.1 0)) (row_at1 _ k ((index_rest tl).2.2.2.2.2.1 1))
  rw [← e]
  refine arr_sum m c 10 ((flush0_10 tl).mpr rfl) (fun t h => only_last t ((flush0_10 t).mp h)) (ix2 0 k) (S := S1x1024) (ix2 0 k)
    (fun o => o.2.2.2.1) (fun t => db (b0 m c t) (b2 m c t) (b5 m c t))
    (fun t h h' => by rw [first m c t h h']) (fun t h h' hp => by rw [later m c t h h' hp]; rfl)
    (fun N => Gate.db (zu m c N) (ds m c N) (ws m c) k) (fun t => ?_) id
    (congrFun (Value.flushed10 m c tl) (ix2 0 k))
  rw [db_at]
  simp only [chunk_b0, chunk_b2, mats_b5]

/-- The column sums of the first half's gradient. -/
theorem arr13 (k : Fin 1024) : (dats m 0 c).arrAt 13 cfg0.N (ix2 0 k) =
    ∑ N, Gate.su (zu m c N) (zv m c N) (ds m c N) (gn m c) (bt m c) (ws m c) (bs m c) k := by
  have e : ((cfg0.win 13).blk tl).view.emb (ix2 0 k) = (ix2 0 k : S1x1024.Idx) :=
    Shape.idx_ext₂ (row_at0 _ ((index_rest tl).2.2.2.2.2.2.2.2.1 0)) (row_at1 _ k ((index_rest tl).2.2.2.2.2.2.2.2.1 1))
  rw [← e]
  refine arr_sum m c 13 ((flush0_13 tl).mpr rfl) (fun t h => only_last t ((flush0_13 t).mp h)) (ix2 0 k) (S := S1x1024) (ix2 0 k)
    (fun o => o.2.2.2.2.2.2.1) (fun t => su (b0 m c t) (b1 m c t) (b2 m c t) (b3 m c t) (b4 m c t) (b5 m c t) (b6 m c t))
    (fun t h h' => by rw [first m c t h h']) (fun t h h' hp => by rw [later m c t h h' hp]; rfl)
    (fun N => Gate.su (zu m c N) (zv m c N) (ds m c N) (gn m c) (bt m c) (ws m c) (bs m c) k) (fun t => ?_) id
    (congrFun (Value.flushed13 m c tl) (ix2 0 k))
  rw [su_at]
  simp only [chunk_b0, chunk_b1, chunk_b2, par_b3, par_b4, mats_b5, biases_b6]

/-- The column sums of the second half's gradient. -/
theorem arr14 (k : Fin 1024) : (dats m 0 c).arrAt 14 cfg0.N (ix2 0 k) =
    ∑ N, Gate.sv (zu m c N) (zv m c N) (ds m c N) (gn m c) (ws m c) k := by
  have e : ((cfg0.win 14).blk tl).view.emb (ix2 0 k) = (ix2 0 k : S1x1024.Idx) :=
    Shape.idx_ext₂ (row_at0 _ ((index_rest tl).2.2.2.2.2.2.2.2.2 0)) (row_at1 _ k ((index_rest tl).2.2.2.2.2.2.2.2.2 1))
  rw [← e]
  refine arr_sum m c 14 ((flush0_14 tl).mpr rfl) (fun t h => only_last t ((flush0_14 t).mp h)) (ix2 0 k) (S := S1x1024) (ix2 0 k)
    (fun o => o.2.2.2.2.2.2.2) (fun t => sv (b0 m c t) (b1 m c t) (b2 m c t) (b3 m c t) (b5 m c t))
    (fun t h h' => by rw [first m c t h h']) (fun t h h' hp => by rw [later m c t h h' hp]; rfl)
    (fun N => Gate.sv (zu m c N) (zv m c N) (ds m c N) (gn m c) (ws m c) k) (fun t => ?_) id
    (congrFun (Value.flushed14 m c tl) (ix2 0 k))
  rw [sv_at]
  simp only [chunk_b0, chunk_b1, chunk_b2, par_b3, mats_b5]

/-- The matrices' gradient: the mask stands outside the sum over the chunks. -/
theorem arr11 (g : Fin 8) (i s : Fin 128) : (dats m 0 c).arrAt 11 cfg0.N (ix3 g i s) =
    ∑ N, Gate.dws (zu m c N) (zv m c N) (ds m c N) (gn m c) (bt m c) g i s * Gate.tri i s := by
  have e : ((cfg0.win 11).blk tl).view.emb (ix3 g i s) = (ix3 g i s : S8x128x128.Idx) := by
    refine funext fun a => Fin.ext ?_
    match a with
    | ⟨0, _⟩ => show win0_11.index tl 0 * 8 + 1 * g.val = g.val; rw [(index_rest tl).2.2.2.2.2.2.1 0]; omega
    | ⟨1, _⟩ => show win0_11.index tl 1 * 128 + 1 * i.val = i.val; rw [(index_rest tl).2.2.2.2.2.2.1 1]; omega
    | ⟨2, _⟩ => show win0_11.index tl 2 * 128 + 1 * s.val = s.val; rw [(index_rest tl).2.2.2.2.2.2.1 2]; omega
  rw [← e]
  refine arr_sum m c 11 ((flush0_11 tl).mpr rfl) (fun t h => only_last t ((flush0_11 t).mp h)) (ix3 g i s) (S := S8x128x128) (ix3 g i s)
    (fun o => o.2.2.2.2.1) (fun t => dws (b0 m c t) (b1 m c t) (b2 m c t) (b3 m c t) (b4 m c t))
    (fun t h h' => by rw [first m c t h h']) (fun t h h' hp => by rw [later m c t h h' hp]; rfl)
    (fun N => Gate.dws (zu m c N) (zv m c N) (ds m c N) (gn m c) (bt m c) g i s * Gate.tri i s) (fun t => ?_) id
    (congrFun (Value.flushed11 m c tl) (ix3 g i s))
  rw [dws_at, Gate.sum_mul_tri]
  simp only [chunk_b0, chunk_b1, chunk_b2, par_b3, par_b4]

/-- The biases' gradient. -/
theorem arr12 (g : Fin 8) (i : Fin 128) : (dats m 0 c).arrAt 12 cfg0.N (ix2 g i) =
    ∑ N, Gate.dbs (zu m c N) (ds m c N) g i := by
  have e : ((cfg0.win 12).blk tl).view.emb (ix2 g i) = (ix2 g i : S8x128.Idx) := by
    refine Shape.idx_ext₂ ?_ ?_
    · show win0_12.index tl 0 * 8 + 1 * g.val = g.val
      rw [(index_rest tl).2.2.2.2.2.2.2.1 0]; omega
    · show win0_12.index tl 1 * 128 + 1 * i.val = i.val
      rw [(index_rest tl).2.2.2.2.2.2.2.1 1]; omega
  rw [← e]
  refine arr_sum m c 12 ((flush0_12 tl).mpr rfl) (fun t h => only_last t ((flush0_12 t).mp h)) (ix2 g i) (S := S8x128) (ix2 g i)
    (fun o => o.2.2.2.2.2.1) (fun t => dbs (b0 m c t) (b2 m c t))
    (fun t h h' => by rw [first m c t h h']) (fun t h h' hp => by rw [later m c t h h' hp]; rfl)
    (fun N => Gate.dbs (zu m c N) (ds m c N) g i) (fun t => ?_) id (congrFun (Value.flushed12 m c tl) (ix2 g i))
  rw [dbs_at]
  simp only [chunk_b0, chunk_b2]

/-- Every chunk is a half of some point's rows. -/
theorem exists_pt (N : Fin 32) : ∃ t n, N = pt t n :=
  ⟨⟨N.val / 2, by have : cfg0.N = 16 := N_0; omega⟩, ⟨N.val % 2, by omega⟩, Fin.ext (by simp only [pt]; omega)⟩

/-- The first half's gradient. -/
theorem arr7 (N : Fin 32) (i : Fin 128) (k : Fin 1024) : (dats m 0 c).arrAt 7 cfg0.N (ix2 (Gate.row N i) k) =
    Gate.dzu (zu m c N) (zv m c N) (ds m c N) (gn m c) (bt m c) (ws m c) (bs m c) i k := by
  obtain ⟨t, n, rfl⟩ := exists_pt N
  have e : ((cfg0.win 7).blk t).view.emb (ix2 (rw2 n i) k) = (ix2 (Gate.row (pt t n) i) k : S4096x1024.Idx) := by
    refine Shape.idx_ext₂ ?_ ?_
    · show win0_7.index t 0 * 256 + 1 * (128 * n.val + i.val) = 128 * (2 * t.val + n.val) + i.val
      rw [(index_rows t).2.2.2.1.1]; omega
    · show win0_7.index t 1 * 1024 + 1 * k.val = k.val
      rw [(index_rows t).2.2.2.1.2]; omega
  rw [← e]
  refine (congrFun (Value.blocks7 m c t (flush0_7 t)) (ix2 (rw2 n i) k)).trans ?_
  rw [Value.flushed7, out7]
  refine (dzu_at _ _ _ _ _ _ _ n i k).trans ?_
  rw [chunk_b0, chunk_b1, chunk_b2, par_b3, par_b4, mats_b5, biases_b6]

/-- The second half's gradient. -/
theorem arr8 (N : Fin 32) (i : Fin 128) (k : Fin 1024) : (dats m 0 c).arrAt 8 cfg0.N (ix2 (Gate.row N i) k) =
    Gate.dzv (zu m c N) (zv m c N) (ds m c N) (gn m c) (ws m c) i k := by
  obtain ⟨t, n, rfl⟩ := exists_pt N
  have e : ((cfg0.win 8).blk t).view.emb (ix2 (rw2 n i) k) = (ix2 (Gate.row (pt t n) i) k : S4096x1024.Idx) := by
    refine Shape.idx_ext₂ ?_ ?_
    · show win0_8.index t 0 * 256 + 1 * (128 * n.val + i.val) = 128 * (2 * t.val + n.val) + i.val
      rw [(index_rows t).2.2.2.2.1]; omega
    · show win0_8.index t 1 * 1024 + 1 * k.val = k.val
      rw [(index_rows t).2.2.2.2.2]; omega
  rw [← e]
  refine (congrFun (Value.blocks8 m c t (flush0_8 t)) (ix2 (rw2 n i) k)).trans ?_
  rw [Value.flushed8, out8]
  refine (dzv_at _ _ _ _ _ n i k).trans ?_
  rw [chunk_b0, chunk_b1, chunk_b2, par_b3, mats_b5]

end Cert.SguIdeal.Block

end
-- ==== Proof.Sgu.Sums.lean ====
module

public import proofs.«01_k».proof.Proof.Sgu.Spec
public import proofs.«01_k».proof.Proof.Gen.SguRefIdeal.Read

@[expose] public section

/-! The reference's sums over several axes at once, read at one place. -/

set_option maxRecDepth 16384

noncomputable section

namespace Cert.SguRefIdeal.Stage

open Cert Cert.SguRefIdeal Cert.SguRefIdeal.Read Idealize.ShloMosaic Idealize.ShloMosaic.TcCoe Idealize.SL.Sem

/-- A sum from zero over the places that one result place comes from is the sum over any enumeration of them. -/
theorem reduce_fiber {s t s0 : Shape} {axes : List (Fin s.rank)} (x : FVec Ideal s .f32) (init : FVec Ideal s0 .f32)
    (h : s.ReducesTo axes t) (hu) (h0 : ∀ i, init i = 0) (j : t.Idx) {κ : Type} [Fintype κ] (g : κ → s.Idx)
    (hg : Function.Injective g) (hp : ∀ i, h.drop i = j ↔ ∃ k, g k = i) :
    Host.reduceAdd x init h hu j = ∑ k, x (g k) := by
  show init _ + _ = _
  rw [h0, zero_add]
  exact Finset.sum_filter_eq_sum_of_fiber _ g hg hp _

/-- The sum over both outer axes, the first of length one. -/
theorem sum01 {n : ℕ} (h : (⟨3, ![1, n, 1024]⟩ : Shape).ReducesTo [0, 1] S1024) (x : FVec Ideal ⟨3, ![1, n, 1024]⟩ .f32) (init : FVec Ideal S_ .f32)
    (hu) (h0 : ∀ i, init i = 0) (c : Fin 1024) : Host.reduceAdd x init h hu (ix1 c) = ∑ k : Fin n, x (ix3 0 k c) := by
  refine reduce_fiber x init h hu h0 (ix1 c) (fun k : Fin n => ix3 0 k c) (fun _ _ e => congrFun e 1) fun i => ⟨fun e => ⟨i 1, ?_⟩, ?_⟩
  · funext a; apply Fin.ext
    match a with
    | ⟨0, _⟩ => exact (Fin.val_eq_zero (i 0)).symm
    | ⟨1, _⟩ => rfl
    | ⟨2, _⟩ => exact (congrArg Fin.val (congrFun e 0)).symm
  · rintro ⟨k, rfl⟩
    funext b; apply Fin.ext
    match b with
    | ⟨0, _⟩ => rfl

/-- The sum over an outer and an inner axis, both of length one. -/
theorem sum02 (h : S1x4096x1.ReducesTo [0, 2] S4096) (x : FVec Ideal S1x4096x1 .f32) (init : FVec Ideal S_ .f32)
    (hu) (h0 : ∀ i, init i = 0) (r : Fin 4096) : Host.reduceAdd x init h hu (ix1 r) = x (ix3 0 r 0) := by
  refine (reduce_fiber x init h hu h0 (ix1 r) (fun _ : Unit => ix3 0 r 0) (fun _ _ _ => rfl) fun i => ⟨fun e => ⟨(), ?_⟩, ?_⟩).trans (by simp)
  · funext a; apply Fin.ext
    match a with
    | ⟨0, _⟩ => exact (Fin.val_eq_zero (i 0)).symm
    | ⟨1, _⟩ => exact (congrArg Fin.val (congrFun e 0)).symm
    | ⟨2, _⟩ => exact (Fin.val_eq_zero (i 2)).symm
  · rintro ⟨k, rfl⟩
    funext b; apply Fin.ext
    match b with
    | ⟨0, _⟩ => rfl

/-- The sum over the chunks and a group's columns. -/
theorem sum14 (h : S1x32x128x8x128.ReducesTo [1, 4] S1x128x8) (x : FVec Ideal S1x32x128x8x128 .f32) (init : FVec Ideal S_ .f32)
    (hu) (h0 : ∀ i, init i = 0) (i : Fin 128) (g : Fin 8) :
    Host.reduceAdd x init h hu (ix3 0 i g) = ∑ N : Fin 32, ∑ e : Fin 128, x (ix5 0 N i g e) := by
  rw [← Fintype.sum_prod_type' (f := fun N e => x (ix5 0 N i g e))]
  refine reduce_fiber x init h hu h0 (ix3 0 i g) (fun p : Fin 32 × Fin 128 => ix5 0 p.1 i g p.2)
    (fun _ _ e => Prod.ext (congrFun e 1) (congrFun e 4)) fun q => ⟨fun e => ⟨(q 1, q 4), ?_⟩, ?_⟩
  · funext a; apply Fin.ext
    match a with
    | ⟨0, _⟩ => exact (Fin.val_eq_zero (q 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl

/-- The sum over three axes of length one. -/
theorem sum014 (h : S1x1x128x8x1.ReducesTo [0, 1, 4] S128x8) (x : FVec Ideal S1x1x128x8x1 .f32) (init : FVec Ideal S_ .f32)
    (hu) (h0 : ∀ i, init i = 0) (i : Fin 128) (g : Fin 8) :
    Host.reduceAdd x init h hu (ix2 i g) = x (ix5 0 0 i g 0) := by
  refine (reduce_fiber x init h hu h0 (ix2 i g) (fun _ : Unit => ix5 0 0 i g 0) (fun _ _ _ => rfl) fun q => ⟨fun e => ⟨(), ?_⟩, ?_⟩).trans (by simp)
  · funext a; apply Fin.ext
    match a with
    | ⟨0, _⟩ => exact (Fin.val_eq_zero (q 0)).symm
    | ⟨1, _⟩ => exact (Fin.val_eq_zero (q 1)).symm
    | ⟨2, _⟩ => exact (congrArg Fin.val (congrFun e 0)).symm
    | ⟨3, _⟩ => exact (congrArg Fin.val (congrFun e 1)).symm
    | ⟨4, _⟩ => exact (Fin.val_eq_zero (q 4)).symm
  · rintro ⟨k, rfl⟩
    funext b; apply Fin.ext
    match b with
    | ⟨0, _⟩ => rfl
    | ⟨1, _⟩ => rfl

/-- The contracted places of the matrices' gradient: a chunk and a column of the group. -/
def pair (p : Fin 32 × Fin 128) : dot_S8x1x32x128x128_S1x32x128x8x128_S8x128x128_123_014_4_2_0_3.contr.Idx := fun a =>
  match a with
  | ⟨0, _⟩ => ⟨0, Nat.one_pos⟩
  | ⟨1, _⟩ => p.1
  | ⟨2, _⟩ => p.2

/-- The product of the mixed cotangent and the normalised gate, summed over the chunks and a group's columns. -/
theorem dot79 (x : FVec Ideal S8x1x32x128x128 .f32) (y : FVec Ideal S1x32x128x8x128 .f32) (g : Fin 8) (i s : Fin 128) :
    Host.dotGeneral dot_S8x1x32x128x128_S1x32x128x8x128_S8x128x128_123_014_4_2_0_3 none x y (ix3 g i s) = ∑ N : Fin 32, ∑ e : Fin 128, x (ix5 g 0 N e i) * y (ix5 0 N s g e) := by
  rw [← Fintype.sum_prod_type' (f := fun N e => x (ix5 g 0 N e i) * y (ix5 0 N s g e))]
  simp only [Host.dotGeneral]
  rw [Ideal.dotGeneral_apply]
  symm
  refine Fintype.sum_bijective pair ⟨fun p q e => Prod.ext (congrFun e ⟨1, by decide⟩) (congrFun e ⟨2, by decide⟩), fun k => ⟨(k ⟨1, by decide⟩, k ⟨2, by decide⟩), ?_⟩⟩ _ _ fun p => ?_
  · funext a; apply Fin.ext
    match a with
    | ⟨0, _⟩ => exact (Fin.val_eq_zero (show Fin 1 from k ⟨0, by decide⟩)).symm
    | ⟨1, _⟩ => rfl
    | ⟨2, _⟩ => rfl
  · have hl : dot_S8x1x32x128x128_S1x32x128x8x128_S8x128x128_123_014_4_2_0_3.lhsIdx (ix3 g i s) (pair p) = ix5 g 0 p.1 p.2 i := by
      funext a
      match a with
      | ⟨0, _⟩ => unfold DotDims.lhsIdx; rfl
      | ⟨1, _⟩ => unfold DotDims.lhsIdx; rfl
      | ⟨2, _⟩ => unfold DotDims.lhsIdx; rfl
      | ⟨3, _⟩ => unfold DotDims.lhsIdx; rfl
      | ⟨4, _⟩ => unfold DotDims.lhsIdx; rfl
    have hr : dot_S8x1x32x128x128_S1x32x128x8x128_S8x128x128_123_014_4_2_0_3.rhsIdx (ix3 g i s) (pair p) = ix5 0 p.1 s g p.2 := by
      funext a
      match a with
      | ⟨0, _⟩ => unfold DotDims.rhsIdx; rfl
      | ⟨1, _⟩ => unfold DotDims.rhsIdx; rfl
      | ⟨2, _⟩ => unfold DotDims.rhsIdx; rfl
      | ⟨3, _⟩ => unfold DotDims.rhsIdx; rfl
      | ⟨4, _⟩ => unfold DotDims.rhsIdx; rfl
    rw [hl, hr]

end Cert.SguRefIdeal.Stage

end
-- ==== Proof.Sgu.Ref.lean ====
module

public import proofs.«01_k».proof.Proof.Sgu.Spec
public import proofs.«01_k».proof.Proof.Sgu.Sums

@[expose] public section

/-! The reference's stages over the extended reals, read at one place: the chunk mathematics of `Spec.lean`. -/

set_option maxRecDepth 16384

noncomputable section

namespace Cert.SguRefIdeal.Stage

open Cert Cert.SguRefIdeal Cert.SguRefIdeal.Read Idealize.ShloMosaic Idealize.ShloMosaic.TcCoe Idealize.SL.Sem

variable (x0 : (⟨S4096x8192, .bf16⟩ : BufTy).Contents (Elt Ideal)) (x1 : (⟨S4096x1024, .bf16⟩ : BufTy).Contents (Elt Ideal))
  (x2 x3 : (⟨S1x1024, .f32⟩ : BufTy).Contents (Elt Ideal)) (x4 : (⟨S8x128x128, .f32⟩ : BufTy).Contents (Elt Ideal))
  (x5 : (⟨S8x128, .f32⟩ : BufTy).Contents (Elt Ideal)) (N : Fin 32) (i : Fin 128) (c : Fin 1024)

theorem v4_at : val_main_v4 x0 (ix3 0 (Gate.row N i) c) = Gate.zuOf x0 N i c := by
  pointwise [val_main_v4, val_main_v1, val_main_v0, Gate.zuOf]

theorem v5_at : val_main_v5 x0 (ix3 0 (Gate.row N i) c) = Gate.zvOf x0 N i c := by
  pointwise [val_main_v5, val_main_v1, val_main_v0, Gate.zvOf]

theorem v3_at : val_main_v3 x1 (ix3 0 (Gate.row N i) c) = Gate.dsOf x1 N i c := by
  pointwise [val_main_v3, val_main_v2, Gate.dsOf]

theorem erfc_at (x : EReal) : FloatOps.hostUnary (F := Ideal) .erfc (φ := .f32) (-x * Gate.isq) = 1 + Ideal.erf (x * Gate.isq) := by
  rw [Ideal.hostUnary_erfc_def, neg_mul, Ideal.erfc_neg]

theorem v13_at : val_main_v13 x0 (ix3 0 (Gate.row N i) c) = 1 + Ideal.erf (Gate.zuOf x0 N i c * Gate.isq) := by
  rw [← erfc_at]
  pointwise [val_main_v13, val_main_v12, val_main_v10, v4_at, val_main_v11, val_main_cst_0]

theorem v16_at : val_main_v16 x0 (ix3 0 (Gate.row N i) c) =
    Ideal.exp (-(Gate.zuOf x0 N i c * Gate.isq * (Gate.zuOf x0 N i c * Gate.isq))) := by
  pointwise [val_main_v16, val_main_v15, val_main_v14, val_main_v12, val_main_v10, v4_at, val_main_v11, val_main_cst_0]
  rw [neg_mul, neg_mul_neg]

theorem v17_at : val_main_v17 x0 (ix3 0 (Gate.row N i) c) = Gate.gelu (Gate.zuOf x0 N i c) := by
  pointwise [val_main_v17, val_main_v9, val_main_v8, val_main_cst, v4_at, v13_at, Gate.gelu]

theorem v23_at : val_main_v23 x0 (ix3 0 (Gate.row N i) c) = 1 + Ideal.erf (Gate.zvOf x0 N i c * Gate.isq) := by
  rw [← erfc_at]
  pointwise [val_main_v23, val_main_v22, val_main_v20, v5_at, val_main_v21, val_main_cst_2]

theorem v26_at : val_main_v26 x0 (ix3 0 (Gate.row N i) c) =
    Ideal.exp (-(Gate.zvOf x0 N i c * Gate.isq * (Gate.zvOf x0 N i c * Gate.isq))) := by
  pointwise [val_main_v26, val_main_v25, val_main_v24, val_main_v22, val_main_v20, v5_at, val_main_v21, val_main_cst_2]
  rw [neg_mul, neg_mul_neg]

theorem v27_at : val_main_v27 x0 (ix3 0 (Gate.row N i) c) = Gate.pre (Gate.zvOf x0 N) i c := by
  pointwise [val_main_v27, val_main_v19, val_main_v18, val_main_cst_1, v5_at, v23_at, Gate.pre, Gate.gelu]

theorem v31_at : val_main_v31 x0 (ix3 0 (Gate.row N i) 0) = Gate.mean (Gate.pre (Gate.zvOf x0 N) i) := by
  pointwise [val_main_v31, val_main_v30, val_main_v29, val_main_v28, val_main_cst_3, val_main_cst_4, v27_at, Gate.mean]

theorem v33_at : val_main_v33 x0 (ix3 0 (Gate.row N i) c) = Gate.cent (Gate.pre (Gate.zvOf x0 N) i) c := by
  pointwise [val_main_v33, val_main_v32, v31_at, v27_at, Gate.cent]

theorem v42_at : val_main_v42 x0 (ix3 0 (Gate.row N i) c) = Gate.cent (Gate.pre (Gate.zvOf x0 N) i) c := by
  pointwise [val_main_v42, val_main_v41, v31_at, v27_at, Gate.cent]

theorem v36_at : val_main_v36 x0 (ix3 0 (Gate.row N i) c) = Gate.two * Gate.cent (Gate.pre (Gate.zvOf x0 N) i) c := by
  pointwise [val_main_v36, val_main_v35, val_main_cst_5, v33_at]

theorem v44_at : val_main_v44 x0 (ix3 0 (Gate.row N i) 0) = Gate.var (Gate.pre (Gate.zvOf x0 N) i) := by
  pointwise [val_main_v44, val_main_v43, val_main_v40, val_main_v39, val_main_v38, val_main_v37, val_main_v34, val_main_cst_6, val_main_cst_7, val_main_cst_8, v33_at, Gate.var]

theorem v45_at : val_main_v45 x0 (ix3 0 (Gate.row N i) 0) = Ideal.rsqrt (Gate.var (Gate.pre (Gate.zvOf x0 N) i)) := by
  pointwise [val_main_v45, v44_at]

theorem v48_at : val_main_v48 x0 (ix3 0 (Gate.row N i) 0) =
    Gate.mhalf * Ideal.div (Ideal.rsqrt (Gate.var (Gate.pre (Gate.zvOf x0 N) i))) (Gate.var (Gate.pre (Gate.zvOf x0 N) i)) := by
  pointwise [val_main_v48, val_main_v47, val_main_v46, val_main_cst_9, v45_at, v44_at]

theorem v50_at : val_main_v50 x0 (ix3 0 (Gate.row N i) c) = Gate.unit (Gate.pre (Gate.zvOf x0 N) i) c := by
  pointwise [val_main_v50, val_main_v49, v42_at, v45_at, Gate.unit]

theorem v56_at : val_main_v56 x0 x2 x3 (ix3 0 (Gate.row N i) c) = Gate.vln (Gate.zvOf x0 N) (Gate.par x2) (Gate.par x3) i c := by
  pointwise [val_main_v56, val_main_v55, val_main_v54, val_main_v53, val_main_v52, val_main_v51, val_main_v6, val_main_v7, v50_at, Gate.vln, Gate.norm, Gate.par]

/-- The row of a chunk and a place, and the column of a group and a place, as the flat position of all four. -/
theorem place (g : Fin 8) (e : Fin 128) (a : Fin 4096) (b : Fin 1024) (ha : a.val = N.val * 128 + i.val) (hb : b.val = g.val * 128 + e.val) :
    (ix3 0 a b : S1x4096x1024.Idx) = ix3 0 (Gate.row N i) (Gate.col g e) := by
  obtain rfl : a = Gate.row N i := Fin.ext (by rw [ha, mul_comm]; rfl)
  obtain rfl : b = Gate.col g e := Fin.ext (by rw [hb, mul_comm]; rfl)
  rfl

theorem v57_at (g : Fin 8) (e : Fin 128) : val_main_v57 x0 x2 x3 (ix5 0 N i g e) =
    Gate.vln (Gate.zvOf x0 N) (Gate.par x2) (Gate.par x3) i (Gate.col g e) := by
  rw [← v56_at]
  pointwise [val_main_v57]
  exact congrArg _ (place N i g e _ _ rfl rfl)

theorem v59_at (i s : Fin 128) : val_main_v59 (F := Ideal) (ix2 i s) = Gate.tri i s := by
  pointwise [val_main_v59, val_main_v58, val_main_cst_10, val_main_call0_v0, val_main_call0_v1, val_main_call0_v2, val_main_call0_v3,
   val_main_call0_v4, val_main_call0_v5, val_main_call0_c, val_main_call0_cst]
  unfold Gate.tri
  have hi : (BitVec.ofNat 32 i.val).toInt = i.val := by
    rw [BitVec.toInt_eq_toNat_of_lt] <;> rw [BitVec.toNat_ofNat] <;> omega
  have hs : (BitVec.ofNat 32 s.val).toInt = s.val := by
    rw [BitVec.toInt_eq_toNat_of_lt] <;> rw [BitVec.toNat_ofNat] <;> omega
  by_cases h : s.val ≤ i.val
  · simp [IntOp.cmpi, IntOp.addi, BitVec.sle, hi, hs, h]
    rfl
  · simp [IntOp.cmpi, IntOp.addi, BitVec.sle, hi, hs, h]
    rfl

theorem v62_at (g : Fin 8) (i s : Fin 128) : val_main_v62 x4 (ix3 g i s) = Gate.mats x4 g i s * Gate.tri i s := by
  pointwise [val_main_v62, val_main_v61, val_main_v60, v59_at, Gate.mats]

theorem v68_at (g : Fin 8) (e : Fin 128) : val_main_v68 x0 x2 x3 x4 x5 (ix5 0 N i g e) =
    Gate.mixed (Gate.zvOf x0 N) (Gate.par x2) (Gate.par x3) (Gate.mats x4) (Gate.biases x5) i (Gate.col g e) := by
  pointwise [val_main_v68, val_main_v67, val_main_v66, val_main_v65, val_main_v64, val_main_v63, v57_at, v62_at, Gate.mixed, Gate.biases]
  rw [Gate.grp_col]
  exact congrArg (· + _) (Finset.sum_congr rfl fun _ _ => mul_comm _ _)

/-- The flat position taken apart again. -/
theorem place' {h1 h2 h3 h4} : (ix5 0 ⟨(Gate.row N i).val / 128, h1⟩ ⟨(Gate.row N i).val % 128, h2⟩ ⟨c.val / 128, h3⟩ ⟨c.val % 128, h4⟩ : S1x32x128x8x128.Idx) =
    ix5 0 N i (Gate.grp c) (Gate.lane c) := by
  have e1 : (⟨(Gate.row N i).val / 128, h1⟩ : Fin 32) = N := Fin.ext (by simp only [Gate.row]; omega)
  have e2 : (⟨(Gate.row N i).val % 128, h2⟩ : Fin 128) = i := Fin.ext (by simp only [Gate.row]; omega)
  rw [e1, e2]
  rfl

theorem v69_at : val_main_v69 x0 x2 x3 x4 x5 (ix3 0 (Gate.row N i) c) =
    Gate.mixed (Gate.zvOf x0 N) (Gate.par x2) (Gate.par x3) (Gate.mats x4) (Gate.biases x5) i c := by
  conv_rhs => rw [← Gate.col_grp_lane c]
  rw [← v68_at]
  pointwise [val_main_v69]
  exact congrArg _ (place' N i c)

theorem v72_at : val_main_v72 x0 x1 x2 x3 x4 x5 (ix3 0 (Gate.row N i) c) =
    Gate.du (Gate.zvOf x0 N) (Gate.dsOf x1 N) (Gate.par x2) (Gate.par x3) (Gate.mats x4) (Gate.biases x5) i c := by
  pointwise [val_main_v72, v3_at, v69_at, Gate.du]

theorem v71_at : val_main_v71 x0 x1 (ix3 0 (Gate.row N i) c) = Gate.dmix (Gate.zuOf x0 N) (Gate.dsOf x1 N) i c := by
  pointwise [val_main_v71, v3_at, v17_at, Gate.dmix]
  rw [mul_comm]

theorem v73_at (g : Fin 8) (e : Fin 128) : val_main_v73 x0 x1 (ix5 0 N i g e) =
    Gate.dmix (Gate.zuOf x0 N) (Gate.dsOf x1 N) i (Gate.col g e) := by
  rw [← v71_at]
  pointwise [val_main_v73]
  exact congrArg _ (place N i g e _ _ rfl rfl)

theorem v81_at (s : Fin 128) (g : Fin 8) (e : Fin 128) : val_main_v81 x0 x1 x4 (ix5 0 N s g e) =
    Gate.dvln (Gate.zuOf x0 N) (Gate.dsOf x1 N) (Gate.mats x4) s (Gate.col g e) := by
  pointwise [val_main_v81, val_main_v80, val_main_v78, v73_at, v62_at, Gate.dvln]
  rw [Gate.grp_col]
  exact Finset.sum_congr rfl fun _ _ => mul_comm _ _

theorem v84_at : val_main_v84 x0 x1 x4 (ix3 0 (Gate.row N i) c) =
    Gate.dvln (Gate.zuOf x0 N) (Gate.dsOf x1 N) (Gate.mats x4) i c := by
  conv_rhs => rw [← Gate.col_grp_lane c]
  rw [← v81_at]
  pointwise [val_main_v84]
  exact congrArg _ (place' N i c)

theorem v92_at : val_main_v92 x0 x1 x2 x4 (ix3 0 (Gate.row N i) c) =
    Gate.dvln (Gate.zuOf x0 N) (Gate.dsOf x1 N) (Gate.mats x4) i c * Gate.par x2 c := by
  pointwise [val_main_v92, val_main_v91, val_main_v51, val_main_v6, v84_at, Gate.par]

theorem v98_at : val_main_v98 x0 x1 x2 x4 (ix3 0 (Gate.row N i) c) =
    Gate.normA (Gate.par x2) (Gate.pre (Gate.zvOf x0 N) i) (Gate.dvln (Gate.zuOf x0 N) (Gate.dsOf x1 N) (Gate.mats x4) i) c := by
  pointwise [val_main_v98, val_main_v97, v45_at, v92_at, Gate.normA]

theorem v104_at : val_main_v104 x0 x1 x2 x4 (ix3 0 (Gate.row N i) 0) * (Gate.two * Gate.cent (Gate.pre (Gate.zvOf x0 N) i) c) =
    Gate.normB (Gate.par x2) (Gate.pre (Gate.zvOf x0 N) i) (Gate.dvln (Gate.zuOf x0 N) (Gate.dsOf x1 N) (Gate.mats x4) i) c := by
  pointwise [val_main_v104, val_main_v103, val_main_v99, val_main_v96, val_main_v95, val_main_v94, val_main_cst_17, val_main_cst_19, v92_at, v42_at, v48_at, Gate.normB]

theorem v105_at : val_main_v105 x0 x1 x2 x4 (ix1 (Gate.row N i)) = val_main_v104 x0 x1 x2 x4 (ix3 0 (Gate.row N i) 0) :=
  sum02 _ _ _ _ (fun _ => Ideal.ofBits_zero_f32) _

theorem v108_at : val_main_v108 x0 x1 x2 x4 (ix3 0 (Gate.row N i) c) =
    Gate.normB (Gate.par x2) (Gate.pre (Gate.zvOf x0 N) i) (Gate.dvln (Gate.zuOf x0 N) (Gate.dsOf x1 N) (Gate.mats x4) i) c := by
  rw [← v104_at]
  pointwise [val_main_v108, val_main_v107, val_main_v106, v105_at, v36_at]

theorem v116_at : val_main_v116 x0 x1 x2 x4 (ix1 (Gate.row N i)) = val_main_v115 x0 x1 x2 x4 (ix3 0 (Gate.row N i) 0) :=
  sum02 _ _ _ _ (fun _ => Ideal.ofBits_zero_f32) _

theorem v119_at : val_main_v119 x0 x1 x2 x4 (ix3 0 (Gate.row N i) c) =
    Gate.dv (Gate.zuOf x0 N) (Gate.zvOf x0 N) (Gate.dsOf x1 N) (Gate.par x2) (Gate.mats x4) i c := by
  pointwise [val_main_v119, val_main_v118, val_main_v117, v116_at, val_main_v115, val_main_v114, val_main_v113, val_main_v112, val_main_v111,
    val_main_v110, val_main_v109, val_main_v102, val_main_v101, val_main_v100, val_main_cst_18, val_main_cst_21, val_main_cst_22, v98_at, v108_at,
    Gate.dv, Gate.normBwd]

/-- The constant with its sign. -/
theorem tsp_neg : Ideal.ofBits .f32 0xBF906EBB#32 = -Gate.tsp := by
  simp [Gate.tsp, Ideal.ofBits, Ideal.ieee]

theorem v130_at : val_main_v130 x0 x1 x2 x4 (ix3 0 (Gate.row N i) c) =
    Gate.dzv (Gate.zuOf x0 N) (Gate.zvOf x0 N) (Gate.dsOf x1 N) (Gate.par x2) (Gate.mats x4) i c := by
  pointwise [val_main_v130, val_main_v129, val_main_v128, val_main_v127, val_main_v126, val_main_v125, val_main_v124, val_main_v123, val_main_v122,
    val_main_v121, val_main_v120, val_main_v19, val_main_v18, val_main_cst_1, val_main_cst_24, val_main_cst_25, val_main_cst_26, v119_at, v23_at, v26_at, v5_at,
    Gate.dzv, Gate.geluBwd]
  rw [tsp_neg]
  simp only [neg_mul, neg_neg]

theorem v141_at : val_main_v141 x0 x1 x2 x3 x4 x5 (ix3 0 (Gate.row N i) c) =
    Gate.dzu (Gate.zuOf x0 N) (Gate.zvOf x0 N) (Gate.dsOf x1 N) (Gate.par x2) (Gate.par x3) (Gate.mats x4) (Gate.biases x5) i c := by
  pointwise [val_main_v141, val_main_v140, val_main_v139, val_main_v138, val_main_v137, val_main_v136, val_main_v135, val_main_v134, val_main_v133,
    val_main_v132, val_main_v131, val_main_v9, val_main_v8, val_main_cst, val_main_cst_27, val_main_cst_28, val_main_cst_29, v72_at, v13_at, v16_at, v4_at,
    Gate.dzu, Gate.geluBwd]
  rw [tsp_neg]
  simp only [neg_mul, neg_neg]

/-! The eight results. -/

theorem v143_at : val_main_v143 x0 x1 x2 x3 x4 x5 (ix2 (Gate.row N i) c) =
    Gate.dzu (Gate.zuOf x0 N) (Gate.zvOf x0 N) (Gate.dsOf x1 N) (Gate.par x2) (Gate.par x3) (Gate.mats x4) (Gate.biases x5) i c := by
  pointwise [val_main_v143, val_main_v142, v141_at]

theorem v145_at : val_main_v145 x0 x1 x2 x4 (ix2 (Gate.row N i) c) =
    Gate.dzv (Gate.zuOf x0 N) (Gate.zvOf x0 N) (Gate.dsOf x1 N) (Gate.par x2) (Gate.mats x4) i c := by
  pointwise [val_main_v145, val_main_v144, v130_at]

theorem v93_at : val_main_v93 x0 x1 x4 (ix1 c) = val_main_v90 x0 x1 x4 (ix3 0 0 c) :=
  (sum01 _ _ _ _ (fun _ => Ideal.ofBits_zero_f32) _).trans (by simp)

theorem v146_at : val_main_v146 x0 x1 x4 (ix2 0 c) =
    ∑ N, Gate.dg (Gate.zuOf x0 N) (Gate.zvOf x0 N) (Gate.dsOf x1 N) (Gate.mats x4) c := by
  pointwise [val_main_v146, v93_at, val_main_v90, val_main_v89, val_main_v88, val_main_cst_15, Gate.dg]
  rw [Gate.sum_row]
  simp only [v50_at, v84_at]

theorem v87_at : val_main_v87 x0 x1 x4 (ix1 c) = val_main_v86 x0 x1 x4 (ix3 0 0 c) :=
  (sum01 _ _ _ _ (fun _ => Ideal.ofBits_zero_f32) _).trans (by simp)

theorem v147_at : val_main_v147 x0 x1 x4 (ix2 0 c) = ∑ N, Gate.db (Gate.zuOf x0 N) (Gate.dsOf x1 N) (Gate.mats x4) c := by
  pointwise [val_main_v147, v87_at, val_main_v86, val_main_v85, val_main_cst_13, Gate.db]
  rw [Gate.sum_row]
  simp only [v84_at]

theorem v79_at (g : Fin 8) (i s : Fin 128) : val_main_v79 x0 x1 x2 x3 (ix3 g i s) =
    ∑ N, Gate.dws (Gate.zuOf x0 N) (Gate.zvOf x0 N) (Gate.dsOf x1 N) (Gate.par x2) (Gate.par x3) g i s := by
  refine (dot79 _ _ g i s).trans ?_
  pointwise [val_main_v78, v73_at, v57_at, Gate.dws]

theorem v83_at (g : Fin 8) (i s : Fin 128) : val_main_v83 x0 x1 x2 x3 (ix3 g i s) =
    ∑ N, Gate.dws (Gate.zuOf x0 N) (Gate.zvOf x0 N) (Gate.dsOf x1 N) (Gate.par x2) (Gate.par x3) g i s * Gate.tri i s := by
  rw [← Gate.sum_mul_tri]
  pointwise [val_main_v83, val_main_v82, val_main_v60, v59_at, v79_at]

theorem v74_at (g : Fin 8) (i : Fin 128) : val_main_v74 x0 x1 (ix3 0 i g) = ∑ N, Gate.dbs (Gate.zuOf x0 N) (Gate.dsOf x1 N) g i := by
  refine (sum14 _ _ _ _ (fun _ => Ideal.ofBits_zero_f32) i g).trans ?_
  simp only [v73_at, Gate.dbs]

theorem v76_at (g : Fin 8) (i : Fin 128) : val_main_v76 x0 x1 (ix2 i g) = val_main_v75 x0 x1 (ix5 0 0 i g 0) :=
  sum014 _ _ _ _ (fun _ => Ideal.ofBits_zero_f32) i g

theorem v77_at (g : Fin 8) (i : Fin 128) : val_main_v77 x0 x1 (ix2 g i) = ∑ N, Gate.dbs (Gate.zuOf x0 N) (Gate.dsOf x1 N) g i := by
  rw [← v74_at]
  pointwise [val_main_v77, v76_at, val_main_v75]

theorem v148_at : val_main_v148 x0 x1 x2 x3 x4 x5 (ix1 c) = ∑ r, val_main_v141 x0 x1 x2 x3 x4 x5 (ix3 0 r c) :=
  sum01 _ _ _ _ (fun _ => Ideal.ofBits_zero_f32) _

theorem v149_at : val_main_v149 x0 x1 x2 x3 x4 x5 (ix2 0 c) =
    ∑ N, Gate.su (Gate.zuOf x0 N) (Gate.zvOf x0 N) (Gate.dsOf x1 N) (Gate.par x2) (Gate.par x3) (Gate.mats x4) (Gate.biases x5) c := by
  pointwise [val_main_v149, v148_at, Gate.su]
  rw [Gate.sum_row]
  simp only [v141_at]

theorem v150_at : val_main_v150 x0 x1 x2 x4 (ix1 c) = ∑ r, val_main_v130 x0 x1 x2 x4 (ix3 0 r c) :=
  sum01 _ _ _ _ (fun _ => Ideal.ofBits_zero_f32) _

theorem v151_at : val_main_v151 x0 x1 x2 x4 (ix2 0 c) =
    ∑ N, Gate.sv (Gate.zuOf x0 N) (Gate.zvOf x0 N) (Gate.dsOf x1 N) (Gate.par x2) (Gate.mats x4) c := by
  pointwise [val_main_v151, v150_at, Gate.sv]
  rw [Gate.sum_row]
  simp only [v130_at]

end Cert.SguRefIdeal.Stage

end
-- ==== Proof.Sgu.Claim.lean ====
module

public import proofs.«01_k».proof.Defs
public import proofs.«01_k».proof.Proof.Sgu.Arrays
public import proofs.«01_k».proof.Proof.Sgu.Ref
public import proofs.«01_k».proof.Proof.Gen.Sgu.Frame
public import proofs.«01_k».proof.Proof.Gen.SguIdeal.Frame
public import proofs.«01_k».proof.Proof.Gen.SguRefIdeal.Run
public import Idealize.ShloMosaic.Adequacy
public import Idealize.ShloMosaic.Init

@[expose] public section

/-! The claims about the gating backward: the frames, and that the kernel's eight arrays are the reference's. -/

set_option maxRecDepth 16384

noncomputable section

namespace Cert.Proof.Sgu

open Cert Idealize.ShloMosaic Idealize.ShloMosaic.TcCoe Idealize.SL.Sem
open Cert.SguIdeal Cert.SguIdeal.Gen Cert.SguIdeal.Block Cert.SguRefIdeal.Read Cert.SguRefIdeal.Stage

/-- The kernel keeps its arguments and ends with every counter at zero. -/
theorem frame_p : Cert.quiescent_Sgu := fun m ρ _ => Cert.Sgu.Gen.frame m ρ

/-- So does its reading over the extended reals. -/
theorem frame_pi : Cert.quiescent_SguIdeal := fun m ρ _ => Cert.SguIdeal.Gen.frame m ρ

/-- The reference keeps its arguments; it has no counters. -/
theorem frame_ri : Cert.quiescent_SguRefIdeal := fun m ρ _ =>
  (θ_run Cert.SguRefIdeal.defs _ _).mono
    (fun r h => ⟨fun c => (h c).2.2.2.2.2.2.2.2, sem_eq_zero_of_no_sems (by decide) r.2⟩)
    (Cert.SguRefIdeal.Value.run (F := Ideal) m ρ)

variable (m : (ℓ : Loc nD τ sig) → Buf (Elt Ideal) ℓ) (c : Dev nD)

/-- The arguments as the program holds them. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- Two row arrays agree when they agree on every chunk's rows. -/
theorem ext_rows {x y : S4096x1024.Idx → EReal} (h : ∀ N i k, x (ix2 (Gate.row N i) k) = y (ix2 (Gate.row N i) k)) : x = y := by
  funext j
  obtain ⟨N, i, e⟩ := Gate.exists_row (j 0)
  have : j = ix2 (Gate.row N i) (j 1) := by rw [← e]; exact Shape.idx_ext₂ rfl rfl
  rw [this]
  exact h N i _

/-- Two one-row arrays agree when they agree at every column. -/
theorem ext_row {x y : S1x1024.Idx → EReal} (h : ∀ k, x (ix2 0 k) = y (ix2 0 k)) : x = y := by
  funext j
  have : j = ix2 0 (j 1) := Shape.idx_ext₂ (Fin.val_eq_zero (j 0)) rfl
  rw [this]
  exact h _

theorem out0 : (dats m 0 c).arrAt 7 cfg0.N = val_main_v143 (F := Ideal) (a0 m c) (a1 m c) (a2 m c) (a3 m c) (a4 m c) (a5 m c) :=
  ext_rows fun N i k => (arr7 m c N i k).trans (v143_at ..).symm

theorem out1 : (dats m 0 c).arrAt 8 cfg0.N = val_main_v145 (F := Ideal) (a0 m c) (a1 m c) (a2 m c) (a4 m c) :=
  ext_rows fun N i k => (arr8 m c N i k).trans (v145_at ..).symm

theorem out2 : (dats m 0 c).arrAt 9 cfg0.N = val_main_v146 (F := Ideal) (a0 m c) (a1 m c) (a4 m c) :=
  ext_row fun k => (arr9 m c k).trans (v146_at ..).symm

theorem out3 : (dats m 0 c).arrAt 10 cfg0.N = val_main_v147 (F := Ideal) (a0 m c) (a1 m c) (a4 m c) :=
  ext_row fun k => (arr10 m c k).trans (v147_at ..).symm

theorem out4 : (dats m 0 c).arrAt 11 cfg0.N = val_main_v83 (F := Ideal) (a0 m c) (a1 m c) (a2 m c) (a3 m c) := by
  funext (j : S8x128x128.Idx)
  have : j = ix3 (j 0) (j 1) (j 2) := by funext a; fin_cases a <;> rfl
  rw [this]
  exact (arr11 m c _ _ _).trans (v83_at ..).symm

theorem out5 : (dats m 0 c).arrAt 12 cfg0.N = val_main_v77 (F := Ideal) (a0 m c) (a1 m c) := by
  funext (j : S8x128.Idx)
  have : j = ix2 (j 0) (j 1) := Shape.idx_ext₂ rfl rfl
  rw [this]
  exact (arr12 m c _ _).trans (v77_at ..).symm

theorem out6 : (dats m 0 c).arrAt 13 cfg0.N = val_main_v149 (F := Ideal) (a0 m c) (a1 m c) (a2 m c) (a3 m c) (a4 m c) (a5 m c) :=
  ext_row fun k => (arr13 m c k).trans (v149_at ..).symm

theorem out7 : (dats m 0 c).arrAt 14 cfg0.N = val_main_v151 (F := Ideal) (a0 m c) (a1 m c) (a2 m c) (a4 m c) :=
  ext_row fun k => (arr14 m c k).trans (v151_at ..).symm

/-- From equal arguments the kernel's eight results over the extended reals are the reference's. -/
theorem algebraic : Cert.algebraic_SguIdeal_SguRefIdeal := by
  intro m ρ m' ρ' _ hagree
  refine ⟨_, _, _, _, _, _, _, _, Cert.SguIdeal.Value.run_blocks (F := Ideal) m ρ, ?_⟩
  refine (θ_run Cert.SguRefIdeal.defs _ _).mono (fun r h c => ?_) (Cert.SguRefIdeal.Value.run (F := Ideal) m' ρ')
  obtain ⟨h0, h1, h2, h3, h4, h5, h6, h7, hk⟩ := h c
  obtain ⟨e0, e1, e2, e3, e4, e5⟩ := hagree c
  refine ⟨?_, ?_, ?_, ?_, ?_, ?_, ?_, ?_, hk⟩
  · refine (h0.trans (val_main_v143_eq _)).trans (Eq.trans ?_ (out0 m c).symm)
    simp only [StableHlo.launchContents_devRef, e0, e1, e2, e3, e4, e5]
  · refine (h1.trans (val_main_v145_eq _)).trans (Eq.trans ?_ (out1 m c).symm)
    simp only [StableHlo.launchContents_devRef, e0, e1, e2, e4]
  · refine (h2.trans (val_main_v146_eq _)).trans (Eq.trans ?_ (out2 m c).symm)
    simp only [StableHlo.launchContents_devRef, e0, e1, e4]
  · refine (h3.trans (val_main_v147_eq _)).trans (Eq.trans ?_ (out3 m c).symm)
    simp only [StableHlo.launchContents_devRef, e0, e1, e4]
  · refine (h4.trans (val_main_v83_eq _)).trans (Eq.trans ?_ (out4 m c).symm)
    simp only [StableHlo.launchContents_devRef, e0, e1, e2, e3]
  · refine (h5.trans (val_main_v77_eq _)).trans (Eq.trans ?_ (out5 m c).symm)
    simp only [StableHlo.launchContents_devRef, e0, e1]
  · refine (h6.trans (val_main_v149_eq _)).trans (Eq.trans ?_ (out6 m c).symm)
    simp only [StableHlo.launchContents_devRef, e0, e1, e2, e3, e4, e5]
  · refine (h7.trans (val_main_v151_eq _)).trans (Eq.trans ?_ (out7 m c).symm)
    simp only [StableHlo.launchContents_devRef, e0, e1, e2, e4]

end Cert.Proof.Sgu

end
-- ==== Proof.Mm.Common.lean ====
module

public import Idealize.ShloMosaic.Lib.Pointwise
public import Idealize.ShloMosaic.Lib.Tactic
public import Idealize.ShloMosaic.Lib.Pointwise

@[expose] public section

/-! What the products share: zero offsets of a whole block, and a sum carried over the points of a run. -/

namespace Cert.Mm

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A sum carried from point to point and started anew every `J` points: after point `J q + s` it is the sum of the parts of the
points `J q` to `J q + s`. -/
theorem carried {N : ℕ} (J q : ℕ) (a : (n : ℕ) → n < N → EReal) (p : Fin N → EReal)
    (h0 : ∀ (n : ℕ) (h : n < N), n % J = 0 → a n h = p ⟨n, h⟩)
    (hs : ∀ (n : ℕ) (h : n + 1 < N), ¬(n + 1) % J = 0 → a (n + 1) h = a n (by omega) + p ⟨n + 1, h⟩) :
    ∀ (s : ℕ) (_ : s < J) (h : J * q + s < N), a (J * q + s) h = ∑ k : Fin (s + 1), p ⟨J * q + k.val, by have := k.isLt; omega⟩
  | 0, _, h => by
    rw [Fin.sum_univ_one]
    exact h0 _ h (Nat.mul_mod_right J q)
  | s + 1, hJ, h => by
    rw [Fin.sum_univ_castSucc]
    refine (hs (J * q + s) h ?_).trans (congrArg (· + _) (carried J q a p h0 hs s (by omega) (by omega)))
    rw [show J * q + s + 1 = s + 1 + J * q by omega, Nat.add_mul_mod_self_left, Nat.mod_eq_of_lt hJ]
    omega

/-- The sum after the last point of a run. -/
theorem carried_last {N : ℕ} (J : ℕ) (hJ : 0 < J) (a : (n : ℕ) → n < N → EReal) (p : Fin N → EReal)
    (h0 : ∀ (n : ℕ) (h : n < N), n % J = 0 → a n h = p ⟨n, h⟩)
    (hs : ∀ (n : ℕ) (h : n + 1 < N), ¬(n + 1) % J = 0 → a (n + 1) h = a n (by omega) + p ⟨n + 1, h⟩)
    (q : ℕ) (h : J * q + (J - 1) < N) : a (J * q + (J - 1)) h = ∑ k : Fin J, p ⟨J * q + k.val, by have := k.isLt; omega⟩ := by
  obtain ⟨s, rfl⟩ : ∃ s, J = s + 1 := ⟨J - 1, by omega⟩
  exact carried (s + 1) q a p h0 hs s (by omega) h

/-- A sum over `n` terms that comes in `J` tiles of `B`, one tile a point. -/
theorem carried_tiles {N n : ℕ} (J B : ℕ) (hn : J * B = n) (hJ : 0 < J) (a : (k : ℕ) → k < N → EReal) (g : Fin N → Fin B → EReal)
    (h0 : ∀ (k : ℕ) (h : k < N), k % J = 0 → a k h = ∑ s, g ⟨k, h⟩ s)
    (hs : ∀ (k : ℕ) (h : k + 1 < N), ¬(k + 1) % J = 0 → a (k + 1) h = a k (by omega) + ∑ s, g ⟨k + 1, h⟩ s)
    (q : ℕ) (h : J * q + (J - 1) < N) (f : Fin n → EReal)
    (hf : ∀ (k : Fin J) (s : Fin B) (hk : J * q + k.val < N) (hb : k.val * B + s.val < n),
      g ⟨J * q + k.val, hk⟩ s = f ⟨k.val * B + s.val, hb⟩) :
    a (J * q + (J - 1)) h = ∑ k, f k := by
  rw [carried_last J hJ a (fun t => ∑ s, g t s) h0 hs q h, Fin.sum_univ_tiles J B hn]
  exact Finset.sum_congr rfl fun k _ => Finset.sum_congr rfl fun s _ => hf k s _ _

end Cert.Mm
-- ==== Proof.Mm.BranchG.lean ====
module

public import proofs.«01_k».proof.Defs
public import proofs.«01_k».proof.Proof.Mm.Common
public import proofs.«01_k».proof.Proof.Gen.BranchG.Frame
public import proofs.«01_k».proof.Proof.Gen.BranchGIdeal.Value
public import proofs.«01_k».proof.Proof.Gen.BranchGRefIdeal.Run
public import proofs.«01_k».proof.Proof.Gen.BranchGRefIdeal.Read
public import Idealize.ShloMosaic.Lib.Pipeline.ReadBack
public import Idealize.ShloMosaic.Adequacy
public import Idealize.ShloMosaic.Init

@[expose] public section

/-! The branch's weight gradient: the transposed activations times the cotangent. The 4096 rows come in four tiles, whose
products a scratch buffer adds up. -/

set_option maxRecDepth 16384

noncomputable section

namespace Cert.Proof.BranchG

open Cert Cert.Mm Idealize.ShloMosaic Idealize.ShloMosaic.TcCoe Idealize.SL.Sem
open Cert.BranchGIdeal Cert.BranchGIdeal.Gen Cert.BranchGRefIdeal.Read

/-- The kernel keeps its arguments and ends with every counter at zero. -/
theorem frame_p : Cert.quiescent_BranchG := fun m ρ _ => Cert.BranchG.Gen.frame m ρ

/-- So does its reading over the extended reals. -/
theorem frame_pi : Cert.quiescent_BranchGIdeal := fun m ρ _ => Cert.BranchGIdeal.Gen.frame m ρ

/-- The reference keeps its arguments; it has no counters. -/
theorem frame_ri : Cert.quiescent_BranchGRefIdeal := fun m ρ _ =>
  (θ_run Cert.BranchGRefIdeal.defs _ _).mono
    (fun r h => ⟨fun c => (h c).2, sem_eq_zero_of_no_sems (by decide) r.2⟩)
    (Cert.BranchGRefIdeal.Value.run (F := Ideal) m ρ)

variable (m : (ℓ : Loc nD τ sig) → Buf (Elt Ideal) ℓ) (c : Dev nD)

/-- The two blocks a point reads: rows of the activations, the same rows of the cotangent. -/
abbrev b0 (t : Fin cfg0.N) : Vec Ideal S1024x1024 .bf16 := iblk m c 0 t
abbrev b1 (t : Fin cfg0.N) : Vec Ideal S1024x1024 .bf16 := iblk m c 1 t

/-- At the first tile the scratch is started with the tile's product. -/
theorem first (t : Fin cfg0.N) (h : t.val % 4 = 0) :
    (outsAt0 m c t.val t.isLt).2 = k0_pay2 (b1 m c t) (b0 m c t) := by
  have hN : cfg0.N = 4 := N_0
  rw [outsAt0_A m c t h (by omega) (by omega)]
  dsimp only
  refine (View.read_writes_eq_canon _ _ _ (fun y => scover0_A_0 (F := Ideal) (y := y) ..)).trans ?_
  unfold kernelRun0_A
  dsimp only
  sl_unfold_words
  rw [View.canon_unit_zero hz2]
  simp only [View.readAt_eq_ld, Memref.IsWhole.read_unread, read_unread_whole, View.ld_unit_zero (S := S1024x1024) hz2]

/-- At a later tile the tile's product is added. -/
theorem later (t : Fin cfg0.N) (h : ¬t.val % 4 = 0) :
    (outsAt0 m c t.val t.isLt).2 = k0_pay3 (b1 m c t) (b0 m c t) (outsAt0 m c (t.val - 1) (by omega)).2 := by
  have hN : cfg0.N = 4 := N_0
  by_cases h3 : t.val % 4 = 3
  · rw [outsAt0_C m c t h (by omega) h3]
    dsimp only
    refine (View.read_writes_eq_canon _ _ _ (fun y => scover0_C_0 (F := Ideal) (y := y) ..)).trans ?_
    unfold kernelRun0_C
    dsimp only
    sl_unfold_words
    rw [View.canon_unit_zero hz2]
    simp only [View.readAt_eq_ld, Memref.IsWhole.read_unread, read_unread_whole, View.ld_unit_zero (S := S1024x1024) hz2]
  · rw [outsAt0_B m c t h (by omega) h3]
    dsimp only
    refine (View.read_writes_eq_canon _ _ _ (fun y => scover0_B_0 (F := Ideal) (y := y) ..)).trans ?_
    unfold kernelRun0_B
    dsimp only
    sl_unfold_words
    rw [View.canon_unit_zero hz2]
    simp only [View.readAt_eq_ld, Memref.IsWhole.read_unread, read_unread_whole, View.ld_unit_zero (S := S1024x1024) hz2]

/-- At the last tile the result's block is what the scratch then holds. -/
theorem last (t : Fin cfg0.N) (h : t.val % 4 = 3) :
    (outsAt0 m c t.val t.isLt).1 = (outsAt0 m c t.val t.isLt).2 := by
  have hN : cfg0.N = 4 := N_0
  rw [later m c t (by omega)]
  rw [outsAt0_C m c t (by omega) (by omega) h]
  dsimp only
  refine (View.read_writes_eq_canon _ _ _ (fun y => cover0_C_2 (F := Ideal) (y := y) ..)).trans ?_
  unfold kernelRun0_C
  dsimp only
  sl_unfold_words
  rw [View.canon_unit_zero hz2]
  simp only [View.readAt_eq_ld, Memref.IsWhole.read_unread, read_unread_whole, View.ld_unit_zero (S := S1024x1024) hz2,
    View.readCov_cons_toLoadRect]

/-- One tile's product at one place: over the tile's rows. -/
theorem tile_at (x0 x1 : Vec Ideal S1024x1024 .bf16) (i j : Fin 1024) :
    k0_pay2 (F := Ideal) x1 x0 (ix2 i j) = ∑ s : Fin 1024, x0 (ix2 s i) * x1 (ix2 s j) := by
  pointwise [k0_pay2, k0_pay1]

theorem more_at (x0 x1 : Vec Ideal S1024x1024 .bf16) (a : Vec Ideal S1024x1024 .f32) (i j : Fin 1024) :
    k0_pay3 (F := Ideal) x1 x0 a (ix2 i j) = a (ix2 i j) + ∑ s : Fin 1024, x0 (ix2 s i) * x1 (ix2 s j) := by
  pointwise [k0_pay3, k0_pay1]

/-- The result at one place: a column of the activations against a column of the cotangent. -/
def entry (x0 x1 : Vec Ideal S4096x1024 .bf16) (i j : Fin 1024) : EReal := ∑ s : Fin 4096, x0 (ix2 s i) * x1 (ix2 s j)

/-- The reference's result at one place. -/
theorem ref_at (x0 x1 : Vec Ideal S4096x1024 .bf16) (i j : Fin 1024) : val_main_v5 (F := Ideal) x0 x1 (ix2 i j) = entry x0 x1 i j := by
  unfold entry
  pointwise [val_main_v5, val_main_v4, val_main_v3, val_main_v1]
  exact Finset.sum_congr rfl fun s _ => mul_comm _ _

/-- The windows' block indices. -/
theorem index : ∀ t : Fin cfg0.N, (win0_0.index t 0 = t.val ∧ win0_0.index t 1 = 0) ∧
    (win0_1.index t 0 = t.val ∧ win0_1.index t 1 = 0) ∧ (win0_2.index t 0 = 0 ∧ win0_2.index t 1 = 0) :=
  (by decide +kernel : ∀ t : Fin grid0.N, (win0_0.index t 0 = t.val ∧ win0_0.index t 1 = 0) ∧
    (win0_1.index t 0 = t.val ∧ win0_1.index t 1 = 0) ∧ (win0_2.index t 0 = 0 ∧ win0_2.index t 1 = 0))

/-- Row `s` of the array, for row `s` of point `t`'s tile. -/
def row (t : Fin cfg0.N) (s : Fin 1024) : Fin 4096 := ⟨1024 * t.val + s.val, by have : cfg0.N = 4 := N_0; omega⟩

theorem b0_at (t : Fin cfg0.N) (s k : Fin 1024) : b0 m c t (ix2 s k) = m ((c : Thread nD τ).loc main_arg0) (ix2 (row t s) k) := by
  refine congrArg (m ((c : Thread nD τ).loc main_arg0)) (Shape.idx_ext₂ ?_ ?_)
  · show win0_0.index t 0 * 1024 + 1 * s.val = 1024 * t.val + s.val
    rw [(index t).1.1]; omega
  · show win0_0.index t 1 * 1024 + 1 * k.val = k.val
    rw [(index t).1.2]; omega

theorem b1_at (t : Fin cfg0.N) (s k : Fin 1024) : b1 m c t (ix2 s k) = m ((c : Thread nD τ).loc main_arg1) (ix2 (row t s) k) := by
  refine congrArg (m ((c : Thread nD τ).loc main_arg1)) (Shape.idx_ext₂ ?_ ?_)
  · show win0_1.index t 0 * 1024 + 1 * s.val = 1024 * t.val + s.val
    rw [(index t).2.1.1]; omega
  · show win0_1.index t 1 * 1024 + 1 * k.val = k.val
    rw [(index t).2.1.2]; omega

/-- The scratch after the last tile: the sum over all the rows. -/
theorem scratch (i j : Fin 1024) (h : 4 * 0 + (4 - 1) < cfg0.N) : (outsAt0 m c (4 * 0 + (4 - 1)) h).2 (ix2 i j) =
    entry (m ((c : Thread nD τ).loc main_arg0)) (m ((c : Thread nD τ).loc main_arg1)) i j := by
  refine carried_tiles 4 1024 rfl (by decide) (fun n h => (outsAt0 m c n h).2 (ix2 i j))
    (fun t s => b0 m c t (ix2 s i) * b1 m c t (ix2 s j))
    (fun n h h0 => (congrFun (first m c ⟨n, h⟩ h0) _).trans (tile_at ..))
    (fun n h h0 => (congrFun (later m c ⟨n + 1, h⟩ h0) _).trans (more_at ..)) 0 h _ fun k s hk hb => ?_
  have e : row ⟨4 * 0 + k.val, hk⟩ s = ⟨k.val * 1024 + s.val, hb⟩ :=
    Fin.ext (by show 1024 * (4 * 0 + k.val) + s.val = k.val * 1024 + s.val; omega)
  rw [b0_at, b1_at, e]

/-- The kernel's array at one place. -/
theorem arr_at (i j : Fin 1024) : (dats m 0 c).arrAt 2 cfg0.N (ix2 i j) =
    entry (m ((c : Thread nD τ).loc main_arg0)) (m ((c : Thread nD τ).loc main_arg1)) i j := by
  have hN : 3 < cfg0.N := by rw [show cfg0.N = 4 from N_0]; decide
  have e : ((cfg0.win 2).blk ⟨3, hN⟩).view.emb (ix2 i j) = (ix2 i j : S1024x1024.Idx) := by
    refine Shape.idx_ext₂ ?_ ?_
    · show win0_2.index _ 0 * 1024 + 1 * i.val = i.val
      rw [(index _).2.2.1]; omega
    · show win0_2.index _ 1 * 1024 + 1 * j.val = j.val
      rw [(index _).2.2.2]; omega
  rw [Value.final2, ← e]
  refine (congrFun (Value.flushed2_eq m c ⟨3, hN⟩ ((flush0_2 _).mpr rfl)) (ix2 i j)).symm.trans ?_
  rw [Value.flushed2, last m c ⟨3, hN⟩ rfl]
  exact scratch m c i j _

/-- The kernel's array is the reference's. -/
theorem out : (dats m 0 c).arrAt 2 cfg0.N =
    val_main_v5 (F := Ideal) (m ((c : Thread nD τ).loc main_arg0)) (m ((c : Thread nD τ).loc main_arg1)) := by
  funext (j : S1024x1024.Idx)
  rw [show j = ix2 (j 0) (j 1) from Shape.idx_ext₂ rfl rfl]
  exact (arr_at m c _ _).trans (ref_at ..).symm

/-- From equal arguments the kernel's result over the extended reals is the reference's. -/
theorem algebraic : Cert.algebraic_BranchGIdeal_BranchGRefIdeal := by
  intro m ρ m' ρ' _ hagree
  refine ⟨_, Cert.BranchGIdeal.Value.run_blocks (F := Ideal) m ρ, ?_⟩
  refine (θ_run Cert.BranchGRefIdeal.defs _ _).mono (fun r h c => ?_) (Cert.BranchGRefIdeal.Value.run (F := Ideal) m' ρ')
  obtain ⟨h0, hk⟩ := h c
  obtain ⟨e0, e1⟩ := hagree c
  refine ⟨(h0.trans (val_main_v5_eq _ _)).trans (Eq.trans ?_ (out m c).symm), hk⟩
  simp only [e0, e1]

end Cert.Proof.BranchG

end
-- ==== Proof.Mm.BranchB.lean ====
module

public import proofs.«01_k».proof.Defs
public import proofs.«01_k».proof.Proof.Mm.Common
public import proofs.«01_k».proof.Proof.Gen.BranchB.Frame
public import proofs.«01_k».proof.Proof.Gen.BranchBIdeal.Value
public import proofs.«01_k».proof.Proof.Gen.BranchBRefIdeal.Run
public import proofs.«01_k».proof.Proof.Gen.BranchBRefIdeal.Read
public import Idealize.ShloMosaic.Lib.Pointwise
public import Idealize.ShloMosaic.Lib.Tactic
public import Idealize.ShloMosaic.Adequacy
public import Idealize.ShloMosaic.Init

@[expose] public section

/-! The branch's input gradient: the cotangent times the transposed weight. Each grid point takes 1024 rows of the cotangent
and the whole weight, so a row of the result is computed once and nothing is carried. -/

set_option maxRecDepth 16384

noncomputable section

namespace Cert.Proof.BranchB

open Cert Cert.Mm Idealize.ShloMosaic Idealize.ShloMosaic.TcCoe Idealize.SL.Sem
open Cert.BranchBIdeal Cert.BranchBIdeal.Gen Cert.BranchBRefIdeal.Read

/-- The kernel keeps its arguments and ends with every counter at zero. -/
theorem frame_p : Cert.quiescent_BranchB := fun m ρ _ => Cert.BranchB.Gen.frame m ρ

/-- So does its reading over the extended reals. -/
theorem frame_pi : Cert.quiescent_BranchBIdeal := fun m ρ _ => Cert.BranchBIdeal.Gen.frame m ρ

/-- The reference keeps its arguments; it has no counters. -/
theorem frame_ri : Cert.quiescent_BranchBRefIdeal := fun m ρ _ =>
  (θ_run Cert.BranchBRefIdeal.defs _ _).mono
    (fun r h => ⟨fun c => (h c).2, sem_eq_zero_of_no_sems (by decide) r.2⟩)
    (Cert.BranchBRefIdeal.Value.run (F := Ideal) m ρ)

/-- The four shards of the weight, their rows one above the other. -/
def rows (x : Vec Ideal S4x1x256x1024 .bf16) : FVec Ideal S1024x1024 .bf16 :=
  shapeCast S1024x1024 (shapeCast S4x256x1024 x shapeCasts_S4x1x256x1024_S4x256x1024) shapeCasts_S4x256x1024_S1024x1024

/-- One block of the result: each row of the cotangent's block against each row of the weight. -/
theorem block_at (x0 : Vec Ideal S1024x1024 .bf16) (x1 : Vec Ideal S4x1x256x1024 .bf16) (i j : Fin 1024) :
    out0_2 (F := Ideal) x0 x1 (ix2 i j) = ∑ k : Fin 1024, x0 (ix2 i k) * rows x1 (ix2 j k) := by
  unfold out0_2
  rw [View.canon_unit_zero hz2, View.ld_unit_zero (S := S1024x1024) hz2, View.ld_unit_zero (S := S4x1x256x1024) hz4]
  show k0_pay1 (F := Ideal) x1 x0 (ix2 i j) = _
  have e : k0_pay1 (F := Ideal) x1 x0 = truncf .bf16 (matmul dot_S1024x1024_S1024x1024_S1024x1024_1_1_0_0_n_n none x0 (rows x1)
    (constant S1024x1024 .f32 0x00000000#32)) bitsLt_bf16_f32 := rfl
  rw [e]
  generalize rows x1 = w
  pointwise []

/-- The result at one place: a row of the cotangent against a row of the weight. -/
def entry (x0 : Vec Ideal S4096x1024 .bf16) (x1 : Vec Ideal S4x1x256x1024 .bf16) (i : Fin 4096) (j : Fin 1024) : EReal :=
  ∑ k : Fin 1024, x0 (ix2 i k) * rows x1 (ix2 j k)

/-- The reference lays the shards out in the same rows. -/
theorem ref_rows (x1 : Vec Ideal S4x1x256x1024 .bf16) : val_main_v0 (F := Ideal) x1 = rows x1 := by
  unfold rows val_main_v0
  exact (shapeCast_comp x1 _ _).symm

/-- The reference's result at one place. -/
theorem ref_at (x0 : Vec Ideal S4096x1024 .bf16) (x1 : Vec Ideal S4x1x256x1024 .bf16) (i : Fin 4096) (j : Fin 1024) :
    val_main_v6 (F := Ideal) x0 x1 (ix2 i j) = entry x0 x1 i j := by
  unfold entry val_main_v6 val_main_v5 val_main_v4 val_main_v1
  rw [ref_rows]
  generalize rows x1 = w
  pointwise []

variable (m : (ℓ : Loc nD τ sig) → Buf (Elt Ideal) ℓ) (c : Dev nD)

/-- The windows' block indices. -/
theorem index : ∀ t : Fin cfg0.N, (win0_0.index t 0 = t.val ∧ win0_0.index t 1 = 0) ∧ (∀ a, win0_1.index t a = 0) ∧
    (win0_2.index t 0 = t.val ∧ win0_2.index t 1 = 0) :=
  (by decide +kernel : ∀ t : Fin grid0.N, (win0_0.index t 0 = t.val ∧ win0_0.index t 1 = 0) ∧ (∀ a, win0_1.index t a = 0) ∧
    (win0_2.index t 0 = t.val ∧ win0_2.index t 1 = 0))

/-- Row `i` of the array, for row `i` of point `t`'s block. -/
def row (t : Fin cfg0.N) (i : Fin 1024) : Fin 4096 := ⟨1024 * t.val + i.val, by have : cfg0.N = 4 := N_0; omega⟩

theorem rows_at (t : Fin cfg0.N) (i k : Fin 1024) :
    iblk m c 0 t (ix2 i k) = m ((c : Thread nD τ).loc main_arg0) (ix2 (row t i) k) := by
  refine congrArg (m ((c : Thread nD τ).loc main_arg0)) (Shape.idx_ext₂ ?_ ?_)
  · show win0_0.index t 0 * 1024 + 1 * i.val = 1024 * t.val + i.val
    rw [(index t).1.1]; omega
  · show win0_0.index t 1 * 1024 + 1 * k.val = k.val
    rw [(index t).1.2]; omega

theorem weight (t : Fin cfg0.N) : iblk m c 1 t = m ((c : Thread nD τ).loc main_arg1) := by
  funext y
  refine congrArg (m ((c : Thread nD τ).loc main_arg1)) (funext fun a => Fin.ext ?_)
  show win0_1.index t a * _ + 1 * (y a).val = (y a).val
  rw [(index t).2.1 a]; omega

/-- The kernel's array at one place. -/
theorem arr_at (t : Fin cfg0.N) (i j : Fin 1024) : (dats m 0 c).arrAt 2 cfg0.N (ix2 (row t i) j) =
    entry (m ((c : Thread nD τ).loc main_arg0)) (m ((c : Thread nD τ).loc main_arg1)) (row t i) j := by
  have e : ((cfg0.win 2).blk t).view.emb (ix2 i j) = (ix2 (row t i) j : S4096x1024.Idx) := by
    refine Shape.idx_ext₂ ?_ ?_
    · show win0_2.index t 0 * 1024 + 1 * i.val = 1024 * t.val + i.val
      rw [(index t).2.2.1]; omega
    · show win0_2.index t 1 * 1024 + 1 * j.val = j.val
      rw [(index t).2.2.2]; omega
  rw [← e]
  refine (congrFun (Value.blocks2 m c t (flush0_2 t)) (ix2 i j)).trans ?_
  rw [Value.flushed2]
  refine (block_at _ _ i j).trans (Finset.sum_congr rfl fun k _ => ?_)
  rw [rows_at, weight]

/-- The kernel's array is the reference's. -/
theorem out : (dats m 0 c).arrAt 2 cfg0.N =
    val_main_v6 (F := Ideal) (m ((c : Thread nD τ).loc main_arg0)) (m ((c : Thread nD τ).loc main_arg1)) := by
  funext (j : S4096x1024.Idx)
  have hN : cfg0.N = 4 := N_0
  have hj : (j 0).val < 4096 := (j 0).isLt
  have : j = ix2 (row ⟨(j 0).val / 1024, by omega⟩ ⟨(j 0).val % 1024, by omega⟩) (j 1) :=
    Shape.idx_ext₂ (by show (j 0).val = 1024 * ((j 0).val / 1024) + (j 0).val % 1024; omega) rfl
  rw [this]
  exact (arr_at m c _ _ _).trans (ref_at ..).symm

/-- From equal arguments the kernel's result over the extended reals is the reference's. -/
theorem algebraic : Cert.algebraic_BranchBIdeal_BranchBRefIdeal := by
  intro m ρ m' ρ' _ hagree
  refine ⟨_, Cert.BranchBIdeal.Value.run_blocks (F := Ideal) m ρ, ?_⟩
  refine (θ_run Cert.BranchBRefIdeal.defs _ _).mono (fun r h c => ?_) (Cert.BranchBRefIdeal.Value.run (F := Ideal) m' ρ')
  obtain ⟨h0, hk⟩ := h c
  obtain ⟨e0, e1⟩ := hagree c
  refine ⟨(h0.trans (val_main_v6_eq _ _)).trans (Eq.trans ?_ (out m c).symm), hk⟩
  simp only [e0, e1]

end Cert.Proof.BranchB

end
-- ==== Proof.Mm.FfnOutG.lean ====
module

public import proofs.«01_k».proof.Defs
public import proofs.«01_k».proof.Proof.Mm.Common
public import proofs.«01_k».proof.Proof.Gen.FfnOutG.Frame
public import proofs.«01_k».proof.Proof.Gen.FfnOutGIdeal.Value
public import proofs.«01_k».proof.Proof.Gen.FfnOutGRefIdeal.Run
public import proofs.«01_k».proof.Proof.Gen.FfnOutGRefIdeal.Read
public import Idealize.ShloMosaic.Lib.Pipeline.ReadBack
public import Idealize.ShloMosaic.Adequacy
public import Idealize.ShloMosaic.Init

@[expose] public section

/-! The weight gradient of the feed-forward's second product: the transposed activations times the cotangent. The result's 2816
rows are made in two halves; for each, the 4096 rows come in four tiles, whose products a scratch buffer adds up. -/

set_option maxRecDepth 16384

noncomputable section

namespace Cert.Proof.FfnOutG

open Cert Cert.Mm Idealize.ShloMosaic Idealize.ShloMosaic.TcCoe Idealize.SL.Sem
open Cert.FfnOutGIdeal Cert.FfnOutGIdeal.Gen Cert.FfnOutGRefIdeal.Read

/-- The kernel keeps its arguments and ends with every counter at zero. -/
theorem frame_p : Cert.quiescent_FfnOutG := fun m ρ _ => Cert.FfnOutG.Gen.frame m ρ

/-- So does its reading over the extended reals. -/
theorem frame_pi : Cert.quiescent_FfnOutGIdeal := fun m ρ _ => Cert.FfnOutGIdeal.Gen.frame m ρ

/-- The reference keeps its arguments; it has no counters. -/
theorem frame_ri : Cert.quiescent_FfnOutGRefIdeal := fun m ρ _ =>
  (θ_run Cert.FfnOutGRefIdeal.defs _ _).mono
    (fun r h => ⟨fun c => (h c).2, sem_eq_zero_of_no_sems (by decide) r.2⟩)
    (Cert.FfnOutGRefIdeal.Value.run (F := Ideal) m ρ)

variable (m : (ℓ : Loc nD τ sig) → Buf (Elt Ideal) ℓ) (c : Dev nD)

/-- The two blocks a point reads: rows of the activations, the same rows of the cotangent. -/
abbrev b0 (t : Fin cfg0.N) : Vec Ideal S1024x1408 .bf16 := iblk m c 0 t
abbrev b1 (t : Fin cfg0.N) : Vec Ideal S1024x1024 .bf16 := iblk m c 1 t

/-- At the first tile the scratch is started with the tile's product. -/
theorem first (t : Fin cfg0.N) (h : t.val % 4 = 0) :
    (outsAt0 m c t.val t.isLt).2 = k0_pay2 (b1 m c t) (b0 m c t) := by
  have hN : cfg0.N = 8 := N_0
  rw [outsAt0_A m c t h (by omega) (by omega)]
  dsimp only
  refine (View.read_writes_eq_canon _ _ _ (fun y => scover0_A_0 (F := Ideal) (y := y) ..)).trans ?_
  unfold kernelRun0_A
  dsimp only
  sl_unfold_words
  rw [View.canon_unit_zero hz2]
  simp only [View.readAt_eq_ld, Memref.IsWhole.read_unread, read_unread_whole, View.ld_unit_zero (S := S1024x1024) hz2,
    View.ld_unit_zero (S := S1024x1408) hz2, View.ld_unit_zero (S := S1408x1024) hz2]

/-- At a later tile the tile's product is added. -/
theorem later (t : Fin cfg0.N) (h : ¬t.val % 4 = 0) :
    (outsAt0 m c t.val t.isLt).2 = k0_pay3 (b1 m c t) (b0 m c t) (outsAt0 m c (t.val - 1) (by omega)).2 := by
  have hN : cfg0.N = 8 := N_0
  by_cases h3 : t.val % 4 = 3
  · rw [outsAt0_C m c t h (by omega) h3]
    dsimp only
    refine (View.read_writes_eq_canon _ _ _ (fun y => scover0_C_0 (F := Ideal) (y := y) ..)).trans ?_
    unfold kernelRun0_C
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2, View.ld_unit_zero (S := S1408x1024) hz2]
  · rw [outsAt0_B m c t h (by omega) h3]
    dsimp only
    refine (View.read_writes_eq_canon _ _ _ (fun y => scover0_B_0 (F := Ideal) (y := y) ..)).trans ?_
    unfold kernelRun0_B
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2, View.ld_unit_zero (S := S1408x1024) hz2]

/-- At the last tile the result's block is what the scratch then holds. -/
theorem last (t : Fin cfg0.N) (h : t.val % 4 = 3) :
    (outsAt0 m c t.val t.isLt).1 = (outsAt0 m c t.val t.isLt).2 := by
  have hN : cfg0.N = 8 := N_0
  rw [later m c t (by omega)]
  rw [outsAt0_C m c t (by omega) (by omega) h]
  dsimp only
  refine (View.read_writes_eq_canon _ _ _ (fun y => cover0_C_2 (F := Ideal) (y := y) ..)).trans ?_
  unfold kernelRun0_C
  dsimp only
  sl_unfold_words
  rw [View.canon_unit_zero hz2]
  simp only [View.readAt_eq_ld, Memref.IsWhole.read_unread, read_unread_whole, View.ld_unit_zero (S := S1024x1024) hz2,
    View.ld_unit_zero (S := S1024x1408) hz2, View.ld_unit_zero (S := S1408x1024) hz2,
    View.readCov_cons_toLoadRect]

/-- One tile's product at one place: over the tile's rows. -/
theorem tile_at (x0 : Vec Ideal S1024x1408 .bf16) (x1 : Vec Ideal S1024x1024 .bf16) (i : Fin 1408) (j : Fin 1024) :
    k0_pay2 (F := Ideal) x1 x0 (ix2 i j) = ∑ s : Fin 1024, x0 (ix2 s i) * x1 (ix2 s j) := by
  pointwise [k0_pay2, k0_pay1]

theorem more_at (x0 : Vec Ideal S1024x1408 .bf16) (x1 : Vec Ideal S1024x1024 .bf16) (a : Vec Ideal S1408x1024 .f32) (i : Fin 1408)
    (j : Fin 1024) : k0_pay3 (F := Ideal) x1 x0 a (ix2 i j) = a (ix2 i j) + ∑ s : Fin 1024, x0 (ix2 s i) * x1 (ix2 s j) := by
  pointwise [k0_pay3, k0_pay1]

/-- The result at one place: a column of the activations against a column of the cotangent. -/
def entry (x0 : Vec Ideal S4096x2816 .bf16) (x1 : Vec Ideal S4096x1024 .bf16) (i : Fin 2816) (j : Fin 1024) : EReal :=
  ∑ s : Fin 4096, x0 (ix2 s i) * x1 (ix2 s j)

/-- The reference's result at one place. -/
theorem ref_at (x0 : Vec Ideal S4096x2816 .bf16) (x1 : Vec Ideal S4096x1024 .bf16) (i : Fin 2816) (j : Fin 1024) :
    val_main_v5 (F := Ideal) x0 x1 (ix2 i j) = entry x0 x1 i j := by
  unfold entry
  pointwise [val_main_v5, val_main_v4, val_main_v3, val_main_v1]
  exact Finset.sum_congr rfl fun s _ => mul_comm _ _

/-- The windows' block indices. -/
theorem index : ∀ t : Fin cfg0.N, (win0_0.index t 0 = t.val % 4 ∧ win0_0.index t 1 = t.val / 4) ∧
    (win0_1.index t 0 = t.val % 4 ∧ win0_1.index t 1 = 0) ∧ (win0_2.index t 0 = t.val / 4 ∧ win0_2.index t 1 = 0) :=
  (by decide +kernel : ∀ t : Fin grid0.N, (win0_0.index t 0 = t.val % 4 ∧ win0_0.index t 1 = t.val / 4) ∧
    (win0_1.index t 0 = t.val % 4 ∧ win0_1.index t 1 = 0) ∧ (win0_2.index t 0 = t.val / 4 ∧ win0_2.index t 1 = 0))

/-- Row `s` of the arguments, for row `s` of point `t`'s tile. -/
def row (t : Fin cfg0.N) (s : Fin 1024) : Fin 4096 := ⟨1024 * (t.val % 4) + s.val, by omega⟩

/-- Row `i` of the result, for row `i` of the half that point `t` works on. -/
def half (t : Fin cfg0.N) (i : Fin 1408) : Fin 2816 := ⟨1408 * (t.val / 4) + i.val, by have : cfg0.N = 8 := N_0; omega⟩

theorem b0_at (t : Fin cfg0.N) (s : Fin 1024) (i : Fin 1408) :
    b0 m c t (ix2 s i) = m ((c : Thread nD τ).loc main_arg0) (ix2 (row t s) (half t i)) := by
  refine congrArg (m ((c : Thread nD τ).loc main_arg0)) (Shape.idx_ext₂ ?_ ?_)
  · show win0_0.index t 0 * 1024 + 1 * s.val = 1024 * (t.val % 4) + s.val
    rw [(index t).1.1]; omega
  · show win0_0.index t 1 * 1408 + 1 * i.val = 1408 * (t.val / 4) + i.val
    rw [(index t).1.2]; omega

theorem b1_at (t : Fin cfg0.N) (s k : Fin 1024) : b1 m c t (ix2 s k) = m ((c : Thread nD τ).loc main_arg1) (ix2 (row t s) k) := by
  refine congrArg (m ((c : Thread nD τ).loc main_arg1)) (Shape.idx_ext₂ ?_ ?_)
  · show win0_1.index t 0 * 1024 + 1 * s.val = 1024 * (t.val % 4) + s.val
    rw [(index t).2.1.1]; omega
  · show win0_1.index t 1 * 1024 + 1 * k.val = k.val
    rw [(index t).2.1.2]; omega

/-- The scratch after the last tile of a half: the sum over all the rows. -/
theorem scratch (q : ℕ) (h : 4 * q + (4 - 1) < cfg0.N) (i : Fin 1408) (j : Fin 1024) :
    (outsAt0 m c (4 * q + (4 - 1)) h).2 (ix2 i j) =
      entry (m ((c : Thread nD τ).loc main_arg0)) (m ((c : Thread nD τ).loc main_arg1)) (half ⟨4 * q + (4 - 1), h⟩ i) j := by
  refine carried_tiles 4 1024 rfl (by decide) (fun n h => (outsAt0 m c n h).2 (ix2 i j))
    (fun t s => b0 m c t (ix2 s i) * b1 m c t (ix2 s j))
    (fun n h h0 => (congrFun (first m c ⟨n, h⟩ h0) _).trans (tile_at ..))
    (fun n h h0 => (congrFun (later m c ⟨n + 1, h⟩ h0) _).trans (more_at ..)) q h _ fun k s hk hb => ?_
  have e : row ⟨4 * q + k.val, hk⟩ s = ⟨k.val * 1024 + s.val, hb⟩ :=
    Fin.ext (by show 1024 * ((4 * q + k.val) % 4) + s.val = k.val * 1024 + s.val; omega)
  have e' : half ⟨4 * q + k.val, hk⟩ i = half ⟨4 * q + (4 - 1), h⟩ i :=
    Fin.ext (by show 1408 * ((4 * q + k.val) / 4) + i.val = 1408 * ((4 * q + (4 - 1)) / 4) + i.val; omega)
  rw [b0_at, b1_at, e, e']

/-- The kernel's array at one place of the half that point `t` finishes. -/
theorem arr_at (t : Fin cfg0.N) (ht : t.val % 4 = 3) (i : Fin 1408) (j : Fin 1024) :
    (dats m 0 c).arrAt 2 cfg0.N (ix2 (half t i) j) =
      entry (m ((c : Thread nD τ).loc main_arg0)) (m ((c : Thread nD τ).loc main_arg1)) (half t i) j := by
  have e : ((cfg0.win 2).blk t).view.emb (ix2 i j) = (ix2 (half t i) j : S2816x1024.Idx) := by
    refine Shape.idx_ext₂ ?_ ?_
    · show win0_2.index t 0 * 1408 + 1 * i.val = 1408 * (t.val / 4) + i.val
      rw [(index t).2.2.1]; omega
    · show win0_2.index t 1 * 1024 + 1 * j.val = j.val
      rw [(index t).2.2.2]; omega
  rw [Value.final2, ← e]
  refine (congrFun (Value.flushed2_eq m c t ((flush0_2 _).mpr ht)) (ix2 i j)).symm.trans ?_
  rw [Value.flushed2, last m c t ht]
  obtain ⟨n, hn⟩ := t
  obtain ⟨q, rfl⟩ : ∃ q, n = 4 * q + (4 - 1) := ⟨n / 4, by dsimp only at ht; omega⟩
  exact scratch m c q hn i j

/-- The kernel's array is the reference's. -/
theorem out : (dats m 0 c).arrAt 2 cfg0.N =
    val_main_v5 (F := Ideal) (m ((c : Thread nD τ).loc main_arg0)) (m ((c : Thread nD τ).loc main_arg1)) := by
  funext (j : S2816x1024.Idx)
  have hj : (j 0).val < 2816 := (j 0).isLt
  have hN : cfg0.N = 8 := N_0
  let t : Fin cfg0.N := ⟨4 * ((j 0).val / 1408) + 3, by omega⟩
  have e : j = ix2 (half t ⟨(j 0).val % 1408, Nat.mod_lt _ (by decide)⟩) (j 1) :=
    Shape.idx_ext₂ (by show (j 0).val = 1408 * ((4 * ((j 0).val / 1408) + 3) / 4) + (j 0).val % 1408; omega) rfl
  rw [e]
  exact (arr_at m c t (by show (4 * ((j 0).val / 1408) + 3) % 4 = 3; omega) _ _).trans (ref_at ..).symm

/-- From equal arguments the kernel's result over the extended reals is the reference's. -/
theorem algebraic : Cert.algebraic_FfnOutGIdeal_FfnOutGRefIdeal := by
  intro m ρ m' ρ' _ hagree
  refine ⟨_, Cert.FfnOutGIdeal.Value.run_blocks (F := Ideal) m ρ, ?_⟩
  refine (θ_run Cert.FfnOutGRefIdeal.defs _ _).mono (fun r h c => ?_) (Cert.FfnOutGRefIdeal.Value.run (F := Ideal) m' ρ')
  obtain ⟨h0, hk⟩ := h c
  obtain ⟨e0, e1⟩ := hagree c
  refine ⟨(h0.trans (val_main_v5_eq _ _)).trans (Eq.trans ?_ (out m c).symm), hk⟩
  simp only [e0, e1]

end Cert.Proof.FfnOutG

end
-- ==== Proof.Mm.FfnOutB.lean ====
module

public import proofs.«01_k».proof.Defs
public import proofs.«01_k».proof.Proof.Mm.Common
public import proofs.«01_k».proof.Proof.Gen.FfnOutB.Frame
public import proofs.«01_k».proof.Proof.Gen.FfnOutBIdeal.Value
public import proofs.«01_k».proof.Proof.Gen.FfnOutBRefIdeal.Run
public import proofs.«01_k».proof.Proof.Gen.FfnOutBRefIdeal.Read
public import Idealize.ShloMosaic.Lib.Pointwise
public import Idealize.ShloMosaic.Lib.Tactic
public import Idealize.ShloMosaic.Adequacy
public import Idealize.ShloMosaic.Init

@[expose] public section

/-! The input gradient of the feed-forward's second product: the cotangent times the transposed weight. Each grid point takes 512
rows of the cotangent and the whole weight, so a row of the result is computed once and nothing is carried. -/

set_option maxRecDepth 16384

noncomputable section

namespace Cert.Proof.FfnOutB

open Cert Cert.Mm Idealize.ShloMosaic Idealize.ShloMosaic.TcCoe Idealize.SL.Sem
open Cert.FfnOutBIdeal Cert.FfnOutBIdeal.Gen Cert.FfnOutBRefIdeal.Read

/-- The kernel keeps its arguments and ends with every counter at zero. -/
theorem frame_p : Cert.quiescent_FfnOutB := fun m ρ _ => Cert.FfnOutB.Gen.frame m ρ

/-- So does its reading over the extended reals. -/
theorem frame_pi : Cert.quiescent_FfnOutBIdeal := fun m ρ _ => Cert.FfnOutBIdeal.Gen.frame m ρ

/-- The reference keeps its arguments; it has no counters. -/
theorem frame_ri : Cert.quiescent_FfnOutBRefIdeal := fun m ρ _ =>
  (θ_run Cert.FfnOutBRefIdeal.defs _ _).mono
    (fun r h => ⟨fun c => (h c).2, sem_eq_zero_of_no_sems (by decide) r.2⟩)
    (Cert.FfnOutBRefIdeal.Value.run (F := Ideal) m ρ)

/-- The four shards of the weight, their rows one above the other. -/
def rows (x : Vec Ideal S4x1x704x1024 .bf16) : FVec Ideal S2816x1024 .bf16 :=
  shapeCast S2816x1024 (shapeCast S4x704x1024 x shapeCasts_S4x1x704x1024_S4x704x1024) shapeCasts_S4x704x1024_S2816x1024

/-- One block of the result: each row of the cotangent's block against each row of the weight. -/
theorem block_at (x0 : Vec Ideal S512x1024 .bf16) (x1 : Vec Ideal S4x1x704x1024 .bf16) (i : Fin 512) (j : Fin 2816) :
    out0_2 (F := Ideal) x0 x1 (ix2 i j) = ∑ k : Fin 1024, x0 (ix2 i k) * rows x1 (ix2 j k) := by
  unfold out0_2
  rw [View.canon_unit_zero hz2, View.ld_unit_zero (S := S512x1024) hz2, View.ld_unit_zero (S := S4x1x704x1024) hz4]
  show k0_pay1 (F := Ideal) x1 x0 (ix2 i j) = _
  have e : k0_pay1 (F := Ideal) x1 x0 = truncf .bf16 (matmul dot_S512x1024_S2816x1024_S512x2816_1_1_0_0_n_n none x0 (rows x1)
    (constant S512x2816 .f32 0x00000000#32)) bitsLt_bf16_f32 := rfl
  rw [e]
  generalize rows x1 = w
  pointwise []

/-- The result at one place: a row of the cotangent against a row of the weight. -/
def entry (x0 : Vec Ideal S4096x1024 .bf16) (x1 : Vec Ideal S4x1x704x1024 .bf16) (i : Fin 4096) (j : Fin 2816) : EReal :=
  ∑ k : Fin 1024, x0 (ix2 i k) * rows x1 (ix2 j k)

/-- The reference lays the shards out in the same rows. -/
theorem ref_rows (x1 : Vec Ideal S4x1x704x1024 .bf16) : val_main_v0 (F := Ideal) x1 = rows x1 := by
  unfold rows val_main_v0
  exact (shapeCast_comp x1 _ _).symm

/-- The reference's result at one place. -/
theorem ref_at (x0 : Vec Ideal S4096x1024 .bf16) (x1 : Vec Ideal S4x1x704x1024 .bf16) (i : Fin 4096) (j : Fin 2816) :
    val_main_v6 (F := Ideal) x0 x1 (ix2 i j) = entry x0 x1 i j := by
  unfold entry val_main_v6 val_main_v5 val_main_v4 val_main_v1
  rw [ref_rows]
  generalize rows x1 = w
  pointwise []

variable (m : (ℓ : Loc nD τ sig) → Buf (Elt Ideal) ℓ) (c : Dev nD)

/-- The windows' block indices. -/
theorem index : ∀ t : Fin cfg0.N, (win0_0.index t 0 = t.val ∧ win0_0.index t 1 = 0) ∧ (∀ a, win0_1.index t a = 0) ∧
    (win0_2.index t 0 = t.val ∧ win0_2.index t 1 = 0) :=
  (by decide +kernel : ∀ t : Fin grid0.N, (win0_0.index t 0 = t.val ∧ win0_0.index t 1 = 0) ∧ (∀ a, win0_1.index t a = 0) ∧
    (win0_2.index t 0 = t.val ∧ win0_2.index t 1 = 0))

/-- Row `i` of the array, for row `i` of point `t`'s block. -/
def row (t : Fin cfg0.N) (i : Fin 512) : Fin 4096 := ⟨512 * t.val + i.val, by have : cfg0.N = 8 := N_0; omega⟩

theorem rows_at (t : Fin cfg0.N) (i : Fin 512) (k : Fin 1024) :
    iblk m c 0 t (ix2 i k) = m ((c : Thread nD τ).loc main_arg0) (ix2 (row t i) k) := by
  refine congrArg (m ((c : Thread nD τ).loc main_arg0)) (Shape.idx_ext₂ ?_ ?_)
  · show win0_0.index t 0 * 512 + 1 * i.val = 512 * t.val + i.val
    rw [(index t).1.1]; omega
  · show win0_0.index t 1 * 1024 + 1 * k.val = k.val
    rw [(index t).1.2]; omega

theorem weight (t : Fin cfg0.N) : iblk m c 1 t = m ((c : Thread nD τ).loc main_arg1) := by
  funext y
  refine congrArg (m ((c : Thread nD τ).loc main_arg1)) (funext fun a => Fin.ext ?_)
  show win0_1.index t a * _ + 1 * (y a).val = (y a).val
  rw [(index t).2.1 a]; omega

/-- The kernel's array at one place of the block that point `t` writes. -/
theorem arr_at (t : Fin cfg0.N) (i : Fin 512) (j : Fin 2816) : (dats m 0 c).arrAt 2 cfg0.N (ix2 (row t i) j) =
    entry (m ((c : Thread nD τ).loc main_arg0)) (m ((c : Thread nD τ).loc main_arg1)) (row t i) j := by
  have e : ((cfg0.win 2).blk t).view.emb (ix2 i j) = (ix2 (row t i) j : S4096x2816.Idx) := by
    refine Shape.idx_ext₂ ?_ ?_
    · show win0_2.index t 0 * 512 + 1 * i.val = 512 * t.val + i.val
      rw [(index t).2.2.1]; omega
    · show win0_2.index t 1 * 2816 + 1 * j.val = j.val
      rw [(index t).2.2.2]; omega
  rw [← e]
  refine (congrFun (Value.blocks2 m c t (flush0_2 t)) (ix2 i j)).trans ?_
  rw [Value.flushed2]
  refine (block_at _ _ i j).trans (Finset.sum_congr rfl fun k _ => ?_)
  rw [rows_at, weight]

/-- The kernel's array is the reference's. -/
theorem out : (dats m 0 c).arrAt 2 cfg0.N =
    val_main_v6 (F := Ideal) (m ((c : Thread nD τ).loc main_arg0)) (m ((c : Thread nD τ).loc main_arg1)) := by
  funext (j : S4096x2816.Idx)
  have hj : (j 0).val < 4096 := (j 0).isLt
  have hN : cfg0.N = 8 := N_0
  have e : j = ix2 (row ⟨(j 0).val / 512, by omega⟩ ⟨(j 0).val % 512, Nat.mod_lt _ (by decide)⟩) (j 1) :=
    Shape.idx_ext₂ (by show (j 0).val = 512 * ((j 0).val / 512) + (j 0).val % 512; omega) rfl
  rw [e]
  exact (arr_at m c _ _ _).trans (ref_at ..).symm

/-- From equal arguments the kernel's result over the extended reals is the reference's. -/
theorem algebraic : Cert.algebraic_FfnOutBIdeal_FfnOutBRefIdeal := by
  intro m ρ m' ρ' _ hagree
  refine ⟨_, Cert.FfnOutBIdeal.Value.run_blocks (F := Ideal) m ρ, ?_⟩
  refine (θ_run Cert.FfnOutBRefIdeal.defs _ _).mono (fun r h c => ?_) (Cert.FfnOutBRefIdeal.Value.run (F := Ideal) m' ρ')
  obtain ⟨h0, hk⟩ := h c
  obtain ⟨e0, e1⟩ := hagree c
  refine ⟨(h0.trans (val_main_v6_eq _ _)).trans (Eq.trans ?_ (out m c).symm), hk⟩
  simp only [e0, e1]

end Cert.Proof.FfnOutB

end
-- ==== Proof.Mm.FfnInG.lean ====
module

public import proofs.«01_k».proof.Defs
public import proofs.«01_k».proof.Proof.Mm.Common
public import proofs.«01_k».proof.Proof.Gen.FfnInG.Frame
public import proofs.«01_k».proof.Proof.Gen.FfnInGIdeal.Value
public import proofs.«01_k».proof.Proof.Gen.FfnInGRefIdeal.Run
public import proofs.«01_k».proof.Proof.Gen.FfnInGRefIdeal.Read
public import Idealize.ShloMosaic.Lib.Pipeline.ReadBack
public import Idealize.ShloMosaic.Adequacy
public import Idealize.ShloMosaic.Init

@[expose] public section

/-! The weight gradient of the feed-forward's first product: the transposed activations times the cotangent. The result is four
shards of 1408 columns; for each, the 4096 rows come in four tiles, whose products a scratch buffer adds up. -/

set_option maxRecDepth 16384

noncomputable section

namespace Cert.Proof.FfnInG

open Cert Cert.Mm Idealize.ShloMosaic Idealize.ShloMosaic.TcCoe Idealize.SL.Sem
open Cert.FfnInGIdeal Cert.FfnInGIdeal.Gen Cert.FfnInGRefIdeal.Read

/-- The kernel keeps its arguments and ends with every counter at zero. -/
theorem frame_p : Cert.quiescent_FfnInG := fun m ρ _ => Cert.FfnInG.Gen.frame m ρ

/-- So does its reading over the extended reals. -/
theorem frame_pi : Cert.quiescent_FfnInGIdeal := fun m ρ _ => Cert.FfnInGIdeal.Gen.frame m ρ

/-- The reference keeps its arguments; it has no counters. -/
theorem frame_ri : Cert.quiescent_FfnInGRefIdeal := fun m ρ _ =>
  (θ_run Cert.FfnInGRefIdeal.defs _ _).mono
    (fun r h => ⟨fun c => (h c).2, sem_eq_zero_of_no_sems (by decide) r.2⟩)
    (Cert.FfnInGRefIdeal.Value.run (F := Ideal) m ρ)

variable (m : (ℓ : Loc nD τ sig) → Buf (Elt Ideal) ℓ) (c : Dev nD)

/-- The two blocks a point reads: rows of the activations, the same rows of the cotangent. -/
abbrev b0 (t : Fin cfg0.N) : Vec Ideal S1024x1024 .bf16 := iblk m c 0 t
abbrev b1 (t : Fin cfg0.N) : Vec Ideal S1024x1408 .bf16 := iblk m c 1 t

/-- At the first tile the scratch is started with the tile's product. -/
theorem first (t : Fin cfg0.N) (h : t.val % 4 = 0) :
    (outsAt0 m c t.val t.isLt).2 = k0_pay2 (b1 m c t) (b0 m c t) := by
  have hN : cfg0.N = 16 := N_0
  rw [outsAt0_A m c t h (by omega) (by omega)]
  dsimp only
  refine (View.read_writes_eq_canon _ _ _ (fun y => scover0_A_0 (F := Ideal) (y := y) ..)).trans ?_
  unfold kernelRun0_A
  dsimp only
  sl_unfold_words
  rw [View.canon_unit_zero hz2]
  simp only [View.readAt_eq_ld, Memref.IsWhole.read_unread, read_unread_whole, View.ld_unit_zero (S := S1024x1024) hz2,
    View.ld_unit_zero (S := S1024x1408) hz2]

/-- At a later tile the tile's product is added. -/
theorem later (t : Fin cfg0.N) (h : ¬t.val % 4 = 0) :
    (outsAt0 m c t.val t.isLt).2 = k0_pay3 (b1 m c t) (b0 m c t) (outsAt0 m c (t.val - 1) (by omega)).2 := by
  have hN : cfg0.N = 16 := N_0
  by_cases h3 : t.val % 4 = 3
  · rw [outsAt0_C m c t h (by omega) h3]
    dsimp only
    refine (View.read_writes_eq_canon _ _ _ (fun y => scover0_C_0 (F := Ideal) (y := y) ..)).trans ?_
    unfold kernelRun0_C
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2]
  · rw [outsAt0_B m c t h (by omega) h3]
    dsimp only
    refine (View.read_writes_eq_canon _ _ _ (fun y => scover0_B_0 (F := Ideal) (y := y) ..)).trans ?_
    unfold kernelRun0_B
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2]

/-- At the last tile the result's block is what the scratch then holds. -/
theorem last (t : Fin cfg0.N) (h : t.val % 4 = 3) :
    (outsAt0 m c t.val t.isLt).1 = k0_pay4 (outsAt0 m c t.val t.isLt).2 := by
  rw [later m c t (by omega)]
  rw [outsAt0_C m c t (by omega) (by omega) h]
  dsimp only
  refine (View.read_writes_eq_canon _ _ _ (fun y => cover0_C_2 (F := Ideal) (y := y) ..)).trans ?_
  unfold kernelRun0_C
  dsimp only
  sl_unfold_words
  rw [View.canon_unit_zero hz3]
  simp only [View.readAt_eq_ld, Memref.IsWhole.read_unread, read_unread_whole, View.ld_unit_zero (S := S1024x1024) hz2,
    View.ld_unit_zero (S := S1024x1408) hz2, View.readCov_cons_toLoadRect]

/-- One tile's product at one place: over the tile's rows. -/
theorem tile_at (x0 : Vec Ideal S1024x1024 .bf16) (x1 : Vec Ideal S1024x1408 .bf16) (i : Fin 1024) (j : Fin 1408) :
    k0_pay2 (F := Ideal) x1 x0 (ix2 i j) = ∑ s : Fin 1024, x0 (ix2 s i) * x1 (ix2 s j) := by
  pointwise [k0_pay2, k0_pay1]

theorem more_at (x0 : Vec Ideal S1024x1024 .bf16) (x1 : Vec Ideal S1024x1408 .bf16) (a : Vec Ideal S1024x1408 .f32) (i : Fin 1024)
    (j : Fin 1408) : k0_pay3 (F := Ideal) x1 x0 a (ix2 i j) = a (ix2 i j) + ∑ s : Fin 1024, x0 (ix2 s i) * x1 (ix2 s j) := by
  pointwise [k0_pay3, k0_pay1]

/-- The stored block is the scratch with a leading axis of length one. -/
theorem store_at (a : Vec Ideal S1024x1408 .f32) (i : Fin 1024) (j : Fin 1408) :
    k0_pay4 (F := Ideal) a (ix3 0 i j) = a (ix2 i j) := by
  pointwise [k0_pay4]

/-- Column `j` of shard `p` among all the columns. -/
def col (p : Fin 4) (j : Fin 1408) : Fin 5632 := ⟨1408 * p.val + j.val, by omega⟩

/-- The result at one place: a column of the activations against a column of the cotangent. -/
def entry (x0 : Vec Ideal S4096x1024 .bf16) (x1 : Vec Ideal S4096x5632 .bf16) (i : Fin 1024) (j : Fin 5632) : EReal :=
  ∑ s : Fin 4096, x0 (ix2 s i) * x1 (ix2 s j)

/-- The reference's result at one place. -/
theorem ref_at (x0 : Vec Ideal S4096x1024 .bf16) (x1 : Vec Ideal S4096x5632 .bf16) (p : Fin 4) (i : Fin 1024) (j : Fin 1408) :
    val_main_v7 (F := Ideal) x0 x1 (ix3 p i j) = entry x0 x1 i (col p j) := by
  have e : idx_main_v6 (idx_main_v7 (ix3 p i j)) = ix2 i (col p j) := by
    refine Shape.idx_ext₂ ?_ ?_
    · show ((i.val * 4 + p.val) * 1408 + j.val) / 5632 = i.val
      omega
    · show ((i.val * 4 + p.val) * 1408 + j.val) % 5632 = 1408 * p.val + j.val
      omega
  rw [val_main_v7_apply, val_main_v6_apply, e]
  unfold entry
  pointwise [val_main_v5, val_main_v4, val_main_v3, val_main_v1]
  exact Finset.sum_congr rfl fun s _ => mul_comm _ _

/-- The windows' block indices. -/
theorem index : ∀ t : Fin cfg0.N, (win0_0.index t 0 = t.val % 4 ∧ win0_0.index t 1 = 0) ∧
    (win0_1.index t 0 = t.val % 4 ∧ win0_1.index t 1 = t.val / 4) ∧
    (win0_2.index t 0 = t.val / 4 ∧ win0_2.index t 1 = 0 ∧ win0_2.index t 2 = 0) :=
  (by decide +kernel : ∀ t : Fin grid0.N, (win0_0.index t 0 = t.val % 4 ∧ win0_0.index t 1 = 0) ∧
    (win0_1.index t 0 = t.val % 4 ∧ win0_1.index t 1 = t.val / 4) ∧
    (win0_2.index t 0 = t.val / 4 ∧ win0_2.index t 1 = 0 ∧ win0_2.index t 2 = 0))

/-- Row `s` of the arguments, for row `s` of point `t`'s tile. -/
def row (t : Fin cfg0.N) (s : Fin 1024) : Fin 4096 := ⟨1024 * (t.val % 4) + s.val, by omega⟩

/-- The shard that point `t` works on. -/
def shard (t : Fin cfg0.N) : Fin 4 := ⟨t.val / 4, by have := t.isLt; have : cfg0.N = 16 := N_0; omega⟩

theorem b0_at (t : Fin cfg0.N) (s i : Fin 1024) : b0 m c t (ix2 s i) = m ((c : Thread nD τ).loc main_arg0) (ix2 (row t s) i) := by
  refine congrArg (m ((c : Thread nD τ).loc main_arg0)) (Shape.idx_ext₂ ?_ ?_)
  · show win0_0.index t 0 * 1024 + 1 * s.val = 1024 * (t.val % 4) + s.val
    rw [(index t).1.1]; omega
  · show win0_0.index t 1 * 1024 + 1 * i.val = i.val
    rw [(index t).1.2]; omega

theorem b1_at (t : Fin cfg0.N) (s : Fin 1024) (j : Fin 1408) :
    b1 m c t (ix2 s j) = m ((c : Thread nD τ).loc main_arg1) (ix2 (row t s) (col (shard t) j)) := by
  refine congrArg (m ((c : Thread nD τ).loc main_arg1)) (Shape.idx_ext₂ ?_ ?_)
  · show win0_1.index t 0 * 1024 + 1 * s.val = 1024 * (t.val % 4) + s.val
    rw [(index t).2.1.1]; omega
  · show win0_1.index t 1 * 1408 + 1 * j.val = 1408 * (t.val / 4) + j.val
    rw [(index t).2.1.2]; omega

/-- The scratch after the last tile of a shard: the sum over all the rows. -/
theorem scratch (q : ℕ) (h : 4 * q + (4 - 1) < cfg0.N) (i : Fin 1024) (j : Fin 1408) :
    (outsAt0 m c (4 * q + (4 - 1)) h).2 (ix2 i j) =
      entry (m ((c : Thread nD τ).loc main_arg0)) (m ((c : Thread nD τ).loc main_arg1)) i (col (shard ⟨4 * q + (4 - 1), h⟩) j) := by
  refine carried_tiles 4 1024 rfl (by decide) (fun n h => (outsAt0 m c n h).2 (ix2 i j))
    (fun t s => b0 m c t (ix2 s i) * b1 m c t (ix2 s j))
    (fun n h h0 => (congrFun (first m c ⟨n, h⟩ h0) _).trans (tile_at ..))
    (fun n h h0 => (congrFun (later m c ⟨n + 1, h⟩ h0) _).trans (more_at ..)) q h _ fun k s hk hb => ?_
  have e : row ⟨4 * q + k.val, hk⟩ s = ⟨k.val * 1024 + s.val, hb⟩ :=
    Fin.ext (by show 1024 * ((4 * q + k.val) % 4) + s.val = k.val * 1024 + s.val; omega)
  have e' : shard ⟨4 * q + k.val, hk⟩ = shard ⟨4 * q + (4 - 1), h⟩ :=
    Fin.ext (by show (4 * q + k.val) / 4 = (4 * q + (4 - 1)) / 4; omega)
  rw [b0_at, b1_at, e, e']

/-- The kernel's array at one place of the shard that point `t` finishes. -/
theorem arr_at (t : Fin cfg0.N) (ht : t.val % 4 = 3) (i : Fin 1024) (j : Fin 1408) :
    (dats m 0 c).arrAt 2 cfg0.N (ix3 (shard t) i j) =
      entry (m ((c : Thread nD τ).loc main_arg0)) (m ((c : Thread nD τ).loc main_arg1)) i (col (shard t) j) := by
  have e : ((cfg0.win 2).blk t).view.emb (ix3 0 i j) = (ix3 (shard t) i j : S4x1024x1408.Idx) := by
    funext a
    refine Fin.ext ?_
    fin_cases a
    · show win0_2.index t 0 * 1 + 1 * 0 = t.val / 4
      rw [(index t).2.2.1]; omega
    · show win0_2.index t 1 * 1024 + 1 * i.val = i.val
      rw [(index t).2.2.2.1]; omega
    · show win0_2.index t 2 * 1408 + 1 * j.val = j.val
      rw [(index t).2.2.2.2]; omega
  rw [Value.final2, ← e]
  refine (congrFun (Value.flushed2_eq m c t ((flush0_2 _).mpr ht)) (ix3 0 i j)).symm.trans ?_
  rw [Value.flushed2, last m c t ht]
  refine (store_at _ i j).trans ?_
  obtain ⟨n, hn⟩ := t
  obtain ⟨q, rfl⟩ : ∃ q, n = 4 * q + (4 - 1) := ⟨n / 4, by dsimp only at ht; omega⟩
  exact scratch m c q hn i j

/-- The kernel's array is the reference's. -/
theorem out : (dats m 0 c).arrAt 2 cfg0.N =
    val_main_v7 (F := Ideal) (m ((c : Thread nD τ).loc main_arg0)) (m ((c : Thread nD τ).loc main_arg1)) := by
  funext (j : S4x1024x1408.Idx)
  have hj : (j 0).val < 4 := (j 0).isLt
  have hN : cfg0.N = 16 := N_0
  let t : Fin cfg0.N := ⟨4 * (j 0).val + 3, by omega⟩
  have e : shard t = j 0 := Fin.ext (by show (4 * (j 0).val + 3) / 4 = (j 0).val; omega)
  rw [eq_ix3 j, ← e]
  exact (arr_at m c t (by show (4 * (j 0).val + 3) % 4 = 3; omega) _ _).trans (ref_at ..).symm

/-- From equal arguments the kernel's result over the extended reals is the reference's. -/
theorem algebraic : Cert.algebraic_FfnInGIdeal_FfnInGRefIdeal := by
  intro m ρ m' ρ' _ hagree
  refine ⟨_, Cert.FfnInGIdeal.Value.run_blocks (F := Ideal) m ρ, ?_⟩
  refine (θ_run Cert.FfnInGRefIdeal.defs _ _).mono (fun r h c => ?_) (Cert.FfnInGRefIdeal.Value.run (F := Ideal) m' ρ')
  obtain ⟨h0, hk⟩ := h c
  obtain ⟨e0, e1⟩ := hagree c
  refine ⟨(h0.trans (val_main_v7_eq _ _)).trans (Eq.trans ?_ (out m c).symm), hk⟩
  simp only [e0, e1]

end Cert.Proof.FfnInG

end
-- ==== Proof.Mm.FfnInB.lean ====
module

public import proofs.«01_k».proof.Defs
public import proofs.«01_k».proof.Proof.Mm.Common
public import proofs.«01_k».proof.Proof.Gen.FfnInB.Frame
public import proofs.«01_k».proof.Proof.Gen.FfnInBIdeal.Value
public import proofs.«01_k».proof.Proof.Gen.FfnInBRefIdeal.Run
public import proofs.«01_k».proof.Proof.Gen.FfnInBRefIdeal.Read
public import Idealize.ShloMosaic.Lib.Pipeline.ReadBack
public import Idealize.ShloMosaic.Adequacy
public import Idealize.ShloMosaic.Init

@[expose] public section

/-! The input gradient of the feed-forward's first product: the cotangent times the transposed weight. A block of 1024 rows is made
from four tiles of 1408 columns, one shard of the weight each, whose products a scratch buffer adds up. -/

set_option maxRecDepth 16384

noncomputable section

namespace Cert.Proof.FfnInB

open Cert Cert.Mm Idealize.ShloMosaic Idealize.ShloMosaic.TcCoe Idealize.SL.Sem
open Cert.FfnInBIdeal Cert.FfnInBIdeal.Gen Cert.FfnInBRefIdeal.Read

/-- The kernel keeps its arguments and ends with every counter at zero. -/
theorem frame_p : Cert.quiescent_FfnInB := fun m ρ _ => Cert.FfnInB.Gen.frame m ρ

/-- So does its reading over the extended reals. -/
theorem frame_pi : Cert.quiescent_FfnInBIdeal := fun m ρ _ => Cert.FfnInBIdeal.Gen.frame m ρ

/-- The reference keeps its arguments; it has no counters. -/
theorem frame_ri : Cert.quiescent_FfnInBRefIdeal := fun m ρ _ =>
  (θ_run Cert.FfnInBRefIdeal.defs _ _).mono
    (fun r h => ⟨fun c => (h c).2, sem_eq_zero_of_no_sems (by decide) r.2⟩)
    (Cert.FfnInBRefIdeal.Value.run (F := Ideal) m ρ)

variable (m : (ℓ : Loc nD τ sig) → Buf (Elt Ideal) ℓ) (c : Dev nD)

/-- The two blocks a point reads: a tile of the cotangent, the shard of the weight with the same columns. -/
abbrev b0 (t : Fin cfg0.N) : Vec Ideal S1024x1408 .bf16 := iblk m c 0 t
abbrev b1 (t : Fin cfg0.N) : Vec Ideal S1x1x1024x1408 .bf16 := iblk m c 1 t

/-- At the first tile the scratch is started with the tile's product. -/
theorem first (t : Fin cfg0.N) (h : t.val % 4 = 0) :
    (outsAt0 m c t.val t.isLt).2 = k0_pay2 (b1 m c t) (b0 m c t) := by
  have hN : cfg0.N = 16 := N_0
  rw [outsAt0_A m c t h (by omega) (by omega)]
  dsimp only
  refine (View.read_writes_eq_canon _ _ _ (fun y => scover0_A_0 (F := Ideal) (y := y) ..)).trans ?_
  unfold kernelRun0_A
  dsimp only
  sl_unfold_words
  rw [View.canon_unit_zero hz2]
  simp only [View.readAt_eq_ld, Memref.IsWhole.read_unread, read_unread_whole, View.ld_unit_zero (S := S1024x1024) hz2,
    View.ld_unit_zero (S := S1024x1408) hz2, View.ld_unit_zero (S := S1x1x1024x1408) hz4]

/-- At a later tile the tile's product is added. -/
theorem later (t : Fin cfg0.N) (h : ¬t.val % 4 = 0) :
    (outsAt0 m c t.val t.isLt).2 = k0_pay3 (b1 m c t) (b0 m c t) (outsAt0 m c (t.val - 1) (by omega)).2 := by
  have hN : cfg0.N = 16 := N_0
  by_cases h3 : t.val % 4 = 3
  · rw [outsAt0_C m c t h (by omega) h3]
    dsimp only
    refine (View.read_writes_eq_canon _ _ _ (fun y => scover0_C_0 (F := Ideal) (y := y) ..)).trans ?_
    unfold kernelRun0_C
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2, View.ld_unit_zero (S := S1x1x1024x1408) hz4]
  · rw [outsAt0_B m c t h (by omega) h3]
    dsimp only
    refine (View.read_writes_eq_canon _ _ _ (fun y => scover0_B_0 (F := Ideal) (y := y) ..)).trans ?_
    unfold kernelRun0_B
    dsimp only
    sl_unfold_words
    rw [View.canon_unit_zero hz2]
    simp only [View.readAt_eq_ld, Memref.IsWhole.read_unread, read_unread_whole, View.ld_unit_zero (S := S1024x1024) hz2,
    View.ld_unit_zero (S := S1024x1408) hz2, View.ld_unit_zero (S := S1x1x1024x1408) hz4]

/-- At the last tile the result's block is what the scratch then holds. -/
theorem last (t : Fin cfg0.N) (h : t.val % 4 = 3) :
    (outsAt0 m c t.val t.isLt).1 = k0_pay4 (outsAt0 m c t.val t.isLt).2 := by
  rw [later m c t (by omega)]
  rw [outsAt0_C m c t (by omega) (by omega) h]
  dsimp only
  refine (View.read_writes_eq_canon _ _ _ (fun y => cover0_C_2 (F := Ideal) (y := y) ..)).trans ?_
  unfold kernelRun0_C
  dsimp only
  sl_unfold_words
  rw [View.canon_unit_zero hz2]
  simp only [View.readAt_eq_ld, Memref.IsWhole.read_unread, read_unread_whole, View.ld_unit_zero (S := S1024x1024) hz2,
    View.ld_unit_zero (S := S1024x1408) hz2, View.ld_unit_zero (S := S1x1x1024x1408) hz4, View.readCov_cons_toLoadRect]

/-- One tile's product at one place: over the tile's columns. -/
theorem tile_at (x0 : Vec Ideal S1024x1408 .bf16) (x1 : Vec Ideal S1x1x1024x1408 .bf16) (i j : Fin 1024) :
    k0_pay2 (F := Ideal) x1 x0 (ix2 i j) = ∑ s : Fin 1408, x0 (ix2 i s) * x1 (ix4 0 0 j s) := by
  pointwise [k0_pay2, k0_pay1]

theorem more_at (x0 : Vec Ideal S1024x1408 .bf16) (x1 : Vec Ideal S1x1x1024x1408 .bf16) (a : Vec Ideal S1024x1024 .f32) (i j : Fin 1024) :
    k0_pay3 (F := Ideal) x1 x0 a (ix2 i j) = a (ix2 i j) + ∑ s : Fin 1408, x0 (ix2 i s) * x1 (ix4 0 0 j s) := by
  pointwise [k0_pay3, k0_pay1]

/-- The result at one place: a row of the cotangent against a row of the weight. -/
def entry (x0 : Vec Ideal S4096x5632 .bf16) (x1 : Vec Ideal S4x1x1024x1408 .bf16) (i : Fin 4096) (j : Fin 1024) : EReal :=
  ∑ s : Fin 5632, x0 (ix2 i s) * val_main_v2 (F := Ideal) x1 (ix2 j s)

/-- The reference's weight has the shards side by side. -/
theorem ref_cols (x1 : Vec Ideal S4x1x1024x1408 .bf16) (j : Fin 1024) (k : Fin 4) (s : Fin 1408) (h : k.val * 1408 + s.val < 5632) :
    val_main_v2 (F := Ideal) x1 (ix2 j ⟨k.val * 1408 + s.val, h⟩) = x1 (ix4 k 0 j s) := by
  have e2 : idx_main_v2 (ix2 j ⟨k.val * 1408 + s.val, h⟩) = ix3 j k s := by
    funext a
    refine Fin.ext ?_
    fin_cases a
    · show (j.val * 5632 + (k.val * 1408 + s.val)) / 5632 = j.val
      omega
    · show (j.val * 5632 + (k.val * 1408 + s.val)) / 1408 % 4 = k.val
      omega
    · show (j.val * 5632 + (k.val * 1408 + s.val)) % 1408 = s.val
      omega
  have e0 : idx_main_v0 (ix3 k j s) = ix4 k 0 j s := by
    funext a
    refine Fin.ext ?_
    fin_cases a
    · show ((k.val * 1024 + j.val) * 1408 + s.val) / 1441792 = k.val
      omega
    · rfl
    · show ((k.val * 1024 + j.val) * 1408 + s.val) / 1408 % 1024 = j.val
      omega
    · show ((k.val * 1024 + j.val) * 1408 + s.val) % 1408 = s.val
      omega
  rw [val_main_v2_apply, e2, val_main_v1_apply, show idx_main_v1 (ix3 j k s) = ix3 k j s from funext fun a => by fin_cases a <;> rfl, val_main_v0_apply, e0]

/-- The reference's result at one place. -/
theorem ref_at (x0 : Vec Ideal S4096x5632 .bf16) (x1 : Vec Ideal S4x1x1024x1408 .bf16) (i : Fin 4096) (j : Fin 1024) :
    val_main_v8 (F := Ideal) x0 x1 (ix2 i j) = entry x0 x1 i j := by
  unfold entry val_main_v8 val_main_v7 val_main_v6 val_main_v3
  generalize val_main_v2 (F := Ideal) x1 = w
  pointwise []

/-- The windows' block indices. -/
theorem index : ∀ t : Fin cfg0.N, (win0_0.index t 0 = t.val / 4 ∧ win0_0.index t 1 = t.val % 4) ∧
    (win0_1.index t 0 = t.val % 4 ∧ win0_1.index t 1 = 0 ∧ win0_1.index t 2 = 0 ∧ win0_1.index t 3 = 0) ∧
    (win0_2.index t 0 = t.val / 4 ∧ win0_2.index t 1 = 0) :=
  (by decide +kernel : ∀ t : Fin grid0.N, (win0_0.index t 0 = t.val / 4 ∧ win0_0.index t 1 = t.val % 4) ∧
    (win0_1.index t 0 = t.val % 4 ∧ win0_1.index t 1 = 0 ∧ win0_1.index t 2 = 0 ∧ win0_1.index t 3 = 0) ∧
    (win0_2.index t 0 = t.val / 4 ∧ win0_2.index t 1 = 0))

/-- Row `i` of the array, for row `i` of the block that point `t` works on. -/
def row (t : Fin cfg0.N) (i : Fin 1024) : Fin 4096 := ⟨1024 * (t.val / 4) + i.val, by have : cfg0.N = 16 := N_0; omega⟩

/-- Column `s` of the cotangent, for column `s` of point `t`'s tile. -/
def col (t : Fin cfg0.N) (s : Fin 1408) : Fin 5632 := ⟨(t.val % 4) * 1408 + s.val, by omega⟩

/-- The shard of the weight that point `t` reads. -/
def shard (t : Fin cfg0.N) : Fin 4 := ⟨t.val % 4, by omega⟩

theorem b0_at (t : Fin cfg0.N) (i : Fin 1024) (s : Fin 1408) :
    b0 m c t (ix2 i s) = m ((c : Thread nD τ).loc main_arg0) (ix2 (row t i) (col t s)) := by
  refine congrArg (m ((c : Thread nD τ).loc main_arg0)) (Shape.idx_ext₂ ?_ ?_)
  · show win0_0.index t 0 * 1024 + 1 * i.val = 1024 * (t.val / 4) + i.val
    rw [(index t).1.1]; omega
  · show win0_0.index t 1 * 1408 + 1 * s.val = (t.val % 4) * 1408 + s.val
    rw [(index t).1.2]; omega

theorem b1_at (t : Fin cfg0.N) (j : Fin 1024) (s : Fin 1408) :
    b1 m c t (ix4 0 0 j s) = m ((c : Thread nD τ).loc main_arg1) (ix4 (shard t) 0 j s) := by
  refine congrArg (m ((c : Thread nD τ).loc main_arg1)) (funext fun a => Fin.ext ?_)
  obtain ⟨h0, h1, h2, h3⟩ := (index t).2.1
  fin_cases a
  · show win0_1.index t 0 * 1 + 1 * 0 = t.val % 4
    omega
  · show win0_1.index t 1 * 1 + 1 * 0 = 0
    omega
  · show win0_1.index t 2 * 1024 + 1 * j.val = j.val
    rw [h2]; omega
  · show win0_1.index t 3 * 1408 + 1 * s.val = s.val
    rw [h3]; omega

/-- The scratch after the last tile of a block of rows: the sum over all the columns. -/
theorem scratch (q : ℕ) (h : 4 * q + (4 - 1) < cfg0.N) (i j : Fin 1024) :
    (outsAt0 m c (4 * q + (4 - 1)) h).2 (ix2 i j) =
      entry (m ((c : Thread nD τ).loc main_arg0)) (m ((c : Thread nD τ).loc main_arg1)) (row ⟨4 * q + (4 - 1), h⟩ i) j := by
  refine carried_tiles 4 1408 rfl (by decide) (fun n h => (outsAt0 m c n h).2 (ix2 i j))
    (fun t s => b0 m c t (ix2 i s) * b1 m c t (ix4 0 0 j s))
    (fun n h h0 => (congrFun (first m c ⟨n, h⟩ h0) _).trans (tile_at ..))
    (fun n h h0 => (congrFun (later m c ⟨n + 1, h⟩ h0) _).trans (more_at ..)) q h _ fun k s hk hb => ?_
  have e : col ⟨4 * q + k.val, hk⟩ s = ⟨k.val * 1408 + s.val, hb⟩ :=
    Fin.ext (by show ((4 * q + k.val) % 4) * 1408 + s.val = k.val * 1408 + s.val; omega)
  have e' : row ⟨4 * q + k.val, hk⟩ i = row ⟨4 * q + (4 - 1), h⟩ i :=
    Fin.ext (by show 1024 * ((4 * q + k.val) / 4) + i.val = 1024 * ((4 * q + (4 - 1)) / 4) + i.val; omega)
  have e2 : shard ⟨4 * q + k.val, hk⟩ = k := Fin.ext (by show (4 * q + k.val) % 4 = k.val; omega)
  rw [b0_at, b1_at, e, e', e2, ref_cols]

/-- The kernel's array at one place of the block that point `t` finishes. -/
theorem arr_at (t : Fin cfg0.N) (ht : t.val % 4 = 3) (i j : Fin 1024) :
    (dats m 0 c).arrAt 2 cfg0.N (ix2 (row t i) j) =
      entry (m ((c : Thread nD τ).loc main_arg0)) (m ((c : Thread nD τ).loc main_arg1)) (row t i) j := by
  have e : ((cfg0.win 2).blk t).view.emb (ix2 i j) = (ix2 (row t i) j : S4096x1024.Idx) := by
    refine Shape.idx_ext₂ ?_ ?_
    · show win0_2.index t 0 * 1024 + 1 * i.val = 1024 * (t.val / 4) + i.val
      rw [(index t).2.2.1]; omega
    · show win0_2.index t 1 * 1024 + 1 * j.val = j.val
      rw [(index t).2.2.2]; omega
  rw [Value.final2, ← e]
  refine (congrFun (Value.flushed2_eq m c t ((flush0_2 _).mpr ht)) (ix2 i j)).symm.trans ?_
  rw [Value.flushed2, last m c t ht]
  obtain ⟨n, hn⟩ := t
  obtain ⟨q, rfl⟩ : ∃ q, n = 4 * q + (4 - 1) := ⟨n / 4, by dsimp only at ht; omega⟩
  exact scratch m c q hn i j

/-- The kernel's array is the reference's. -/
theorem out : (dats m 0 c).arrAt 2 cfg0.N =
    val_main_v8 (F := Ideal) (m ((c : Thread nD τ).loc main_arg0)) (m ((c : Thread nD τ).loc main_arg1)) := by
  funext (j : S4096x1024.Idx)
  have hj : (j 0).val < 4096 := (j 0).isLt
  have hN : cfg0.N = 16 := N_0
  let t : Fin cfg0.N := ⟨4 * ((j 0).val / 1024) + 3, by omega⟩
  have e : j = ix2 (row t ⟨(j 0).val % 1024, Nat.mod_lt _ (by decide)⟩) (j 1) :=
    Shape.idx_ext₂ (by show (j 0).val = 1024 * ((4 * ((j 0).val / 1024) + 3) / 4) + (j 0).val % 1024; omega) rfl
  rw [e]
  exact (arr_at m c t (by show (4 * ((j 0).val / 1024) + 3) % 4 = 3; omega) _ _).trans (ref_at ..).symm

/-- From equal arguments the kernel's result over the extended reals is the reference's. -/
theorem algebraic : Cert.algebraic_FfnInBIdeal_FfnInBRefIdeal := by
  intro m ρ m' ρ' _ hagree
  refine ⟨_, Cert.FfnInBIdeal.Value.run_blocks (F := Ideal) m ρ, ?_⟩
  refine (θ_run Cert.FfnInBRefIdeal.defs _ _).mono (fun r h c => ?_) (Cert.FfnInBRefIdeal.Value.run (F := Ideal) m' ρ')
  obtain ⟨h0, hk⟩ := h c
  obtain ⟨e0, e1⟩ := hagree c
  refine ⟨(h0.trans (val_main_v8_eq _ _)).trans (Eq.trans ?_ (out m c).symm), hk⟩
  simp only [e0, e1]

end Cert.Proof.FfnInB

end
-- ==== Proof.Mm.InB.lean ====
module

public import proofs.«01_k».proof.Defs
public import proofs.«01_k».proof.Proof.Mm.Common
public import proofs.«01_k».proof.Proof.Gen.InB.Frame
public import proofs.«01_k».proof.Proof.Gen.InBIdeal.Value
public import proofs.«01_k».proof.Proof.Gen.InBRefIdeal.Run
public import proofs.«01_k».proof.Proof.Gen.InBRefIdeal.Read
public import Idealize.ShloMosaic.Lib.Pipeline.ReadBack
public import Idealize.ShloMosaic.Adequacy
public import Idealize.ShloMosaic.Init

@[expose] public section

/-! The input gradient of the layer's first product: six cotangents side by side times the transposed weight. A block of 1024 rows
is made from eight tiles of 1024 columns. The first five tiles are the first five cotangents, the last three are the sixth. -/

set_option maxRecDepth 16384

noncomputable section

namespace Cert.Proof.InB

open Cert Cert.Mm Idealize.ShloMosaic Idealize.ShloMosaic.TcCoe Idealize.SL.Sem
open Cert.InBIdeal Cert.InBIdeal.Gen Cert.InBRefIdeal.Read

/-- The kernel keeps its arguments and ends with every counter at zero. -/
theorem frame_p : Cert.quiescent_InB := fun m ρ _ => Cert.InB.Gen.frame m ρ

/-- So does its reading over the extended reals. -/
theorem frame_pi : Cert.quiescent_InBIdeal := fun m ρ _ => Cert.InBIdeal.Gen.frame m ρ

/-- The reference keeps its arguments; it has no counters. -/
theorem frame_ri : Cert.quiescent_InBRefIdeal := fun m ρ _ =>
  (θ_run Cert.InBRefIdeal.defs _ _).mono
    (fun r h => ⟨fun c => (h c).2, sem_eq_zero_of_no_sems (by decide) r.2⟩)
    (Cert.InBRefIdeal.Value.run (F := Ideal) m ρ)

variable (m : (ℓ : Loc nD τ sig) → Buf (Elt Ideal) ℓ) (c : Dev nD)

/-- The block of the weight that a point reads. -/
abbrev w (t : Fin cfg0.N) : Vec Ideal S1x1x1024x1024 .bf16 := iblk m c 6 t

/-- The cotangent's block that a point uses. -/
def piece (t : Fin cfg0.N) : Vec Ideal S1024x1024 .bf16 :=
  if t.val % 8 = 0 then iblk m c 0 t else if t.val % 8 = 1 then iblk m c 1 t else if t.val % 8 = 2 then iblk m c 2 t
  else if t.val % 8 = 3 then iblk m c 3 t else if t.val % 8 = 4 then iblk m c 4 t else iblk m c 5 t

/-- At the first tile the tile's product is added to zero. -/
theorem first (t : Fin cfg0.N) (h : t.val % 8 = 0) :
    (outsAt0 m c t.val t.isLt).2 = k0_pay1 k0_pay3 (piece m c t) (w m c t) := by
  rw [outsAt0_A m c t h h (by omega) (by omega) (by omega) (by omega) (by omega) (by omega)]
  dsimp only
  refine (View.read_writes_eq_canon _ _ _ (fun y => scover0_A_0 (F := Ideal) (y := y) ..)).trans ?_
  unfold kernelRun0_A piece
  dsimp only
  sl_unfold_words
  rw [View.canon_cons_unit_zero hz2, if_pos h]
  simp only [View.readAt_eq_ld, Memref.IsWhole.read_unread, read_unread_whole, View.ld_unit_zero (S := S1024x1024) hz2,
    View.ld_unit_zero (S := S1x1x1024x1024) hz4, View.readCov_cons_toLoadRect]
  rfl

/-- At a later tile it is added to what the scratch held. -/
theorem later (t : Fin cfg0.N) (h : ¬t.val % 8 = 0) :
    (outsAt0 m c t.val t.isLt).2 = k0_pay1 (outsAt0 m c (t.val - 1) (by omega)).2 (piece m c t) (w m c t) := by
  have h8 : t.val % 8 < 8 := Nat.mod_lt _ (by decide)
  obtain h1 | h2 | h3 | h4 | h7 | h5 : t.val % 8 = 1 ∨ t.val % 8 = 2 ∨ t.val % 8 = 3 ∨ t.val % 8 = 4 ∨ t.val % 8 = 7 ∨
      (5 ≤ t.val % 8 ∧ ¬t.val % 8 = 7) := by omega
  all_goals unfold piece
  · rw [outsAt0_B m c t h h h1 (by omega) (by omega) (by omega) (by omega) (by omega), if_neg h, if_pos h1]
    dsimp only
    refine (View.read_writes_eq_canon _ _ _ (fun y => scover0_B_0 (F := Ideal) (y := y) ..)).trans ?_
    unfold kernelRun0_B
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]
    rfl
  · rw [outsAt0_C m c t h h (by omega) h2 (by omega) (by omega) (by omega) (by omega), if_neg h, if_neg (by omega), if_pos h2]
    dsimp only
    refine (View.read_writes_eq_canon _ _ _ (fun y => scover0_C_0 (F := Ideal) (y := y) ..)).trans ?_
    unfold kernelRun0_C
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]
    rfl
  · rw [outsAt0_D m c t h h (by omega) (by omega) h3 (by omega) (by omega) (by omega), if_neg h, if_neg (by omega), if_neg (by omega),
      if_pos h3]
    dsimp only
    refine (View.read_writes_eq_canon _ _ _ (fun y => scover0_D_0 (F := Ideal) (y := y) ..)).trans ?_
    unfold kernelRun0_D
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]
    rfl
  · rw [outsAt0_E m c t h h (by omega) (by omega) (by omega) h4 (by omega) (by omega), if_neg h, if_neg (by omega), if_neg (by omega),
      if_neg (by omega), if_pos h4]
    dsimp only
    refine (View.read_writes_eq_canon _ _ _ (fun y => scover0_E_0 (F := Ideal) (y := y) ..)).trans ?_
    unfold kernelRun0_E
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]
    rfl
  · rw [outsAt0_G m c t h h (by omega) (by omega) (by omega) (by omega) (by omega) h7, if_neg h, if_neg (by omega), if_neg (by omega),
      if_neg (by omega), if_neg (by omega)]
    dsimp only
    refine (View.read_writes_eq_canon _ _ _ (fun y => scover0_G_0 (F := Ideal) (y := y) ..)).trans ?_
    unfold kernelRun0_G
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]
  · rw [outsAt0_F m c t h h (by omega) (by omega) (by omega) (by omega) h5.1 h5.2, if_neg h, if_neg (by omega), if_neg (by omega),
      if_neg (by omega), if_neg (by omega)]
    dsimp only
    refine (View.read_writes_eq_canon _ _ _ (fun y => scover0_F_0 (F := Ideal) (y := y) ..)).trans ?_
    unfold kernelRun0_F
    dsimp only
    sl_unfold_words
    rw [View.canon_unit_zero hz2]
    simp only [View.readAt_eq_ld, Memref.IsWhole.read_unread, read_unread_whole, View.ld_unit_zero (S := S1024x1024) hz2,
      View.ld_unit_zero (S := S1x1x1024x1024) hz4]

/-- At the last tile the result's block is what the scratch then holds, rounded. -/
theorem last (t : Fin cfg0.N) (h : t.val % 8 = 7) :
    (outsAt0 m c t.val t.isLt).1 = k0_pay2 (outsAt0 m c t.val t.isLt).2 := by
  rw [later m c t (by omega)]
  unfold piece
  rw [outsAt0_G m c t (by omega) (by omega) (by omega) (by omega) (by omega) (by omega) (by omega) h, if_neg (by omega),
    if_neg (by omega), if_neg (by omega), if_neg (by omega), if_neg (by omega)]
  dsimp only
  refine (View.read_writes_eq_canon _ _ _ (fun y => cover0_G_7 (F := Ideal) (y := y) ..)).trans ?_
  unfold kernelRun0_G
  dsimp only
  sl_unfold_words
  rw [View.canon_unit_zero hz2]
  simp only [View.readAt_eq_ld, Memref.IsWhole.read_unread, read_unread_whole, View.ld_unit_zero (S := S1024x1024) hz2,
    View.ld_unit_zero (S := S1x1x1024x1024) hz4, View.readCov_cons_toLoadRect]

/-- One more tile at one place: the product over the tile's columns is added. -/
theorem more_at (a : Vec Ideal S1024x1024 .f32) (x : Vec Ideal S1024x1024 .bf16) (v : Vec Ideal S1x1x1024x1024 .bf16) (i j : Fin 1024) :
    k0_pay1 (F := Ideal) a x v (ix2 i j) = a (ix2 i j) + ∑ s : Fin 1024, x (ix2 i s) * v (ix4 0 0 j s) := by
  pointwise [k0_pay1]

theorem zero_at (i j : Fin 1024) : k0_pay3 (F := Ideal) (ix2 i j) = 0 := by
  pointwise [k0_pay3]

theorem round_at (a : Vec Ideal S1024x1024 .f32) (i j : Fin 1024) : k0_pay2 (F := Ideal) a (ix2 i j) = a (ix2 i j) := by
  pointwise [k0_pay2]

/-- The windows' block indices. -/
theorem index : ∀ t : Fin cfg0.N, (win0_0.index t 0 = t.val / 8 ∧ win0_0.index t 1 = 0) ∧
    (win0_1.index t 0 = t.val / 8 ∧ win0_1.index t 1 = 0) ∧ (win0_2.index t 0 = t.val / 8 ∧ win0_2.index t 1 = 0) ∧
    (win0_3.index t 0 = t.val / 8 ∧ win0_3.index t 1 = 0) ∧ (win0_4.index t 0 = t.val / 8 ∧ win0_4.index t 1 = 0) ∧
    (win0_5.index t 0 = t.val / 8 ∧ win0_5.index t 1 = t.val % 8 - 5) ∧
    (win0_6.index t 0 = t.val % 8 / 2 ∧ win0_6.index t 1 = 0 ∧ win0_6.index t 2 = 0 ∧ win0_6.index t 3 = t.val % 8 % 2) ∧
    (win0_7.index t 0 = t.val / 8 ∧ win0_7.index t 1 = 0) :=
  (by decide +kernel : ∀ t : Fin grid0.N, (win0_0.index t 0 = t.val / 8 ∧ win0_0.index t 1 = 0) ∧
    (win0_1.index t 0 = t.val / 8 ∧ win0_1.index t 1 = 0) ∧ (win0_2.index t 0 = t.val / 8 ∧ win0_2.index t 1 = 0) ∧
    (win0_3.index t 0 = t.val / 8 ∧ win0_3.index t 1 = 0) ∧ (win0_4.index t 0 = t.val / 8 ∧ win0_4.index t 1 = 0) ∧
    (win0_5.index t 0 = t.val / 8 ∧ win0_5.index t 1 = t.val % 8 - 5) ∧
    (win0_6.index t 0 = t.val % 8 / 2 ∧ win0_6.index t 1 = 0 ∧ win0_6.index t 2 = 0 ∧ win0_6.index t 3 = t.val % 8 % 2) ∧
    (win0_7.index t 0 = t.val / 8 ∧ win0_7.index t 1 = 0))

/-- Row `i` of the array, for row `i` of the block that point `t` works on. -/
def row (t : Fin cfg0.N) (i : Fin 1024) : Fin 4096 := ⟨1024 * (t.val / 8) + i.val, by have : cfg0.N = 32 := N_0; omega⟩

/-- Column `s` of the cotangents side by side, for column `s` of point `t`'s tile. -/
def col (t : Fin cfg0.N) (s : Fin 1024) : Fin 8192 := ⟨(t.val % 8) * 1024 + s.val, by omega⟩

/-- The cotangents side by side, as the reference lays them. -/
abbrev cot : Vec Ideal Cert.InBRefIdeal.S4096x8192 .f32 := val_main_v10 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))

/-- Pieces side by side, read at a column of piece `n`, whose first column is `pre`. -/
theorem cols_piece {r k l : ℕ} (xs : List ((s : Shape) × (s.Idx → EReal))) (h) (n : ℕ) (hn : n < xs.length)
    (x : (⟨2, ![r, l]⟩ : Shape).Idx → EReal) (hx : xs[n] = ⟨⟨2, ![r, l]⟩, x⟩) (pre : ℕ)
    (hp : (((xs.take n).map (·.1)).map fun s => if h : s.rank = 2 then s.size ((1 : Fin 2).cast h.symm) else 0).sum = pre)
    (i : Fin r) (j : Fin k) (s : Fin l) (hj : pre + s.val = j.val) :
    concatenate (⟨2, ![r, k]⟩ : Shape) (1 : Fin 2) xs h (ix2 i j) = x (ix2 i s) := by
  apply concatenate_apply_piece (k := n) (hk := hn) (x₁ := x) (hxk := hx) (hr := by rfl) (hpre := hp) (i := ix2 i s) (ha := by exact hj)
  intro b hb
  fin_cases b
  · rfl
  · exact absurd rfl hb

/-- The tile a point reads is its tile of the cotangents side by side. -/
theorem piece_at (t : Fin cfg0.N) (i s : Fin 1024) : piece m c t (ix2 i s) = cot m c (ix2 (row t i) (col t s)) := by
  have h8 : t.val % 8 < 8 := Nat.mod_lt _ (by decide)
  obtain ⟨⟨a0, b0⟩, ⟨a1, b1⟩, ⟨a2, b2⟩, ⟨a3, b3⟩, ⟨a4, b4⟩, ⟨a5, b5⟩, -⟩ := index t
  obtain h | h | h | h | h | h : t.val % 8 = 0 ∨ t.val % 8 = 1 ∨ t.val % 8 = 2 ∨ t.val % 8 = 3 ∨ t.val % 8 = 4 ∨ 5 ≤ t.val % 8 := by omega
  · refine Eq.trans ?_ (cols_piece _ _ 0 (Nat.lt_of_sub_eq_succ rfl) (val_main_v4 (F := Ideal) (m ((c : Thread nD τ).loc main_arg0))) rfl 0 rfl
      (row t i) (col t s) s (by show 0 + s.val = (t.val % 8) * 1024 + s.val; omega)).symm
    unfold piece
    rw [if_pos h]
    refine congrArg (m ((c : Thread nD τ).loc main_arg0)) (Shape.idx_ext₂ ?_ ?_)
    · show win0_0.index t 0 * 1024 + 1 * i.val = 1024 * (t.val / 8) + i.val
      omega
    · show win0_0.index t 1 * 1024 + 1 * s.val = s.val
      omega
  · refine Eq.trans ?_ (cols_piece _ _ 1 (Nat.lt_of_sub_eq_succ rfl) (val_main_v5 (F := Ideal) (m ((c : Thread nD τ).loc main_arg1))) rfl 1024 rfl
      (row t i) (col t s) s (by show 1024 + s.val = (t.val % 8) * 1024 + s.val; omega)).symm
    unfold piece
    rw [if_neg (by omega), if_pos h]
    refine congrArg (m ((c : Thread nD τ).loc main_arg1)) (Shape.idx_ext₂ ?_ ?_)
    · show win0_1.index t 0 * 1024 + 1 * i.val = 1024 * (t.val / 8) + i.val
      omega
    · show win0_1.index t 1 * 1024 + 1 * s.val = s.val
      omega
  · refine Eq.trans ?_ (cols_piece _ _ 2 (Nat.lt_of_sub_eq_succ rfl) (val_main_v6 (F := Ideal) (m ((c : Thread nD τ).loc main_arg2))) rfl 2048 rfl
      (row t i) (col t s) s (by show 2048 + s.val = (t.val % 8) * 1024 + s.val; omega)).symm
    unfold piece
    rw [if_neg (by omega), if_neg (by omega), if_pos h]
    refine congrArg (m ((c : Thread nD τ).loc main_arg2)) (Shape.idx_ext₂ ?_ ?_)
    · show win0_2.index t 0 * 1024 + 1 * i.val = 1024 * (t.val / 8) + i.val
      omega
    · show win0_2.index t 1 * 1024 + 1 * s.val = s.val
      omega
  · refine Eq.trans ?_ (cols_piece _ _ 3 (Nat.lt_of_sub_eq_succ rfl) (val_main_v7 (F := Ideal) (m ((c : Thread nD τ).loc main_arg3))) rfl 3072 rfl
      (row t i) (col t s) s (by show 3072 + s.val = (t.val % 8) * 1024 + s.val; omega)).symm
    unfold piece
    rw [if_neg (by omega), if_neg (by omega), if_neg (by omega), if_pos h]
    refine congrArg (m ((c : Thread nD τ).loc main_arg3)) (Shape.idx_ext₂ ?_ ?_)
    · show win0_3.index t 0 * 1024 + 1 * i.val = 1024 * (t.val / 8) + i.val
      omega
    · show win0_3.index t 1 * 1024 + 1 * s.val = s.val
      omega
  · refine Eq.trans ?_ (cols_piece _ _ 4 (Nat.lt_of_sub_eq_succ rfl) (val_main_v8 (F := Ideal) (m ((c : Thread nD τ).loc main_arg4))) rfl 4096 rfl
      (row t i) (col t s) s (by show 4096 + s.val = (t.val % 8) * 1024 + s.val; omega)).symm
    unfold piece
    rw [if_neg (by omega), if_neg (by omega), if_neg (by omega), if_neg (by omega), if_pos h]
    refine congrArg (m ((c : Thread nD τ).loc main_arg4)) (Shape.idx_ext₂ ?_ ?_)
    · show win0_4.index t 0 * 1024 + 1 * i.val = 1024 * (t.val / 8) + i.val
      omega
    · show win0_4.index t 1 * 1024 + 1 * s.val = s.val
      omega
  · refine Eq.trans ?_ (cols_piece _ _ 5 (Nat.lt_of_sub_eq_succ rfl) (val_main_v9 (F := Ideal) (m ((c : Thread nD τ).loc main_arg5))) rfl 5120 rfl
      (row t i) (col t s) ⟨(t.val % 8 - 5) * 1024 + s.val, by omega⟩
      (by show 5120 + ((t.val % 8 - 5) * 1024 + s.val) = (t.val % 8) * 1024 + s.val; omega)).symm
    unfold piece
    rw [if_neg (by omega), if_neg (by omega), if_neg (by omega), if_neg (by omega), if_neg (by omega)]
    refine congrArg (m ((c : Thread nD τ).loc main_arg5)) (Shape.idx_ext₂ ?_ ?_)
    · show win0_5.index t 0 * 1024 + 1 * i.val = 1024 * (t.val / 8) + i.val
      omega
    · show win0_5.index t 1 * 1024 + 1 * s.val = (t.val % 8 - 5) * 1024 + s.val
      rw [b5]; omega

/-- The reference's weight has the shards side by side. -/
theorem ref_cols (x : Vec Ideal S4x1x1024x2048 .bf16) (j : Fin 1024) (k : Fin 8192) :
    val_main_v2 (F := Ideal) x (ix2 j k) = x (ix4 ⟨k.val / 2048, by omega⟩ 0 j ⟨k.val % 2048, Nat.mod_lt _ (by decide)⟩) := by
  have e2 : idx_main_v2 (ix2 j k) = ix3 j ⟨k.val / 2048, by omega⟩ ⟨k.val % 2048, Nat.mod_lt _ (by decide)⟩ := by
    funext a
    refine Fin.ext ?_
    fin_cases a
    · show (j.val * 8192 + k.val) / 8192 = j.val
      omega
    · show (j.val * 8192 + k.val) / 2048 % 4 = k.val / 2048
      omega
    · show (j.val * 8192 + k.val) % 2048 = k.val % 2048
      omega
  rw [val_main_v2_apply, e2, val_main_v1_apply]
  generalize (⟨k.val / 2048, _⟩ : Fin 4) = p
  generalize (⟨k.val % 2048, _⟩ : Fin 2048) = s
  have e0 : idx_main_v0 (ix3 p j s) = ix4 p 0 j s := by
    funext a
    refine Fin.ext ?_
    fin_cases a
    · show ((p.val * 1024 + j.val) * 2048 + s.val) / 2097152 = p.val
      omega
    · rfl
    · show ((p.val * 1024 + j.val) * 2048 + s.val) / 2048 % 1024 = j.val
      omega
    · show ((p.val * 1024 + j.val) * 2048 + s.val) % 2048 = s.val
      omega
  rw [show idx_main_v1 (ix3 j p s) = ix3 p j s from funext fun a => by fin_cases a <;> rfl, val_main_v0_apply, e0]

/-- The block of the weight a point reads is its columns of the shards side by side. -/
theorem w_at (t : Fin cfg0.N) (j s : Fin 1024) :
    w m c t (ix4 0 0 j s) = val_main_v2 (F := Ideal) (m ((c : Thread nD τ).loc main_arg6)) (ix2 j (col t s)) := by
  refine Eq.trans (congrArg (m ((c : Thread nD τ).loc main_arg6)) (funext fun a => Fin.ext ?_)) (ref_cols _ j (col t s)).symm
  obtain ⟨h0, h1, h2, h3⟩ := (index t).2.2.2.2.2.2.1
  fin_cases a
  · show win0_6.index t 0 * 1 + 1 * 0 = ((t.val % 8) * 1024 + s.val) / 2048
    omega
  · show win0_6.index t 1 * 1 + 1 * 0 = 0
    omega
  · show win0_6.index t 2 * 1024 + 1 * j.val = j.val
    omega
  · show win0_6.index t 3 * 1024 + 1 * s.val = ((t.val % 8) * 1024 + s.val) % 2048
    omega

/-- The result at one place: a row of the cotangents against a row of the weight. -/
def entry (x : Vec Ideal Cert.InBRefIdeal.S4096x8192 .f32) (v : Vec Ideal Cert.InBRefIdeal.S1024x8192 .bf16) (i : Fin 4096) (j : Fin 1024) : EReal :=
  ∑ s : Fin 8192, x (ix2 i s) * v (ix2 j s)

/-- The reference's result at one place. -/
theorem ref_at (x0 x1 x2 x3 x4 : Vec Ideal S4096x1024 .bf16) (x5 : Vec Ideal S4096x3072 .bf16) (x6 : Vec Ideal S4x1x1024x2048 .bf16)
    (i : Fin 4096) (j : Fin 1024) : val_main_v14 (F := Ideal) x0 x1 x2 x3 x4 x5 x6 (ix2 i j) =
      entry (val_main_v10 (F := Ideal) x0 x1 x2 x3 x4 x5) (val_main_v2 (F := Ideal) x6) i j := by
  unfold entry val_main_v14 val_main_v13 val_main_v3
  generalize val_main_v2 (F := Ideal) x6 = v
  generalize val_main_v10 (F := Ideal) x0 x1 x2 x3 x4 x5 = x
  pointwise []

/-- The scratch after the last tile of a block of rows: the sum over all the columns. -/
theorem scratch (q : ℕ) (h : 8 * q + (8 - 1) < cfg0.N) (i j : Fin 1024) : (outsAt0 m c (8 * q + (8 - 1)) h).2 (ix2 i j) =
    entry (cot m c) (val_main_v2 (F := Ideal) (m ((c : Thread nD τ).loc main_arg6))) (row ⟨8 * q + (8 - 1), h⟩ i) j := by
  refine carried_tiles 8 1024 rfl (by decide) (fun n h => (outsAt0 m c n h).2 (ix2 i j))
    (fun t s => piece m c t (ix2 i s) * w m c t (ix4 0 0 j s))
    (fun n h h0 => (congrFun (first m c ⟨n, h⟩ h0) _).trans ((more_at ..).trans (by rw [zero_at, zero_add])))
    (fun n h h0 => (congrFun (later m c ⟨n + 1, h⟩ h0) _).trans (more_at ..)) q h _ fun k s hk hb => ?_
  have e : col ⟨8 * q + k.val, hk⟩ s = ⟨k.val * 1024 + s.val, hb⟩ :=
    Fin.ext (by show ((8 * q + k.val) % 8) * 1024 + s.val = k.val * 1024 + s.val; omega)
  have e' : row ⟨8 * q + k.val, hk⟩ i = row ⟨8 * q + (8 - 1), h⟩ i :=
    Fin.ext (by show 1024 * ((8 * q + k.val) / 8) + i.val = 1024 * ((8 * q + (8 - 1)) / 8) + i.val; omega)
  rw [piece_at, w_at, e, e']

/-- The kernel's array at one place of the block that point `t` finishes. -/
theorem arr_at (t : Fin cfg0.N) (ht : t.val % 8 = 7) (i j : Fin 1024) : (dats m 0 c).arrAt 7 cfg0.N (ix2 (row t i) j) =
    entry (cot m c) (val_main_v2 (F := Ideal) (m ((c : Thread nD τ).loc main_arg6))) (row t i) j := by
  have e : ((cfg0.win 7).blk t).view.emb (ix2 i j) = (ix2 (row t i) j : S4096x1024.Idx) := by
    obtain ⟨h0, h1⟩ := (index t).2.2.2.2.2.2.2
    refine Shape.idx_ext₂ ?_ ?_
    · show win0_7.index t 0 * 1024 + 1 * i.val = 1024 * (t.val / 8) + i.val
      omega
    · show win0_7.index t 1 * 1024 + 1 * j.val = j.val
      omega
  rw [Value.final7, ← e]
  refine (congrFun (Value.flushed7_eq m c t ((flush0_7 _).mpr ht)) (ix2 i j)).symm.trans ?_
  rw [Value.flushed7, last m c t ht]
  refine (round_at _ i j).trans ?_
  obtain ⟨n, hn⟩ := t
  obtain ⟨q, rfl⟩ : ∃ q, n = 8 * q + (8 - 1) := ⟨n / 8, by dsimp only at ht; omega⟩
  exact scratch m c q hn i j

/-- The kernel's array is the reference's. -/
theorem out : (dats m 0 c).arrAt 7 cfg0.N = val_main_v14 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  funext (j : S4096x1024.Idx)
  have hj : (j 0).val < 4096 := (j 0).isLt
  have hN : cfg0.N = 32 := N_0
  let t : Fin cfg0.N := ⟨8 * ((j 0).val / 1024) + 7, by omega⟩
  have e : j = ix2 (row t ⟨(j 0).val % 1024, Nat.mod_lt _ (by decide)⟩) (j 1) :=
    Shape.idx_ext₂ (by show (j 0).val = 1024 * ((8 * ((j 0).val / 1024) + 7) / 8) + (j 0).val % 1024; omega) rfl
  rw [e]
  exact (arr_at m c t (by show (8 * ((j 0).val / 1024) + 7) % 8 = 7; omega) _ _).trans (ref_at ..).symm

/-- From equal arguments the kernel's result over the extended reals is the reference's. -/
theorem algebraic : Cert.algebraic_InBIdeal_InBRefIdeal := by
  intro m ρ m' ρ' _ hagree
  refine ⟨_, Cert.InBIdeal.Value.run_blocks (F := Ideal) m ρ, ?_⟩
  refine (θ_run Cert.InBRefIdeal.defs _ _).mono (fun r h c => ?_) (Cert.InBRefIdeal.Value.run (F := Ideal) m' ρ')
  obtain ⟨h0, hk⟩ := h c
  obtain ⟨e0, e1, e2, e3, e4, e5, e6⟩ := hagree c
  refine ⟨(h0.trans (val_main_v14_eq _ _ _ _ _ _ _)).trans (Eq.trans ?_ (out m c).symm), hk⟩
  simp only [e0, e1, e2, e3, e4, e5, e6]

end Cert.Proof.InB

end
-- ==== Proof.Mm.MmIn.lean ====
module

public import proofs.«01_k».proof.Defs
public import proofs.«01_k».proof.Proof.Mm.Common
public import proofs.«01_k».proof.Proof.Mm.InB
public import proofs.«01_k».proof.Proof.Gen.MmIn.Frame
public import proofs.«01_k».proof.Proof.Gen.MmInIdeal.Value
public import proofs.«01_k».proof.Proof.Gen.MmInRefIdeal.Run
public import proofs.«01_k».proof.Proof.Gen.MmInRefIdeal.Read
public import Idealize.ShloMosaic.Adequacy
public import Idealize.ShloMosaic.Init

@[expose] public section

/-! The layer's first product: the activations times the weight, plus the bias. Each grid point takes 1024 rows of the activations
and 1024 columns of one shard of the weight, so nothing is carried. -/

set_option maxRecDepth 16384

noncomputable section

namespace Cert.Proof.MmIn

open Cert Cert.Mm Idealize.ShloMosaic Idealize.ShloMosaic.TcCoe Idealize.SL.Sem
open Cert.MmInIdeal Cert.MmInIdeal.Gen Cert.MmInRefIdeal.Read

/-- The kernel keeps its arguments and ends with every counter at zero. -/
theorem frame_p : Cert.quiescent_MmIn := fun m ρ _ => Cert.MmIn.Gen.frame m ρ

/-- So does its reading over the extended reals. -/
theorem frame_pi : Cert.quiescent_MmInIdeal := fun m ρ _ => Cert.MmInIdeal.Gen.frame m ρ

/-- The reference keeps its arguments; it has no counters. -/
theorem frame_ri : Cert.quiescent_MmInRefIdeal := fun m ρ _ =>
  (θ_run Cert.MmInRefIdeal.defs _ _).mono
    (fun r h => ⟨fun c => (h c).2, sem_eq_zero_of_no_sems (by decide) r.2⟩)
    (Cert.MmInRefIdeal.Value.run (F := Ideal) m ρ)

/-- One block of the result: each row of the activations' block against each column of the weight's block, plus the bias. -/
theorem block_at (x0 : Vec Ideal S1024x1024 .bf16) (x1 : Vec Ideal S1x1x1024x1024 .bf16) (x2 : Vec Ideal S1x1024 .f32) (i j : Fin 1024) :
    out0_3 (F := Ideal) x0 x1 x2 (ix2 i j) = (∑ k : Fin 1024, x0 (ix2 i k) * x1 (ix4 0 0 k j)) + x2 (ix2 0 j) := by
  unfold out0_3
  rw [View.canon_unit_zero hz2, View.ld_unit_zero (S := S1024x1024) hz2, View.ld_unit_zero (S := S1x1x1024x1024) hz4,
    View.ld_unit_zero (S := S1x1024) hz2]
  show k0_pay1 (F := Ideal) x1 x0 x2 (ix2 i j) = _
  pointwise [k0_pay1]

/-- The result at one place: a row of the activations against a column of the weight, plus the column's bias. -/
def entry (x0 : Vec Ideal S4096x1024 .bf16) (x1 : Vec Ideal S4x1x1024x2048 .bf16) (x2 : Vec Ideal S1x8192 .f32) (i : Fin 4096) (j : Fin 8192) : EReal :=
  (∑ k : Fin 1024, x0 (ix2 i k) * val_main_v2 (F := Ideal) x1 (ix2 k j)) + x2 (ix2 0 j)

/-- The reference's weight has the shards side by side. -/
theorem ref_cols (x : Vec Ideal S4x1x1024x2048 .bf16) (k : Fin 1024) (j : Fin 8192) :
    val_main_v2 (F := Ideal) x (ix2 k j) = x (ix4 ⟨j.val / 2048, by omega⟩ 0 k ⟨j.val % 2048, Nat.mod_lt _ (by decide)⟩) :=
  Cert.Proof.InB.ref_cols x k j

/-- The reference's result at one place. -/
theorem ref_at (x0 : Vec Ideal S4096x1024 .bf16) (x1 : Vec Ideal S4x1x1024x2048 .bf16) (x2 : Vec Ideal S1x8192 .f32) (i : Fin 4096) (j : Fin 8192) :
    val_main_v8 (F := Ideal) x0 x1 x2 (ix2 i j) = entry x0 x1 x2 i j := by
  unfold entry val_main_v8 val_main_v7 val_main_v6 val_main_v5 val_main_v4 val_main_v3
  generalize val_main_v2 (F := Ideal) x1 = w
  pointwise []

variable (m : (ℓ : Loc nD τ sig) → Buf (Elt Ideal) ℓ) (c : Dev nD)

/-- The windows' block indices. -/
theorem index : ∀ t : Fin cfg0.N, (win0_0.index t 0 = t.val % 4 ∧ win0_0.index t 1 = 0) ∧
    (win0_1.index t 0 = t.val / 8 ∧ win0_1.index t 1 = 0 ∧ win0_1.index t 2 = 0 ∧ win0_1.index t 3 = t.val / 4 % 2) ∧
    (win0_2.index t 0 = 0 ∧ win0_2.index t 1 = t.val / 4) ∧ (win0_3.index t 0 = t.val % 4 ∧ win0_3.index t 1 = t.val / 4) :=
  (by decide +kernel : ∀ t : Fin grid0.N, (win0_0.index t 0 = t.val % 4 ∧ win0_0.index t 1 = 0) ∧
    (win0_1.index t 0 = t.val / 8 ∧ win0_1.index t 1 = 0 ∧ win0_1.index t 2 = 0 ∧ win0_1.index t 3 = t.val / 4 % 2) ∧
    (win0_2.index t 0 = 0 ∧ win0_2.index t 1 = t.val / 4) ∧ (win0_3.index t 0 = t.val % 4 ∧ win0_3.index t 1 = t.val / 4))

/-- Row `i` of the array, for row `i` of point `t`'s block. -/
def row (t : Fin cfg0.N) (i : Fin 1024) : Fin 4096 := ⟨1024 * (t.val % 4) + i.val, by omega⟩

/-- Column `j` of the array, for column `j` of point `t`'s block. -/
def col (t : Fin cfg0.N) (j : Fin 1024) : Fin 8192 := ⟨1024 * (t.val / 4) + j.val, by have : cfg0.N = 32 := N_0; omega⟩

theorem rows_at (t : Fin cfg0.N) (i k : Fin 1024) :
    iblk m c 0 t (ix2 i k) = m ((c : Thread nD τ).loc main_arg0) (ix2 (row t i) k) := by
  obtain ⟨⟨h0, h1⟩, -⟩ := index t
  refine congrArg (m ((c : Thread nD τ).loc main_arg0)) (Shape.idx_ext₂ ?_ ?_)
  · show win0_0.index t 0 * 1024 + 1 * i.val = 1024 * (t.val % 4) + i.val
    omega
  · show win0_0.index t 1 * 1024 + 1 * k.val = k.val
    omega

theorem weight (t : Fin cfg0.N) (k j : Fin 1024) :
    iblk m c 1 t (ix4 0 0 k j) = val_main_v2 (F := Ideal) (m ((c : Thread nD τ).loc main_arg1)) (ix2 k (col t j)) := by
  refine Eq.trans (congrArg (m ((c : Thread nD τ).loc main_arg1)) (funext fun a => Fin.ext ?_)) (ref_cols _ k (col t j)).symm
  obtain ⟨h0, h1, h2, h3⟩ := (index t).2.1
  fin_cases a
  · show win0_1.index t 0 * 1 + 1 * 0 = (1024 * (t.val / 4) + j.val) / 2048
    omega
  · show win0_1.index t 1 * 1 + 1 * 0 = 0
    omega
  · show win0_1.index t 2 * 1024 + 1 * k.val = k.val
    omega
  · show win0_1.index t 3 * 1024 + 1 * j.val = (1024 * (t.val / 4) + j.val) % 2048
    omega

theorem bias (t : Fin cfg0.N) (j : Fin 1024) :
    iblk m c 2 t (ix2 0 j) = m ((c : Thread nD τ).loc main_arg2) (ix2 0 (col t j)) := by
  obtain ⟨h0, h1⟩ := (index t).2.2.1
  refine congrArg (m ((c : Thread nD τ).loc main_arg2)) (Shape.idx_ext₂ ?_ ?_)
  · show win0_2.index t 0 * 1 + 1 * 0 = 0
    omega
  · show win0_2.index t 1 * 1024 + 1 * j.val = 1024 * (t.val / 4) + j.val
    omega

/-- The kernel's array at one place of the block that point `t` writes. -/
theorem arr_at (t : Fin cfg0.N) (i j : Fin 1024) : (dats m 0 c).arrAt 3 cfg0.N (ix2 (row t i) (col t j)) =
    entry (m ((c : Thread nD τ).loc main_arg0)) (m ((c : Thread nD τ).loc main_arg1)) (m ((c : Thread nD τ).loc main_arg2)) (row t i) (col t j) := by
  have e : ((cfg0.win 3).blk t).view.emb (ix2 i j) = (ix2 (row t i) (col t j) : S4096x8192.Idx) := by
    obtain ⟨h0, h1⟩ := (index t).2.2.2
    refine Shape.idx_ext₂ ?_ ?_
    · show win0_3.index t 0 * 1024 + 1 * i.val = 1024 * (t.val % 4) + i.val
      omega
    · show win0_3.index t 1 * 1024 + 1 * j.val = 1024 * (t.val / 4) + j.val
      omega
  rw [← e]
  refine (congrFun (Value.blocks3 m c t (flush0_3 t)) (ix2 i j)).trans ?_
  rw [Value.flushed3]
  refine (block_at _ _ _ i j).trans (congrArg₂ (· + ·) (Finset.sum_congr rfl fun k _ => ?_) (bias m c t j))
  rw [rows_at, weight]

/-- The kernel's array is the reference's. -/
theorem out : (dats m 0 c).arrAt 3 cfg0.N =
    val_main_v8 (F := Ideal) (m ((c : Thread nD τ).loc main_arg0)) (m ((c : Thread nD τ).loc main_arg1)) (m ((c : Thread nD τ).loc main_arg2)) := by
  funext (j : S4096x8192.Idx)
  have h0 : (j 0).val < 4096 := (j 0).isLt
  have h1 : (j 1).val < 8192 := (j 1).isLt
  have hN : cfg0.N = 32 := N_0
  let t : Fin cfg0.N := ⟨4 * ((j 1).val / 1024) + (j 0).val / 1024, by omega⟩
  have e : j = ix2 (row t ⟨(j 0).val % 1024, Nat.mod_lt _ (by decide)⟩) (col t ⟨(j 1).val % 1024, Nat.mod_lt _ (by decide)⟩) :=
    Shape.idx_ext₂
      (by show (j 0).val = 1024 * ((4 * ((j 1).val / 1024) + (j 0).val / 1024) % 4) + (j 0).val % 1024; omega)
      (by show (j 1).val = 1024 * ((4 * ((j 1).val / 1024) + (j 0).val / 1024) / 4) + (j 1).val % 1024; omega)
  rw [e]
  exact (arr_at m c t _ _).trans (ref_at ..).symm

/-- From equal arguments the kernel's result over the extended reals is the reference's. -/
theorem algebraic : Cert.algebraic_MmInIdeal_MmInRefIdeal := by
  intro m ρ m' ρ' _ hagree
  refine ⟨_, Cert.MmInIdeal.Value.run_blocks (F := Ideal) m ρ, ?_⟩
  refine (θ_run Cert.MmInRefIdeal.defs _ _).mono (fun r h c => ?_) (Cert.MmInRefIdeal.Value.run (F := Ideal) m' ρ')
  obtain ⟨h0, hk⟩ := h c
  obtain ⟨e0, e1, e2⟩ := hagree c
  refine ⟨(h0.trans (val_main_v8_eq _ _ _)).trans (Eq.trans ?_ (out m c).symm), hk⟩
  simp only [e0, e1, e2]

end Cert.Proof.MmIn

end
-- ==== Proof.Mm.MmBranch.lean ====
module

public import proofs.«01_k».proof.Defs
public import proofs.«01_k».proof.Proof.Mm.Common
public import proofs.«01_k».proof.Proof.Mm.BranchB
public import proofs.«01_k».proof.Proof.Gen.MmBranch.Frame
public import proofs.«01_k».proof.Proof.Gen.MmBranchIdeal.Value
public import proofs.«01_k».proof.Proof.Gen.MmBranchRefIdeal.Run
public import proofs.«01_k».proof.Proof.Gen.MmBranchRefIdeal.Read
public import Idealize.ShloMosaic.Adequacy
public import Idealize.ShloMosaic.Init

@[expose] public section

/-! The branch's product: the activations times the weight. Each grid point takes 1024 rows of the activations and the whole weight,
so nothing is carried. -/

set_option maxRecDepth 16384

noncomputable section

namespace Cert.Proof.MmBranch

open Cert Cert.Mm Idealize.ShloMosaic Idealize.ShloMosaic.TcCoe Idealize.SL.Sem
open Cert.MmBranchIdeal Cert.MmBranchIdeal.Gen Cert.MmBranchRefIdeal.Read

/-- The kernel keeps its arguments and ends with every counter at zero. -/
theorem frame_p : Cert.quiescent_MmBranch := fun m ρ _ => Cert.MmBranch.Gen.frame m ρ

/-- So does its reading over the extended reals. -/
theorem frame_pi : Cert.quiescent_MmBranchIdeal := fun m ρ _ => Cert.MmBranchIdeal.Gen.frame m ρ

/-- The reference keeps its arguments; it has no counters. -/
theorem frame_ri : Cert.quiescent_MmBranchRefIdeal := fun m ρ _ =>
  (θ_run Cert.MmBranchRefIdeal.defs _ _).mono
    (fun r h => ⟨fun c => (h c).2, sem_eq_zero_of_no_sems (by decide) r.2⟩)
    (Cert.MmBranchRefIdeal.Value.run (F := Ideal) m ρ)

open Cert.Proof.BranchB (rows)

/-- One block of the result: each row of the activations' block against each column of the weight. -/
theorem block_at (x0 : Vec Ideal S1024x1024 .bf16) (x1 : Vec Ideal S4x1x256x1024 .bf16) (i j : Fin 1024) :
    out0_2 (F := Ideal) x0 x1 (ix2 i j) = ∑ k : Fin 1024, x0 (ix2 i k) * rows x1 (ix2 k j) := by
  unfold out0_2
  rw [View.canon_unit_zero hz2, View.ld_unit_zero (S := S1024x1024) hz2, View.ld_unit_zero (S := S4x1x256x1024) hz4]
  show k0_pay1 (F := Ideal) x1 x0 (ix2 i j) = _
  have e : k0_pay1 (F := Ideal) x1 x0 = truncf .bf16 (matmul dot_S1024x1024_S1024x1024_S1024x1024_1_0_0_1_n_n none x0 (rows x1)
    (constant S1024x1024 .f32 0x00000000#32)) bitsLt_bf16_f32 := rfl
  rw [e]
  generalize rows x1 = w
  pointwise []

/-- The result at one place: a row of the activations against a column of the weight. -/
def entry (x0 : Vec Ideal S4096x1024 .bf16) (x1 : Vec Ideal S4x1x256x1024 .bf16) (i : Fin 4096) (j : Fin 1024) : EReal :=
  ∑ k : Fin 1024, x0 (ix2 i k) * rows x1 (ix2 k j)

/-- The reference's result at one place. -/
theorem ref_at (x0 : Vec Ideal S4096x1024 .bf16) (x1 : Vec Ideal S4x1x256x1024 .bf16) (i : Fin 4096) (j : Fin 1024) :
    val_main_v4 (F := Ideal) x0 x1 (ix2 i j) = entry x0 x1 i j := by
  unfold entry val_main_v4 val_main_v3 val_main_v2 val_main_v1
  rw [show val_main_v0 (F := Ideal) x1 = rows x1 from Cert.Proof.BranchB.ref_rows x1]
  generalize rows x1 = w
  pointwise []

variable (m : (ℓ : Loc nD τ sig) → Buf (Elt Ideal) ℓ) (c : Dev nD)

/-- The windows' block indices. -/
theorem index : ∀ t : Fin cfg0.N, (win0_0.index t 0 = t.val ∧ win0_0.index t 1 = 0) ∧ (∀ a, win0_1.index t a = 0) ∧
    (win0_2.index t 0 = t.val ∧ win0_2.index t 1 = 0) :=
  (by decide +kernel : ∀ t : Fin grid0.N, (win0_0.index t 0 = t.val ∧ win0_0.index t 1 = 0) ∧ (∀ a, win0_1.index t a = 0) ∧
    (win0_2.index t 0 = t.val ∧ win0_2.index t 1 = 0))

/-- Row `i` of the array, for row `i` of point `t`'s block. -/
def row (t : Fin cfg0.N) (i : Fin 1024) : Fin 4096 := ⟨1024 * t.val + i.val, by have : cfg0.N = 4 := N_0; omega⟩

theorem rows_at (t : Fin cfg0.N) (i : Fin 1024) (k : Fin 1024) :
    iblk m c 0 t (ix2 i k) = m ((c : Thread nD τ).loc main_arg0) (ix2 (row t i) k) := by
  refine congrArg (m ((c : Thread nD τ).loc main_arg0)) (Shape.idx_ext₂ ?_ ?_)
  · show win0_0.index t 0 * 1024 + 1 * i.val = 1024 * t.val + i.val
    rw [(index t).1.1]; omega
  · show win0_0.index t 1 * 1024 + 1 * k.val = k.val
    rw [(index t).1.2]; omega

theorem weight (t : Fin cfg0.N) : iblk m c 1 t = m ((c : Thread nD τ).loc main_arg1) := by
  funext y
  refine congrArg (m ((c : Thread nD τ).loc main_arg1)) (funext fun a => Fin.ext ?_)
  show win0_1.index t a * _ + 1 * (y a).val = (y a).val
  rw [(index t).2.1 a]; omega

/-- The kernel's array at one place of the block that point `t` writes. -/
theorem arr_at (t : Fin cfg0.N) (i j : Fin 1024) : (dats m 0 c).arrAt 2 cfg0.N (ix2 (row t i) j) =
    entry (m ((c : Thread nD τ).loc main_arg0)) (m ((c : Thread nD τ).loc main_arg1)) (row t i) j := by
  have e : ((cfg0.win 2).blk t).view.emb (ix2 i j) = (ix2 (row t i) j : S4096x1024.Idx) := by
    refine Shape.idx_ext₂ ?_ ?_
    · show win0_2.index t 0 * 1024 + 1 * i.val = 1024 * t.val + i.val
      rw [(index t).2.2.1]; omega
    · show win0_2.index t 1 * 1024 + 1 * j.val = j.val
      rw [(index t).2.2.2]; omega
  rw [← e]
  refine (congrFun (Value.blocks2 m c t (flush0_2 t)) (ix2 i j)).trans ?_
  rw [Value.flushed2]
  refine (block_at _ _ i j).trans (Finset.sum_congr rfl fun k _ => ?_)
  rw [rows_at, weight]

/-- The kernel's array is the reference's. -/
theorem out : (dats m 0 c).arrAt 2 cfg0.N =
    val_main_v4 (F := Ideal) (m ((c : Thread nD τ).loc main_arg0)) (m ((c : Thread nD τ).loc main_arg1)) := by
  funext (j : S4096x1024.Idx)
  have hj : (j 0).val < 4096 := (j 0).isLt
  have hN : cfg0.N = 4 := N_0
  have e : j = ix2 (row ⟨(j 0).val / 1024, by omega⟩ ⟨(j 0).val % 1024, Nat.mod_lt _ (by decide)⟩) (j 1) :=
    Shape.idx_ext₂ (by show (j 0).val = 1024 * ((j 0).val / 1024) + (j 0).val % 1024; omega) rfl
  rw [e]
  exact (arr_at m c _ _ _).trans (ref_at ..).symm

/-- From equal arguments the kernel's result over the extended reals is the reference's. -/
theorem algebraic : Cert.algebraic_MmBranchIdeal_MmBranchRefIdeal := by
  intro m ρ m' ρ' _ hagree
  refine ⟨_, Cert.MmBranchIdeal.Value.run_blocks (F := Ideal) m ρ, ?_⟩
  refine (θ_run Cert.MmBranchRefIdeal.defs _ _).mono (fun r h c => ?_) (Cert.MmBranchRefIdeal.Value.run (F := Ideal) m' ρ')
  obtain ⟨h0, hk⟩ := h c
  obtain ⟨e0, e1⟩ := hagree c
  refine ⟨(h0.trans (val_main_v4_eq _ _)).trans (Eq.trans ?_ (out m c).symm), hk⟩
  simp only [e0, e1]

end Cert.Proof.MmBranch

end
-- ==== Proof.Mm.MmFfnIn.lean ====
module

public import proofs.«01_k».proof.Defs
public import proofs.«01_k».proof.Proof.Mm.Common
public import proofs.«01_k».proof.Proof.Mm.FfnInB
public import proofs.«01_k».proof.Proof.Gen.MmFfnIn.Frame
public import proofs.«01_k».proof.Proof.Gen.MmFfnInIdeal.Value
public import proofs.«01_k».proof.Proof.Gen.MmFfnInRefIdeal.Run
public import proofs.«01_k».proof.Proof.Gen.MmFfnInRefIdeal.Read
public import Idealize.ShloMosaic.Adequacy
public import Idealize.ShloMosaic.Init

@[expose] public section

/-! The feed-forward's first product: the activations times the weight. Each grid point takes 1024 rows of the activations and one
shard of the weight, so nothing is carried. -/

set_option maxRecDepth 16384

noncomputable section

namespace Cert.Proof.MmFfnIn

open Cert Cert.Mm Idealize.ShloMosaic Idealize.ShloMosaic.TcCoe Idealize.SL.Sem
open Cert.MmFfnInIdeal Cert.MmFfnInIdeal.Gen Cert.MmFfnInRefIdeal.Read

/-- The kernel keeps its arguments and ends with every counter at zero. -/
theorem frame_p : Cert.quiescent_MmFfnIn := fun m ρ _ => Cert.MmFfnIn.Gen.frame m ρ

/-- So does its reading over the extended reals. -/
theorem frame_pi : Cert.quiescent_MmFfnInIdeal := fun m ρ _ => Cert.MmFfnInIdeal.Gen.frame m ρ

/-- The reference keeps its arguments; it has no counters. -/
theorem frame_ri : Cert.quiescent_MmFfnInRefIdeal := fun m ρ _ =>
  (θ_run Cert.MmFfnInRefIdeal.defs _ _).mono
    (fun r h => ⟨fun c => (h c).2, sem_eq_zero_of_no_sems (by decide) r.2⟩)
    (Cert.MmFfnInRefIdeal.Value.run (F := Ideal) m ρ)

/-- One block of the result: each row of the activations' block against each column of the shard. -/
theorem block_at (x0 : Vec Ideal S1024x1024 .bf16) (x1 : Vec Ideal S1x1x1024x1408 .bf16) (i : Fin 1024) (j : Fin 1408) :
    out0_2 (F := Ideal) x0 x1 (ix2 i j) = ∑ k : Fin 1024, x0 (ix2 i k) * x1 (ix4 0 0 k j) := by
  unfold out0_2
  rw [View.canon_unit_zero hz2, View.ld_unit_zero (S := S1024x1024) hz2, View.ld_unit_zero (S := S1x1x1024x1408) hz4]
  show k0_pay1 (F := Ideal) x1 x0 (ix2 i j) = _
  pointwise [k0_pay1]

/-- The result at one place: a row of the activations against a column of the weight. -/
def entry (x0 : Vec Ideal S4096x1024 .bf16) (x1 : Vec Ideal S4x1x1024x1408 .bf16) (i : Fin 4096) (j : Fin 5632) : EReal :=
  ∑ k : Fin 1024, x0 (ix2 i k) * val_main_v2 (F := Ideal) x1 (ix2 k j)

/-- The reference's weight has the shards side by side. -/
theorem ref_cols (x : Vec Ideal S4x1x1024x1408 .bf16) (k : Fin 1024) (p : Fin 4) (j : Fin 1408) (h : p.val * 1408 + j.val < 5632) :
    val_main_v2 (F := Ideal) x (ix2 k ⟨p.val * 1408 + j.val, h⟩) = x (ix4 p 0 k j) :=
  Cert.Proof.FfnInB.ref_cols x k p j h

/-- The reference's result at one place. -/
theorem ref_at (x0 : Vec Ideal S4096x1024 .bf16) (x1 : Vec Ideal S4x1x1024x1408 .bf16) (i : Fin 4096) (j : Fin 5632) :
    val_main_v6 (F := Ideal) x0 x1 (ix2 i j) = entry x0 x1 i j := by
  unfold entry val_main_v6 val_main_v5 val_main_v4 val_main_v3
  generalize val_main_v2 (F := Ideal) x1 = w
  pointwise []

variable (m : (ℓ : Loc nD τ sig) → Buf (Elt Ideal) ℓ) (c : Dev nD)

/-- The windows' block indices. -/
theorem index : ∀ t : Fin cfg0.N, (win0_0.index t 0 = t.val % 4 ∧ win0_0.index t 1 = 0) ∧
    (win0_1.index t 0 = t.val / 4 ∧ win0_1.index t 1 = 0 ∧ win0_1.index t 2 = 0 ∧ win0_1.index t 3 = 0) ∧
    (win0_2.index t 0 = t.val % 4 ∧ win0_2.index t 1 = t.val / 4) :=
  (by decide +kernel : ∀ t : Fin grid0.N, (win0_0.index t 0 = t.val % 4 ∧ win0_0.index t 1 = 0) ∧
    (win0_1.index t 0 = t.val / 4 ∧ win0_1.index t 1 = 0 ∧ win0_1.index t 2 = 0 ∧ win0_1.index t 3 = 0) ∧
    (win0_2.index t 0 = t.val % 4 ∧ win0_2.index t 1 = t.val / 4))

/-- Row `i` of the array, for row `i` of point `t`'s block. -/
def row (t : Fin cfg0.N) (i : Fin 1024) : Fin 4096 := ⟨1024 * (t.val % 4) + i.val, by omega⟩

/-- The shard that point `t` reads. -/
def shard (t : Fin cfg0.N) : Fin 4 := ⟨t.val / 4, by have := t.isLt; have : cfg0.N = 16 := N_0; omega⟩

/-- Column `j` of the array, for column `j` of point `t`'s block. -/
def col (t : Fin cfg0.N) (j : Fin 1408) : Fin 5632 := ⟨(shard t).val * 1408 + j.val, by have := (shard t).isLt; omega⟩

theorem rows_at (t : Fin cfg0.N) (i k : Fin 1024) :
    iblk m c 0 t (ix2 i k) = m ((c : Thread nD τ).loc main_arg0) (ix2 (row t i) k) := by
  obtain ⟨⟨h0, h1⟩, -⟩ := index t
  refine congrArg (m ((c : Thread nD τ).loc main_arg0)) (Shape.idx_ext₂ ?_ ?_)
  · show win0_0.index t 0 * 1024 + 1 * i.val = 1024 * (t.val % 4) + i.val
    omega
  · show win0_0.index t 1 * 1024 + 1 * k.val = k.val
    omega

theorem weight (t : Fin cfg0.N) (k : Fin 1024) (j : Fin 1408) :
    iblk m c 1 t (ix4 0 0 k j) = val_main_v2 (F := Ideal) (m ((c : Thread nD τ).loc main_arg1)) (ix2 k (col t j)) := by
  refine Eq.trans (congrArg (m ((c : Thread nD τ).loc main_arg1)) (funext fun a => Fin.ext ?_)) (ref_cols _ k (shard t) j _).symm
  obtain ⟨h0, h1, h2, h3⟩ := (index t).2.1
  fin_cases a
  · show win0_1.index t 0 * 1 + 1 * 0 = t.val / 4
    omega
  · show win0_1.index t 1 * 1 + 1 * 0 = 0
    omega
  · show win0_1.index t 2 * 1024 + 1 * k.val = k.val
    omega
  · show win0_1.index t 3 * 1408 + 1 * j.val = j.val
    omega

/-- The kernel's array at one place of the block that point `t` writes. -/
theorem arr_at (t : Fin cfg0.N) (i : Fin 1024) (j : Fin 1408) : (dats m 0 c).arrAt 2 cfg0.N (ix2 (row t i) (col t j)) =
    entry (m ((c : Thread nD τ).loc main_arg0)) (m ((c : Thread nD τ).loc main_arg1)) (row t i) (col t j) := by
  have e : ((cfg0.win 2).blk t).view.emb (ix2 i j) = (ix2 (row t i) (col t j) : S4096x5632.Idx) := by
    obtain ⟨h0, h1⟩ := (index t).2.2
    refine Shape.idx_ext₂ ?_ ?_
    · show win0_2.index t 0 * 1024 + 1 * i.val = 1024 * (t.val % 4) + i.val
      omega
    · show win0_2.index t 1 * 1408 + 1 * j.val = (t.val / 4) * 1408 + j.val
      omega
  rw [← e]
  refine (congrFun (Value.blocks2 m c t (flush0_2 t)) (ix2 i j)).trans ?_
  rw [Value.flushed2]
  refine (block_at _ _ i j).trans (Finset.sum_congr rfl fun k _ => ?_)
  rw [rows_at, weight]

/-- The kernel's array is the reference's. -/
theorem out : (dats m 0 c).arrAt 2 cfg0.N =
    val_main_v6 (F := Ideal) (m ((c : Thread nD τ).loc main_arg0)) (m ((c : Thread nD τ).loc main_arg1)) := by
  funext (j : S4096x5632.Idx)
  have h0 : (j 0).val < 4096 := (j 0).isLt
  have h1 : (j 1).val < 5632 := (j 1).isLt
  have hN : cfg0.N = 16 := N_0
  let t : Fin cfg0.N := ⟨4 * ((j 1).val / 1408) + (j 0).val / 1024, by omega⟩
  have e : j = ix2 (row t ⟨(j 0).val % 1024, Nat.mod_lt _ (by decide)⟩) (col t ⟨(j 1).val % 1408, Nat.mod_lt _ (by decide)⟩) :=
    Shape.idx_ext₂
      (by show (j 0).val = 1024 * ((4 * ((j 1).val / 1408) + (j 0).val / 1024) % 4) + (j 0).val % 1024; omega)
      (by show (j 1).val = ((4 * ((j 1).val / 1408) + (j 0).val / 1024) / 4) * 1408 + (j 1).val % 1408; omega)
  rw [e]
  exact (arr_at m c t _ _).trans (ref_at ..).symm

/-- From equal arguments the kernel's result over the extended reals is the reference's. -/
theorem algebraic : Cert.algebraic_MmFfnInIdeal_MmFfnInRefIdeal := by
  intro m ρ m' ρ' _ hagree
  refine ⟨_, Cert.MmFfnInIdeal.Value.run_blocks (F := Ideal) m ρ, ?_⟩
  refine (θ_run Cert.MmFfnInRefIdeal.defs _ _).mono (fun r h c => ?_) (Cert.MmFfnInRefIdeal.Value.run (F := Ideal) m' ρ')
  obtain ⟨h0, hk⟩ := h c
  obtain ⟨e0, e1⟩ := hagree c
  refine ⟨(h0.trans (val_main_v6_eq _ _)).trans (Eq.trans ?_ (out m c).symm), hk⟩
  simp only [e0, e1]

end Cert.Proof.MmFfnIn

end
-- ==== Proof.Mm.MmFfnOut.lean ====
module

public import proofs.«01_k».proof.Defs
public import proofs.«01_k».proof.Proof.Mm.Common
public import proofs.«01_k».proof.Proof.Mm.FfnOutB
public import proofs.«01_k».proof.Proof.Gen.MmFfnOut.Frame
public import proofs.«01_k».proof.Proof.Gen.MmFfnOutIdeal.Value
public import proofs.«01_k».proof.Proof.Gen.MmFfnOutRefIdeal.Run
public import proofs.«01_k».proof.Proof.Gen.MmFfnOutRefIdeal.Read
public import Idealize.ShloMosaic.Adequacy
public import Idealize.ShloMosaic.Init

@[expose] public section

/-! The feed-forward's second product: the activations times the weight. Each grid point takes 1024 rows of the activations and the
whole weight, so nothing is carried. -/

set_option maxRecDepth 16384

noncomputable section

namespace Cert.Proof.MmFfnOut

open Cert Cert.Mm Idealize.ShloMosaic Idealize.ShloMosaic.TcCoe Idealize.SL.Sem
open Cert.MmFfnOutIdeal Cert.MmFfnOutIdeal.Gen Cert.MmFfnOutRefIdeal.Read

/-- The kernel keeps its arguments and ends with every counter at zero. -/
theorem frame_p : Cert.quiescent_MmFfnOut := fun m ρ _ => Cert.MmFfnOut.Gen.frame m ρ

/-- So does its reading over the extended reals. -/
theorem frame_pi : Cert.quiescent_MmFfnOutIdeal := fun m ρ _ => Cert.MmFfnOutIdeal.Gen.frame m ρ

/-- The reference keeps its arguments; it has no counters. -/
theorem frame_ri : Cert.quiescent_MmFfnOutRefIdeal := fun m ρ _ =>
  (θ_run Cert.MmFfnOutRefIdeal.defs _ _).mono
    (fun r h => ⟨fun c => (h c).2, sem_eq_zero_of_no_sems (by decide) r.2⟩)
    (Cert.MmFfnOutRefIdeal.Value.run (F := Ideal) m ρ)

open Cert.Proof.FfnOutB (rows)

/-- One block of the result: each row of the activations' block against each column of the weight. -/
theorem block_at (x0 : Vec Ideal S1024x2816 .bf16) (x1 : Vec Ideal S4x1x704x1024 .bf16) (i j : Fin 1024) :
    out0_2 (F := Ideal) x0 x1 (ix2 i j) = ∑ k : Fin 2816, x0 (ix2 i k) * rows x1 (ix2 k j) := by
  unfold out0_2
  rw [View.canon_unit_zero hz2, View.ld_unit_zero (S := S1024x2816) hz2, View.ld_unit_zero (S := S4x1x704x1024) hz4]
  show k0_pay1 (F := Ideal) x1 x0 (ix2 i j) = _
  have e : k0_pay1 (F := Ideal) x1 x0 = truncf .bf16 (matmul dot_S1024x2816_S2816x1024_S1024x1024_1_0_0_1_n_n none x0 (rows x1)
    (constant S1024x1024 .f32 0x00000000#32)) bitsLt_bf16_f32 := rfl
  rw [e]
  generalize rows x1 = w
  pointwise []

/-- The result at one place: a row of the activations against a column of the weight. -/
def entry (x0 : Vec Ideal S4096x2816 .bf16) (x1 : Vec Ideal S4x1x704x1024 .bf16) (i : Fin 4096) (j : Fin 1024) : EReal :=
  ∑ k : Fin 2816, x0 (ix2 i k) * rows x1 (ix2 k j)

/-- The reference's result at one place. -/
theorem ref_at (x0 : Vec Ideal S4096x2816 .bf16) (x1 : Vec Ideal S4x1x704x1024 .bf16) (i : Fin 4096) (j : Fin 1024) :
    val_main_v4 (F := Ideal) x0 x1 (ix2 i j) = entry x0 x1 i j := by
  unfold entry val_main_v4 val_main_v3 val_main_v2 val_main_v1
  rw [show val_main_v0 (F := Ideal) x1 = rows x1 from Cert.Proof.FfnOutB.ref_rows x1]
  generalize rows x1 = w
  pointwise []

variable (m : (ℓ : Loc nD τ sig) → Buf (Elt Ideal) ℓ) (c : Dev nD)

/-- The windows' block indices. -/
theorem index : ∀ t : Fin cfg0.N, (win0_0.index t 0 = t.val ∧ win0_0.index t 1 = 0) ∧ (∀ a, win0_1.index t a = 0) ∧
    (win0_2.index t 0 = t.val ∧ win0_2.index t 1 = 0) :=
  (by decide +kernel : ∀ t : Fin grid0.N, (win0_0.index t 0 = t.val ∧ win0_0.index t 1 = 0) ∧ (∀ a, win0_1.index t a = 0) ∧
    (win0_2.index t 0 = t.val ∧ win0_2.index t 1 = 0))

/-- Row `i` of the array, for row `i` of point `t`'s block. -/
def row (t : Fin cfg0.N) (i : Fin 1024) : Fin 4096 := ⟨1024 * t.val + i.val, by have : cfg0.N = 4 := N_0; omega⟩

theorem rows_at (t : Fin cfg0.N) (i : Fin 1024) (k : Fin 2816) :
    iblk m c 0 t (ix2 i k) = m ((c : Thread nD τ).loc main_arg0) (ix2 (row t i) k) := by
  refine congrArg (m ((c : Thread nD τ).loc main_arg0)) (Shape.idx_ext₂ ?_ ?_)
  · show win0_0.index t 0 * 1024 + 1 * i.val = 1024 * t.val + i.val
    rw [(index t).1.1]; omega
  · show win0_0.index t 1 * 2816 + 1 * k.val = k.val
    rw [(index t).1.2]; omega

theorem weight (t : Fin cfg0.N) : iblk m c 1 t = m ((c : Thread nD τ).loc main_arg1) := by
  funext y
  refine congrArg (m ((c : Thread nD τ).loc main_arg1)) (funext fun a => Fin.ext ?_)
  show win0_1.index t a * _ + 1 * (y a).val = (y a).val
  rw [(index t).2.1 a]; omega

/-- The kernel's array at one place of the block that point `t` writes. -/
theorem arr_at (t : Fin cfg0.N) (i j : Fin 1024) : (dats m 0 c).arrAt 2 cfg0.N (ix2 (row t i) j) =
    entry (m ((c : Thread nD τ).loc main_arg0)) (m ((c : Thread nD τ).loc main_arg1)) (row t i) j := by
  have e : ((cfg0.win 2).blk t).view.emb (ix2 i j) = (ix2 (row t i) j : S4096x1024.Idx) := by
    refine Shape.idx_ext₂ ?_ ?_
    · show win0_2.index t 0 * 1024 + 1 * i.val = 1024 * t.val + i.val
      rw [(index t).2.2.1]; omega
    · show win0_2.index t 1 * 1024 + 1 * j.val = j.val
      rw [(index t).2.2.2]; omega
  rw [← e]
  refine (congrFun (Value.blocks2 m c t (flush0_2 t)) (ix2 i j)).trans ?_
  rw [Value.flushed2]
  refine (block_at _ _ i j).trans (Finset.sum_congr rfl fun k _ => ?_)
  rw [rows_at, weight]

/-- The kernel's array is the reference's. -/
theorem out : (dats m 0 c).arrAt 2 cfg0.N =
    val_main_v4 (F := Ideal) (m ((c : Thread nD τ).loc main_arg0)) (m ((c : Thread nD τ).loc main_arg1)) := by
  funext (j : S4096x1024.Idx)
  have hj : (j 0).val < 4096 := (j 0).isLt
  have hN : cfg0.N = 4 := N_0
  have e : j = ix2 (row ⟨(j 0).val / 1024, by omega⟩ ⟨(j 0).val % 1024, Nat.mod_lt _ (by decide)⟩) (j 1) :=
    Shape.idx_ext₂ (by show (j 0).val = 1024 * ((j 0).val / 1024) + (j 0).val % 1024; omega) rfl
  rw [e]
  exact (arr_at m c _ _ _).trans (ref_at ..).symm

/-- From equal arguments the kernel's result over the extended reals is the reference's. -/
theorem algebraic : Cert.algebraic_MmFfnOutIdeal_MmFfnOutRefIdeal := by
  intro m ρ m' ρ' _ hagree
  refine ⟨_, Cert.MmFfnOutIdeal.Value.run_blocks (F := Ideal) m ρ, ?_⟩
  refine (θ_run Cert.MmFfnOutRefIdeal.defs _ _).mono (fun r h c => ?_) (Cert.MmFfnOutRefIdeal.Value.run (F := Ideal) m' ρ')
  obtain ⟨h0, hk⟩ := h c
  obtain ⟨e0, e1⟩ := hagree c
  refine ⟨(h0.trans (val_main_v4_eq _ _)).trans (Eq.trans ?_ (out m c).symm), hk⟩
  simp only [e0, e1]

end Cert.Proof.MmFfnOut

end
-- ==== Proof.Mm.InGRun.lean ====
module

public import proofs.«01_k».proof.Proof.Mm.Common
public import proofs.«01_k».proof.Proof.Gen.InGIdeal.Frame
public import proofs.«01_k».proof.Proof.Gen.InGIdeal.Skeleton
public import Idealize.ShloMosaic.Lib.WordCmp
public import Idealize.ShloMosaic.Lib.Claim
public import Idealize.ShloMosaic.Lib.Pipeline.ReadBack

@[expose] public section

/-! The run of the weight gradient of the layer's first product, over any float values. At each point the kernel adds to its
scratch the product of 512 rows of the input with 512 rows of one of six cotangents: which of them depends on the block of
columns alone. The scratch starts at zero with each block of columns and is copied out with its last rows. -/

set_option maxRecDepth 16384

noncomputable section

namespace Cert.Proof.InG

open Cert Cert.Mm Cert.InGIdeal Cert.InGIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of its block of columns. -/
abbrev opens (i : grid0.Coords) : Prop := Scalar.cmpi .ne (Scalar.extui (Scalar.cmpi .eq (BitVec.ofNat 32 (i 1).val) 0#32)) 0#32 = 1#1

/-- The point's block of columns lies from `a` to before `b`. -/
abbrev within (i : grid0.Coords) (a b : BitVec 32) : Prop := Scalar.cmpi .ne (Scalar.extui (Scalar.andi
  (Scalar.cmpi .sge (BitVec.ofNat 32 (i 0).val) a) (Scalar.cmpi .slt (BitVec.ofNat 32 (i 0).val) b))) 0#32 = 1#1

/-- The point is the last of its block of columns. -/
abbrev closes (i : grid0.Coords) : Prop := k0_cond8 i = 1#1

/-- Which conditions hold at which point. -/
theorem conds : ∀ t : Fin cfg0.N, (opens (grid0.coords t) ↔ t.val % 8 = 0) ∧ (within (grid0.coords t) 0#32 1#32 ↔ t.val / 8 = 0) ∧
    (within (grid0.coords t) 1#32 2#32 ↔ t.val / 8 = 1) ∧ (within (grid0.coords t) 2#32 3#32 ↔ t.val / 8 = 2) ∧
    (within (grid0.coords t) 3#32 4#32 ↔ t.val / 8 = 3) ∧ (within (grid0.coords t) 4#32 5#32 ↔ t.val / 8 = 4) ∧
    (within (grid0.coords t) 5#32 8#32 ↔ 5 ≤ t.val / 8) ∧ (closes (grid0.coords t) ↔ t.val % 8 = 7) := by
  have h : ∀ t : Fin grid0.N, (opens (grid0.coords t) ↔ t.val % 8 = 0) ∧ (within (grid0.coords t) 0#32 1#32 ↔ t.val / 8 = 0) ∧
    (within (grid0.coords t) 1#32 2#32 ↔ t.val / 8 = 1) ∧ (within (grid0.coords t) 2#32 3#32 ↔ t.val / 8 = 2) ∧
    (within (grid0.coords t) 3#32 4#32 ↔ t.val / 8 = 3) ∧ (within (grid0.coords t) 4#32 5#32 ↔ t.val / 8 = 4) ∧
    (within (grid0.coords t) 5#32 8#32 ↔ 5 ≤ t.val / 8) ∧ (closes (grid0.coords t) ↔ t.val % 8 = 7) := by decide +kernel
  exact h

/-- A store over a whole buffer, the last of several, leaves what it stored. -/
theorem whole_store {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  refine (View.read_writes_eq_canon _ _ _ fun y => ⟨_, List.mem_cons_self, ?_⟩).trans (View.canon_cons_unit_zero hz inb w L)
  subst hz
  show y ∈ (Rect.whole S).set
  rw [Rect.set_whole]
  exact Finset.mem_univ y

/-- The six products have one text. -/
theorem pays : k0_pay4 (F := F) = k0_pay1 ∧ k0_pay5 (F := F) = k0_pay1 ∧ k0_pay6 (F := F) = k0_pay1 ∧ k0_pay7 (F := F) = k0_pay1 ∧
    k0_pay8 (F := F) = k0_pay1 := ⟨rfl, rfl, rfl, rfl, rfl⟩

set_option maxHeartbeats 8000000 in
/-- The body: one cotangent's product goes into the scratch, over zero at the first rows, and out at the last. -/
theorem body (c : Dev nD) (i : grid0.Coords) (arg2 arg3 arg4 arg5 arg6 arg7 arg8 : Memref sig .tc .vmem S512x1024 .bf16)
    (arg9 : Memref sig .tc .vmem S1x1024x1024 .f32) (arg10 : Memref sig .tc .vmem S1024x1024 .f32)
    (w2 : arg2.IsWhole) (w3 : arg3.IsWhole) (w4 : arg4.IsWhole) (w5 : arg5.IsWhole) (w6 : arg6.IsWhole) (w7 : arg7.IsWhole)
    (w8 : arg8.IsWhole) (w9 : arg9.IsWhole) (w10 : arg10.IsWhole)
    (x0 x1 x2 x3 x4 x5 h x : Vec F S512x1024 .bf16) (o o' : Vec F S1x1024x1024 .f32) (a a' : Vec F S1024x1024 .f32)
    (hk : (opens i ∧ ¬closes i ∧ a' = k0_pay3 ∧ o' = o) ∨ (¬opens i ∧ ¬closes i ∧ a' = a ∧ o' = o) ∨
      (¬opens i ∧ closes i ∧ a' = a ∧ o' = k0_pay2 (k0_pay1 a' h x)))
    (hp : (within i 0#32 1#32 ∧ ¬within i 1#32 2#32 ∧ ¬within i 2#32 3#32 ∧ ¬within i 3#32 4#32 ∧ ¬within i 4#32 5#32 ∧ ¬within i 5#32 8#32 ∧ x = x0)
      ∨ (¬within i 0#32 1#32 ∧ within i 1#32 2#32 ∧ ¬within i 2#32 3#32 ∧ ¬within i 3#32 4#32 ∧ ¬within i 4#32 5#32 ∧ ¬within i 5#32 8#32 ∧ x = x1)
      ∨ (¬within i 0#32 1#32 ∧ ¬within i 1#32 2#32 ∧ within i 2#32 3#32 ∧ ¬within i 3#32 4#32 ∧ ¬within i 4#32 5#32 ∧ ¬within i 5#32 8#32 ∧ x = x2)
      ∨ (¬within i 0#32 1#32 ∧ ¬within i 1#32 2#32 ∧ ¬within i 2#32 3#32 ∧ within i 3#32 4#32 ∧ ¬within i 4#32 5#32 ∧ ¬within i 5#32 8#32 ∧ x = x3)
      ∨ (¬within i 0#32 1#32 ∧ ¬within i 1#32 2#32 ∧ ¬within i 2#32 3#32 ∧ ¬within i 3#32 4#32 ∧ within i 4#32 5#32 ∧ ¬within i 5#32 8#32 ∧ x = x4)
      ∨ (¬within i 0#32 1#32 ∧ ¬within i 1#32 2#32 ∧ ¬within i 2#32 3#32 ∧ ¬within i 3#32 4#32 ∧ ¬within i 4#32 5#32 ∧ within i 5#32 8#32 ∧ x = x5))
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare h ∗ owns (c : Thread nD τ) arg9 fullShare o ∗ owns (c : Thread nD τ) arg10 fullShare a
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare h ∗ owns (c : Thread nD τ) arg9 fullShare o'
          ∗ owns (c : Thread nD τ) arg10 fullShare (k0_pay1 a' h x)) -∗ K ⟨⟩))
      ⊢ wp frame (wpE (defs₀ (F := F)) Variants.none c none) E
        (cc0_mmg_in i arg2 w2 arg3 w3 arg4 w4 arg5 w5 arg6 w6 arg7 w7 arg8 w8 arg9 w9 arg10 w10) K := by
  rcases hp with ⟨p0, p1, p2, p3, p4, p5, rfl⟩ | ⟨p0, p1, p2, p3, p4, p5, rfl⟩ | ⟨p0, p1, p2, p3, p4, p5, rfl⟩ |
    ⟨p0, p1, p2, p3, p4, p5, rfl⟩ | ⟨p0, p1, p2, p3, p4, p5, rfl⟩ | ⟨p0, p1, p2, p3, p4, p5, rfl⟩
  all_goals
    rcases hk with ⟨ho, hc, rfl, rfl⟩ | ⟨ho, hc, rfl, rfl⟩ | ⟨ho, hc, rfl, rfl⟩
    all_goals
      simp only [cc0_mmg_in_eq_skeleton]
      unfold cc0_mmg_in_skel
      simp only [k0_part1_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
      obtain rfl := w2.eq_unread hf0; obtain rfl := w3.eq_unread hf1; obtain rfl := w4.eq_unread hf2
      obtain rfl := w5.eq_unread hf3; obtain rfl := w6.eq_unread hf4; obtain rfl := w7.eq_unread hf5
      obtain rfl := w8.eq_unread hf6; obtain rfl := w9.eq_unread hf7; obtain rfl := w10.eq_unread hf8
      sl_exec (disch := first | sl_exact ho | sl_exact hc | sl_exact p0 | sl_exact p1 | sl_exact p2 | sl_exact p3 | sl_exact p4 | sl_exact p5)
      sl_step
      iapply Hk
      isplitl [H0]; · iexists _; isplitr; · ipureintro; exact w2.read_unread _
                      iexact H0
      isplitl [H1]; · iexists _; isplitr; · ipureintro; exact w3.read_unread _
                      iexact H1
      isplitl [H2]; · iexists _; isplitr; · ipureintro; exact w4.read_unread _
                      iexact H2
      isplitl [H3]; · iexists _; isplitr; · ipureintro; exact w5.read_unread _
                      iexact H3
      isplitl [H4]; · iexists _; isplitr; · ipureintro; exact w6.read_unread _
                      iexact H4
      isplitl [H5]; · iexists _; isplitr; · ipureintro; exact w7.read_unread _
                      iexact H5
      isplitl [H6]; · iexists _; isplitr; · ipureintro; exact w8.read_unread _
                      iexact H6
      isplitl [H7]
      · iexists _; isplitr; swap; · iexact H7
        ipureintro
        first
          | with_reducible exact w9.read_unread _
          | refine (whole_store _ _ hz3 _ _ _).trans ?_
            sl_unfold_words
            simp only [View.readAt_eq_ld, Memref.IsWhole.read_unread, View.ld_unit_zero (S := S1024x1024) hz2,
              View.ld_unit_zero (S := S512x1024) hz2, View.readCov_cons_toLoadRect, pays]
      · iexists _; isplitr; swap; · iexact H8
        ipureintro
        sl_unfold_words
        refine (whole_store _ _ hz2 _ _ _).trans ?_
        simp only [View.readAt_eq_ld, Memref.IsWhole.read_unread, View.ld_unit_zero (S := S1024x1024) hz2,
          View.ld_unit_zero (S := S512x1024) hz2, View.readCov_cons_toLoadRect, pays]

end Cert.Proof.InG

end
-- ==== Proof.Mm.InGFrame.lean ====
module

public import proofs.«01_k».proof.Proof.Mm.InGRun

@[expose] public section

/-! The frame of the weight gradient of the layer's first product, over any float values, from its body's run at one point. -/

set_option maxRecDepth 16384

noncomputable section

namespace Cert.Proof.InG

open Cert Cert.Mm Cert.InGIdeal Cert.InGIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the input that a point reads. -/
abbrev rows (c : Dev nD) (t : Fin cfg0.N) : Vec F S512x1024 .bf16 := iblk m c 6 t

/-- The cotangent's block that a point uses. -/
def piece (c : Dev nD) (t : Fin cfg0.N) : Vec F S512x1024 .bf16 :=
  if t.val / 8 = 0 then iblk m c 0 t else if t.val / 8 = 1 then iblk m c 1 t else if t.val / 8 = 2 then iblk m c 2 t
  else if t.val / 8 = 3 then iblk m c 3 t else if t.val / 8 = 4 then iblk m c 4 t else iblk m c 5 t

/-- The scratch after each point. -/
def acc (c : Dev nD) : (n : ℕ) → n < cfg0.N → Vec F S1024x1024 .f32
  | 0, h => k0_pay1 k0_pay3 (rows m c ⟨0, h⟩) (piece m c ⟨0, h⟩)
  | n + 1, h => k0_pay1 (if (n + 1) % 8 = 0 then k0_pay3 else acc c n (Nat.lt_of_succ_lt h)) (rows m c ⟨n + 1, h⟩) (piece m c ⟨n + 1, h⟩)

/-- With the first rows it starts from zero. -/
theorem acc_first (c : Dev nD) (t : Fin cfg0.N) (h : t.val % 8 = 0) :
    acc m c t.val t.isLt = k0_pay1 k0_pay3 (rows m c t) (piece m c t) := by
  obtain ⟨n, hn⟩ := t
  cases n with
  | zero => rfl
  | succ n => exact congrArg (fun a => k0_pay1 a _ _) (if_pos h)

/-- With later rows it goes on from what it was. -/
theorem acc_later (c : Dev nD) (t : Fin cfg0.N) (h : ¬t.val % 8 = 0) :
    acc m c t.val t.isLt = k0_pay1 (acc m c (t.val - 1) (by omega)) (rows m c t) (piece m c t) := by
  obtain ⟨n, hn⟩ := t
  cases n with
  | zero => exact absurd rfl h
  | succ n => exact congrArg (fun a => k0_pay1 a _ _) (if_neg h)

/-- The scratch as a buffer. -/
abbrev scratch : Memref sig .tc .vmem S1024x1024 .f32 := Memref.whole cc0_scratch0

/-- Before point `n` the scratch holds what point `n - 1` left, where that matters, and anything else elsewhere. -/
def inv (c : Dev nD) (n : ℕ) : sProp 𝕄 :=
  iprop((∃ a, ⌜∀ h : n - 1 < cfg0.N, ¬n % 8 = 0 → a = acc m c (n - 1) h⌝ ∗ owns (c : Thread nD τ) scratch fullShare a) ∗ (∃ r, prngReg c r))

/-- What a launch hands the kernel beside its windows. -/
theorem start_eq (c : Dev nD) : (Pipeline.ΦA spec0 c : sProp 𝕄) =
    iprop(iprop((∃ d, owns (c : Thread nD τ) scratch fullShare d)) ∗ (∃ r, prngReg c r)) := by
  unfold Pipeline.ΦA
  rw [scopedRest0_eq]
  simp only [scratch, owns_whole]
  try rfl

/-- What the run is followed by: the arrays as launched, the windows after each point, and the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (acc m c t.val t.isLt)
  Φ t := inv m c t.val
  q _ := fullShare
  owed _ := 0

theorem A_eq (c : Dev nD) (w : Fin cfg0.W) : (dats m 0 c).A w = V m c (Pipeline.arrRef spec0 w) := by
  dsimp only [dats]

/-- The result's window after a point. -/
theorem after7 (c : Dev nD) (t : Fin cfg0.N) : (dats m 0 c).after 7 t = k0_pay2 (acc m c t.val t.isLt) := by
  dsimp only [dats]

/-- Before a point each input's window holds its block. -/
theorem before (c : Dev nD) (t : Fin cfg0.N) : (∀ d, (dats m 0 c).before 0 t d = iblk m c 0 t) ∧
    (∀ d, (dats m 0 c).before 1 t d = iblk m c 1 t) ∧ (∀ d, (dats m 0 c).before 2 t d = iblk m c 2 t) ∧
    (∀ d, (dats m 0 c).before 3 t d = iblk m c 3 t) ∧ (∀ d, (dats m 0 c).before 4 t d = iblk m c 4 t) ∧
    (∀ d, (dats m 0 c).before 5 t d = iblk m c 5 t) ∧ (∀ d, (dats m 0 c).before 6 t d = iblk m c 6 t) :=
  ⟨before0_0_of m (dats m 0 c) (A_eq m c 0) (fun t => by dsimp only [dats]) t,
    before0_1_of m (dats m 0 c) (A_eq m c 1) (fun t => by dsimp only [dats]) t,
    before0_2_of m (dats m 0 c) (A_eq m c 2) (fun t => by dsimp only [dats]) t,
    before0_3_of m (dats m 0 c) (A_eq m c 3) (fun t => by dsimp only [dats]) t,
    before0_4_of m (dats m 0 c) (A_eq m c 4) (fun t => by dsimp only [dats]) t,
    before0_5_of m (dats m 0 c) (A_eq m c 5) (fun t => by dsimp only [dats]) t,
    before0_6_of m (dats m 0 c) (A_eq m c 6) (fun t => by dsimp only [dats]) t⟩

/-- After a point each input's window still holds it. -/
theorem leaves (c : Dev nD) (t : Fin cfg0.N) :
    ((dats m 0 c).leavesExact 0 t = owns (c : Thread nD τ) (st0_0 t) fullShare (iblk m c 0 t)) ∧
    ((dats m 0 c).leavesExact 1 t = owns (c : Thread nD τ) (st0_1 t) fullShare (iblk m c 1 t)) ∧
    ((dats m 0 c).leavesExact 2 t = owns (c : Thread nD τ) (st0_2 t) fullShare (iblk m c 2 t)) ∧
    ((dats m 0 c).leavesExact 3 t = owns (c : Thread nD τ) (st0_3 t) fullShare (iblk m c 3 t)) ∧
    ((dats m 0 c).leavesExact 4 t = owns (c : Thread nD τ) (st0_4 t) fullShare (iblk m c 4 t)) ∧
    ((dats m 0 c).leavesExact 5 t = owns (c : Thread nD τ) (st0_5 t) fullShare (iblk m c 5 t)) ∧
    ((dats m 0 c).leavesExact 6 t = owns (c : Thread nD τ) (st0_6 t) fullShare (iblk m c 6 t)) :=
  ⟨rfl, rfl, rfl, rfl, rfl, rfl, rfl⟩

/-- Where the result's window is left alone, and not written back. -/
theorem idle : ∀ t : Fin cfg0.N, (cfg0.idle 7 (grid0.coords t) = true ↔ ¬t.val % 8 = 7) ∧ ((cfg0.win 7).flush t = false ↔ ¬t.val % 8 = 7) :=
  (by decide +kernel : ∀ t : Fin grid0.N, (cfg0.idle 7 (grid0.coords t) = true ↔ ¬t.val % 8 = 7) ∧ (win0_7.flush t = false ↔ ¬t.val % 8 = 7))

/-- The result's window after the last rows. -/
theorem leaves_last (c : Dev nD) (t : Fin cfg0.N) (h : t.val % 8 = 7) :
    (dats m 0 c).leavesExact 7 t = owns (c : Thread nD τ) (st0_7 t) fullShare (k0_pay2 (acc m c t.val t.isLt)) := by
  have e : cfg0.idle 7 (grid0.coords t) = false := by
    cases e : cfg0.idle 7 (grid0.coords t) with
    | false => rfl
    | true => exact absurd h ((idle t).1.mp e)
  unfold Dat.leavesExact
  rw [e, after7]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- Exactly one cotangent is used at a point. -/
theorem chosen (c : Dev nD) (t : Fin cfg0.N) {i : grid0.Coords} (hi : grid0.coords t = i) :
    (within i 0#32 1#32 ∧ ¬within i 1#32 2#32 ∧ ¬within i 2#32 3#32 ∧ ¬within i 3#32 4#32 ∧ ¬within i 4#32 5#32 ∧ ¬within i 5#32 8#32 ∧ piece m c t = iblk m c 0 t)
      ∨ (¬within i 0#32 1#32 ∧ within i 1#32 2#32 ∧ ¬within i 2#32 3#32 ∧ ¬within i 3#32 4#32 ∧ ¬within i 4#32 5#32 ∧ ¬within i 5#32 8#32 ∧ piece m c t = iblk m c 1 t)
      ∨ (¬within i 0#32 1#32 ∧ ¬within i 1#32 2#32 ∧ within i 2#32 3#32 ∧ ¬within i 3#32 4#32 ∧ ¬within i 4#32 5#32 ∧ ¬within i 5#32 8#32 ∧ piece m c t = iblk m c 2 t)
      ∨ (¬within i 0#32 1#32 ∧ ¬within i 1#32 2#32 ∧ ¬within i 2#32 3#32 ∧ within i 3#32 4#32 ∧ ¬within i 4#32 5#32 ∧ ¬within i 5#32 8#32 ∧ piece m c t = iblk m c 3 t)
      ∨ (¬within i 0#32 1#32 ∧ ¬within i 1#32 2#32 ∧ ¬within i 2#32 3#32 ∧ ¬within i 3#32 4#32 ∧ within i 4#32 5#32 ∧ ¬within i 5#32 8#32 ∧ piece m c t = iblk m c 4 t)
      ∨ (¬within i 0#32 1#32 ∧ ¬within i 1#32 2#32 ∧ ¬within i 2#32 3#32 ∧ ¬within i 3#32 4#32 ∧ ¬within i 4#32 5#32 ∧ within i 5#32 8#32 ∧ piece m c t = iblk m c 5 t) := by
  subst hi
  obtain ⟨-, p0, p1, p2, p3, p4, p5, -⟩ := conds t
  rw [p0, p1, p2, p3, p4, p5]
  unfold piece
  generalize t.val / 8 = k
  obtain rfl | rfl | rfl | rfl | rfl | h : k = 0 ∨ k = 1 ∨ k = 2 ∨ k = 3 ∨ k = 4 ∨ 5 ≤ k := by omega
  · exact .inl (by simp)
  · exact .inr (.inl (by simp))
  · exact .inr (.inr (.inl (by simp)))
  · exact .inr (.inr (.inr (.inl (by simp))))
  · exact .inr (.inr (.inr (.inr (.inl (by simp)))))
  · refine .inr (.inr (.inr (.inr (.inr ⟨by omega, by omega, by omega, by omega, by omega, h, ?_⟩))))
    rw [if_neg (by omega), if_neg (by omega), if_neg (by omega), if_neg (by omega), if_neg (by omega)]

set_option maxHeartbeats 4800000 in
/-- The body at a point. -/
theorem sound (c : Dev nD) (t : Fin cfg0.N) :
    pre m c t ⊢ wp frame (wpE (defs₀ (F := F)) Variants.none c none) Set.univ (bodyAt0 t) (fun _ => post m c t) := by
  obtain ⟨ho, -, -, -, -, -, -, hc⟩ := conds t
  obtain ⟨b0, b1, b2, b3, b4, b5, b6⟩ := before m c t
  obtain ⟨l0, l1, l2, l3, l4, l5, l6⟩ := leaves m c t
  unfold pre post bodyAt0
  simp only [b0, b1, b2, b3, b4, b5, b6]
  rw [l0, l1, l2, l3, l4, l5, l6, show (dats m 0 c).owesAt () t.succ = (dats m 0 c).owesAt () t.castSucc from rfl,
    show (dats m 0 c).Φ t.succ = inv m c (t.val + 1) from rfl, show (dats m 0 c).Φ t.castSucc = inv m c t.val from rfl]
  unfold inv
  by_cases h7 : t.val % 8 = 7
  · rw [leaves_last m c t h7]
    iintro ⟨⟨⟨%a, %ha, Ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e : acc m c t.val t.isLt = k0_pay1 a (rows m c t) (piece m c t) := by
      rw [acc_later m c t (by omega), ha _ (by omega)]
    iapply (body c (grid0.coords t) _ _ _ _ _ _ _ _ _ _ _ _ _ _ _ _ _ _ (iblk m c 0 t) (iblk m c 1 t) (iblk m c 2 t) (iblk m c 3 t)
      (iblk m c 4 t) (iblk m c 5 t) (iblk m c 6 t) (piece m c t) _ (k0_pay2 (k0_pay1 a (rows m c t) (piece m c t))) a a
      (.inr (.inr ⟨fun h => absurd (ho.mp h) (by omega), hc.mpr h7, rfl, rfl⟩)) (chosen m c t rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ha]; · iexact Ha
    iintro ⟨H0, H1, H2, H3, H4, H5, H6, H7, Ha⟩
    isplitl [Ha Hg]
    · isplitl [Ha]
      · iexists _; isplitr; swap; · iexact Ha
        ipureintro; exact fun _ h => absurd h (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [e]
    iexact H7
  · rw [Dat.leavesExact_idle (dats m 0 c) 7 t ((idle t).1.mpr h7) ((idle t).2.mpr h7)]
    iintro ⟨⟨⟨%a, %ha, Ha⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain ⟨a', hk, e⟩ : ∃ a', ((opens (grid0.coords t) ∧ ¬closes (grid0.coords t) ∧ a' = k0_pay3) ∨
        (¬opens (grid0.coords t) ∧ ¬closes (grid0.coords t) ∧ a' = a)) ∧ acc m c t.val t.isLt = k0_pay1 a' (rows m c t) (piece m c t) := by
      by_cases h0 : t.val % 8 = 0
      · exact ⟨_, .inl ⟨ho.mpr h0, fun h => h7 (hc.mp h), rfl⟩, acc_first m c t h0⟩
      · refine ⟨_, .inr ⟨fun h => h0 (ho.mp h), fun h => h7 (hc.mp h), rfl⟩, ?_⟩
        rw [acc_later m c t h0, ha _ h0]
    iapply (body c (grid0.coords t) _ _ _ _ _ _ _ _ _ _ _ _ _ _ _ _ _ _ (iblk m c 0 t) (iblk m c 1 t) (iblk m c 2 t) (iblk m c 3 t)
      (iblk m c 4 t) (iblk m c 5 t) (iblk m c 6 t) (piece m c t) _ _ a a'
      (hk.imp (fun h => ⟨h.1, h.2.1, h.2.2, rfl⟩) fun h => .inl ⟨h.1, h.2.1, h.2.2, rfl⟩) (chosen m c t rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ha]; · iexact Ha
    iintro ⟨H0, H1, H2, H3, H4, H5, H6, H7, Ha⟩
    isplitl [Ha Hg]
    · isplitl [Ha]
      · iexists _; isplitr; swap; · iexact Ha
        ipureintro; exact fun _ _ => e.symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The body's row of the table is the body. -/
theorem row_eq (t : Fin cfg0.N) : defs₀ (F := F) .tc cfg0.body (cfg0.bodyArgs t (cfg0.slots t)) = bodyAt0 t := by
  unfold defs₀
  rw [Defs.onTc_tc]

/-- The body at every point, as the pipeline asks for it. -/
theorem obligation (c : Dev nD) : BodyObligation (dats (F := F) m 0 c) (defs₀ (F := F)) Variants.none () Set.univ := fun t => by
  rw [bigSep_W0, bigSep_W0, row_eq]
  exact triple_restated (sound m c t) rfl .rfl fun _ => .rfl

theorem into (c : Dev nD) : Pipeline.ΦA spec0 c ⊢ (dats m 0 c).Φ 0 := by
  rw [show (dats m 0 c).Φ 0 = inv m c 0 from rfl, start_eq]
  unfold inv
  iintro ⟨⟨%a, Ha⟩, Hg⟩
  isplitl [Ha]
  · iexists _; isplitr; swap; · iexact Ha
    ipureintro; exact fun _ h => absurd rfl h
  iexact Hg

theorem out_of (c : Dev nD) : (dats m 0 c).Φ (Fin.last cfg0.N) ⊢ Pipeline.ΦA spec0 c := by
  rw [show (dats m 0 c).Φ (Fin.last cfg0.N) = inv m c cfg0.N from rfl, start_eq]
  unfold inv
  iintro ⟨⟨%a, %ha, Ha⟩, Hg⟩
  isplitl [Ha]
  · iexists _; iexact Ha
  iexact Hg

set_option backward.isDefEq.respectTransparency.types false in
/-- The whole run: the arrays end as followed and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := into m) (hout := out_of m)

/-- The kernel keeps its arguments and ends with every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result's array after the run, and the arguments. -/
theorem run_out : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.1 c).1 7, h.2.1 c⟩) (θ_run_and (run_main m ρ) (frame_any m ρ))

end Cert.Proof.InG

end
-- ==== Proof.Mm.InG.lean ====
module

public import proofs.«01_k».proof.Defs
public import proofs.«01_k».proof.Proof.Mm.InGFrame
public import proofs.«01_k».proof.Proof.Mm.InB
public import proofs.«01_k».proof.Proof.Gen.InG.Launch
public import proofs.«01_k».proof.Proof.Gen.InGRefIdeal.Run
public import proofs.«01_k».proof.Proof.Gen.InGRefIdeal.Read
public import Idealize.ShloMosaic.Lib.Pipeline.ValueKit.Geometry
public import Idealize.ShloMosaic.Adequacy
public import Idealize.ShloMosaic.Init

@[expose] public section

/-! The weight gradient of the layer's first product: the transposed input times six cotangents side by side. A block of 1024
columns is a sum over eight tiles of 512 rows. The first five blocks are the first five cotangents, the last three are the sixth. -/

set_option maxRecDepth 16384

noncomputable section

namespace Cert.Proof.InG

open Cert Cert.Mm Idealize.ShloMosaic Idealize.ShloMosaic.TcCoe Idealize.SL.Sem
open Cert.InGIdeal Cert.InGIdeal.Gen Cert.InGRefIdeal.Read

/-- The kernel and its reading have one table of bodies. -/
theorem table {F : FTy → Type} [FloatOps F] : Cert.InG.defs (F := F) = Cert.InGIdeal.defs (F := F) := by
  refine congrArg (Pipeline.defs _) (congrArg Defs.onTc (funext fun ℓ => funext fun a => ?_))
  match ℓ, a with
  | 0, _ => rfl
  | ⟨_ + 1, h⟩, _ => exact absurd h (Nat.not_lt.2 (Nat.le_add_left _ _))

/-- The kernel keeps its arguments and ends with every counter at zero: its text is that of its reading. -/
theorem frame_p : Cert.quiescent_InG := fun m ρ _ => by
  have h := frame_any (F := Bits) m ρ
  rw [← table] at h
  exact h

/-- So does its reading over the extended reals. -/
theorem frame_pi : Cert.quiescent_InGIdeal := fun m ρ _ => frame_any (F := Ideal) m ρ

/-- The reference keeps its arguments; it has no counters. -/
theorem frame_ri : Cert.quiescent_InGRefIdeal := fun m ρ _ =>
  (θ_run Cert.InGRefIdeal.defs _ _).mono
    (fun r h => ⟨fun c => (h c).2, sem_eq_zero_of_no_sems (by decide) r.2⟩)
    (Cert.InGRefIdeal.Value.run (F := Ideal) m ρ)

variable (m : (ℓ : Loc nD τ sig) → Buf (Elt Ideal) ℓ) (c : Dev nD)

/-- One more tile at one place: the product over the tile's rows is added. -/
theorem more_at (a : Vec Ideal S1024x1024 .f32) (h x : Vec Ideal S512x1024 .bf16) (i j : Fin 1024) :
    k0_pay1 (F := Ideal) a h x (ix2 i j) = a (ix2 i j) + ∑ s : Fin 512, h (ix2 s i) * x (ix2 s j) := by
  pointwise [k0_pay1]

theorem zero_at (i j : Fin 1024) : k0_pay3 (F := Ideal) (ix2 i j) = 0 := by
  pointwise [k0_pay3]

/-- The stored block is the scratch with a leading axis of length one. -/
theorem store_at (a : Vec Ideal S1024x1024 .f32) (i j : Fin 1024) : k0_pay2 (F := Ideal) a (ix3 0 i j) = a (ix2 i j) := by
  pointwise [k0_pay2]

/-- The windows' block indices, where the point uses the window. -/
theorem index : ∀ t : Fin cfg0.N, (t.val / 8 = 0 → win0_0.index t 0 = t.val % 8 ∧ win0_0.index t 1 = 0) ∧
    (t.val / 8 = 1 → win0_1.index t 0 = t.val % 8 ∧ win0_1.index t 1 = 0) ∧
    (t.val / 8 = 2 → win0_2.index t 0 = t.val % 8 ∧ win0_2.index t 1 = 0) ∧
    (t.val / 8 = 3 → win0_3.index t 0 = t.val % 8 ∧ win0_3.index t 1 = 0) ∧
    (t.val / 8 = 4 → win0_4.index t 0 = t.val % 8 ∧ win0_4.index t 1 = 0) ∧
    (5 ≤ t.val / 8 → win0_5.index t 0 = t.val % 8 ∧ win0_5.index t 1 = t.val / 8 - 5) ∧
    (win0_6.index t 0 = t.val % 8 ∧ win0_6.index t 1 = 0) ∧
    (win0_7.index t 0 = t.val / 8 / 2 ∧ win0_7.index t 1 = 0 ∧ win0_7.index t 2 = t.val / 8 % 2) :=
  (by decide +kernel : ∀ t : Fin grid0.N, (t.val / 8 = 0 → win0_0.index t 0 = t.val % 8 ∧ win0_0.index t 1 = 0) ∧
    (t.val / 8 = 1 → win0_1.index t 0 = t.val % 8 ∧ win0_1.index t 1 = 0) ∧
    (t.val / 8 = 2 → win0_2.index t 0 = t.val % 8 ∧ win0_2.index t 1 = 0) ∧
    (t.val / 8 = 3 → win0_3.index t 0 = t.val % 8 ∧ win0_3.index t 1 = 0) ∧
    (t.val / 8 = 4 → win0_4.index t 0 = t.val % 8 ∧ win0_4.index t 1 = 0) ∧
    (5 ≤ t.val / 8 → win0_5.index t 0 = t.val % 8 ∧ win0_5.index t 1 = t.val / 8 - 5) ∧
    (win0_6.index t 0 = t.val % 8 ∧ win0_6.index t 1 = 0) ∧
    (win0_7.index t 0 = t.val / 8 / 2 ∧ win0_7.index t 1 = 0 ∧ win0_7.index t 2 = t.val / 8 % 2))

/-- Row `s` of the arguments, for row `s` of point `t`'s tile. -/
def row (t : Fin cfg0.N) (s : Fin 512) : Fin 4096 := ⟨512 * (t.val % 8) + s.val, by omega⟩

/-- Column `j` of the cotangents side by side, for column `j` of point `t`'s block. -/
def col (t : Fin cfg0.N) (j : Fin 1024) : Fin 8192 := ⟨(t.val / 8) * 1024 + j.val, by have := t.isLt; have : cfg0.N = 64 := N_0; omega⟩

/-- The cotangents side by side, as the reference lays them. -/
abbrev cot : Vec Ideal Cert.InGRefIdeal.S4096x8192 .f32 := val_main_v6 (F := Ideal) (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5))

theorem rows_at (t : Fin cfg0.N) (s : Fin 512) (i : Fin 1024) :
    rows m c t (ix2 s i) = m ((c : Thread nD τ).loc main_arg6) (ix2 (row t s) i) := by
  obtain ⟨h0, h1⟩ := (index t).2.2.2.2.2.2.1
  refine congrArg (m ((c : Thread nD τ).loc main_arg6)) (Shape.idx_ext₂ ?_ ?_)
  · show win0_6.index t 0 * 512 + 1 * s.val = 512 * (t.val % 8) + s.val
    omega
  · show win0_6.index t 1 * 1024 + 1 * i.val = i.val
    omega

/-- The tile a point reads is its tile of the cotangents side by side. -/
theorem piece_at (t : Fin cfg0.N) (s : Fin 512) (j : Fin 1024) : piece m c t (ix2 s j) = cot m c (ix2 (row t s) (col t j)) := by
  obtain ⟨i0, i1, i2, i3, i4, i5, -⟩ := index t
  have h8 : t.val / 8 < 8 := by have := t.isLt; have : cfg0.N = 64 := N_0; omega
  obtain h | h | h | h | h | h : t.val / 8 = 0 ∨ t.val / 8 = 1 ∨ t.val / 8 = 2 ∨ t.val / 8 = 3 ∨ t.val / 8 = 4 ∨ 5 ≤ t.val / 8 := by omega
  · obtain ⟨a, b⟩ := i0 h
    refine Eq.trans ?_ (InB.cols_piece _ _ 0 (Nat.lt_of_sub_eq_succ rfl) (val_main_v0 (F := Ideal) (m ((c : Thread nD τ).loc main_arg0))) rfl 0 rfl
      (row t s) (col t j) j (by show 0 + j.val = (t.val / 8) * 1024 + j.val; omega)).symm
    unfold piece
    rw [if_pos h]
    refine congrArg (m ((c : Thread nD τ).loc main_arg0)) (Shape.idx_ext₂ ?_ ?_)
    · show win0_0.index t 0 * 512 + 1 * s.val = 512 * (t.val % 8) + s.val
      omega
    · show win0_0.index t 1 * 1024 + 1 * j.val = j.val
      omega
  · obtain ⟨a, b⟩ := i1 h
    refine Eq.trans ?_ (InB.cols_piece _ _ 1 (Nat.lt_of_sub_eq_succ rfl) (val_main_v1 (F := Ideal) (m ((c : Thread nD τ).loc main_arg1))) rfl 1024 rfl
      (row t s) (col t j) j (by show 1024 + j.val = (t.val / 8) * 1024 + j.val; omega)).symm
    unfold piece
    rw [if_neg (by omega), if_pos h]
    refine congrArg (m ((c : Thread nD τ).loc main_arg1)) (Shape.idx_ext₂ ?_ ?_)
    · show win0_1.index t 0 * 512 + 1 * s.val = 512 * (t.val % 8) + s.val
      omega
    · show win0_1.index t 1 * 1024 + 1 * j.val = j.val
      omega
  · obtain ⟨a, b⟩ := i2 h
    refine Eq.trans ?_ (InB.cols_piece _ _ 2 (Nat.lt_of_sub_eq_succ rfl) (val_main_v2 (F := Ideal) (m ((c : Thread nD τ).loc main_arg2))) rfl 2048 rfl
      (row t s) (col t j) j (by show 2048 + j.val = (t.val / 8) * 1024 + j.val; omega)).symm
    unfold piece
    rw [if_neg (by omega), if_neg (by omega), if_pos h]
    refine congrArg (m ((c : Thread nD τ).loc main_arg2)) (Shape.idx_ext₂ ?_ ?_)
    · show win0_2.index t 0 * 512 + 1 * s.val = 512 * (t.val % 8) + s.val
      omega
    · show win0_2.index t 1 * 1024 + 1 * j.val = j.val
      omega
  · obtain ⟨a, b⟩ := i3 h
    refine Eq.trans ?_ (InB.cols_piece _ _ 3 (Nat.lt_of_sub_eq_succ rfl) (val_main_v3 (F := Ideal) (m ((c : Thread nD τ).loc main_arg3))) rfl 3072 rfl
      (row t s) (col t j) j (by show 3072 + j.val = (t.val / 8) * 1024 + j.val; omega)).symm
    unfold piece
    rw [if_neg (by omega), if_neg (by omega), if_neg (by omega), if_pos h]
    refine congrArg (m ((c : Thread nD τ).loc main_arg3)) (Shape.idx_ext₂ ?_ ?_)
    · show win0_3.index t 0 * 512 + 1 * s.val = 512 * (t.val % 8) + s.val
      omega
    · show win0_3.index t 1 * 1024 + 1 * j.val = j.val
      omega
  · obtain ⟨a, b⟩ := i4 h
    refine Eq.trans ?_ (InB.cols_piece _ _ 4 (Nat.lt_of_sub_eq_succ rfl) (val_main_v4 (F := Ideal) (m ((c : Thread nD τ).loc main_arg4))) rfl 4096 rfl
      (row t s) (col t j) j (by show 4096 + j.val = (t.val / 8) * 1024 + j.val; omega)).symm
    unfold piece
    rw [if_neg (by omega), if_neg (by omega), if_neg (by omega), if_neg (by omega), if_pos h]
    refine congrArg (m ((c : Thread nD τ).loc main_arg4)) (Shape.idx_ext₂ ?_ ?_)
    · show win0_4.index t 0 * 512 + 1 * s.val = 512 * (t.val % 8) + s.val
      omega
    · show win0_4.index t 1 * 1024 + 1 * j.val = j.val
      omega
  · obtain ⟨a, b⟩ := i5 h
    refine Eq.trans ?_ (InB.cols_piece _ _ 5 (Nat.lt_of_sub_eq_succ rfl) (val_main_v5 (F := Ideal) (m ((c : Thread nD τ).loc main_arg5))) rfl 5120 rfl
      (row t s) (col t j) ⟨(t.val / 8 - 5) * 1024 + j.val, by omega⟩
      (by show 5120 + ((t.val / 8 - 5) * 1024 + j.val) = (t.val / 8) * 1024 + j.val; omega)).symm
    unfold piece
    rw [if_neg (by omega), if_neg (by omega), if_neg (by omega), if_neg (by omega), if_neg (by omega)]
    refine congrArg (m ((c : Thread nD τ).loc main_arg5)) (Shape.idx_ext₂ ?_ ?_)
    · show win0_5.index t 0 * 512 + 1 * s.val = 512 * (t.val % 8) + s.val
      omega
    · show win0_5.index t 1 * 1024 + 1 * j.val = (t.val / 8 - 5) * 1024 + j.val
      rw [b]; omega

/-- The result at one place: a column of the input against a column of the cotangents. -/
def entry (h : Vec Ideal S4096x1024 .bf16) (x : Vec Ideal Cert.InGRefIdeal.S4096x8192 .f32) (i : Fin 1024) (k : Fin 8192) : EReal :=
  ∑ s : Fin 4096, h (ix2 s i) * x (ix2 s k)

/-- The reference's result at one place. -/
theorem ref_at (x0 x1 x2 x3 x4 : Vec Ideal S4096x1024 .bf16) (x5 : Vec Ideal S4096x3072 .bf16) (x6 : Vec Ideal S4096x1024 .bf16)
    (p : Fin 4) (i : Fin 1024) (j : Fin 2048) (k : Fin 8192) (hk : k.val = p.val * 2048 + j.val) :
    val_main_v13 (F := Ideal) x0 x1 x2 x3 x4 x5 x6 (ix3 p i j) = entry x6 (val_main_v6 (F := Ideal) x0 x1 x2 x3 x4 x5) i k := by
  have e : idx_main_v12 (idx_main_v13 (ix3 p i j)) = ix2 i k := by
    refine Shape.idx_ext₂ ?_ ?_
    · show ((i.val * 4 + p.val) * 2048 + j.val) / 8192 = i.val
      omega
    · show ((i.val * 4 + p.val) * 2048 + j.val) % 8192 = k.val
      omega
  rw [val_main_v13_apply, val_main_v12_apply, e]
  unfold entry val_main_v11 val_main_v10 val_main_v8
  generalize val_main_v6 (F := Ideal) x0 x1 x2 x3 x4 x5 = x
  pointwise []
  exact Finset.sum_congr rfl fun s _ => mul_comm _ _

/-- The scratch after the last tile of a block of columns: the sum over all the rows. -/
theorem acc_at (q : ℕ) (h : 8 * q + (8 - 1) < cfg0.N) (i j : Fin 1024) : acc m c (8 * q + (8 - 1)) h (ix2 i j) =
    entry (m ((c : Thread nD τ).loc main_arg6)) (cot m c) i (col ⟨8 * q + (8 - 1), h⟩ j) := by
  refine carried_tiles 8 512 rfl (by decide) (fun n h => acc m c n h (ix2 i j))
    (fun t s => rows m c t (ix2 s i) * piece m c t (ix2 s j))
    (fun n h h0 => (congrFun (acc_first m c ⟨n, h⟩ h0) _).trans ((more_at ..).trans (by rw [zero_at, zero_add])))
    (fun n h h0 => (congrFun (acc_later m c ⟨n + 1, h⟩ h0) _).trans (more_at ..)) q h _ fun k s hk hb => ?_
  have e : row ⟨8 * q + k.val, hk⟩ s = ⟨k.val * 512 + s.val, hb⟩ :=
    Fin.ext (by show 512 * ((8 * q + k.val) % 8) + s.val = k.val * 512 + s.val; omega)
  have e' : col ⟨8 * q + k.val, hk⟩ j = col ⟨8 * q + (8 - 1), h⟩ j :=
    Fin.ext (by show ((8 * q + k.val) / 8) * 1024 + j.val = ((8 * q + (8 - 1)) / 8) * 1024 + j.val; omega)
  rw [rows_at, piece_at, e, e']

/-- The kernel's array is the reference's. -/
theorem out : (dats m 0 c).arrAt 7 cfg0.N = val_main_v13 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  refine (dats m 0 c).arrAt_eq_of_covers 7 _ (by decide +kernel) fun t hf (y : S1x1024x1024.Idx) => ?_
  have ht : t.val % 8 = 7 := (flush0_7 t).mp hf
  have hlt : t.val < 64 := lt_of_lt_of_eq t.isLt N_0
  obtain ⟨w0, w1, w2⟩ := (index t).2.2.2.2.2.2.2
  obtain ⟨z, i, j, rfl⟩ : ∃ (z : Fin 1) (i j : Fin 1024), y = ix3 z i j := ⟨_, _, _, eq_ix3 y⟩
  obtain rfl : z = 0 := Subsingleton.elim _ _
  have e : ((cfg0.win 7).blk t).view.emb (ix3 0 i j) =
      (ix3 ⟨t.val / 8 / 2, by omega⟩ i ⟨t.val / 8 % 2 * 1024 + j.val, by omega⟩ : S4x1024x2048.Idx) := by
    funext a
    refine Fin.ext ?_
    fin_cases a
    · show win0_7.index t 0 * 1 + 1 * 0 = t.val / 8 / 2
      omega
    · show win0_7.index t 1 * 1024 + 1 * i.val = i.val
      omega
    · show win0_7.index t 2 * 1024 + 1 * j.val = t.val / 8 % 2 * 1024 + j.val
      omega
  rw [after7]
  refine (store_at _ i j).trans (Eq.trans ?_ (congrArg _ e.symm))
  refine Eq.trans ?_ (ref_at _ _ _ _ _ _ _ _ _ _ (col t j) (by
    show t.val / 8 * 1024 + j.val = t.val / 8 / 2 * 2048 + (t.val / 8 % 2 * 1024 + j.val)
    omega)).symm
  obtain ⟨n, hn⟩ := t
  obtain ⟨q, rfl⟩ : ∃ q, n = 8 * q + (8 - 1) := ⟨n / 8, by dsimp only at ht; omega⟩
  exact acc_at m c q hn i j

/-- From equal arguments the kernel's result over the extended reals is the reference's. -/
theorem algebraic : Cert.algebraic_InGIdeal_InGRefIdeal := by
  intro m ρ m' ρ' _ hagree
  refine ⟨_, run_out (F := Ideal) m ρ, ?_⟩
  refine (θ_run Cert.InGRefIdeal.defs _ _).mono (fun r h c => ?_) (Cert.InGRefIdeal.Value.run (F := Ideal) m' ρ')
  obtain ⟨h0, hk⟩ := h c
  obtain ⟨e0, e1, e2, e3, e4, e5, e6⟩ := hagree c
  refine ⟨(h0.trans (val_main_v13_eq _ _ _ _ _ _ _)).trans (Eq.trans ?_ (out m c).symm), hk⟩
  simp only [e0, e1, e2, e3, e4, e5, e6]

end Cert.Proof.InG

end
-- ==== Proof.Rows.GateB.lean ====
module

public import proofs.«01_k».proof.Defs
public import proofs.«01_k».proof.Proof.Mm.Common
public import proofs.«01_k».proof.Proof.Gen.GateB.Frame
public import proofs.«01_k».proof.Proof.Gen.GateBIdeal.Value
public import proofs.«01_k».proof.Proof.Gen.GateBRefIdeal.Run
public import proofs.«01_k».proof.Proof.Gen.GateBRefIdeal.Read
public import Idealize.ShloMosaic.Lib.Pipeline.ReadBack
public import Idealize.ShloMosaic.Adequacy
public import Idealize.ShloMosaic.Init

@[expose] public section

/-! The gradients of a sub-layer's output gate: the cotangent times the gate, and the gate's own gradient, a sum over the 4096
rows that the call adds up over eight tiles. -/

set_option maxRecDepth 16384

noncomputable section

namespace Cert.Proof.GateB

open Cert Cert.Mm Idealize.ShloMosaic Idealize.ShloMosaic.TcCoe Idealize.SL.Sem
open Cert.GateBIdeal Cert.GateBIdeal.Gen Cert.GateBRefIdeal.Read

/-- The kernel keeps its arguments and ends with every counter at zero. -/
theorem frame_p : Cert.quiescent_GateB := fun m ρ _ => Cert.GateB.Gen.frame m ρ

/-- So does its reading over the extended reals. -/
theorem frame_pi : Cert.quiescent_GateBIdeal := fun m ρ _ => Cert.GateBIdeal.Gen.frame m ρ

/-- The reference keeps its arguments; it has no counters. -/
theorem frame_ri : Cert.quiescent_GateBRefIdeal := fun m ρ _ =>
  (θ_run Cert.GateBRefIdeal.defs _ _).mono
    (fun r h => ⟨fun c => (h c).2.2, sem_eq_zero_of_no_sems (by decide) r.2⟩)
    (Cert.GateBRefIdeal.Value.run (F := Ideal) m ρ)

variable (m : (ℓ : Loc nD τ sig) → Buf (Elt Ideal) ℓ) (c : Dev nD)

/-- The arguments: the cotangent, the sub-layer's output, the gate. -/
abbrev a0 : Vec Ideal S4096x1024 .f32 := m ((c : Thread nD τ).loc main_arg0)
abbrev a1 : Vec Ideal S4096x1024 .bf16 := m ((c : Thread nD τ).loc main_arg1)
abbrev a2 : Vec Ideal S1x1024 .f32 := m ((c : Thread nD τ).loc main_arg2)

/-- Their blocks at a point. -/
abbrev b0 (t : Fin cfg0.N) : Vec Ideal S512x1024 .f32 := iblk m c 0 t
abbrev b1 (t : Fin cfg0.N) : Vec Ideal S512x1024 .bf16 := iblk m c 1 t
abbrev b2 (t : Fin cfg0.N) : Vec Ideal S1x1024 .f32 := iblk m c 2 t

/-- The first point starts the gate's sum. -/
theorem first (t : Fin cfg0.N) (h0 : t.val % 8 = 0) (h1 : ¬1 ≤ t.val) :
    outsAt0 m c t.val t.isLt = (k0_pay2 (b0 m c t) (b2 m c t), k0_pay1 (b0 m c t) (b1 m c t)) := by
  rw [outsAt0_A m c t h0 h1]
  refine Prod.ext ?_ ?_
  · dsimp only
    refine (View.read_writes_eq_canon _ _ _ (fun y => cover0_A_3 (F := Ideal) (y := y) ..)).trans ?_
    unfold kernelRun0_A
    dsimp only
    sl_unfold_words
    rw [View.canon_unit_zero hz2]
    simp only [View.readAt_eq_ld, Memref.IsWhole.read_unread, View.ld_unit_zero (S := S512x1024) hz2,
      View.ld_unit_zero (S := S1x1024) hz2]
  · dsimp only
    refine (View.read_writes_eq_canon _ _ _ (fun y => cover0_A_4 (F := Ideal) (y := y) ..)).trans ?_
    unfold kernelRun0_A
    dsimp only
    sl_unfold_words
    rw [View.canon_unit_zero hz2]
    simp only [View.readAt_eq_ld, Memref.IsWhole.read_unread, View.ld_unit_zero (S := S512x1024) hz2,
      View.ld_unit_zero (S := S1x1024) hz2]

/-- A later point adds to it. -/
theorem later (t : Fin cfg0.N) (h0 : ¬t.val % 8 = 0) (h1 : 1 ≤ t.val) (hp : t.val - 1 < cfg0.N) :
    outsAt0 m c t.val t.isLt = (k0_pay2 (b0 m c t) (b2 m c t), k0_pay3 (b0 m c t) (b1 m c t) (outsAt0 m c (t.val - 1) hp).2) := by
  rw [outsAt0_B m c t h0 h1]
  refine Prod.ext ?_ ?_
  · dsimp only
    refine (View.read_writes_eq_canon _ _ _ (fun y => cover0_B_3 (F := Ideal) (y := y) ..)).trans ?_
    unfold kernelRun0_B
    dsimp only
    sl_unfold_words
    rw [View.canon_unit_zero hz2]
    simp only [View.readAt_eq_ld, Memref.IsWhole.read_unread, View.ld_unit_zero (S := S512x1024) hz2,
      View.ld_unit_zero (S := S1x1024) hz2]
  · dsimp only
    refine (View.read_writes_eq_canon _ _ _ (fun y => cover0_B_4 (F := Ideal) (y := y) ..)).trans ?_
    unfold kernelRun0_B
    dsimp only
    sl_unfold_words
    rw [View.canon_unit_zero hz2]
    simp only [View.readAt_eq_ld, Memref.IsWhole.read_unread, View.ld_unit_zero (S := S512x1024) hz2,
      View.ld_unit_zero (S := S1x1024) hz2]

theorem out_at (t : Fin cfg0.N) : (outsAt0 m c t.val t.isLt).1 = k0_pay2 (b0 m c t) (b2 m c t) := by
  have hN : cfg0.N = 8 := N_0
  by_cases h : t.val = 0
  · rw [first m c t (by omega) (by omega)]
  · rw [later m c t (by omega) (by omega) (by omega)]

/-- A tile at one place. -/
theorem pay_at (x0 : Vec Ideal S512x1024 .f32) (x2 : Vec Ideal S1x1024 .f32) (i : Fin 512) (k : Fin 1024) :
    k0_pay2 (F := Ideal) x0 x2 (ix2 i k) = x0 (ix2 i k) * x2 (ix2 0 k) := by
  pointwise [k0_pay2]

theorem tile_at (x0 : Vec Ideal S512x1024 .f32) (x1 : Vec Ideal S512x1024 .bf16) (k : Fin 1024) :
    k0_pay1 (F := Ideal) x0 x1 (ix2 0 k) = ∑ s : Fin 512, x0 (ix2 s k) * x1 (ix2 s k) := by
  pointwise [k0_pay1]

theorem more_at (x0 : Vec Ideal S512x1024 .f32) (x1 : Vec Ideal S512x1024 .bf16) (a : Vec Ideal S1x1024 .f32) (k : Fin 1024) :
    k0_pay3 (F := Ideal) x0 x1 a (ix2 0 k) = a (ix2 0 k) + ∑ s : Fin 512, x0 (ix2 s k) * x1 (ix2 s k) := by
  pointwise [k0_pay3, k0_pay1]

/-- The reference at one place. -/
theorem ref0_at (x0 : Vec Ideal S4096x1024 .f32) (x2 : Vec Ideal S1x1024 .f32) (i : Fin 4096) (k : Fin 1024) :
    val_main_v8 (F := Ideal) x0 x2 (ix2 i k) = x0 (ix2 i k) * x2 (ix2 0 k) := by
  pointwise [val_main_v8, val_main_v4, val_main_v3]
  exact mul_comm _ _

theorem ref1_at (x0 : Vec Ideal S4096x1024 .f32) (x1 : Vec Ideal S4096x1024 .bf16) (k : Fin 1024) :
    val_main_v7 (F := Ideal) x0 x1 (ix2 0 k) = ∑ s : Fin 4096, x0 (ix2 s k) * x1 (ix2 s k) := by
  pointwise [val_main_v7, val_main_v6, val_main_v5, val_main_v0, val_main_cst]

/-- The windows' block indices. -/
theorem index : ∀ t : Fin cfg0.N, (win0_0.index t 0 = t.val ∧ win0_0.index t 1 = 0) ∧ (win0_1.index t 0 = t.val ∧ win0_1.index t 1 = 0) ∧
    (∀ a, win0_2.index t a = 0) ∧ (win0_3.index t 0 = t.val ∧ win0_3.index t 1 = 0) ∧ (∀ a, win0_4.index t a = 0) :=
  (by decide +kernel : ∀ t : Fin grid0.N, (win0_0.index t 0 = t.val ∧ win0_0.index t 1 = 0) ∧
    (win0_1.index t 0 = t.val ∧ win0_1.index t 1 = 0) ∧ (∀ a, win0_2.index t a = 0) ∧
    (win0_3.index t 0 = t.val ∧ win0_3.index t 1 = 0) ∧ (∀ a, win0_4.index t a = 0))

/-- Row `s` of the array, for row `s` of point `t`'s tile. -/
def row (t : Fin cfg0.N) (s : Fin 512) : Fin 4096 := ⟨512 * t.val + s.val, by have : cfg0.N = 8 := N_0; omega⟩

theorem b0_at (t : Fin cfg0.N) (s : Fin 512) (k : Fin 1024) : b0 m c t (ix2 s k) = a0 m c (ix2 (row t s) k) := by
  refine congrArg (a0 m c) (Shape.idx_ext₂ ?_ ?_)
  · show win0_0.index t 0 * 512 + 1 * s.val = 512 * t.val + s.val
    rw [(index t).1.1]; omega
  · show win0_0.index t 1 * 1024 + 1 * k.val = k.val
    rw [(index t).1.2]; omega

theorem b1_at (t : Fin cfg0.N) (s : Fin 512) (k : Fin 1024) : b1 m c t (ix2 s k) = a1 m c (ix2 (row t s) k) := by
  refine congrArg (a1 m c) (Shape.idx_ext₂ ?_ ?_)
  · show win0_1.index t 0 * 512 + 1 * s.val = 512 * t.val + s.val
    rw [(index t).2.1.1]; omega
  · show win0_1.index t 1 * 1024 + 1 * k.val = k.val
    rw [(index t).2.1.2]; omega

theorem b2_eq (t : Fin cfg0.N) : b2 m c t = a2 m c := by
  funext y
  refine congrArg (a2 m c) (funext fun a => Fin.ext ?_)
  show win0_2.index t a * _ + 1 * (y a).val = (y a).val
  rw [(index t).2.2.1 a]; omega

/-- The kernel's first array at one place. -/
theorem arr0_at (t : Fin cfg0.N) (i : Fin 512) (k : Fin 1024) :
    (dats m 0 c).arrAt 3 cfg0.N (ix2 (row t i) k) = a0 m c (ix2 (row t i) k) * a2 m c (ix2 0 k) := by
  have e : ((cfg0.win 3).blk t).view.emb (ix2 i k) = (ix2 (row t i) k : S4096x1024.Idx) := by
    refine Shape.idx_ext₂ ?_ ?_
    · show win0_3.index t 0 * 512 + 1 * i.val = 512 * t.val + i.val
      rw [(index t).2.2.2.1.1]; omega
    · show win0_3.index t 1 * 1024 + 1 * k.val = k.val
      rw [(index t).2.2.2.1.2]; omega
  rw [← e]
  refine (congrFun (Value.blocks3 m c t (flush0_3 t)) (ix2 i k)).trans ?_
  rw [Value.flushed3, out_at, b2_eq]
  refine (pay_at _ _ i k).trans ?_
  rw [b0_at, e]

/-- The gate's sum after the last tile: over all the rows. -/
theorem total (k : Fin 1024) (h : 8 * 0 + (8 - 1) < cfg0.N) : (outsAt0 m c (8 * 0 + (8 - 1)) h).2 (ix2 0 k) =
    ∑ s : Fin 4096, a0 m c (ix2 s k) * a1 m c (ix2 s k) := by
  have hN : cfg0.N = 8 := N_0
  refine carried_tiles 8 512 rfl (by decide) (fun n h => (outsAt0 m c n h).2 (ix2 0 k))
    (fun t s => b0 m c t (ix2 s k) * b1 m c t (ix2 s k))
    (fun n h h0 => ?_) (fun n h h0 => ?_) 0 h _ fun q s hk hb => ?_
  · rw [first m c ⟨n, h⟩ h0 (by simp only; omega)]
    exact tile_at ..
  · rw [later m c ⟨n + 1, h⟩ h0 (by simp only; omega) (by simp only; omega)]
    exact more_at ..
  · have e : row ⟨8 * 0 + q.val, hk⟩ s = ⟨q.val * 512 + s.val, hb⟩ :=
      Fin.ext (by show 512 * (8 * 0 + q.val) + s.val = q.val * 512 + s.val; omega)
    rw [b0_at, b1_at, e]

theorem last_lt : 8 * 0 + (8 - 1) < cfg0.N := by rw [show cfg0.N = 8 from N_0]; decide

/-- The last point, the only one that writes the gate's sum back. -/
abbrev tl : Fin cfg0.N := ⟨8 * 0 + (8 - 1), last_lt⟩

theorem only_last (t : Fin cfg0.N) (h : (cfg0.win 4).flush t = true) : t = tl :=
  Fin.ext (by have := (flush0_4 t).mp h; have : cfg0.N = 8 := N_0; have := t.isLt; show t.val = 7; omega)

/-- The kernel's second array at one place. -/
theorem arr1_at (k : Fin 1024) : (dats m 0 c).arrAt 4 cfg0.N (ix2 0 k) = ∑ s : Fin 4096, a0 m c (ix2 s k) * a1 m c (ix2 s k) := by
  have e : ((cfg0.win 4).blk tl).view.emb (ix2 0 k) = (ix2 0 k : S1x1024.Idx) := by
    refine Shape.idx_ext₂ ?_ ?_
    · show win0_4.index tl 0 * 1 + 1 * 0 = 0
      rw [(index tl).2.2.2.2 0]
    · show win0_4.index tl 1 * 1024 + 1 * k.val = k.val
      rw [(index tl).2.2.2.2 1]; omega
  rw [← e]
  refine (congrFun ((dats m 0 c).read_blk_arrAt_eq_flushed 4 (fun t t' h h' hne =>
    absurd ((only_last t h).trans (only_last t' h').symm) hne) cfg0.N tl last_lt ((flush0_4 tl).mpr rfl)) (ix2 0 k)).trans ?_
  rw [Value.flushed4]
  exact total m c k last_lt

/-- The kernel's arrays are the reference's. -/
theorem out0 : (dats m 0 c).arrAt 3 cfg0.N = val_main_v8 (F := Ideal) (a0 m c) (a2 m c) := by
  funext (j : S4096x1024.Idx)
  have hN : cfg0.N = 8 := N_0
  have hj : (j 0).val < 4096 := (j 0).isLt
  have : j = ix2 (row ⟨(j 0).val / 512, by omega⟩ ⟨(j 0).val % 512, by omega⟩) (j 1) :=
    Shape.idx_ext₂ (by show (j 0).val = 512 * ((j 0).val / 512) + (j 0).val % 512; omega) rfl
  rw [this]
  exact (arr0_at m c _ _ _).trans (ref0_at ..).symm

theorem out1 : (dats m 0 c).arrAt 4 cfg0.N = val_main_v7 (F := Ideal) (a0 m c) (a1 m c) := by
  funext (j : S1x1024.Idx)
  have : j = ix2 0 (j 1) := Shape.idx_ext₂ (Fin.val_eq_zero (j 0)) rfl
  rw [this]
  exact (arr1_at m c _).trans (ref1_at ..).symm

/-- From equal arguments the kernel's results over the extended reals are the reference's. -/
theorem algebraic : Cert.algebraic_GateBIdeal_GateBRefIdeal := by
  intro m ρ m' ρ' _ hagree
  refine ⟨_, _, Cert.GateBIdeal.Value.run_blocks (F := Ideal) m ρ, ?_⟩
  refine (θ_run Cert.GateBRefIdeal.defs _ _).mono (fun r h c => ?_) (Cert.GateBRefIdeal.Value.run (F := Ideal) m' ρ')
  obtain ⟨h0, h1, hk⟩ := h c
  obtain ⟨e0, e1, e2⟩ := hagree c
  refine ⟨?_, ?_, hk⟩
  · refine (h0.trans (val_main_v8_eq _ _)).trans (Eq.trans ?_ (out0 m c).symm)
    simp only [e0, e2]
  · refine (h1.trans (val_main_v7_eq _ _)).trans (Eq.trans ?_ (out1 m c).symm)
    simp only [e0, e1]

end Cert.Proof.GateB

end
-- ==== Proof.Rows.Swiglu.lean ====
module

public import proofs.«01_k».proof.Defs
public import proofs.«01_k».proof.Proof.Mm.Common
public import proofs.«01_k».proof.Proof.Gen.Swiglu.Frame
public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Pipeline.ReadBack
public import Idealize.ShloMosaic.Adequacy
public import Idealize.ShloMosaic.Init

@[expose] public section

/-! The gradient of the feed-forward's gated product by its two halves. -/

set_option maxRecDepth 16384

noncomputable section

namespace Cert.Proof.Swiglu

open Cert Cert.Mm Idealize.ShloMosaic Idealize.ShloMosaic.TcCoe Idealize.SL.Sem
open Cert.SwigluIdeal Cert.SwigluIdeal.Gen Cert.SwigluRefIdeal.Read

/-- The kernel keeps its arguments and ends with every counter at zero. -/
theorem frame_p : Cert.quiescent_Swiglu := fun m ρ _ => Cert.Swiglu.Gen.frame m ρ

/-- So does its reading over the extended reals. -/
theorem frame_pi : Cert.quiescent_SwigluIdeal := fun m ρ _ => Cert.SwigluIdeal.Gen.frame m ρ

/-- The reference keeps its arguments; it has no counters. -/
theorem frame_ri : Cert.quiescent_SwigluRefIdeal := fun m ρ _ =>
  (θ_run Cert.SwigluRefIdeal.defs _ _).mono
    (fun r h => ⟨fun c => (h c).2, sem_eq_zero_of_no_sems (by decide) r.2⟩)
    (Cert.SwigluRefIdeal.Value.run (F := Ideal) m ρ)

/-- The gradient at one place: of the gate in the first half of the columns, of the other factor in the second. -/
def entry {r : ℕ} (x0 : Vec Ideal (⟨2, ![r, 5632]⟩ : Shape) .bf16) (x1 : Vec Ideal (⟨2, ![r, 2816]⟩ : Shape) .bf16) (i : Fin r)
    (j : Fin 5632) : EReal :=
  if h : j.val < 2816 then
    x1 (ix2 i ⟨j.val, h⟩) * x0 (ix2 i ⟨2816 + j.val, by omega⟩) * Ideal.logistic (x0 (ix2 i j)) +
      x0 (ix2 i j) * (x1 (ix2 i ⟨j.val, h⟩) * x0 (ix2 i ⟨2816 + j.val, by omega⟩)) *
        (Ideal.logistic (x0 (ix2 i j)) * (1 - Ideal.logistic (x0 (ix2 i j))))
  else
    x0 (ix2 i ⟨j.val - 2816, by omega⟩) * Ideal.logistic (x0 (ix2 i ⟨j.val - 2816, by omega⟩)) * x1 (ix2 i ⟨j.val - 2816, by omega⟩)

/-- One block of the result. -/
theorem block_at (x0 : Vec Ideal S256x5632 .bf16) (x1 : Vec Ideal S256x2816 .bf16) (i : Fin 256) (j : Fin 5632) :
    out0_2 (F := Ideal) x0 x1 (ix2 i j) = entry x0 x1 i j := by
  unfold out0_2 entry
  rw [View.canon_unit_zero hz2, View.ld_unit_zero (S := S256x5632) hz2, View.ld_unit_zero (S := S256x2816) hz2]
  pointwise [k0_pay1]

/-- The reference's result at one place. -/
theorem ref_at (x0 : Vec Ideal S4096x5632 .bf16) (x1 : Vec Ideal S4096x2816 .bf16) (i : Fin 4096) (j : Fin 5632) :
    val_main_v10 (F := Ideal) x0 x1 (ix2 i j) = entry x0 x1 i j := by
  unfold entry
  pointwise [val_main_v10, val_main_v9, val_main_v8, val_main_v6, val_main_v5, val_main_v3_0, val_main_v3_1, val_main_v3_2, val_main_v7,
    val_main_call0_v0, val_main_call0_v1, val_main_call0_v2, val_main_call0_v3, val_main_call0_v4, val_main_call0_cst,
    val_main_call0_cst_0, val_main_call0_cst_1, val_main_call0_v6, val_main_call0_v7, val_main_call1_v0, val_main_call1_v1,
    val_main_call1_v2, val_main_v0, val_main_v1, val_main_v2]
  rfl

variable (m : (ℓ : Loc nD τ sig) → Buf (Elt Ideal) ℓ) (c : Dev nD)

/-- The arguments: gate and other factor side by side, and the cotangent. -/
abbrev a0 : Vec Ideal S4096x5632 .bf16 := m ((c : Thread nD τ).loc main_arg0)
abbrev a1 : Vec Ideal S4096x2816 .bf16 := m ((c : Thread nD τ).loc main_arg1)

/-- The windows' block indices. -/
theorem index : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) :=
  (by decide +kernel : ∀ t : Fin grid0.N, (win0_0.index t 0 = t.val ∧ win0_0.index t 1 = 0) ∧
    (win0_1.index t 0 = t.val ∧ win0_1.index t 1 = 0) ∧ (win0_2.index t 0 = t.val ∧ win0_2.index t 1 = 0))

/-- Row `i` of the array, for row `i` of point `t`'s block. -/
def row (t : Fin cfg0.N) (i : Fin 256) : Fin 4096 := ⟨256 * t.val + i.val, by have : cfg0.N = 16 := N_0; omega⟩

theorem b0_at (t : Fin cfg0.N) (i : Fin 256) (k : Fin 5632) : iblk m c 0 t (ix2 i k) = a0 m c (ix2 (row t i) k) := by
  refine congrArg (a0 m c) (Shape.idx_ext₂ ?_ ?_)
  · show win0_0.index t 0 * 256 + 1 * i.val = 256 * t.val + i.val
    rw [(index t).1.1]; omega
  · show win0_0.index t 1 * 5632 + 1 * k.val = k.val
    rw [(index t).1.2]; omega

theorem b1_at (t : Fin cfg0.N) (i : Fin 256) (k : Fin 2816) : iblk m c 1 t (ix2 i k) = a1 m c (ix2 (row t i) k) := by
  refine congrArg (a1 m c) (Shape.idx_ext₂ ?_ ?_)
  · show win0_1.index t 0 * 256 + 1 * i.val = 256 * t.val + i.val
    rw [(index t).2.1.1]; omega
  · show win0_1.index t 1 * 2816 + 1 * k.val = k.val
    rw [(index t).2.1.2]; omega

/-- The kernel's array at one place. -/
theorem arr_at (t : Fin cfg0.N) (i : Fin 256) (j : Fin 5632) : (dats m 0 c).arrAt 2 cfg0.N (ix2 (row t i) j) =
    entry (a0 m c) (a1 m c) (row t i) j := by
  have e : ((cfg0.win 2).blk t).view.emb (ix2 i j) = (ix2 (row t i) j : S4096x5632.Idx) := by
    refine Shape.idx_ext₂ ?_ ?_
    · show win0_2.index t 0 * 256 + 1 * i.val = 256 * t.val + i.val
      rw [(index t).2.2.1]; omega
    · show win0_2.index t 1 * 5632 + 1 * j.val = j.val
      rw [(index t).2.2.2]; omega
  rw [← e]
  refine (congrFun (Value.blocks2 m c t (flush0_2 t)) (ix2 i j)).trans ?_
  rw [Value.flushed2]
  refine (block_at _ _ i j).trans ?_
  unfold entry
  simp only [b0_at, b1_at]

/-- The kernel's array is the reference's. -/
theorem out : (dats m 0 c).arrAt 2 cfg0.N = val_main_v10 (F := Ideal) (a0 m c) (a1 m c) := by
  funext (j : S4096x5632.Idx)
  have hN : cfg0.N = 16 := N_0
  have hj : (j 0).val < 4096 := (j 0).isLt
  have : j = ix2 (row ⟨(j 0).val / 256, by omega⟩ ⟨(j 0).val % 256, by omega⟩) (j 1) :=
    Shape.idx_ext₂ (by show (j 0).val = 256 * ((j 0).val / 256) + (j 0).val % 256; omega) rfl
  rw [this]
  exact (arr_at m c _ _ _).trans (ref_at ..).symm

/-- From equal arguments the kernel's result over the extended reals is the reference's. -/
theorem algebraic : Cert.algebraic_SwigluIdeal_SwigluRefIdeal := by
  intro m ρ m' ρ' _ hagree
  refine ⟨_, Cert.SwigluIdeal.Value.run_blocks (F := Ideal) m ρ, ?_⟩
  refine (θ_run Cert.SwigluRefIdeal.defs _ _).mono (fun r h c => ?_) (Cert.SwigluRefIdeal.Value.run (F := Ideal) m' ρ')
  obtain ⟨h0, hk⟩ := h c
  obtain ⟨e0, e1⟩ := hagree c
  refine ⟨(h0.trans (val_main_v10_eq _ _)).trans (Eq.trans ?_ (out m c).symm), hk⟩
  simp only [e0, e1]

end Cert.Proof.Swiglu

end
-- ==== Proof.Rows.Merge.lean ====
module

public import proofs.«01_k».proof.Defs
public import proofs.«01_k».proof.Proof.Mm.Common
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ReadBack
public import Idealize.ShloMosaic.Adequacy
public import Idealize.ShloMosaic.Init

@[expose] public section

/-! The gradients of merging the three branches: each branch's output times its gate's logistic, the gates' own gradients beside one
another, and the gradient of the gates' bias, a sum over the 4096 rows that the call adds up over sixteen tiles. -/

set_option maxRecDepth 16384

noncomputable section

namespace Cert.Proof.Merge

open Cert Cert.Mm Idealize.ShloMosaic Idealize.ShloMosaic.TcCoe Idealize.SL.Sem
open Cert.MergeIdeal Cert.MergeIdeal.Gen Cert.MergeRefIdeal.Read

/-- The kernel keeps its arguments and ends with every counter at zero. -/
theorem frame_p : Cert.quiescent_Merge := fun m ρ _ => Cert.Merge.Gen.frame m ρ

/-- So does its reading over the extended reals. -/
theorem frame_pi : Cert.quiescent_MergeIdeal := fun m ρ _ => Cert.MergeIdeal.Gen.frame m ρ

/-- The reference keeps its arguments; it has no counters. -/
theorem frame_ri : Cert.quiescent_MergeRefIdeal := fun m ρ _ =>
  (θ_run Cert.MergeRefIdeal.defs _ _).mono
    (fun r h => ⟨fun c => (h c).2.2.2.2.2, sem_eq_zero_of_no_sems (by decide) r.2⟩)
    (Cert.MergeRefIdeal.Value.run (F := Ideal) m ρ)

/-- Column `k` of three arrays that stand side by side. -/
def three {r : ℕ} (y0 y1 y2 : Vec Ideal (⟨2, ![r, 1024]⟩ : Shape) .bf16) (i : Fin r) (k : Fin 3072) : EReal :=
  if h : k.val < 1024 then y0 (ix2 i ⟨k.val, h⟩) else
    if h : k.val - 1024 < 1024 then y1 (ix2 i ⟨k.val - 1024, h⟩) else y2 (ix2 i ⟨k.val - 1024 - 1024, by omega⟩)

/-- The gradient of gate `z` whose branch gave `y`, for the cotangent `d`. -/
def slope (d y z : EReal) : EReal := d * y * (Ideal.logistic z * (1 - Ideal.logistic z))

/-- The branches' gradients on a tile, at one place. -/
theorem dya_at (x0 x6 : Vec Ideal S256x1024 .bf16) (i : Fin 256) (k : Fin 1024) :
    k0_pay13 (F := Ideal) x0 x6 (ix2 i k) = Ideal.logistic (x0 (ix2 i k)) * x6 (ix2 i k) := by
  pointwise [k0_pay13, k0_pay5, k0_pay8]

theorem dyb_at (x1 x6 : Vec Ideal S256x1024 .bf16) (i : Fin 256) (k : Fin 1024) :
    k0_pay1 (F := Ideal) (k0_pay10 x1 x6) (ix2 i k) = Ideal.logistic (x1 (ix2 i k)) * x6 (ix2 i k) := by
  pointwise [k0_pay1, k0_pay10, k0_pay6, k0_pay8]

theorem dyc_at (x2 x6 : Vec Ideal S256x1024 .bf16) (i : Fin 256) (k : Fin 1024) :
    k0_pay2 (F := Ideal) (k0_pay9 x2 x6) (ix2 i k) = Ideal.logistic (x2 (ix2 i k)) * x6 (ix2 i k) := by
  pointwise [k0_pay2, k0_pay9, k0_pay7, k0_pay8]

/-- The gates' gradients on a tile, at one place. -/
theorem slopes_at (x0 x1 x2 x3 x4 x5 x6 : Vec Ideal S256x1024 .bf16) (i : Fin 256) (k : Fin 3072) :
    k0_pay11 (F := Ideal) x0 x1 x2 x3 x4 x5 x6 (ix2 i k) = slope (three x6 x6 x6 i k) (three x3 x4 x5 i k) (three x0 x1 x2 i k) := by
  unfold slope three
  pointwise [k0_pay11, k0_pay5, k0_pay6, k0_pay7, k0_pay8]
  split
  · rfl
  · split <;> rfl

theorem dz_at (x0 x1 x2 x3 x4 x5 x6 : Vec Ideal S256x1024 .bf16) (i : Fin 256) (k : Fin 3072) :
    k0_pay3 (F := Ideal) (k0_pay11 x0 x1 x2 x3 x4 x5 x6) (ix2 i k) =
      slope (three x6 x6 x6 i k) (three x3 x4 x5 i k) (three x0 x1 x2 i k) :=
  slopes_at x0 x1 x2 x3 x4 x5 x6 i k

theorem tile_at (x0 x1 x2 x3 x4 x5 x6 : Vec Ideal S256x1024 .bf16) (k : Fin 3072) :
    k0_pay12 (F := Ideal) x0 x1 x2 x3 x4 x5 x6 (ix2 0 k) =
      ∑ s : Fin 256, slope (three x6 x6 x6 s k) (three x3 x4 x5 s k) (three x0 x1 x2 s k) := by
  pointwise [k0_pay12]
  exact Finset.sum_congr rfl fun s _ => slopes_at x0 x1 x2 x3 x4 x5 x6 s k

theorem more_at (x0 x1 x2 x3 x4 x5 x6 : Vec Ideal S256x1024 .bf16) (a : Vec Ideal S1x3072 .f32) (k : Fin 3072) :
    k0_pay4 (F := Ideal) (k0_pay12 x0 x1 x2 x3 x4 x5 x6) a (ix2 0 k) =
      a (ix2 0 k) + ∑ s : Fin 256, slope (three x6 x6 x6 s k) (three x3 x4 x5 s k) (three x0 x1 x2 s k) := by
  rw [← tile_at]
  pointwise [k0_pay4]

/-- The reference at one place. -/
theorem ref0_at (x0 : Vec Ideal S4096x8192 .bf16) (x4 : Vec Ideal S4096x1024 .bf16) (i : Fin 4096) (k : Fin 1024) :
    val_main_v43 (F := Ideal) x0 x4 (ix2 i k) = Ideal.logistic (x0 (ix2 i ⟨5120 + k.val, by omega⟩)) * x4 (ix2 i k) := by
  pointwise [val_main_v43, val_main_v36, val_main_v26, val_main_v16, val_main_v15, val_main_v11, val_main_v10, val_main_v9,
    val_main_v8, val_main_v7, val_main_v6, val_main_v5, val_main_v1, val_main_v0, val_main_cst, val_main_cst_0]
  rfl

theorem ref1_at (x0 : Vec Ideal S4096x8192 .bf16) (x4 : Vec Ideal S4096x1024 .bf16) (i : Fin 4096) (k : Fin 1024) :
    val_main_v44 (F := Ideal) x0 x4 (ix2 i k) = Ideal.logistic (x0 (ix2 i ⟨6144 + k.val, by omega⟩)) * x4 (ix2 i k) := by
  pointwise [val_main_v44, val_main_v31, val_main_v26, val_main_v19, val_main_v18, val_main_v11, val_main_v10, val_main_v9,
    val_main_v8, val_main_v7, val_main_v6, val_main_v5, val_main_v1, val_main_v0, val_main_cst, val_main_cst_0]
  simp only [← Nat.add_assoc, Nat.reduceAdd]
  rfl

theorem ref2_at (x0 : Vec Ideal S4096x8192 .bf16) (x4 : Vec Ideal S4096x1024 .bf16) (i : Fin 4096) (k : Fin 1024) :
    val_main_v45 (F := Ideal) x0 x4 (ix2 i k) = Ideal.logistic (x0 (ix2 i ⟨7168 + k.val, by omega⟩)) * x4 (ix2 i k) := by
  pointwise [val_main_v45, val_main_v27, val_main_v26, val_main_v23, val_main_v22, val_main_v11, val_main_v10, val_main_v9,
    val_main_v8, val_main_v7, val_main_v6, val_main_v5, val_main_v1, val_main_v0, val_main_cst, val_main_cst_0]
  simp only [← Nat.add_assoc, Nat.reduceAdd]
  rfl

set_option maxHeartbeats 1000000 in
theorem ref3_at (x0 : Vec Ideal S4096x8192 .bf16) (x1 x2 x3 x4 : Vec Ideal S4096x1024 .bf16) (i : Fin 4096) (k : Fin 3072) :
    val_main_v46 (F := Ideal) x0 x1 x2 x3 x4 (ix2 i k) =
      slope (three x4 x4 x4 i k) (three x1 x2 x3 i k) (x0 (ix2 i ⟨5120 + k.val, by omega⟩)) := by
  pointwise [val_main_v46, val_main_v42, val_main_v41, val_main_v40, val_main_v39, val_main_v38, val_main_v37, val_main_v35, val_main_v34, val_main_v33,
    val_main_v32, val_main_v30, val_main_v29, val_main_v28, val_main_v26, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2, val_main_cst_3, val_main_cst_4]
  unfold slope
  refine congrArg₂ (fun a b : EReal => a * b) ?_ rfl
  have hk := k.isLt
  unfold three
  split_ifs <;> first
    | (exfalso; omega)
    | simp only [add_zero, zero_add, show k.val % 1024 = k.val - 1024 - 1024 by omega]
    | simp only [add_zero, zero_add, show k.val % 1024 = k.val - 1024 by omega]
    | simp only [add_zero, zero_add, show k.val % 1024 = k.val by omega]

theorem ref4_at (x0 : Vec Ideal S4096x8192 .bf16) (x1 x2 x3 x4 : Vec Ideal S4096x1024 .bf16) (k : Fin 3072) :
    val_main_v48 (F := Ideal) x0 x1 x2 x3 x4 (ix2 0 k) = ∑ s : Fin 4096, val_main_v46 (F := Ideal) x0 x1 x2 x3 x4 (ix2 s k) := by
  pointwise [val_main_v48, val_main_v47, val_main_cst_5, val_main_v46]

variable (m : (ℓ : Loc nD τ sig) → Buf (Elt Ideal) ℓ) (c : Dev nD)

/-- The arguments: the gates among the columns of the input's projection, the branches' outputs, the cotangent. -/
abbrev a0 : Vec Ideal S4096x8192 .bf16 := m ((c : Thread nD τ).loc main_arg0)
abbrev a1 : Vec Ideal S4096x1024 .bf16 := m ((c : Thread nD τ).loc main_arg1)
abbrev a2 : Vec Ideal S4096x1024 .bf16 := m ((c : Thread nD τ).loc main_arg2)
abbrev a3 : Vec Ideal S4096x1024 .bf16 := m ((c : Thread nD τ).loc main_arg3)
abbrev a4 : Vec Ideal S4096x1024 .bf16 := m ((c : Thread nD τ).loc main_arg4)

/-- Their blocks at a point. -/
abbrev b0 (t : Fin cfg0.N) : Vec Ideal S256x1024 .bf16 := iblk m c 0 t
abbrev b1 (t : Fin cfg0.N) : Vec Ideal S256x1024 .bf16 := iblk m c 1 t
abbrev b2 (t : Fin cfg0.N) : Vec Ideal S256x1024 .bf16 := iblk m c 2 t
abbrev b3 (t : Fin cfg0.N) : Vec Ideal S256x1024 .bf16 := iblk m c 3 t
abbrev b4 (t : Fin cfg0.N) : Vec Ideal S256x1024 .bf16 := iblk m c 4 t
abbrev b5 (t : Fin cfg0.N) : Vec Ideal S256x1024 .bf16 := iblk m c 5 t
abbrev b6 (t : Fin cfg0.N) : Vec Ideal S256x1024 .bf16 := iblk m c 6 t

/-- What a point computes from its blocks alone: the three branches' gradients and the gates'. -/
abbrev outs (t : Fin cfg0.N) : FVec Ideal S256x1024 .bf16 × FVec Ideal S256x1024 .bf16 × FVec Ideal S256x1024 .bf16 × FVec Ideal S256x3072 .bf16 :=
  (k0_pay13 (b0 m c t) (b6 m c t), k0_pay1 (k0_pay10 (b1 m c t) (b6 m c t)), k0_pay2 (k0_pay9 (b2 m c t) (b6 m c t)),
    k0_pay3 (k0_pay11 (b0 m c t) (b1 m c t) (b2 m c t) (b3 m c t) (b4 m c t) (b5 m c t) (b6 m c t)))

/-- A tile's part of the bias's gradient. -/
abbrev part (t : Fin cfg0.N) : FVec Ideal S1x3072 .f32 :=
  k0_pay12 (b0 m c t) (b1 m c t) (b2 m c t) (b3 m c t) (b4 m c t) (b5 m c t) (b6 m c t)

set_option maxHeartbeats 400000 in
/-- The first point starts the bias's sum. -/
theorem first (t : Fin cfg0.N) (h0 : t.val % 16 = 0) (h1 : ¬1 ≤ t.val) : outsAt0 m c t.val t.isLt =
    ((outs m c t).1, (outs m c t).2.1, (outs m c t).2.2.1, (outs m c t).2.2.2, part m c t) := by
  rw [outsAt0_A m c t h0 h1]
  refine Prod.ext ?_ (Prod.ext ?_ (Prod.ext ?_ (Prod.ext ?_ ?_)))
  · dsimp only
    refine (View.read_writes_eq_canon _ _ _ (fun y => cover0_A_7 (F := Ideal) (y := y) ..)).trans ?_
    unfold kernelRun0_A
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_A_8 (F := Ideal) (y := y) ..)).trans ?_
    unfold kernelRun0_A
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_A_9 (F := Ideal) (y := y) ..)).trans ?_
    unfold kernelRun0_A
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_A_10 (F := Ideal) (y := y) ..)).trans ?_
    unfold kernelRun0_A
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_A_11 (F := Ideal) (y := y) ..)).trans ?_
    unfold kernelRun0_A
    dsimp only
    sl_unfold_words
    rw [View.canon_unit_zero hz2]
    simp only [View.readAt_eq_ld, Memref.IsWhole.read_unread, View.ld_unit_zero (S := S256x1024) hz2]

set_option maxHeartbeats 400000 in
/-- A later point adds to it. -/
theorem later (t : Fin cfg0.N) (h0 : ¬t.val % 16 = 0) (h1 : 1 ≤ t.val) (hp : t.val - 1 < cfg0.N) : outsAt0 m c t.val t.isLt =
    ((outs m c t).1, (outs m c t).2.1, (outs m c t).2.2.1, (outs m c t).2.2.2,
    k0_pay4 (part m c t) (outsAt0 m c (t.val - 1) hp).2.2.2.2) := by
  rw [outsAt0_B m c t h0 h1]
  refine Prod.ext ?_ (Prod.ext ?_ (Prod.ext ?_ (Prod.ext ?_ ?_)))
  · dsimp only
    refine (View.read_writes_eq_canon _ _ _ (fun y => cover0_B_7 (F := Ideal) (y := y) ..)).trans ?_
    unfold kernelRun0_B
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_B_8 (F := Ideal) (y := y) ..)).trans ?_
    unfold kernelRun0_B
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_B_9 (F := Ideal) (y := y) ..)).trans ?_
    unfold kernelRun0_B
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_B_10 (F := Ideal) (y := y) ..)).trans ?_
    unfold kernelRun0_B
    dsimp only
    sl_unfold_words
    rw [View.canon_unit_zero hz2]
    simp only [View.readAt_eq_ld, Memref.IsWhole.read_unread, View.ld_unit_zero (S := S256x1024) hz2]
  · dsimp only
    refine (View.read_writes_eq_canon _ _ _ (fun y => cover0_B_11 (F := Ideal) (y := y) ..)).trans ?_
    unfold kernelRun0_B
    dsimp only
    sl_unfold_words
    rw [View.canon_unit_zero hz2]
    simp only [View.readAt_eq_ld, Memref.IsWhole.read_unread, View.ld_unit_zero (S := S256x1024) hz2,
        View.ld_unit_zero (S := S1x3072) hz2]

/-- Every point leaves in its blocks what it computes from its own. -/
theorem out_at (t : Fin cfg0.N) : (outsAt0 m c t.val t.isLt).1 = (outs m c t).1 ∧ (outsAt0 m c t.val t.isLt).2.1 = (outs m c t).2.1 ∧
    (outsAt0 m c t.val t.isLt).2.2.1 = (outs m c t).2.2.1 ∧ (outsAt0 m c t.val t.isLt).2.2.2.1 = (outs m c t).2.2.2 := by
  have hN : cfg0.N = 16 := N_0
  by_cases h : t.val = 0
  · rw [first m c t (by omega) (by omega)]
    exact ⟨rfl, rfl, rfl, rfl⟩
  · rw [later m c t (by omega) (by omega) (by omega)]
    exact ⟨rfl, rfl, rfl, rfl⟩

/-- The windows' block indices: the rows move with the point, the columns stand still. -/
theorem index0 : ∀ t : Fin cfg0.N, win0_0.index t 0 = t.val ∧ win0_0.index t 1 = 5 :=
  (by decide +kernel : ∀ t : Fin grid0.N, win0_0.index t 0 = t.val ∧ win0_0.index t 1 = 5)
theorem index1 : ∀ t : Fin cfg0.N, win0_1.index t 0 = t.val ∧ win0_1.index t 1 = 6 :=
  (by decide +kernel : ∀ t : Fin grid0.N, win0_1.index t 0 = t.val ∧ win0_1.index t 1 = 6)
theorem index2 : ∀ t : Fin cfg0.N, win0_2.index t 0 = t.val ∧ win0_2.index t 1 = 7 :=
  (by decide +kernel : ∀ t : Fin grid0.N, win0_2.index t 0 = t.val ∧ win0_2.index t 1 = 7)
theorem index : ∀ t : Fin cfg0.N, (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    (win0_7.index t 0 = t.val ∧ win0_7.index t 1 = 0) ∧ (win0_8.index t 0 = t.val ∧ win0_8.index t 1 = 0) ∧
    (win0_9.index t 0 = t.val ∧ win0_9.index t 1 = 0) ∧ (win0_10.index t 0 = t.val ∧ win0_10.index t 1 = 0) ∧
    (∀ a, win0_11.index t a = 0) :=
  (by decide +kernel : ∀ t : Fin grid0.N, (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) ∧ (win0_7.index t 0 = t.val ∧ win0_7.index t 1 = 0) ∧
    (win0_8.index t 0 = t.val ∧ win0_8.index t 1 = 0) ∧ (win0_9.index t 0 = t.val ∧ win0_9.index t 1 = 0) ∧
    (win0_10.index t 0 = t.val ∧ win0_10.index t 1 = 0) ∧ (∀ a, win0_11.index t a = 0))

/-- Row `s` of the array, for row `s` of point `t`'s tile. -/
def row (t : Fin cfg0.N) (s : Fin 256) : Fin 4096 := ⟨256 * t.val + s.val, by have : cfg0.N = 16 := N_0; omega⟩

/-- A place of the array, given by block index and place in the block. -/
theorem place {w : ℕ} (t : Fin cfg0.N) (s : Fin 256) (k : Fin w) (p : (⟨2, ![4096, w]⟩ : Shape).Idx) {a b d : ℕ} (o : ℕ)
    (ha : a = t.val ∧ b = d) (h0 : (p 0).val = a * 256 + 1 * s.val) (h1 : (p 1).val = b * o + 1 * (k.val - d * o))
    (hd : d * o ≤ k.val) : p = ix2 (row t s) k :=
  Shape.idx_ext₂ (h0.trans (by rw [ha.1]; show _ = 256 * t.val + s.val; omega)) (h1.trans (by rw [ha.2]; show _ = k.val; omega))

theorem b0_at (t : Fin cfg0.N) (s : Fin 256) (k : Fin 1024) : b0 m c t (ix2 s k) = a0 m c (ix2 (row t s) ⟨5120 + k.val, by omega⟩) :=
  congrArg (a0 m c) (place t s ⟨5120 + k.val, by omega⟩ _ 1024 (index0 t) rfl
    (by show _ = win0_0.index t 1 * 1024 + 1 * (5120 + k.val - 5 * 1024); rw [Nat.add_sub_cancel_left]; rfl) (by simp only; omega))

theorem b1_at (t : Fin cfg0.N) (s : Fin 256) (k : Fin 1024) : b1 m c t (ix2 s k) = a0 m c (ix2 (row t s) ⟨6144 + k.val, by omega⟩) :=
  congrArg (a0 m c) (place t s ⟨6144 + k.val, by omega⟩ _ 1024 (index1 t) rfl
    (by show _ = win0_1.index t 1 * 1024 + 1 * (6144 + k.val - 6 * 1024); rw [Nat.add_sub_cancel_left]; rfl) (by simp only; omega))

theorem b2_at (t : Fin cfg0.N) (s : Fin 256) (k : Fin 1024) : b2 m c t (ix2 s k) = a0 m c (ix2 (row t s) ⟨7168 + k.val, by omega⟩) :=
  congrArg (a0 m c) (place t s ⟨7168 + k.val, by omega⟩ _ 1024 (index2 t) rfl
    (by show _ = win0_2.index t 1 * 1024 + 1 * (7168 + k.val - 7 * 1024); rw [Nat.add_sub_cancel_left]; rfl) (by simp only; omega))

theorem b3_at (t : Fin cfg0.N) (s : Fin 256) (k : Fin 1024) : b3 m c t (ix2 s k) = a1 m c (ix2 (row t s) k) :=
  congrArg (a1 m c) (place t s k _ 1024 (index t).1 rfl (by rw [Nat.zero_mul, Nat.sub_zero]; rfl) (by omega))

theorem b4_at (t : Fin cfg0.N) (s : Fin 256) (k : Fin 1024) : b4 m c t (ix2 s k) = a2 m c (ix2 (row t s) k) :=
  congrArg (a2 m c) (place t s k _ 1024 (index t).2.1 rfl (by rw [Nat.zero_mul, Nat.sub_zero]; rfl) (by omega))

theorem b5_at (t : Fin cfg0.N) (s : Fin 256) (k : Fin 1024) : b5 m c t (ix2 s k) = a3 m c (ix2 (row t s) k) :=
  congrArg (a3 m c) (place t s k _ 1024 (index t).2.2.1 rfl (by rw [Nat.zero_mul, Nat.sub_zero]; rfl) (by omega))

theorem b6_at (t : Fin cfg0.N) (s : Fin 256) (k : Fin 1024) : b6 m c t (ix2 s k) = a4 m c (ix2 (row t s) k) :=
  congrArg (a4 m c) (place t s k _ 1024 (index t).2.2.2.1 rfl (by rw [Nat.zero_mul, Nat.sub_zero]; rfl) (by omega))

/-- The gates' gradients at a row of the array, from a point's blocks. -/
theorem slopes (t : Fin cfg0.N) (s : Fin 256) (k : Fin 3072) :
    slope (three (b6 m c t) (b6 m c t) (b6 m c t) s k) (three (b3 m c t) (b4 m c t) (b5 m c t) s k)
      (three (b0 m c t) (b1 m c t) (b2 m c t) s k) =
    val_main_v46 (F := Ideal) (a0 m c) (a1 m c) (a2 m c) (a3 m c) (a4 m c) (ix2 (row t s) k) := by
  rw [ref3_at]
  have hk := k.isLt
  unfold three
  simp only [b0_at, b1_at, b2_at, b3_at, b4_at, b5_at, b6_at]
  by_cases h : k.val < 1024
  · simp only [dif_pos h]
  · by_cases h' : k.val - 1024 < 1024
    · simp only [dif_neg h, dif_pos h', show 6144 + (k.val - 1024) = 5120 + k.val by omega]
    · simp only [dif_neg h, dif_neg h', show 7168 + (k.val - 1024 - 1024) = 5120 + k.val by omega]

/-- The kernel's arrays at one place are the reference's. -/
theorem arr0_at (t : Fin cfg0.N) (i : Fin 256) (k : Fin 1024) :
    (dats m 0 c).arrAt 7 cfg0.N (ix2 (row t i) k) = val_main_v43 (F := Ideal) (a0 m c) (a4 m c) (ix2 (row t i) k) := by
  rw [ref0_at]
  have e : ((cfg0.win 7).blk t).view.emb (ix2 i k) = (ix2 (row t i) k : S4096x1024.Idx) :=
    place t i k _ 1024 (index t).2.2.2.2.1 rfl (by rw [Nat.zero_mul, Nat.sub_zero]; rfl) (by omega)
  refine (congrArg _ e.symm).trans ((congrFun (Value.blocks7 m c t (flush0_7 t)) (ix2 i k)).trans ?_)
  rw [Value.flushed7, (out_at m c t).1]
  refine (dya_at _ _ i k).trans ?_
  rw [b0_at, b6_at]

theorem arr1_at (t : Fin cfg0.N) (i : Fin 256) (k : Fin 1024) :
    (dats m 0 c).arrAt 8 cfg0.N (ix2 (row t i) k) = val_main_v44 (F := Ideal) (a0 m c) (a4 m c) (ix2 (row t i) k) := by
  rw [ref1_at]
  have e : ((cfg0.win 8).blk t).view.emb (ix2 i k) = (ix2 (row t i) k : S4096x1024.Idx) :=
    place t i k _ 1024 (index t).2.2.2.2.2.1 rfl (by rw [Nat.zero_mul, Nat.sub_zero]; rfl) (by omega)
  refine (congrArg _ e.symm).trans ((congrFun (Value.blocks8 m c t (flush0_8 t)) (ix2 i k)).trans ?_)
  rw [Value.flushed8, (out_at m c t).2.1]
  refine (dyb_at _ _ i k).trans ?_
  rw [b1_at, b6_at]

theorem arr2_at (t : Fin cfg0.N) (i : Fin 256) (k : Fin 1024) :
    (dats m 0 c).arrAt 9 cfg0.N (ix2 (row t i) k) = val_main_v45 (F := Ideal) (a0 m c) (a4 m c) (ix2 (row t i) k) := by
  rw [ref2_at]
  have e : ((cfg0.win 9).blk t).view.emb (ix2 i k) = (ix2 (row t i) k : S4096x1024.Idx) :=
    place t i k _ 1024 (index t).2.2.2.2.2.2.1 rfl (by rw [Nat.zero_mul, Nat.sub_zero]; rfl) (by omega)
  refine (congrArg _ e.symm).trans ((congrFun (Value.blocks9 m c t (flush0_9 t)) (ix2 i k)).trans ?_)
  rw [Value.flushed9, (out_at m c t).2.2.1]
  refine (dyc_at _ _ i k).trans ?_
  rw [b2_at, b6_at]

theorem arr3_at (t : Fin cfg0.N) (i : Fin 256) (k : Fin 3072) : (dats m 0 c).arrAt 10 cfg0.N (ix2 (row t i) k) =
    val_main_v46 (F := Ideal) (a0 m c) (a1 m c) (a2 m c) (a3 m c) (a4 m c) (ix2 (row t i) k) := by
  have e : ((cfg0.win 10).blk t).view.emb (ix2 i k) = (ix2 (row t i) k : S4096x3072.Idx) :=
    place t i k _ 3072 (index t).2.2.2.2.2.2.2.1 rfl (by rw [Nat.zero_mul, Nat.sub_zero]; rfl) (by omega)
  refine (congrArg _ e.symm).trans ((congrFun (Value.blocks10 m c t (flush0_10 t)) (ix2 i k)).trans ?_)
  rw [Value.flushed10, (out_at m c t).2.2.2]
  exact (dz_at _ _ _ _ _ _ _ i k).trans (slopes m c t i k)

/-- The bias's gradient after the last tile: over all the rows. -/
theorem total (k : Fin 3072) (h : 16 * 0 + (16 - 1) < cfg0.N) : (outsAt0 m c (16 * 0 + (16 - 1)) h).2.2.2.2 (ix2 0 k) =
    ∑ s : Fin 4096, val_main_v46 (F := Ideal) (a0 m c) (a1 m c) (a2 m c) (a3 m c) (a4 m c) (ix2 s k) := by
  have hN : cfg0.N = 16 := N_0
  refine carried_tiles 16 256 rfl (by decide) (fun n h => (outsAt0 m c n h).2.2.2.2 (ix2 0 k))
    (fun t s => slope (three (b6 m c t) (b6 m c t) (b6 m c t) s k) (three (b3 m c t) (b4 m c t) (b5 m c t) s k)
      (three (b0 m c t) (b1 m c t) (b2 m c t) s k))
    (fun n h h0 => ?_) (fun n h h0 => ?_) 0 h _ fun q s hk hb => ?_
  · rw [first m c ⟨n, h⟩ h0 (by simp only; omega)]
    exact tile_at ..
  · rw [later m c ⟨n + 1, h⟩ h0 (by simp only; omega) (by simp only; omega)]
    exact more_at ..
  · have e : row ⟨16 * 0 + q.val, hk⟩ s = ⟨q.val * 256 + s.val, hb⟩ :=
      Fin.ext (by show 256 * (16 * 0 + q.val) + s.val = q.val * 256 + s.val; omega)
    rw [slopes, e]

theorem last_lt : 16 * 0 + (16 - 1) < cfg0.N := by rw [show cfg0.N = 16 from N_0]; decide

/-- The last point, the only one that writes the bias's gradient back. -/
abbrev tl : Fin cfg0.N := ⟨16 * 0 + (16 - 1), last_lt⟩

theorem only_last (t : Fin cfg0.N) (h : (cfg0.win 11).flush t = true) : t = tl :=
  Fin.ext (by have := (flush0_11 t).mp h; have : cfg0.N = 16 := N_0; have := t.isLt; show t.val = 15; omega)

theorem arr4_at (k : Fin 3072) : (dats m 0 c).arrAt 11 cfg0.N (ix2 0 k) =
    val_main_v48 (F := Ideal) (a0 m c) (a1 m c) (a2 m c) (a3 m c) (a4 m c) (ix2 0 k) := by
  have e : ((cfg0.win 11).blk tl).view.emb (ix2 0 k) = (ix2 0 k : S1x3072.Idx) := by
    refine Shape.idx_ext₂ ?_ ?_
    · show win0_11.index tl 0 * 1 + 1 * 0 = 0
      rw [(index tl).2.2.2.2.2.2.2.2 0]
    · show win0_11.index tl 1 * 3072 + 1 * k.val = k.val
      rw [(index tl).2.2.2.2.2.2.2.2 1]; omega
  rw [ref4_at]
  refine (congrArg _ e.symm).trans ((congrFun ((dats m 0 c).read_blk_arrAt_eq_flushed 11 (fun t t' h h' hne =>
    absurd ((only_last t h).trans (only_last t' h').symm) hne) cfg0.N tl last_lt ((flush0_11 tl).mpr rfl)) (ix2 0 k)).trans ?_)
  rw [Value.flushed11]
  exact total m c k last_lt

/-- Every row of the array is a row of some point's tile. -/
theorem rows {w : ℕ} (j : (⟨2, ![4096, w]⟩ : Shape).Idx) : ∃ (t : Fin cfg0.N) (i : Fin 256), j = ix2 (row t i) (j 1) := by
  have hN : cfg0.N = 16 := N_0
  have hj : (j 0).val < 4096 := (j 0).isLt
  exact ⟨⟨(j 0).val / 256, by omega⟩, ⟨(j 0).val % 256, by omega⟩,
    Shape.idx_ext₂ (by show (j 0).val = 256 * ((j 0).val / 256) + (j 0).val % 256; omega) rfl⟩

/-- The kernel's arrays are the reference's. -/
theorem out0 : (dats m 0 c).arrAt 7 cfg0.N = val_main_v43 (F := Ideal) (a0 m c) (a4 m c) := by
  funext (j : S4096x1024.Idx)
  obtain ⟨t, i, e⟩ := rows j
  rw [e]
  exact arr0_at m c t i _

theorem out1 : (dats m 0 c).arrAt 8 cfg0.N = val_main_v44 (F := Ideal) (a0 m c) (a4 m c) := by
  funext (j : S4096x1024.Idx)
  obtain ⟨t, i, e⟩ := rows j
  rw [e]
  exact arr1_at m c t i _

theorem out2 : (dats m 0 c).arrAt 9 cfg0.N = val_main_v45 (F := Ideal) (a0 m c) (a4 m c) := by
  funext (j : S4096x1024.Idx)
  obtain ⟨t, i, e⟩ := rows j
  rw [e]
  exact arr2_at m c t i _

theorem out3 : (dats m 0 c).arrAt 10 cfg0.N = val_main_v46 (F := Ideal) (a0 m c) (a1 m c) (a2 m c) (a3 m c) (a4 m c) := by
  funext (j : S4096x3072.Idx)
  obtain ⟨t, i, e⟩ := rows j
  rw [e]
  exact arr3_at m c t i _

theorem out4 : (dats m 0 c).arrAt 11 cfg0.N = val_main_v48 (F := Ideal) (a0 m c) (a1 m c) (a2 m c) (a3 m c) (a4 m c) := by
  funext (j : S1x3072.Idx)
  have : j = ix2 0 (j 1) := Shape.idx_ext₂ (Fin.val_eq_zero (j 0)) rfl
  rw [this]
  exact arr4_at m c _

/-- From equal arguments the kernel's results over the extended reals are the reference's. -/
theorem algebraic : Cert.algebraic_MergeIdeal_MergeRefIdeal := by
  intro m ρ m' ρ' _ hagree
  refine ⟨_, _, _, _, _, Cert.MergeIdeal.Value.run_blocks (F := Ideal) m ρ, ?_⟩
  refine (θ_run Cert.MergeRefIdeal.defs _ _).mono (fun r h c => ?_) (Cert.MergeRefIdeal.Value.run (F := Ideal) m' ρ')
  obtain ⟨h0, h1, h2, h3, h4, hk⟩ := h c
  obtain ⟨e0, e1, e2, e3, e4⟩ := hagree c
  refine ⟨?_, ?_, ?_, ?_, ?_, hk⟩
  · refine (h0.trans (val_main_v43_eq _ _)).trans (Eq.trans ?_ (out0 m c).symm)
    simp only [e0, e4]
  · refine (h1.trans (val_main_v44_eq _ _)).trans (Eq.trans ?_ (out1 m c).symm)
    simp only [e0, e4]
  · refine (h2.trans (val_main_v45_eq _ _)).trans (Eq.trans ?_ (out2 m c).symm)
    simp only [e0, e4]
  · refine (h3.trans (val_main_v46_eq _ _ _ _ _)).trans (Eq.trans ?_ (out3 m c).symm)
    simp only [e0, e1, e2, e3, e4]
  · refine (h4.trans (val_main_v48_eq _ _ _ _ _)).trans (Eq.trans ?_ (out4 m c).symm)
    simp only [e0, e1, e2, e3, e4]

end Cert.Proof.Merge

end
-- ==== Proof.Rows.Groups.lean ====
module

public import proofs.«01_k».proof.Proof.Mm.Common
public import Idealize.ShloMosaic.Init

@[expose] public section

/-! 1024 columns as four groups of 256, and sums over one group whose places are written another way. -/

noncomputable section

namespace Cert.Groups

/-- Column `k` of group `g`. -/
def col (g : Fin 4) (k : Fin 256) : Fin 1024 := ⟨256 * g.val + k.val, by omega⟩

theorem col_of {g : Fin 4} {k : Fin 256} {a : Fin 1024} (h : a.val = 256 * g.val + k.val) : a = col g k := Fin.ext h

/-- A group's row times a column of its matrix. -/
theorem sum_of (f : Fin 1024 → EReal) (v : Fin 4 → Fin 256 → Fin 256 → EReal) (g g' : Fin 4) (k k' : Fin 256) (p : Fin 256 → Fin 1024)
    (hg : g'.val = g.val) (hk : k'.val = k.val) (hp : ∀ s, (p s).val = 256 * g.val + s.val) :
    ∑ s : Fin 256, f (p s) * v g' k' s = ∑ s : Fin 256, f (col g s) * v g k s := by
  obtain rfl := Fin.ext hg
  obtain rfl := Fin.ext hk
  obtain rfl : p = col g' := funext fun s => Fin.ext (hp s)
  rfl

/-- The group a column lies in decides which of four values is taken. -/
theorem pick {g : Fin 4} {k : Fin 256} {r : EReal} {a0 : 256 * g.val + k.val < 256 → EReal} {a1 : 256 * g.val + k.val - 256 < 256 → EReal}
    {a2 : 256 * g.val + k.val - 256 - 256 < 256 → EReal} {a3 : EReal} (h0 : ∀ h, 0 = g.val → a0 h = r) (h1 : ∀ h, 1 = g.val → a1 h = r)
    (h2 : ∀ h, 2 = g.val → a2 h = r) (h3 : 3 = g.val → a3 = r) :
    (if h : 256 * g.val + k.val < 256 then a0 h else if h : 256 * g.val + k.val - 256 < 256 then a1 h else
      if h : 256 * g.val + k.val - 256 - 256 < 256 then a2 h else a3) = r := by
  split
  · exact h0 _ (by omega)
  split
  · exact h1 _ (by omega)
  split
  · exact h2 _ (by omega)
  · exact h3 (by omega)

/-- The four groups' sums, side by side. -/
theorem sums (f : Fin 1024 → EReal) (v : Fin 4 → Fin 256 → Fin 256 → EReal) (g : Fin 4) (k : Fin 256) :
    (if h : 256 * g.val + k.val < 256 then ∑ s : Fin 256, f ⟨s.val, by omega⟩ * v 0 ⟨256 * g.val + k.val, h⟩ s else
      if h : 256 * g.val + k.val - 256 < 256 then ∑ s : Fin 256, f ⟨256 + s.val, by omega⟩ * v 1 ⟨256 * g.val + k.val - 256, h⟩ s else
        if h : 256 * g.val + k.val - 256 - 256 < 256 then
          ∑ s : Fin 256, f ⟨512 + s.val, by omega⟩ * v 2 ⟨256 * g.val + k.val - 256 - 256, h⟩ s
        else ∑ s : Fin 256, f ⟨768 + s.val, by omega⟩ * v 3 ⟨256 * g.val + k.val - 256 - 256 - 256, by omega⟩ s) =
    ∑ s : Fin 256, f (col g s) * v g k s := by
  refine pick (fun h e => ?_) (fun h e => ?_) (fun h e => ?_) fun e => ?_
  · exact sum_of f v g 0 k ⟨256 * g.val + k.val, h⟩ (fun s => ⟨s.val, by omega⟩) e (by simp only; omega) fun s => by simp only; omega
  · exact sum_of f v g 1 k ⟨256 * g.val + k.val - 256, h⟩ (fun s => ⟨256 + s.val, by omega⟩) e (by simp only; omega) fun s => by
      simp only; omega
  · exact sum_of f v g 2 k ⟨256 * g.val + k.val - 256 - 256, h⟩ (fun s => ⟨512 + s.val, by omega⟩) e (by simp only; omega) fun s => by
      simp only; omega
  · exact sum_of f v g 3 k ⟨256 * g.val + k.val - 256 - 256 - 256, by omega⟩ (fun s => ⟨768 + s.val, by omega⟩) e (by simp only; omega)
      fun s => by simp only; omega

end Cert.Groups

end
-- ==== Proof.Rows.PoolMixB.lean ====
module

public import proofs.«01_k».proof.Defs
public import proofs.«01_k».proof.Proof.Rows.Groups
public import proofs.«01_k».proof.Proof.Gen.PoolMixB.Frame
public import proofs.«01_k».proof.Proof.Gen.PoolMixBIdeal.Value
public import proofs.«01_k».proof.Proof.Gen.PoolMixBRefIdeal.Run
public import proofs.«01_k».proof.Proof.Gen.PoolMixBRefIdeal.Read
public import Idealize.ShloMosaic.Lib.Pipeline.ReadBack
public import Idealize.ShloMosaic.Adequacy
public import Idealize.ShloMosaic.Init

@[expose] public section

/-! The gradients of mixing the pooled features: of the features, and of the four matrices and the gate, two sums over the 4096
rows that the call adds up over eight tiles. -/

set_option maxRecDepth 16384

noncomputable section

namespace Cert.Proof.PoolMixB

open Cert Cert.Mm Cert.Groups Idealize.ShloMosaic Idealize.ShloMosaic.TcCoe Idealize.SL.Sem
open Cert.PoolMixBIdeal Cert.PoolMixBIdeal.Gen Cert.PoolMixBRefIdeal.Read

/-- The kernel keeps its arguments and ends with every counter at zero. -/
theorem frame_p : Cert.quiescent_PoolMixB := fun m ρ _ => Cert.PoolMixB.Gen.frame m ρ

/-- So does its reading over the extended reals. -/
theorem frame_pi : Cert.quiescent_PoolMixBIdeal := fun m ρ _ => Cert.PoolMixBIdeal.Gen.frame m ρ

/-- The reference keeps its arguments; it has no counters. -/
theorem frame_ri : Cert.quiescent_PoolMixBRefIdeal := fun m ρ _ =>
  (θ_run Cert.PoolMixBRefIdeal.defs _ _).mono
    (fun r h => ⟨fun c => (h c).2.2.2, sem_eq_zero_of_no_sems (by decide) r.2⟩)
    (Cert.PoolMixBRefIdeal.Value.run (F := Ideal) m ρ)

/-- The features' gradient on a tile, at one place. -/
theorem pay_at (x1 : Vec Ideal S512x1024 .bf16) (x2 : Vec Ideal S4x256x256 .bf16) (x3 : Vec Ideal S1x1024 .f32) (i : Fin 512) (g : Fin 4)
    (k : Fin 256) : k0_pay3 (F := Ideal) x2 (k0_pay7 x1 x3) (k0_pay9 x1 x2 x3) (k0_pay12 x1 x2 x3) (k0_pay15 x1 x2 x3) (ix2 i (col g k)) =
      ∑ s : Fin 256, x1 (ix2 i (col g s)) * x3 (ix2 0 (col g s)) * x2 (ix3 g k s) := by
  rw [show col g k = ⟨256 * g.val + k.val, by omega⟩ from rfl]
  pointwise [k0_pay3, k0_pay7, k0_pay9, k0_pay12, k0_pay15, k0_pay6]
  exact sums (fun a => x1 (ix2 i a) * x3 (ix2 0 a)) (fun g k s => x2 (ix3 g k s)) g k

/-- A tile's part of the matrices' gradient. -/
theorem part_at (x0 x1 : Vec Ideal S512x1024 .bf16) (x3 : Vec Ideal S1x1024 .f32) (g : Fin 4) (i k : Fin 256) :
    k0_pay2 (F := Ideal) x0 (k0_pay7 x1 x3) (k0_pay10 x0 x1 x3) (k0_pay13 x0 x1 x3) (k0_pay16 x0 x1 x3) (ix3 g i k) =
      ∑ s : Fin 512, x0 (ix2 s (col g i)) * (x1 (ix2 s (col g k)) * x3 (ix2 0 (col g k))) := by
  pointwise [k0_pay2, k0_pay7, k0_pay10, k0_pay13, k0_pay16, k0_pay6]
  split
  · rw [← col_of (g := g) (k := i) (a := ⟨i.val, by omega⟩) (by simp only; omega),
      ← col_of (g := g) (k := k) (a := ⟨k.val, by omega⟩) (by simp only; omega)]
  split
  · rw [← col_of (g := g) (k := i) (a := ⟨256 + i.val, by omega⟩) (by simp only; omega),
      ← col_of (g := g) (k := k) (a := ⟨256 + k.val, by omega⟩) (by simp only; omega)]
  split
  · rw [← col_of (g := g) (k := i) (a := ⟨512 + i.val, by omega⟩) (by simp only; omega),
      ← col_of (g := g) (k := k) (a := ⟨512 + k.val, by omega⟩) (by simp only; omega)]
  · rw [← col_of (g := g) (k := i) (a := ⟨768 + i.val, by omega⟩) (by simp only; omega),
      ← col_of (g := g) (k := k) (a := ⟨768 + k.val, by omega⟩) (by simp only; omega)]

theorem more_at (x0 x1 : Vec Ideal S512x1024 .bf16) (x3 : Vec Ideal S1x1024 .f32) (a : Vec Ideal S4x256x256 .f32) (g : Fin 4) (i k : Fin 256) :
    k0_pay4 (F := Ideal) x0 (k0_pay7 x1 x3) (k0_pay10 x0 x1 x3) (k0_pay13 x0 x1 x3) (k0_pay16 x0 x1 x3) a (ix3 g i k) =
      a (ix3 g i k) + ∑ s : Fin 512, x0 (ix2 s (col g i)) * (x1 (ix2 s (col g k)) * x3 (ix2 0 (col g k))) := by
  rw [← part_at]
  pointwise [k0_pay4]

/-- A tile's part of the gate's gradient. -/
theorem part'_at (x0 x1 : Vec Ideal S512x1024 .bf16) (x2 : Vec Ideal S4x256x256 .bf16) (g : Fin 4) (k : Fin 256) :
    k0_pay1 (F := Ideal) x0 x2 (k0_pay6 x1) (k0_pay8 x0 x2) (k0_pay11 x0 x2) (k0_pay14 x0 x2) (ix2 0 (col g k)) =
      ∑ s : Fin 512, x1 (ix2 s (col g k)) * ∑ a : Fin 256, x0 (ix2 s (col g a)) * x2 (ix3 g a k) := by
  rw [show col g k = ⟨256 * g.val + k.val, by omega⟩ from rfl]
  pointwise [k0_pay1, k0_pay6, k0_pay8, k0_pay11, k0_pay14]
  exact Finset.sum_congr rfl fun s _ => congrArg (fun b : EReal => _ * b)
    (sums (fun a => x0 (ix2 s a)) (fun g k a => x2 (ix3 g a k)) g k)

theorem more'_at (x0 x1 : Vec Ideal S512x1024 .bf16) (x2 : Vec Ideal S4x256x256 .bf16) (b : Vec Ideal S1x1024 .f32) (g : Fin 4) (k : Fin 256) :
    k0_pay5 (F := Ideal) x0 x2 (k0_pay6 x1) (k0_pay8 x0 x2) (k0_pay11 x0 x2) (k0_pay14 x0 x2) b (ix2 0 (col g k)) =
      b (ix2 0 (col g k)) + ∑ s : Fin 512, x1 (ix2 s (col g k)) * ∑ a : Fin 256, x0 (ix2 s (col g a)) * x2 (ix3 g a k) := by
  rw [← part'_at]
  pointwise [k0_pay5]

/-- The reference at one place. -/
theorem ref0_at (x1 : Vec Ideal S4096x1024 .bf16) (x2 : Vec Ideal S4x256x256 .bf16) (x3 : Vec Ideal S1x1024 .f32) (i : Fin 4096) (g : Fin 4)
    (k : Fin 256) : val_main_v21 (F := Ideal) x1 x2 x3 (ix2 i (col g k)) =
      ∑ s : Fin 256, x1 (ix2 i (col g s)) * x3 (ix2 0 (col g s)) * x2 (ix3 g k s) := by
  unfold col
  pointwise [val_main_v21, val_main_v20, val_main_v17, val_main_v16, val_main_v15, val_main_v14, val_main_v13, val_main_v12, val_main_v8,
    val_main_v1]
  simp only [mul_comm g.val 256]

theorem ref1_at (x0 x1 : Vec Ideal S4096x1024 .bf16) (x3 : Vec Ideal S1x1024 .f32) (g : Fin 4) (i k : Fin 256) :
    val_main_v19 (F := Ideal) x0 x1 x3 (ix3 g i k) =
      ∑ s : Fin 4096, x0 (ix2 s (col g i)) * (x1 (ix2 s (col g k)) * x3 (ix2 0 (col g k))) := by
  unfold col
  pointwise [val_main_v19, val_main_v18, val_main_v15, val_main_v14, val_main_v13, val_main_v12, val_main_v8, val_main_v2, val_main_v0]
  simp only [mul_comm g.val 256]
  exact Finset.sum_congr rfl fun s _ => mul_comm _ _

theorem ref2_at (x0 x1 : Vec Ideal S4096x1024 .bf16) (x2 : Vec Ideal S4x256x256 .bf16) (g : Fin 4) (k : Fin 256) :
    val_main_v11 (F := Ideal) x0 x1 x2 (ix2 0 (col g k)) =
      ∑ s : Fin 4096, x1 (ix2 s (col g k)) * ∑ a : Fin 256, x0 (ix2 s (col g a)) * x2 (ix3 g a k) := by
  unfold col
  pointwise [val_main_v11, val_main_v10, val_main_v9, val_main_v8, val_main_v5, val_main_v4, val_main_v3, val_main_v2, val_main_v1, val_main_v0,
    val_main_cst]
  simp only [mul_comm g.val 256]
  exact Finset.sum_congr rfl fun s _ => (mul_comm _ _).trans (congrArg (fun b : EReal => _ * b) (Finset.sum_congr rfl fun a _ => mul_comm _ _))

variable (m : (ℓ : Loc nD τ sig) → Buf (Elt Ideal) ℓ) (c : Dev nD)

/-- The arguments: the pooled features, the cotangent, the four matrices, the gate. -/
abbrev a0 : Vec Ideal S4096x1024 .bf16 := m ((c : Thread nD τ).loc main_arg0)
abbrev a1 : Vec Ideal S4096x1024 .bf16 := m ((c : Thread nD τ).loc main_arg1)
abbrev a2 : Vec Ideal S4x256x256 .bf16 := m ((c : Thread nD τ).loc main_arg2)
abbrev a3 : Vec Ideal S1x1024 .f32 := m ((c : Thread nD τ).loc main_arg3)

/-- Their blocks at a point. -/
abbrev b0 (t : Fin cfg0.N) : Vec Ideal S512x1024 .bf16 := iblk m c 0 t
abbrev b1 (t : Fin cfg0.N) : Vec Ideal S512x1024 .bf16 := iblk m c 1 t
abbrev b2 (t : Fin cfg0.N) : Vec Ideal S4x256x256 .bf16 := iblk m c 2 t
abbrev b3 (t : Fin cfg0.N) : Vec Ideal S1x1024 .f32 := iblk m c 3 t

/-- What a point computes from its blocks alone: the features' gradient. -/
abbrev here (t : Fin cfg0.N) : FVec Ideal S512x1024 .bf16 :=
  k0_pay3 (b2 m c t) (k0_pay7 (b1 m c t) (b3 m c t)) (k0_pay9 (b1 m c t) (b2 m c t) (b3 m c t)) (k0_pay12 (b1 m c t) (b2 m c t) (b3 m c t))
    (k0_pay15 (b1 m c t) (b2 m c t) (b3 m c t))

/-- The first point starts both sums. -/
theorem first (t : Fin cfg0.N) (h0 : t.val % 8 = 0) (h1 : ¬1 ≤ t.val) : outsAt0 m c t.val t.isLt =
    (here m c t,
      k0_pay2 (b0 m c t) (k0_pay7 (b1 m c t) (b3 m c t)) (k0_pay10 (b0 m c t) (b1 m c t) (b3 m c t)) (k0_pay13 (b0 m c t) (b1 m c t) (b3 m c t))
        (k0_pay16 (b0 m c t) (b1 m c t) (b3 m c t)),
      k0_pay1 (b0 m c t) (b2 m c t) (k0_pay6 (b1 m c t)) (k0_pay8 (b0 m c t) (b2 m c t)) (k0_pay11 (b0 m c t) (b2 m c t))
        (k0_pay14 (b0 m c t) (b2 m c t))) := by
  rw [outsAt0_A m c t h0 h1 h0 h1]
  refine Prod.ext ?_ (Prod.ext ?_ ?_)
  · dsimp only
    refine (View.read_writes_eq_canon _ _ _ (fun y => cover0_A_4 (F := Ideal) (y := y) ..)).trans ?_
    unfold kernelRun0_A
    dsimp only
    sl_unfold_words
    rw [View.canon_unit_zero hz2]
    simp only [View.readAt_eq_ld, Memref.IsWhole.read_unread, View.ld_unit_zero (S := S512x1024) hz2,
      View.ld_unit_zero (S := S1x1024) hz2, View.ld_unit_zero (S := S4x256x256) hz3]
  · dsimp only
    refine (View.read_writes_eq_canon _ _ _ (fun y => cover0_A_5 (F := Ideal) (y := y) ..)).trans ?_
    unfold kernelRun0_A
    dsimp only
    sl_unfold_words
    rw [View.canon_unit_zero hz3]
    simp only [View.readAt_eq_ld, Memref.IsWhole.read_unread, View.ld_unit_zero (S := S512x1024) hz2,
      View.ld_unit_zero (S := S1x1024) hz2, View.ld_unit_zero (S := S4x256x256) hz3]
  · dsimp only
    refine (View.read_writes_eq_canon _ _ _ (fun y => cover0_A_6 (F := Ideal) (y := y) ..)).trans ?_
    unfold kernelRun0_A
    dsimp only
    sl_unfold_words
    rw [View.canon_unit_zero hz2]
    simp only [View.readAt_eq_ld, Memref.IsWhole.read_unread, View.ld_unit_zero (S := S512x1024) hz2,
      View.ld_unit_zero (S := S1x1024) hz2, View.ld_unit_zero (S := S4x256x256) hz3]

/-- A later point adds to them. -/
theorem later (t : Fin cfg0.N) (h0 : ¬t.val % 8 = 0) (h1 : 1 ≤ t.val) (hp : t.val - 1 < cfg0.N) : outsAt0 m c t.val t.isLt =
    (here m c t,
      k0_pay4 (b0 m c t) (k0_pay7 (b1 m c t) (b3 m c t)) (k0_pay10 (b0 m c t) (b1 m c t) (b3 m c t)) (k0_pay13 (b0 m c t) (b1 m c t) (b3 m c t))
        (k0_pay16 (b0 m c t) (b1 m c t) (b3 m c t)) (outsAt0 m c (t.val - 1) hp).2.1,
      k0_pay5 (b0 m c t) (b2 m c t) (k0_pay6 (b1 m c t)) (k0_pay8 (b0 m c t) (b2 m c t)) (k0_pay11 (b0 m c t) (b2 m c t))
        (k0_pay14 (b0 m c t) (b2 m c t)) (outsAt0 m c (t.val - 1) hp).2.2) := by
  rw [outsAt0_B m c t h0 h1 h0 h1]
  refine Prod.ext ?_ (Prod.ext ?_ ?_)
  · dsimp only
    refine (View.read_writes_eq_canon _ _ _ (fun y => cover0_B_4 (F := Ideal) (y := y) ..)).trans ?_
    unfold kernelRun0_B
    dsimp only
    sl_unfold_words
    rw [View.canon_unit_zero hz2]
    simp only [View.readAt_eq_ld, Memref.IsWhole.read_unread, View.ld_unit_zero (S := S512x1024) hz2,
      View.ld_unit_zero (S := S1x1024) hz2, View.ld_unit_zero (S := S4x256x256) hz3]
  · dsimp only
    refine (View.read_writes_eq_canon _ _ _ (fun y => cover0_B_5 (F := Ideal) (y := y) ..)).trans ?_
    unfold kernelRun0_B
    dsimp only
    sl_unfold_words
    rw [View.canon_unit_zero hz3]
    simp only [View.readAt_eq_ld, Memref.IsWhole.read_unread, View.ld_unit_zero (S := S512x1024) hz2,
      View.ld_unit_zero (S := S1x1024) hz2, View.ld_unit_zero (S := S4x256x256) hz3]
  · dsimp only
    refine (View.read_writes_eq_canon _ _ _ (fun y => cover0_B_6 (F := Ideal) (y := y) ..)).trans ?_
    unfold kernelRun0_B
    dsimp only
    sl_unfold_words
    rw [View.canon_unit_zero hz2]
    simp only [View.readAt_eq_ld, Memref.IsWhole.read_unread, View.ld_unit_zero (S := S512x1024) hz2,
      View.ld_unit_zero (S := S1x1024) hz2, View.ld_unit_zero (S := S4x256x256) hz3]

theorem out_at (t : Fin cfg0.N) : (outsAt0 m c t.val t.isLt).1 = here m c t := by
  have hN : cfg0.N = 8 := N_0
  by_cases h : t.val = 0
  · rw [first m c t (by omega) (by omega)]
  · rw [later m c t (by omega) (by omega) (by omega)]

/-- The windows' block indices. -/
theorem index : ∀ t : Fin cfg0.N, (win0_0.index t 0 = t.val ∧ win0_0.index t 1 = 0) ∧ (win0_1.index t 0 = t.val ∧ win0_1.index t 1 = 0) ∧
    (∀ a, win0_2.index t a = 0) ∧ (∀ a, win0_3.index t a = 0) ∧ (win0_4.index t 0 = t.val ∧ win0_4.index t 1 = 0) ∧
    (∀ a, win0_5.index t a = 0) ∧ (∀ a, win0_6.index t a = 0) :=
  (by decide +kernel : ∀ t : Fin grid0.N, (win0_0.index t 0 = t.val ∧ win0_0.index t 1 = 0) ∧
    (win0_1.index t 0 = t.val ∧ win0_1.index t 1 = 0) ∧ (∀ a, win0_2.index t a = 0) ∧ (∀ a, win0_3.index t a = 0) ∧
    (win0_4.index t 0 = t.val ∧ win0_4.index t 1 = 0) ∧ (∀ a, win0_5.index t a = 0) ∧ (∀ a, win0_6.index t a = 0))

/-- Row `s` of the array, for row `s` of point `t`'s tile. -/
def row (t : Fin cfg0.N) (s : Fin 512) : Fin 4096 := ⟨512 * t.val + s.val, by have : cfg0.N = 8 := N_0; omega⟩

theorem b0_at (t : Fin cfg0.N) (s : Fin 512) (k : Fin 1024) : b0 m c t (ix2 s k) = a0 m c (ix2 (row t s) k) := by
  refine congrArg (a0 m c) (Shape.idx_ext₂ ?_ ?_)
  · show win0_0.index t 0 * 512 + 1 * s.val = 512 * t.val + s.val
    rw [(index t).1.1]; omega
  · show win0_0.index t 1 * 1024 + 1 * k.val = k.val
    rw [(index t).1.2]; omega

theorem b1_at (t : Fin cfg0.N) (s : Fin 512) (k : Fin 1024) : b1 m c t (ix2 s k) = a1 m c (ix2 (row t s) k) := by
  refine congrArg (a1 m c) (Shape.idx_ext₂ ?_ ?_)
  · show win0_1.index t 0 * 512 + 1 * s.val = 512 * t.val + s.val
    rw [(index t).2.1.1]; omega
  · show win0_1.index t 1 * 1024 + 1 * k.val = k.val
    rw [(index t).2.1.2]; omega

theorem b2_eq (t : Fin cfg0.N) : b2 m c t = a2 m c := by
  funext y
  refine congrArg (a2 m c) (funext fun a => Fin.ext ?_)
  show win0_2.index t a * _ + 1 * (y a).val = (y a).val
  rw [(index t).2.2.1 a]; omega

theorem b3_eq (t : Fin cfg0.N) : b3 m c t = a3 m c := by
  funext y
  refine congrArg (a3 m c) (funext fun a => Fin.ext ?_)
  show win0_3.index t a * _ + 1 * (y a).val = (y a).val
  rw [(index t).2.2.2.1 a]; omega

/-- The kernel's first array at one place is the reference's. -/
theorem arr0_at (t : Fin cfg0.N) (i : Fin 512) (g : Fin 4) (k : Fin 256) : (dats m 0 c).arrAt 4 cfg0.N (ix2 (row t i) (col g k)) =
    val_main_v21 (F := Ideal) (a1 m c) (a2 m c) (a3 m c) (ix2 (row t i) (col g k)) := by
  rw [ref0_at]
  have e : ((cfg0.win 4).blk t).view.emb (ix2 i (col g k)) = (ix2 (row t i) (col g k) : S4096x1024.Idx) := by
    refine Shape.idx_ext₂ ?_ ?_
    · show win0_4.index t 0 * 512 + 1 * i.val = 512 * t.val + i.val
      rw [(index t).2.2.2.2.1.1]; omega
    · show win0_4.index t 1 * 1024 + 1 * (col g k).val = (col g k).val
      rw [(index t).2.2.2.2.1.2]; omega
  refine (congrArg _ e.symm).trans ((congrFun (Value.blocks4 m c t (flush0_4 t)) (ix2 i (col g k))).trans ?_)
  rw [Value.flushed4, out_at]
  refine (pay_at _ _ _ i g k).trans ?_
  simp only [b1_at, b2_eq, b3_eq]

/-- The matrices' gradient after the last tile: over all the rows. -/
theorem total (g : Fin 4) (i k : Fin 256) (h : 8 * 0 + (8 - 1) < cfg0.N) : (outsAt0 m c (8 * 0 + (8 - 1)) h).2.1 (ix3 g i k) =
    ∑ s : Fin 4096, a0 m c (ix2 s (col g i)) * (a1 m c (ix2 s (col g k)) * a3 m c (ix2 0 (col g k))) := by
  have hN : cfg0.N = 8 := N_0
  refine carried_tiles 8 512 rfl (by decide) (fun n h => (outsAt0 m c n h).2.1 (ix3 g i k))
    (fun t s => b0 m c t (ix2 s (col g i)) * (b1 m c t (ix2 s (col g k)) * b3 m c t (ix2 0 (col g k))))
    (fun n h h0 => ?_) (fun n h h0 => ?_) 0 h _ fun q s hk hb => ?_
  · rw [first m c ⟨n, h⟩ h0 (by simp only; omega)]
    exact part_at ..
  · rw [later m c ⟨n + 1, h⟩ h0 (by simp only; omega) (by simp only; omega)]
    exact more_at ..
  · have e : row ⟨8 * 0 + q.val, hk⟩ s = ⟨q.val * 512 + s.val, hb⟩ :=
      Fin.ext (by show 512 * (8 * 0 + q.val) + s.val = q.val * 512 + s.val; omega)
    rw [b0_at, b1_at, b3_eq, e]

/-- And the gate's. -/
theorem total' (g : Fin 4) (k : Fin 256) (h : 8 * 0 + (8 - 1) < cfg0.N) : (outsAt0 m c (8 * 0 + (8 - 1)) h).2.2 (ix2 0 (col g k)) =
    ∑ s : Fin 4096, a1 m c (ix2 s (col g k)) * ∑ a : Fin 256, a0 m c (ix2 s (col g a)) * a2 m c (ix3 g a k) := by
  have hN : cfg0.N = 8 := N_0
  refine carried_tiles 8 512 rfl (by decide) (fun n h => (outsAt0 m c n h).2.2 (ix2 0 (col g k)))
    (fun t s => b1 m c t (ix2 s (col g k)) * ∑ a : Fin 256, b0 m c t (ix2 s (col g a)) * b2 m c t (ix3 g a k))
    (fun n h h0 => ?_) (fun n h h0 => ?_) 0 h _ fun q s hk hb => ?_
  · rw [first m c ⟨n, h⟩ h0 (by simp only; omega)]
    exact part'_at ..
  · rw [later m c ⟨n + 1, h⟩ h0 (by simp only; omega) (by simp only; omega)]
    exact more'_at ..
  · have e : row ⟨8 * 0 + q.val, hk⟩ s = ⟨q.val * 512 + s.val, hb⟩ :=
      Fin.ext (by show 512 * (8 * 0 + q.val) + s.val = q.val * 512 + s.val; omega)
    simp only [b0_at, b1_at, b2_eq, e]

theorem last_lt : 8 * 0 + (8 - 1) < cfg0.N := by rw [show cfg0.N = 8 from N_0]; decide

/-- The last point, the only one that writes the sums back. -/
abbrev tl : Fin cfg0.N := ⟨8 * 0 + (8 - 1), last_lt⟩

theorem only_last (t : Fin cfg0.N) (h : t.val % 8 = 7) : t = tl :=
  Fin.ext (by have : cfg0.N = 8 := N_0; have := t.isLt; show t.val = 7; omega)

/-- The kernel's other arrays at one place are the reference's. -/
theorem arr1_at (g : Fin 4) (i k : Fin 256) : (dats m 0 c).arrAt 5 cfg0.N (ix3 g i k) =
    val_main_v19 (F := Ideal) (a0 m c) (a1 m c) (a3 m c) (ix3 g i k) := by
  rw [ref1_at]
  have e : ((cfg0.win 5).blk tl).view.emb (ix3 g i k) = (ix3 g i k : S4x256x256.Idx) := by
    refine funext fun a => Fin.ext ?_
    show win0_5.index tl a * _ + 1 * (ix3 g i k a).val = (ix3 g i k a).val
    rw [(index tl).2.2.2.2.2.1 a]; omega
  refine (congrArg _ e.symm).trans ((congrFun ((dats m 0 c).read_blk_arrAt_eq_flushed 5 (fun t t' h h' hne =>
    absurd ((only_last t ((flush0_5 t).mp h)).trans (only_last t' ((flush0_5 t').mp h')).symm) hne) cfg0.N tl last_lt
      ((flush0_5 tl).mpr rfl)) (ix3 g i k)).trans ?_)
  rw [Value.flushed5]
  exact total m c g i k last_lt

theorem arr2_at (g : Fin 4) (k : Fin 256) : (dats m 0 c).arrAt 6 cfg0.N (ix2 0 (col g k)) =
    val_main_v11 (F := Ideal) (a0 m c) (a1 m c) (a2 m c) (ix2 0 (col g k)) := by
  rw [ref2_at]
  have e : ((cfg0.win 6).blk tl).view.emb (ix2 0 (col g k)) = (ix2 0 (col g k) : S1x1024.Idx) := by
    refine funext fun a => Fin.ext ?_
    show win0_6.index tl a * _ + 1 * (ix2 0 (col g k) a).val = (ix2 0 (col g k) a).val
    rw [(index tl).2.2.2.2.2.2 a]; omega
  refine (congrArg _ e.symm).trans ((congrFun ((dats m 0 c).read_blk_arrAt_eq_flushed 6 (fun t t' h h' hne =>
    absurd ((only_last t ((flush0_6 t).mp h)).trans (only_last t' ((flush0_6 t').mp h')).symm) hne) cfg0.N tl last_lt
      ((flush0_6 tl).mpr rfl)) (ix2 0 (col g k))).trans ?_)
  rw [Value.flushed6]
  exact total' m c g k last_lt

/-- Every column lies in a group. -/
theorem grouped (k : Fin 1024) : ∃ (g : Fin 4) (s : Fin 256), k = col g s :=
  ⟨⟨k.val / 256, by omega⟩, ⟨k.val % 256, by omega⟩, col_of (by simp only; omega)⟩

/-- The kernel's arrays are the reference's. -/
theorem out0 : (dats m 0 c).arrAt 4 cfg0.N = val_main_v21 (F := Ideal) (a1 m c) (a2 m c) (a3 m c) := by
  funext (j : S4096x1024.Idx)
  have hN : cfg0.N = 8 := N_0
  have hj : (j 0).val < 4096 := (j 0).isLt
  obtain ⟨g, s, e⟩ := grouped (j 1)
  have : j = ix2 (row ⟨(j 0).val / 512, by omega⟩ ⟨(j 0).val % 512, by omega⟩) (col g s) :=
    Shape.idx_ext₂ (by show (j 0).val = 512 * ((j 0).val / 512) + (j 0).val % 512; omega) (congrArg Fin.val e)
  rw [this]
  exact arr0_at m c _ _ _ _

theorem out1 : (dats m 0 c).arrAt 5 cfg0.N = val_main_v19 (F := Ideal) (a0 m c) (a1 m c) (a3 m c) := by
  funext (j : S4x256x256.Idx)
  have : j = ix3 (j 0) (j 1) (j 2) := funext fun a => by fin_cases a <;> rfl
  rw [this]
  exact arr1_at m c _ _ _

theorem out2 : (dats m 0 c).arrAt 6 cfg0.N = val_main_v11 (F := Ideal) (a0 m c) (a1 m c) (a2 m c) := by
  funext (j : S1x1024.Idx)
  obtain ⟨g, s, e⟩ := grouped (j 1)
  have : j = ix2 0 (col g s) := Shape.idx_ext₂ (Fin.val_eq_zero (j 0)) (congrArg Fin.val e)
  rw [this]
  exact arr2_at m c _ _

/-- From equal arguments the kernel's results over the extended reals are the reference's. -/
theorem algebraic : Cert.algebraic_PoolMixBIdeal_PoolMixBRefIdeal := by
  intro m ρ m' ρ' _ hagree
  refine ⟨_, _, _, Cert.PoolMixBIdeal.Value.run_blocks (F := Ideal) m ρ, ?_⟩
  refine (θ_run Cert.PoolMixBRefIdeal.defs _ _).mono (fun r h c => ?_) (Cert.PoolMixBRefIdeal.Value.run (F := Ideal) m' ρ')
  obtain ⟨h0, h1, h2, hk⟩ := h c
  obtain ⟨e0, e1, e2, e3⟩ := hagree c
  refine ⟨?_, ?_, ?_, hk⟩
  · refine (h0.trans (val_main_v21_eq _ _ _)).trans (Eq.trans ?_ (out0 m c).symm)
    simp only [e1, e2, e3]
  · refine (h1.trans (val_main_v19_eq _ _ _)).trans (Eq.trans ?_ (out1 m c).symm)
    simp only [e0, e1, e3]
  · refine (h2.trans (val_main_v11_eq _ _ _)).trans (Eq.trans ?_ (out2 m c).symm)
    simp only [e0, e1, e2]

end Cert.Proof.PoolMixB

end
-- ==== Proof.Rows.PoolMix.lean ====
module

public import proofs.«01_k».proof.Defs
public import proofs.«01_k».proof.Proof.Rows.Groups
public import proofs.«01_k».proof.Proof.Gen.PoolMix.Frame
public import proofs.«01_k».proof.Proof.Gen.PoolMixIdeal.Value
public import proofs.«01_k».proof.Proof.Gen.PoolMixRefIdeal.Run
public import proofs.«01_k».proof.Proof.Gen.PoolMixRefIdeal.Read
public import Idealize.ShloMosaic.Lib.Pipeline.ReadBack
public import Idealize.ShloMosaic.Adequacy
public import Idealize.ShloMosaic.Init

@[expose] public section

/-! Mixing the pooled features: each of four groups of 256 columns times its own matrix, and the sum times a gate. -/

set_option maxRecDepth 16384

noncomputable section

namespace Cert.Proof.PoolMix

open Cert Cert.Mm Cert.Groups Idealize.ShloMosaic Idealize.ShloMosaic.TcCoe Idealize.SL.Sem
open Cert.PoolMixIdeal Cert.PoolMixIdeal.Gen Cert.PoolMixRefIdeal.Read

/-- The kernel keeps its arguments and ends with every counter at zero. -/
theorem frame_p : Cert.quiescent_PoolMix := fun m ρ _ => Cert.PoolMix.Gen.frame m ρ

/-- So does its reading over the extended reals. -/
theorem frame_pi : Cert.quiescent_PoolMixIdeal := fun m ρ _ => Cert.PoolMixIdeal.Gen.frame m ρ

/-- The reference keeps its arguments; it has no counters. -/
theorem frame_ri : Cert.quiescent_PoolMixRefIdeal := fun m ρ _ =>
  (θ_run Cert.PoolMixRefIdeal.defs _ _).mono
    (fun r h => ⟨fun c => (h c).2, sem_eq_zero_of_no_sems (by decide) r.2⟩)
    (Cert.PoolMixRefIdeal.Value.run (F := Ideal) m ρ)

/-- A group's row times a column of its matrix. -/
def mix {r : ℕ} (x : Vec Ideal (⟨2, ![r, 1024]⟩ : Shape) .bf16) (w : Vec Ideal S4x256x256 .bf16) (i : Fin r) (g : Fin 4) (k : Fin 256) : EReal :=
  ∑ s : Fin 256, x (ix2 i (col g s)) * w (ix3 g s k)

/-- One block of the result. -/
theorem block_at (x0 : Vec Ideal S512x1024 .bf16) (x1 : Vec Ideal S4x256x256 .bf16) (x2 : Vec Ideal S1x1024 .f32) (i : Fin 512) (g : Fin 4)
    (k : Fin 256) : out0_3 (F := Ideal) x0 x1 x2 (ix2 i (col g k)) = mix x0 x1 i g k * x2 (ix2 0 (col g k)) := by
  unfold out0_3 col
  rw [View.canon_unit_zero hz2, View.ld_unit_zero (S := S512x1024) hz2, View.ld_unit_zero (S := S4x256x256) hz3,
    View.ld_unit_zero (S := S1x1024) hz2]
  pointwise [k0_pay1]
  exact congrArg (fun a : EReal => a * _) (sums (fun a => x0 (ix2 i a)) (fun g k s => x1 (ix3 g s k)) g k)

/-- The reference at one place. -/
theorem ref_at (x0 : Vec Ideal S4096x1024 .bf16) (x1 : Vec Ideal S4x256x256 .bf16) (x2 : Vec Ideal S1x1024 .f32) (i : Fin 4096) (g : Fin 4)
    (k : Fin 256) : val_main_v8 (F := Ideal) x0 x1 x2 (ix2 i (col g k)) = mix x0 x1 i g k * x2 (ix2 0 (col g k)) := by
  unfold col
  pointwise [val_main_v8, val_main_v7, val_main_v6, val_main_v5, val_main_v4, val_main_v3, val_main_v2, val_main_v1, val_main_v0]
  refine congrArg (fun a : EReal => a * _) ?_
  exact (Finset.sum_congr rfl fun s _ => mul_comm _ _).trans (sum_of (fun a => x0 (ix2 i a)) (fun g k s => x1 (ix3 g s k)) g g k k
    (fun s => ⟨g.val * 256 + s.val, by omega⟩) rfl rfl fun s => by simp only; omega)

variable (m : (ℓ : Loc nD τ sig) → Buf (Elt Ideal) ℓ) (c : Dev nD)

/-- The arguments: the pooled features, the four matrices, the gate. -/
abbrev a0 : Vec Ideal S4096x1024 .bf16 := m ((c : Thread nD τ).loc main_arg0)
abbrev a1 : Vec Ideal S4x256x256 .bf16 := m ((c : Thread nD τ).loc main_arg1)
abbrev a2 : Vec Ideal S1x1024 .f32 := m ((c : Thread nD τ).loc main_arg2)

/-- The windows' block indices. -/
theorem index : ∀ t : Fin cfg0.N, (win0_0.index t 0 = t.val ∧ win0_0.index t 1 = 0) ∧ (∀ a, win0_1.index t a = 0) ∧
    (∀ a, win0_2.index t a = 0) ∧ (win0_3.index t 0 = t.val ∧ win0_3.index t 1 = 0) :=
  (by decide +kernel : ∀ t : Fin grid0.N, (win0_0.index t 0 = t.val ∧ win0_0.index t 1 = 0) ∧ (∀ a, win0_1.index t a = 0) ∧
    (∀ a, win0_2.index t a = 0) ∧ (win0_3.index t 0 = t.val ∧ win0_3.index t 1 = 0))

/-- Row `s` of the array, for row `s` of point `t`'s tile. -/
def row (t : Fin cfg0.N) (s : Fin 512) : Fin 4096 := ⟨512 * t.val + s.val, by have : cfg0.N = 8 := N_0; omega⟩

theorem b0_at (t : Fin cfg0.N) (i : Fin 512) (k : Fin 1024) : iblk m c 0 t (ix2 i k) = a0 m c (ix2 (row t i) k) := by
  refine congrArg (a0 m c) (Shape.idx_ext₂ ?_ ?_)
  · show win0_0.index t 0 * 512 + 1 * i.val = 512 * t.val + i.val
    rw [(index t).1.1]; omega
  · show win0_0.index t 1 * 1024 + 1 * k.val = k.val
    rw [(index t).1.2]; omega

theorem b1_eq (t : Fin cfg0.N) : iblk m c 1 t = a1 m c := by
  funext y
  refine congrArg (a1 m c) (funext fun a => Fin.ext ?_)
  show win0_1.index t a * _ + 1 * (y a).val = (y a).val
  rw [(index t).2.1 a]; omega

theorem b2_eq (t : Fin cfg0.N) : iblk m c 2 t = a2 m c := by
  funext y
  refine congrArg (a2 m c) (funext fun a => Fin.ext ?_)
  show win0_2.index t a * _ + 1 * (y a).val = (y a).val
  rw [(index t).2.2.1 a]; omega

/-- The kernel's array at one place is the reference's. -/
theorem arr_at (t : Fin cfg0.N) (i : Fin 512) (g : Fin 4) (k : Fin 256) : (dats m 0 c).arrAt 3 cfg0.N (ix2 (row t i) (col g k)) =
    val_main_v8 (F := Ideal) (a0 m c) (a1 m c) (a2 m c) (ix2 (row t i) (col g k)) := by
  rw [ref_at]
  have e : ((cfg0.win 3).blk t).view.emb (ix2 i (col g k)) = (ix2 (row t i) (col g k) : S4096x1024.Idx) := by
    refine Shape.idx_ext₂ ?_ ?_
    · show win0_3.index t 0 * 512 + 1 * i.val = 512 * t.val + i.val
      rw [(index t).2.2.2.1]; omega
    · show win0_3.index t 1 * 1024 + 1 * (col g k).val = (col g k).val
      rw [(index t).2.2.2.2]; omega
  refine (congrArg _ e.symm).trans ((congrFun (Value.blocks3 m c t (flush0_3 t)) (ix2 i (col g k))).trans ?_)
  rw [Value.flushed3]
  refine (block_at _ _ _ i g k).trans ?_
  rw [b1_eq, b2_eq]
  unfold mix
  simp only [b0_at]

/-- The kernel's array is the reference's. -/
theorem out : (dats m 0 c).arrAt 3 cfg0.N = val_main_v8 (F := Ideal) (a0 m c) (a1 m c) (a2 m c) := by
  funext (j : S4096x1024.Idx)
  have hN : cfg0.N = 8 := N_0
  have hj : (j 0).val < 4096 := (j 0).isLt
  have hk : (j 1).val < 1024 := (j 1).isLt
  have : j = ix2 (row ⟨(j 0).val / 512, by omega⟩ ⟨(j 0).val % 512, by omega⟩) (col ⟨(j 1).val / 256, by omega⟩ ⟨(j 1).val % 256, by omega⟩) :=
    Shape.idx_ext₂ (by show (j 0).val = 512 * ((j 0).val / 512) + (j 0).val % 512; omega)
      (by show (j 1).val = 256 * ((j 1).val / 256) + (j 1).val % 256; omega)
  rw [this]
  exact arr_at m c _ _ _ _

/-- From equal arguments the kernel's result over the extended reals is the reference's. -/
theorem algebraic : Cert.algebraic_PoolMixIdeal_PoolMixRefIdeal := by
  intro m ρ m' ρ' _ hagree
  refine ⟨_, Cert.PoolMixIdeal.Value.run_blocks (F := Ideal) m ρ, ?_⟩
  refine (θ_run Cert.PoolMixRefIdeal.defs _ _).mono (fun r h c => ?_) (Cert.PoolMixRefIdeal.Value.run (F := Ideal) m' ρ')
  obtain ⟨h0, hk⟩ := h c
  obtain ⟨e0, e1, e2⟩ := hagree c
  refine ⟨(h0.trans (val_main_v8_eq _ _ _)).trans (Eq.trans ?_ (out m c).symm), hk⟩
  simp only [e0, e1, e2]

end Cert.Proof.PoolMix

end
-- ==== Proof.Rows.SwigluF.lean ====
module

public import proofs.«01_k».proof.Defs
public import proofs.«01_k».proof.Proof.Mm.Common
public import proofs.«01_k».proof.Proof.Gen.SwigluF.Frame
public import proofs.«01_k».proof.Proof.Gen.SwigluFIdeal.Value
public import proofs.«01_k».proof.Proof.Gen.SwigluFRefIdeal.Run
public import proofs.«01_k».proof.Proof.Gen.SwigluFRefIdeal.Read
public import Idealize.ShloMosaic.Lib.Pipeline.ReadBack
public import Idealize.ShloMosaic.Adequacy
public import Idealize.ShloMosaic.Init

@[expose] public section

/-! The feed-forward's gated product. -/

set_option maxRecDepth 16384

noncomputable section

namespace Cert.Proof.SwigluF

open Cert Cert.Mm Idealize.ShloMosaic Idealize.ShloMosaic.TcCoe Idealize.SL.Sem
open Cert.SwigluFIdeal Cert.SwigluFIdeal.Gen Cert.SwigluFRefIdeal.Read

/-- The kernel keeps its arguments and ends with every counter at zero. -/
theorem frame_p : Cert.quiescent_SwigluF := fun m ρ _ => Cert.SwigluF.Gen.frame m ρ

/-- So does its reading over the extended reals. -/
theorem frame_pi : Cert.quiescent_SwigluFIdeal := fun m ρ _ => Cert.SwigluFIdeal.Gen.frame m ρ

/-- The reference keeps its arguments; it has no counters. -/
theorem frame_ri : Cert.quiescent_SwigluFRefIdeal := fun m ρ _ =>
  (θ_run Cert.SwigluFRefIdeal.defs _ _).mono
    (fun r h => ⟨fun c => (h c).2, sem_eq_zero_of_no_sems (by decide) r.2⟩)
    (Cert.SwigluFRefIdeal.Value.run (F := Ideal) m ρ)

/-- The gated product at one place. -/
def entry {r : ℕ} (x0 : Vec Ideal (⟨2, ![r, 5632]⟩ : Shape) .bf16) (i : Fin r) (j : Fin 2816) : EReal :=
  x0 (ix2 i ⟨j.val, by omega⟩) * Ideal.logistic (x0 (ix2 i ⟨j.val, by omega⟩)) * x0 (ix2 i ⟨2816 + j.val, by omega⟩)

/-- One block of the result. -/
theorem block_at (x0 : Vec Ideal S256x5632 .bf16) (i : Fin 256) (j : Fin 2816) : out0_1 (F := Ideal) x0 (ix2 i j) = entry x0 i j := by
  unfold out0_1 entry
  rw [View.canon_unit_zero hz2, View.ld_unit_zero (S := S256x5632) hz2]
  pointwise [k0_pay1]

/-- The reference's result at one place. -/
theorem ref_at (x0 : Vec Ideal S4096x5632 .bf16) (i : Fin 4096) (j : Fin 2816) :
    val_main_v5 (F := Ideal) x0 (ix2 i j) = entry x0 i j := by
  unfold entry
  pointwise [val_main_v5, val_main_v4, val_main_v3, val_main_call0_v0, val_main_call0_v1, val_main_call0_v2, val_main_call0_v3,
    val_main_call0_v4, val_main_call0_v5, val_main_call0_cst, val_main_call0_cst_0, val_main_v0, val_main_v1, val_main_v2]
  rfl

variable (m : (ℓ : Loc nD τ sig) → Buf (Elt Ideal) ℓ) (c : Dev nD)

/-- The argument: gate and other factor side by side. -/
abbrev a0 : Vec Ideal S4096x5632 .bf16 := m ((c : Thread nD τ).loc main_arg0)

/-- The windows' block indices. -/
theorem index : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧
    (win0_1.index t 0 = t.val ∧ win0_1.index t 1 = 0))

/-- Row `i` of the array, for row `i` of point `t`'s block. -/
def row (t : Fin cfg0.N) (i : Fin 256) : Fin 4096 := ⟨256 * t.val + i.val, by have : cfg0.N = 16 := N_0; omega⟩

theorem b0_at (t : Fin cfg0.N) (i : Fin 256) (k : Fin 5632) : iblk m c 0 t (ix2 i k) = a0 m c (ix2 (row t i) k) := by
  refine congrArg (a0 m c) (Shape.idx_ext₂ ?_ ?_)
  · show win0_0.index t 0 * 256 + 1 * i.val = 256 * t.val + i.val
    rw [(index t).1.1]; omega
  · show win0_0.index t 1 * 5632 + 1 * k.val = k.val
    rw [(index t).1.2]; omega

/-- The kernel's array at one place. -/
theorem arr_at (t : Fin cfg0.N) (i : Fin 256) (j : Fin 2816) : (dats m 0 c).arrAt 1 cfg0.N (ix2 (row t i) j) =
    entry (a0 m c) (row t i) j := by
  have e : ((cfg0.win 1).blk t).view.emb (ix2 i j) = (ix2 (row t i) j : S4096x2816.Idx) := by
    refine Shape.idx_ext₂ ?_ ?_
    · show win0_1.index t 0 * 256 + 1 * i.val = 256 * t.val + i.val
      rw [(index t).2.1]; omega
    · show win0_1.index t 1 * 2816 + 1 * j.val = j.val
      rw [(index t).2.2]; omega
  rw [← e]
  refine (congrFun (Value.blocks1 m c t (flush0_1 t)) (ix2 i j)).trans ?_
  rw [Value.flushed1]
  refine (block_at _ i j).trans ?_
  unfold entry
  simp only [b0_at]

/-- The kernel's array is the reference's. -/
theorem out : (dats m 0 c).arrAt 1 cfg0.N = val_main_v5 (F := Ideal) (a0 m c) := by
  funext (j : S4096x2816.Idx)
  have hN : cfg0.N = 16 := N_0
  have hj : (j 0).val < 4096 := (j 0).isLt
  have : j = ix2 (row ⟨(j 0).val / 256, by omega⟩ ⟨(j 0).val % 256, by omega⟩) (j 1) :=
    Shape.idx_ext₂ (by show (j 0).val = 256 * ((j 0).val / 256) + (j 0).val % 256; omega) rfl
  rw [this]
  exact (arr_at m c _ _ _).trans (ref_at ..).symm

/-- From equal arguments the kernel's result over the extended reals is the reference's. -/
theorem algebraic : Cert.algebraic_SwigluFIdeal_SwigluFRefIdeal := by
  intro m ρ m' ρ' _ hagree
  refine ⟨_, Cert.SwigluFIdeal.Value.run_blocks (F := Ideal) m ρ, ?_⟩
  refine (θ_run Cert.SwigluFRefIdeal.defs _ _).mono (fun r h c => ?_) (Cert.SwigluFRefIdeal.Value.run (F := Ideal) m' ρ')
  obtain ⟨h0, hk⟩ := h c
  have e0 := hagree c
  refine ⟨(h0.trans (val_main_v5_eq _)).trans (Eq.trans ?_ (out m c).symm), hk⟩
  simp only [e0]

end Cert.Proof.SwigluF

end
-- ==== Proof.Rows.MergeF.lean ====
module

public import proofs.«01_k».proof.Defs
public import proofs.«01_k».proof.Proof.Mm.Common
public import proofs.«01_k».proof.Proof.Gen.MergeF.Frame
public import proofs.«01_k».proof.Proof.Gen.MergeFIdeal.Value
public import proofs.«01_k».proof.Proof.Gen.MergeFRefIdeal.Run
public import proofs.«01_k».proof.Proof.Gen.MergeFRefIdeal.Read
public import Idealize.ShloMosaic.Lib.Pipeline.ReadBack
public import Idealize.ShloMosaic.Adequacy
public import Idealize.ShloMosaic.Init

@[expose] public section

/-! Merging the three branches: the sum of their outputs, each times its gate's logistic. -/

set_option maxRecDepth 16384

noncomputable section

namespace Cert.Proof.MergeF

open Cert Cert.Mm Idealize.ShloMosaic Idealize.ShloMosaic.TcCoe Idealize.SL.Sem
open Cert.MergeFIdeal Cert.MergeFIdeal.Gen Cert.MergeFRefIdeal.Read

/-- The kernel keeps its arguments and ends with every counter at zero. -/
theorem frame_p : Cert.quiescent_MergeF := fun m ρ _ => Cert.MergeF.Gen.frame m ρ

/-- So does its reading over the extended reals. -/
theorem frame_pi : Cert.quiescent_MergeFIdeal := fun m ρ _ => Cert.MergeFIdeal.Gen.frame m ρ

/-- The reference keeps its arguments; it has no counters. -/
theorem frame_ri : Cert.quiescent_MergeFRefIdeal := fun m ρ _ =>
  (θ_run Cert.MergeFRefIdeal.defs _ _).mono
    (fun r h => ⟨fun c => (h c).2, sem_eq_zero_of_no_sems (by decide) r.2⟩)
    (Cert.MergeFRefIdeal.Value.run (F := Ideal) m ρ)

/-- The merged value at one place, from gates and outputs. -/
def entry (z0 z1 z2 y0 y1 y2 : EReal) : EReal := Ideal.logistic z0 * y0 + Ideal.logistic z1 * y1 + Ideal.logistic z2 * y2

/-- One block of the result. -/
theorem block_at (x0 x1 x2 x3 x4 x5 : Vec Ideal S512x1024 .bf16) (i : Fin 512) (k : Fin 1024) : out0_6 (F := Ideal) x0 x1 x2 x3 x4 x5 (ix2 i k) =
    entry (x0 (ix2 i k)) (x1 (ix2 i k)) (x2 (ix2 i k)) (x3 (ix2 i k)) (x4 (ix2 i k)) (x5 (ix2 i k)) := by
  unfold out0_6 entry
  rw [View.canon_unit_zero hz2]
  simp only [View.ld_unit_zero (S := S512x1024) hz2]
  pointwise [k0_pay1]

/-- The reference at one place. -/
theorem ref_at (x0 : Vec Ideal S4096x8192 .bf16) (x1 x2 x3 : Vec Ideal S4096x1024 .bf16) (i : Fin 4096) (k : Fin 1024) :
    val_main_v23 (F := Ideal) x0 x1 x2 x3 (ix2 i k) =
      entry (x0 (ix2 i ⟨5120 + k.val, by omega⟩)) (x0 (ix2 i ⟨6144 + k.val, by omega⟩)) (x0 (ix2 i ⟨7168 + k.val, by omega⟩))
        (x1 (ix2 i k)) (x2 (ix2 i k)) (x3 (ix2 i k)) := by
  unfold entry
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  simp only [← Nat.add_assoc, Nat.reduceAdd]
  rfl

variable (m : (ℓ : Loc nD τ sig) → Buf (Elt Ideal) ℓ) (c : Dev nD)

/-- The arguments: the gates among the columns of the input's projection, and the branches' outputs. -/
abbrev a0 : Vec Ideal S4096x8192 .bf16 := m ((c : Thread nD τ).loc main_arg0)
abbrev a1 : Vec Ideal S4096x1024 .bf16 := m ((c : Thread nD τ).loc main_arg1)
abbrev a2 : Vec Ideal S4096x1024 .bf16 := m ((c : Thread nD τ).loc main_arg2)
abbrev a3 : Vec Ideal S4096x1024 .bf16 := m ((c : Thread nD τ).loc main_arg3)

/-- The windows' block indices: the rows move with the point, the columns stand still. -/
theorem index0 : ∀ t : Fin cfg0.N, win0_0.index t 0 = t.val ∧ win0_0.index t 1 = 5 :=
  (by decide +kernel : ∀ t : Fin grid0.N, win0_0.index t 0 = t.val ∧ win0_0.index t 1 = 5)
theorem index1 : ∀ t : Fin cfg0.N, win0_1.index t 0 = t.val ∧ win0_1.index t 1 = 6 :=
  (by decide +kernel : ∀ t : Fin grid0.N, win0_1.index t 0 = t.val ∧ win0_1.index t 1 = 6)
theorem index2 : ∀ t : Fin cfg0.N, win0_2.index t 0 = t.val ∧ win0_2.index t 1 = 7 :=
  (by decide +kernel : ∀ t : Fin grid0.N, win0_2.index t 0 = t.val ∧ win0_2.index t 1 = 7)
theorem index : ∀ t : Fin cfg0.N, (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) :=
  (by decide +kernel : ∀ t : Fin grid0.N, (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0))

/-- Row `s` of the array, for row `s` of point `t`'s tile. -/
def row (t : Fin cfg0.N) (s : Fin 512) : Fin 4096 := ⟨512 * t.val + s.val, by have : cfg0.N = 8 := N_0; omega⟩

/-- A place of the array, given by block index and place in the block. -/
theorem place {w : ℕ} (t : Fin cfg0.N) (s : Fin 512) (k : Fin w) (p : (⟨2, ![4096, w]⟩ : Shape).Idx) {a b d : ℕ} (o : ℕ)
    (ha : a = t.val ∧ b = d) (h0 : (p 0).val = a * 512 + 1 * s.val) (h1 : (p 1).val = b * o + 1 * (k.val - d * o))
    (hd : d * o ≤ k.val) : p = ix2 (row t s) k :=
  Shape.idx_ext₂ (h0.trans (by rw [ha.1]; show _ = 512 * t.val + s.val; omega)) (h1.trans (by rw [ha.2]; show _ = k.val; omega))

theorem b0_at (t : Fin cfg0.N) (s : Fin 512) (k : Fin 1024) : iblk m c 0 t (ix2 s k) = a0 m c (ix2 (row t s) ⟨5120 + k.val, by omega⟩) :=
  congrArg (a0 m c) (place t s ⟨5120 + k.val, by omega⟩ _ 1024 (index0 t) rfl
    (by show _ = win0_0.index t 1 * 1024 + 1 * (5120 + k.val - 5 * 1024); rw [Nat.add_sub_cancel_left]; rfl) (by simp only; omega))

theorem b1_at (t : Fin cfg0.N) (s : Fin 512) (k : Fin 1024) : iblk m c 1 t (ix2 s k) = a0 m c (ix2 (row t s) ⟨6144 + k.val, by omega⟩) :=
  congrArg (a0 m c) (place t s ⟨6144 + k.val, by omega⟩ _ 1024 (index1 t) rfl
    (by show _ = win0_1.index t 1 * 1024 + 1 * (6144 + k.val - 6 * 1024); rw [Nat.add_sub_cancel_left]; rfl) (by simp only; omega))

theorem b2_at (t : Fin cfg0.N) (s : Fin 512) (k : Fin 1024) : iblk m c 2 t (ix2 s k) = a0 m c (ix2 (row t s) ⟨7168 + k.val, by omega⟩) :=
  congrArg (a0 m c) (place t s ⟨7168 + k.val, by omega⟩ _ 1024 (index2 t) rfl
    (by show _ = win0_2.index t 1 * 1024 + 1 * (7168 + k.val - 7 * 1024); rw [Nat.add_sub_cancel_left]; rfl) (by simp only; omega))

theorem b3_at (t : Fin cfg0.N) (s : Fin 512) (k : Fin 1024) : iblk m c 3 t (ix2 s k) = a1 m c (ix2 (row t s) k) :=
  congrArg (a1 m c) (place t s k _ 1024 (index t).1 rfl (by rw [Nat.zero_mul, Nat.sub_zero]; rfl) (by omega))

theorem b4_at (t : Fin cfg0.N) (s : Fin 512) (k : Fin 1024) : iblk m c 4 t (ix2 s k) = a2 m c (ix2 (row t s) k) :=
  congrArg (a2 m c) (place t s k _ 1024 (index t).2.1 rfl (by rw [Nat.zero_mul, Nat.sub_zero]; rfl) (by omega))

theorem b5_at (t : Fin cfg0.N) (s : Fin 512) (k : Fin 1024) : iblk m c 5 t (ix2 s k) = a3 m c (ix2 (row t s) k) :=
  congrArg (a3 m c) (place t s k _ 1024 (index t).2.2.1 rfl (by rw [Nat.zero_mul, Nat.sub_zero]; rfl) (by omega))

/-- The kernel's array at one place is the reference's. -/
theorem arr_at (t : Fin cfg0.N) (i : Fin 512) (k : Fin 1024) : (dats m 0 c).arrAt 6 cfg0.N (ix2 (row t i) k) =
    val_main_v23 (F := Ideal) (a0 m c) (a1 m c) (a2 m c) (a3 m c) (ix2 (row t i) k) := by
  rw [ref_at]
  have e : ((cfg0.win 6).blk t).view.emb (ix2 i k) = (ix2 (row t i) k : S4096x1024.Idx) :=
    place t i k _ 1024 (index t).2.2.2 rfl (by rw [Nat.zero_mul, Nat.sub_zero]; rfl) (by omega)
  refine (congrArg _ e.symm).trans ((congrFun (Value.blocks6 m c t (flush0_6 t)) (ix2 i k)).trans ?_)
  rw [Value.flushed6]
  refine (block_at _ _ _ _ _ _ i k).trans ?_
  rw [b0_at, b1_at, b2_at, b3_at, b4_at, b5_at]

/-- The kernel's array is the reference's. -/
theorem out : (dats m 0 c).arrAt 6 cfg0.N = val_main_v23 (F := Ideal) (a0 m c) (a1 m c) (a2 m c) (a3 m c) := by
  funext (j : S4096x1024.Idx)
  have hN : cfg0.N = 8 := N_0
  have hj : (j 0).val < 4096 := (j 0).isLt
  have : j = ix2 (row ⟨(j 0).val / 512, by omega⟩ ⟨(j 0).val % 512, by omega⟩) (j 1) :=
    Shape.idx_ext₂ (by show (j 0).val = 512 * ((j 0).val / 512) + (j 0).val % 512; omega) rfl
  rw [this]
  exact arr_at m c _ _ _

/-- From equal arguments the kernel's result over the extended reals is the reference's. -/
theorem algebraic : Cert.algebraic_MergeFIdeal_MergeFRefIdeal := by
  intro m ρ m' ρ' _ hagree
  refine ⟨_, Cert.MergeFIdeal.Value.run_blocks (F := Ideal) m ρ, ?_⟩
  refine (θ_run Cert.MergeFRefIdeal.defs _ _).mono (fun r h c => ?_) (Cert.MergeFRefIdeal.Value.run (F := Ideal) m' ρ')
  obtain ⟨h0, hk⟩ := h c
  obtain ⟨e0, e1, e2, e3⟩ := hagree c
  refine ⟨(h0.trans (val_main_v23_eq _ _ _ _)).trans (Eq.trans ?_ (out m c).symm), hk⟩
  simp only [e0, e1, e2, e3]

end Cert.Proof.MergeF

end
-- ==== Proof.Rows.Tiles.lean ====
module

public import proofs.«01_k».proof.Proof.Mm.Common
public import proofs.«01_k».proof.Proof.Sgu.Spec
public import Idealize.ShloMosaic.Init

@[expose] public section

/-! Arrays of 4096 rows in eight tiles of 512, and the mathematics of dividing a row by its root mean square. -/

noncomputable section

namespace Cert.Tiles

open Cert Cert.Mm Idealize.ShloMosaic

variable {n : ℕ} (hn : n = 8)

/-- Row `s` of the array, for row `s` of point `t`'s tile. -/
def row (t : Fin n) (s : Fin 512) : Fin 4096 := ⟨512 * t.val + s.val, by omega⟩

/-- A place of the array, given by block index and place in the block. -/
theorem place (t : Fin n) (s : Fin 512) (k : Fin 1024) (p : (⟨2, ![4096, 1024]⟩ : Shape).Idx) {a b : ℕ} (ha : a = t.val ∧ b = 0)
    (h0 : (p 0).val = a * 512 + 1 * s.val) (h1 : (p 1).val = b * 1024 + 1 * k.val) : p = ix2 (row hn t s) k :=
  Shape.idx_ext₂ (h0.trans (by rw [ha.1]; show _ = 512 * t.val + s.val; omega)) (h1.trans (by rw [ha.2]; show _ = k.val; omega))

/-- A place of an array of one row, given by block index and place in the block. -/
theorem place_one {w : ℕ} (k : Fin w) (p : (⟨2, ![1, w]⟩ : Shape).Idx) {a b : ℕ} (ha : a = 0 ∧ b = 0)
    (h1 : (p 1).val = b * w + 1 * k.val) : p = ix2 0 k :=
  Shape.idx_ext₂ (Fin.val_eq_zero (p 0)) (h1.trans (by rw [ha.2]; show _ = k.val; omega))

/-- Every row of the array is a row of some point's tile. -/
theorem rows (j : (⟨2, ![4096, 1024]⟩ : Shape).Idx) : ∃ (t : Fin n) (i : Fin 512) (k : Fin 1024), j = ix2 (row hn t i) k := by
  have hj : (j 0).val < 4096 := (j 0).isLt
  exact ⟨⟨(j 0).val / 512, by omega⟩, ⟨(j 0).val % 512, by omega⟩, j 1,
    Shape.idx_ext₂ (by show (j 0).val = 512 * ((j 0).val / 512) + (j 0).val % 512; omega) rfl⟩

/-- Every place of an array of one row is given by its column. -/
theorem one {w : ℕ} (j : (⟨2, ![1, w]⟩ : Shape).Idx) : ∃ k : Fin w, j = ix2 0 k := ⟨j 1, Shape.idx_ext₂ (Fin.val_eq_zero (j 0)) rfl⟩

/-- The last point, the only one that writes a sum over the rows back. -/
abbrev last : Fin n := ⟨8 * 0 + (8 - 1), by omega⟩

theorem eq_last (t : Fin n) (h : t.val % 8 = 7) : t = last hn := Fin.ext (by have := t.isLt; show t.val = 7; omega)

/-- A sum over the rows, added up tile by tile. -/
theorem total (a : (k : ℕ) → k < n → EReal) (f : Fin n → Fin 512 → EReal) (g : Fin 4096 → EReal)
    (h0 : ∀ t : Fin n, t.val = 0 → a t.val t.isLt = ∑ s, f t s)
    (h1 : ∀ (t : Fin n) (_ : t.val ≠ 0) (hp : t.val - 1 < n), a t.val t.isLt = a (t.val - 1) hp + ∑ s, f t s)
    (hf : ∀ t s, f t s = g (row hn t s)) : a (last hn).val (last hn).isLt = ∑ s, g s := by
  refine carried_tiles 8 512 rfl (by decide) a f (fun k h hk => h0 ⟨k, h⟩ (by show k = 0; omega))
    (fun k h _ => h1 ⟨k + 1, h⟩ (Nat.succ_ne_zero k) (by show k + 1 - 1 < n; omega)) 0 (last hn).isLt _ fun q s hk hb => ?_
  rw [hf]
  exact congrArg g (Fin.ext (by show 512 * (8 * 0 + q.val) + s.val = q.val * 512 + s.val; omega))

end Cert.Tiles

namespace Cert.Rms

open Idealize.ShloMosaic

/-- A row's mean square, offset. -/
def ms (v : Fin 1024 → EReal) : EReal := Ideal.div (∑ c, v c * v c) Gate.len + Gate.eps
/-- A row over its root mean square. -/
def unit (v : Fin 1024 → EReal) (c : Fin 1024) : EReal := v c * Ideal.rsqrt (ms v)
/-- The part of the gradient at `v` with cotangent `e` that comes through the mean square. -/
def through (v e : Fin 1024 → EReal) : EReal :=
  ∑ _x : Fin 1, Ideal.div ((∑ c, v c * e c) * (Gate.mhalf * Ideal.div (Ideal.rsqrt (ms v)) (ms v))) Gate.len
/-- The gradient at `v` with cotangent `e`. -/
def grad (v e : Fin 1024 → EReal) (c : Fin 1024) : EReal := e c * Ideal.rsqrt (ms v) + v c * through v e + through v e * v c
/-- A row over its root mean square, with gain, scale and shift. -/
def mod (v g sc sh : Fin 1024 → EReal) (c : Fin 1024) : EReal := unit v c * g c * (1 + sc c) + sh c
/-- Its gradient in the row, for the cotangent `d`. -/
def modGrad (v d g sc : Fin 1024 → EReal) (c : Fin 1024) : EReal := grad v (fun c => d c * (1 + sc c) * g c) c
/-- One row's part of the gain's gradient, and of the scale's. -/
def gain (v d sc : Fin 1024 → EReal) (k : Fin 1024) : EReal := unit v k * (d k * (1 + sc k))
def scale (v d g : Fin 1024 → EReal) (k : Fin 1024) : EReal := unit v k * g k * d k

end Cert.Rms

end
-- ==== Proof.Rows.NormB.lean ====
module

public import proofs.«01_k».proof.Defs
public import proofs.«01_k».proof.Proof.Rows.Tiles
public import proofs.«01_k».proof.Proof.Gen.NormB.Frame
public import proofs.«01_k».proof.Proof.Gen.NormBIdeal.Value
public import proofs.«01_k».proof.Proof.Gen.NormBRefIdeal.Run
public import proofs.«01_k».proof.Proof.Gen.NormBRefIdeal.Read
public import Idealize.ShloMosaic.Lib.Pipeline.ReadBack
public import Idealize.ShloMosaic.Adequacy

@[expose] public section

/-! The gradient of the first normalisation of a layer: of its input, added to what came past it, and of its gain, scale and shift,
which are sums over the 4096 rows that the call adds up over eight tiles. -/

set_option maxRecDepth 16384

noncomputable section

namespace Cert.Proof.NormB

open Cert Cert.Mm Idealize.ShloMosaic Idealize.ShloMosaic.TcCoe Idealize.SL.Sem
open Cert.NormBIdeal Cert.NormBIdeal.Gen Cert.NormBRefIdeal.Read

/-- The kernel keeps its arguments and ends with every counter at zero. -/
theorem frame_p : Cert.quiescent_NormB := fun m ρ _ => Cert.NormB.Gen.frame m ρ

/-- So does its reading over the extended reals. -/
theorem frame_pi : Cert.quiescent_NormBIdeal := fun m ρ _ => Cert.NormBIdeal.Gen.frame m ρ

/-- The reference keeps its arguments; it has no counters. -/
theorem frame_ri : Cert.quiescent_NormBRefIdeal := fun m ρ _ =>
  (θ_run Cert.NormBRefIdeal.defs _ _).mono
    (fun r h => ⟨fun c => (h c).2.2.2.2, sem_eq_zero_of_no_sems (by decide) r.2⟩)
    (Cert.NormBRefIdeal.Value.run (F := Ideal) m ρ)

section Tile

variable (x0 x2 : Vec Ideal S512x1024 .f32) (x1 : Vec Ideal S512x1024 .bf16) (x3 x4 a : Vec Ideal S1x1024 .f32)

/-- The kernel on a tile, at one place. -/
theorem dx_at (i : Fin 512) (k : Fin 1024) : k0_pay1 (F := Ideal) x0 x2 (k0_pay7 x0) (k0_pay15 x0 x1 x3 x4) (k0_pay16 x0 x1 x3 x4) (ix2 i k) =
    x2 (ix2 i k) + Rms.modGrad (fun c => x0 (ix2 i c)) (fun c => x1 (ix2 i c)) (fun c => x3 (ix2 0 c)) (fun c => x4 (ix2 0 c)) k := by
  unfold Rms.modGrad Rms.grad Rms.through Rms.ms
  pointwise [k0_pay1, k0_pay5, k0_pay6, k0_pay7, k0_pay9, k0_pay12, k0_pay14, k0_pay15, k0_pay16]

theorem dg_at (k : Fin 1024) : k0_pay13 (F := Ideal) x0 x1 x4 (ix2 0 k) =
    ∑ s : Fin 512, Rms.gain (fun c => x0 (ix2 s c)) (fun c => x1 (ix2 s c)) (fun c => x4 (ix2 0 c)) k := by
  unfold Rms.gain Rms.unit Rms.ms
  pointwise [k0_pay13, k0_pay12, k0_pay9, k0_pay8, k0_pay6, k0_pay5]

theorem dsc_at (k : Fin 1024) : k0_pay11 (F := Ideal) x0 x1 x3 (ix2 0 k) =
    ∑ s : Fin 512, Rms.scale (fun c => x0 (ix2 s c)) (fun c => x1 (ix2 s c)) (fun c => x3 (ix2 0 c)) k := by
  unfold Rms.scale Rms.unit Rms.ms
  pointwise [k0_pay11, k0_pay9, k0_pay8, k0_pay6, k0_pay5]

theorem dsh_at (k : Fin 1024) : k0_pay10 (F := Ideal) x1 (ix2 0 k) = ∑ s : Fin 512, x1 (ix2 s k) := by
  pointwise [k0_pay10, k0_pay9]

theorem more_dg (p : FVec Ideal S1x1024 .f32) (k : Fin 1024) : k0_pay2 (F := Ideal) p a (ix2 0 k) = a (ix2 0 k) + p (ix2 0 k) := by
  pointwise [k0_pay2]

theorem more_dsc (p : FVec Ideal S1x1024 .f32) (k : Fin 1024) : k0_pay3 (F := Ideal) p a (ix2 0 k) = a (ix2 0 k) + p (ix2 0 k) := by
  pointwise [k0_pay3]

theorem more_dsh (p : FVec Ideal S1x1024 .f32) (k : Fin 1024) : k0_pay4 (F := Ideal) p a (ix2 0 k) = a (ix2 0 k) + p (ix2 0 k) := by
  pointwise [k0_pay4]

end Tile

section Reference

variable (x0 x2 : Vec Ideal S4096x1024 .f32) (x1 : Vec Ideal S4096x1024 .bf16) (x3 x4 : Vec Ideal S1x1024 .f32)

/-- The reference at one place. -/
theorem ref0_at (i : Fin 4096) (k : Fin 1024) : val_main_v48 (F := Ideal) x0 x1 x2 x3 x4 (ix2 i k) =
    x2 (ix2 i k) + Rms.modGrad (fun c => x0 (ix2 i c)) (fun c => x1 (ix2 i c)) (fun c => x3 (ix2 0 c)) (fun c => x4 (ix2 0 c)) k := by
  unfold Rms.modGrad Rms.grad Rms.through Rms.ms
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v28, val_main_v27,
    val_main_v21, val_main_v16, val_main_v15, val_main_v10, val_main_v9, val_main_v8, val_main_v7, val_main_v6, val_main_v5, val_main_v4,
    val_main_v3, val_main_v2, val_main_v1, val_main_v0, val_main_cst, val_main_cst_0, val_main_cst_1, val_main_cst_2, val_main_cst_3, val_main_cst_7,
    val_main_cst_8, val_main_cst_9]

theorem ref1_at (k : Fin 1024) : val_main_v31 (F := Ideal) x0 x1 x4 (ix2 0 k) =
    ∑ s : Fin 4096, Rms.gain (fun c => x0 (ix2 s c)) (fun c => x1 (ix2 s c)) (fun c => x4 (ix2 0 c)) k := by
  unfold Rms.gain Rms.unit Rms.ms
  pointwise [val_main_v31, val_main_v30, val_main_v29, val_main_v28, val_main_v27, val_main_v21, val_main_v16, val_main_v15, val_main_v12,
    val_main_v11, val_main_v7, val_main_v6, val_main_v5, val_main_v4, val_main_v3, val_main_v2, val_main_v1, val_main_v0, val_main_cst,
    val_main_cst_0, val_main_cst_1, val_main_cst_3, val_main_cst_6]

theorem ref2_at (k : Fin 1024) : val_main_v26 (F := Ideal) x0 x1 x3 (ix2 0 k) =
    ∑ s : Fin 4096, Rms.scale (fun c => x0 (ix2 s c)) (fun c => x1 (ix2 s c)) (fun c => x3 (ix2 0 c)) k := by
  unfold Rms.scale Rms.unit Rms.ms
  pointwise [val_main_v26, val_main_v25, val_main_v24, val_main_v21, val_main_v14, val_main_v13, val_main_v12,
    val_main_v11, val_main_v7, val_main_v6, val_main_v5, val_main_v4, val_main_v3, val_main_v2, val_main_v1, val_main_v0, val_main_cst,
    val_main_cst_0, val_main_cst_1, val_main_cst_5]

theorem ref3_at (k : Fin 1024) : val_main_v23 (F := Ideal) x1 (ix2 0 k) = ∑ s : Fin 4096, x1 (ix2 s k) := by
  pointwise [val_main_v23, val_main_v22, val_main_v21, val_main_cst_4]

end Reference

variable (m : (ℓ : Loc nD τ sig) → Buf (Elt Ideal) ℓ) (c : Dev nD)

/-- The arguments: the layer's input, the cotangent, what came past, the gain and the scale. -/
abbrev a0 : Vec Ideal S4096x1024 .f32 := m ((c : Thread nD τ).loc main_arg0)
abbrev a1 : Vec Ideal S4096x1024 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)
abbrev a4 : Vec Ideal S1x1024 .f32 := m ((c : Thread nD τ).loc main_arg4)

/-- Their blocks at a point. -/
abbrev b0 (t : Fin cfg0.N) : Vec Ideal S512x1024 .f32 := iblk m c 0 t
abbrev b1 (t : Fin cfg0.N) : Vec Ideal S512x1024 .bf16 := iblk m c 1 t
abbrev b2 (t : Fin cfg0.N) : Vec Ideal S512x1024 .f32 := iblk m c 2 t
abbrev b3 (t : Fin cfg0.N) : Vec Ideal S1x1024 .f32 := iblk m c 3 t
abbrev b4 (t : Fin cfg0.N) : Vec Ideal S1x1024 .f32 := iblk m c 4 t

/-- What a point computes from its blocks alone: its tile of the input's gradient, and its part of each sum. -/
abbrev dx (t : Fin cfg0.N) : FVec Ideal S512x1024 .f32 :=
  k0_pay1 (b0 m c t) (b2 m c t) (k0_pay7 (b0 m c t)) (k0_pay15 (b0 m c t) (b1 m c t) (b3 m c t) (b4 m c t))
    (k0_pay16 (b0 m c t) (b1 m c t) (b3 m c t) (b4 m c t))
abbrev dg (t : Fin cfg0.N) : FVec Ideal S1x1024 .f32 := k0_pay13 (b0 m c t) (b1 m c t) (b4 m c t)
abbrev dsc (t : Fin cfg0.N) : FVec Ideal S1x1024 .f32 := k0_pay11 (b0 m c t) (b1 m c t) (b3 m c t)
abbrev dsh (t : Fin cfg0.N) : FVec Ideal S1x1024 .f32 := k0_pay10 (b1 m c t)

set_option maxHeartbeats 400000 in
/-- The first point starts the sums. -/
theorem first (t : Fin cfg0.N) (h0 : t.val % 8 = 0) (h1 : ¬1 ≤ t.val) :
    outsAt0 m c t.val t.isLt = (dx m c t, dg m c t, dsc m c t, dsh m c t) := by
  rw [outsAt0_A m c t h0 h1 h0 h1 h0 h1]
  refine Prod.ext ?_ (Prod.ext ?_ (Prod.ext ?_ ?_)) <;> dsimp only
  on_goal 1 => refine (View.read_writes_eq_canon _ _ _ (fun y => cover0_A_6 (F := Ideal) (y := y) ..)).trans ?_
  on_goal 2 => refine (View.read_writes_eq_canon _ _ _ (fun y => cover0_A_7 (F := Ideal) (y := y) ..)).trans ?_
  on_goal 3 => refine (View.read_writes_eq_canon _ _ _ (fun y => cover0_A_8 (F := Ideal) (y := y) ..)).trans ?_
  on_goal 4 => refine (View.read_writes_eq_canon _ _ _ (fun y => cover0_A_9 (F := Ideal) (y := y) ..)).trans ?_
  all_goals
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2]

set_option maxHeartbeats 400000 in
/-- A later point adds to them. -/
theorem later (t : Fin cfg0.N) (h0 : ¬t.val % 8 = 0) (h1 : 1 ≤ t.val) (hp : t.val - 1 < cfg0.N) : outsAt0 m c t.val t.isLt =
    (dx m c t, k0_pay2 (dg m c t) (outsAt0 m c (t.val - 1) hp).2.1, k0_pay3 (dsc m c t) (outsAt0 m c (t.val - 1) hp).2.2.1,
      k0_pay4 (dsh m c t) (outsAt0 m c (t.val - 1) hp).2.2.2) := by
  rw [outsAt0_B m c t h0 h1 h0 h1 h0 h1]
  refine Prod.ext ?_ (Prod.ext ?_ (Prod.ext ?_ ?_)) <;> dsimp only
  on_goal 1 => refine (View.read_writes_eq_canon _ _ _ (fun y => cover0_B_6 (F := Ideal) (y := y) ..)).trans ?_
  on_goal 2 => refine (View.read_writes_eq_canon _ _ _ (fun y => cover0_B_7 (F := Ideal) (y := y) ..)).trans ?_
  on_goal 3 => refine (View.read_writes_eq_canon _ _ _ (fun y => cover0_B_8 (F := Ideal) (y := y) ..)).trans ?_
  on_goal 4 => refine (View.read_writes_eq_canon _ _ _ (fun y => cover0_B_9 (F := Ideal) (y := y) ..)).trans ?_
  all_goals
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2]

/-- Every point leaves its tile of the input's gradient. -/
theorem out_at (t : Fin cfg0.N) : (outsAt0 m c t.val t.isLt).1 = dx m c t := by
  have hN : cfg0.N = 8 := N_0
  by_cases h : t.val = 0
  · rw [first m c t (by omega) (by omega)]
  · rw [later m c t (by omega) (by omega) (by omega)]

/-- The windows' block indices: the rows move with the point. -/
theorem index : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_6.index t 0 = t.val ∧ win0_6.index t 1 = 0) :=
  (by decide +kernel : ∀ t : Fin grid0.N, (win0_0.index t 0 = t.val ∧ win0_0.index t 1 = 0) ∧
    (win0_1.index t 0 = t.val ∧ win0_1.index t 1 = 0) ∧ (win0_2.index t 0 = t.val ∧ win0_2.index t 1 = 0) ∧
    (win0_6.index t 0 = t.val ∧ win0_6.index t 1 = 0))
theorem still : ∀ t : Fin cfg0.N, (win0_3.index t 0 = 0 ∧ win0_3.index t 1 = 0) ∧ (win0_4.index t 0 = 0 ∧ win0_4.index t 1 = 0) ∧
    (win0_7.index t 0 = 0 ∧ win0_7.index t 1 = 0) ∧ (win0_8.index t 0 = 0 ∧ win0_8.index t 1 = 0) ∧
    (win0_9.index t 0 = 0 ∧ win0_9.index t 1 = 0) :=
  (by decide +kernel : ∀ t : Fin grid0.N, (win0_3.index t 0 = 0 ∧ win0_3.index t 1 = 0) ∧ (win0_4.index t 0 = 0 ∧ win0_4.index t 1 = 0) ∧
    (win0_7.index t 0 = 0 ∧ win0_7.index t 1 = 0) ∧ (win0_8.index t 0 = 0 ∧ win0_8.index t 1 = 0) ∧
    (win0_9.index t 0 = 0 ∧ win0_9.index t 1 = 0))

theorem b0_at (t : Fin cfg0.N) (s : Fin 512) (k : Fin 1024) : b0 m c t (ix2 s k) = a0 m c (ix2 (Tiles.row N_0 t s) k) :=
  congrArg (a0 m c) (Tiles.place N_0 t s k _ (index t).1 rfl rfl)
theorem b1_at (t : Fin cfg0.N) (s : Fin 512) (k : Fin 1024) : b1 m c t (ix2 s k) = a1 m c (ix2 (Tiles.row N_0 t s) k) :=
  congrArg (a1 m c) (Tiles.place N_0 t s k _ (index t).2.1 rfl rfl)
theorem b2_at (t : Fin cfg0.N) (s : Fin 512) (k : Fin 1024) : b2 m c t (ix2 s k) = a2 m c (ix2 (Tiles.row N_0 t s) k) :=
  congrArg (a2 m c) (Tiles.place N_0 t s k _ (index t).2.2.1 rfl rfl)
theorem b3_at (t : Fin cfg0.N) (k : Fin 1024) : b3 m c t (ix2 0 k) = a3 m c (ix2 0 k) :=
  congrArg (a3 m c) (Tiles.place_one k _ (still t).1 rfl)
theorem b4_at (t : Fin cfg0.N) (k : Fin 1024) : b4 m c t (ix2 0 k) = a4 m c (ix2 0 k) :=
  congrArg (a4 m c) (Tiles.place_one k _ (still t).2.1 rfl)

/-- The kernel's arrays are the reference's: the input's gradient tile by tile, the sums after the last tile. -/
theorem out0 : (dats m 0 c).arrAt 6 cfg0.N = val_main_v48 (F := Ideal) (a0 m c) (a1 m c) (a2 m c) (a3 m c) (a4 m c) := by
  funext (j : S4096x1024.Idx)
  obtain ⟨t, i, k, rfl⟩ := Tiles.rows N_0 j
  refine Eq.trans ?_ (ref0_at _ _ _ _ _ _ k).symm
  have e : ((cfg0.win 6).blk t).view.emb (ix2 i k) = (ix2 (Tiles.row N_0 t i) k : S4096x1024.Idx) :=
    Tiles.place N_0 t i k _ (index t).2.2.2 rfl rfl
  refine (congrArg _ e.symm).trans ((congrFun (Value.blocks6 m c t (flush0_6 t)) (ix2 i k)).trans ?_)
  rw [Value.flushed6, out_at]
  refine (dx_at _ _ _ _ _ i k).trans ?_
  simp only [b0_at, b1_at, b2_at, b3_at, b4_at]

theorem out1 : (dats m 0 c).arrAt 7 cfg0.N = val_main_v31 (F := Ideal) (a0 m c) (a1 m c) (a4 m c) := by
  funext (j : S1x1024.Idx)
  have hN : cfg0.N = 8 := N_0
  obtain ⟨k, rfl⟩ := Tiles.one j
  have e : ((cfg0.win 7).blk (Tiles.last N_0)).view.emb (ix2 0 k) = (ix2 0 k : S1x1024.Idx) :=
    Tiles.place_one k _ (still _).2.2.1 rfl
  refine Eq.trans ?_ (ref1_at _ _ _ k).symm
  refine (congrArg _ e.symm).trans ((congrFun ((dats m 0 c).read_blk_arrAt_eq_flushed 7 (fun t t' h h' hne =>
    absurd ((Tiles.eq_last N_0 t ((flush0_7 t).mp h)).trans (Tiles.eq_last N_0 t' ((flush0_7 t').mp h')).symm) hne) cfg0.N
    (Tiles.last N_0) (Tiles.last N_0).isLt ((flush0_7 _).mpr rfl)) (ix2 0 k)).trans ?_)
  rw [Value.flushed7]
  refine Tiles.total N_0 (fun n h => (outsAt0 m c n h).2.1 (ix2 0 k))
    (fun t s => Rms.gain (fun i => b0 m c t (ix2 s i)) (fun i => b1 m c t (ix2 s i)) (fun i => b4 m c t (ix2 0 i)) k) _
    (fun t h => ?_) (fun t h hp => ?_) (fun t s => by simp only [b0_at, b1_at, b4_at])
  · rw [first m c t (by omega) (by omega)]
    exact dg_at ..
  · rw [later m c t (by omega) (by omega) hp]
    exact (more_dg _ _ k).trans (congrArg _ (dg_at ..))

theorem out2 : (dats m 0 c).arrAt 8 cfg0.N = val_main_v26 (F := Ideal) (a0 m c) (a1 m c) (a3 m c) := by
  funext (j : S1x1024.Idx)
  have hN : cfg0.N = 8 := N_0
  obtain ⟨k, rfl⟩ := Tiles.one j
  have e : ((cfg0.win 8).blk (Tiles.last N_0)).view.emb (ix2 0 k) = (ix2 0 k : S1x1024.Idx) :=
    Tiles.place_one k _ (still _).2.2.2.1 rfl
  refine Eq.trans ?_ (ref2_at _ _ _ k).symm
  refine (congrArg _ e.symm).trans ((congrFun ((dats m 0 c).read_blk_arrAt_eq_flushed 8 (fun t t' h h' hne =>
    absurd ((Tiles.eq_last N_0 t ((flush0_8 t).mp h)).trans (Tiles.eq_last N_0 t' ((flush0_8 t').mp h')).symm) hne) cfg0.N
    (Tiles.last N_0) (Tiles.last N_0).isLt ((flush0_8 _).mpr rfl)) (ix2 0 k)).trans ?_)
  rw [Value.flushed8]
  refine Tiles.total N_0 (fun n h => (outsAt0 m c n h).2.2.1 (ix2 0 k))
    (fun t s => Rms.scale (fun i => b0 m c t (ix2 s i)) (fun i => b1 m c t (ix2 s i)) (fun i => b3 m c t (ix2 0 i)) k) _
    (fun t h => ?_) (fun t h hp => ?_) (fun t s => by simp only [b0_at, b1_at, b3_at])
  · rw [first m c t (by omega) (by omega)]
    exact dsc_at ..
  · rw [later m c t (by omega) (by omega) hp]
    exact (more_dsc _ _ k).trans (congrArg _ (dsc_at ..))

theorem out3 : (dats m 0 c).arrAt 9 cfg0.N = val_main_v23 (F := Ideal) (a1 m c) := by
  funext (j : S1x1024.Idx)
  have hN : cfg0.N = 8 := N_0
  obtain ⟨k, rfl⟩ := Tiles.one j
  have e : ((cfg0.win 9).blk (Tiles.last N_0)).view.emb (ix2 0 k) = (ix2 0 k : S1x1024.Idx) :=
    Tiles.place_one k _ (still _).2.2.2.2 rfl
  refine Eq.trans ?_ (ref3_at _ k).symm
  refine (congrArg _ e.symm).trans ((congrFun ((dats m 0 c).read_blk_arrAt_eq_flushed 9 (fun t t' h h' hne =>
    absurd ((Tiles.eq_last N_0 t ((flush0_9 t).mp h)).trans (Tiles.eq_last N_0 t' ((flush0_9 t').mp h')).symm) hne) cfg0.N
    (Tiles.last N_0) (Tiles.last N_0).isLt ((flush0_9 _).mpr rfl)) (ix2 0 k)).trans ?_)
  rw [Value.flushed9]
  refine Tiles.total N_0 (fun n h => (outsAt0 m c n h).2.2.2 (ix2 0 k)) (fun t s => b1 m c t (ix2 s k)) _
    (fun t h => ?_) (fun t h hp => ?_) (fun t s => b1_at m c t s k)
  · rw [first m c t (by omega) (by omega)]
    exact dsh_at ..
  · rw [later m c t (by omega) (by omega) hp]
    exact (more_dsh _ _ k).trans (congrArg _ (dsh_at ..))

/-- From equal arguments the kernel's results over the extended reals are the reference's. -/
theorem algebraic : Cert.algebraic_NormBIdeal_NormBRefIdeal := by
  intro m ρ m' ρ' _ hagree
  refine ⟨_, _, _, _, Cert.NormBIdeal.Value.run_blocks (F := Ideal) m ρ, ?_⟩
  refine (θ_run Cert.NormBRefIdeal.defs _ _).mono (fun r h c => ?_) (Cert.NormBRefIdeal.Value.run (F := Ideal) m' ρ')
  obtain ⟨h0, h1, h2, h3, hk⟩ := h c
  obtain ⟨e0, e1, e2, e3, e4, _⟩ := hagree c
  refine ⟨?_, ?_, ?_, ?_, hk⟩
  · refine (h0.trans (val_main_v48_eq _ _)).trans (Eq.trans ?_ (out0 m c).symm)
    simp only [e0, e1, e2, e3, e4]
  · refine (h1.trans (val_main_v31_eq _ _ _)).trans (Eq.trans ?_ (out1 m c).symm)
    simp only [e0, e1, e4]
  · refine (h2.trans (val_main_v26_eq _ _ _)).trans (Eq.trans ?_ (out2 m c).symm)
    simp only [e0, e1, e3]
  · refine (h3.trans (val_main_v23_eq _)).trans (Eq.trans ?_ (out3 m c).symm)
    simp only [e1]

end Cert.Proof.NormB

end
-- ==== Proof.Rows.NormGateB.lean ====
module

public import proofs.«01_k».proof.Defs
public import proofs.«01_k».proof.Proof.Rows.Tiles
public import proofs.«01_k».proof.Proof.Gen.NormGateB.Frame
public import proofs.«01_k».proof.Proof.Gen.NormGateBIdeal.Value
public import proofs.«01_k».proof.Proof.Gen.NormGateBRefIdeal.Run
public import proofs.«01_k».proof.Proof.Gen.NormGateBRefIdeal.Read
public import Idealize.ShloMosaic.Lib.Pipeline.ReadBack
public import Idealize.ShloMosaic.Adequacy

@[expose] public section

/-! The gradient of a normalisation that follows a gated residual: of its input, added to what came past it; of the gate's operand;
and of the gain, the scale, the shift and the gate, which are sums over the 4096 rows that the call adds up over eight tiles. -/

set_option maxRecDepth 16384

noncomputable section

namespace Cert.Proof.NormGateB

open Cert Cert.Mm Idealize.ShloMosaic Idealize.ShloMosaic.TcCoe Idealize.SL.Sem
open Cert.NormGateBIdeal Cert.NormGateBIdeal.Gen Cert.NormGateBRefIdeal.Read

/-- The kernel keeps its arguments and ends with every counter at zero. -/
theorem frame_p : Cert.quiescent_NormGateB := fun m ρ _ => Cert.NormGateB.Gen.frame m ρ

/-- So does its reading over the extended reals. -/
theorem frame_pi : Cert.quiescent_NormGateBIdeal := fun m ρ _ => Cert.NormGateBIdeal.Gen.frame m ρ

/-- The reference keeps its arguments; it has no counters. -/
theorem frame_ri : Cert.quiescent_NormGateBRefIdeal := fun m ρ _ =>
  (θ_run Cert.NormGateBRefIdeal.defs _ _).mono
    (fun r h => ⟨fun c => (h c).2.2.2.2.2.2, sem_eq_zero_of_no_sems (by decide) r.2⟩)
    (Cert.NormGateBRefIdeal.Value.run (F := Ideal) m ρ)

/-- The input's gradient on one row: what came past, and what comes through the normalisation. -/
def through (v d p g sc : Fin 1024 → EReal) (k : Fin 1024) : EReal := p k + Rms.modGrad v d g sc k

section Tile

variable (x0 x2 : Vec Ideal S512x1024 .f32) (x1 x3 : Vec Ideal S512x1024 .bf16) (x4 x5 x7 a : Vec Ideal S1x1024 .f32)

/-- The kernel on a tile, at one place. -/
theorem dx_at (i : Fin 512) (k : Fin 1024) : k0_pay13 (F := Ideal) x0 x2 (k0_pay4 x0) (k0_pay5 x0) (k0_pay12 x1 x4 x5) (ix2 i k) =
    through (fun c => x0 (ix2 i c)) (fun c => x1 (ix2 i c)) (fun c => x2 (ix2 i c)) (fun c => x4 (ix2 0 c)) (fun c => x5 (ix2 0 c)) k := by
  unfold through Rms.modGrad Rms.grad Rms.through Rms.ms
  pointwise [k0_pay13, k0_pay12, k0_pay10, k0_pay7, k0_pay5, k0_pay4, k0_pay3]

theorem do_at (i : Fin 512) (k : Fin 1024) : k0_pay15 (F := Ideal) x0 x2 x7 (k0_pay4 x0) (k0_pay5 x0) (k0_pay12 x1 x4 x5) (ix2 i k) =
    through (fun c => x0 (ix2 i c)) (fun c => x1 (ix2 i c)) (fun c => x2 (ix2 i c)) (fun c => x4 (ix2 0 c)) (fun c => x5 (ix2 0 c)) k *
      x7 (ix2 0 k) := by
  rw [← dx_at]
  pointwise [k0_pay15]

theorem dgt_at (k : Fin 1024) : k0_pay14 (F := Ideal) x0 x2 x3 (k0_pay4 x0) (k0_pay5 x0) (k0_pay12 x1 x4 x5) (ix2 0 k) =
    ∑ s : Fin 512, through (fun c => x0 (ix2 s c)) (fun c => x1 (ix2 s c)) (fun c => x2 (ix2 s c)) (fun c => x4 (ix2 0 c))
      (fun c => x5 (ix2 0 c)) k * x3 (ix2 s k) := by
  simp only [← dx_at]
  pointwise [k0_pay14]

theorem dg_at (k : Fin 1024) : k0_pay11 (F := Ideal) x0 x1 x5 (ix2 0 k) =
    ∑ s : Fin 512, Rms.gain (fun c => x0 (ix2 s c)) (fun c => x1 (ix2 s c)) (fun c => x5 (ix2 0 c)) k := by
  unfold Rms.gain Rms.unit Rms.ms
  pointwise [k0_pay11, k0_pay10, k0_pay7, k0_pay6, k0_pay4, k0_pay3]

theorem dsc_at (k : Fin 1024) : k0_pay9 (F := Ideal) x0 x1 x4 (ix2 0 k) =
    ∑ s : Fin 512, Rms.scale (fun c => x0 (ix2 s c)) (fun c => x1 (ix2 s c)) (fun c => x4 (ix2 0 c)) k := by
  unfold Rms.scale Rms.unit Rms.ms
  pointwise [k0_pay9, k0_pay7, k0_pay6, k0_pay4, k0_pay3]

theorem dsh_at (k : Fin 1024) : k0_pay8 (F := Ideal) x1 (ix2 0 k) = ∑ s : Fin 512, x1 (ix2 s k) := by
  pointwise [k0_pay8, k0_pay7]

theorem more_dg (p : FVec Ideal S1x1024 .f32) (k : Fin 1024) : k0_pay16 (F := Ideal) p a (ix2 0 k) = a (ix2 0 k) + p (ix2 0 k) := by
  pointwise [k0_pay16]

theorem more_dsc (p : FVec Ideal S1x1024 .f32) (k : Fin 1024) : k0_pay17 (F := Ideal) p a (ix2 0 k) = a (ix2 0 k) + p (ix2 0 k) := by
  pointwise [k0_pay17]

theorem more_dsh (p : FVec Ideal S1x1024 .f32) (k : Fin 1024) : k0_pay1 (F := Ideal) p a (ix2 0 k) = a (ix2 0 k) + p (ix2 0 k) := by
  pointwise [k0_pay1]

theorem more_dgt (p : FVec Ideal S1x1024 .f32) (k : Fin 1024) : k0_pay2 (F := Ideal) p a (ix2 0 k) = a (ix2 0 k) + p (ix2 0 k) := by
  pointwise [k0_pay2]

end Tile

section Reference

variable (x0 x2 : Vec Ideal S4096x1024 .f32) (x1 x3 : Vec Ideal S4096x1024 .bf16) (x4 x5 x7 : Vec Ideal S1x1024 .f32)

/-- The reference at one place. -/
theorem ref0_at (i : Fin 4096) (k : Fin 1024) : val_main_v48 (F := Ideal) x0 x1 x2 x4 x5 (ix2 i k) =
    through (fun c => x0 (ix2 i c)) (fun c => x1 (ix2 i c)) (fun c => x2 (ix2 i c)) (fun c => x4 (ix2 0 c)) (fun c => x5 (ix2 0 c)) k := by
  unfold through Rms.modGrad Rms.grad Rms.through Rms.ms
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v28, val_main_v27,
    val_main_v21, val_main_v16, val_main_v15, val_main_v10, val_main_v9, val_main_v8, val_main_v7, val_main_v6, val_main_v5, val_main_v4,
    val_main_v3, val_main_v2, val_main_v1, val_main_v0, val_main_cst, val_main_cst_0, val_main_cst_1, val_main_cst_2, val_main_cst_3, val_main_cst_7,
    val_main_cst_8, val_main_cst_9]

theorem ref1_at (i : Fin 4096) (k : Fin 1024) : val_main_v57 (F := Ideal) x0 x1 x2 x4 x5 x7 (ix2 i k) =
    through (fun c => x0 (ix2 i c)) (fun c => x1 (ix2 i c)) (fun c => x2 (ix2 i c)) (fun c => x4 (ix2 0 c)) (fun c => x5 (ix2 0 c)) k *
      x7 (ix2 0 k) := by
  rw [← ref0_at, mul_comm]
  pointwise [val_main_v57, val_main_v53, val_main_v52]

theorem ref2_at (k : Fin 1024) : val_main_v31 (F := Ideal) x0 x1 x5 (ix2 0 k) =
    ∑ s : Fin 4096, Rms.gain (fun c => x0 (ix2 s c)) (fun c => x1 (ix2 s c)) (fun c => x5 (ix2 0 c)) k := by
  unfold Rms.gain Rms.unit Rms.ms
  pointwise [val_main_v31, val_main_v30, val_main_v29, val_main_v28, val_main_v27, val_main_v21, val_main_v16, val_main_v15, val_main_v12,
    val_main_v11, val_main_v7, val_main_v6, val_main_v5, val_main_v4, val_main_v3, val_main_v2, val_main_v1, val_main_v0, val_main_cst,
    val_main_cst_0, val_main_cst_1, val_main_cst_3, val_main_cst_6]

theorem ref3_at (k : Fin 1024) : val_main_v26 (F := Ideal) x0 x1 x4 (ix2 0 k) =
    ∑ s : Fin 4096, Rms.scale (fun c => x0 (ix2 s c)) (fun c => x1 (ix2 s c)) (fun c => x4 (ix2 0 c)) k := by
  unfold Rms.scale Rms.unit Rms.ms
  pointwise [val_main_v26, val_main_v25, val_main_v24, val_main_v21, val_main_v14, val_main_v13, val_main_v12,
    val_main_v11, val_main_v7, val_main_v6, val_main_v5, val_main_v4, val_main_v3, val_main_v2, val_main_v1, val_main_v0, val_main_cst,
    val_main_cst_0, val_main_cst_1, val_main_cst_5]

theorem ref4_at (k : Fin 1024) : val_main_v23 (F := Ideal) x1 (ix2 0 k) = ∑ s : Fin 4096, x1 (ix2 s k) := by
  pointwise [val_main_v23, val_main_v22, val_main_v21, val_main_cst_4]

theorem ref5_at (k : Fin 1024) : val_main_v56 (F := Ideal) x0 x1 x2 x3 x4 x5 (ix2 0 k) =
    ∑ s : Fin 4096, through (fun c => x0 (ix2 s c)) (fun c => x1 (ix2 s c)) (fun c => x2 (ix2 s c)) (fun c => x4 (ix2 0 c))
      (fun c => x5 (ix2 0 c)) k * x3 (ix2 s k) := by
  simp only [← ref0_at]
  pointwise [val_main_v56, val_main_v55, val_main_v54, val_main_v49, val_main_cst_10]

end Reference

variable (m : (ℓ : Loc nD τ sig) → Buf (Elt Ideal) ℓ) (c : Dev nD)

/-- The arguments: the residual, the cotangent, what came past, the gate's operand, the gain, the scale and the gate. -/
abbrev a0 : Vec Ideal S4096x1024 .f32 := m ((c : Thread nD τ).loc main_arg0)
abbrev a1 : Vec Ideal S4096x1024 .bf16 := m ((c : Thread nD τ).loc main_arg1)
abbrev a2 : Vec Ideal S4096x1024 .f32 := m ((c : Thread nD τ).loc main_arg2)
abbrev a3 : Vec Ideal S4096x1024 .bf16 := m ((c : Thread nD τ).loc main_arg3)
abbrev a4 : Vec Ideal S1x1024 .f32 := m ((c : Thread nD τ).loc main_arg4)
abbrev a5 : Vec Ideal S1x1024 .f32 := m ((c : Thread nD τ).loc main_arg5)
abbrev a7 : Vec Ideal S1x1024 .f32 := m ((c : Thread nD τ).loc main_arg7)

/-- Their blocks at a point. -/
abbrev b0 (t : Fin cfg0.N) : Vec Ideal S512x1024 .f32 := iblk m c 0 t
abbrev b1 (t : Fin cfg0.N) : Vec Ideal S512x1024 .bf16 := iblk m c 1 t
abbrev b2 (t : Fin cfg0.N) : Vec Ideal S512x1024 .f32 := iblk m c 2 t
abbrev b3 (t : Fin cfg0.N) : Vec Ideal S512x1024 .bf16 := iblk m c 3 t
abbrev b4 (t : Fin cfg0.N) : Vec Ideal S1x1024 .f32 := iblk m c 4 t
abbrev b5 (t : Fin cfg0.N) : Vec Ideal S1x1024 .f32 := iblk m c 5 t
abbrev b7 (t : Fin cfg0.N) : Vec Ideal S1x1024 .f32 := iblk m c 7 t

/-- What a point computes from its blocks alone: its tiles of the two gradients, and its part of each sum. -/
abbrev dx (t : Fin cfg0.N) : FVec Ideal S512x1024 .f32 :=
  k0_pay13 (b0 m c t) (b2 m c t) (k0_pay4 (b0 m c t)) (k0_pay5 (b0 m c t)) (k0_pay12 (b1 m c t) (b4 m c t) (b5 m c t))
abbrev do_ (t : Fin cfg0.N) : FVec Ideal S512x1024 .bf16 :=
  k0_pay15 (b0 m c t) (b2 m c t) (b7 m c t) (k0_pay4 (b0 m c t)) (k0_pay5 (b0 m c t)) (k0_pay12 (b1 m c t) (b4 m c t) (b5 m c t))
abbrev dg (t : Fin cfg0.N) : FVec Ideal S1x1024 .f32 := k0_pay11 (b0 m c t) (b1 m c t) (b5 m c t)
abbrev dsc (t : Fin cfg0.N) : FVec Ideal S1x1024 .f32 := k0_pay9 (b0 m c t) (b1 m c t) (b4 m c t)
abbrev dsh (t : Fin cfg0.N) : FVec Ideal S1x1024 .f32 := k0_pay8 (b1 m c t)
abbrev dgt (t : Fin cfg0.N) : FVec Ideal S1x1024 .f32 :=
  k0_pay14 (b0 m c t) (b2 m c t) (b3 m c t) (k0_pay4 (b0 m c t)) (k0_pay5 (b0 m c t)) (k0_pay12 (b1 m c t) (b4 m c t) (b5 m c t))

set_option maxHeartbeats 800000 in
/-- The first point starts the sums. -/
theorem first (t : Fin cfg0.N) (h0 : t.val % 8 = 0) (h1 : ¬1 ≤ t.val) :
    outsAt0 m c t.val t.isLt = (dx m c t, do_ m c t, dg m c t, dsc m c t, dsh m c t, dgt m c t) := by
  rw [outsAt0_A m c t h0 h1 h0 h1 h0 h1 h0 h1]
  refine Prod.ext ?_ (Prod.ext ?_ (Prod.ext ?_ (Prod.ext ?_ (Prod.ext ?_ ?_)))) <;> dsimp only
  on_goal 1 => refine (View.read_writes_eq_canon _ _ _ (fun y => cover0_A_8 (F := Ideal) (y := y) ..)).trans ?_
  on_goal 2 => refine (View.read_writes_eq_canon _ _ _ (fun y => cover0_A_9 (F := Ideal) (y := y) ..)).trans ?_
  on_goal 3 => refine (View.read_writes_eq_canon _ _ _ (fun y => cover0_A_10 (F := Ideal) (y := y) ..)).trans ?_
  on_goal 4 => refine (View.read_writes_eq_canon _ _ _ (fun y => cover0_A_11 (F := Ideal) (y := y) ..)).trans ?_
  on_goal 5 => refine (View.read_writes_eq_canon _ _ _ (fun y => cover0_A_12 (F := Ideal) (y := y) ..)).trans ?_
  on_goal 6 => refine (View.read_writes_eq_canon _ _ _ (fun y => cover0_A_13 (F := Ideal) (y := y) ..)).trans ?_
  all_goals
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2]

set_option maxHeartbeats 800000 in
/-- A later point adds to them. -/
theorem later (t : Fin cfg0.N) (h0 : ¬t.val % 8 = 0) (h1 : 1 ≤ t.val) (hp : t.val - 1 < cfg0.N) : outsAt0 m c t.val t.isLt =
    (dx m c t, do_ m c t, k0_pay16 (dg m c t) (outsAt0 m c (t.val - 1) hp).2.2.1, k0_pay17 (dsc m c t) (outsAt0 m c (t.val - 1) hp).2.2.2.1,
      k0_pay1 (dsh m c t) (outsAt0 m c (t.val - 1) hp).2.2.2.2.1, k0_pay2 (dgt m c t) (outsAt0 m c (t.val - 1) hp).2.2.2.2.2) := by
  rw [outsAt0_B m c t h0 h1 h0 h1 h0 h1 h0 h1]
  refine Prod.ext ?_ (Prod.ext ?_ (Prod.ext ?_ (Prod.ext ?_ (Prod.ext ?_ ?_)))) <;> dsimp only
  on_goal 1 => refine (View.read_writes_eq_canon _ _ _ (fun y => cover0_B_8 (F := Ideal) (y := y) ..)).trans ?_
  on_goal 2 => refine (View.read_writes_eq_canon _ _ _ (fun y => cover0_B_9 (F := Ideal) (y := y) ..)).trans ?_
  on_goal 3 => refine (View.read_writes_eq_canon _ _ _ (fun y => cover0_B_10 (F := Ideal) (y := y) ..)).trans ?_
  on_goal 4 => refine (View.read_writes_eq_canon _ _ _ (fun y => cover0_B_11 (F := Ideal) (y := y) ..)).trans ?_
  on_goal 5 => refine (View.read_writes_eq_canon _ _ _ (fun y => cover0_B_12 (F := Ideal) (y := y) ..)).trans ?_
  on_goal 6 => refine (View.read_writes_eq_canon _ _ _ (fun y => cover0_B_13 (F := Ideal) (y := y) ..)).trans ?_
  all_goals
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2]

/-- Every point leaves its tiles of the two gradients. -/
theorem out_at (t : Fin cfg0.N) : (outsAt0 m c t.val t.isLt).1 = dx m c t ∧ (outsAt0 m c t.val t.isLt).2.1 = do_ m c t := by
  have hN : cfg0.N = 8 := N_0
  by_cases h : t.val = 0
  · rw [first m c t (by omega) (by omega)]
    exact ⟨rfl, rfl⟩
  · rw [later m c t (by omega) (by omega) (by omega)]
    exact ⟨rfl, rfl⟩

/-- The windows' block indices: the rows move with the point. -/
theorem index : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_8.index t 0 = t.val ∧ win0_8.index t 1 = 0) ∧ (win0_9.index t 0 = t.val ∧ win0_9.index t 1 = 0) :=
  (by decide +kernel : ∀ t : Fin grid0.N, (win0_0.index t 0 = t.val ∧ win0_0.index t 1 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_8.index t 0 = t.val ∧ win0_8.index t 1 = 0) ∧
    (win0_9.index t 0 = t.val ∧ win0_9.index t 1 = 0))
theorem still : ∀ t : Fin cfg0.N, (win0_4.index t 0 = 0 ∧ win0_4.index t 1 = 0) ∧ (win0_5.index t 0 = 0 ∧ win0_5.index t 1 = 0) ∧
    (win0_7.index t 0 = 0 ∧ win0_7.index t 1 = 0) :=
  (by decide +kernel : ∀ t : Fin grid0.N, (win0_4.index t 0 = 0 ∧ win0_4.index t 1 = 0) ∧ (win0_5.index t 0 = 0 ∧ win0_5.index t 1 = 0) ∧
    (win0_7.index t 0 = 0 ∧ win0_7.index t 1 = 0))
theorem still_out : ∀ t : Fin cfg0.N, (win0_10.index t 0 = 0 ∧ win0_10.index t 1 = 0) ∧ (win0_11.index t 0 = 0 ∧ win0_11.index t 1 = 0) ∧
    (win0_12.index t 0 = 0 ∧ win0_12.index t 1 = 0) ∧ (win0_13.index t 0 = 0 ∧ win0_13.index t 1 = 0) :=
  (by decide +kernel : ∀ t : Fin grid0.N, (win0_10.index t 0 = 0 ∧ win0_10.index t 1 = 0) ∧
    (win0_11.index t 0 = 0 ∧ win0_11.index t 1 = 0) ∧ (win0_12.index t 0 = 0 ∧ win0_12.index t 1 = 0) ∧
    (win0_13.index t 0 = 0 ∧ win0_13.index t 1 = 0))

theorem b0_at (t : Fin cfg0.N) (s : Fin 512) (k : Fin 1024) : b0 m c t (ix2 s k) = a0 m c (ix2 (Tiles.row N_0 t s) k) :=
  congrArg (a0 m c) (Tiles.place N_0 t s k _ (index t).1 rfl rfl)
theorem b1_at (t : Fin cfg0.N) (s : Fin 512) (k : Fin 1024) : b1 m c t (ix2 s k) = a1 m c (ix2 (Tiles.row N_0 t s) k) :=
  congrArg (a1 m c) (Tiles.place N_0 t s k _ (index t).2.1 rfl rfl)
theorem b2_at (t : Fin cfg0.N) (s : Fin 512) (k : Fin 1024) : b2 m c t (ix2 s k) = a2 m c (ix2 (Tiles.row N_0 t s) k) :=
  congrArg (a2 m c) (Tiles.place N_0 t s k _ (index t).2.2.1 rfl rfl)
theorem b3_at (t : Fin cfg0.N) (s : Fin 512) (k : Fin 1024) : b3 m c t (ix2 s k) = a3 m c (ix2 (Tiles.row N_0 t s) k) :=
  congrArg (a3 m c) (Tiles.place N_0 t s k _ (index t).2.2.2.1 rfl rfl)
theorem b4_at (t : Fin cfg0.N) (k : Fin 1024) : b4 m c t (ix2 0 k) = a4 m c (ix2 0 k) :=
  congrArg (a4 m c) (Tiles.place_one k _ (still t).1 rfl)
theorem b5_at (t : Fin cfg0.N) (k : Fin 1024) : b5 m c t (ix2 0 k) = a5 m c (ix2 0 k) :=
  congrArg (a5 m c) (Tiles.place_one k _ (still t).2.1 rfl)
theorem b7_at (t : Fin cfg0.N) (k : Fin 1024) : b7 m c t (ix2 0 k) = a7 m c (ix2 0 k) :=
  congrArg (a7 m c) (Tiles.place_one k _ (still t).2.2 rfl)

/-- The kernel's arrays are the reference's: the two gradients tile by tile, the sums after the last tile. -/
theorem out0 : (dats m 0 c).arrAt 8 cfg0.N = val_main_v48 (F := Ideal) (a0 m c) (a1 m c) (a2 m c) (a4 m c) (a5 m c) := by
  funext (j : S4096x1024.Idx)
  obtain ⟨t, i, k, rfl⟩ := Tiles.rows N_0 j
  refine Eq.trans ?_ (ref0_at _ _ _ _ _ _ k).symm
  have e : ((cfg0.win 8).blk t).view.emb (ix2 i k) = (ix2 (Tiles.row N_0 t i) k : S4096x1024.Idx) :=
    Tiles.place N_0 t i k _ (index t).2.2.2.2.1 rfl rfl
  refine (congrArg _ e.symm).trans ((congrFun (Value.blocks8 m c t (flush0_8 t)) (ix2 i k)).trans ?_)
  rw [Value.flushed8, (out_at m c t).1]
  refine (dx_at _ _ _ _ _ i k).trans ?_
  simp only [b0_at, b1_at, b2_at, b4_at, b5_at]

theorem out1 : (dats m 0 c).arrAt 9 cfg0.N = val_main_v57 (F := Ideal) (a0 m c) (a1 m c) (a2 m c) (a4 m c) (a5 m c) (a7 m c) := by
  funext (j : S4096x1024.Idx)
  obtain ⟨t, i, k, rfl⟩ := Tiles.rows N_0 j
  refine Eq.trans ?_ (ref1_at _ _ _ _ _ _ _ k).symm
  have e : ((cfg0.win 9).blk t).view.emb (ix2 i k) = (ix2 (Tiles.row N_0 t i) k : S4096x1024.Idx) :=
    Tiles.place N_0 t i k _ (index t).2.2.2.2.2 rfl rfl
  refine (congrArg _ e.symm).trans ((congrFun (Value.blocks9 m c t (flush0_9 t)) (ix2 i k)).trans ?_)
  rw [Value.flushed9, (out_at m c t).2]
  refine (do_at _ _ _ _ _ _ i k).trans ?_
  simp only [b0_at, b1_at, b2_at, b4_at, b5_at, b7_at]

theorem out2 : (dats m 0 c).arrAt 10 cfg0.N = val_main_v31 (F := Ideal) (a0 m c) (a1 m c) (a5 m c) := by
  funext (j : S1x1024.Idx)
  have hN : cfg0.N = 8 := N_0
  obtain ⟨k, rfl⟩ := Tiles.one j
  have e : ((cfg0.win 10).blk (Tiles.last N_0)).view.emb (ix2 0 k) = (ix2 0 k : S1x1024.Idx) :=
    Tiles.place_one k _ (still_out _).1 rfl
  refine Eq.trans ?_ (ref2_at _ _ _ k).symm
  refine (congrArg _ e.symm).trans ((congrFun ((dats m 0 c).read_blk_arrAt_eq_flushed 10 (fun t t' h h' hne =>
    absurd ((Tiles.eq_last N_0 t ((flush0_10 t).mp h)).trans (Tiles.eq_last N_0 t' ((flush0_10 t').mp h')).symm) hne) cfg0.N
    (Tiles.last N_0) (Tiles.last N_0).isLt ((flush0_10 _).mpr rfl)) (ix2 0 k)).trans ?_)
  rw [Value.flushed10]
  refine Tiles.total N_0 (fun n h => (outsAt0 m c n h).2.2.1 (ix2 0 k))
    (fun t s => Rms.gain (fun i => b0 m c t (ix2 s i)) (fun i => b1 m c t (ix2 s i)) (fun i => b5 m c t (ix2 0 i)) k) _
    (fun t h => ?_) (fun t h hp => ?_) (fun t s => by simp only [b0_at, b1_at, b5_at])
  · rw [first m c t (by omega) (by omega)]
    exact dg_at ..
  · rw [later m c t (by omega) (by omega) hp]
    exact (more_dg _ _ k).trans (congrArg _ (dg_at ..))

theorem out3 : (dats m 0 c).arrAt 11 cfg0.N = val_main_v26 (F := Ideal) (a0 m c) (a1 m c) (a4 m c) := by
  funext (j : S1x1024.Idx)
  have hN : cfg0.N = 8 := N_0
  obtain ⟨k, rfl⟩ := Tiles.one j
  have e : ((cfg0.win 11).blk (Tiles.last N_0)).view.emb (ix2 0 k) = (ix2 0 k : S1x1024.Idx) :=
    Tiles.place_one k _ (still_out _).2.1 rfl
  refine Eq.trans ?_ (ref3_at _ _ _ k).symm
  refine (congrArg _ e.symm).trans ((congrFun ((dats m 0 c).read_blk_arrAt_eq_flushed 11 (fun t t' h h' hne =>
    absurd ((Tiles.eq_last N_0 t ((flush0_11 t).mp h)).trans (Tiles.eq_last N_0 t' ((flush0_11 t').mp h')).symm) hne) cfg0.N
    (Tiles.last N_0) (Tiles.last N_0).isLt ((flush0_11 _).mpr rfl)) (ix2 0 k)).trans ?_)
  rw [Value.flushed11]
  refine Tiles.total N_0 (fun n h => (outsAt0 m c n h).2.2.2.1 (ix2 0 k))
    (fun t s => Rms.scale (fun i => b0 m c t (ix2 s i)) (fun i => b1 m c t (ix2 s i)) (fun i => b4 m c t (ix2 0 i)) k) _
    (fun t h => ?_) (fun t h hp => ?_) (fun t s => by simp only [b0_at, b1_at, b4_at])
  · rw [first m c t (by omega) (by omega)]
    exact dsc_at ..
  · rw [later m c t (by omega) (by omega) hp]
    exact (more_dsc _ _ k).trans (congrArg _ (dsc_at ..))

theorem out4 : (dats m 0 c).arrAt 12 cfg0.N = val_main_v23 (F := Ideal) (a1 m c) := by
  funext (j : S1x1024.Idx)
  have hN : cfg0.N = 8 := N_0
  obtain ⟨k, rfl⟩ := Tiles.one j
  have e : ((cfg0.win 12).blk (Tiles.last N_0)).view.emb (ix2 0 k) = (ix2 0 k : S1x1024.Idx) :=
    Tiles.place_one k _ (still_out _).2.2.1 rfl
  refine Eq.trans ?_ (ref4_at _ k).symm
  refine (congrArg _ e.symm).trans ((congrFun ((dats m 0 c).read_blk_arrAt_eq_flushed 12 (fun t t' h h' hne =>
    absurd ((Tiles.eq_last N_0 t ((flush0_12 t).mp h)).trans (Tiles.eq_last N_0 t' ((flush0_12 t').mp h')).symm) hne) cfg0.N
    (Tiles.last N_0) (Tiles.last N_0).isLt ((flush0_12 _).mpr rfl)) (ix2 0 k)).trans ?_)
  rw [Value.flushed12]
  refine Tiles.total N_0 (fun n h => (outsAt0 m c n h).2.2.2.2.1 (ix2 0 k)) (fun t s => b1 m c t (ix2 s k)) _
    (fun t h => ?_) (fun t h hp => ?_) (fun t s => b1_at m c t s k)
  · rw [first m c t (by omega) (by omega)]
    exact dsh_at ..
  · rw [later m c t (by omega) (by omega) hp]
    exact (more_dsh _ _ k).trans (congrArg _ (dsh_at ..))

theorem out5 : (dats m 0 c).arrAt 13 cfg0.N = val_main_v56 (F := Ideal) (a0 m c) (a1 m c) (a2 m c) (a3 m c) (a4 m c) (a5 m c) := by
  funext (j : S1x1024.Idx)
  have hN : cfg0.N = 8 := N_0
  obtain ⟨k, rfl⟩ := Tiles.one j
  have e : ((cfg0.win 13).blk (Tiles.last N_0)).view.emb (ix2 0 k) = (ix2 0 k : S1x1024.Idx) :=
    Tiles.place_one k _ (still_out _).2.2.2 rfl
  refine Eq.trans ?_ (ref5_at _ _ _ _ _ _ k).symm
  refine (congrArg _ e.symm).trans ((congrFun ((dats m 0 c).read_blk_arrAt_eq_flushed 13 (fun t t' h h' hne =>
    absurd ((Tiles.eq_last N_0 t ((flush0_13 t).mp h)).trans (Tiles.eq_last N_0 t' ((flush0_13 t').mp h')).symm) hne) cfg0.N
    (Tiles.last N_0) (Tiles.last N_0).isLt ((flush0_13 _).mpr rfl)) (ix2 0 k)).trans ?_)
  rw [Value.flushed13]
  refine Tiles.total N_0 (fun n h => (outsAt0 m c n h).2.2.2.2.2 (ix2 0 k))
    (fun t s => through (fun i => b0 m c t (ix2 s i)) (fun i => b1 m c t (ix2 s i)) (fun i => b2 m c t (ix2 s i))
      (fun i => b4 m c t (ix2 0 i)) (fun i => b5 m c t (ix2 0 i)) k * b3 m c t (ix2 s k)) _
    (fun t h => ?_) (fun t h hp => ?_) (fun t s => by simp only [b0_at, b1_at, b2_at, b3_at, b4_at, b5_at])
  · rw [first m c t (by omega) (by omega)]
    exact dgt_at ..
  · rw [later m c t (by omega) (by omega) hp]
    exact (more_dgt _ _ k).trans (congrArg _ (dgt_at ..))

/-- From equal arguments the kernel's results over the extended reals are the reference's. -/
theorem algebraic : Cert.algebraic_NormGateBIdeal_NormGateBRefIdeal := by
  intro m ρ m' ρ' _ hagree
  refine ⟨_, _, _, _, _, _, Cert.NormGateBIdeal.Value.run_blocks (F := Ideal) m ρ, ?_⟩
  refine (θ_run Cert.NormGateBRefIdeal.defs _ _).mono (fun r h c => ?_) (Cert.NormGateBRefIdeal.Value.run (F := Ideal) m' ρ')
  obtain ⟨h0, h1, h2, h3, h4, h5, hk⟩ := h c
  obtain ⟨e0, e1, e2, e3, e4, e5, _, e7⟩ := hagree c
  refine ⟨?_, ?_, ?_, ?_, ?_, ?_, hk⟩
  · refine (h0.trans (val_main_v48_eq _ _)).trans (Eq.trans ?_ (out0 m c).symm)
    simp only [e0, e1, e2, e4, e5]
  · refine (h1.trans (val_main_v57_eq _ _)).trans (Eq.trans ?_ (out1 m c).symm)
    simp only [e0, e1, e2, e4, e5, e7]
  · refine (h2.trans (val_main_v31_eq _ _ _)).trans (Eq.trans ?_ (out2 m c).symm)
    simp only [e0, e1, e5]
  · refine (h3.trans (val_main_v26_eq _ _ _)).trans (Eq.trans ?_ (out3 m c).symm)
    simp only [e0, e1, e4]
  · refine (h4.trans (val_main_v23_eq _)).trans (Eq.trans ?_ (out4 m c).symm)
    simp only [e1]
  · refine (h5.trans (val_main_v56_eq _ _)).trans (Eq.trans ?_ (out5 m c).symm)
    simp only [e0, e1, e2, e3, e4, e5]

end Cert.Proof.NormGateB

end
-- ==== Proof.Rows.ConvActB.lean ====
module

public import proofs.«01_k».proof.Defs
public import proofs.«01_k».proof.Proof.Rows.Tiles
public import proofs.«01_k».proof.Proof.Gen.ConvActB.Frame
public import proofs.«01_k».proof.Proof.Gen.ConvActBIdeal.Value
public import proofs.«01_k».proof.Proof.Gen.ConvActBRefIdeal.Run
public import proofs.«01_k».proof.Proof.Gen.ConvActBRefIdeal.Read
public import Idealize.ShloMosaic.Lib.Pipeline.ReadBack
public import Idealize.ShloMosaic.Adequacy

@[expose] public section

/-! The gradient of the activation after the convolution: the row normalisation under the smooth gate `x · logistic x`. Its gain's and
offset's gradients are sums over the 4096 rows that the call adds up over eight tiles. -/

set_option maxRecDepth 16384

noncomputable section

namespace Cert.Proof.ConvActB

open Cert Cert.Mm Idealize.ShloMosaic Idealize.ShloMosaic.TcCoe Idealize.SL.Sem
open Cert.ConvActBIdeal Cert.ConvActBIdeal.Gen Cert.ConvActBRefIdeal.Read

/-- The kernel keeps its arguments and ends with every counter at zero. -/
theorem frame_p : Cert.quiescent_ConvActB := fun m ρ _ => Cert.ConvActB.Gen.frame m ρ

/-- So does its reading over the extended reals. -/
theorem frame_pi : Cert.quiescent_ConvActBIdeal := fun m ρ _ => Cert.ConvActBIdeal.Gen.frame m ρ

/-- The reference keeps its arguments; it has no counters. -/
theorem frame_ri : Cert.quiescent_ConvActBRefIdeal := fun m ρ _ =>
  (θ_run Cert.ConvActBRefIdeal.defs _ _).mono
    (fun r h => ⟨fun c => (h c).2.2.2, sem_eq_zero_of_no_sems (by decide) r.2⟩)
    (Cert.ConvActBRefIdeal.Value.run (F := Ideal) m ρ)

/-- The cotangent through the smooth gate of the normalised row. -/
def inner (gn bt v d : Fin 1024 → EReal) (k : Fin 1024) : EReal :=
  d k * Ideal.logistic (Gate.norm gn bt v k) +
    Gate.norm gn bt v k * d k * (Ideal.logistic (Gate.norm gn bt v k) * (1 - Ideal.logistic (Gate.norm gn bt v k)))

section Tile

variable (x0 x1 : Vec Ideal S512x1024 .bf16) (x2 x3 a : Vec Ideal S1x1024 .f32)

/-- The kernel on a tile, at one place. -/
theorem inner_at (i : Fin 512) (k : Fin 1024) : k0_pay12 (F := Ideal) x0 x1 x2 x3 (ix2 i k) =
    inner (fun c => x2 (ix2 0 c)) (fun c => x3 (ix2 0 c)) (fun c => x0 (ix2 i c)) (fun c => x1 (ix2 i c)) k := by
  unfold inner Gate.norm Gate.unit Gate.var Gate.cent Gate.mean
  pointwise [k0_pay12, k0_pay11, k0_pay9, k0_pay8, k0_pay7, k0_pay5, k0_pay4, k0_pay3]

theorem dcv_at (e : FVec Ideal S512x1024 .f32) (i : Fin 512) (k : Fin 1024) :
    k0_pay16 (F := Ideal) x2 (k0_pay6 x0) (k0_pay7 x0) (k0_pay9 x0) (k0_pay10 x0) e (ix2 i k) =
      Gate.normBwd (fun c => x2 (ix2 0 c)) (fun c => x0 (ix2 i c)) (fun c => e (ix2 i c)) k := by
  unfold Gate.normBwd Gate.normA Gate.normB Gate.var Gate.cent Gate.mean
  pointwise [k0_pay16, k0_pay10, k0_pay9, k0_pay8, k0_pay7, k0_pay6, k0_pay5, k0_pay4, k0_pay3]
  simp only [Fin.sum_univ_one, zero_sub]

theorem dg_at (k : Fin 1024) : k0_pay15 (F := Ideal) (k0_pay11 x0) (k0_pay12 x0 x1 x2 x3) (ix2 0 k) =
    ∑ s : Fin 512, Gate.unit (fun c => x0 (ix2 s c)) k *
      inner (fun c => x2 (ix2 0 c)) (fun c => x3 (ix2 0 c)) (fun c => x0 (ix2 s c)) (fun c => x1 (ix2 s c)) k := by
  simp only [← inner_at]
  unfold Gate.unit Gate.var Gate.cent Gate.mean
  pointwise [k0_pay15, k0_pay11, k0_pay9, k0_pay8, k0_pay7, k0_pay5, k0_pay4, k0_pay3]

theorem db_at (k : Fin 1024) : k0_pay14 (F := Ideal) (k0_pay13 x0 x1 x2 x3) (ix2 0 k) =
    ∑ s : Fin 512, inner (fun c => x2 (ix2 0 c)) (fun c => x3 (ix2 0 c)) (fun c => x0 (ix2 s c)) (fun c => x1 (ix2 s c)) k := by
  simp only [← inner_at]
  pointwise [k0_pay14, k0_pay13]

theorem more_dg (p : FVec Ideal S1x1024 .f32) (k : Fin 1024) : k0_pay1 (F := Ideal) p a (ix2 0 k) = a (ix2 0 k) + p (ix2 0 k) := by
  pointwise [k0_pay1]

theorem more_db (p : FVec Ideal S1x1024 .f32) (k : Fin 1024) : k0_pay2 (F := Ideal) p a (ix2 0 k) = a (ix2 0 k) + p (ix2 0 k) := by
  pointwise [k0_pay2]

end Tile

section Reference

variable (x0 x1 : Vec Ideal S4096x1024 .bf16) (x2 x3 : Vec Ideal S1x1024 .f32)

/-- The reference at one place. -/
theorem ref_inner (i : Fin 4096) (k : Fin 1024) : val_main_v30 (F := Ideal) x0 x1 x2 x3 (ix2 i k) =
    inner (fun c => x2 (ix2 0 c)) (fun c => x3 (ix2 0 c)) (fun c => x0 (ix2 i c)) (fun c => x1 (ix2 i c)) k := by
  unfold inner Gate.norm Gate.unit Gate.var Gate.cent Gate.mean
  pointwise [val_main_v30, val_main_call1_v2, val_main_call1_v1, val_main_call1_v0, val_main_v29, val_main_v28_1,
    val_main_call0_v7, val_main_call0_v6, val_main_call0_cst_1, val_main_v28_2, val_main_call0_v4, val_main_call0_cst_0, val_main_call0_v3,
    val_main_call0_v2, val_main_call0_cst, val_main_call0_v1, val_main_call0_v0, val_main_v27, val_main_v26, val_main_v25, val_main_v24,
    val_main_v23, val_main_v22, val_main_v18, val_main_v17, val_main_v16, val_main_cst_4, val_main_v15, val_main_v14, val_main_v13, val_main_v12,
    val_main_cst_3, val_main_v11, val_main_v10, val_main_cst_2, val_main_v7, val_main_v6, val_main_v5, val_main_v4, val_main_v3, val_main_cst_0,
    val_main_v2, val_main_v1, val_main_cst, val_main_v0]
  rfl

theorem ref0_at (i : Fin 4096) (k : Fin 1024) : val_main_v62 (F := Ideal) x0 x1 x2 x3 (ix2 i k) =
    Gate.normBwd (fun c => x2 (ix2 0 c)) (fun c => x0 (ix2 i c))
      (inner (fun c => x2 (ix2 0 c)) (fun c => x3 (ix2 0 c)) (fun c => x0 (ix2 i c)) (fun c => x1 (ix2 i c))) k := by
  rw [show inner (fun c => x2 (ix2 0 c)) (fun c => x3 (ix2 0 c)) (fun c => x0 (ix2 i c)) (fun c => x1 (ix2 i c)) =
    fun k => val_main_v30 (F := Ideal) x0 x1 x2 x3 (ix2 i k) from funext fun k => (ref_inner x0 x1 x2 x3 i k).symm]
  unfold Gate.normBwd Gate.normA Gate.normB Gate.var Gate.cent Gate.mean
  pointwise [val_main_v62, val_main_v61, val_main_v60, val_main_v59, val_main_v58, val_main_v57, val_main_v56, val_main_v55, val_main_v54,
    val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v21, val_main_v20,
    val_main_v19, val_main_v18, val_main_v17, val_main_v16, val_main_cst_4, val_main_v15, val_main_v14, val_main_v13, val_main_v12,
    val_main_cst_3, val_main_v11, val_main_v10, val_main_cst_2, val_main_v9, val_main_v8, val_main_v7, val_main_v6, val_main_v5, val_main_v4,
    val_main_v3, val_main_cst_0, val_main_v2, val_main_v1, val_main_cst, val_main_v0, val_main_cst_1, val_main_cst_5, val_main_cst_8,
    val_main_cst_9, val_main_cst_10, val_main_cst_11, val_main_cst_12, val_main_cst_13, val_main_cst_14]
  simp only [Fin.sum_univ_one]

theorem ref1_at (k : Fin 1024) : val_main_v35 (F := Ideal) x0 x1 x2 x3 (ix2 0 k) =
    ∑ s : Fin 4096, Gate.unit (fun c => x0 (ix2 s c)) k *
      inner (fun c => x2 (ix2 0 c)) (fun c => x3 (ix2 0 c)) (fun c => x0 (ix2 s c)) (fun c => x1 (ix2 s c)) k := by
  simp only [← ref_inner]
  unfold Gate.unit Gate.var Gate.cent Gate.mean
  pointwise [val_main_v35, val_main_v34, val_main_v33, val_main_cst_7,
    val_main_v23, val_main_v22, val_main_v18, val_main_v17, val_main_v16, val_main_cst_4, val_main_v15, val_main_v14, val_main_v13, val_main_v12,
    val_main_cst_3, val_main_v11, val_main_v10, val_main_cst_2, val_main_v7, val_main_v6, val_main_v5, val_main_v4, val_main_v3, val_main_cst_0,
    val_main_v2, val_main_v1, val_main_cst, val_main_v0]

theorem ref2_at (k : Fin 1024) : val_main_v32 (F := Ideal) x0 x1 x2 x3 (ix2 0 k) =
    ∑ s : Fin 4096, inner (fun c => x2 (ix2 0 c)) (fun c => x3 (ix2 0 c)) (fun c => x0 (ix2 s c)) (fun c => x1 (ix2 s c)) k := by
  simp only [← ref_inner]
  pointwise [val_main_v32, val_main_v31, val_main_cst_6]

end Reference

variable (m : (ℓ : Loc nD τ sig) → Buf (Elt Ideal) ℓ) (c : Dev nD)

/-- The arguments: the convolution's output, the cotangent, the gain and the offset. -/
abbrev a0 : Vec Ideal S4096x1024 .bf16 := m ((c : Thread nD τ).loc main_arg0)
abbrev a1 : Vec Ideal S4096x1024 .bf16 := m ((c : Thread nD τ).loc main_arg1)
abbrev a2 : Vec Ideal S1x1024 .f32 := m ((c : Thread nD τ).loc main_arg2)
abbrev a3 : Vec Ideal S1x1024 .f32 := m ((c : Thread nD τ).loc main_arg3)

/-- Their blocks at a point. -/
abbrev b0 (t : Fin cfg0.N) : Vec Ideal S512x1024 .bf16 := iblk m c 0 t
abbrev b1 (t : Fin cfg0.N) : Vec Ideal S512x1024 .bf16 := iblk m c 1 t
abbrev b2 (t : Fin cfg0.N) : Vec Ideal S1x1024 .f32 := iblk m c 2 t
abbrev b3 (t : Fin cfg0.N) : Vec Ideal S1x1024 .f32 := iblk m c 3 t

/-- What a point computes from its blocks alone: its tile of the input's gradient, and its part of each sum. -/
abbrev mid (t : Fin cfg0.N) : FVec Ideal S512x1024 .f32 := k0_pay12 (b0 m c t) (b1 m c t) (b2 m c t) (b3 m c t)
abbrev dcv (t : Fin cfg0.N) : FVec Ideal S512x1024 .bf16 :=
  k0_pay16 (b2 m c t) (k0_pay6 (b0 m c t)) (k0_pay7 (b0 m c t)) (k0_pay9 (b0 m c t)) (k0_pay10 (b0 m c t)) (mid m c t)
abbrev dg (t : Fin cfg0.N) : FVec Ideal S1x1024 .f32 := k0_pay15 (k0_pay11 (b0 m c t)) (mid m c t)
abbrev db (t : Fin cfg0.N) : FVec Ideal S1x1024 .f32 := k0_pay14 (k0_pay13 (b0 m c t) (b1 m c t) (b2 m c t) (b3 m c t))

set_option maxHeartbeats 400000 in
/-- The first point starts the sums. -/
theorem first (t : Fin cfg0.N) (h0 : t.val % 8 = 0) (h1 : ¬1 ≤ t.val) :
    outsAt0 m c t.val t.isLt = (dcv m c t, dg m c t, db m c t) := by
  rw [outsAt0_A m c t h0 h1 h0 h1]
  refine Prod.ext ?_ (Prod.ext ?_ ?_) <;> dsimp only
  on_goal 1 => refine (View.read_writes_eq_canon _ _ _ (fun y => cover0_A_4 (F := Ideal) (y := y) ..)).trans ?_
  on_goal 2 => refine (View.read_writes_eq_canon _ _ _ (fun y => cover0_A_5 (F := Ideal) (y := y) ..)).trans ?_
  on_goal 3 => refine (View.read_writes_eq_canon _ _ _ (fun y => cover0_A_6 (F := Ideal) (y := y) ..)).trans ?_
  all_goals
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2]

set_option maxHeartbeats 400000 in
/-- A later point adds to them. -/
theorem later (t : Fin cfg0.N) (h0 : ¬t.val % 8 = 0) (h1 : 1 ≤ t.val) (hp : t.val - 1 < cfg0.N) : outsAt0 m c t.val t.isLt =
    (dcv m c t, k0_pay1 (dg m c t) (outsAt0 m c (t.val - 1) hp).2.1, k0_pay2 (db m c t) (outsAt0 m c (t.val - 1) hp).2.2) := by
  rw [outsAt0_B m c t h0 h1 h0 h1]
  refine Prod.ext ?_ (Prod.ext ?_ ?_) <;> dsimp only
  on_goal 1 => refine (View.read_writes_eq_canon _ _ _ (fun y => cover0_B_4 (F := Ideal) (y := y) ..)).trans ?_
  on_goal 2 => refine (View.read_writes_eq_canon _ _ _ (fun y => cover0_B_5 (F := Ideal) (y := y) ..)).trans ?_
  on_goal 3 => refine (View.read_writes_eq_canon _ _ _ (fun y => cover0_B_6 (F := Ideal) (y := y) ..)).trans ?_
  all_goals
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2]

/-- Every point leaves its tile of the input's gradient. -/
theorem out_at (t : Fin cfg0.N) : (outsAt0 m c t.val t.isLt).1 = dcv m c t := by
  have hN : cfg0.N = 8 := N_0
  by_cases h : t.val = 0
  · rw [first m c t (by omega) (by omega)]
  · rw [later m c t (by omega) (by omega) (by omega)]

/-- The windows' block indices: the rows move with the point. -/
theorem index : ∀ t : Fin cfg0.N, (win0_0.index t 0 = t.val ∧ win0_0.index t 1 = 0) ∧ (win0_1.index t 0 = t.val ∧ win0_1.index t 1 = 0) ∧
    (win0_4.index t 0 = t.val ∧ win0_4.index t 1 = 0) :=
  (by decide +kernel : ∀ t : Fin grid0.N, (win0_0.index t 0 = t.val ∧ win0_0.index t 1 = 0) ∧
    (win0_1.index t 0 = t.val ∧ win0_1.index t 1 = 0) ∧ (win0_4.index t 0 = t.val ∧ win0_4.index t 1 = 0))
theorem still : ∀ t : Fin cfg0.N, (win0_2.index t 0 = 0 ∧ win0_2.index t 1 = 0) ∧ (win0_3.index t 0 = 0 ∧ win0_3.index t 1 = 0) ∧
    (win0_5.index t 0 = 0 ∧ win0_5.index t 1 = 0) ∧ (win0_6.index t 0 = 0 ∧ win0_6.index t 1 = 0) :=
  (by decide +kernel : ∀ t : Fin grid0.N, (win0_2.index t 0 = 0 ∧ win0_2.index t 1 = 0) ∧ (win0_3.index t 0 = 0 ∧ win0_3.index t 1 = 0) ∧
    (win0_5.index t 0 = 0 ∧ win0_5.index t 1 = 0) ∧ (win0_6.index t 0 = 0 ∧ win0_6.index t 1 = 0))

theorem b0_at (t : Fin cfg0.N) (s : Fin 512) (k : Fin 1024) : b0 m c t (ix2 s k) = a0 m c (ix2 (Tiles.row N_0 t s) k) :=
  congrArg (a0 m c) (Tiles.place N_0 t s k _ (index t).1 rfl rfl)
theorem b1_at (t : Fin cfg0.N) (s : Fin 512) (k : Fin 1024) : b1 m c t (ix2 s k) = a1 m c (ix2 (Tiles.row N_0 t s) k) :=
  congrArg (a1 m c) (Tiles.place N_0 t s k _ (index t).2.1 rfl rfl)
theorem b2_at (t : Fin cfg0.N) (k : Fin 1024) : b2 m c t (ix2 0 k) = a2 m c (ix2 0 k) :=
  congrArg (a2 m c) (Tiles.place_one k _ (still t).1 rfl)
theorem b3_at (t : Fin cfg0.N) (k : Fin 1024) : b3 m c t (ix2 0 k) = a3 m c (ix2 0 k) :=
  congrArg (a3 m c) (Tiles.place_one k _ (still t).2.1 rfl)

/-- The kernel's arrays are the reference's: the input's gradient tile by tile, the sums after the last tile. -/
theorem out0 : (dats m 0 c).arrAt 4 cfg0.N = val_main_v62 (F := Ideal) (a0 m c) (a1 m c) (a2 m c) (a3 m c) := by
  funext (j : S4096x1024.Idx)
  obtain ⟨t, i, k, rfl⟩ := Tiles.rows N_0 j
  refine Eq.trans ?_ (ref0_at _ _ _ _ _ k).symm
  have e : ((cfg0.win 4).blk t).view.emb (ix2 i k) = (ix2 (Tiles.row N_0 t i) k : S4096x1024.Idx) :=
    Tiles.place N_0 t i k _ (index t).2.2 rfl rfl
  refine (congrArg _ e.symm).trans ((congrFun (Value.blocks4 m c t (flush0_4 t)) (ix2 i k)).trans ?_)
  rw [Value.flushed4, out_at]
  refine (dcv_at _ _ _ i k).trans ?_
  simp only [inner_at, b0_at, b1_at, b2_at, b3_at]

theorem out1 : (dats m 0 c).arrAt 5 cfg0.N = val_main_v35 (F := Ideal) (a0 m c) (a1 m c) (a2 m c) (a3 m c) := by
  funext (j : S1x1024.Idx)
  have hN : cfg0.N = 8 := N_0
  obtain ⟨k, rfl⟩ := Tiles.one j
  have e : ((cfg0.win 5).blk (Tiles.last N_0)).view.emb (ix2 0 k) = (ix2 0 k : S1x1024.Idx) :=
    Tiles.place_one k _ (still _).2.2.1 rfl
  refine Eq.trans ?_ (ref1_at _ _ _ _ k).symm
  refine (congrArg _ e.symm).trans ((congrFun ((dats m 0 c).read_blk_arrAt_eq_flushed 5 (fun t t' h h' hne =>
    absurd ((Tiles.eq_last N_0 t ((flush0_5 t).mp h)).trans (Tiles.eq_last N_0 t' ((flush0_5 t').mp h')).symm) hne) cfg0.N
    (Tiles.last N_0) (Tiles.last N_0).isLt ((flush0_5 _).mpr rfl)) (ix2 0 k)).trans ?_)
  rw [Value.flushed5]
  refine Tiles.total N_0 (fun n h => (outsAt0 m c n h).2.1 (ix2 0 k))
    (fun t s => Gate.unit (fun i => b0 m c t (ix2 s i)) k * inner (fun i => b2 m c t (ix2 0 i)) (fun i => b3 m c t (ix2 0 i))
      (fun i => b0 m c t (ix2 s i)) (fun i => b1 m c t (ix2 s i)) k) _
    (fun t h => ?_) (fun t h hp => ?_) (fun t s => by simp only [b0_at, b1_at, b2_at, b3_at])
  · rw [first m c t (by omega) (by omega)]
    exact dg_at ..
  · rw [later m c t (by omega) (by omega) hp]
    exact (more_dg _ _ k).trans (congrArg _ (dg_at ..))

theorem out2 : (dats m 0 c).arrAt 6 cfg0.N = val_main_v32 (F := Ideal) (a0 m c) (a1 m c) (a2 m c) (a3 m c) := by
  funext (j : S1x1024.Idx)
  have hN : cfg0.N = 8 := N_0
  obtain ⟨k, rfl⟩ := Tiles.one j
  have e : ((cfg0.win 6).blk (Tiles.last N_0)).view.emb (ix2 0 k) = (ix2 0 k : S1x1024.Idx) :=
    Tiles.place_one k _ (still _).2.2.2 rfl
  refine Eq.trans ?_ (ref2_at _ _ _ _ k).symm
  refine (congrArg _ e.symm).trans ((congrFun ((dats m 0 c).read_blk_arrAt_eq_flushed 6 (fun t t' h h' hne =>
    absurd ((Tiles.eq_last N_0 t ((flush0_6 t).mp h)).trans (Tiles.eq_last N_0 t' ((flush0_6 t').mp h')).symm) hne) cfg0.N
    (Tiles.last N_0) (Tiles.last N_0).isLt ((flush0_6 _).mpr rfl)) (ix2 0 k)).trans ?_)
  rw [Value.flushed6]
  refine Tiles.total N_0 (fun n h => (outsAt0 m c n h).2.2 (ix2 0 k))
    (fun t s => inner (fun i => b2 m c t (ix2 0 i)) (fun i => b3 m c t (ix2 0 i))
      (fun i => b0 m c t (ix2 s i)) (fun i => b1 m c t (ix2 s i)) k) _
    (fun t h => ?_) (fun t h hp => ?_) (fun t s => by simp only [b0_at, b1_at, b2_at, b3_at])
  · rw [first m c t (by omega) (by omega)]
    exact db_at ..
  · rw [later m c t (by omega) (by omega) hp]
    exact (more_db _ _ k).trans (congrArg _ (db_at ..))

/-- From equal arguments the kernel's results over the extended reals are the reference's. -/
theorem algebraic : Cert.algebraic_ConvActBIdeal_ConvActBRefIdeal := by
  intro m ρ m' ρ' _ hagree
  refine ⟨_, _, _, Cert.ConvActBIdeal.Value.run_blocks (F := Ideal) m ρ, ?_⟩
  refine (θ_run Cert.ConvActBRefIdeal.defs _ _).mono (fun r h c => ?_) (Cert.ConvActBRefIdeal.Value.run (F := Ideal) m' ρ')
  obtain ⟨h0, h1, h2, hk⟩ := h c
  obtain ⟨e0, e1, e2, e3⟩ := hagree c
  refine ⟨?_, ?_, ?_, hk⟩
  · refine (h0.trans (val_main_v62_eq _ _)).trans (Eq.trans ?_ (out0 m c).symm)
    simp only [e0, e1, e2, e3]
  · refine (h1.trans (val_main_v35_eq _ _)).trans (Eq.trans ?_ (out1 m c).symm)
    simp only [e0, e1, e2, e3]
  · refine (h2.trans (val_main_v32_eq _ _)).trans (Eq.trans ?_ (out2 m c).symm)
    simp only [e0, e1, e2, e3]

end Cert.Proof.ConvActB

end
-- ==== Proof.Rows.LossHead.lean ====
module

public import proofs.«01_k».proof.Defs
public import proofs.«01_k».proof.Proof.Rows.Tiles
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import Idealize.ShloMosaic.Lib.Pipeline.ReadBack
public import Idealize.ShloMosaic.Adequacy

@[expose] public section

/-! The loss and its gradient: the last residual, divided by its root mean square, against the target. The loss and the gain's gradient are
sums over the 4096 rows that the call adds up over eight tiles. The kernel halves each row's mean square and scales each error by the row
length's reciprocal; the reference halves the sum of the means, and its gradient scales twice the error by half that reciprocal. -/

set_option maxRecDepth 16384

noncomputable section

namespace Cert.Proof.LossHead

open Cert Cert.Mm Idealize.ShloMosaic Idealize.ShloMosaic.TcCoe Idealize.SL.Sem
open Cert.LossHeadIdeal Cert.LossHeadIdeal.Gen Cert.LossHeadRefIdeal.Read

/-- The kernel keeps its arguments and ends with every counter at zero. -/
theorem frame_p : Cert.quiescent_LossHead := fun m ρ _ => Cert.LossHead.Gen.frame m ρ

/-- So does its reading over the extended reals. -/
theorem frame_pi : Cert.quiescent_LossHeadIdeal := fun m ρ _ => Cert.LossHeadIdeal.Gen.frame m ρ

/-- The reference keeps its arguments; it has no counters. -/
theorem frame_ri : Cert.quiescent_LossHeadRefIdeal := fun m ρ _ =>
  (θ_run Cert.LossHeadRefIdeal.defs _ _).mono
    (fun r h => ⟨fun c => (h c).2.2.2, sem_eq_zero_of_no_sems (by decide) r.2⟩)
    (Cert.LossHeadRefIdeal.Value.run (F := Ideal) m ρ)

/-- The row length's reciprocal. -/
abbrev recip : EReal := Ideal.ofBits .f32 0x3A800000#32

/-- A row of the last residual. -/
def resid (x o gt : Fin 1024 → EReal) (k : Fin 1024) : EReal := x k + gt k * o k
/-- A row's error against the target. -/
def err (v g y : Fin 1024 → EReal) (k : Fin 1024) : EReal := Rms.unit v k * g k - y k
/-- Its mean square. -/
def square (v g y : Fin 1024 → EReal) : EReal := Ideal.div (∑ k, err v g y k * err v g y k) Gate.len
/-- One row's part of the gain's gradient. -/
def gain (v g y : Fin 1024 → EReal) (k : Fin 1024) : EReal := Rms.unit v k * (err v g y k * recip)
/-- The residual's gradient. -/
def slope (v g y : Fin 1024 → EReal) (k : Fin 1024) : EReal := Rms.grad v (fun c => err v g y c * recip * g c) k

theorem half_eq : Gate.half = ((1 / 2 : ℝ) : EReal) := by simp [Gate.half, Ideal.ofBits, Ideal.ieee]; rw [← EReal.coe_mul]; norm_num
theorem two_eq : Gate.two = ((2 : ℝ) : EReal) := by simp [Gate.two, Ideal.ofBits, Ideal.ieee]; rw [← EReal.coe_mul]; norm_num
theorem len_eq : Gate.len = ((1024 : ℝ) : EReal) := by simp [Gate.len, Ideal.ofBits, Ideal.ieee]; rw [← EReal.coe_mul]; norm_num
theorem recip_eq : recip = ((1 / 1024 : ℝ) : EReal) := by simp [recip, Ideal.ofBits, Ideal.ieee]; rw [← EReal.coe_mul]; norm_num

/-- Half the reciprocal of twice an error is the error over the row length. -/
theorem scaled (e : EReal) : Ideal.div Gate.half Gate.len * (Gate.two * e) = e * recip := by
  rw [len_eq, Ideal.div_coe (by norm_num), half_eq, two_eq, recip_eq, ← mul_assoc, ← EReal.coe_mul, ← EReal.coe_mul, mul_comm]
  norm_num

/-- Half a sum is the sum of the halves. -/
theorem halves {n : ℕ} (f : Fin n → EReal) : Gate.half * ∑ s, f s = ∑ s, Gate.half * f s := by
  have h (x y : EReal) : Gate.half * (x + y) = Gate.half * x + Gate.half * y :=
    EReal.left_distrib_of_nonneg_of_ne_top (by rw [half_eq]; exact EReal.coe_nonneg.mpr (by norm_num)) (by rw [half_eq]; exact EReal.coe_ne_top _) x y
  exact map_sum (⟨⟨fun x => Gate.half * x, mul_zero _⟩, h⟩ : EReal →+ EReal) f Finset.univ

section Tile

variable (x0 x2 : Vec Ideal S512x1024 .f32) (x1 : Vec Ideal S512x1024 .bf16) (x3 x4 : Vec Ideal S1x1024 .f32)

/-- Row `i` of a tile's residual. -/
abbrev line (i : Fin 512) : Fin 1024 → EReal := resid (fun c => x0 (ix2 i c)) (fun c => x1 (ix2 i c)) (fun c => x3 (ix2 0 c))

/-- The kernel on a tile, at one place. -/
theorem resid_at (i : Fin 512) (k : Fin 1024) : k0_pay5 (F := Ideal) x0 x1 x3 (ix2 i k) = line x0 x1 x3 i k := by
  unfold line resid
  pointwise [k0_pay5]

theorem err_at (i : Fin 512) (k : Fin 1024) : k0_pay9 (F := Ideal) x0 x1 x2 x3 x4 (ix2 i k) =
    err (line x0 x1 x3 i) (fun c => x4 (ix2 0 c)) (fun c => x2 (ix2 i c)) k := by
  unfold err Rms.unit Rms.ms
  simp only [← resid_at]
  pointwise [k0_pay9, k0_pay8, k0_pay7, k0_pay6]

theorem dx_at (i : Fin 512) (k : Fin 1024) :
    k0_pay1 (F := Ideal) (k0_pay5 x0 x1 x3) (k0_pay13 x0 x1 x2 x3 x4) (k0_pay14 x0 x1 x2 x3 x4) (ix2 i k) =
      slope (line x0 x1 x3 i) (fun c => x4 (ix2 0 c)) (fun c => x2 (ix2 i c)) k := by
  unfold slope Rms.grad Rms.through
  simp only [← err_at]
  unfold Rms.ms
  simp only [← resid_at]
  pointwise [k0_pay1, k0_pay14, k0_pay13, k0_pay12, k0_pay10, k0_pay7, k0_pay6]

theorem dg_at (k : Fin 1024) : k0_pay11 (F := Ideal) x0 x1 x2 x3 x4 (ix2 0 k) =
    ∑ s : Fin 512, gain (line x0 x1 x3 s) (fun c => x4 (ix2 0 c)) (fun c => x2 (ix2 s c)) k := by
  unfold gain Rms.unit
  simp only [← err_at]
  unfold Rms.ms
  simp only [← resid_at]
  pointwise [k0_pay11, k0_pay10, k0_pay8, k0_pay7, k0_pay6]

theorem loss_at (k : Fin 128) : k0_pay2 (F := Ideal) (k0_pay9 x0 x1 x2 x3 x4) (ix2 0 k) =
    ∑ s : Fin 512, Gate.half * square (line x0 x1 x3 s) (fun c => x4 (ix2 0 c)) (fun c => x2 (ix2 s c)) := by
  unfold square
  simp only [← err_at]
  pointwise [k0_pay2]

theorem more_loss (e : FVec Ideal S512x1024 .f32) (a : Vec Ideal S1x128 .f32) (k : Fin 128) :
    k0_pay3 (F := Ideal) e a (ix2 0 k) = a (ix2 0 k) + k0_pay2 (F := Ideal) e (ix2 0 k) := by
  pointwise [k0_pay3]

theorem more_dg (p : FVec Ideal S1x1024 .f32) (a : Vec Ideal S1x1024 .f32) (k : Fin 1024) :
    k0_pay4 (F := Ideal) p a (ix2 0 k) = a (ix2 0 k) + p (ix2 0 k) := by
  pointwise [k0_pay4]

end Tile

section Reference

variable (x0 x4 : Vec Ideal S4096x1024 .f32) (x1 : Vec Ideal S4096x1024 .bf16) (x2 x3 : Vec Ideal S1x1024 .f32)

/-- Row `i` of the residual. -/
abbrev whole (i : Fin 4096) : Fin 1024 → EReal := resid (fun c => x0 (ix2 i c)) (fun c => x1 (ix2 i c)) (fun c => x2 (ix2 0 c))

/-- The reference at one place. -/
theorem ref_resid (i : Fin 4096) (k : Fin 1024) : val_main_v3 (F := Ideal) x0 x1 x2 (ix2 i k) = whole x0 x1 x2 i k := by
  unfold whole resid
  pointwise [val_main_v3, val_main_v2, val_main_v1, val_main_v0]

theorem ref_err (i : Fin 4096) (k : Fin 1024) : val_main_v19 (F := Ideal) x0 x1 x2 x3 x4 (ix2 i k) =
    err (whole x0 x1 x2 i) (fun c => x3 (ix2 0 c)) (fun c => x4 (ix2 i c)) k := by
  unfold err Rms.unit Rms.ms
  simp only [← ref_resid]
  pointwise [val_main_v19, val_main_v18, val_main_v17, val_main_v16, val_main_v15, val_main_v11, val_main_v10, val_main_v9, val_main_cst_1,
    val_main_v8, val_main_v7, val_main_cst_0, val_main_v6, val_main_v5, val_main_cst, val_main_v4]

theorem ref_scaled (i : Fin 4096) (k : Fin 1024) : val_main_v33 (F := Ideal) x0 x1 x2 x3 x4 (ix2 i k) =
    err (whole x0 x1 x2 i) (fun c => x3 (ix2 0 c)) (fun c => x4 (ix2 i c)) k * recip := by
  rw [← scaled, ← ref_err]
  pointwise [val_main_v33, val_main_v32, val_main_v31, val_main_v30, val_main_cst_10, val_main_v29, val_main_v28, val_main_cst_9, val_main_cst_8,
    val_main_v22, val_main_v21, val_main_cst_3]

theorem ref0_at (i : Fin 4096) (k : Fin 1024) : val_main_v52 (F := Ideal) x0 x1 x2 x3 x4 (ix2 i k) =
    slope (whole x0 x1 x2 i) (fun c => x3 (ix2 0 c)) (fun c => x4 (ix2 i c)) k := by
  unfold slope Rms.grad Rms.through
  simp only [← ref_scaled]
  unfold Rms.ms
  simp only [← ref_resid]
  pointwise [val_main_v52, val_main_v51, val_main_v50, val_main_v49, val_main_v48, val_main_v47, val_main_cst_14, val_main_v46, val_main_v45,
    val_main_cst_13, val_main_v44, val_main_v43, val_main_v42, val_main_v41, val_main_v40, val_main_cst_12, val_main_v39, val_main_v38,
    val_main_v37, val_main_v14, val_main_v13, val_main_cst_2, val_main_v12, val_main_v11, val_main_v10, val_main_v9, val_main_cst_1,
    val_main_v8, val_main_v7, val_main_cst_0, val_main_v6, val_main_v5, val_main_cst, val_main_v4]

theorem ref1_at (k : Fin 128) : val_main_v53 (F := Ideal) x0 x1 x2 x3 x4 (ix2 0 k) =
    ∑ s : Fin 4096, Gate.half * square (whole x0 x1 x2 s) (fun c => x3 (ix2 0 c)) (fun c => x4 (ix2 s c)) := by
  rw [← halves]
  unfold square
  simp only [← ref_err]
  pointwise [val_main_v53, val_main_v27, val_main_cst_7, val_main_v26, val_main_cst_6, val_main_v25, val_main_v24, val_main_cst_5,
    val_main_v23, val_main_cst_4, val_main_v20]

theorem ref2_at (k : Fin 1024) : val_main_v36 (F := Ideal) x0 x1 x2 x3 x4 (ix2 0 k) =
    ∑ s : Fin 4096, gain (whole x0 x1 x2 s) (fun c => x3 (ix2 0 c)) (fun c => x4 (ix2 s c)) k := by
  unfold gain Rms.unit
  simp only [← ref_scaled]
  unfold Rms.ms
  simp only [← ref_resid]
  pointwise [val_main_v36, val_main_v35, val_main_cst_11, val_main_v34, val_main_v16, val_main_v15, val_main_v11, val_main_v10, val_main_v9,
    val_main_cst_1, val_main_v8, val_main_v7, val_main_cst_0, val_main_v6, val_main_v5, val_main_cst, val_main_v4]

end Reference

variable (m : (ℓ : Loc nD τ sig) → Buf (Elt Ideal) ℓ) (c : Dev nD)

/-- The arguments: the residual, the last layer's output and its gate, the gain, the target. -/
abbrev a0 : Vec Ideal S4096x1024 .f32 := m ((c : Thread nD τ).loc main_arg0)
abbrev a1 : Vec Ideal S4096x1024 .bf16 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S4096x1024 .f32 := m ((c : Thread nD τ).loc main_arg4)

/-- Their blocks at a point, in the kernel's order. -/
abbrev b0 (t : Fin cfg0.N) : Vec Ideal S512x1024 .f32 := iblk m c 0 t
abbrev b1 (t : Fin cfg0.N) : Vec Ideal S512x1024 .bf16 := iblk m c 1 t
abbrev b2 (t : Fin cfg0.N) : Vec Ideal S512x1024 .f32 := iblk m c 2 t
abbrev b3 (t : Fin cfg0.N) : Vec Ideal S1x1024 .f32 := iblk m c 3 t
abbrev b4 (t : Fin cfg0.N) : Vec Ideal S1x1024 .f32 := iblk m c 4 t

/-- What a point computes from its blocks alone: its tile of the residual's gradient, its errors, and its part of the gain's gradient. -/
abbrev dx (t : Fin cfg0.N) : FVec Ideal S512x1024 .f32 :=
  k0_pay1 (k0_pay5 (b0 m c t) (b1 m c t) (b3 m c t)) (k0_pay13 (b0 m c t) (b1 m c t) (b2 m c t) (b3 m c t) (b4 m c t))
    (k0_pay14 (b0 m c t) (b1 m c t) (b2 m c t) (b3 m c t) (b4 m c t))
abbrev er (t : Fin cfg0.N) : FVec Ideal S512x1024 .f32 := k0_pay9 (b0 m c t) (b1 m c t) (b2 m c t) (b3 m c t) (b4 m c t)
abbrev dg (t : Fin cfg0.N) : FVec Ideal S1x1024 .f32 := k0_pay11 (b0 m c t) (b1 m c t) (b2 m c t) (b3 m c t) (b4 m c t)

set_option maxHeartbeats 400000 in
/-- The first point starts the sums. -/
theorem first (t : Fin cfg0.N) (h0 : t.val % 8 = 0) (h1 : ¬1 ≤ t.val) :
    outsAt0 m c t.val t.isLt = (dx m c t, k0_pay2 (er m c t), dg m c t) := by
  rw [outsAt0_A m c t h0 h1 h0 h1]
  refine Prod.ext ?_ (Prod.ext ?_ ?_) <;> dsimp only
  on_goal 1 => refine (View.read_writes_eq_canon _ _ _ (fun y => cover0_A_5 (F := Ideal) (y := y) ..)).trans ?_
  on_goal 2 => refine (View.read_writes_eq_canon _ _ _ (fun y => cover0_A_6 (F := Ideal) (y := y) ..)).trans ?_
  on_goal 3 => refine (View.read_writes_eq_canon _ _ _ (fun y => cover0_A_7 (F := Ideal) (y := y) ..)).trans ?_
  all_goals
    unfold kernelRun0_A
    dsimp only
    sl_unfold_words
    rw [View.canon_unit_zero hz2]
    simp only [View.readAt_eq_ld, Memref.IsWhole.read_unread, View.ld_unit_zero (S := S512x1024) hz2, View.ld_unit_zero (S := S1x1024) hz2]

set_option maxHeartbeats 400000 in
/-- A later point adds to them. -/
theorem later (t : Fin cfg0.N) (h0 : ¬t.val % 8 = 0) (h1 : 1 ≤ t.val) (hp : t.val - 1 < cfg0.N) : outsAt0 m c t.val t.isLt =
    (dx m c t, k0_pay3 (er m c t) (outsAt0 m c (t.val - 1) hp).2.1, k0_pay4 (dg m c t) (outsAt0 m c (t.val - 1) hp).2.2) := by
  rw [outsAt0_B m c t h0 h1 h0 h1]
  refine Prod.ext ?_ (Prod.ext ?_ ?_) <;> dsimp only
  on_goal 1 => refine (View.read_writes_eq_canon _ _ _ (fun y => cover0_B_5 (F := Ideal) (y := y) ..)).trans ?_
  on_goal 2 => refine (View.read_writes_eq_canon _ _ _ (fun y => cover0_B_6 (F := Ideal) (y := y) ..)).trans ?_
  on_goal 3 => refine (View.read_writes_eq_canon _ _ _ (fun y => cover0_B_7 (F := Ideal) (y := y) ..)).trans ?_
  all_goals
    unfold kernelRun0_B
    dsimp only
    sl_unfold_words
    rw [View.canon_unit_zero hz2]
    simp only [View.readAt_eq_ld, Memref.IsWhole.read_unread, View.ld_unit_zero (S := S512x1024) hz2, View.ld_unit_zero (S := S1x1024) hz2,
      View.ld_unit_zero (S := S1x128) hz2]

/-- Every point leaves its tile of the residual's gradient. -/
theorem out_at (t : Fin cfg0.N) : (outsAt0 m c t.val t.isLt).1 = dx m c t := by
  have hN : cfg0.N = 8 := N_0
  by_cases h : t.val = 0
  · rw [first m c t (by omega) (by omega)]
  · rw [later m c t (by omega) (by omega) (by omega)]

/-- The windows' block indices: the rows move with the point. -/
theorem index : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_5.index t 0 = t.val ∧ win0_5.index t 1 = 0) :=
  (by decide +kernel : ∀ t : Fin grid0.N, (win0_0.index t 0 = t.val ∧ win0_0.index t 1 = 0) ∧
    (win0_1.index t 0 = t.val ∧ win0_1.index t 1 = 0) ∧ (win0_2.index t 0 = t.val ∧ win0_2.index t 1 = 0) ∧
    (win0_5.index t 0 = t.val ∧ win0_5.index t 1 = 0))
theorem still : ∀ t : Fin cfg0.N, (win0_3.index t 0 = 0 ∧ win0_3.index t 1 = 0) ∧ (win0_4.index t 0 = 0 ∧ win0_4.index t 1 = 0) ∧
    (win0_6.index t 0 = 0 ∧ win0_6.index t 1 = 0) ∧ (win0_7.index t 0 = 0 ∧ win0_7.index t 1 = 0) :=
  (by decide +kernel : ∀ t : Fin grid0.N, (win0_3.index t 0 = 0 ∧ win0_3.index t 1 = 0) ∧ (win0_4.index t 0 = 0 ∧ win0_4.index t 1 = 0) ∧
    (win0_6.index t 0 = 0 ∧ win0_6.index t 1 = 0) ∧ (win0_7.index t 0 = 0 ∧ win0_7.index t 1 = 0))

theorem b0_at (t : Fin cfg0.N) (s : Fin 512) (k : Fin 1024) : b0 m c t (ix2 s k) = a0 m c (ix2 (Tiles.row N_0 t s) k) :=
  congrArg (a0 m c) (Tiles.place N_0 t s k _ (index t).1 rfl rfl)
theorem b1_at (t : Fin cfg0.N) (s : Fin 512) (k : Fin 1024) : b1 m c t (ix2 s k) = a1 m c (ix2 (Tiles.row N_0 t s) k) :=
  congrArg (a1 m c) (Tiles.place N_0 t s k _ (index t).2.1 rfl rfl)
theorem b2_at (t : Fin cfg0.N) (s : Fin 512) (k : Fin 1024) : b2 m c t (ix2 s k) = a4 m c (ix2 (Tiles.row N_0 t s) k) :=
  congrArg (a4 m c) (Tiles.place N_0 t s k _ (index t).2.2.1 rfl rfl)
theorem b3_at (t : Fin cfg0.N) (k : Fin 1024) : b3 m c t (ix2 0 k) = a2 m c (ix2 0 k) :=
  congrArg (a2 m c) (Tiles.place_one k _ (still t).1 rfl)
theorem b4_at (t : Fin cfg0.N) (k : Fin 1024) : b4 m c t (ix2 0 k) = a3 m c (ix2 0 k) :=
  congrArg (a3 m c) (Tiles.place_one k _ (still t).2.1 rfl)

/-- The kernel's arrays are the reference's: the residual's gradient tile by tile, the sums after the last tile. -/
theorem out0 : (dats m 0 c).arrAt 5 cfg0.N = val_main_v52 (F := Ideal) (a0 m c) (a1 m c) (a2 m c) (a3 m c) (a4 m c) := by
  funext (j : S4096x1024.Idx)
  obtain ⟨t, i, k, rfl⟩ := Tiles.rows N_0 j
  refine Eq.trans ?_ (ref0_at _ _ _ _ _ _ k).symm
  have e : ((cfg0.win 5).blk t).view.emb (ix2 i k) = (ix2 (Tiles.row N_0 t i) k : S4096x1024.Idx) :=
    Tiles.place N_0 t i k _ (index t).2.2.2 rfl rfl
  refine (congrArg _ e.symm).trans ((congrFun (Value.blocks5 m c t (flush0_5 t)) (ix2 i k)).trans ?_)
  rw [Value.flushed5, out_at]
  refine (dx_at _ _ _ _ _ i k).trans ?_
  simp only [line, whole, b0_at, b1_at, b2_at, b3_at, b4_at]

theorem out1 : (dats m 0 c).arrAt 6 cfg0.N = val_main_v53 (F := Ideal) (a0 m c) (a1 m c) (a2 m c) (a3 m c) (a4 m c) := by
  funext (j : S1x128.Idx)
  have hN : cfg0.N = 8 := N_0
  obtain ⟨k, rfl⟩ := Tiles.one j
  have e : ((cfg0.win 6).blk (Tiles.last N_0)).view.emb (ix2 0 k) = (ix2 0 k : S1x128.Idx) :=
    Tiles.place_one k _ (still _).2.2.1 rfl
  refine Eq.trans ?_ (ref1_at _ _ _ _ _ k).symm
  refine (congrArg _ e.symm).trans ((congrFun ((dats m 0 c).read_blk_arrAt_eq_flushed 6 (fun t t' h h' hne =>
    absurd ((Tiles.eq_last N_0 t ((flush0_6 t).mp h)).trans (Tiles.eq_last N_0 t' ((flush0_6 t').mp h')).symm) hne) cfg0.N
    (Tiles.last N_0) (Tiles.last N_0).isLt ((flush0_6 _).mpr rfl)) (ix2 0 k)).trans ?_)
  rw [Value.flushed6]
  refine Tiles.total N_0 (fun n h => (outsAt0 m c n h).2.1 (ix2 0 k))
    (fun t s => Gate.half * square (line (b0 m c t) (b1 m c t) (b3 m c t) s) (fun i => b4 m c t (ix2 0 i)) (fun i => b2 m c t (ix2 s i))) _
    (fun t h => ?_) (fun t h hp => ?_) (fun t s => by simp only [line, whole, b0_at, b1_at, b2_at, b3_at, b4_at])
  · rw [first m c t (by omega) (by omega)]
    exact loss_at ..
  · rw [later m c t (by omega) (by omega) hp]
    exact (more_loss _ _ k).trans (congrArg _ (loss_at ..))

theorem out2 : (dats m 0 c).arrAt 7 cfg0.N = val_main_v36 (F := Ideal) (a0 m c) (a1 m c) (a2 m c) (a3 m c) (a4 m c) := by
  funext (j : S1x1024.Idx)
  have hN : cfg0.N = 8 := N_0
  obtain ⟨k, rfl⟩ := Tiles.one j
  have e : ((cfg0.win 7).blk (Tiles.last N_0)).view.emb (ix2 0 k) = (ix2 0 k : S1x1024.Idx) :=
    Tiles.place_one k _ (still _).2.2.2 rfl
  refine Eq.trans ?_ (ref2_at _ _ _ _ _ k).symm
  refine (congrArg _ e.symm).trans ((congrFun ((dats m 0 c).read_blk_arrAt_eq_flushed 7 (fun t t' h h' hne =>
    absurd ((Tiles.eq_last N_0 t ((flush0_7 t).mp h)).trans (Tiles.eq_last N_0 t' ((flush0_7 t').mp h')).symm) hne) cfg0.N
    (Tiles.last N_0) (Tiles.last N_0).isLt ((flush0_7 _).mpr rfl)) (ix2 0 k)).trans ?_)
  rw [Value.flushed7]
  refine Tiles.total N_0 (fun n h => (outsAt0 m c n h).2.2 (ix2 0 k))
    (fun t s => gain (line (b0 m c t) (b1 m c t) (b3 m c t) s) (fun i => b4 m c t (ix2 0 i)) (fun i => b2 m c t (ix2 s i)) k) _
    (fun t h => ?_) (fun t h hp => ?_) (fun t s => by simp only [line, whole, b0_at, b1_at, b2_at, b3_at, b4_at])
  · rw [first m c t (by omega) (by omega)]
    exact dg_at ..
  · rw [later m c t (by omega) (by omega) hp]
    exact (more_dg _ _ k).trans (congrArg _ (dg_at ..))

/-- From equal arguments the kernel's results over the extended reals are the reference's. -/
theorem algebraic : Cert.algebraic_LossHeadIdeal_LossHeadRefIdeal := by
  intro m ρ m' ρ' _ hagree
  refine ⟨_, _, _, Cert.LossHeadIdeal.Value.run_blocks (F := Ideal) m ρ, ?_⟩
  refine (θ_run Cert.LossHeadRefIdeal.defs _ _).mono (fun r h c => ?_) (Cert.LossHeadRefIdeal.Value.run (F := Ideal) m' ρ')
  obtain ⟨h0, h1, h2, hk⟩ := h c
  obtain ⟨e0, e1, e2, e3, e4⟩ := hagree c
  refine ⟨?_, ?_, ?_, hk⟩
  · refine (h0.trans (val_main_v52_eq _ _)).trans (Eq.trans ?_ (out0 m c).symm)
    simp only [e0, e1, e2, e3, e4]
  · refine (h1.trans (val_main_v53_eq _ _ _ _ _)).trans (Eq.trans ?_ (out1 m c).symm)
    simp only [e0, e1, e2, e3, e4]
  · refine (h2.trans (val_main_v36_eq _ _ _ _ _)).trans (Eq.trans ?_ (out2 m c).symm)
    simp only [e0, e1, e2, e3, e4]

end Cert.Proof.LossHead

end
-- ==== Proof.Rows.NormF.lean ====
module

public import proofs.«01_k».proof.Defs
public import proofs.«01_k».proof.Proof.Rows.Tiles
public import proofs.«01_k».proof.Proof.Gen.NormF.Frame
public import proofs.«01_k».proof.Proof.Gen.NormFIdeal.Value
public import proofs.«01_k».proof.Proof.Gen.NormFRefIdeal.Run
public import proofs.«01_k».proof.Proof.Gen.NormFRefIdeal.Read
public import Idealize.ShloMosaic.Lib.Pipeline.ReadBack
public import Idealize.ShloMosaic.Adequacy
public import Idealize.ShloMosaic.Init

@[expose] public section

/-! The layer's first norm: each row divided by its root mean square, scaled and shifted. -/

set_option maxRecDepth 16384

noncomputable section

namespace Cert.Proof.NormF

open Cert Cert.Mm Idealize.ShloMosaic Idealize.ShloMosaic.TcCoe Idealize.SL.Sem
open Cert.NormFIdeal Cert.NormFIdeal.Gen Cert.NormFRefIdeal.Read

/-- The kernel keeps its arguments and ends with every counter at zero. -/
theorem frame_p : Cert.quiescent_NormF := fun m ρ _ => Cert.NormF.Gen.frame m ρ

/-- So does its reading over the extended reals. -/
theorem frame_pi : Cert.quiescent_NormFIdeal := fun m ρ _ => Cert.NormFIdeal.Gen.frame m ρ

/-- The reference keeps its arguments; it has no counters. -/
theorem frame_ri : Cert.quiescent_NormFRefIdeal := fun m ρ _ =>
  (θ_run Cert.NormFRefIdeal.defs _ _).mono
    (fun r h => ⟨fun c => (h c).2, sem_eq_zero_of_no_sems (by decide) r.2⟩)
    (Cert.NormFRefIdeal.Value.run (F := Ideal) m ρ)

/-- One block of the result. -/
theorem block_at (x0 : Vec Ideal S512x1024 .f32) (x1 x2 x3 : Vec Ideal S1x1024 .f32) (i : Fin 512) (k : Fin 1024) :
    out0_4 (F := Ideal) x0 x1 x2 x3 (ix2 i k) =
      Rms.mod (fun c => x0 (ix2 i c)) (fun c => x1 (ix2 0 c)) (fun c => x2 (ix2 0 c)) (fun c => x3 (ix2 0 c)) k := by
  unfold out0_4 Rms.mod Rms.unit Rms.ms
  rw [View.canon_unit_zero hz2]
  simp only [View.ld_unit_zero (S := S512x1024) hz2, View.ld_unit_zero (S := S1x1024) hz2]
  pointwise [k0_pay1]

/-- The reference at one place. -/
theorem ref_at (x0 : Vec Ideal S4096x1024 .f32) (x1 x2 x3 : Vec Ideal S1x1024 .f32) (i : Fin 4096) (k : Fin 1024) :
    val_main_v18 (F := Ideal) x0 x1 x2 x3 (ix2 i k) =
      Rms.mod (fun c => x0 (ix2 i c)) (fun c => x1 (ix2 0 c)) (fun c => x2 (ix2 0 c)) (fun c => x3 (ix2 0 c)) k := by
  unfold Rms.mod Rms.unit Rms.ms
  pointwise [val_main_v18, val_main_v17, val_main_v16, val_main_v15, val_main_v14, val_main_v13, val_main_v12, val_main_cst_2, val_main_v11,
    val_main_v10, val_main_v9, val_main_v8, val_main_v7, val_main_v6, val_main_v5, val_main_cst_1, val_main_v4, val_main_v3, val_main_cst_0,
    val_main_v2, val_main_v1, val_main_cst, val_main_v0]

variable (m : (ℓ : Loc nD τ sig) → Buf (Elt Ideal) ℓ) (c : Dev nD)

/-- The arguments: the rows, the gain, the scale, the shift. -/
abbrev a0 : Vec Ideal S4096x1024 .f32 := m ((c : Thread nD τ).loc main_arg0)
abbrev a1 : Vec Ideal S1x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)

/-- The windows' block indices: the rows move with the point. -/
theorem index : ∀ t : Fin cfg0.N, (win0_0.index t 0 = t.val ∧ win0_0.index t 1 = 0) ∧ (win0_4.index t 0 = t.val ∧ win0_4.index t 1 = 0) :=
  (by decide +kernel : ∀ t : Fin grid0.N, (win0_0.index t 0 = t.val ∧ win0_0.index t 1 = 0) ∧
    (win0_4.index t 0 = t.val ∧ win0_4.index t 1 = 0))
theorem still : ∀ t : Fin cfg0.N, (win0_1.index t 0 = 0 ∧ win0_1.index t 1 = 0) ∧ (win0_2.index t 0 = 0 ∧ win0_2.index t 1 = 0) ∧
    (win0_3.index t 0 = 0 ∧ win0_3.index t 1 = 0) :=
  (by decide +kernel : ∀ t : Fin grid0.N, (win0_1.index t 0 = 0 ∧ win0_1.index t 1 = 0) ∧
    (win0_2.index t 0 = 0 ∧ win0_2.index t 1 = 0) ∧ (win0_3.index t 0 = 0 ∧ win0_3.index t 1 = 0))

theorem b0_at (t : Fin cfg0.N) (s : Fin 512) (k : Fin 1024) : iblk m c 0 t (ix2 s k) = a0 m c (ix2 (Tiles.row N_0 t s) k) :=
  congrArg (a0 m c) (Tiles.place N_0 t s k _ (index t).1 rfl rfl)
theorem b1_at (t : Fin cfg0.N) (k : Fin 1024) : iblk m c 1 t (ix2 0 k) = a1 m c (ix2 0 k) :=
  congrArg (a1 m c) (Tiles.place_one k _ (still t).1 rfl)
theorem b2_at (t : Fin cfg0.N) (k : Fin 1024) : iblk m c 2 t (ix2 0 k) = a2 m c (ix2 0 k) :=
  congrArg (a2 m c) (Tiles.place_one k _ (still t).2.1 rfl)
theorem b3_at (t : Fin cfg0.N) (k : Fin 1024) : iblk m c 3 t (ix2 0 k) = a3 m c (ix2 0 k) :=
  congrArg (a3 m c) (Tiles.place_one k _ (still t).2.2 rfl)

/-- The kernel's array is the reference's. -/
theorem out : (dats m 0 c).arrAt 4 cfg0.N = val_main_v18 (F := Ideal) (a0 m c) (a1 m c) (a2 m c) (a3 m c) := by
  funext (j : S4096x1024.Idx)
  obtain ⟨t, i, k, rfl⟩ := Tiles.rows N_0 j
  refine Eq.trans ?_ (ref_at _ _ _ _ _ k).symm
  have e : ((cfg0.win 4).blk t).view.emb (ix2 i k) = (ix2 (Tiles.row N_0 t i) k : S4096x1024.Idx) :=
    Tiles.place N_0 t i k _ (index t).2 rfl rfl
  refine (congrArg _ e.symm).trans ((congrFun (Value.blocks4 m c t (flush0_4 t)) (ix2 i k)).trans ?_)
  rw [Value.flushed4]
  refine (block_at _ _ _ _ i k).trans ?_
  simp only [b0_at, b1_at, b2_at, b3_at]

/-- From equal arguments the kernel's result over the extended reals is the reference's. -/
theorem algebraic : Cert.algebraic_NormFIdeal_NormFRefIdeal := by
  intro m ρ m' ρ' _ hagree
  refine ⟨_, Cert.NormFIdeal.Value.run_blocks (F := Ideal) m ρ, ?_⟩
  refine (θ_run Cert.NormFRefIdeal.defs _ _).mono (fun r h c => ?_) (Cert.NormFRefIdeal.Value.run (F := Ideal) m' ρ')
  obtain ⟨h0, hk⟩ := h c
  obtain ⟨e0, e1, e2, e3⟩ := hagree c
  refine ⟨(h0.trans (val_main_v18_eq _ _ _ _)).trans (Eq.trans ?_ (out m c).symm), hk⟩
  simp only [e0, e1, e2, e3]

end Cert.Proof.NormF

end
-- ==== Proof.Rows.ResNorm.lean ====
module

public import proofs.«01_k».proof.Defs
public import proofs.«01_k».proof.Proof.Rows.Tiles
public import proofs.«01_k».proof.Proof.Gen.ResNorm.Frame
public import proofs.«01_k».proof.Proof.Gen.ResNormIdeal.Value
public import proofs.«01_k».proof.Proof.Gen.ResNormRefIdeal.Run
public import proofs.«01_k».proof.Proof.Gen.ResNormRefIdeal.Read
public import Idealize.ShloMosaic.Lib.Pipeline.ReadBack
public import Idealize.ShloMosaic.Adequacy
public import Idealize.ShloMosaic.Init

@[expose] public section

/-! Between layers: the residual with the gated output added, and the norm of that sum. -/

set_option maxRecDepth 16384

noncomputable section

namespace Cert.Proof.ResNorm

open Cert Cert.Mm Idealize.ShloMosaic Idealize.ShloMosaic.TcCoe Idealize.SL.Sem
open Cert.ResNormIdeal Cert.ResNormIdeal.Gen Cert.ResNormRefIdeal.Read

/-- The kernel keeps its arguments and ends with every counter at zero. -/
theorem frame_p : Cert.quiescent_ResNorm := fun m ρ _ => Cert.ResNorm.Gen.frame m ρ

/-- So does its reading over the extended reals. -/
theorem frame_pi : Cert.quiescent_ResNormIdeal := fun m ρ _ => Cert.ResNormIdeal.Gen.frame m ρ

/-- The reference keeps its arguments; it has no counters. -/
theorem frame_ri : Cert.quiescent_ResNormRefIdeal := fun m ρ _ =>
  (θ_run Cert.ResNormRefIdeal.defs _ _).mono
    (fun r h => ⟨fun c => (h c).2.2, sem_eq_zero_of_no_sems (by decide) r.2⟩)
    (Cert.ResNormRefIdeal.Value.run (F := Ideal) m ρ)

/-- A row of the sum. -/
def resid (x o gt : Fin 1024 → EReal) (k : Fin 1024) : EReal := x k + gt k * o k

section Tile

variable (x0 : Vec Ideal S512x1024 .f32) (x1 : Vec Ideal S512x1024 .bf16) (x2 x3 x4 x5 : Vec Ideal S1x1024 .f32)

theorem resid_at (i : Fin 512) (k : Fin 1024) : k0_pay1 (F := Ideal) x0 x1 x2 (ix2 i k) =
    resid (fun c => x0 (ix2 i c)) (fun c => x1 (ix2 i c)) (fun c => x2 (ix2 0 c)) k := by
  unfold resid
  pointwise [k0_pay1]

/-- One block of each result. -/
theorem sum_at (i : Fin 512) (k : Fin 1024) : out0_6 (F := Ideal) x0 x1 x2 x3 x4 x5 (ix2 i k) =
    resid (fun c => x0 (ix2 i c)) (fun c => x1 (ix2 i c)) (fun c => x2 (ix2 0 c)) k := by
  unfold out0_6
  rw [View.canon_unit_zero hz2]
  simp only [View.ld_unit_zero (S := S512x1024) hz2, View.ld_unit_zero (S := S1x1024) hz2]
  exact resid_at ..

theorem norm_at (i : Fin 512) (k : Fin 1024) : out0_7 (F := Ideal) x0 x1 x2 x3 x4 x5 (ix2 i k) =
    Rms.mod (resid (fun c => x0 (ix2 i c)) (fun c => x1 (ix2 i c)) (fun c => x2 (ix2 0 c)))
      (fun c => x3 (ix2 0 c)) (fun c => x4 (ix2 0 c)) (fun c => x5 (ix2 0 c)) k := by
  unfold out0_7 Rms.mod Rms.unit Rms.ms
  simp only [← resid_at]
  rw [View.canon_unit_zero hz2]
  simp only [View.ld_unit_zero (S := S512x1024) hz2, View.ld_unit_zero (S := S1x1024) hz2]
  pointwise [k0_pay2]

end Tile

section Reference

variable (x0 : Vec Ideal S4096x1024 .f32) (x1 : Vec Ideal S4096x1024 .bf16) (x2 x3 x4 x5 : Vec Ideal S1x1024 .f32)

/-- The reference at one place. -/
theorem ref0_at (i : Fin 4096) (k : Fin 1024) : val_main_v3 (F := Ideal) x0 x1 x2 (ix2 i k) =
    resid (fun c => x0 (ix2 i c)) (fun c => x1 (ix2 i c)) (fun c => x2 (ix2 0 c)) k := by
  unfold resid
  pointwise [val_main_v3, val_main_v2, val_main_v1, val_main_v0]

theorem ref1_at (i : Fin 4096) (k : Fin 1024) : val_main_v22 (F := Ideal) x0 x1 x2 x3 x4 x5 (ix2 i k) =
    Rms.mod (resid (fun c => x0 (ix2 i c)) (fun c => x1 (ix2 i c)) (fun c => x2 (ix2 0 c)))
      (fun c => x3 (ix2 0 c)) (fun c => x4 (ix2 0 c)) (fun c => x5 (ix2 0 c)) k := by
  unfold Rms.mod Rms.unit Rms.ms
  simp only [← ref0_at]
  pointwise [val_main_v22, val_main_v21, val_main_v20, val_main_v19, val_main_v18, val_main_v17, val_main_v16, val_main_cst_2, val_main_v15,
    val_main_v14, val_main_v13, val_main_v12, val_main_v11, val_main_v10, val_main_v9, val_main_cst_1, val_main_v8, val_main_v7,
    val_main_cst_0, val_main_v6, val_main_v5, val_main_cst, val_main_v4]

end Reference

variable (m : (ℓ : Loc nD τ sig) → Buf (Elt Ideal) ℓ) (c : Dev nD)

/-- The arguments: the residual, the output and its gate, and the norm's gain, scale and shift. -/
abbrev a0 : Vec Ideal S4096x1024 .f32 := m ((c : Thread nD τ).loc main_arg0)
abbrev a1 : Vec Ideal S4096x1024 .bf16 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1x1024 .f32 := m ((c : Thread nD τ).loc main_arg4)
abbrev a5 : Vec Ideal S1x1024 .f32 := m ((c : Thread nD τ).loc main_arg5)

/-- The windows' block indices: the rows move with the point. -/
theorem index : ∀ t : Fin cfg0.N, (win0_0.index t 0 = t.val ∧ win0_0.index t 1 = 0) ∧ (win0_1.index t 0 = t.val ∧ win0_1.index t 1 = 0) ∧
    (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧
    (win0_1.index t 0 = t.val ∧ win0_1.index t 1 = 0) ∧ (win0_6.index t 0 = t.val ∧ win0_6.index t 1 = 0) ∧
    (win0_7.index t 0 = t.val ∧ win0_7.index t 1 = 0))
theorem still : ∀ t : Fin cfg0.N, (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0))

theorem b0_at (t : Fin cfg0.N) (s : Fin 512) (k : Fin 1024) : iblk m c 0 t (ix2 s k) = a0 m c (ix2 (Tiles.row N_0 t s) k) :=
  congrArg (a0 m c) (Tiles.place N_0 t s k _ (index t).1 rfl rfl)
theorem b1_at (t : Fin cfg0.N) (s : Fin 512) (k : Fin 1024) : iblk m c 1 t (ix2 s k) = a1 m c (ix2 (Tiles.row N_0 t s) k) :=
  congrArg (a1 m c) (Tiles.place N_0 t s k _ (index t).2.1 rfl rfl)
theorem b2_at (t : Fin cfg0.N) (k : Fin 1024) : iblk m c 2 t (ix2 0 k) = a2 m c (ix2 0 k) :=
  congrArg (a2 m c) (Tiles.place_one k _ (still t).1 rfl)
theorem b3_at (t : Fin cfg0.N) (k : Fin 1024) : iblk m c 3 t (ix2 0 k) = a3 m c (ix2 0 k) :=
  congrArg (a3 m c) (Tiles.place_one k _ (still t).2.1 rfl)
theorem b4_at (t : Fin cfg0.N) (k : Fin 1024) : iblk m c 4 t (ix2 0 k) = a4 m c (ix2 0 k) :=
  congrArg (a4 m c) (Tiles.place_one k _ (still t).2.2.1 rfl)
theorem b5_at (t : Fin cfg0.N) (k : Fin 1024) : iblk m c 5 t (ix2 0 k) = a5 m c (ix2 0 k) :=
  congrArg (a5 m c) (Tiles.place_one k _ (still t).2.2.2 rfl)

/-- The kernel's arrays are the reference's. -/
theorem out0 : (dats m 0 c).arrAt 6 cfg0.N = val_main_v3 (F := Ideal) (a0 m c) (a1 m c) (a2 m c) := by
  funext (j : S4096x1024.Idx)
  obtain ⟨t, i, k, rfl⟩ := Tiles.rows N_0 j
  refine Eq.trans ?_ (ref0_at _ _ _ _ k).symm
  have e : ((cfg0.win 6).blk t).view.emb (ix2 i k) = (ix2 (Tiles.row N_0 t i) k : S4096x1024.Idx) :=
    Tiles.place N_0 t i k _ (index t).2.2.1 rfl rfl
  refine (congrArg _ e.symm).trans ((congrFun (Value.blocks6 m c t (flush0_6 t)) (ix2 i k)).trans ?_)
  rw [Value.flushed6]
  refine (sum_at _ _ _ _ _ _ i k).trans ?_
  simp only [b0_at, b1_at, b2_at]

theorem out1 : (dats m 0 c).arrAt 7 cfg0.N = val_main_v22 (F := Ideal) (a0 m c) (a1 m c) (a2 m c) (a3 m c) (a4 m c) (a5 m c) := by
  funext (j : S4096x1024.Idx)
  obtain ⟨t, i, k, rfl⟩ := Tiles.rows N_0 j
  refine Eq.trans ?_ (ref1_at _ _ _ _ _ _ _ k).symm
  have e : ((cfg0.win 7).blk t).view.emb (ix2 i k) = (ix2 (Tiles.row N_0 t i) k : S4096x1024.Idx) :=
    Tiles.place N_0 t i k _ (index t).2.2.2 rfl rfl
  refine (congrArg _ e.symm).trans ((congrFun (Value.blocks7 m c t (flush0_7 t)) (ix2 i k)).trans ?_)
  rw [Value.flushed7]
  refine (norm_at _ _ _ _ _ _ i k).trans ?_
  simp only [b0_at, b1_at, b2_at, b3_at, b4_at, b5_at]

/-- From equal arguments the kernel's results over the extended reals are the reference's. -/
theorem algebraic : Cert.algebraic_ResNormIdeal_ResNormRefIdeal := by
  intro m ρ m' ρ' _ hagree
  refine ⟨_, _, Cert.ResNormIdeal.Value.run_blocks (F := Ideal) m ρ, ?_⟩
  refine (θ_run Cert.ResNormRefIdeal.defs _ _).mono (fun r h c => ?_) (Cert.ResNormRefIdeal.Value.run (F := Ideal) m' ρ')
  obtain ⟨h0, h1, hk⟩ := h c
  obtain ⟨e0, e1, e2, e3, e4, e5⟩ := hagree c
  refine ⟨?_, ?_, hk⟩
  · refine (h0.trans (val_main_v3_eq _ _ _)).trans (Eq.trans ?_ (out0 m c).symm)
    simp only [e0, e1, e2]
  · refine (h1.trans (val_main_v22_eq _ _ _ _ _ _)).trans (Eq.trans ?_ (out1 m c).symm)
    simp only [e0, e1, e2, e3, e4, e5]

end Cert.Proof.ResNorm

end
-- ==== Proof.Rows.ConvAct.lean ====
module

public import proofs.«01_k».proof.Defs
public import proofs.«01_k».proof.Proof.Rows.Tiles
public import proofs.«01_k».proof.Proof.Gen.ConvAct.Frame
public import proofs.«01_k».proof.Proof.Gen.ConvActIdeal.Value
public import proofs.«01_k».proof.Proof.Gen.ConvActRefIdeal.Run
public import proofs.«01_k».proof.Proof.Gen.ConvActRefIdeal.Read
public import Idealize.ShloMosaic.Lib.Pipeline.ReadBack
public import Idealize.ShloMosaic.Adequacy
public import Idealize.ShloMosaic.Init

@[expose] public section

/-! After the convolution: each row normalised with gain and offset, times its own logistic. -/

set_option maxRecDepth 16384

noncomputable section

namespace Cert.Proof.ConvAct

open Cert Cert.Mm Idealize.ShloMosaic Idealize.ShloMosaic.TcCoe Idealize.SL.Sem
open Cert.ConvActIdeal Cert.ConvActIdeal.Gen Cert.ConvActRefIdeal.Read

/-- The kernel keeps its arguments and ends with every counter at zero. -/
theorem frame_p : Cert.quiescent_ConvAct := fun m ρ _ => Cert.ConvAct.Gen.frame m ρ

/-- So does its reading over the extended reals. -/
theorem frame_pi : Cert.quiescent_ConvActIdeal := fun m ρ _ => Cert.ConvActIdeal.Gen.frame m ρ

/-- The reference keeps its arguments; it has no counters. -/
theorem frame_ri : Cert.quiescent_ConvActRefIdeal := fun m ρ _ =>
  (θ_run Cert.ConvActRefIdeal.defs _ _).mono
    (fun r h => ⟨fun c => (h c).2, sem_eq_zero_of_no_sems (by decide) r.2⟩)
    (Cert.ConvActRefIdeal.Value.run (F := Ideal) m ρ)

/-- A row's result at one place. -/
def act (gn bt v : Fin 1024 → EReal) (k : Fin 1024) : EReal := Gate.norm gn bt v k * Ideal.logistic (Gate.norm gn bt v k)

/-- One block of the result. -/
theorem block_at (x0 : Vec Ideal S512x1024 .bf16) (x1 x2 : Vec Ideal S1x1024 .f32) (i : Fin 512) (k : Fin 1024) :
    out0_3 (F := Ideal) x0 x1 x2 (ix2 i k) = act (fun c => x1 (ix2 0 c)) (fun c => x2 (ix2 0 c)) (fun c => x0 (ix2 i c)) k := by
  unfold out0_3 act Gate.norm Gate.unit Gate.var Gate.cent Gate.mean
  rw [View.canon_unit_zero hz2]
  simp only [View.ld_unit_zero (S := S512x1024) hz2, View.ld_unit_zero (S := S1x1024) hz2]
  pointwise [k0_pay1]

/-- The reference before the logistic. -/
theorem ref_norm (x0 : Vec Ideal S4096x1024 .bf16) (x1 x2 : Vec Ideal S1x1024 .f32) (i : Fin 4096) (k : Fin 1024) :
    val_main_v22 (F := Ideal) x0 x1 x2 (ix2 i k) =
      Gate.norm (fun c => x1 (ix2 0 c)) (fun c => x2 (ix2 0 c)) (fun c => x0 (ix2 i c)) k := by
  unfold Gate.norm Gate.unit Gate.var Gate.cent Gate.mean
  pointwise [val_main_v22, val_main_v21, val_main_v20, val_main_v19, val_main_v18, val_main_v17, val_main_v16, val_main_v15, val_main_v14,
    val_main_cst_3, val_main_v13, val_main_v12, val_main_v11, val_main_v10, val_main_cst_2, val_main_v9, val_main_v8, val_main_cst_1,
    val_main_v7, val_main_v6, val_main_v5, val_main_v4, val_main_v3, val_main_cst_0, val_main_v2, val_main_v1, val_main_cst, val_main_v0]

/-- The reference at one place. -/
theorem ref_at (x0 : Vec Ideal S4096x1024 .bf16) (x1 x2 : Vec Ideal S1x1024 .f32) (i : Fin 4096) (k : Fin 1024) :
    val_main_v24 (F := Ideal) x0 x1 x2 (ix2 i k) =
      act (fun c => x1 (ix2 0 c)) (fun c => x2 (ix2 0 c)) (fun c => x0 (ix2 i c)) k := by
  unfold act
  rw [← ref_norm]
  pointwise [val_main_v24, val_main_v23, val_main_call0_v5, val_main_call0_v4, val_main_call0_cst_0, val_main_call0_v3, val_main_call0_v2,
    val_main_call0_cst, val_main_call0_v1, val_main_call0_v0]
  rfl

variable (m : (ℓ : Loc nD τ sig) → Buf (Elt Ideal) ℓ) (c : Dev nD)

/-- The arguments: the rows, the gain, the offset. -/
abbrev a0 : Vec Ideal S4096x1024 .bf16 := m ((c : Thread nD τ).loc main_arg0)
abbrev a1 : Vec Ideal S1x1024 .f32 := m ((c : Thread nD τ).loc main_arg1)
abbrev a2 : Vec Ideal S1x1024 .f32 := m ((c : Thread nD τ).loc main_arg2)

/-- The windows' block indices: the rows move with the point. -/
theorem index : ∀ t : Fin cfg0.N, (win0_0.index t 0 = t.val ∧ win0_0.index t 1 = 0) ∧ (win0_3.index t 0 = t.val ∧ win0_3.index t 1 = 0) :=
  (by decide +kernel : ∀ t : Fin grid0.N, (win0_0.index t 0 = t.val ∧ win0_0.index t 1 = 0) ∧
    (win0_3.index t 0 = t.val ∧ win0_3.index t 1 = 0))
theorem still : ∀ t : Fin cfg0.N, (win0_1.index t 0 = 0 ∧ win0_1.index t 1 = 0) ∧ (win0_2.index t 0 = 0 ∧ win0_2.index t 1 = 0) :=
  (by decide +kernel : ∀ t : Fin grid0.N, (win0_1.index t 0 = 0 ∧ win0_1.index t 1 = 0) ∧ (win0_2.index t 0 = 0 ∧ win0_2.index t 1 = 0))

theorem b0_at (t : Fin cfg0.N) (s : Fin 512) (k : Fin 1024) : iblk m c 0 t (ix2 s k) = a0 m c (ix2 (Tiles.row N_0 t s) k) :=
  congrArg (a0 m c) (Tiles.place N_0 t s k _ (index t).1 rfl rfl)
theorem b1_at (t : Fin cfg0.N) (k : Fin 1024) : iblk m c 1 t (ix2 0 k) = a1 m c (ix2 0 k) :=
  congrArg (a1 m c) (Tiles.place_one k _ (still t).1 rfl)
theorem b2_at (t : Fin cfg0.N) (k : Fin 1024) : iblk m c 2 t (ix2 0 k) = a2 m c (ix2 0 k) :=
  congrArg (a2 m c) (Tiles.place_one k _ (still t).2 rfl)

/-- The kernel's array is the reference's. -/
theorem out : (dats m 0 c).arrAt 3 cfg0.N = val_main_v24 (F := Ideal) (a0 m c) (a1 m c) (a2 m c) := by
  funext (j : S4096x1024.Idx)
  obtain ⟨t, i, k, rfl⟩ := Tiles.rows N_0 j
  refine Eq.trans ?_ (ref_at _ _ _ _ k).symm
  have e : ((cfg0.win 3).blk t).view.emb (ix2 i k) = (ix2 (Tiles.row N_0 t i) k : S4096x1024.Idx) :=
    Tiles.place N_0 t i k _ (index t).2 rfl rfl
  refine (congrArg _ e.symm).trans ((congrFun (Value.blocks3 m c t (flush0_3 t)) (ix2 i k)).trans ?_)
  rw [Value.flushed3]
  refine (block_at _ _ _ i k).trans ?_
  simp only [b0_at, b1_at, b2_at]

/-- From equal arguments the kernel's result over the extended reals is the reference's. -/
theorem algebraic : Cert.algebraic_ConvActIdeal_ConvActRefIdeal := by
  intro m ρ m' ρ' _ hagree
  refine ⟨_, Cert.ConvActIdeal.Value.run_blocks (F := Ideal) m ρ, ?_⟩
  refine (θ_run Cert.ConvActRefIdeal.defs _ _).mono (fun r h c => ?_) (Cert.ConvActRefIdeal.Value.run (F := Ideal) m' ρ')
  obtain ⟨h0, hk⟩ := h c
  obtain ⟨e0, e1, e2⟩ := hagree c
  refine ⟨(h0.trans (val_main_v24_eq _ _)).trans (Eq.trans ?_ (out m c).symm), hk⟩
  simp only [e0, e1, e2]

end Cert.Proof.ConvAct

end
-- ==== Proof.Rows.SguF.lean ====
module

public import proofs.«01_k».proof.Defs
public import proofs.«01_k».proof.Proof.Rows.Tiles
public import proofs.«01_k».proof.Proof.Gen.SguF.Frame
public import proofs.«01_k».proof.Proof.Gen.SguFIdeal.Value
public import proofs.«01_k».proof.Proof.Gen.SguFRefIdeal.Run
public import proofs.«01_k».proof.Proof.Gen.SguFRefIdeal.Read
public import Idealize.ShloMosaic.Lib.Pipeline.ReadBack
public import Idealize.ShloMosaic.Adequacy
public import Idealize.ShloMosaic.Init

@[expose] public section

/-! The forward gating: 512 rows at a point, four chunks, against the whole array. Both are read at one place in the words of
`Sgu/Spec.lean`, which states the mathematics of one chunk. -/

set_option maxRecDepth 16384

noncomputable section

namespace Cert.Proof.SguF

open Cert Cert.Mm Idealize.ShloMosaic Idealize.ShloMosaic.TcCoe Idealize.SL.Sem
open Cert.SguFIdeal Cert.SguFIdeal.Gen Cert.SguFRefIdeal.Read

/-- The kernel keeps its arguments and ends with every counter at zero. -/
theorem frame_p : Cert.quiescent_SguF := fun m ρ _ => Cert.SguF.Gen.frame m ρ

/-- So does its reading over the extended reals. -/
theorem frame_pi : Cert.quiescent_SguFIdeal := fun m ρ _ => Cert.SguFIdeal.Gen.frame m ρ

/-- The reference keeps its arguments; it has no counters. -/
theorem frame_ri : Cert.quiescent_SguFRefIdeal := fun m ρ _ =>
  (θ_run Cert.SguFRefIdeal.defs _ _).mono
    (fun r h => ⟨fun c => (h c).2, sem_eq_zero_of_no_sems (by decide) r.2⟩)
    (Cert.SguFRefIdeal.Value.run (F := Ideal) m ρ)

/-- The lower triangle's two words, compared as numbers. -/
theorem word (i : Fin 128) : (BitVec.ofNat 32 i.val).toInt = i.val := by
  rw [BitVec.toInt_eq_toNat_of_lt] <;> rw [BitVec.toNat_ofNat] <;> omega

section Tile

/-- The piece of a block at row chunk `n` and column group `g`, and the group's matrix and bias. -/
theorem slices_piece (n : Fin 4) (g : Fin 8) : S512x1024.Slices ![128 * n.val, 128 * g.val] S128x128 :=
  (by decide : ∀ (n : Fin 4) (g : Fin 8), S512x1024.Slices ![128 * n.val, 128 * g.val] S128x128) n g
theorem slices_group (g : Fin 8) : S8x128x128.Slices ![g.val, 0, 0] S1x128x128 :=
  (by decide : ∀ g : Fin 8, S8x128x128.Slices ![g.val, 0, 0] S1x128x128) g
theorem slices_bias (g : Fin 8) : S8x128.Slices ![g.val, 0] S1x128 := (by decide : ∀ g : Fin 8, S8x128.Slices ![g.val, 0] S1x128) g

def piece (n : Fin 4) (g : Fin 8) (v : FVec Ideal S512x1024 .f32) : FVec Ideal S128x128 .f32 :=
  extractStridedSlice S128x128 ![128 * n.val, 128 * g.val] v (slices_piece n g)
def masked (w : Vec Ideal S8x128x128 .f32) (g : Fin 8) : FVec Ideal S128x128 .f32 :=
  mulf (shapeCast S128x128 (extractStridedSlice S1x128x128 ![g.val, 0, 0] w (slices_group g)) shapeCasts_S1x128x128_S128x128)
    (k0_pay8 (F := Ideal))
def bias (b : Vec Ideal S8x128 .f32) (g : Fin 8) : FVec Ideal S128x128 .f32 :=
  transpose S128x128 [1, 0] (broadcastTo S128x128
    (shapeCast S1x128 (extractStridedSlice S1x128 ![g.val, 0] b (slices_bias g)) shapeCasts_S1x128_S1x128)
    broadcasts_S1x128_S128x128) transposes_S128x128_p1_0_S128x128

/-- Four chunks one below another; eight groups side by side. -/
def stack (f : Fin 4 → FVec Ideal S128x128 .f32) : FVec Ideal S512x128 .f32 :=
  concatenate S512x128 0 [⟨S128x128, f 0⟩, ⟨S128x128, f 1⟩, ⟨S128x128, f 2⟩, ⟨S128x128, f 3⟩]
    concatenates_S128x128_S128x128_S128x128_S128x128_S512x128_d0
def beside (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩, ⟨S512x128, f 5⟩,
    ⟨S512x128, f 6⟩, ⟨S512x128, f 7⟩]
    concatenates_S512x128_S512x128_S512x128_S512x128_S512x128_S512x128_S512x128_S512x128_S512x1024_d1

variable (x0 x1 : Vec Ideal S512x1024 .bf16) (x2 x3 : Vec Ideal S1x1024 .f32) (x4 : Vec Ideal S8x128x128 .f32) (x5 : Vec Ideal S8x128 .f32)

/-- The normalised gate, and the mixed gate. -/
def vln : FVec Ideal S512x1024 .f32 := k0_pay7 x2 x3 (k0_pay3 x1) (k0_pay5 x1) (k0_pay6 x1)
def mixed : FVec Ideal S512x1024 .f32 :=
  beside fun g => stack fun n => addf (matmul dot_S128x128_S128x128_S128x128_1_0_0_1_n_n none
    (truncf .bf16 (masked x4 g) bitsLt_bf16_f32) (truncf .bf16 (piece n g (vln x1 x2 x3)) bitsLt_bf16_f32)
    (constant S128x128 .f32 0x00000000#32)) (bias x5 g)

/-- What a point leaves. -/
theorem block : out0_6 (F := Ideal) x0 x1 x2 x3 x4 x5 = truncf .bf16 (mulf (k0_pay2 x0) (mixed x1 x2 x3 x4 x5)) bitsLt_bf16_f32 := by
  unfold_out out0_6
  rw [View.canon_unit_zero hz2]
  simp only [View.ld_unit_zero (S := S512x1024) hz2, View.ld_unit_zero (S := S1x1024) hz2, View.ld_unit_zero (S := S8x128) hz2,
    View.ld_unit_zero (S := S8x128x128) hz3]
  rfl

/-- The block's row of a chunk and a place in it, and the chunk. -/
def rw4 (n : Fin 4) (i : Fin 128) : Fin 512 := ⟨128 * n.val + i.val, by omega⟩
def chunk (x : Vec Ideal S512x1024 .bf16) (n : Fin 4) : Gate.Rows := fun i c => x (ix2 (rw4 n i) c)

theorem stack_at (f : Fin 4 → FVec Ideal S128x128 .f32) (n : Fin 4) (i e : Fin 128) : stack f (ix2 (rw4 n i) e) = f n (ix2 i e) := by
  have hi := i.isLt
  fin_cases n <;> pointwise [stack, rw4] <;> simp (disch := omega) only [dif_pos, dif_neg] <;>
    exact congrArg _ (congrArg (fun a => ix2 a e) (Fin.ext (by dsimp only; omega)))

theorem beside_at (f : Fin 8 → FVec Ideal S512x128 .f32) (r : Fin 512) (g : Fin 8) (e : Fin 128) :
    beside f (ix2 r (Gate.col g e)) = f g (ix2 r e) := by
  have he := e.isLt
  fin_cases g <;> pointwise [beside, Gate.col] <;> simp (disch := omega) only [dif_pos, dif_neg] <;>
    exact congrArg _ (congrArg _ (Fin.ext (by dsimp only; omega)))

theorem piece_at (n : Fin 4) (g : Fin 8) (v : FVec Ideal S512x1024 .f32) (i e : Fin 128) :
    piece n g v (ix2 i e) = v (ix2 (rw4 n i) (Gate.col g e)) := by
  pointwise [piece, rw4, Gate.col]

theorem tri_at (i s : Fin 128) : k0_pay8 (F := Ideal) (ix2 i s) = Gate.tri i s := by
  pointwise [k0_pay8]
  unfold Gate.tri
  by_cases h : s.val ≤ i.val
  · simp [IntOp.cmpi, BitVec.sle, word, h]
    exact congrArg (fun k : ℤ => ((k : ℝ) : EReal)) (by decide : (1#32).toInt = 1) |>.trans (by simp)
  · simp [IntOp.cmpi, BitVec.sle, word, h]
    exact congrArg (fun k : ℤ => ((k : ℝ) : EReal)) (by decide : (0#32).toInt = 0) |>.trans (by simp)

theorem masked_at (g : Fin 8) (i s : Fin 128) : masked x4 g (ix2 i s) = x4 (ix3 g i s) * Gate.tri i s := by
  pointwise [masked, tri_at]

theorem bias_at (g : Fin 8) (i s : Fin 128) : bias x5 g (ix2 i s) = x5 (ix2 g i) := by
  pointwise [bias]

theorem pre_at (n : Fin 4) (i : Fin 128) (c : Fin 1024) : k0_pay3 x1 (ix2 (rw4 n i) c) = Gate.pre (chunk x1 n) i c := by
  pointwise [k0_pay3, Gate.pre, Gate.gelu, chunk]
  rfl

theorem vln_at (n : Fin 4) (i : Fin 128) (c : Fin 1024) :
    vln x1 x2 x3 (ix2 (rw4 n i) c) = Gate.vln (chunk x1 n) (Gate.par x2) (Gate.par x3) i c := by
  unfold Gate.vln Gate.norm Gate.unit Gate.var Gate.cent Gate.mean Gate.par
  simp only [← pre_at]
  pointwise [vln, k0_pay7, k0_pay6, k0_pay5, k0_pay4]

theorem mixed_at (n : Fin 4) (i : Fin 128) (c : Fin 1024) : mixed x1 x2 x3 x4 x5 (ix2 (rw4 n i) c) =
    Gate.mixed (chunk x1 n) (Gate.par x2) (Gate.par x3) (Gate.mats x4) (Gate.biases x5) i c := by
  rw [mixed]
  conv_lhs => rw [← Gate.col_grp_lane c]
  rw [beside_at, stack_at]
  pointwise [bias_at, masked_at, piece_at, vln_at, Gate.col_grp_lane]
  rfl

theorem block_at (n : Fin 4) (i : Fin 128) (c : Fin 1024) : out0_6 (F := Ideal) x0 x1 x2 x3 x4 x5 (ix2 (rw4 n i) c) =
    Gate.gelu (chunk x0 n i c) * Gate.mixed (chunk x1 n) (Gate.par x2) (Gate.par x3) (Gate.mats x4) (Gate.biases x5) i c := by
  rw [block, ← mixed_at]
  pointwise [k0_pay2, Gate.gelu, chunk]
  rfl

end Tile

section Reference

variable (x0 : Vec Ideal S4096x8192 .bf16) (x1 x2 : Vec Ideal S1x1024 .f32) (x3 : Vec Ideal S8x128x128 .f32) (x4 : Vec Ideal S8x128 .f32)
  (N : Fin 32) (i : Fin 128) (c : Fin 1024)

theorem erfc_at (x : EReal) : FloatOps.hostUnary (F := Ideal) .erfc (φ := .f32) (-x * Gate.isq) = 1 + Ideal.erf (x * Gate.isq) := by
  rw [Ideal.hostUnary_erfc_def, neg_mul, Ideal.erfc_neg]

/-- The two gates. -/
theorem v9_at : val_main_v9 (F := Ideal) x0 (ix3 0 (Gate.row N i) c) = Gate.gelu (Gate.zuOf x0 N i c) := by
  unfold Gate.gelu
  rw [← erfc_at]
  pointwise [val_main_v9, val_main_v8, val_main_v7, val_main_v6, val_main_cst_0, val_main_v5, val_main_v4, val_main_v3, val_main_cst,
    val_main_v2, val_main_v1, val_main_v0, Gate.zuOf]

theorem v18_at : val_main_v18 (F := Ideal) x0 (ix3 0 (Gate.row N i) c) = Gate.pre (Gate.zvOf x0 N) i c := by
  unfold Gate.pre Gate.gelu
  rw [← erfc_at]
  pointwise [val_main_v18, val_main_v17, val_main_v16, val_main_v15, val_main_cst_2, val_main_v14, val_main_v13, val_main_v12, val_main_cst_1,
    val_main_v11, val_main_v10, val_main_v0, Gate.zvOf]

/-- The normalised gate. -/
theorem v42_at : val_main_v42 (F := Ideal) x0 x1 x2 (ix3 0 (Gate.row N i) c) =
    Gate.vln (Gate.zvOf x0 N) (Gate.par x1) (Gate.par x2) i c := by
  unfold Gate.vln Gate.norm Gate.unit Gate.var Gate.cent Gate.mean Gate.par
  simp only [← v18_at]
  pointwise [val_main_v42, val_main_v41, val_main_v40, val_main_v39, val_main_v38, val_main_v37, val_main_v36, val_main_v35, val_main_v34,
    val_main_v33, val_main_v32, val_main_cst_7, val_main_v31, val_main_v30, val_main_v29, val_main_v28, val_main_cst_6, val_main_v27,
    val_main_v26, val_main_cst_5, val_main_v25, val_main_v24, val_main_v23, val_main_v22, val_main_v21, val_main_cst_4, val_main_v20,
    val_main_v19, val_main_cst_3]

/-- The row of a chunk and a place, and the column of a group and a place, as the flat position of all four, and taken apart again. -/
theorem place (g : Fin 8) (e : Fin 128) (a : Fin 4096) (b : Fin 1024) (ha : a.val = N.val * 128 + i.val) (hb : b.val = g.val * 128 + e.val) :
    (ix3 0 a b : Cert.SguFRefIdeal.S1x4096x1024.Idx) = ix3 0 (Gate.row N i) (Gate.col g e) := by
  obtain rfl : a = Gate.row N i := Fin.ext (by rw [ha, mul_comm]; rfl)
  obtain rfl : b = Gate.col g e := Fin.ext (by rw [hb, mul_comm]; rfl)
  rfl

theorem place' {h1 h2 h3 h4} : (ix5 0 ⟨(Gate.row N i).val / 128, h1⟩ ⟨(Gate.row N i).val % 128, h2⟩ ⟨c.val / 128, h3⟩ ⟨c.val % 128, h4⟩ :
    Cert.SguFRefIdeal.S1x32x128x8x128.Idx) = ix5 0 N i (Gate.grp c) (Gate.lane c) := by
  have e1 : (⟨(Gate.row N i).val / 128, h1⟩ : Fin 32) = N := Fin.ext (by simp only [Gate.row]; omega)
  have e2 : (⟨(Gate.row N i).val % 128, h2⟩ : Fin 128) = i := Fin.ext (by simp only [Gate.row]; omega)
  rw [e1, e2]
  rfl

theorem v43_at (g : Fin 8) (e : Fin 128) : val_main_v43 (F := Ideal) x0 x1 x2 (ix5 0 N i g e) =
    Gate.vln (Gate.zvOf x0 N) (Gate.par x1) (Gate.par x2) i (Gate.col g e) := by
  rw [← v42_at]
  pointwise [val_main_v43]
  refine congrArg _ (place N i g e _ _ ?_ ?_) <;> rfl

theorem v45_at (i s : Fin 128) : val_main_v45 (F := Ideal) (ix2 i s) = Gate.tri i s := by
  pointwise [val_main_v45, val_main_v44, val_main_cst_8, val_main_call0_v0, val_main_call0_v1, val_main_call0_v2, val_main_call0_v3,
    val_main_call0_v4, val_main_call0_v5, val_main_call0_c, val_main_call0_cst]
  unfold Gate.tri
  by_cases h : s.val ≤ i.val
  · simp [IntOp.cmpi, IntOp.addi, BitVec.sle, word, h]
    rfl
  · simp [IntOp.cmpi, IntOp.addi, BitVec.sle, word, h]
    rfl

theorem v48_at (g : Fin 8) (i s : Fin 128) : val_main_v48 (F := Ideal) x3 (ix3 g i s) = Gate.mats x3 g i s * Gate.tri i s := by
  pointwise [val_main_v48, val_main_v47, val_main_v46, v45_at, Gate.mats]

theorem v54_at (g : Fin 8) (e : Fin 128) : val_main_v54 (F := Ideal) x0 x1 x2 x3 x4 (ix5 0 N i g e) =
    Gate.mixed (Gate.zvOf x0 N) (Gate.par x1) (Gate.par x2) (Gate.mats x3) (Gate.biases x4) i (Gate.col g e) := by
  pointwise [val_main_v54, val_main_v53, val_main_v52, val_main_v51, val_main_v50, val_main_v49, v43_at, v48_at, Gate.mixed, Gate.biases]
  rw [Gate.grp_col]
  exact congrArg (· + _) (Finset.sum_congr rfl fun _ _ => mul_comm _ _)

theorem v55_at : val_main_v55 (F := Ideal) x0 x1 x2 x3 x4 (ix3 0 (Gate.row N i) c) =
    Gate.mixed (Gate.zvOf x0 N) (Gate.par x1) (Gate.par x2) (Gate.mats x3) (Gate.biases x4) i c := by
  conv_rhs => rw [← Gate.col_grp_lane c]
  rw [← v54_at]
  pointwise [val_main_v55]
  exact congrArg _ (place' N i c)

/-- The reference at one place. -/
theorem ref_at : val_main_v58 (F := Ideal) x0 x1 x2 x3 x4 (ix2 (Gate.row N i) c) = Gate.gelu (Gate.zuOf x0 N i c) *
    Gate.mixed (Gate.zvOf x0 N) (Gate.par x1) (Gate.par x2) (Gate.mats x3) (Gate.biases x4) i c := by
  pointwise [val_main_v58, val_main_v57, val_main_v56, v9_at, v55_at]

end Reference

variable (m : (ℓ : Loc nD τ sig) → Buf (Elt Ideal) ℓ) (c : Dev nD)

/-- The arguments: the input's projection, the norm's gain and offset, the matrices, the biases. -/
abbrev a0 : Vec Ideal S4096x8192 .bf16 := m ((c : Thread nD τ).loc main_arg0)
abbrev a1 : Vec Ideal S1x1024 .f32 := m ((c : Thread nD τ).loc main_arg1)
abbrev a2 : Vec Ideal S1x1024 .f32 := m ((c : Thread nD τ).loc main_arg2)
abbrev a3 : Vec Ideal S8x128x128 .f32 := m ((c : Thread nD τ).loc main_arg3)
abbrev a4 : Vec Ideal S8x128 .f32 := m ((c : Thread nD τ).loc main_arg4)

/-- The windows' block indices: the rows move with the point. -/
theorem index : ∀ t : Fin cfg0.N, (win0_0.index t 0 = t.val ∧ win0_0.index t 1 = 0) ∧ (win0_1.index t 0 = t.val ∧ win0_1.index t 1 = 1) ∧
    (win0_6.index t 0 = t.val ∧ win0_6.index t 1 = 0) :=
  (by decide +kernel : ∀ t : Fin grid0.N, (win0_0.index t 0 = t.val ∧ win0_0.index t 1 = 0) ∧
    (win0_1.index t 0 = t.val ∧ win0_1.index t 1 = 1) ∧ (win0_6.index t 0 = t.val ∧ win0_6.index t 1 = 0))
theorem still : ∀ t : Fin cfg0.N, (win0_2.index t 0 = 0 ∧ win0_2.index t 1 = 0) ∧ (win0_3.index t 0 = 0 ∧ win0_3.index t 1 = 0) ∧
    (win0_4.index t 0 = 0 ∧ win0_4.index t 1 = 0 ∧ win0_4.index t 2 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0) ∧
    (win0_4.index t 0 = 0 ∧ win0_4.index t 1 = 0 ∧ win0_4.index t 2 = 0) ∧ (win0_5.index t 0 = 0 ∧ win0_5.index t 1 = 0))

/-- The array's chunk that is chunk `n` of point `t`'s tile. -/
def which (t : Fin cfg0.N) (n : Fin 4) : Fin 32 := ⟨4 * t.val + n.val, by have : cfg0.N = 8 := N_0; omega⟩

theorem row_eq (t : Fin cfg0.N) (n : Fin 4) (i : Fin 128) : Tiles.row N_0 t (rw4 n i) = Gate.row (which t n) i :=
  Fin.ext (by show 512 * t.val + (128 * n.val + i.val) = 128 * (4 * t.val + n.val) + i.val; omega)

theorem b0_at (t : Fin cfg0.N) (n : Fin 4) : chunk (iblk m c 0 t) n = Gate.zuOf (a0 m c) (which t n) := by
  funext i k
  refine congrArg (a0 m c) (Shape.idx_ext₂ ?_ ?_)
  · show win0_0.index t 0 * 512 + 1 * (128 * n.val + i.val) = 128 * (4 * t.val + n.val) + i.val
    rw [(index t).1.1]; omega
  · show win0_0.index t 1 * 1024 + 1 * k.val = k.val
    rw [(index t).1.2]; omega

theorem b1_at (t : Fin cfg0.N) (n : Fin 4) : chunk (iblk m c 1 t) n = Gate.zvOf (a0 m c) (which t n) := by
  funext i k
  refine congrArg (a0 m c) (Shape.idx_ext₂ ?_ ?_)
  · show win0_1.index t 0 * 512 + 1 * (128 * n.val + i.val) = 128 * (4 * t.val + n.val) + i.val
    rw [(index t).2.1.1]; omega
  · show win0_1.index t 1 * 1024 + 1 * k.val = 1024 + k.val
    rw [(index t).2.1.2]; omega

theorem b2_at (t : Fin cfg0.N) : Gate.par (iblk m c 2 t) = Gate.par (a1 m c) :=
  funext fun k => congrArg (a1 m c) (Tiles.place_one k _ (still t).1 rfl)
theorem b3_at (t : Fin cfg0.N) : Gate.par (iblk m c 3 t) = Gate.par (a2 m c) :=
  funext fun k => congrArg (a2 m c) (Tiles.place_one k _ (still t).2.1 rfl)

theorem b4_at (t : Fin cfg0.N) : Gate.mats (iblk m c 4 t) = Gate.mats (a3 m c) := by
  funext g i s
  refine congrArg (a3 m c) (funext fun a => ?_)
  fin_cases a
  · refine Fin.ext ?_
    show win0_4.index t 0 * 8 + 1 * g.val = g.val
    rw [(still t).2.2.1.1]; omega
  · refine Fin.ext ?_
    show win0_4.index t 1 * 128 + 1 * i.val = i.val
    rw [(still t).2.2.1.2.1]; omega
  · refine Fin.ext ?_
    show win0_4.index t 2 * 128 + 1 * s.val = s.val
    rw [(still t).2.2.1.2.2]; omega

theorem b5_at (t : Fin cfg0.N) : Gate.biases (iblk m c 5 t) = Gate.biases (a4 m c) := by
  funext g i
  refine congrArg (a4 m c) (Shape.idx_ext₂ ?_ ?_)
  · show win0_5.index t 0 * 8 + 1 * g.val = g.val
    rw [(still t).2.2.2.1]; omega
  · show win0_5.index t 1 * 128 + 1 * i.val = i.val
    rw [(still t).2.2.2.2]; omega

/-- The kernel's array is the reference's. -/
theorem out : (dats m 0 c).arrAt 6 cfg0.N = val_main_v58 (F := Ideal) (a0 m c) (a1 m c) (a2 m c) (a3 m c) (a4 m c) := by
  funext (j : S4096x1024.Idx)
  obtain ⟨t, r, k, rfl⟩ := Tiles.rows N_0 j
  obtain ⟨n, i, rfl⟩ : ∃ n i, r = rw4 n i := ⟨⟨r.val / 128, by omega⟩, ⟨r.val % 128, by omega⟩, Fin.ext (by simp only [rw4]; omega)⟩
  have e : ((cfg0.win 6).blk t).view.emb (ix2 (rw4 n i) k) = (ix2 (Tiles.row N_0 t (rw4 n i)) k : S4096x1024.Idx) :=
    Tiles.place N_0 t (rw4 n i) k _ (index t).2.2 rfl rfl
  refine Eq.trans ?_ ((congrArg (fun r => val_main_v58 (F := Ideal) _ _ _ _ _ (ix2 r k)) (row_eq t n i)).trans (ref_at _ _ _ _ _ _ i k)).symm
  refine (congrArg _ e.symm).trans ((congrFun (Value.blocks6 m c t (flush0_6 t)) (ix2 (rw4 n i) k)).trans ?_)
  rw [Value.flushed6]
  refine (block_at _ _ _ _ _ _ n i k).trans ?_
  rw [b0_at, b1_at, b2_at, b3_at, b4_at, b5_at]

/-- From equal arguments the kernel's result over the extended reals is the reference's. -/
theorem algebraic : Cert.algebraic_SguFIdeal_SguFRefIdeal := by
  intro m ρ m' ρ' _ hagree
  refine ⟨_, Cert.SguFIdeal.Value.run_blocks (F := Ideal) m ρ, ?_⟩
  refine (θ_run Cert.SguFRefIdeal.defs _ _).mono (fun r h c => ?_) (Cert.SguFRefIdeal.Value.run (F := Ideal) m' ρ')
  obtain ⟨h0, hk⟩ := h c
  obtain ⟨e0, e1, e2, e3, e4⟩ := hagree c
  refine ⟨(h0.trans (val_main_v58_eq _ _)).trans (Eq.trans ?_ (out m c).symm), hk⟩
  simp only [e0, e1, e2, e3, e4]

end Cert.Proof.SguF

end
-- ==== Proof.Rows.Slabs.lean ====
module

public import proofs.«01_k».proof.Proof.Mm.Common
public import Idealize.ShloMosaic.Init

@[expose] public section

/-! Arrays of two slabs, one per layer, taken one slab at a time. -/

noncomputable section

namespace Cert.Slabs

open Cert Cert.Mm Idealize.ShloMosaic

variable {n r w : ℕ} (hn : n = 2)

/-- The slab of a point. -/
def slab (t : Fin n) : Fin 2 := ⟨t.val, by omega⟩

/-- A place of the array, given by block index and place in the block. -/
theorem place (t : Fin n) (s : Fin r) (k : Fin w) (p : (⟨3, ![2, r, w]⟩ : Shape).Idx) {a b c : ℕ} (ha : a = t.val ∧ b = 0 ∧ c = 0)
    (h0 : (p 0).val = a * 1 + 1 * 0) (h1 : (p 1).val = b * r + 1 * s.val) (h2 : (p 2).val = c * w + 1 * k.val) : p = ix3 (slab hn t) s k := by
  obtain ⟨rfl, rfl, rfl⟩ := ha
  funext a
  fin_cases a
  · exact Fin.ext (h0.trans (by show _ = t.val; omega))
  · exact Fin.ext (h1.trans (by show _ = s.val; omega))
  · exact Fin.ext (h2.trans (by show _ = k.val; omega))

/-- Every place of the array lies in some point's slab. -/
theorem slabs (j : (⟨3, ![2, r, w]⟩ : Shape).Idx) : ∃ (t : Fin n) (s : Fin r) (k : Fin w), j = ix3 (slab hn t) s k := by
  have hj : (j 0).val < 2 := (j 0).isLt
  exact ⟨⟨(j 0).val, by omega⟩, j 1, j 2, by funext a; fin_cases a <;> rfl⟩

end Cert.Slabs

end
-- ==== Proof.Rows.AdaB.lean ====
module

public import proofs.«01_k».proof.Defs
public import proofs.«01_k».proof.Proof.Rows.Slabs
public import proofs.«01_k».proof.Proof.Gen.AdaB.Frame
public import proofs.«01_k».proof.Proof.Gen.AdaBIdeal.Value
public import proofs.«01_k».proof.Proof.Gen.AdaBRefIdeal.Run
public import proofs.«01_k».proof.Proof.Gen.AdaBRefIdeal.Read
public import Idealize.ShloMosaic.Lib.Pipeline.ReadBack
public import Idealize.ShloMosaic.Adequacy
public import Idealize.ShloMosaic.Init

@[expose] public section

/-! The gradient of the modulation's matrices: the condition times its own logistic, transposed, times the cotangent. -/

set_option maxRecDepth 16384

noncomputable section

namespace Cert.Proof.AdaB

open Cert Cert.Mm Idealize.ShloMosaic Idealize.ShloMosaic.TcCoe Idealize.SL.Sem
open Cert.AdaBIdeal Cert.AdaBIdeal.Gen Cert.AdaBRefIdeal.Read

/-- The kernel keeps its arguments and ends with every counter at zero. -/
theorem frame_p : Cert.quiescent_AdaB := fun m ρ _ => Cert.AdaB.Gen.frame m ρ

/-- So does its reading over the extended reals. -/
theorem frame_pi : Cert.quiescent_AdaBIdeal := fun m ρ _ => Cert.AdaBIdeal.Gen.frame m ρ

/-- The reference keeps its arguments; it has no counters. -/
theorem frame_ri : Cert.quiescent_AdaBRefIdeal := fun m ρ _ =>
  (θ_run Cert.AdaBRefIdeal.defs _ _).mono
    (fun r h => ⟨fun c => (h c).2, sem_eq_zero_of_no_sems (by decide) r.2⟩)
    (Cert.AdaBRefIdeal.Value.run (F := Ideal) m ρ)

/-- One place of a matrix's gradient. -/
def grad (x d : Fin 128 → EReal) : EReal := ∑ s, x s * Ideal.logistic (x s) * d s

/-- One block of the result. -/
theorem block_at (x0 : Vec Ideal S128x1024 .f32) (x1 : Vec Ideal S1x128x1536 .f32) (i : Fin 1024) (k : Fin 1536) :
    out0_2 (F := Ideal) x0 x1 (ix3 0 i k) = grad (fun s => x0 (ix2 s i)) (fun s => x1 (ix3 0 s k)) := by
  unfold out0_2 grad
  rw [View.canon_unit_zero hz3, View.ld_unit_zero (S := S128x1024) hz2, View.ld_unit_zero (S := S1x128x1536) hz3]
  pointwise [k0_pay1]

/-- The reference's condition. -/
theorem act_at (x0 : Vec Ideal S128x1024 .f32) (s : Fin 128) (i : Fin 1024) :
    val_main_v1 (F := Ideal) x0 (ix2 s i) = x0 (ix2 s i) * Ideal.logistic (x0 (ix2 s i)) := by
  pointwise [val_main_v1, val_main_call0_v5, val_main_call0_v4, val_main_call0_cst_0, val_main_call0_v3, val_main_call0_v2,
    val_main_call0_cst, val_main_call0_v1, val_main_call0_v0]
  rfl

/-- The reference at one place. -/
theorem ref_at (x0 : Vec Ideal S128x1024 .f32) (x1 : Vec Ideal S2x128x1536 .f32) (l : Fin 2) (i : Fin 1024) (k : Fin 1536) :
    val_main_v6 (F := Ideal) x0 x1 (ix3 l i k) = grad (fun s => x0 (ix2 s i)) (fun s => x1 (ix3 l s k)) := by
  unfold grad
  pointwise [val_main_v6, val_main_v5, val_main_v4]
  refine Finset.sum_congr rfl fun s _ => (mul_comm _ _).trans ?_
  rw [act_at]

variable (m : (ℓ : Loc nD τ sig) → Buf (Elt Ideal) ℓ) (c : Dev nD)

/-- The arguments: the condition, the cotangents. -/
abbrev a0 : Vec Ideal S128x1024 .f32 := m ((c : Thread nD τ).loc main_arg0)
abbrev a1 : Vec Ideal S2x128x1536 .f32 := m ((c : Thread nD τ).loc main_arg1)

/-- The windows' block indices: the slab moves with the point. -/
theorem index : ∀ t : Fin cfg0.N, (∀ a, win0_0.index t a = 0) ∧
    (win0_1.index t 0 = t.val ∧ win0_1.index t 1 = 0 ∧ win0_1.index t 2 = 0) ∧
    (win0_2.index t 0 = t.val ∧ win0_2.index t 1 = 0 ∧ win0_2.index t 2 = 0) :=
  (by decide +kernel : ∀ t : Fin grid0.N, (∀ a, win0_0.index t a = 0) ∧
    (win0_1.index t 0 = t.val ∧ win0_1.index t 1 = 0 ∧ win0_1.index t 2 = 0) ∧
    (win0_2.index t 0 = t.val ∧ win0_2.index t 1 = 0 ∧ win0_2.index t 2 = 0))

theorem b0_eq (t : Fin cfg0.N) : iblk m c 0 t = a0 m c := by
  funext y
  refine congrArg (a0 m c) (funext fun a => Fin.ext ?_)
  show win0_0.index t a * _ + 1 * (y a).val = (y a).val
  rw [(index t).1 a]; omega
theorem b1_at (t : Fin cfg0.N) (s : Fin 128) (k : Fin 1536) : iblk m c 1 t (ix3 0 s k) = a1 m c (ix3 (Slabs.slab N_0 t) s k) :=
  congrArg (a1 m c) (Slabs.place N_0 t s k _ (index t).2.1 rfl rfl rfl)

/-- The kernel's array is the reference's. -/
theorem out : (dats m 0 c).arrAt 2 cfg0.N = val_main_v6 (F := Ideal) (a0 m c) (a1 m c) := by
  funext (j : S2x1024x1536.Idx)
  obtain ⟨t, i, k, rfl⟩ := Slabs.slabs N_0 j
  refine Eq.trans ?_ (ref_at _ _ _ i k).symm
  have e : ((cfg0.win 2).blk t).view.emb (ix3 0 i k) = (ix3 (Slabs.slab N_0 t) i k : S2x1024x1536.Idx) :=
    Slabs.place N_0 t i k _ (index t).2.2 rfl rfl rfl
  refine (congrArg _ e.symm).trans ((congrFun (Value.blocks2 m c t (flush0_2 t)) (ix3 0 i k)).trans ?_)
  rw [Value.flushed2]
  refine (block_at _ _ i k).trans ?_
  simp only [b0_eq, b1_at]

/-- From equal arguments the kernel's result over the extended reals is the reference's. -/
theorem algebraic : Cert.algebraic_AdaBIdeal_AdaBRefIdeal := by
  intro m ρ m' ρ' _ hagree
  refine ⟨_, Cert.AdaBIdeal.Value.run_blocks (F := Ideal) m ρ, ?_⟩
  refine (θ_run Cert.AdaBRefIdeal.defs _ _).mono (fun r h c => ?_) (Cert.AdaBRefIdeal.Value.run (F := Ideal) m' ρ')
  obtain ⟨h0, hk⟩ := h c
  obtain ⟨e0, e1⟩ := hagree c
  refine ⟨(h0.trans (val_main_v6_eq _ _)).trans (Eq.trans ?_ (out m c).symm), hk⟩
  simp only [e0, e1]

end Cert.Proof.AdaB

end
-- ==== Proof.Rows.AdaF.lean ====
module

public import proofs.«01_k».proof.Defs
public import proofs.«01_k».proof.Proof.Rows.Slabs
public import proofs.«01_k».proof.Proof.Gen.AdaF.Frame
public import proofs.«01_k».proof.Proof.Gen.AdaFIdeal.Value
public import proofs.«01_k».proof.Proof.Gen.AdaFRefIdeal.Run
public import proofs.«01_k».proof.Proof.Gen.AdaFRefIdeal.Read
public import Idealize.ShloMosaic.Lib.Pipeline.ReadBack
public import Idealize.ShloMosaic.Adequacy
public import Idealize.ShloMosaic.Init

@[expose] public section

/-! The modulation of both layers: the condition times its own logistic, times a matrix, plus a bias. -/

set_option maxRecDepth 16384

noncomputable section

namespace Cert.Proof.AdaF

open Cert Cert.Mm Idealize.ShloMosaic Idealize.ShloMosaic.TcCoe Idealize.SL.Sem
open Cert.AdaFIdeal Cert.AdaFIdeal.Gen Cert.AdaFRefIdeal.Read

/-- The kernel keeps its arguments and ends with every counter at zero. -/
theorem frame_p : Cert.quiescent_AdaF := fun m ρ _ => Cert.AdaF.Gen.frame m ρ

/-- So does its reading over the extended reals. -/
theorem frame_pi : Cert.quiescent_AdaFIdeal := fun m ρ _ => Cert.AdaFIdeal.Gen.frame m ρ

/-- The reference keeps its arguments; it has no counters. -/
theorem frame_ri : Cert.quiescent_AdaFRefIdeal := fun m ρ _ =>
  (θ_run Cert.AdaFRefIdeal.defs _ _).mono
    (fun r h => ⟨fun c => (h c).2, sem_eq_zero_of_no_sems (by decide) r.2⟩)
    (Cert.AdaFRefIdeal.Value.run (F := Ideal) m ρ)

/-- One place of a layer's modulation. -/
def mods (x : Fin 1024 → EReal) (w : Fin 1024 → EReal) (b : EReal) : EReal := ∑ s, x s * Ideal.logistic (x s) * w s + b

/-- One block of the result. -/
theorem block_at (x0 : Vec Ideal S16x1024 .f32) (x1 : Vec Ideal S1x1024x1536 .f32) (x2 : Vec Ideal S1x1x1536 .f32) (i : Fin 16) (k : Fin 1536) :
    out0_3 (F := Ideal) x0 x1 x2 (ix3 0 i k) = mods (fun s => x0 (ix2 i s)) (fun s => x1 (ix3 0 s k)) (x2 (ix3 0 0 k)) := by
  unfold out0_3 mods
  rw [View.canon_unit_zero hz3, View.ld_unit_zero (S := S16x1024) hz2, View.ld_unit_zero (S := S1x1024x1536) hz3,
    View.ld_unit_zero (S := S1x1x1536) hz3]
  pointwise [k0_pay1]

/-- The reference's condition. -/
theorem act_at (x0 : Vec Ideal S16x1024 .f32) (i : Fin 16) (s : Fin 1024) :
    val_main_v0 (F := Ideal) x0 (ix2 i s) = x0 (ix2 i s) * Ideal.logistic (x0 (ix2 i s)) := by
  pointwise [val_main_v0, val_main_call0_v5, val_main_call0_v4, val_main_call0_cst_0, val_main_call0_v3, val_main_call0_v2,
    val_main_call0_cst, val_main_call0_v1, val_main_call0_v0]
  rfl

/-- The reference at one place. -/
theorem ref_at (x0 : Vec Ideal S16x1024 .f32) (x1 : Vec Ideal S2x1024x1536 .f32) (x2 : Vec Ideal S2x1x1536 .f32) (l : Fin 2) (i : Fin 16)
    (k : Fin 1536) : val_main_v4 (F := Ideal) x0 x1 x2 (ix3 l i k) =
      mods (fun s => x0 (ix2 i s)) (fun s => x1 (ix3 l s k)) (x2 (ix3 l 0 k)) := by
  unfold mods
  pointwise [val_main_v4, val_main_v3, val_main_v2, val_main_v1]
  simp only [act_at]

variable (m : (ℓ : Loc nD τ sig) → Buf (Elt Ideal) ℓ) (c : Dev nD)

/-- The arguments: the condition, the matrices, the biases. -/
abbrev a0 : Vec Ideal S16x1024 .f32 := m ((c : Thread nD τ).loc main_arg0)
abbrev a1 : Vec Ideal S2x1024x1536 .f32 := m ((c : Thread nD τ).loc main_arg1)
abbrev a2 : Vec Ideal S2x1x1536 .f32 := m ((c : Thread nD τ).loc main_arg2)

/-- The windows' block indices: the slab moves with the point. -/
theorem index : ∀ t : Fin cfg0.N, (∀ a, win0_0.index t a = 0) ∧
    (win0_1.index t 0 = t.val ∧ win0_1.index t 1 = 0 ∧ win0_1.index t 2 = 0) ∧
    (win0_2.index t 0 = t.val ∧ win0_2.index t 1 = 0 ∧ win0_2.index t 2 = 0) ∧
    (win0_3.index t 0 = t.val ∧ win0_3.index t 1 = 0 ∧ win0_3.index t 2 = 0) :=
  (by decide +kernel : ∀ t : Fin grid0.N, (∀ a, win0_0.index t a = 0) ∧
    (win0_1.index t 0 = t.val ∧ win0_1.index t 1 = 0 ∧ win0_1.index t 2 = 0) ∧
    (win0_2.index t 0 = t.val ∧ win0_2.index t 1 = 0 ∧ win0_2.index t 2 = 0) ∧
    (win0_3.index t 0 = t.val ∧ win0_3.index t 1 = 0 ∧ win0_3.index t 2 = 0))

theorem b0_eq (t : Fin cfg0.N) : iblk m c 0 t = a0 m c := by
  funext y
  refine congrArg (a0 m c) (funext fun a => Fin.ext ?_)
  show win0_0.index t a * _ + 1 * (y a).val = (y a).val
  rw [(index t).1 a]; omega
theorem b1_at (t : Fin cfg0.N) (s : Fin 1024) (k : Fin 1536) : iblk m c 1 t (ix3 0 s k) = a1 m c (ix3 (Slabs.slab N_0 t) s k) :=
  congrArg (a1 m c) (Slabs.place N_0 t s k _ (index t).2.1 rfl rfl rfl)
theorem b2_at (t : Fin cfg0.N) (k : Fin 1536) : iblk m c 2 t (ix3 0 0 k) = a2 m c (ix3 (Slabs.slab N_0 t) 0 k) :=
  congrArg (a2 m c) (Slabs.place N_0 t 0 k _ (index t).2.2.1 rfl rfl rfl)

/-- The kernel's array is the reference's. -/
theorem out : (dats m 0 c).arrAt 3 cfg0.N = val_main_v4 (F := Ideal) (a0 m c) (a1 m c) (a2 m c) := by
  funext (j : S2x16x1536.Idx)
  obtain ⟨t, i, k, rfl⟩ := Slabs.slabs N_0 j
  refine Eq.trans ?_ (ref_at _ _ _ _ i k).symm
  have e : ((cfg0.win 3).blk t).view.emb (ix3 0 i k) = (ix3 (Slabs.slab N_0 t) i k : S2x16x1536.Idx) :=
    Slabs.place N_0 t i k _ (index t).2.2.2 rfl rfl rfl
  refine (congrArg _ e.symm).trans ((congrFun (Value.blocks3 m c t (flush0_3 t)) (ix3 0 i k)).trans ?_)
  rw [Value.flushed3]
  refine (block_at _ _ _ i k).trans ?_
  simp only [b0_eq, b1_at, b2_at]

/-- From equal arguments the kernel's result over the extended reals is the reference's. -/
theorem algebraic : Cert.algebraic_AdaFIdeal_AdaFRefIdeal := by
  intro m ρ m' ρ' _ hagree
  refine ⟨_, Cert.AdaFIdeal.Value.run_blocks (F := Ideal) m ρ, ?_⟩
  refine (θ_run Cert.AdaFRefIdeal.defs _ _).mono (fun r h c => ?_) (Cert.AdaFRefIdeal.Value.run (F := Ideal) m' ρ')
  obtain ⟨h0, hk⟩ := h c
  obtain ⟨e0, e1, e2⟩ := hagree c
  refine ⟨(h0.trans (val_main_v4_eq _ _ _)).trans (Eq.trans ?_ (out m c).symm), hk⟩
  simp only [e0, e1, e2]

end Cert.Proof.AdaF

end
-- ==== Proof.Rows.Windows.lean ====
module

public import proofs.«01_k».proof.Proof.Mm.Common
public import proofs.«01_k».proof.Proof.Rows.Groups
public import Idealize.ShloMosaic.Init

@[expose] public section

/-! Sums of a column of 4096 numbers over windows of 2, 4, 8 or 16 places, and how doubling builds them. -/

noncomputable section

namespace Cert.Windows

open Cert Cert.Mm Idealize.ShloMosaic

/-- A column. -/
abbrev Col := Fin 4096 → EReal

/-- The column moved towards its end, and towards its start; zeros come in. -/
def back (k : ℕ) (f : Col) : Col := fun i => if k ≤ i.val then f ⟨i.val - k, by omega⟩ else 0
def ahead (k : ℕ) (f : Col) : Col := fun i => if h : i.val + k < 4096 then f ⟨i.val + k, h⟩ else 0

/-- The sum over the `w` places that end at a place, and over those that start there. -/
def before (w : ℕ) (f : Col) : Col := fun i => ∑ s : Fin 4096, if s.val ≤ i.val ∧ i.val < s.val + w then f s else 0
def after (w : ℕ) (f : Col) : Col := fun i => ∑ s : Fin 4096, if i.val ≤ s.val ∧ s.val < i.val + w then f s else 0

theorem before_one (f : Col) : before 1 f = f := by
  funext i
  refine (Finset.sum_eq_single i (fun s _ h => if_neg fun h' => h (Fin.ext (by omega))) (fun h => absurd (Finset.mem_univ i) h)).trans ?_
  exact if_pos (by omega)

theorem after_one (f : Col) : after 1 f = f := by
  funext i
  refine (Finset.sum_eq_single i (fun s _ h => if_neg fun h' => h (Fin.ext (by omega))) (fun h => absurd (Finset.mem_univ i) h)).trans ?_
  exact if_pos (by omega)

/-- Two windows next to each other are a window of twice the width. -/
theorem before_twice (w : ℕ) (f : Col) (i : Fin 4096) : before w f i + back w (before w f) i = before (2 * w) f i := by
  have h : back w (before w f) i = ∑ s : Fin 4096, if s.val + w ≤ i.val ∧ i.val < s.val + 2 * w then f s else 0 := by
    unfold back before
    split_ifs with h
    · refine Finset.sum_congr rfl fun s _ => if_congr ?_ rfl rfl
      show s.val ≤ i.val - w ∧ i.val - w < s.val + w ↔ _
      omega
    · exact (Finset.sum_eq_zero fun s _ => if_neg (by omega)).symm
  rw [h]
  refine Finset.sum_add_distrib.symm.trans (Finset.sum_congr rfl fun s _ => ?_)
  split_ifs <;> first | omega | simp

theorem after_twice (w : ℕ) (f : Col) (i : Fin 4096) : after w f i + ahead w (after w f) i = after (2 * w) f i := by
  have h : ahead w (after w f) i = ∑ s : Fin 4096, if i.val + w ≤ s.val ∧ s.val < i.val + 2 * w then f s else 0 := by
    unfold ahead after
    split_ifs with h
    · refine Finset.sum_congr rfl fun s _ => if_congr ?_ rfl rfl
      show i.val + w ≤ s.val ∧ s.val < i.val + w + w ↔ _
      omega
    · exact (Finset.sum_eq_zero fun s _ => if_neg (by omega)).symm
  rw [h]
  refine Finset.sum_add_distrib.symm.trans (Finset.sum_congr rfl fun s _ => ?_)
  split_ifs <;> first | omega | simp

/-- The matrix of the windows. -/
def band (w : ℕ) (i s : Fin 4096) : EReal := if s.val ≤ i.val ∧ i.val < s.val + w then 1 else 0

theorem band_before (w : ℕ) (f : Col) (i : Fin 4096) : ∑ s, band w i s * f s = before w f i := by
  unfold band before
  simp only [ite_mul, one_mul, zero_mul]

theorem band_after (w : ℕ) (f : Col) (i : Fin 4096) : ∑ s, f s * band w s i = after w f i := by
  unfold band after
  simp only [mul_ite, mul_one, mul_zero]

/-- How many places the window that ends at a place has. -/
def count (w : ℕ) (i : Fin 4096) : EReal := min (((i.val + 1 : ℕ) : ℝ) : EReal) ((w : ℝ) : EReal)

/-- The width of a group's windows. -/
def width (g : Fin 4) : ℕ := 2 ^ (g.val + 1)

/-- A small number's word holds the number. -/
theorem word (i : ℕ) (h : i < 2147483648) : (BitVec.ofNat 32 i).toInt = i := by
  rw [BitVec.toInt_eq_toNat_of_lt] <;> rw [BitVec.toNat_ofNat] <;> omega

/-- The select by which a column is moved, and the doubling it makes. -/
theorem back_read (k : ℕ) (hk : k < 4096) (f : Col) (i : Fin 4096) (h : (i.val + 4096 - k) % 4096 < 4096) :
    Scalar.select (IntOp.cmpi .sge (BitVec.ofNat 32 i.val) (BitVec.ofNat 32 k)) (f ⟨(i.val + 4096 - k) % 4096, h⟩) 0 = back k f i := by
  have hi := word i.val (by omega)
  have hk' := word k (by omega)
  unfold back
  by_cases e : k ≤ i.val
  · simp [Scalar.select, IntOp.cmpi, BitVec.sle, hi, hk', e]
    exact congrArg f (Fin.ext (by show (i.val + 4096 - k) % 4096 = i.val - k; omega))
  · simp [Scalar.select, IntOp.cmpi, BitVec.sle, hi, hk', e]

theorem ahead_read (k n : ℕ) (hk : 0 < k) (hn : k + n = 4096) (f : Col) (i : Fin 4096) (h : (i.val + 4096 - n) % 4096 < 4096) :
    Scalar.select (IntOp.cmpi .slt (BitVec.ofNat 32 i.val) (BitVec.ofNat 32 n)) (f ⟨(i.val + 4096 - n) % 4096, h⟩) 0 = ahead k f i := by
  have hi := word i.val (by omega)
  have hn' := word n (by omega)
  unfold ahead
  by_cases e : i.val + k < 4096
  · have e' : i.val < n := by omega
    simp [Scalar.select, IntOp.cmpi, BitVec.slt, hi, hn', e, e']
    exact congrArg f (Fin.ext (by show (i.val + 4096 - n) % 4096 = i.val + k; omega))
  · have e' : ¬ i.val < n := by omega
    simp [Scalar.select, IntOp.cmpi, BitVec.slt, hi, hn', e, e']

theorem before_step (w : ℕ) (hw : w < 4096) (f : Col) (i : Fin 4096) (h : (i.val + 4096 - w) % 4096 < 4096) : before w f i +
    Scalar.select (IntOp.cmpi .sge (BitVec.ofNat 32 i.val) (BitVec.ofNat 32 w)) (before w f ⟨(i.val + 4096 - w) % 4096, h⟩) 0 =
      before (2 * w) f i := by
  rw [back_read w hw, before_twice]

theorem after_step (w n : ℕ) (hw : 0 < w) (hn : w + n = 4096) (f : Col) (i : Fin 4096) (h : (i.val + 4096 - n) % 4096 < 4096) : after w f i +
    Scalar.select (IntOp.cmpi .slt (BitVec.ofNat 32 i.val) (BitVec.ofNat 32 n)) (after w f ⟨(i.val + 4096 - n) % 4096, h⟩) 0 =
      after (2 * w) f i := by
  rw [ahead_read w n hw hn, after_twice]

/-- The kernel's count of a window's places, and the reference's. -/
theorem count_kernel (g : Fin 4) (i : Fin 4096) : min (FloatOps.sitofp (F := Ideal) .f32 (IntOp.addi (BitVec.ofNat 32 i.val) 1#32))
    (((Scalar.shli 2#32 (BitVec.ofNat 32 g.val)).toInt : ℝ) : EReal) = count (width g) i := by
  have h1 : IntOp.addi (BitVec.ofNat 32 i.val) 1#32 = BitVec.ofNat 32 (i.val + 1) := (BitVec.ofNat_add _ _).symm
  have h2 := (by decide : ∀ g : Fin 4, (Scalar.shli 2#32 (BitVec.ofNat 32 g.val)).toInt = (2 ^ (g.val + 1) : ℕ)) g
  rw [h1, h2]
  show min (((BitVec.ofNat 32 (i.val + 1)).toInt : ℝ) : EReal) _ = _
  rw [word _ (by omega)]
  unfold count width
  rw [Int.cast_natCast, Int.cast_natCast]

theorem count_ref (w : ℕ) (b : BitVec 32) (hb : Ideal.ofBits .f32 b = ((w : ℝ) : EReal)) (i : Fin 4096) :
    min (1 + FloatOps.sitofp (F := Ideal) .f32 (BitVec.ofNat 32 i.val)) (Ideal.ofBits .f32 b) = count w i := by
  rw [hb]
  show min (1 + (((BitVec.ofNat 32 i.val).toInt : ℝ) : EReal)) _ = _
  rw [word _ (by omega)]
  unfold count
  rw [Int.cast_natCast, Nat.cast_add, Nat.cast_one, add_comm (i.val : ℝ), EReal.coe_add, EReal.coe_one]

/-- The four widths as constants. -/
theorem width_bits : ∀ g : Fin 4, Ideal.ofBits .f32 (![0x40000000#32, 0x40800000#32, 0x41000000#32, 0x41800000#32] g) =
    ((width g : ℝ) : EReal) := by
  intro g
  fin_cases g <;> simp [width, Ideal.ofBits, Ideal.ieee] <;> rw [← EReal.coe_mul] <;> norm_num

/-- The matrix of the windows, from comparisons of the places' words. -/
theorem band_read (w : ℕ) (hw : w < 4096) (i s : Fin 4096) : FloatOps.uitofp (F := Ideal) .f32
    (IntOp.andi (IntOp.cmpi .sge (IntOp.subi (BitVec.ofNat 32 i.val) (BitVec.ofNat 32 s.val)) 0#32)
      (IntOp.cmpi .slt (IntOp.subi (BitVec.ofNat 32 i.val) (BitVec.ofNat 32 s.val)) (BitVec.ofNat 32 w))) = band w i s := by
  have hi := word i.val (by omega)
  have hs := word s.val (by omega)
  have hw' := word w (by omega)
  have hd : (IntOp.subi (BitVec.ofNat 32 i.val) (BitVec.ofNat 32 s.val)).toInt = (i.val : ℤ) - s.val := by
    show (BitVec.ofNat 32 i.val - BitVec.ofNat 32 s.val).toInt = _
    rw [BitVec.toInt_sub, hi, hs]
    exact Int.bmod_eq_of_le (by omega) (by omega)
  have h0 : (0#32).toInt = 0 := by decide
  unfold band
  by_cases e : s.val ≤ i.val <;> by_cases e' : i.val < s.val + w
  · have a : (0 : ℤ) ≤ (i.val : ℤ) - s.val := by omega
    have b : (i.val : ℤ) - s.val < w := by omega
    simp [IntOp.cmpi, IntOp.andi, BitVec.sle, BitVec.slt, hd, hw', h0, e, e', a, b]
    exact congrArg (fun k : ℕ => ((k : ℝ) : EReal)) (by decide : (1#1).toNat = 1) |>.trans (by simp)
  · have b : ¬ (i.val : ℤ) - s.val < w := by omega
    simp [IntOp.cmpi, IntOp.andi, BitVec.sle, BitVec.slt, hd, hw', h0, e, e', b]
    exact congrArg (fun k : ℕ => ((k : ℝ) : EReal)) (by decide : (0#1).toNat = 0) |>.trans (by simp)
  · have a : ¬ (0 : ℤ) ≤ (i.val : ℤ) - s.val := by omega
    simp [IntOp.cmpi, IntOp.andi, BitVec.sle, BitVec.slt, hd, hw', h0, e, e', a]
    exact congrArg (fun k : ℕ => ((k : ℝ) : EReal)) (by decide : (0#1).toNat = 0) |>.trans (by simp)
  · omega

/-- The group of a point of the grid, as the kernel computes it: half the point's number, rounded down. -/
def half (a : BitVec 32) : BitVec 32 :=
  Scalar.select (Scalar.andi (Scalar.cmpi .ne (Scalar.subi (Scalar.extui (Scalar.cmpi .sgt a 0#32) : BitVec 32) (Scalar.extui (Scalar.cmpi .slt a 0#32)))
    (Scalar.subi (Scalar.extui (Scalar.cmpi .sgt 2#32 0#32)) (Scalar.extui (Scalar.cmpi .slt 2#32 0#32))))
    (Scalar.cmpi .ne (Scalar.remsi a 2#32) 0#32)) (Scalar.subi (Scalar.divsi a 2#32) 1#32) (Scalar.divsi a 2#32)

/-- The group decides which of four windows is taken. -/
theorem pick_width (g : Fin 4) (f : ℕ → EReal) : Scalar.select (Scalar.cmpi .eq (BitVec.ofNat 32 g.val) 0#32) (f 2)
    (Scalar.select (Scalar.cmpi .eq (BitVec.ofNat 32 g.val) 1#32) (f 4) (Scalar.select (Scalar.cmpi .eq (BitVec.ofNat 32 g.val) 2#32) (f 8) (f 16))) =
      f (width g) := by
  fin_cases g <;> rfl

variable {n : ℕ} (hn : n = 8)

/-- The group of a point's columns, and where in the group column `c` of the point's block lies. -/
def grp (t : Fin n) : Fin 4 := ⟨t.val / 2, by omega⟩
def lane (t : Fin n) (c : Fin 128) : Fin 256 := ⟨128 * (t.val % 2) + c.val, by omega⟩

/-- Every column of the array lies in some point's block. -/
theorem cols {r : ℕ} (j : (⟨2, ![r, 1024]⟩ : Shape).Idx) :
    ∃ (t : Fin n) (i : Fin r) (c : Fin 128), j = ix2 i (Groups.col (grp hn t) (lane t c)) := by
  have hj : (j 1).val < 1024 := (j 1).isLt
  refine ⟨⟨(j 1).val / 128, by omega⟩, j 0, ⟨(j 1).val % 128, by omega⟩, Shape.idx_ext₂ rfl ?_⟩
  show (j 1).val = 256 * ((j 1).val / 128 / 2) + (128 * ((j 1).val / 128 % 2) + (j 1).val % 128)
  omega

/-- A place of an array, given by block index and place in the block; the blocks start at block `o`. -/
theorem place {r w : ℕ} (o : ℕ) (hw : 128 * o + 1024 ≤ w) (t : Fin n) (i : Fin r) (c : Fin 128) (p : (⟨2, ![r, w]⟩ : Shape).Idx) {a b : ℕ}
    (ha : a = 0 ∧ b = o + t.val) (h0 : (p 0).val = a * r + 1 * i.val) (h1 : (p 1).val = b * 128 + 1 * c.val) :
    p = ix2 i ⟨128 * o + (Groups.col (grp hn t) (lane t c)).val, by have := (Groups.col (grp hn t) (lane t c)).isLt; omega⟩ := by
  obtain ⟨rfl, rfl⟩ := ha
  refine Shape.idx_ext₂ (h0.trans (by show _ = i.val; omega)) (h1.trans ?_)
  show (o + t.val) * 128 + 1 * c.val = 128 * o + (256 * (t.val / 2) + (128 * (t.val % 2) + c.val))
  omega

end Cert.Windows

end
-- ==== Proof.Rows.PoolB.lean ====
module

public import proofs.«01_k».proof.Defs
public import proofs.«01_k».proof.Proof.Rows.Windows
public import proofs.«01_k».proof.Proof.Gen.PoolB.Frame
public import proofs.«01_k».proof.Proof.Gen.PoolBIdeal.Value
public import proofs.«01_k».proof.Proof.Gen.PoolBRefIdeal.Run
public import proofs.«01_k».proof.Proof.Gen.PoolBRefIdeal.Read
public import Idealize.ShloMosaic.Lib.Pipeline.ReadBack
public import Idealize.ShloMosaic.Adequacy
public import Idealize.ShloMosaic.Init

@[expose] public section

/-! The gradient of the pooling: each scaled cotangent summed over its group's window, less the cotangent, and its sums over the rows. -/

set_option maxRecDepth 400000

noncomputable section

namespace Cert.Proof.PoolB

open Cert Cert.Mm Idealize.ShloMosaic Idealize.ShloMosaic.TcCoe Idealize.SL.Sem
open Cert.Groups Cert.Windows Cert.PoolBIdeal Cert.PoolBIdeal.Gen Cert.PoolBRefIdeal.Read

/-- The kernel keeps its arguments and ends with every counter at zero. -/
theorem frame_p : Cert.quiescent_PoolB := fun m ρ _ => Cert.PoolB.Gen.frame m ρ

/-- So does its reading over the extended reals. -/
theorem frame_pi : Cert.quiescent_PoolBIdeal := fun m ρ _ => Cert.PoolBIdeal.Gen.frame m ρ

/-- The reference keeps its arguments; it has no counters. -/
theorem frame_ri : Cert.quiescent_PoolBRefIdeal := fun m ρ _ =>
  (θ_run Cert.PoolBRefIdeal.defs _ _).mono
    (fun r h => ⟨fun c => (h c).2.2, sem_eq_zero_of_no_sems (by decide) r.2⟩)
    (Cert.PoolBRefIdeal.Value.run (F := Ideal) m ρ)

section Block

variable (x : Vec Ideal S4096x128 .bf16) (c : Fin 128) (t : grid0.Coords) (g : Fin 4)

/-- A cotangent's share for each place of its window. -/
abbrev part (g : Fin 4) (f : Col) : Col := fun s => Ideal.div (f s) (count (width g) s)

variable (hg : half (BitVec.ofNat 32 (t 0).val) = BitVec.ofNat 32 g.val)
include hg

theorem pay5_at (i : Fin 4096) : k0_pay5 t x (ix2 i c) = after 2 (part g fun s => x (ix2 s c)) i := by
  have h := after_step 1 4095 (by decide) rfl (part g fun s => x (ix2 s c)) i (by omega)
  rw [after_one] at h
  refine Eq.trans ?_ h
  unfold part
  simp only [← count_kernel, ← hg]
  unfold half
  pointwise [k0_pay5, k0_pay4]

theorem pay6_at (i : Fin 4096) : k0_pay6 t x (ix2 i c) = after 4 (part g fun s => x (ix2 s c)) i := by
  pointwise [k0_pay6]
  simp only [pay5_at x c t g hg]
  exact after_step 2 4094 (by decide) rfl _ i _

omit hg

/-- The windows of eight, and of sixteen, from those of half the width. -/
def eight (v : FVec Ideal S4096x128 .f32) : FVec Ideal S4096x128 .f32 :=
  addf v (select (cmpi .slt (iota .tc S4096x128 32 [0] iota_S4096x128_d0_w32) k0_pay7)
    (dynamicRotate 0 4092#32 none v rotates_S4096x128_d0) (broadcast S4096x128 (Scalar.ofBits .f32 0x00000000#32)))
def sixteen (v : FVec Ideal S4096x128 .f32) : FVec Ideal S4096x128 .f32 :=
  addf v (select (cmpi .slt (iota .tc S4096x128 32 [0] iota_S4096x128_d0_w32) (broadcast S4096x128 4088#32))
    (dynamicRotate 0 4088#32 none v rotates_S4096x128_d0) (broadcast S4096x128 (Scalar.ofBits .f32 0x00000000#32)))

theorem pay1_eq (w : BitVec 32) (v18 v33 v39 : FVec Ideal S4096x128 .f32) :
    k0_pay1 w v18 (iota .tc S4096x128 32 [0] iota_S4096x128_d0_w32) v33 v39 k0_pay7 =
      subf (Scalar.select (Scalar.cmpi .eq w 0#32) v33 (Scalar.select (Scalar.cmpi .eq w 1#32) v39
        (Scalar.select (Scalar.cmpi .eq w 2#32) (eight v39) (sixteen (eight v39))))) v18 := rfl

include hg

theorem eight_at (i : Fin 4096) : eight (k0_pay6 t x) (ix2 i c) = after 8 (part g fun s => x (ix2 s c)) i := by
  pointwise [eight, k0_pay7]
  simp only [pay6_at x c t g hg]
  exact after_step 4 4092 (by decide) rfl _ i _

theorem sixteen_at (i : Fin 4096) : sixteen (eight (k0_pay6 t x)) (ix2 i c) = after 16 (part g fun s => x (ix2 s c)) i := by
  pointwise [sixteen]
  simp only [eight_at x c t g hg]
  exact after_step 8 4088 (by decide) rfl _ i _

theorem pay1_at (i : Fin 4096) :
    k0_pay1 (BitVec.ofNat 32 g.val) (k0_pay4 x) (iota .tc S4096x128 32 [0] iota_S4096x128_d0_w32) (k0_pay5 t x) (k0_pay6 t x) k0_pay7 (ix2 i c) =
      after (width g) (part g fun s => x (ix2 s c)) i - x (ix2 i c) := by
  rw [pay1_eq]
  pointwise [k0_pay4]
  simp only [pay5_at x c t g hg, pay6_at x c t g hg, eight_at x c t g hg, sixteen_at x c t g hg]
  exact congrArg (fun a : EReal => a - _) (pick_width g fun w => after w (part g fun s => x (ix2 s c)) i)

/-- One block of the gradient. -/
theorem block_at (i : Fin 4096) : out0_1 (F := Ideal) t x (ix2 i c) =
    after (width g) (part g fun s => x (ix2 s c)) i - x (ix2 i c) := by
  unfold out0_1 k0_pay8 k0_pay9 k0_pay10 k0_pay11 k0_pay12
  rw [View.canon_unit_zero hz2, View.ld_unit_zero (S := S4096x128) hz2]
  show k0_pay2 (half (BitVec.ofNat 32 (t 0).val)) (k0_pay4 x) _ (k0_pay5 t x) (k0_pay6 t x) k0_pay7 (ix2 i c) = _
  rw [hg]
  pointwise [k0_pay2]
  exact pay1_at x c t g hg i

/-- One block of its sums over the rows. -/
theorem sum_at : out0_2 (F := Ideal) t x (ix2 0 c) =
    ∑ i, (after (width g) (part g fun s => x (ix2 s c)) i - x (ix2 i c)) := by
  unfold out0_2 k0_pay8 k0_pay9 k0_pay10 k0_pay11 k0_pay12
  rw [View.canon_unit_zero hz2, View.ld_unit_zero (S := S4096x128) hz2]
  show k0_pay3 (half (BitVec.ofNat 32 (t 0).val)) (k0_pay4 x) _ (k0_pay5 t x) (k0_pay6 t x) k0_pay7 (ix2 0 c) = _
  rw [hg]
  pointwise [k0_pay3]
  simp only [pay1_at x c t g hg]

end Block

section Ref

variable (x : Vec Ideal S4096x1024 .bf16) (i s : Fin 4096) (g : Fin 4) (k : Fin 256)

/-- The gradient at one place. -/
def grad (j : Fin 1024) (g : Fin 4) : EReal := after (width g) (part g fun s => x (ix2 s j)) i - x (ix2 i j)

theorem band0 : val_main_v17 (F := Ideal) (ix2 i s) = band (width 0) i s := by
  pointwise [val_main_v17, val_main_v16, val_main_v15, val_main_v14, val_main_c_1, val_main_v13, val_main_v12, val_main_c, val_main_v10,
    val_main_v9, val_main_v8, val_main_v7, val_main_v6, val_main_v5, val_main_v4]
  exact band_read 2 (by decide) i s

theorem band1 : val_main_v31 (F := Ideal) (ix2 i s) = band (width 1) i s := by
  pointwise [val_main_v31, val_main_v30, val_main_v29, val_main_v28, val_main_c_4, val_main_v27, val_main_v26, val_main_c_3, val_main_v10,
    val_main_v9, val_main_v8, val_main_v7, val_main_v6, val_main_v5, val_main_v4]
  exact band_read 4 (by decide) i s

theorem band2 : val_main_v45 (F := Ideal) (ix2 i s) = band (width 2) i s := by
  pointwise [val_main_v45, val_main_v44, val_main_v43, val_main_v42, val_main_c_7, val_main_v41, val_main_v40, val_main_c_6, val_main_v10,
    val_main_v9, val_main_v8, val_main_v7, val_main_v6, val_main_v5, val_main_v4]
  exact band_read 8 (by decide) i s

theorem band3 : val_main_v59 (F := Ideal) (ix2 i s) = band (width 3) i s := by
  pointwise [val_main_v59, val_main_v58, val_main_v57, val_main_v56, val_main_c_10, val_main_v55, val_main_v54, val_main_c_9, val_main_v10,
    val_main_v9, val_main_v8, val_main_v7, val_main_v6, val_main_v5, val_main_v4]
  exact band_read 16 (by decide) i s

/-- One group's gradient, when its column is `j` of all. -/
theorem share {p j : Fin 1024} (hp : p.val = j.val) :
    -x (ix2 i p) + after (width g) (part g fun s => x (ix2 s p)) i = grad x i j g := by
  obtain rfl : p = j := Fin.ext hp
  exact add_comm _ _

theorem part0 : val_main_v101 (F := Ideal) x (ix2 i k) = grad x i (col 0 k) 0 := by
  pointwise [val_main_v101, val_main_v100, val_main_v99, val_main_v98, val_main_v97, val_main_v96, val_main_v69, val_main_v68, val_main_v21,
    val_main_v20, val_main_v19, val_main_cst_2, val_main_v3, val_main_v2, val_main_cst_0, val_main_v1]
  simp only [band0, count_ref (width 0) 0x40000000#32 (width_bits 0)]
  rw [band_after]
  exact share x i 0 (by simp only [col]; omega)

theorem part1 : val_main_v93 (F := Ideal) x (ix2 i k) = grad x i (col 1 k) 1 := by
  pointwise [val_main_v93, val_main_v92, val_main_v91, val_main_v90, val_main_v89, val_main_v88, val_main_v70, val_main_v68, val_main_v35,
    val_main_v34, val_main_v33, val_main_cst_5, val_main_v3, val_main_v2, val_main_cst_0, val_main_v1]
  simp only [band1, count_ref (width 1) 0x40800000#32 (width_bits 1)]
  rw [band_after]
  exact share x i 1 (by simp only [col]; omega)

theorem part2 : val_main_v85 (F := Ideal) x (ix2 i k) = grad x i (col 2 k) 2 := by
  pointwise [val_main_v85, val_main_v84, val_main_v83, val_main_v82, val_main_v81, val_main_v80, val_main_v71, val_main_v68, val_main_v49,
    val_main_v48, val_main_v47, val_main_cst_8, val_main_v3, val_main_v2, val_main_cst_0, val_main_v1]
  simp only [band2, count_ref (width 2) 0x41000000#32 (width_bits 2)]
  rw [band_after]
  exact share x i 2 (by simp only [col]; omega)

theorem part3 : val_main_v78 (F := Ideal) x (ix2 i k) = grad x i (col 3 k) 3 := by
  pointwise [val_main_v78, val_main_v77, val_main_v76, val_main_v75, val_main_v74, val_main_v73, val_main_v72, val_main_v68, val_main_v63,
    val_main_v62, val_main_v61, val_main_cst_11, val_main_v3, val_main_v2, val_main_cst_0, val_main_v1]
  simp only [band3, count_ref (width 3) 0x41800000#32 (width_bits 3)]
  rw [band_after]
  exact share x i 3 (by simp only [col]; omega)

/-- The reference's gradient at one place. -/
theorem ref_at : val_main_v103 (F := Ideal) x (ix2 i (col g k)) = grad x i (col g k) g := by
  unfold col
  pointwise [val_main_v103, val_main_v102, val_main_cst_15, val_main_v95, val_main_v94, val_main_cst_14, val_main_v87, val_main_v86,
    val_main_cst_13, val_main_v79, val_main_cst_12]
  simp only [part0, part1, part2, part3]
  rcases (by omega : g = 0 ∨ g = 1 ∨ g = 2 ∨ g = 3) with rfl | rfl | rfl | rfl
  · rw [dif_neg (by show ¬(768 ≤ 256 * 0 + k.val ∧ _); omega), dif_neg (by show ¬(512 ≤ 256 * 0 + k.val ∧ _); omega),
      dif_neg (by show ¬(256 ≤ 256 * 0 + k.val ∧ _); omega), dif_pos (by show 256 * 0 + k.val < 256; omega)]
    simp only [zero_add]
    exact congrArg (fun j => grad x i j 0) (Fin.ext (by simp only [col]; omega))
  · rw [dif_neg (by show ¬(768 ≤ 256 * 1 + k.val ∧ _); omega), dif_neg (by show ¬(512 ≤ 256 * 1 + k.val ∧ _); omega),
      dif_pos (by show 256 ≤ 256 * 1 + k.val ∧ 256 * 1 + k.val - 256 < 256; omega), dif_neg (by show ¬(256 * 1 + k.val < 256); omega)]
    simp only [zero_add, add_zero]
    exact congrArg (fun j => grad x i j 1) (Fin.ext (by simp only [col]; omega))
  · rw [dif_neg (by show ¬(768 ≤ 256 * 2 + k.val ∧ _); omega), dif_pos (by show 512 ≤ 256 * 2 + k.val ∧ 256 * 2 + k.val - 512 < 256; omega),
      dif_neg (by show ¬(256 ≤ 256 * 2 + k.val ∧ 256 * 2 + k.val - 256 < 256); omega), dif_neg (by show ¬(256 * 2 + k.val < 256); omega)]
    simp only [zero_add, add_zero]
    exact congrArg (fun j => grad x i j 2) (Fin.ext (by simp only [col]; omega))
  · rw [dif_pos (by show 768 ≤ 256 * 3 + k.val ∧ 256 * 3 + k.val - 768 < 256; omega), dif_neg (by show ¬(512 ≤ 256 * 3 + k.val ∧ 256 * 3 + k.val - 512 < 256); omega),
      dif_neg (by show ¬(256 ≤ 256 * 3 + k.val ∧ 256 * 3 + k.val - 256 < 256); omega), dif_neg (by show ¬(256 * 3 + k.val < 256); omega)]
    simp only [add_zero]
    exact congrArg (fun j => grad x i j 3) (Fin.ext (by simp only [col]; omega))

theorem ref_bf : val_main_v104 (F := Ideal) x (ix2 i (col g k)) = grad x i (col g k) g := by
  rw [← ref_at]
  pointwise [val_main_v104]

/-- Its sums over the rows. -/
theorem ref_sum : val_main_v106 (F := Ideal) x (ix2 0 (col g k)) = ∑ i, grad x i (col g k) g := by
  simp only [← ref_at]
  pointwise [val_main_v106, val_main_v105, val_main_cst_16]

end Ref

variable (m : (ℓ : Loc nD τ sig) → Buf (Elt Ideal) ℓ) (c : Dev nD)

/-- The argument: the pooled features' cotangents. -/
abbrev a0 : Vec Ideal S4096x1024 .bf16 := m ((c : Thread nD τ).loc main_arg0)

/-- The windows' block indices, and the point's group. -/
theorem index : ∀ t : Fin cfg0.N, (win0_0.index t 0 = 0 ∧ win0_0.index t 1 = 0 + t.val) ∧ (win0_1.index t 0 = 0 ∧ win0_1.index t 1 = 0 + t.val) ∧
    (win0_2.index t 0 = 0 ∧ win0_2.index t 1 = 0 + t.val) ∧ half (BitVec.ofNat 32 (grid0.coords t 0).val) = BitVec.ofNat 32 (t.val / 2) :=
  (by decide +kernel : ∀ t : Fin grid0.N, (win0_0.index t 0 = 0 ∧ win0_0.index t 1 = 0 + t.val) ∧
    (win0_1.index t 0 = 0 ∧ win0_1.index t 1 = 0 + t.val) ∧ (win0_2.index t 0 = 0 ∧ win0_2.index t 1 = 0 + t.val) ∧
    half (BitVec.ofNat 32 (grid0.coords t 0).val) = BitVec.ofNat 32 (t.val / 2))

/-- A place of an array whose blocks start at its first column. -/
theorem place0 {r : ℕ} (t : Fin cfg0.N) (i : Fin r) (k : Fin 128) (p : (⟨2, ![r, 1024]⟩ : Shape).Idx) {a b : ℕ}
    (ha : a = 0 ∧ b = 0 + t.val) (h0 : (p 0).val = a * r + 1 * i.val) (h1 : (p 1).val = b * 128 + 1 * k.val) :
    p = ix2 i (col (grp N_0 t) (lane t k)) :=
  (place N_0 0 (by decide) t i k p ha h0 h1).trans (congrArg (ix2 i) (Fin.ext (Nat.zero_add _)))

theorem b0_at (t : Fin cfg0.N) (s : Fin 4096) (k : Fin 128) : iblk m c 0 t (ix2 s k) = a0 m c (ix2 s (col (grp N_0 t) (lane t k))) :=
  congrArg (a0 m c) (place0 t s k _ (index t).1 rfl rfl)

/-- The kernel's gradient is the reference's. -/
theorem out1 : (dats m 0 c).arrAt 1 cfg0.N = val_main_v104 (F := Ideal) (a0 m c) := by
  funext (j : S4096x1024.Idx)
  obtain ⟨t, i, k, rfl⟩ := cols N_0 j
  refine Eq.trans ?_ (ref_bf _ _ _ _).symm
  have e : ((cfg0.win 1).blk t).view.emb (ix2 i k) = (ix2 i (col (grp N_0 t) (lane t k)) : S4096x1024.Idx) :=
    place0 t i k _ (index t).2.1 rfl rfl
  refine (congrArg _ e.symm).trans ((congrFun (Value.blocks1 m c t (flush0_1 t)) (ix2 i k)).trans ?_)
  rw [Value.flushed1]
  refine (block_at _ k _ (grp N_0 t) (index t).2.2.2 i).trans ?_
  simp only [b0_at]
  rfl

/-- And so are its sums over the rows. -/
theorem out2 : (dats m 0 c).arrAt 2 cfg0.N = val_main_v106 (F := Ideal) (a0 m c) := by
  funext (j : S1x1024.Idx)
  obtain ⟨t, i, k, rfl⟩ := cols N_0 j
  obtain rfl : i = 0 := Fin.ext (by omega)
  refine Eq.trans ?_ (ref_sum _ _ _).symm
  have e : ((cfg0.win 2).blk t).view.emb (ix2 0 k) = (ix2 0 (col (grp N_0 t) (lane t k)) : S1x1024.Idx) :=
    place0 t 0 k _ (index t).2.2.1 rfl rfl
  refine (congrArg _ e.symm).trans ((congrFun (Value.blocks2 m c t (flush0_2 t)) (ix2 0 k)).trans ?_)
  rw [Value.flushed2]
  refine (sum_at _ k _ (grp N_0 t) (index t).2.2.2).trans ?_
  simp only [b0_at]
  rfl

/-- From equal arguments the kernel's results over the extended reals are the reference's. -/
theorem algebraic : Cert.algebraic_PoolBIdeal_PoolBRefIdeal := by
  intro m ρ m' ρ' _ hagree
  refine ⟨_, _, Cert.PoolBIdeal.Value.run_blocks (F := Ideal) m ρ, ?_⟩
  refine (θ_run Cert.PoolBRefIdeal.defs _ _).mono (fun r h c => ?_) (Cert.PoolBRefIdeal.Value.run (F := Ideal) m' ρ')
  obtain ⟨h0, h1, hk⟩ := h c
  have e0 := hagree c
  refine ⟨(h0.trans (val_main_v104_eq _ _)).trans (Eq.trans ?_ (out1 m c).symm),
    (h1.trans (val_main_v106_eq _ _)).trans (Eq.trans ?_ (out2 m c).symm), hk⟩
  · simp only [e0]
  · simp only [e0]

end Cert.Proof.PoolB

end
-- ==== Proof.Rows.PoolF.lean ====
module

public import proofs.«01_k».proof.Defs
public import proofs.«01_k».proof.Proof.Rows.Windows
public import proofs.«01_k».proof.Proof.Gen.PoolF.Frame
public import proofs.«01_k».proof.Proof.Gen.PoolFIdeal.Value
public import proofs.«01_k».proof.Proof.Gen.PoolFRefIdeal.Run
public import proofs.«01_k».proof.Proof.Gen.PoolFRefIdeal.Read
public import Idealize.ShloMosaic.Lib.Pipeline.ReadBack
public import Idealize.ShloMosaic.Adequacy
public import Idealize.ShloMosaic.Init

@[expose] public section

/-! The pooled features: each column's mean over its group's window, less the column. -/

set_option maxRecDepth 16384

noncomputable section

namespace Cert.Proof.PoolF

open Cert Cert.Mm Idealize.ShloMosaic Idealize.ShloMosaic.TcCoe Idealize.SL.Sem
open Cert.Groups Cert.Windows Cert.PoolFIdeal Cert.PoolFIdeal.Gen Cert.PoolFRefIdeal.Read

/-- The kernel keeps its arguments and ends with every counter at zero. -/
theorem frame_p : Cert.quiescent_PoolF := fun m ρ _ => Cert.PoolF.Gen.frame m ρ

/-- So does its reading over the extended reals. -/
theorem frame_pi : Cert.quiescent_PoolFIdeal := fun m ρ _ => Cert.PoolFIdeal.Gen.frame m ρ

/-- The reference keeps its arguments; it has no counters. -/
theorem frame_ri : Cert.quiescent_PoolFRefIdeal := fun m ρ _ =>
  (θ_run Cert.PoolFRefIdeal.defs _ _).mono
    (fun r h => ⟨fun c => (h c).2, sem_eq_zero_of_no_sems (by decide) r.2⟩)
    (Cert.PoolFRefIdeal.Value.run (F := Ideal) m ρ)

section Block

variable (x : Vec Ideal S4096x128 .bf16) (i : Fin 4096) (c : Fin 128)

theorem pay3_at (i : Fin 4096) : k0_pay3 x (ix2 i c) = before 2 (fun s => x (ix2 s c)) i := by
  have h := before_step 1 (by decide) (fun s => x (ix2 s c)) i (by omega)
  rw [before_one] at h
  pointwise [k0_pay3, k0_pay2]
  exact h

theorem pay4_at (i : Fin 4096) : k0_pay4 x (ix2 i c) = before 4 (fun s => x (ix2 s c)) i := by
  pointwise [k0_pay4]
  simp only [pay3_at]
  exact before_step 2 (by decide) _ i _

theorem pay5_at (i : Fin 4096) : k0_pay5 x (ix2 i c) = before 8 (fun s => x (ix2 s c)) i := by
  pointwise [k0_pay5]
  simp only [pay4_at]
  exact before_step 4 (by decide) _ i _

/-- One block of the result. -/
theorem block_at (t : grid0.Coords) (g : Fin 4) (hg : half (BitVec.ofNat 32 (t 0).val) = BitVec.ofNat 32 g.val) :
    out0_1 (F := Ideal) t x (ix2 i c) =
      Ideal.div (before (width g) (fun s => x (ix2 s c)) i) (count (width g) i) - x (ix2 i c) := by
  unfold out0_1
  rw [View.canon_unit_zero hz2, View.ld_unit_zero (S := S4096x128) hz2]
  show k0_pay1 (half (BitVec.ofNat 32 (t 0).val)) (k0_pay2 x) _ (k0_pay3 x) (k0_pay4 x) (k0_pay5 x) k0_pay6 (ix2 i c) = _
  rw [hg]
  pointwise [k0_pay1, k0_pay2, k0_pay6]
  simp only [pay3_at, pay4_at, pay5_at]
  rw [before_step 8 (by decide)]
  exact congrArg (fun a : EReal => a - _) (congrArg₂ Ideal.div (pick_width g fun w => before w (fun s => x (ix2 s c)) i) (count_kernel g i))

end Block

section Ref

variable (x : Vec Ideal S4096x8192 .bf16) (i s : Fin 4096) (g : Fin 4) (k : Fin 256)

/-- The place of a pooled column in the array. -/
def spot (j : Fin 1024) : Fin 8192 := ⟨128 * 16 + j.val, by omega⟩

/-- The result at one place. -/
def means (j : Fin 1024) (g : Fin 4) : EReal :=
  Ideal.div (before (width g) (fun s => x (ix2 s (spot j))) i) (count (width g) i) - x (ix2 i (spot j))

theorem band0 : val_main_v18 (F := Ideal) (ix2 i s) = band (width 0) i s := by
  pointwise [val_main_v18, val_main_v17, val_main_v16, val_main_v15, val_main_c_0, val_main_v14, val_main_v13, val_main_c, val_main_v11,
    val_main_v10, val_main_v9, val_main_v8, val_main_v7, val_main_v6, val_main_v5]
  exact band_read 2 (by decide) i s

theorem band1 : val_main_v32 (F := Ideal) (ix2 i s) = band (width 1) i s := by
  pointwise [val_main_v32, val_main_v31, val_main_v30, val_main_v29, val_main_c_3, val_main_v28, val_main_v27, val_main_c_2, val_main_v11,
    val_main_v10, val_main_v9, val_main_v8, val_main_v7, val_main_v6, val_main_v5]
  exact band_read 4 (by decide) i s

theorem band2 : val_main_v46 (F := Ideal) (ix2 i s) = band (width 2) i s := by
  pointwise [val_main_v46, val_main_v45, val_main_v44, val_main_v43, val_main_c_6, val_main_v42, val_main_v41, val_main_c_5, val_main_v11,
    val_main_v10, val_main_v9, val_main_v8, val_main_v7, val_main_v6, val_main_v5]
  exact band_read 8 (by decide) i s

theorem band3 : val_main_v60 (F := Ideal) (ix2 i s) = band (width 3) i s := by
  pointwise [val_main_v60, val_main_v59, val_main_v58, val_main_v57, val_main_c_9, val_main_v56, val_main_v55, val_main_c_8, val_main_v11,
    val_main_v10, val_main_v9, val_main_v8, val_main_v7, val_main_v6, val_main_v5]
  exact band_read 16 (by decide) i s

/-- One group's part, when its column is `j` of the pooled columns. -/
theorem part {p : Fin 8192} {j : Fin 1024} (hp : p.val = 128 * 16 + j.val) :
    Ideal.div (before (width g) (fun s => x (ix2 s p)) i) (count (width g) i) - x (ix2 i p) = means x i j g := by
  obtain rfl : p = spot j := Fin.ext hp
  rfl

theorem part0 : val_main_v25 (F := Ideal) x (ix2 i k) = means x i (col 0 k) 0 := by
  pointwise [val_main_v25, val_main_v24, val_main_v23, val_main_v22, val_main_v21, val_main_v20, val_main_cst_1, val_main_v19, val_main_v12,
    val_main_v4, val_main_v3, val_main_cst, val_main_v2, val_main_v1, val_main_v0]
  simp only [band0]
  rw [band_before, count_ref (width 0) 0x40000000#32 (width_bits 0)]
  exact part x i 0 (by simp only [col]; omega)

theorem part1 : val_main_v39 (F := Ideal) x (ix2 i k) = means x i (col 1 k) 1 := by
  pointwise [val_main_v39, val_main_v38, val_main_v37, val_main_v36, val_main_v35, val_main_v34, val_main_cst_4, val_main_v33, val_main_v26,
    val_main_v4, val_main_v3, val_main_cst, val_main_v2, val_main_v1, val_main_v0]
  simp only [band1]
  rw [band_before, count_ref (width 1) 0x40800000#32 (width_bits 1)]
  exact part x i 1 (by simp only [col]; omega)

theorem part2 : val_main_v53 (F := Ideal) x (ix2 i k) = means x i (col 2 k) 2 := by
  pointwise [val_main_v53, val_main_v52, val_main_v51, val_main_v50, val_main_v49, val_main_v48, val_main_cst_7, val_main_v47, val_main_v40,
    val_main_v4, val_main_v3, val_main_cst, val_main_v2, val_main_v1, val_main_v0]
  simp only [band2]
  rw [band_before, count_ref (width 2) 0x41000000#32 (width_bits 2)]
  exact part x i 2 (by simp only [col]; omega)

theorem part3 : val_main_v67 (F := Ideal) x (ix2 i k) = means x i (col 3 k) 3 := by
  pointwise [val_main_v67, val_main_v66, val_main_v65, val_main_v64, val_main_v63, val_main_v62, val_main_cst_10, val_main_v61, val_main_v54,
    val_main_v4, val_main_v3, val_main_cst, val_main_v2, val_main_v1, val_main_v0]
  simp only [band3]
  rw [band_before, count_ref (width 3) 0x41800000#32 (width_bits 3)]
  exact part x i 3 (by simp only [col]; omega)

/-- The reference at one place. -/
theorem ref_at : val_main_v69 (F := Ideal) x (ix2 i (col g k)) = means x i (col g k) g := by
  unfold col
  pointwise [val_main_v69, val_main_v68]
  simp only [part0, part1, part2, part3]
  split
  · obtain rfl : 0 = g := Fin.ext (by show 0 = g.val; omega)
    exact congrArg (fun j => means x i j 0) (Fin.ext (by simp only [col]; omega))
  split
  · obtain rfl : 1 = g := Fin.ext (by show 1 = g.val; omega)
    exact congrArg (fun j => means x i j 1) (Fin.ext (by simp only [col]; omega))
  split
  · obtain rfl : 2 = g := Fin.ext (by show 2 = g.val; omega)
    exact congrArg (fun j => means x i j 2) (Fin.ext (by simp only [col]; omega))
  · obtain rfl : 3 = g := Fin.ext (by show 3 = g.val; omega)
    exact congrArg (fun j => means x i j 3) (Fin.ext (by simp only [col]; omega))

end Ref

variable (m : (ℓ : Loc nD τ sig) → Buf (Elt Ideal) ℓ) (c : Dev nD)

/-- The argument: the input projection's result, whose third part of 1024 columns is pooled. -/
abbrev a0 : Vec Ideal S4096x8192 .bf16 := m ((c : Thread nD τ).loc main_arg0)

/-- The windows' block indices, and the point's group. -/
theorem index : ∀ t : Fin cfg0.N, (win0_0.index t 0 = 0 ∧ win0_0.index t 1 = 16 + t.val) ∧ (win0_1.index t 0 = 0 ∧ win0_1.index t 1 = 0 + t.val) ∧
    half (BitVec.ofNat 32 (grid0.coords t 0).val) = BitVec.ofNat 32 (t.val / 2) :=
  (by decide +kernel : ∀ t : Fin grid0.N, (win0_0.index t 0 = 0 ∧ win0_0.index t 1 = 16 + t.val) ∧
    (win0_1.index t 0 = 0 ∧ win0_1.index t 1 = 0 + t.val) ∧ half (BitVec.ofNat 32 (grid0.coords t 0).val) = BitVec.ofNat 32 (t.val / 2))

theorem b0_at (t : Fin cfg0.N) (s : Fin 4096) (k : Fin 128) : iblk m c 0 t (ix2 s k) = a0 m c (ix2 s (spot (col (grp N_0 t) (lane t k)))) :=
  congrArg (a0 m c) (place N_0 16 (by decide) t s k _ (index t).1 rfl rfl)

/-- The kernel's array is the reference's. -/
theorem out : (dats m 0 c).arrAt 1 cfg0.N = val_main_v69 (F := Ideal) (a0 m c) := by
  funext (j : S4096x1024.Idx)
  obtain ⟨t, i, k, rfl⟩ := cols N_0 j
  refine Eq.trans ?_ (ref_at _ _ _ _).symm
  have e : ((cfg0.win 1).blk t).view.emb (ix2 i k) = (ix2 i (col (grp N_0 t) (lane t k)) : S4096x1024.Idx) :=
    (place N_0 0 (by decide) t i k _ (index t).2.1 rfl rfl).trans (congrArg (ix2 i) (Fin.ext (Nat.zero_add _)))
  refine (congrArg _ e.symm).trans ((congrFun (Value.blocks1 m c t (flush0_1 t)) (ix2 i k)).trans ?_)
  rw [Value.flushed1]
  refine (block_at _ i k _ (grp N_0 t) (index t).2.2).trans ?_
  simp only [b0_at]
  rfl

/-- From equal arguments the kernel's result over the extended reals is the reference's. -/
theorem algebraic : Cert.algebraic_PoolFIdeal_PoolFRefIdeal := by
  intro m ρ m' ρ' _ hagree
  refine ⟨_, Cert.PoolFIdeal.Value.run_blocks (F := Ideal) m ρ, ?_⟩
  refine (θ_run Cert.PoolFRefIdeal.defs _ _).mono (fun r h c => ?_) (Cert.PoolFRefIdeal.Value.run (F := Ideal) m' ρ')
  obtain ⟨h0, hk⟩ := h c
  have e0 := hagree c
  refine ⟨(h0.trans (val_main_v69_eq _ _)).trans (Eq.trans ?_ (out m c).symm), hk⟩
  simp only [e0]

end Cert.Proof.PoolF

end
-- ==== Proof.Rows.ConvF.lean ====
module

public import proofs.«01_k».proof.Defs
public import proofs.«01_k».proof.Proof.Rows.Windows
public import proofs.«01_k».proof.Proof.Gen.ConvF.Frame
public import proofs.«01_k».proof.Proof.Gen.ConvFIdeal.Value
public import proofs.«01_k».proof.Proof.Gen.ConvFRefIdeal.Run
public import proofs.«01_k».proof.Proof.Gen.ConvFRefIdeal.Read
public import Idealize.ShloMosaic.Lib.Pipeline.ReadBack
public import Idealize.ShloMosaic.Lib.WritesUnit
public import Idealize.ShloMosaic.Adequacy
public import Idealize.ShloMosaic.Init

@[expose] public section

/-! The causal convolution: at each row the bias and thirty-one taps on the gated rows before it. The kernel goes through tiles
of 256 rows of a padded copy; a tile's value is the same sum whatever its place. -/

set_option maxRecDepth 65536

noncomputable section

namespace Cert.Proof.ConvF

open Cert Cert.Mm Idealize.ShloMosaic Idealize.ShloMosaic.TcCoe Idealize.SL.Sem
open Cert.Groups Cert.Windows Cert.ConvFIdeal Cert.ConvFIdeal.Gen Cert.ConvFRefIdeal.Read

/-- The kernel keeps its arguments and ends with every counter at zero. -/
theorem frame_p : Cert.quiescent_ConvF := fun m ρ _ => Cert.ConvF.Gen.frame m ρ

/-- So does its reading over the extended reals. -/
theorem frame_pi : Cert.quiescent_ConvFIdeal := fun m ρ _ => Cert.ConvFIdeal.Gen.frame m ρ

/-- The reference keeps its arguments; it has no counters. -/
theorem frame_ri : Cert.quiescent_ConvFRefIdeal := fun m ρ _ =>
  (θ_run Cert.ConvFRefIdeal.defs _ _).mono
    (fun r h => ⟨fun c => (h c).2, sem_eq_zero_of_no_sems (by decide) r.2⟩)
    (Cert.ConvFRefIdeal.Value.run (F := Ideal) m ρ)

/-- The sum of the taps `w` on a sequence from place `p`. -/
def taps (w z : ℕ → EReal) (p : ℕ) : EReal := ∑ k ∈ Finset.range 31, w k * z (p + k)

section Tile

variable (V : Vec Ideal S288x128 .f32) (B : Vec Ideal S1x128 .f32) (W : Fin 32 → Vec Ideal S1x128 .f32)

/-- What one pass of the kernel's loop stores, from the rows it loads. -/
def tile : FVec Ideal S256x128 .bf16 :=
  k0_pay3 (k0_pay15 V (k0_pay4 V) (k0_pay5 V) (k0_pay6 V) (k0_pay7 V) (k0_pay8 V) (k0_pay9 V) (k0_pay10 V)
    (k0_pay14 V (k0_pay4 V) (k0_pay5 V) (k0_pay6 V) (k0_pay7 V) (k0_pay8 V) (k0_pay9 V) (k0_pay10 V)
      (k0_pay13 V (k0_pay4 V) (k0_pay5 V) (k0_pay6 V) (k0_pay7 V) (k0_pay8 V) (k0_pay9 V) (k0_pay10 V)
        (k0_pay11 V B (W 0) (W 1) (W 2) (W 3)) (k0_pay12 V (W 4)) (W 5) (W 6) (W 7) (W 8) (W 9) (W 10) (W 11) (W 12))
      (W 13) (W 14) (W 15) (W 16) (W 17) (W 18) (W 19) (W 20) (W 21))
    (W 22) (W 23) (W 24) (W 25) (W 26) (W 27) (W 28) (W 29)) (W 30) (k0_pay16 V)

/-- The loaded rows as a sequence. -/
def row (c : Fin 128) (n : ℕ) : EReal := if h : n < 288 then V (ix2 ⟨n, h⟩ c) else 0

theorem row_of (c : Fin 128) (n : ℕ) (h : n < 288) : V (ix2 ⟨n, h⟩ c) = row V c n := by
  unfold row
  rw [dif_pos h]

set_option maxHeartbeats 2000000 in
theorem tile_at (i : Fin 256) (c : Fin 128) : tile V B W (ix2 i c) =
    B (ix2 0 c) + taps (fun k => if h : k < 32 then W ⟨k, h⟩ (ix2 0 c) else 0) (row V c) (i.val + 2) := by
  unfold tile
  pointwise [k0_pay3, k0_pay4, k0_pay5, k0_pay6, k0_pay7, k0_pay8, k0_pay9, k0_pay10, k0_pay11, k0_pay12, k0_pay13, k0_pay14, k0_pay15, k0_pay16]
  have e : ∀ l r, r ≤ 8 → 8 ≤ l → l ≤ 32 → (l + i.val + 288 - r) % 288 = i.val + (l - r) := fun l r _ _ _ => by omega
  have e' : ∀ l, l + i.val = i.val + l := fun l => Nat.add_comm _ _
  simp (disch := decide) only [row_of, e]
  simp only [e', Nat.reduceSub, taps, Finset.sum_range_succ, Finset.sum_range_zero, zero_add, ← add_assoc]
  simp only [Nat.add_assoc i.val, Nat.reduceAdd, Nat.add_zero, Nat.reduceLT, reduceDIte,
    Fin.reduceFinMk]

end Tile

/-- The bytes of the padded copy, row by row: thirty-two rows of zeros, then the gated rows. -/
def padded (x g : Vec Ideal S4096x128 .bf16) (c : Fin 128) (n : ℕ) : EReal :=
  if h : 32 ≤ n ∧ n - 32 < 4096 then x (ix2 ⟨n - 32, h.2⟩ c) * Ideal.logistic (g (ix2 ⟨n - 32, h.2⟩ c)) else 0

theorem gated_at (x g : Vec Ideal S4096x128 .bf16) (p : Fin 4096) (c : Fin 128) :
    k0_pay2 x g (ix2 p c) = x (ix2 p c) * Ideal.logistic (g (ix2 p c)) := by
  pointwise [k0_pay2]

theorem off1 (k : Fin k0_t1_loop.trips) : k0_off1 k = ![256 * k.val, 0] := by
  revert k; decide +kernel

theorem off2 (k : Fin k0_t1_loop.trips) : k0_off2 k = ![256 * k.val, 0] := by
  revert k; decide +kernel

theorem trips_eq : k0_t1_loop.trips = 16 := by decide +kernel

section Run

variable (c : Dev nD) (i : grid0.Coords) (arg1 : Memref sig .tc .vmem S4096x128 .bf16) (harg1 : arg1.IsWhole)
  (arg2 : Memref sig .tc .vmem S4096x128 .bf16) (harg2 : arg2.IsWhole) (arg3 : Memref sig .tc .vmem S32x128 .f32) (harg3 : arg3.IsWhole)
  (arg4 : Memref sig .tc .vmem S1x128 .f32) (harg4 : arg4.IsWhole) (arg5 : Memref sig .tc .vmem S4096x128 .bf16) (harg5 : arg5.IsWhole)
  (arg6 : Memref sig .tc .vmem S4128x128 .f32) (harg6 : arg6.IsWhole)
  (x0 x1 : Vec Ideal S4096x128 .bf16) (x2 : Vec Ideal S32x128 .f32) (x3 : Vec Ideal S1x128 .f32)

theorem tap_inb (k : Fin 32) : ∀ a, (![k.val, 0] : Fin 2 → ℕ) a + S1x128.size a ≤ S32x128.size a := by
  revert k; decide +kernel

/-- What one pass stores. -/
theorem trip_eq (X3 : BufTy.Contents (Elt Ideal) arg3.view.ty) (X4 : BufTy.Contents (Elt Ideal) arg4.view.ty)
    (X6 : BufTy.Contents (Elt Ideal) arg6.view.ty) (k : Fin k0_t1_loop.trips) :
    tripL_k0_t1 (F := Ideal) Variants.none c none i arg1 harg1 arg2 harg2 arg3 harg3 arg4 harg4 arg5 harg5 arg6 harg6 X3 X4 X6 k =
      [⟨Rect.unit (s := S4096x128) (k0_off2 k) S256x128.size (k0_off2_inb k),
        tile (View.readAt (Elt Ideal) arg6.view (Rect.unit (s := S4128x128) (k0_off1 k) S288x128.size (k0_off1_inb k)).toLoadRect X6)
          (View.readAt (Elt Ideal) arg4.view (Rect.unit (s := S1x128) ![0, 0] S1x128.size inb_S1x128_S1x128_0_0).toLoadRect X4)
          fun k => View.readAt (Elt Ideal) arg3.view (Rect.unit (s := S32x128) ![k.val, 0] S1x128.size (tap_inb k)).toLoadRect X3⟩] := by
  unfold tripL_k0_t1 trip_k0_t1
  rfl

/-- The rows below `256 * k` after `k` passes, when a pass stores `G` at its rows. -/
theorem stored (v : View sig .tc .vmem S4096x128 .bf16) (f : BufTy.Contents (Elt Ideal) v.ty) (X3 : BufTy.Contents (Elt Ideal) arg3.view.ty)
    (X4 : BufTy.Contents (Elt Ideal) arg4.view.ty) (X6 : BufTy.Contents (Elt Ideal) arg6.view.ty) (G : Fin 4096 → Fin 128 → EReal)
    (hG : ∀ (k : Fin k0_t1_loop.trips) (r : Fin 256) (l : Fin 128) (h : 256 * k.val + r.val < 4096),
      tile (View.readAt (Elt Ideal) arg6.view (Rect.unit (s := S4128x128) (k0_off1 k) S288x128.size (k0_off1_inb k)).toLoadRect X6)
          (View.readAt (Elt Ideal) arg4.view (Rect.unit (s := S1x128) ![0, 0] S1x128.size inb_S1x128_S1x128_0_0).toLoadRect X4)
          (fun k => View.readAt (Elt Ideal) arg3.view (Rect.unit (s := S32x128) ![k.val, 0] S1x128.size (tap_inb k)).toLoadRect X3) (ix2 r l) =
        G ⟨256 * k.val + r.val, h⟩ l) (n : ℕ) (hn : n ≤ k0_t1_loop.trips) (p : Fin 4096) (hp : p.val < 256 * n) (l : Fin 128) :
    v.read (Elt Ideal) (v.writes (Elt Ideal) f
      (pb_k0_t1 (F := Ideal) Variants.none c none i arg1 harg1 arg2 harg2 arg3 harg3 arg4 harg4 arg5 harg5 arg6 harg6 X3 X4 X6 n)) (ix2 p l) = G p l := by
  induction n with
  | zero => omega
  | succ n ih =>
    have hs := pb_k0_t1_succ (F := Ideal) Variants.none c none i arg1 harg1 arg2 harg2 arg3 harg3 arg4 harg4 arg5 harg5 arg6 harg6 X3 X4 X6 ⟨n, hn⟩
    rw [trip_eq] at hs
    rw [hs, List.singleton_append]
    by_cases h : p.val < 256 * n
    · refine Eq.trans ?_ (ih (by omega) h)
      exact View.read_writes_cons_rows_of_not_mem v f _ _ _ _ (off2 ⟨n, hn⟩) (rfl : S256x128.size 0 = 256) (Or.inl h)
    · refine (View.read_writes_cons_rows_of_mem v f (k0_off2_inb ⟨n, hn⟩) _ _ (ix2 p l) (ix2 ⟨p.val - 256 * n, by omega⟩ l) (off2 ⟨n, hn⟩)
        (show p.val = 256 * n + (p.val - 256 * n) by omega) rfl).trans ?_
      refine (hG ⟨n, hn⟩ ⟨p.val - 256 * n, by omega⟩ l (by show 256 * n + (p.val - 256 * n) < 4096; omega)).trans ?_
      exact congrArg (fun q => G q l) (Fin.ext (by show 256 * n + (p.val - 256 * n) = p.val; omega))

theorem arg_at {S : Shape} {ty : EltTy} (a : Memref sig .tc .vmem S ty) (ha : a.IsWhole) (X : Vec Ideal S ty) (r : LoadRect S) (y : r.shape.Idx) :
    View.readAt (Elt Ideal) a.view r (ha.unread X) y = X (r.idx y) :=
  congrFun (ha.read_unread X) (r.idx y)

/-- A window of rows starting at `o` holds row `r` of the window at row `o + r`. -/
theorem unit_at {N W C o : ℕ} {off : Fin 2 → ℕ} (inb : ∀ a, off a + (![W, C] : Fin 2 → ℕ) a ≤ (![N, C] : Fin 2 → ℕ) a) (hoff : off = ![o, 0])
    {p : Fin N} {r : Fin W} (hp : p.val = o + r.val) (l : Fin C) :
    (Rect.unit (s := ⟨2, ![N, C]⟩) off ![W, C] inb).toLoadRect.idx (ix2 r l) = ix2 p l := by
  subst hoff
  funext a
  fin_cases a
  · exact Fin.ext (by show o + 1 * r.val = p.val; omega)
  · exact Fin.ext (by show 0 + 1 * l.val = l.val; omega)

/-- The padded copy the kernel keeps, at one place. -/
theorem scratch_at (q : Fin 4128) (l : Fin 128) : arg6.view.read (Elt Ideal) (arg6.view.writes (Elt Ideal) arg6.view.junk
    (kernelRun0_A.sl.HS0_2 (F := Ideal) c arg1 harg1 arg2 harg2 x0 x1)) (ix2 q l) = padded x0 x1 l q.val := by
  unfold kernelRun0_A.sl.HS0_2 padded
  dsimp only
  by_cases h : 32 ≤ q.val
  · have hq : q.val - 32 < 4096 := by omega
    rw [dif_pos ⟨h, hq⟩]
    refine (View.read_writes_cons_rows_of_mem _ _ inb_S4128x128_S4096x128_32_0 _ _ (ix2 q l) (ix2 ⟨q.val - 32, hq⟩ l) rfl
      (show q.val = 32 + (q.val - 32) by omega) rfl).trans ?_
    refine (gated_at _ _ _ _).trans ?_
    rw [arg_at, arg_at]
    have e := unit_at (N := 4096) (W := 4096) (C := 128) (o := 0) (p := ⟨q.val - 32, hq⟩) (r := ⟨q.val - 32, hq⟩) inb_S4096x128_S4096x128_0_0 rfl (Nat.zero_add _).symm l
    exact congrArg₂ (fun a b : EReal => a * Ideal.logistic b) (congrArg x0 e) (congrArg x1 e)
  · rw [dif_neg (fun e => h e.1)]
    refine (View.read_writes_cons_rows_of_not_mem _ _ inb_S4128x128_S4096x128_32_0 _ _ (ix2 q l) rfl (rfl : S4096x128.size 0 = 4096) (Or.inl (show q.val < 32 by omega))).trans ?_
    refine (View.read_writes_cons_rows_of_mem _ _ inb_S4128x128_S32x128_0_0 _ _ (ix2 q l) (ix2 ⟨q.val, by omega⟩ l) rfl
      (show q.val = 0 + q.val by omega) rfl).trans ?_
    pointwise [k0_pay1]

/-- What the kernel leaves at one place of its block. -/
def conv (p : Fin 4096) (l : Fin 128) : EReal :=
  x3 (ix2 0 l) + taps (fun k => if h : k < 32 then x2 (ix2 ⟨k, h⟩ l) else 0) (padded x0 x1 l) (p.val + 2)

theorem block_at (v : View sig .tc .vmem S4096x128 .bf16) (f : BufTy.Contents (Elt Ideal) v.ty) (p : Fin 4096) (l : Fin 128) :
    v.read (Elt Ideal) (v.writes (Elt Ideal) f
      (kernelRun0_A (F := Ideal) c i arg1 harg1 arg2 harg2 arg3 harg3 arg4 harg4 arg5 harg5 arg6 harg6 x0 x1 x2 x3).1) (ix2 p l) =
      conv x0 x1 x2 x3 p l := by
  unfold kernelRun0_A
  dsimp only
  refine stored c i arg1 harg1 arg2 harg2 arg3 harg3 arg4 harg4 arg5 harg5 arg6 harg6 v f _ _ _ (conv x0 x1 x2 x3) (fun k r l h => ?_) 16
    (le_of_eq trips_eq.symm) p (by omega) l
  rw [tile_at, arg_at]
  unfold conv taps
  have hk : k.val < 16 := lt_of_lt_of_eq k.isLt trips_eq
  refine congrArg₂ (· + ·) ?_ (Finset.sum_congr rfl fun n hn => ?_)
  · exact congrArg x3 (unit_at _ rfl rfl l)
  · have hn := Finset.mem_range.mp hn
    have hr : r.val + 2 + n < 288 := by omega
    dsimp only
    rw [← row_of _ _ _ hr, dif_pos (by omega : n < 32), dif_pos (by omega : n < 32), arg_at]
    refine congrArg₂ (· * ·) ?_ ?_
    · exact congrArg x2 (unit_at _ rfl rfl l)
    · refine Eq.trans ?_ ((scratch_at c arg1 harg1 arg2 harg2 arg6 x0 x1 ⟨256 * k.val + (r.val + 2 + n), by omega⟩ l).trans ?_)
      · exact congrArg (arg6.view.read (Elt Ideal) _) (unit_at _ (off1 k) rfl l)
      · exact congrArg (padded x0 x1 l) (by show 256 * k.val + (r.val + 2 + n) = 256 * k.val + r.val + 2 + n; omega)

end Run

section Ref

variable (z : Vec Ideal S4096x8192 .bf16) (w : Vec Ideal S32x1024 .f32) (b : Vec Ideal S1x1024 .f32) (c : Fin 1024)

/-- The reference's padded rows as a sequence: thirty rows of zeros, then the gated rows. -/
def gated (n : ℕ) : EReal :=
  if h : 30 ≤ n ∧ n - 30 < 4096 then
    z (ix2 ⟨n - 30, h.2⟩ ⟨3072 + c.val, by omega⟩) * Ideal.logistic (z (ix2 ⟨n - 30, h.2⟩ ⟨4096 + c.val, by omega⟩)) else 0

theorem v11_at (n : ℕ) (hn : n < 4126) : val_main_v11 (F := Ideal) z (ix2 ⟨n, hn⟩ c) = gated z c n := by
  pointwise [val_main_v11, val_main_v10, val_main_v9, val_main_v8, val_main_cst_1, val_main_v7, val_main_v6, val_main_cst_0, val_main_v5, val_main_v4, val_main_v3, val_main_cst, val_main_v2, val_main_v1, val_main_v0]
  unfold gated
  by_cases h : n < 30
  · rw [dif_pos h, dif_neg (fun e => absurd e.1 (by omega))]
  · rw [dif_neg h, dif_pos (⟨by omega, by omega⟩ : 30 ≤ n ∧ n - 30 < 4096)]
    rfl

set_option maxHeartbeats 4000000 in
/-- The reference at one place. -/
theorem ref_at (p : Fin 4096) : val_main_v232 (F := Ideal) z w b (ix2 p c) =
    b (ix2 0 c) + taps (fun k => if h : k < 32 then w (ix2 ⟨k, h⟩ c) else 0) (gated z c) p.val := by
  pointwise [
    val_main_v12, val_main_v13, val_main_v14, val_main_v15, val_main_v16, val_main_v17, val_main_cst_2, val_main_v18, val_main_v19,
    val_main_v20, val_main_v21, val_main_v22, val_main_v23, val_main_v24, val_main_v25, val_main_v26, val_main_v27, val_main_v28,
    val_main_v29, val_main_v30, val_main_v31, val_main_v32, val_main_v33, val_main_v34, val_main_v35, val_main_v36, val_main_v37,
    val_main_v38, val_main_v39, val_main_v40, val_main_v41, val_main_v42, val_main_v43, val_main_v44, val_main_v45, val_main_v46,
    val_main_v47, val_main_v48, val_main_v49, val_main_v50, val_main_v51, val_main_v52, val_main_v53, val_main_v54, val_main_v55,
    val_main_v56, val_main_v57, val_main_v58, val_main_v59, val_main_v60, val_main_v61, val_main_v62, val_main_v63, val_main_v64,
    val_main_v65, val_main_v66, val_main_v67, val_main_v68, val_main_v69, val_main_v70, val_main_v71, val_main_v72, val_main_v73,
    val_main_v74, val_main_v75, val_main_v76, val_main_v77, val_main_v78, val_main_v79, val_main_v80, val_main_v81, val_main_v82,
    val_main_v83, val_main_v84, val_main_v85, val_main_v86, val_main_v87, val_main_v88, val_main_v89, val_main_v90, val_main_v91,
    val_main_v92, val_main_v93, val_main_v94, val_main_v95, val_main_v96, val_main_v97, val_main_v98, val_main_v99, val_main_v100,
    val_main_v101, val_main_v102, val_main_v103, val_main_v104, val_main_v105, val_main_v106, val_main_v107, val_main_v108, val_main_v109,
    val_main_v110, val_main_v111, val_main_v112, val_main_v113, val_main_v114, val_main_v115, val_main_v116, val_main_v117, val_main_v118,
    val_main_v119, val_main_v120, val_main_v121, val_main_v122, val_main_v123, val_main_v124, val_main_v125, val_main_v126, val_main_v127,
    val_main_v128, val_main_v129, val_main_v130, val_main_v131, val_main_v132, val_main_v133, val_main_v134, val_main_v135, val_main_v136,
    val_main_v137, val_main_v138, val_main_v139, val_main_v140, val_main_v141, val_main_v142, val_main_v143, val_main_v144, val_main_v145,
    val_main_v146, val_main_v147, val_main_v148, val_main_v149, val_main_v150, val_main_v151, val_main_v152, val_main_v153, val_main_v154,
    val_main_v155, val_main_v156, val_main_v157, val_main_v158, val_main_v159, val_main_v160, val_main_v161, val_main_v162, val_main_v163,
    val_main_v164, val_main_v165, val_main_v166, val_main_v167, val_main_v168, val_main_v169, val_main_v170, val_main_v171, val_main_v172,
    val_main_v173, val_main_v174, val_main_v175, val_main_v176, val_main_v177, val_main_v178, val_main_v179, val_main_v180, val_main_v181,
    val_main_v182, val_main_v183, val_main_v184, val_main_v185, val_main_v186, val_main_v187, val_main_v188, val_main_v189, val_main_v190,
    val_main_v191, val_main_v192, val_main_v193, val_main_v194, val_main_v195, val_main_v196, val_main_v197, val_main_v198, val_main_v199,
    val_main_v200, val_main_v201, val_main_v202, val_main_v203, val_main_v204, val_main_v205, val_main_v206, val_main_v207, val_main_v208,
    val_main_v209, val_main_v210, val_main_v211, val_main_v212, val_main_v213, val_main_v214, val_main_v215, val_main_v216, val_main_v217,
    val_main_v218, val_main_v219, val_main_v220, val_main_v221, val_main_v222, val_main_v223, val_main_v224, val_main_v225, val_main_v226,
    val_main_v227, val_main_v228, val_main_v229, val_main_v230, val_main_v231, val_main_v232]
  have e : ∀ l, l + p.val = p.val + l := fun l => Nat.add_comm _ _
  simp only [v11_at, e]
  rw [add_comm _ (b (ix2 0 c))]
  simp only [taps, Finset.sum_range_succ, Finset.sum_range_zero, zero_add, ← add_assoc, Nat.add_zero, Nat.reduceLT, reduceDIte, Fin.reduceFinMk]

end Ref

variable (m : (ℓ : Loc nD τ sig) → Buf (Elt Ideal) ℓ) (c : Dev nD)

/-- The arguments: the input projection's result, whose fourth and fifth parts of 1024 columns are used, the taps' weights and the bias. -/
abbrev a0 : Vec Ideal S4096x8192 .bf16 := m ((c : Thread nD τ).loc main_arg0)
abbrev a1 : Vec Ideal S32x1024 .f32 := m ((c : Thread nD τ).loc main_arg1)
abbrev a2 : Vec Ideal S1x1024 .f32 := m ((c : Thread nD τ).loc main_arg2)

/-- The windows' block indices. -/
theorem index : ∀ t : Fin cfg0.N, (win0_0.index t 0 = 0 ∧ win0_0.index t 1 = 24 + t.val) ∧ (win0_1.index t 0 = 0 ∧ win0_1.index t 1 = 32 + t.val) ∧
    (win0_2.index t 0 = 0 ∧ win0_2.index t 1 = 0 + t.val) ∧ (win0_3.index t 0 = 0 ∧ win0_3.index t 1 = 0 + t.val) ∧
    (win0_4.index t 0 = 0 ∧ win0_4.index t 1 = 0 + t.val) :=
  (by decide +kernel : ∀ t : Fin grid0.N, (win0_0.index t 0 = 0 ∧ win0_0.index t 1 = 24 + t.val) ∧
    (win0_1.index t 0 = 0 ∧ win0_1.index t 1 = 32 + t.val) ∧ (win0_2.index t 0 = 0 ∧ win0_2.index t 1 = 0 + t.val) ∧
    (win0_3.index t 0 = 0 ∧ win0_3.index t 1 = 0 + t.val) ∧ (win0_4.index t 0 = 0 ∧ win0_4.index t 1 = 0 + t.val))

/-- A block at the array's first column block. -/
theorem first {r : ℕ} (t : Fin cfg0.N) (s : Fin r) (k : Fin 128) (p : (⟨2, ![r, 1024]⟩ : Shape).Idx) {a b : ℕ}
    (h : a = 0 ∧ b = 0 + t.val) (h0 : (p 0).val = a * r + 1 * s.val) (h1 : (p 1).val = b * 128 + 1 * k.val) :
    p = ix2 s (col (grp N_0 t) (lane t k)) :=
  (place N_0 0 (by decide) t s k p h h0 h1).trans (congrArg (ix2 s) (Fin.ext (Nat.zero_add _)))

theorem b0_at (t : Fin cfg0.N) (s : Fin 4096) (k : Fin 128) :
    iblk m c 0 t (ix2 s k) = a0 m c (ix2 s ⟨3072 + (col (grp N_0 t) (lane t k)).val, by omega⟩) :=
  congrArg (a0 m c) (place N_0 24 (by decide) t s k _ (index t).1 rfl rfl)

theorem b1_at (t : Fin cfg0.N) (s : Fin 4096) (k : Fin 128) :
    iblk m c 1 t (ix2 s k) = a0 m c (ix2 s ⟨4096 + (col (grp N_0 t) (lane t k)).val, by omega⟩) :=
  congrArg (a0 m c) (place N_0 32 (by decide) t s k _ (index t).2.1 rfl rfl)

theorem b2_at (t : Fin cfg0.N) (s : Fin 32) (k : Fin 128) : iblk m c 2 t (ix2 s k) = a1 m c (ix2 s (col (grp N_0 t) (lane t k))) :=
  congrArg (a1 m c) (first t s k _ (index t).2.2.1 rfl rfl)

theorem b3_at (t : Fin cfg0.N) (s : Fin 1) (k : Fin 128) : iblk m c 3 t (ix2 s k) = a2 m c (ix2 s (col (grp N_0 t) (lane t k))) :=
  congrArg (a2 m c) (first t s k _ (index t).2.2.2.1 rfl rfl)

/-- The kernel's padded rows are the reference's, two rows further down. -/
theorem padded_at (t : Fin cfg0.N) (k : Fin 128) (n : ℕ) :
    padded (iblk m c 0 t) (iblk m c 1 t) k (n + 2) = gated (a0 m c) (col (grp N_0 t) (lane t k)) n := by
  unfold padded gated
  by_cases h : 30 ≤ n ∧ n - 30 < 4096
  · rw [dif_pos h, dif_pos (⟨by omega, by omega⟩ : 32 ≤ n + 2 ∧ n + 2 - 32 < 4096), b0_at, b1_at]
    rfl
  · rw [dif_neg h, dif_neg (by omega)]

/-- The kernel's array is the reference's. -/
theorem out : (dats m 0 c).arrAt 4 cfg0.N = val_main_v232 (F := Ideal) (a0 m c) (a1 m c) (a2 m c) := by
  funext (j : S4096x1024.Idx)
  obtain ⟨t, i, k, rfl⟩ := cols N_0 j
  refine Eq.trans ?_ (ref_at _ _ _ _ _).symm
  have e : ((cfg0.win 4).blk t).view.emb (ix2 i k) = (ix2 i (col (grp N_0 t) (lane t k)) : S4096x1024.Idx) :=
    first t i k _ (index t).2.2.2.2 rfl rfl
  refine (congrArg _ e.symm).trans ((congrFun (Value.blocks4 m c t (flush0_4 t)) (ix2 i k)).trans ?_)
  rw [Value.flushed4_A]
  refine (block_at _ _ _ _ _ _ _ _ _ _ _ _ _ _ _ _ _ _ _ _ i k).trans ?_
  unfold conv taps
  rw [b3_at]
  refine congrArg _ (Finset.sum_congr rfl fun n _ => ?_)
  simp only [b2_at]
  exact congrArg _ ((congrArg _ (by omega)).trans (padded_at m c t k (i.val + n)))

/-- From equal arguments the kernel's result over the extended reals is the reference's. -/
theorem algebraic : Cert.algebraic_ConvFIdeal_ConvFRefIdeal := by
  intro m ρ m' ρ' _ hagree
  refine ⟨_, Cert.ConvFIdeal.Value.run_blocks (F := Ideal) m ρ, ?_⟩
  refine (θ_run Cert.ConvFRefIdeal.defs _ _).mono (fun r h c => ?_) (Cert.ConvFRefIdeal.Value.run (F := Ideal) m' ρ')
  obtain ⟨h0, hk⟩ := h c
  obtain ⟨e0, e1, e2⟩ := hagree c
  refine ⟨(h0.trans (val_main_v232_eq _)).trans (Eq.trans ?_ (out m c).symm), hk⟩
  simp only [e0, e1, e2]

end Cert.Proof.ConvF
end
-- ==== Proof.lean ====
/- The proof of the certificate's claims; the parts are in `Proof/Sgu` and `Proof/Mm`. -/
module

public import proofs.«01_k».proof.Defs
public import proofs.«01_k».proof.Proof.Sgu.Claim
public import proofs.«01_k».proof.Proof.Mm.BranchG
public import proofs.«01_k».proof.Proof.Mm.BranchB
public import proofs.«01_k».proof.Proof.Mm.FfnOutG
public import proofs.«01_k».proof.Proof.Mm.FfnOutB
public import proofs.«01_k».proof.Proof.Mm.FfnInG
public import proofs.«01_k».proof.Proof.Mm.FfnInB
public import proofs.«01_k».proof.Proof.Mm.InB
public import proofs.«01_k».proof.Proof.Mm.MmIn
public import proofs.«01_k».proof.Proof.Mm.MmBranch
public import proofs.«01_k».proof.Proof.Mm.MmFfnIn
public import proofs.«01_k».proof.Proof.Mm.MmFfnOut
public import proofs.«01_k».proof.Proof.Mm.InG
public import proofs.«01_k».proof.Proof.Rows.GateB
public import proofs.«01_k».proof.Proof.Rows.Swiglu
public import proofs.«01_k».proof.Proof.Rows.Merge
public import proofs.«01_k».proof.Proof.Rows.PoolMixB
public import proofs.«01_k».proof.Proof.Rows.PoolMix
public import proofs.«01_k».proof.Proof.Rows.SwigluF
public import proofs.«01_k».proof.Proof.Rows.MergeF
public import proofs.«01_k».proof.Proof.Rows.NormB
public import proofs.«01_k».proof.Proof.Rows.NormGateB
public import proofs.«01_k».proof.Proof.Rows.ConvActB
public import proofs.«01_k».proof.Proof.Rows.LossHead
public import proofs.«01_k».proof.Proof.Rows.NormF
public import proofs.«01_k».proof.Proof.Rows.ResNorm
public import proofs.«01_k».proof.Proof.Rows.ConvAct
public import proofs.«01_k».proof.Proof.Rows.SguF
public import proofs.«01_k».proof.Proof.Rows.AdaB
public import proofs.«01_k».proof.Proof.Rows.AdaF
public import proofs.«01_k».proof.Proof.Rows.PoolB
public import proofs.«01_k».proof.Proof.Rows.PoolF
public import proofs.«01_k».proof.Proof.Rows.ConvF

@[expose] public section

noncomputable section

namespace Cert.Proof

/-- Every claim. -/
theorem claim : Cert.Claim := ⟨Cert.Sgu.Gen.facts, Cert.SguIdeal.Gen.facts, Cert.SguRefIdeal.Gen.facts,
  Cert.BranchG.Gen.facts, Cert.BranchGIdeal.Gen.facts, Cert.BranchGRefIdeal.Gen.facts,
  Cert.BranchB.Gen.facts, Cert.BranchBIdeal.Gen.facts, Cert.BranchBRefIdeal.Gen.facts,
  Cert.FfnOutG.Gen.facts, Cert.FfnOutGIdeal.Gen.facts, Cert.FfnOutGRefIdeal.Gen.facts,
  Cert.FfnOutB.Gen.facts, Cert.FfnOutBIdeal.Gen.facts, Cert.FfnOutBRefIdeal.Gen.facts,
  Cert.FfnInG.Gen.facts, Cert.FfnInGIdeal.Gen.facts, Cert.FfnInGRefIdeal.Gen.facts,
  Cert.FfnInB.Gen.facts, Cert.FfnInBIdeal.Gen.facts, Cert.FfnInBRefIdeal.Gen.facts,
  Cert.InB.Gen.facts, Cert.InBIdeal.Gen.facts, Cert.InBRefIdeal.Gen.facts,
  Cert.MmIn.Gen.facts, Cert.MmInIdeal.Gen.facts, Cert.MmInRefIdeal.Gen.facts,
  Cert.MmBranch.Gen.facts, Cert.MmBranchIdeal.Gen.facts, Cert.MmBranchRefIdeal.Gen.facts,
  Cert.MmFfnIn.Gen.facts, Cert.MmFfnInIdeal.Gen.facts, Cert.MmFfnInRefIdeal.Gen.facts,
  Cert.MmFfnOut.Gen.facts, Cert.MmFfnOutIdeal.Gen.facts, Cert.MmFfnOutRefIdeal.Gen.facts,
  Cert.InG.Gen.facts, Cert.InGIdeal.Gen.facts, Cert.InGRefIdeal.Gen.facts,
  Cert.GateB.Gen.facts, Cert.GateBIdeal.Gen.facts, Cert.GateBRefIdeal.Gen.facts,
  Cert.Swiglu.Gen.facts, Cert.SwigluIdeal.Gen.facts, Cert.SwigluRefIdeal.Gen.facts,
  Cert.Merge.Gen.facts, Cert.MergeIdeal.Gen.facts, Cert.MergeRefIdeal.Gen.facts,
  Cert.PoolMixB.Gen.facts, Cert.PoolMixBIdeal.Gen.facts, Cert.PoolMixBRefIdeal.Gen.facts,
  Cert.PoolMix.Gen.facts, Cert.PoolMixIdeal.Gen.facts, Cert.PoolMixRefIdeal.Gen.facts,
  Cert.SwigluF.Gen.facts, Cert.SwigluFIdeal.Gen.facts, Cert.SwigluFRefIdeal.Gen.facts,
  Cert.MergeF.Gen.facts, Cert.MergeFIdeal.Gen.facts, Cert.MergeFRefIdeal.Gen.facts,
  Cert.NormB.Gen.facts, Cert.NormBIdeal.Gen.facts, Cert.NormBRefIdeal.Gen.facts,
  Cert.NormGateB.Gen.facts, Cert.NormGateBIdeal.Gen.facts, Cert.NormGateBRefIdeal.Gen.facts,
  Cert.ConvActB.Gen.facts, Cert.ConvActBIdeal.Gen.facts, Cert.ConvActBRefIdeal.Gen.facts,
  Cert.LossHead.Gen.facts, Cert.LossHeadIdeal.Gen.facts, Cert.LossHeadRefIdeal.Gen.facts,
  Cert.NormF.Gen.facts, Cert.NormFIdeal.Gen.facts, Cert.NormFRefIdeal.Gen.facts,
  Cert.ResNorm.Gen.facts, Cert.ResNormIdeal.Gen.facts, Cert.ResNormRefIdeal.Gen.facts,
  Cert.ConvAct.Gen.facts, Cert.ConvActIdeal.Gen.facts, Cert.ConvActRefIdeal.Gen.facts,
  Cert.SguF.Gen.facts, Cert.SguFIdeal.Gen.facts, Cert.SguFRefIdeal.Gen.facts,
  Cert.AdaB.Gen.facts, Cert.AdaBIdeal.Gen.facts, Cert.AdaBRefIdeal.Gen.facts,
  Cert.AdaF.Gen.facts, Cert.AdaFIdeal.Gen.facts, Cert.AdaFRefIdeal.Gen.facts,
  Cert.PoolB.Gen.facts, Cert.PoolBIdeal.Gen.facts, Cert.PoolBRefIdeal.Gen.facts,
  Cert.PoolF.Gen.facts, Cert.PoolFIdeal.Gen.facts, Cert.PoolFRefIdeal.Gen.facts,
  Cert.ConvF.Gen.facts, Cert.ConvFIdeal.Gen.facts, Cert.ConvFRefIdeal.Gen.facts,
  Sgu.frame_p, Sgu.frame_pi, Sgu.frame_ri,
  BranchG.frame_p, BranchG.frame_pi, BranchG.frame_ri,
  BranchB.frame_p, BranchB.frame_pi, BranchB.frame_ri,
  FfnOutG.frame_p, FfnOutG.frame_pi, FfnOutG.frame_ri,
  FfnOutB.frame_p, FfnOutB.frame_pi, FfnOutB.frame_ri,
  FfnInG.frame_p, FfnInG.frame_pi, FfnInG.frame_ri,
  FfnInB.frame_p, FfnInB.frame_pi, FfnInB.frame_ri,
  InB.frame_p, InB.frame_pi, InB.frame_ri,
  MmIn.frame_p, MmIn.frame_pi, MmIn.frame_ri,
  MmBranch.frame_p, MmBranch.frame_pi, MmBranch.frame_ri,
  MmFfnIn.frame_p, MmFfnIn.frame_pi, MmFfnIn.frame_ri,
  MmFfnOut.frame_p, MmFfnOut.frame_pi, MmFfnOut.frame_ri,
  InG.frame_p, InG.frame_pi, InG.frame_ri,
  GateB.frame_p, GateB.frame_pi, GateB.frame_ri,
  Swiglu.frame_p, Swiglu.frame_pi, Swiglu.frame_ri,
  Merge.frame_p, Merge.frame_pi, Merge.frame_ri,
  PoolMixB.frame_p, PoolMixB.frame_pi, PoolMixB.frame_ri,
  PoolMix.frame_p, PoolMix.frame_pi, PoolMix.frame_ri,
  SwigluF.frame_p, SwigluF.frame_pi, SwigluF.frame_ri,
  MergeF.frame_p, MergeF.frame_pi, MergeF.frame_ri,
  NormB.frame_p, NormB.frame_pi, NormB.frame_ri,
  NormGateB.frame_p, NormGateB.frame_pi, NormGateB.frame_ri,
  ConvActB.frame_p, ConvActB.frame_pi, ConvActB.frame_ri,
  LossHead.frame_p, LossHead.frame_pi, LossHead.frame_ri,
  NormF.frame_p, NormF.frame_pi, NormF.frame_ri,
  ResNorm.frame_p, ResNorm.frame_pi, ResNorm.frame_ri,
  ConvAct.frame_p, ConvAct.frame_pi, ConvAct.frame_ri,
  SguF.frame_p, SguF.frame_pi, SguF.frame_ri,
  AdaB.frame_p, AdaB.frame_pi, AdaB.frame_ri,
  AdaF.frame_p, AdaF.frame_pi, AdaF.frame_ri,
  PoolB.frame_p, PoolB.frame_pi, PoolB.frame_ri,
  PoolF.frame_p, PoolF.frame_pi, PoolF.frame_ri,
  ConvF.frame_p, ConvF.frame_pi, ConvF.frame_ri,
  trivial, Sgu.algebraic,
  trivial, BranchG.algebraic,
  trivial, BranchB.algebraic,
  trivial, FfnOutG.algebraic,
  trivial, FfnOutB.algebraic,
  trivial, FfnInG.algebraic,
  trivial, FfnInB.algebraic,
  trivial, InB.algebraic,
  trivial, MmIn.algebraic,
  trivial, MmBranch.algebraic,
  trivial, MmFfnIn.algebraic,
  trivial, MmFfnOut.algebraic,
  trivial, InG.algebraic,
  trivial, GateB.algebraic,
  trivial, Swiglu.algebraic,
  trivial, Merge.algebraic,
  trivial, PoolMixB.algebraic,
  trivial, PoolMix.algebraic,
  trivial, SwigluF.algebraic,
  trivial, MergeF.algebraic,
  trivial, NormB.algebraic,
  trivial, NormGateB.algebraic,
  trivial, ConvActB.algebraic,
  trivial, LossHead.algebraic,
  trivial, NormF.algebraic,
  trivial, ResNorm.algebraic,
  trivial, ConvAct.algebraic,
  trivial, SguF.algebraic,
  trivial, AdaB.algebraic,
  trivial, AdaF.algebraic,
  trivial, PoolB.algebraic,
  trivial, PoolF.algebraic,
  trivial, ConvF.algebraic⟩

end Cert.Proof

end
